-- ==== Defs.lean ====
def Pre_KAct (m : (ℓ : Loc Cert.KAct.nD Cert.KAct.τ Cert.KAct.sig) → Buf (Elt Bits) ℓ) : Prop :=
  True

def Pre_KActIdeal (m : (ℓ : Loc Cert.KActIdeal.nD Cert.KActIdeal.τ Cert.KActIdeal.sig) → Buf (Elt Ideal) ℓ) : Prop :=
  True

def Pre_RActIdeal (m : (ℓ : Loc Cert.RActIdeal.nD Cert.RActIdeal.τ Cert.RActIdeal.sig) → Buf (Elt Ideal) ℓ) : Prop :=
  True

def Pre_KWd (m : (ℓ : Loc Cert.KWd.nD Cert.KWd.τ Cert.KWd.sig) → Buf (Elt Bits) ℓ) : Prop :=
  True

def Pre_KWdIdeal (m : (ℓ : Loc Cert.KWdIdeal.nD Cert.KWdIdeal.τ Cert.KWdIdeal.sig) → Buf (Elt Ideal) ℓ) : Prop :=
  True

def Pre_RWdIdeal (m : (ℓ : Loc Cert.RWdIdeal.nD Cert.RWdIdeal.τ Cert.RWdIdeal.sig) → Buf (Elt Ideal) ℓ) : Prop :=
  True

def Pre_KWu (m : (ℓ : Loc Cert.KWu.nD Cert.KWu.τ Cert.KWu.sig) → Buf (Elt Bits) ℓ) : Prop :=
  True

def Pre_KWuIdeal (m : (ℓ : Loc Cert.KWuIdeal.nD Cert.KWuIdeal.τ Cert.KWuIdeal.sig) → Buf (Elt Ideal) ℓ) : Prop :=
  True

def Pre_RWuIdeal (m : (ℓ : Loc Cert.RWuIdeal.nD Cert.RWuIdeal.τ Cert.RWuIdeal.sig) → Buf (Elt Ideal) ℓ) : Prop :=
  True

def Pre_KWg (m : (ℓ : Loc Cert.KWg.nD Cert.KWg.τ Cert.KWg.sig) → Buf (Elt Bits) ℓ) : Prop :=
  True

def Pre_KWgIdeal (m : (ℓ : Loc Cert.KWgIdeal.nD Cert.KWgIdeal.τ Cert.KWgIdeal.sig) → Buf (Elt Ideal) ℓ) : Prop :=
  True

def Pre_KWgIdeal_finite_wg [hPre_finite_wg : Cert.Pre_finite_wg.Facts] (m : (ℓ : Loc Cert.KWgIdeal.nD Cert.KWgIdeal.τ Cert.KWgIdeal.sig) → Buf (Elt Ideal) ℓ) : Prop :=
  ∀ c : Dev Cert.KWgIdeal.nD,
    (Cert.Pre_finite_wg.fn (F := Ideal) (m ((c.tc : Thread Cert.KWgIdeal.nD Cert.KWgIdeal.τ).loc Cert.KWgIdeal.main_arg0)) (m ((c.tc : Thread Cert.KWgIdeal.nD Cert.KWgIdeal.τ).loc Cert.KWgIdeal.main_arg1)) (m ((c.tc : Thread Cert.KWgIdeal.nD Cert.KWgIdeal.τ).loc Cert.KWgIdeal.main_arg2)) (m ((c.tc : Thread Cert.KWgIdeal.nD Cert.KWgIdeal.τ).loc Cert.KWgIdeal.main_arg3)) (m ((c.tc : Thread Cert.KWgIdeal.nD Cert.KWgIdeal.τ).loc Cert.KWgIdeal.main_arg4))) = (fun _ => 1#1)

def Pre_RWgIdeal (m : (ℓ : Loc Cert.RWgIdeal.nD Cert.RWgIdeal.τ Cert.RWgIdeal.sig) → Buf (Elt Ideal) ℓ) : Prop :=
  True

def Pre_RWgIdeal_finite_wg [hPre_finite_wg : Cert.Pre_finite_wg.Facts] (m : (ℓ : Loc Cert.RWgIdeal.nD Cert.RWgIdeal.τ Cert.RWgIdeal.sig) → Buf (Elt Ideal) ℓ) : Prop :=
  ∀ c : Dev Cert.RWgIdeal.nD,
    (Cert.Pre_finite_wg.fn (F := Ideal) (m ((c.tc : Thread Cert.RWgIdeal.nD Cert.RWgIdeal.τ).loc Cert.RWgIdeal.main_arg0)) (m ((c.tc : Thread Cert.RWgIdeal.nD Cert.RWgIdeal.τ).loc Cert.RWgIdeal.main_arg1)) (m ((c.tc : Thread Cert.RWgIdeal.nD Cert.RWgIdeal.τ).loc Cert.RWgIdeal.main_arg2)) (m ((c.tc : Thread Cert.RWgIdeal.nD Cert.RWgIdeal.τ).loc Cert.RWgIdeal.main_arg3)) (m ((c.tc : Thread Cert.RWgIdeal.nD Cert.RWgIdeal.τ).loc Cert.RWgIdeal.main_arg4))) = (fun _ => 1#1)

def Pre_KIn (m : (ℓ : Loc Cert.KIn.nD Cert.KIn.τ Cert.KIn.sig) → Buf (Elt Bits) ℓ) : Prop :=
  True

def Pre_KInIdeal (m : (ℓ : Loc Cert.KInIdeal.nD Cert.KInIdeal.τ Cert.KInIdeal.sig) → Buf (Elt Ideal) ℓ) : Prop :=
  True

def Pre_KInIdeal_finite_in [hPre_finite_in : Cert.Pre_finite_in.Facts] (m : (ℓ : Loc Cert.KInIdeal.nD Cert.KInIdeal.τ Cert.KInIdeal.sig) → Buf (Elt Ideal) ℓ) : Prop :=
  ∀ c : Dev Cert.KInIdeal.nD,
    (Cert.Pre_finite_in.fn (F := Ideal) (m ((c.tc : Thread Cert.KInIdeal.nD Cert.KInIdeal.τ).loc Cert.KInIdeal.main_arg0)) (m ((c.tc : Thread Cert.KInIdeal.nD Cert.KInIdeal.τ).loc Cert.KInIdeal.main_arg1)) (m ((c.tc : Thread Cert.KInIdeal.nD Cert.KInIdeal.τ).loc Cert.KInIdeal.main_arg2)) (m ((c.tc : Thread Cert.KInIdeal.nD Cert.KInIdeal.τ).loc Cert.KInIdeal.main_arg3)) (m ((c.tc : Thread Cert.KInIdeal.nD Cert.KInIdeal.τ).loc Cert.KInIdeal.main_arg4)) (m ((c.tc : Thread Cert.KInIdeal.nD Cert.KInIdeal.τ).loc Cert.KInIdeal.main_arg5)) (m ((c.tc : Thread Cert.KInIdeal.nD Cert.KInIdeal.τ).loc Cert.KInIdeal.main_arg6)) (m ((c.tc : Thread Cert.KInIdeal.nD Cert.KInIdeal.τ).loc Cert.KInIdeal.main_arg7))) = (fun _ => 1#1)

def Pre_RInIdeal (m : (ℓ : Loc Cert.RInIdeal.nD Cert.RInIdeal.τ Cert.RInIdeal.sig) → Buf (Elt Ideal) ℓ) : Prop :=
  True

def Pre_RInIdeal_finite_in [hPre_finite_in : Cert.Pre_finite_in.Facts] (m : (ℓ : Loc Cert.RInIdeal.nD Cert.RInIdeal.τ Cert.RInIdeal.sig) → Buf (Elt Ideal) ℓ) : Prop :=
  ∀ c : Dev Cert.RInIdeal.nD,
    (Cert.Pre_finite_in.fn (F := Ideal) (m ((c.tc : Thread Cert.RInIdeal.nD Cert.RInIdeal.τ).loc Cert.RInIdeal.main_arg0)) (m ((c.tc : Thread Cert.RInIdeal.nD Cert.RInIdeal.τ).loc Cert.RInIdeal.main_arg1)) (m ((c.tc : Thread Cert.RInIdeal.nD Cert.RInIdeal.τ).loc Cert.RInIdeal.main_arg2)) (m ((c.tc : Thread Cert.RInIdeal.nD Cert.RInIdeal.τ).loc Cert.RInIdeal.main_arg3)) (m ((c.tc : Thread Cert.RInIdeal.nD Cert.RInIdeal.τ).loc Cert.RInIdeal.main_arg4)) (m ((c.tc : Thread Cert.RInIdeal.nD Cert.RInIdeal.τ).loc Cert.RInIdeal.main_arg5)) (m ((c.tc : Thread Cert.RInIdeal.nD Cert.RInIdeal.τ).loc Cert.RInIdeal.main_arg6)) (m ((c.tc : Thread Cert.RInIdeal.nD Cert.RInIdeal.τ).loc Cert.RInIdeal.main_arg7))) = (fun _ => 1#1)

def Pre_KUp (m : (ℓ : Loc Cert.KUp.nD Cert.KUp.τ Cert.KUp.sig) → Buf (Elt Bits) ℓ) : Prop :=
  True

def Pre_KUpIdeal (m : (ℓ : Loc Cert.KUpIdeal.nD Cert.KUpIdeal.τ Cert.KUpIdeal.sig) → Buf (Elt Ideal) ℓ) : Prop :=
  True

def Pre_KUpIdeal_finite_up [hPre_finite_up : Cert.Pre_finite_up.Facts] (m : (ℓ : Loc Cert.KUpIdeal.nD Cert.KUpIdeal.τ Cert.KUpIdeal.sig) → Buf (Elt Ideal) ℓ) : Prop :=
  ∀ c : Dev Cert.KUpIdeal.nD,
    (Cert.Pre_finite_up.fn (F := Ideal) (m ((c.tc : Thread Cert.KUpIdeal.nD Cert.KUpIdeal.τ).loc Cert.KUpIdeal.main_arg0)) (m ((c.tc : Thread Cert.KUpIdeal.nD Cert.KUpIdeal.τ).loc Cert.KUpIdeal.main_arg1)) (m ((c.tc : Thread Cert.KUpIdeal.nD Cert.KUpIdeal.τ).loc Cert.KUpIdeal.main_arg2)) (m ((c.tc : Thread Cert.KUpIdeal.nD Cert.KUpIdeal.τ).loc Cert.KUpIdeal.main_arg3)) (m ((c.tc : Thread Cert.KUpIdeal.nD Cert.KUpIdeal.τ).loc Cert.KUpIdeal.main_arg4)) (m ((c.tc : Thread Cert.KUpIdeal.nD Cert.KUpIdeal.τ).loc Cert.KUpIdeal.main_arg5))) = (fun _ => 1#1)

def Pre_RUpIdeal (m : (ℓ : Loc Cert.RUpIdeal.nD Cert.RUpIdeal.τ Cert.RUpIdeal.sig) → Buf (Elt Ideal) ℓ) : Prop :=
  True

def Pre_RUpIdeal_finite_up [hPre_finite_up : Cert.Pre_finite_up.Facts] (m : (ℓ : Loc Cert.RUpIdeal.nD Cert.RUpIdeal.τ Cert.RUpIdeal.sig) → Buf (Elt Ideal) ℓ) : Prop :=
  ∀ c : Dev Cert.RUpIdeal.nD,
    (Cert.Pre_finite_up.fn (F := Ideal) (m ((c.tc : Thread Cert.RUpIdeal.nD Cert.RUpIdeal.τ).loc Cert.RUpIdeal.main_arg0)) (m ((c.tc : Thread Cert.RUpIdeal.nD Cert.RUpIdeal.τ).loc Cert.RUpIdeal.main_arg1)) (m ((c.tc : Thread Cert.RUpIdeal.nD Cert.RUpIdeal.τ).loc Cert.RUpIdeal.main_arg2)) (m ((c.tc : Thread Cert.RUpIdeal.nD Cert.RUpIdeal.τ).loc Cert.RUpIdeal.main_arg3)) (m ((c.tc : Thread Cert.RUpIdeal.nD Cert.RUpIdeal.τ).loc Cert.RUpIdeal.main_arg4)) (m ((c.tc : Thread Cert.RUpIdeal.nD Cert.RUpIdeal.τ).loc Cert.RUpIdeal.main_arg5))) = (fun _ => 1#1)

def Pre_KDn (m : (ℓ : Loc Cert.KDn.nD Cert.KDn.τ Cert.KDn.sig) → Buf (Elt Bits) ℓ) : Prop :=
  True

def Pre_KDnIdeal (m : (ℓ : Loc Cert.KDnIdeal.nD Cert.KDnIdeal.τ Cert.KDnIdeal.sig) → Buf (Elt Ideal) ℓ) : Prop :=
  True

def Pre_RDnIdeal (m : (ℓ : Loc Cert.RDnIdeal.nD Cert.RDnIdeal.τ Cert.RDnIdeal.sig) → Buf (Elt Ideal) ℓ) : Prop :=
  True

def Pre_KAd (m : (ℓ : Loc Cert.KAd.nD Cert.KAd.τ Cert.KAd.sig) → Buf (Elt Bits) ℓ) : Prop :=
  True

def Pre_KAdIdeal (m : (ℓ : Loc Cert.KAdIdeal.nD Cert.KAdIdeal.τ Cert.KAdIdeal.sig) → Buf (Elt Ideal) ℓ) : Prop :=
  True

def Pre_RAdIdeal (m : (ℓ : Loc Cert.RAdIdeal.nD Cert.RAdIdeal.τ Cert.RAdIdeal.sig) → Buf (Elt Ideal) ℓ) : Prop :=
  True

def Pre_KAu (m : (ℓ : Loc Cert.KAu.nD Cert.KAu.τ Cert.KAu.sig) → Buf (Elt Bits) ℓ) : Prop :=
  True

def Pre_KAuIdeal (m : (ℓ : Loc Cert.KAuIdeal.nD Cert.KAuIdeal.τ Cert.KAuIdeal.sig) → Buf (Elt Ideal) ℓ) : Prop :=
  True

def Pre_RAuIdeal (m : (ℓ : Loc Cert.RAuIdeal.nD Cert.RAuIdeal.τ Cert.RAuIdeal.sig) → Buf (Elt Ideal) ℓ) : Prop :=
  True

def Pre_KAi (m : (ℓ : Loc Cert.KAi.nD Cert.KAi.τ Cert.KAi.sig) → Buf (Elt Bits) ℓ) : Prop :=
  True

def Pre_KAiIdeal (m : (ℓ : Loc Cert.KAiIdeal.nD Cert.KAiIdeal.τ Cert.KAiIdeal.sig) → Buf (Elt Ideal) ℓ) : Prop :=
  True

def Pre_RAiIdeal (m : (ℓ : Loc Cert.RAiIdeal.nD Cert.RAiIdeal.τ Cert.RAiIdeal.sig) → Buf (Elt Ideal) ℓ) : Prop :=
  True

def Pre_KAo (m : (ℓ : Loc Cert.KAo.nD Cert.KAo.τ Cert.KAo.sig) → Buf (Elt Bits) ℓ) : Prop :=
  True

def Pre_KAoIdeal (m : (ℓ : Loc Cert.KAoIdeal.nD Cert.KAoIdeal.τ Cert.KAoIdeal.sig) → Buf (Elt Ideal) ℓ) : Prop :=
  True

def Pre_RAoIdeal (m : (ℓ : Loc Cert.RAoIdeal.nD Cert.RAoIdeal.τ Cert.RAoIdeal.sig) → Buf (Elt Ideal) ℓ) : Prop :=
  True

def Pre_KMo (m : (ℓ : Loc Cert.KMo.nD Cert.KMo.τ Cert.KMo.sig) → Buf (Elt Bits) ℓ) : Prop :=
  True

def Pre_KMoIdeal (m : (ℓ : Loc Cert.KMoIdeal.nD Cert.KMoIdeal.τ Cert.KMoIdeal.sig) → Buf (Elt Ideal) ℓ) : Prop :=
  True

def Pre_RMoIdeal (m : (ℓ : Loc Cert.RMoIdeal.nD Cert.RMoIdeal.τ Cert.RMoIdeal.sig) → Buf (Elt Ideal) ℓ) : Prop :=
  True

def Pre_KWa (m : (ℓ : Loc Cert.KWa.nD Cert.KWa.τ Cert.KWa.sig) → Buf (Elt Bits) ℓ) : Prop :=
  True

def Pre_KWaIdeal (m : (ℓ : Loc Cert.KWaIdeal.nD Cert.KWaIdeal.τ Cert.KWaIdeal.sig) → Buf (Elt Ideal) ℓ) : Prop :=
  True

def Pre_RWaIdeal (m : (ℓ : Loc Cert.RWaIdeal.nD Cert.RWaIdeal.τ Cert.RWaIdeal.sig) → Buf (Elt Ideal) ℓ) : Prop :=
  True

def Pre_KWc (m : (ℓ : Loc Cert.KWc.nD Cert.KWc.τ Cert.KWc.sig) → Buf (Elt Bits) ℓ) : Prop :=
  True

def Pre_KWcIdeal (m : (ℓ : Loc Cert.KWcIdeal.nD Cert.KWcIdeal.τ Cert.KWcIdeal.sig) → Buf (Elt Ideal) ℓ) : Prop :=
  True

def Pre_RWcIdeal (m : (ℓ : Loc Cert.RWcIdeal.nD Cert.RWcIdeal.τ Cert.RWcIdeal.sig) → Buf (Elt Ideal) ℓ) : Prop :=
  True

def Pre_KWi (m : (ℓ : Loc Cert.KWi.nD Cert.KWi.τ Cert.KWi.sig) → Buf (Elt Bits) ℓ) : Prop :=
  True

def Pre_KWiIdeal (m : (ℓ : Loc Cert.KWiIdeal.nD Cert.KWiIdeal.τ Cert.KWiIdeal.sig) → Buf (Elt Ideal) ℓ) : Prop :=
  True

def Pre_RWiIdeal (m : (ℓ : Loc Cert.RWiIdeal.nD Cert.RWiIdeal.τ Cert.RWiIdeal.sig) → Buf (Elt Ideal) ℓ) : Prop :=
  True

def Pre_KMx (m : (ℓ : Loc Cert.KMx.nD Cert.KMx.τ Cert.KMx.sig) → Buf (Elt Bits) ℓ) : Prop :=
  True

def Pre_KMxIdeal (m : (ℓ : Loc Cert.KMxIdeal.nD Cert.KMxIdeal.τ Cert.KMxIdeal.sig) → Buf (Elt Ideal) ℓ) : Prop :=
  True

def Pre_RMxIdeal (m : (ℓ : Loc Cert.RMxIdeal.nD Cert.RMxIdeal.τ Cert.RMxIdeal.sig) → Buf (Elt Ideal) ℓ) : Prop :=
  True

def Pre_KAs (m : (ℓ : Loc Cert.KAs.nD Cert.KAs.τ Cert.KAs.sig) → Buf (Elt Bits) ℓ) : Prop :=
  True

def Pre_KAsIdeal (m : (ℓ : Loc Cert.KAsIdeal.nD Cert.KAsIdeal.τ Cert.KAsIdeal.sig) → Buf (Elt Ideal) ℓ) : Prop :=
  True

def Pre_RAsIdeal (m : (ℓ : Loc Cert.RAsIdeal.nD Cert.RAsIdeal.τ Cert.RAsIdeal.sig) → Buf (Elt Ideal) ℓ) : Prop :=
  True

def Pre_KMi (m : (ℓ : Loc Cert.KMi.nD Cert.KMi.τ Cert.KMi.sig) → Buf (Elt Bits) ℓ) : Prop :=
  True

def Pre_KMiIdeal (m : (ℓ : Loc Cert.KMiIdeal.nD Cert.KMiIdeal.τ Cert.KMiIdeal.sig) → Buf (Elt Ideal) ℓ) : Prop :=
  True

def Pre_RMiIdeal (m : (ℓ : Loc Cert.RMiIdeal.nD Cert.RMiIdeal.τ Cert.RMiIdeal.sig) → Buf (Elt Ideal) ℓ) : Prop :=
  True

def Pre_KIb (m : (ℓ : Loc Cert.KIb.nD Cert.KIb.τ Cert.KIb.sig) → Buf (Elt Bits) ℓ) : Prop :=
  True

def Pre_KIbIdeal (m : (ℓ : Loc Cert.KIbIdeal.nD Cert.KIbIdeal.τ Cert.KIbIdeal.sig) → Buf (Elt Ideal) ℓ) : Prop :=
  True

def Pre_KIbIdeal_finite_ib [hPre_finite_ib : Cert.Pre_finite_ib.Facts] (m : (ℓ : Loc Cert.KIbIdeal.nD Cert.KIbIdeal.τ Cert.KIbIdeal.sig) → Buf (Elt Ideal) ℓ) : Prop :=
  ∀ c : Dev Cert.KIbIdeal.nD,
    (Cert.Pre_finite_ib.fn (F := Ideal) (m ((c.tc : Thread Cert.KIbIdeal.nD Cert.KIbIdeal.τ).loc Cert.KIbIdeal.main_arg0)) (m ((c.tc : Thread Cert.KIbIdeal.nD Cert.KIbIdeal.τ).loc Cert.KIbIdeal.main_arg1)) (m ((c.tc : Thread Cert.KIbIdeal.nD Cert.KIbIdeal.τ).loc Cert.KIbIdeal.main_arg2)) (m ((c.tc : Thread Cert.KIbIdeal.nD Cert.KIbIdeal.τ).loc Cert.KIbIdeal.main_arg3)) (m ((c.tc : Thread Cert.KIbIdeal.nD Cert.KIbIdeal.τ).loc Cert.KIbIdeal.main_arg4)) (m ((c.tc : Thread Cert.KIbIdeal.nD Cert.KIbIdeal.τ).loc Cert.KIbIdeal.main_arg5)) (m ((c.tc : Thread Cert.KIbIdeal.nD Cert.KIbIdeal.τ).loc Cert.KIbIdeal.main_arg6)) (m ((c.tc : Thread Cert.KIbIdeal.nD Cert.KIbIdeal.τ).loc Cert.KIbIdeal.main_arg7)) (m ((c.tc : Thread Cert.KIbIdeal.nD Cert.KIbIdeal.τ).loc Cert.KIbIdeal.main_arg8)) (m ((c.tc : Thread Cert.KIbIdeal.nD Cert.KIbIdeal.τ).loc Cert.KIbIdeal.main_arg9))) = (fun _ => 1#1)

def Pre_RIbIdeal (m : (ℓ : Loc Cert.RIbIdeal.nD Cert.RIbIdeal.τ Cert.RIbIdeal.sig) → Buf (Elt Ideal) ℓ) : Prop :=
  True

def Pre_RIbIdeal_finite_ib [hPre_finite_ib : Cert.Pre_finite_ib.Facts] (m : (ℓ : Loc Cert.RIbIdeal.nD Cert.RIbIdeal.τ Cert.RIbIdeal.sig) → Buf (Elt Ideal) ℓ) : Prop :=
  ∀ c : Dev Cert.RIbIdeal.nD,
    (Cert.Pre_finite_ib.fn (F := Ideal) (m ((c.tc : Thread Cert.RIbIdeal.nD Cert.RIbIdeal.τ).loc Cert.RIbIdeal.main_arg0)) (m ((c.tc : Thread Cert.RIbIdeal.nD Cert.RIbIdeal.τ).loc Cert.RIbIdeal.main_arg1)) (m ((c.tc : Thread Cert.RIbIdeal.nD Cert.RIbIdeal.τ).loc Cert.RIbIdeal.main_arg2)) (m ((c.tc : Thread Cert.RIbIdeal.nD Cert.RIbIdeal.τ).loc Cert.RIbIdeal.main_arg3)) (m ((c.tc : Thread Cert.RIbIdeal.nD Cert.RIbIdeal.τ).loc Cert.RIbIdeal.main_arg4)) (m ((c.tc : Thread Cert.RIbIdeal.nD Cert.RIbIdeal.τ).loc Cert.RIbIdeal.main_arg5)) (m ((c.tc : Thread Cert.RIbIdeal.nD Cert.RIbIdeal.τ).loc Cert.RIbIdeal.main_arg6)) (m ((c.tc : Thread Cert.RIbIdeal.nD Cert.RIbIdeal.τ).loc Cert.RIbIdeal.main_arg7)) (m ((c.tc : Thread Cert.RIbIdeal.nD Cert.RIbIdeal.τ).loc Cert.RIbIdeal.main_arg8)) (m ((c.tc : Thread Cert.RIbIdeal.nD Cert.RIbIdeal.τ).loc Cert.RIbIdeal.main_arg9))) = (fun _ => 1#1)

def Pre_KSu [hPre_inside_su : Cert.Pre_inside_su.Facts] (m : (ℓ : Loc Cert.KSu.nD Cert.KSu.τ Cert.KSu.sig) → Buf (Elt Bits) ℓ) : Prop :=
  ∀ c : Dev Cert.KSu.nD,
    (Cert.Pre_inside_su.fn (F := Bits) (m ((c.tc : Thread Cert.KSu.nD Cert.KSu.τ).loc Cert.KSu.main_arg0)) (m ((c.tc : Thread Cert.KSu.nD Cert.KSu.τ).loc Cert.KSu.main_arg1)) (m ((c.tc : Thread Cert.KSu.nD Cert.KSu.τ).loc Cert.KSu.main_arg2)) (m ((c.tc : Thread Cert.KSu.nD Cert.KSu.τ).loc Cert.KSu.main_arg3)) (m ((c.tc : Thread Cert.KSu.nD Cert.KSu.τ).loc Cert.KSu.main_arg4))) = (fun _ => 1#1)

def Pre_KSuIdeal [hPre_inside_su : Cert.Pre_inside_su.Facts] (m : (ℓ : Loc Cert.KSuIdeal.nD Cert.KSuIdeal.τ Cert.KSuIdeal.sig) → Buf (Elt Ideal) ℓ) : Prop :=
  ∀ c : Dev Cert.KSuIdeal.nD,
    (Cert.Pre_inside_su.fn (F := Ideal) (m ((c.tc : Thread Cert.KSuIdeal.nD Cert.KSuIdeal.τ).loc Cert.KSuIdeal.main_arg0)) (m ((c.tc : Thread Cert.KSuIdeal.nD Cert.KSuIdeal.τ).loc Cert.KSuIdeal.main_arg1)) (m ((c.tc : Thread Cert.KSuIdeal.nD Cert.KSuIdeal.τ).loc Cert.KSuIdeal.main_arg2)) (m ((c.tc : Thread Cert.KSuIdeal.nD Cert.KSuIdeal.τ).loc Cert.KSuIdeal.main_arg3)) (m ((c.tc : Thread Cert.KSuIdeal.nD Cert.KSuIdeal.τ).loc Cert.KSuIdeal.main_arg4))) = (fun _ => 1#1)

def Pre_RSuIdeal (m : (ℓ : Loc Cert.RSuIdeal.nD Cert.RSuIdeal.τ Cert.RSuIdeal.sig) → Buf (Elt Ideal) ℓ) : Prop :=
  True

def Pre_RSuIdeal_inside_su [hPre_inside_su : Cert.Pre_inside_su.Facts] (m : (ℓ : Loc Cert.RSuIdeal.nD Cert.RSuIdeal.τ Cert.RSuIdeal.sig) → Buf (Elt Ideal) ℓ) : Prop :=
  ∀ c : Dev Cert.RSuIdeal.nD,
    (Cert.Pre_inside_su.fn (F := Ideal) (m ((c.tc : Thread Cert.RSuIdeal.nD Cert.RSuIdeal.τ).loc Cert.RSuIdeal.main_arg0)) (m ((c.tc : Thread Cert.RSuIdeal.nD Cert.RSuIdeal.τ).loc Cert.RSuIdeal.main_arg1)) (m ((c.tc : Thread Cert.RSuIdeal.nD Cert.RSuIdeal.τ).loc Cert.RSuIdeal.main_arg2)) (m ((c.tc : Thread Cert.RSuIdeal.nD Cert.RSuIdeal.τ).loc Cert.RSuIdeal.main_arg3)) (m ((c.tc : Thread Cert.RSuIdeal.nD Cert.RSuIdeal.τ).loc Cert.RSuIdeal.main_arg4))) = (fun _ => 1#1)

def Pre_KSi [hPre_inside_si : Cert.Pre_inside_si.Facts] (m : (ℓ : Loc Cert.KSi.nD Cert.KSi.τ Cert.KSi.sig) → Buf (Elt Bits) ℓ) : Prop :=
  ∀ c : Dev Cert.KSi.nD,
    (Cert.Pre_inside_si.fn (F := Bits) (m ((c.tc : Thread Cert.KSi.nD Cert.KSi.τ).loc Cert.KSi.main_arg0)) (m ((c.tc : Thread Cert.KSi.nD Cert.KSi.τ).loc Cert.KSi.main_arg1)) (m ((c.tc : Thread Cert.KSi.nD Cert.KSi.τ).loc Cert.KSi.main_arg2)) (m ((c.tc : Thread Cert.KSi.nD Cert.KSi.τ).loc Cert.KSi.main_arg3)) (m ((c.tc : Thread Cert.KSi.nD Cert.KSi.τ).loc Cert.KSi.main_arg4))) = (fun _ => 1#1)

def Pre_KSiIdeal [hPre_inside_si : Cert.Pre_inside_si.Facts] (m : (ℓ : Loc Cert.KSiIdeal.nD Cert.KSiIdeal.τ Cert.KSiIdeal.sig) → Buf (Elt Ideal) ℓ) : Prop :=
  ∀ c : Dev Cert.KSiIdeal.nD,
    (Cert.Pre_inside_si.fn (F := Ideal) (m ((c.tc : Thread Cert.KSiIdeal.nD Cert.KSiIdeal.τ).loc Cert.KSiIdeal.main_arg0)) (m ((c.tc : Thread Cert.KSiIdeal.nD Cert.KSiIdeal.τ).loc Cert.KSiIdeal.main_arg1)) (m ((c.tc : Thread Cert.KSiIdeal.nD Cert.KSiIdeal.τ).loc Cert.KSiIdeal.main_arg2)) (m ((c.tc : Thread Cert.KSiIdeal.nD Cert.KSiIdeal.τ).loc Cert.KSiIdeal.main_arg3)) (m ((c.tc : Thread Cert.KSiIdeal.nD Cert.KSiIdeal.τ).loc Cert.KSiIdeal.main_arg4))) = (fun _ => 1#1)

def Pre_RSiIdeal (m : (ℓ : Loc Cert.RSiIdeal.nD Cert.RSiIdeal.τ Cert.RSiIdeal.sig) → Buf (Elt Ideal) ℓ) : Prop :=
  True

def Pre_RSiIdeal_inside_si [hPre_inside_si : Cert.Pre_inside_si.Facts] (m : (ℓ : Loc Cert.RSiIdeal.nD Cert.RSiIdeal.τ Cert.RSiIdeal.sig) → Buf (Elt Ideal) ℓ) : Prop :=
  ∀ c : Dev Cert.RSiIdeal.nD,
    (Cert.Pre_inside_si.fn (F := Ideal) (m ((c.tc : Thread Cert.RSiIdeal.nD Cert.RSiIdeal.τ).loc Cert.RSiIdeal.main_arg0)) (m ((c.tc : Thread Cert.RSiIdeal.nD Cert.RSiIdeal.τ).loc Cert.RSiIdeal.main_arg1)) (m ((c.tc : Thread Cert.RSiIdeal.nD Cert.RSiIdeal.τ).loc Cert.RSiIdeal.main_arg2)) (m ((c.tc : Thread Cert.RSiIdeal.nD Cert.RSiIdeal.τ).loc Cert.RSiIdeal.main_arg3)) (m ((c.tc : Thread Cert.RSiIdeal.nD Cert.RSiIdeal.τ).loc Cert.RSiIdeal.main_arg4))) = (fun _ => 1#1)

def Pre_KSo [hPre_inside_so : Cert.Pre_inside_so.Facts] (m : (ℓ : Loc Cert.KSo.nD Cert.KSo.τ Cert.KSo.sig) → Buf (Elt Bits) ℓ) : Prop :=
  ∀ c : Dev Cert.KSo.nD,
    (Cert.Pre_inside_so.fn (F := Bits) (m ((c.tc : Thread Cert.KSo.nD Cert.KSo.τ).loc Cert.KSo.main_arg0)) (m ((c.tc : Thread Cert.KSo.nD Cert.KSo.τ).loc Cert.KSo.main_arg1)) (m ((c.tc : Thread Cert.KSo.nD Cert.KSo.τ).loc Cert.KSo.main_arg2)) (m ((c.tc : Thread Cert.KSo.nD Cert.KSo.τ).loc Cert.KSo.main_arg3)) (m ((c.tc : Thread Cert.KSo.nD Cert.KSo.τ).loc Cert.KSo.main_arg4))) = (fun _ => 1#1)

def Pre_KSoIdeal [hPre_inside_so : Cert.Pre_inside_so.Facts] (m : (ℓ : Loc Cert.KSoIdeal.nD Cert.KSoIdeal.τ Cert.KSoIdeal.sig) → Buf (Elt Ideal) ℓ) : Prop :=
  ∀ c : Dev Cert.KSoIdeal.nD,
    (Cert.Pre_inside_so.fn (F := Ideal) (m ((c.tc : Thread Cert.KSoIdeal.nD Cert.KSoIdeal.τ).loc Cert.KSoIdeal.main_arg0)) (m ((c.tc : Thread Cert.KSoIdeal.nD Cert.KSoIdeal.τ).loc Cert.KSoIdeal.main_arg1)) (m ((c.tc : Thread Cert.KSoIdeal.nD Cert.KSoIdeal.τ).loc Cert.KSoIdeal.main_arg2)) (m ((c.tc : Thread Cert.KSoIdeal.nD Cert.KSoIdeal.τ).loc Cert.KSoIdeal.main_arg3)) (m ((c.tc : Thread Cert.KSoIdeal.nD Cert.KSoIdeal.τ).loc Cert.KSoIdeal.main_arg4))) = (fun _ => 1#1)

def Pre_RSoIdeal (m : (ℓ : Loc Cert.RSoIdeal.nD Cert.RSoIdeal.τ Cert.RSoIdeal.sig) → Buf (Elt Ideal) ℓ) : Prop :=
  True

def Pre_RSoIdeal_inside_so [hPre_inside_so : Cert.Pre_inside_so.Facts] (m : (ℓ : Loc Cert.RSoIdeal.nD Cert.RSoIdeal.τ Cert.RSoIdeal.sig) → Buf (Elt Ideal) ℓ) : Prop :=
  ∀ c : Dev Cert.RSoIdeal.nD,
    (Cert.Pre_inside_so.fn (F := Ideal) (m ((c.tc : Thread Cert.RSoIdeal.nD Cert.RSoIdeal.τ).loc Cert.RSoIdeal.main_arg0)) (m ((c.tc : Thread Cert.RSoIdeal.nD Cert.RSoIdeal.τ).loc Cert.RSoIdeal.main_arg1)) (m ((c.tc : Thread Cert.RSoIdeal.nD Cert.RSoIdeal.τ).loc Cert.RSoIdeal.main_arg2)) (m ((c.tc : Thread Cert.RSoIdeal.nD Cert.RSoIdeal.τ).loc Cert.RSoIdeal.main_arg3)) (m ((c.tc : Thread Cert.RSoIdeal.nD Cert.RSoIdeal.τ).loc Cert.RSoIdeal.main_arg4))) = (fun _ => 1#1)

def Pre_KLo (m : (ℓ : Loc Cert.KLo.nD Cert.KLo.τ Cert.KLo.sig) → Buf (Elt Bits) ℓ) : Prop :=
  True

def Pre_KLoIdeal (m : (ℓ : Loc Cert.KLoIdeal.nD Cert.KLoIdeal.τ Cert.KLoIdeal.sig) → Buf (Elt Ideal) ℓ) : Prop :=
  True

def Pre_KLoIdeal_finite_lo [hPre_finite_lo : Cert.Pre_finite_lo.Facts] (m : (ℓ : Loc Cert.KLoIdeal.nD Cert.KLoIdeal.τ Cert.KLoIdeal.sig) → Buf (Elt Ideal) ℓ) : Prop :=
  ∀ c : Dev Cert.KLoIdeal.nD,
    (Cert.Pre_finite_lo.fn (F := Ideal) (m ((c.tc : Thread Cert.KLoIdeal.nD Cert.KLoIdeal.τ).loc Cert.KLoIdeal.main_arg0)) (m ((c.tc : Thread Cert.KLoIdeal.nD Cert.KLoIdeal.τ).loc Cert.KLoIdeal.main_arg1)) (m ((c.tc : Thread Cert.KLoIdeal.nD Cert.KLoIdeal.τ).loc Cert.KLoIdeal.main_arg2)) (m ((c.tc : Thread Cert.KLoIdeal.nD Cert.KLoIdeal.τ).loc Cert.KLoIdeal.main_arg3)) (m ((c.tc : Thread Cert.KLoIdeal.nD Cert.KLoIdeal.τ).loc Cert.KLoIdeal.main_arg4)) (m ((c.tc : Thread Cert.KLoIdeal.nD Cert.KLoIdeal.τ).loc Cert.KLoIdeal.main_arg5)) (m ((c.tc : Thread Cert.KLoIdeal.nD Cert.KLoIdeal.τ).loc Cert.KLoIdeal.main_arg6))) = (fun _ => 1#1)

def Pre_RLoIdeal (m : (ℓ : Loc Cert.RLoIdeal.nD Cert.RLoIdeal.τ Cert.RLoIdeal.sig) → Buf (Elt Ideal) ℓ) : Prop :=
  True

def Pre_RLoIdeal_finite_lo [hPre_finite_lo : Cert.Pre_finite_lo.Facts] (m : (ℓ : Loc Cert.RLoIdeal.nD Cert.RLoIdeal.τ Cert.RLoIdeal.sig) → Buf (Elt Ideal) ℓ) : Prop :=
  ∀ c : Dev Cert.RLoIdeal.nD,
    (Cert.Pre_finite_lo.fn (F := Ideal) (m ((c.tc : Thread Cert.RLoIdeal.nD Cert.RLoIdeal.τ).loc Cert.RLoIdeal.main_arg0)) (m ((c.tc : Thread Cert.RLoIdeal.nD Cert.RLoIdeal.τ).loc Cert.RLoIdeal.main_arg1)) (m ((c.tc : Thread Cert.RLoIdeal.nD Cert.RLoIdeal.τ).loc Cert.RLoIdeal.main_arg2)) (m ((c.tc : Thread Cert.RLoIdeal.nD Cert.RLoIdeal.τ).loc Cert.RLoIdeal.main_arg3)) (m ((c.tc : Thread Cert.RLoIdeal.nD Cert.RLoIdeal.τ).loc Cert.RLoIdeal.main_arg4)) (m ((c.tc : Thread Cert.RLoIdeal.nD Cert.RLoIdeal.τ).loc Cert.RLoIdeal.main_arg5)) (m ((c.tc : Thread Cert.RLoIdeal.nD Cert.RLoIdeal.τ).loc Cert.RLoIdeal.main_arg6))) = (fun _ => 1#1)

def Pre_KPs [hPre_inside_ps : Cert.Pre_inside_ps.Facts] (m : (ℓ : Loc Cert.KPs.nD Cert.KPs.τ Cert.KPs.sig) → Buf (Elt Bits) ℓ) : Prop :=
  ∀ c : Dev Cert.KPs.nD,
    (Cert.Pre_inside_ps.fn (F := Bits) (m ((c.tc : Thread Cert.KPs.nD Cert.KPs.τ).loc Cert.KPs.main_arg0)) (m ((c.tc : Thread Cert.KPs.nD Cert.KPs.τ).loc Cert.KPs.main_arg1)) (m ((c.tc : Thread Cert.KPs.nD Cert.KPs.τ).loc Cert.KPs.main_arg2)) (m ((c.tc : Thread Cert.KPs.nD Cert.KPs.τ).loc Cert.KPs.main_arg3))) = (fun _ => 1#1)

def Pre_KPsIdeal [hPre_inside_ps : Cert.Pre_inside_ps.Facts] (m : (ℓ : Loc Cert.KPsIdeal.nD Cert.KPsIdeal.τ Cert.KPsIdeal.sig) → Buf (Elt Ideal) ℓ) : Prop :=
  ∀ c : Dev Cert.KPsIdeal.nD,
    (Cert.Pre_inside_ps.fn (F := Ideal) (m ((c.tc : Thread Cert.KPsIdeal.nD Cert.KPsIdeal.τ).loc Cert.KPsIdeal.main_arg0)) (m ((c.tc : Thread Cert.KPsIdeal.nD Cert.KPsIdeal.τ).loc Cert.KPsIdeal.main_arg1)) (m ((c.tc : Thread Cert.KPsIdeal.nD Cert.KPsIdeal.τ).loc Cert.KPsIdeal.main_arg2)) (m ((c.tc : Thread Cert.KPsIdeal.nD Cert.KPsIdeal.τ).loc Cert.KPsIdeal.main_arg3))) = (fun _ => 1#1)

def Pre_RPsIdeal (m : (ℓ : Loc Cert.RPsIdeal.nD Cert.RPsIdeal.τ Cert.RPsIdeal.sig) → Buf (Elt Ideal) ℓ) : Prop :=
  True

def Pre_RPsIdeal_inside_ps [hPre_inside_ps : Cert.Pre_inside_ps.Facts] (m : (ℓ : Loc Cert.RPsIdeal.nD Cert.RPsIdeal.τ Cert.RPsIdeal.sig) → Buf (Elt Ideal) ℓ) : Prop :=
  ∀ c : Dev Cert.RPsIdeal.nD,
    (Cert.Pre_inside_ps.fn (F := Ideal) (m ((c.tc : Thread Cert.RPsIdeal.nD Cert.RPsIdeal.τ).loc Cert.RPsIdeal.main_arg0)) (m ((c.tc : Thread Cert.RPsIdeal.nD Cert.RPsIdeal.τ).loc Cert.RPsIdeal.main_arg1)) (m ((c.tc : Thread Cert.RPsIdeal.nD Cert.RPsIdeal.τ).loc Cert.RPsIdeal.main_arg2)) (m ((c.tc : Thread Cert.RPsIdeal.nD Cert.RPsIdeal.τ).loc Cert.RPsIdeal.main_arg3))) = (fun _ => 1#1)

def quiescent_KAct [hKAct : Cert.KAct.Facts] : Prop :=
  ∀ (m : (ℓ : Loc Cert.KAct.nD Cert.KAct.τ Cert.KAct.sig) → Buf (Elt Bits) ℓ) (g : Dev Cert.KAct.nD → PrngReg), Pre_KAct m →
    θ_run (Cert.KAct.defs (F := Bits)) (onTc (τ := Cert.KAct.τ) (Cert.KAct.main (F := Bits))) ⟨m, fun _ => 0, g⟩ (fun r => (∀ c : Dev Cert.KAct.nD,
      r.2.mem ((c.tc : Thread Cert.KAct.nD Cert.KAct.τ).loc Cert.KAct.main_arg0) = m ((c.tc : Thread Cert.KAct.nD Cert.KAct.τ).loc Cert.KAct.main_arg0)
      ∧ r.2.mem ((c.tc : Thread Cert.KAct.nD Cert.KAct.τ).loc Cert.KAct.main_arg1) = m ((c.tc : Thread Cert.KAct.nD Cert.KAct.τ).loc Cert.KAct.main_arg1)
      ∧ r.2.mem ((c.tc : Thread Cert.KAct.nD Cert.KAct.τ).loc Cert.KAct.main_arg2) = m ((c.tc : Thread Cert.KAct.nD Cert.KAct.τ).loc Cert.KAct.main_arg2)
      ∧ r.2.mem ((c.tc : Thread Cert.KAct.nD Cert.KAct.τ).loc Cert.KAct.main_arg3) = m ((c.tc : Thread Cert.KAct.nD Cert.KAct.τ).loc Cert.KAct.main_arg3)
      ∧ r.2.mem ((c.tc : Thread Cert.KAct.nD Cert.KAct.τ).loc Cert.KAct.main_arg4) = m ((c.tc : Thread Cert.KAct.nD Cert.KAct.τ).loc Cert.KAct.main_arg4))
      ∧ r.2.sem = fun _ => 0)

def quiescent_KActIdeal [hKActIdeal : Cert.KActIdeal.Facts] : Prop :=
  ∀ (m : (ℓ : Loc Cert.KActIdeal.nD Cert.KActIdeal.τ Cert.KActIdeal.sig) → Buf (Elt Ideal) ℓ) (g : Dev Cert.KActIdeal.nD → PrngReg), Pre_KActIdeal m →
    θ_run (Cert.KActIdeal.defs (F := Ideal)) (onTc (τ := Cert.KActIdeal.τ) (Cert.KActIdeal.main (F := Ideal))) ⟨m, fun _ => 0, g⟩ (fun r => (∀ c : Dev Cert.KActIdeal.nD,
      r.2.mem ((c.tc : Thread Cert.KActIdeal.nD Cert.KActIdeal.τ).loc Cert.KActIdeal.main_arg0) = m ((c.tc : Thread Cert.KActIdeal.nD Cert.KActIdeal.τ).loc Cert.KActIdeal.main_arg0)
      ∧ r.2.mem ((c.tc : Thread Cert.KActIdeal.nD Cert.KActIdeal.τ).loc Cert.KActIdeal.main_arg1) = m ((c.tc : Thread Cert.KActIdeal.nD Cert.KActIdeal.τ).loc Cert.KActIdeal.main_arg1)
      ∧ r.2.mem ((c.tc : Thread Cert.KActIdeal.nD Cert.KActIdeal.τ).loc Cert.KActIdeal.main_arg2) = m ((c.tc : Thread Cert.KActIdeal.nD Cert.KActIdeal.τ).loc Cert.KActIdeal.main_arg2)
      ∧ r.2.mem ((c.tc : Thread Cert.KActIdeal.nD Cert.KActIdeal.τ).loc Cert.KActIdeal.main_arg3) = m ((c.tc : Thread Cert.KActIdeal.nD Cert.KActIdeal.τ).loc Cert.KActIdeal.main_arg3)
      ∧ r.2.mem ((c.tc : Thread Cert.KActIdeal.nD Cert.KActIdeal.τ).loc Cert.KActIdeal.main_arg4) = m ((c.tc : Thread Cert.KActIdeal.nD Cert.KActIdeal.τ).loc Cert.KActIdeal.main_arg4))
      ∧ r.2.sem = fun _ => 0)

def quiescent_RActIdeal [hRActIdeal : Cert.RActIdeal.Facts] : Prop :=
  ∀ (m : (ℓ : Loc Cert.RActIdeal.nD Cert.RActIdeal.τ Cert.RActIdeal.sig) → Buf (Elt Ideal) ℓ) (g : Dev Cert.RActIdeal.nD → PrngReg), Pre_RActIdeal m →
    θ_run (Cert.RActIdeal.defs (F := Ideal)) (onTc (τ := Cert.RActIdeal.τ) (Cert.RActIdeal.main (F := Ideal))) ⟨m, fun _ => 0, g⟩ (fun r => (∀ c : Dev Cert.RActIdeal.nD,
      r.2.mem ((c.tc : Thread Cert.RActIdeal.nD Cert.RActIdeal.τ).loc Cert.RActIdeal.main_arg0) = m ((c.tc : Thread Cert.RActIdeal.nD Cert.RActIdeal.τ).loc Cert.RActIdeal.main_arg0)
      ∧ r.2.mem ((c.tc : Thread Cert.RActIdeal.nD Cert.RActIdeal.τ).loc Cert.RActIdeal.main_arg1) = m ((c.tc : Thread Cert.RActIdeal.nD Cert.RActIdeal.τ).loc Cert.RActIdeal.main_arg1)
      ∧ r.2.mem ((c.tc : Thread Cert.RActIdeal.nD Cert.RActIdeal.τ).loc Cert.RActIdeal.main_arg2) = m ((c.tc : Thread Cert.RActIdeal.nD Cert.RActIdeal.τ).loc Cert.RActIdeal.main_arg2)
      ∧ r.2.mem ((c.tc : Thread Cert.RActIdeal.nD Cert.RActIdeal.τ).loc Cert.RActIdeal.main_arg3) = m ((c.tc : Thread Cert.RActIdeal.nD Cert.RActIdeal.τ).loc Cert.RActIdeal.main_arg3)
      ∧ r.2.mem ((c.tc : Thread Cert.RActIdeal.nD Cert.RActIdeal.τ).loc Cert.RActIdeal.main_arg4) = m ((c.tc : Thread Cert.RActIdeal.nD Cert.RActIdeal.τ).loc Cert.RActIdeal.main_arg4))
      ∧ r.2.sem = fun _ => 0)

def quiescent_KWd [hKWd : Cert.KWd.Facts] : Prop :=
  ∀ (m : (ℓ : Loc Cert.KWd.nD Cert.KWd.τ Cert.KWd.sig) → Buf (Elt Bits) ℓ) (g : Dev Cert.KWd.nD → PrngReg), Pre_KWd m →
    θ_run (Cert.KWd.defs (F := Bits)) (onTc (τ := Cert.KWd.τ) (Cert.KWd.main (F := Bits))) ⟨m, fun _ => 0, g⟩ (fun r => (∀ c : Dev Cert.KWd.nD,
      r.2.mem ((c.tc : Thread Cert.KWd.nD Cert.KWd.τ).loc Cert.KWd.main_arg0) = m ((c.tc : Thread Cert.KWd.nD Cert.KWd.τ).loc Cert.KWd.main_arg0)
      ∧ r.2.mem ((c.tc : Thread Cert.KWd.nD Cert.KWd.τ).loc Cert.KWd.main_arg1) = m ((c.tc : Thread Cert.KWd.nD Cert.KWd.τ).loc Cert.KWd.main_arg1)
      ∧ r.2.mem ((c.tc : Thread Cert.KWd.nD Cert.KWd.τ).loc Cert.KWd.main_arg2) = m ((c.tc : Thread Cert.KWd.nD Cert.KWd.τ).loc Cert.KWd.main_arg2)
      ∧ r.2.mem ((c.tc : Thread Cert.KWd.nD Cert.KWd.τ).loc Cert.KWd.main_arg3) = m ((c.tc : Thread Cert.KWd.nD Cert.KWd.τ).loc Cert.KWd.main_arg3)
      ∧ r.2.mem ((c.tc : Thread Cert.KWd.nD Cert.KWd.τ).loc Cert.KWd.main_arg4) = m ((c.tc : Thread Cert.KWd.nD Cert.KWd.τ).loc Cert.KWd.main_arg4))
      ∧ r.2.sem = fun _ => 0)

def quiescent_KWdIdeal [hKWdIdeal : Cert.KWdIdeal.Facts] : Prop :=
  ∀ (m : (ℓ : Loc Cert.KWdIdeal.nD Cert.KWdIdeal.τ Cert.KWdIdeal.sig) → Buf (Elt Ideal) ℓ) (g : Dev Cert.KWdIdeal.nD → PrngReg), Pre_KWdIdeal m →
    θ_run (Cert.KWdIdeal.defs (F := Ideal)) (onTc (τ := Cert.KWdIdeal.τ) (Cert.KWdIdeal.main (F := Ideal))) ⟨m, fun _ => 0, g⟩ (fun r => (∀ c : Dev Cert.KWdIdeal.nD,
      r.2.mem ((c.tc : Thread Cert.KWdIdeal.nD Cert.KWdIdeal.τ).loc Cert.KWdIdeal.main_arg0) = m ((c.tc : Thread Cert.KWdIdeal.nD Cert.KWdIdeal.τ).loc Cert.KWdIdeal.main_arg0)
      ∧ r.2.mem ((c.tc : Thread Cert.KWdIdeal.nD Cert.KWdIdeal.τ).loc Cert.KWdIdeal.main_arg1) = m ((c.tc : Thread Cert.KWdIdeal.nD Cert.KWdIdeal.τ).loc Cert.KWdIdeal.main_arg1)
      ∧ r.2.mem ((c.tc : Thread Cert.KWdIdeal.nD Cert.KWdIdeal.τ).loc Cert.KWdIdeal.main_arg2) = m ((c.tc : Thread Cert.KWdIdeal.nD Cert.KWdIdeal.τ).loc Cert.KWdIdeal.main_arg2)
      ∧ r.2.mem ((c.tc : Thread Cert.KWdIdeal.nD Cert.KWdIdeal.τ).loc Cert.KWdIdeal.main_arg3) = m ((c.tc : Thread Cert.KWdIdeal.nD Cert.KWdIdeal.τ).loc Cert.KWdIdeal.main_arg3)
      ∧ r.2.mem ((c.tc : Thread Cert.KWdIdeal.nD Cert.KWdIdeal.τ).loc Cert.KWdIdeal.main_arg4) = m ((c.tc : Thread Cert.KWdIdeal.nD Cert.KWdIdeal.τ).loc Cert.KWdIdeal.main_arg4))
      ∧ r.2.sem = fun _ => 0)

def quiescent_RWdIdeal [hRWdIdeal : Cert.RWdIdeal.Facts] : Prop :=
  ∀ (m : (ℓ : Loc Cert.RWdIdeal.nD Cert.RWdIdeal.τ Cert.RWdIdeal.sig) → Buf (Elt Ideal) ℓ) (g : Dev Cert.RWdIdeal.nD → PrngReg), Pre_RWdIdeal m →
    θ_run (Cert.RWdIdeal.defs (F := Ideal)) (onTc (τ := Cert.RWdIdeal.τ) (Cert.RWdIdeal.main (F := Ideal))) ⟨m, fun _ => 0, g⟩ (fun r => (∀ c : Dev Cert.RWdIdeal.nD,
      r.2.mem ((c.tc : Thread Cert.RWdIdeal.nD Cert.RWdIdeal.τ).loc Cert.RWdIdeal.main_arg0) = m ((c.tc : Thread Cert.RWdIdeal.nD Cert.RWdIdeal.τ).loc Cert.RWdIdeal.main_arg0)
      ∧ r.2.mem ((c.tc : Thread Cert.RWdIdeal.nD Cert.RWdIdeal.τ).loc Cert.RWdIdeal.main_arg1) = m ((c.tc : Thread Cert.RWdIdeal.nD Cert.RWdIdeal.τ).loc Cert.RWdIdeal.main_arg1)
      ∧ r.2.mem ((c.tc : Thread Cert.RWdIdeal.nD Cert.RWdIdeal.τ).loc Cert.RWdIdeal.main_arg2) = m ((c.tc : Thread Cert.RWdIdeal.nD Cert.RWdIdeal.τ).loc Cert.RWdIdeal.main_arg2)
      ∧ r.2.mem ((c.tc : Thread Cert.RWdIdeal.nD Cert.RWdIdeal.τ).loc Cert.RWdIdeal.main_arg3) = m ((c.tc : Thread Cert.RWdIdeal.nD Cert.RWdIdeal.τ).loc Cert.RWdIdeal.main_arg3)
      ∧ r.2.mem ((c.tc : Thread Cert.RWdIdeal.nD Cert.RWdIdeal.τ).loc Cert.RWdIdeal.main_arg4) = m ((c.tc : Thread Cert.RWdIdeal.nD Cert.RWdIdeal.τ).loc Cert.RWdIdeal.main_arg4))
      ∧ r.2.sem = fun _ => 0)

def quiescent_KWu [hKWu : Cert.KWu.Facts] : Prop :=
  ∀ (m : (ℓ : Loc Cert.KWu.nD Cert.KWu.τ Cert.KWu.sig) → Buf (Elt Bits) ℓ) (g : Dev Cert.KWu.nD → PrngReg), Pre_KWu m →
    θ_run (Cert.KWu.defs (F := Bits)) (onTc (τ := Cert.KWu.τ) (Cert.KWu.main (F := Bits))) ⟨m, fun _ => 0, g⟩ (fun r => (∀ c : Dev Cert.KWu.nD,
      r.2.mem ((c.tc : Thread Cert.KWu.nD Cert.KWu.τ).loc Cert.KWu.main_arg0) = m ((c.tc : Thread Cert.KWu.nD Cert.KWu.τ).loc Cert.KWu.main_arg0)
      ∧ r.2.mem ((c.tc : Thread Cert.KWu.nD Cert.KWu.τ).loc Cert.KWu.main_arg1) = m ((c.tc : Thread Cert.KWu.nD Cert.KWu.τ).loc Cert.KWu.main_arg1)
      ∧ r.2.mem ((c.tc : Thread Cert.KWu.nD Cert.KWu.τ).loc Cert.KWu.main_arg2) = m ((c.tc : Thread Cert.KWu.nD Cert.KWu.τ).loc Cert.KWu.main_arg2)
      ∧ r.2.mem ((c.tc : Thread Cert.KWu.nD Cert.KWu.τ).loc Cert.KWu.main_arg3) = m ((c.tc : Thread Cert.KWu.nD Cert.KWu.τ).loc Cert.KWu.main_arg3)
      ∧ r.2.mem ((c.tc : Thread Cert.KWu.nD Cert.KWu.τ).loc Cert.KWu.main_arg4) = m ((c.tc : Thread Cert.KWu.nD Cert.KWu.τ).loc Cert.KWu.main_arg4))
      ∧ r.2.sem = fun _ => 0)

def quiescent_KWuIdeal [hKWuIdeal : Cert.KWuIdeal.Facts] : Prop :=
  ∀ (m : (ℓ : Loc Cert.KWuIdeal.nD Cert.KWuIdeal.τ Cert.KWuIdeal.sig) → Buf (Elt Ideal) ℓ) (g : Dev Cert.KWuIdeal.nD → PrngReg), Pre_KWuIdeal m →
    θ_run (Cert.KWuIdeal.defs (F := Ideal)) (onTc (τ := Cert.KWuIdeal.τ) (Cert.KWuIdeal.main (F := Ideal))) ⟨m, fun _ => 0, g⟩ (fun r => (∀ c : Dev Cert.KWuIdeal.nD,
      r.2.mem ((c.tc : Thread Cert.KWuIdeal.nD Cert.KWuIdeal.τ).loc Cert.KWuIdeal.main_arg0) = m ((c.tc : Thread Cert.KWuIdeal.nD Cert.KWuIdeal.τ).loc Cert.KWuIdeal.main_arg0)
      ∧ r.2.mem ((c.tc : Thread Cert.KWuIdeal.nD Cert.KWuIdeal.τ).loc Cert.KWuIdeal.main_arg1) = m ((c.tc : Thread Cert.KWuIdeal.nD Cert.KWuIdeal.τ).loc Cert.KWuIdeal.main_arg1)
      ∧ r.2.mem ((c.tc : Thread Cert.KWuIdeal.nD Cert.KWuIdeal.τ).loc Cert.KWuIdeal.main_arg2) = m ((c.tc : Thread Cert.KWuIdeal.nD Cert.KWuIdeal.τ).loc Cert.KWuIdeal.main_arg2)
      ∧ r.2.mem ((c.tc : Thread Cert.KWuIdeal.nD Cert.KWuIdeal.τ).loc Cert.KWuIdeal.main_arg3) = m ((c.tc : Thread Cert.KWuIdeal.nD Cert.KWuIdeal.τ).loc Cert.KWuIdeal.main_arg3)
      ∧ r.2.mem ((c.tc : Thread Cert.KWuIdeal.nD Cert.KWuIdeal.τ).loc Cert.KWuIdeal.main_arg4) = m ((c.tc : Thread Cert.KWuIdeal.nD Cert.KWuIdeal.τ).loc Cert.KWuIdeal.main_arg4))
      ∧ r.2.sem = fun _ => 0)

def quiescent_RWuIdeal [hRWuIdeal : Cert.RWuIdeal.Facts] : Prop :=
  ∀ (m : (ℓ : Loc Cert.RWuIdeal.nD Cert.RWuIdeal.τ Cert.RWuIdeal.sig) → Buf (Elt Ideal) ℓ) (g : Dev Cert.RWuIdeal.nD → PrngReg), Pre_RWuIdeal m →
    θ_run (Cert.RWuIdeal.defs (F := Ideal)) (onTc (τ := Cert.RWuIdeal.τ) (Cert.RWuIdeal.main (F := Ideal))) ⟨m, fun _ => 0, g⟩ (fun r => (∀ c : Dev Cert.RWuIdeal.nD,
      r.2.mem ((c.tc : Thread Cert.RWuIdeal.nD Cert.RWuIdeal.τ).loc Cert.RWuIdeal.main_arg0) = m ((c.tc : Thread Cert.RWuIdeal.nD Cert.RWuIdeal.τ).loc Cert.RWuIdeal.main_arg0)
      ∧ r.2.mem ((c.tc : Thread Cert.RWuIdeal.nD Cert.RWuIdeal.τ).loc Cert.RWuIdeal.main_arg1) = m ((c.tc : Thread Cert.RWuIdeal.nD Cert.RWuIdeal.τ).loc Cert.RWuIdeal.main_arg1)
      ∧ r.2.mem ((c.tc : Thread Cert.RWuIdeal.nD Cert.RWuIdeal.τ).loc Cert.RWuIdeal.main_arg2) = m ((c.tc : Thread Cert.RWuIdeal.nD Cert.RWuIdeal.τ).loc Cert.RWuIdeal.main_arg2)
      ∧ r.2.mem ((c.tc : Thread Cert.RWuIdeal.nD Cert.RWuIdeal.τ).loc Cert.RWuIdeal.main_arg3) = m ((c.tc : Thread Cert.RWuIdeal.nD Cert.RWuIdeal.τ).loc Cert.RWuIdeal.main_arg3)
      ∧ r.2.mem ((c.tc : Thread Cert.RWuIdeal.nD Cert.RWuIdeal.τ).loc Cert.RWuIdeal.main_arg4) = m ((c.tc : Thread Cert.RWuIdeal.nD Cert.RWuIdeal.τ).loc Cert.RWuIdeal.main_arg4))
      ∧ r.2.sem = fun _ => 0)

def quiescent_KWg [hKWg : Cert.KWg.Facts] : Prop :=
  ∀ (m : (ℓ : Loc Cert.KWg.nD Cert.KWg.τ Cert.KWg.sig) → Buf (Elt Bits) ℓ) (g : Dev Cert.KWg.nD → PrngReg), Pre_KWg m →
    θ_run (Cert.KWg.defs (F := Bits)) (onTc (τ := Cert.KWg.τ) (Cert.KWg.main (F := Bits))) ⟨m, fun _ => 0, g⟩ (fun r => (∀ c : Dev Cert.KWg.nD,
      r.2.mem ((c.tc : Thread Cert.KWg.nD Cert.KWg.τ).loc Cert.KWg.main_arg0) = m ((c.tc : Thread Cert.KWg.nD Cert.KWg.τ).loc Cert.KWg.main_arg0)
      ∧ r.2.mem ((c.tc : Thread Cert.KWg.nD Cert.KWg.τ).loc Cert.KWg.main_arg1) = m ((c.tc : Thread Cert.KWg.nD Cert.KWg.τ).loc Cert.KWg.main_arg1)
      ∧ r.2.mem ((c.tc : Thread Cert.KWg.nD Cert.KWg.τ).loc Cert.KWg.main_arg2) = m ((c.tc : Thread Cert.KWg.nD Cert.KWg.τ).loc Cert.KWg.main_arg2)
      ∧ r.2.mem ((c.tc : Thread Cert.KWg.nD Cert.KWg.τ).loc Cert.KWg.main_arg3) = m ((c.tc : Thread Cert.KWg.nD Cert.KWg.τ).loc Cert.KWg.main_arg3)
      ∧ r.2.mem ((c.tc : Thread Cert.KWg.nD Cert.KWg.τ).loc Cert.KWg.main_arg4) = m ((c.tc : Thread Cert.KWg.nD Cert.KWg.τ).loc Cert.KWg.main_arg4))
      ∧ r.2.sem = fun _ => 0)

def quiescent_KWgIdeal [hKWgIdeal : Cert.KWgIdeal.Facts] : Prop :=
  ∀ (m : (ℓ : Loc Cert.KWgIdeal.nD Cert.KWgIdeal.τ Cert.KWgIdeal.sig) → Buf (Elt Ideal) ℓ) (g : Dev Cert.KWgIdeal.nD → PrngReg), Pre_KWgIdeal m →
    θ_run (Cert.KWgIdeal.defs (F := Ideal)) (onTc (τ := Cert.KWgIdeal.τ) (Cert.KWgIdeal.main (F := Ideal))) ⟨m, fun _ => 0, g⟩ (fun r => (∀ c : Dev Cert.KWgIdeal.nD,
      r.2.mem ((c.tc : Thread Cert.KWgIdeal.nD Cert.KWgIdeal.τ).loc Cert.KWgIdeal.main_arg0) = m ((c.tc : Thread Cert.KWgIdeal.nD Cert.KWgIdeal.τ).loc Cert.KWgIdeal.main_arg0)
      ∧ r.2.mem ((c.tc : Thread Cert.KWgIdeal.nD Cert.KWgIdeal.τ).loc Cert.KWgIdeal.main_arg1) = m ((c.tc : Thread Cert.KWgIdeal.nD Cert.KWgIdeal.τ).loc Cert.KWgIdeal.main_arg1)
      ∧ r.2.mem ((c.tc : Thread Cert.KWgIdeal.nD Cert.KWgIdeal.τ).loc Cert.KWgIdeal.main_arg2) = m ((c.tc : Thread Cert.KWgIdeal.nD Cert.KWgIdeal.τ).loc Cert.KWgIdeal.main_arg2)
      ∧ r.2.mem ((c.tc : Thread Cert.KWgIdeal.nD Cert.KWgIdeal.τ).loc Cert.KWgIdeal.main_arg3) = m ((c.tc : Thread Cert.KWgIdeal.nD Cert.KWgIdeal.τ).loc Cert.KWgIdeal.main_arg3)
      ∧ r.2.mem ((c.tc : Thread Cert.KWgIdeal.nD Cert.KWgIdeal.τ).loc Cert.KWgIdeal.main_arg4) = m ((c.tc : Thread Cert.KWgIdeal.nD Cert.KWgIdeal.τ).loc Cert.KWgIdeal.main_arg4))
      ∧ r.2.sem = fun _ => 0)

def quiescent_KWgIdeal_pre_finite_wg [hKWgIdeal : Cert.KWgIdeal.Facts] [hPre_finite_wg : Cert.Pre_finite_wg.Facts] : Prop :=
  ∀ (m : (ℓ : Loc Cert.KWgIdeal.nD Cert.KWgIdeal.τ Cert.KWgIdeal.sig) → Buf (Elt Ideal) ℓ) (g : Dev Cert.KWgIdeal.nD → PrngReg), Pre_KWgIdeal_finite_wg m →
    θ_run (Cert.KWgIdeal.defs (F := Ideal)) (onTc (τ := Cert.KWgIdeal.τ) (Cert.KWgIdeal.main (F := Ideal))) ⟨m, fun _ => 0, g⟩ (fun r => (∀ c : Dev Cert.KWgIdeal.nD,
      r.2.mem ((c.tc : Thread Cert.KWgIdeal.nD Cert.KWgIdeal.τ).loc Cert.KWgIdeal.main_arg0) = m ((c.tc : Thread Cert.KWgIdeal.nD Cert.KWgIdeal.τ).loc Cert.KWgIdeal.main_arg0)
      ∧ r.2.mem ((c.tc : Thread Cert.KWgIdeal.nD Cert.KWgIdeal.τ).loc Cert.KWgIdeal.main_arg1) = m ((c.tc : Thread Cert.KWgIdeal.nD Cert.KWgIdeal.τ).loc Cert.KWgIdeal.main_arg1)
      ∧ r.2.mem ((c.tc : Thread Cert.KWgIdeal.nD Cert.KWgIdeal.τ).loc Cert.KWgIdeal.main_arg2) = m ((c.tc : Thread Cert.KWgIdeal.nD Cert.KWgIdeal.τ).loc Cert.KWgIdeal.main_arg2)
      ∧ r.2.mem ((c.tc : Thread Cert.KWgIdeal.nD Cert.KWgIdeal.τ).loc Cert.KWgIdeal.main_arg3) = m ((c.tc : Thread Cert.KWgIdeal.nD Cert.KWgIdeal.τ).loc Cert.KWgIdeal.main_arg3)
      ∧ r.2.mem ((c.tc : Thread Cert.KWgIdeal.nD Cert.KWgIdeal.τ).loc Cert.KWgIdeal.main_arg4) = m ((c.tc : Thread Cert.KWgIdeal.nD Cert.KWgIdeal.τ).loc Cert.KWgIdeal.main_arg4))
      ∧ r.2.sem = fun _ => 0)

def quiescent_RWgIdeal [hRWgIdeal : Cert.RWgIdeal.Facts] : Prop :=
  ∀ (m : (ℓ : Loc Cert.RWgIdeal.nD Cert.RWgIdeal.τ Cert.RWgIdeal.sig) → Buf (Elt Ideal) ℓ) (g : Dev Cert.RWgIdeal.nD → PrngReg), Pre_RWgIdeal m →
    θ_run (Cert.RWgIdeal.defs (F := Ideal)) (onTc (τ := Cert.RWgIdeal.τ) (Cert.RWgIdeal.main (F := Ideal))) ⟨m, fun _ => 0, g⟩ (fun r => (∀ c : Dev Cert.RWgIdeal.nD,
      r.2.mem ((c.tc : Thread Cert.RWgIdeal.nD Cert.RWgIdeal.τ).loc Cert.RWgIdeal.main_arg0) = m ((c.tc : Thread Cert.RWgIdeal.nD Cert.RWgIdeal.τ).loc Cert.RWgIdeal.main_arg0)
      ∧ r.2.mem ((c.tc : Thread Cert.RWgIdeal.nD Cert.RWgIdeal.τ).loc Cert.RWgIdeal.main_arg1) = m ((c.tc : Thread Cert.RWgIdeal.nD Cert.RWgIdeal.τ).loc Cert.RWgIdeal.main_arg1)
      ∧ r.2.mem ((c.tc : Thread Cert.RWgIdeal.nD Cert.RWgIdeal.τ).loc Cert.RWgIdeal.main_arg2) = m ((c.tc : Thread Cert.RWgIdeal.nD Cert.RWgIdeal.τ).loc Cert.RWgIdeal.main_arg2)
      ∧ r.2.mem ((c.tc : Thread Cert.RWgIdeal.nD Cert.RWgIdeal.τ).loc Cert.RWgIdeal.main_arg3) = m ((c.tc : Thread Cert.RWgIdeal.nD Cert.RWgIdeal.τ).loc Cert.RWgIdeal.main_arg3)
      ∧ r.2.mem ((c.tc : Thread Cert.RWgIdeal.nD Cert.RWgIdeal.τ).loc Cert.RWgIdeal.main_arg4) = m ((c.tc : Thread Cert.RWgIdeal.nD Cert.RWgIdeal.τ).loc Cert.RWgIdeal.main_arg4))
      ∧ r.2.sem = fun _ => 0)

def quiescent_RWgIdeal_pre_finite_wg [hRWgIdeal : Cert.RWgIdeal.Facts] [hPre_finite_wg : Cert.Pre_finite_wg.Facts] : Prop :=
  ∀ (m : (ℓ : Loc Cert.RWgIdeal.nD Cert.RWgIdeal.τ Cert.RWgIdeal.sig) → Buf (Elt Ideal) ℓ) (g : Dev Cert.RWgIdeal.nD → PrngReg), Pre_RWgIdeal_finite_wg m →
    θ_run (Cert.RWgIdeal.defs (F := Ideal)) (onTc (τ := Cert.RWgIdeal.τ) (Cert.RWgIdeal.main (F := Ideal))) ⟨m, fun _ => 0, g⟩ (fun r => (∀ c : Dev Cert.RWgIdeal.nD,
      r.2.mem ((c.tc : Thread Cert.RWgIdeal.nD Cert.RWgIdeal.τ).loc Cert.RWgIdeal.main_arg0) = m ((c.tc : Thread Cert.RWgIdeal.nD Cert.RWgIdeal.τ).loc Cert.RWgIdeal.main_arg0)
      ∧ r.2.mem ((c.tc : Thread Cert.RWgIdeal.nD Cert.RWgIdeal.τ).loc Cert.RWgIdeal.main_arg1) = m ((c.tc : Thread Cert.RWgIdeal.nD Cert.RWgIdeal.τ).loc Cert.RWgIdeal.main_arg1)
      ∧ r.2.mem ((c.tc : Thread Cert.RWgIdeal.nD Cert.RWgIdeal.τ).loc Cert.RWgIdeal.main_arg2) = m ((c.tc : Thread Cert.RWgIdeal.nD Cert.RWgIdeal.τ).loc Cert.RWgIdeal.main_arg2)
      ∧ r.2.mem ((c.tc : Thread Cert.RWgIdeal.nD Cert.RWgIdeal.τ).loc Cert.RWgIdeal.main_arg3) = m ((c.tc : Thread Cert.RWgIdeal.nD Cert.RWgIdeal.τ).loc Cert.RWgIdeal.main_arg3)
      ∧ r.2.mem ((c.tc : Thread Cert.RWgIdeal.nD Cert.RWgIdeal.τ).loc Cert.RWgIdeal.main_arg4) = m ((c.tc : Thread Cert.RWgIdeal.nD Cert.RWgIdeal.τ).loc Cert.RWgIdeal.main_arg4))
      ∧ r.2.sem = fun _ => 0)

def quiescent_KIn [hKIn : Cert.KIn.Facts] : Prop :=
  ∀ (m : (ℓ : Loc Cert.KIn.nD Cert.KIn.τ Cert.KIn.sig) → Buf (Elt Bits) ℓ) (g : Dev Cert.KIn.nD → PrngReg), Pre_KIn m →
    θ_run (Cert.KIn.defs (F := Bits)) (onTc (τ := Cert.KIn.τ) (Cert.KIn.main (F := Bits))) ⟨m, fun _ => 0, g⟩ (fun r => (∀ c : Dev Cert.KIn.nD,
      r.2.mem ((c.tc : Thread Cert.KIn.nD Cert.KIn.τ).loc Cert.KIn.main_arg0) = m ((c.tc : Thread Cert.KIn.nD Cert.KIn.τ).loc Cert.KIn.main_arg0)
      ∧ r.2.mem ((c.tc : Thread Cert.KIn.nD Cert.KIn.τ).loc Cert.KIn.main_arg1) = m ((c.tc : Thread Cert.KIn.nD Cert.KIn.τ).loc Cert.KIn.main_arg1)
      ∧ r.2.mem ((c.tc : Thread Cert.KIn.nD Cert.KIn.τ).loc Cert.KIn.main_arg2) = m ((c.tc : Thread Cert.KIn.nD Cert.KIn.τ).loc Cert.KIn.main_arg2)
      ∧ r.2.mem ((c.tc : Thread Cert.KIn.nD Cert.KIn.τ).loc Cert.KIn.main_arg3) = m ((c.tc : Thread Cert.KIn.nD Cert.KIn.τ).loc Cert.KIn.main_arg3)
      ∧ r.2.mem ((c.tc : Thread Cert.KIn.nD Cert.KIn.τ).loc Cert.KIn.main_arg4) = m ((c.tc : Thread Cert.KIn.nD Cert.KIn.τ).loc Cert.KIn.main_arg4)
      ∧ r.2.mem ((c.tc : Thread Cert.KIn.nD Cert.KIn.τ).loc Cert.KIn.main_arg5) = m ((c.tc : Thread Cert.KIn.nD Cert.KIn.τ).loc Cert.KIn.main_arg5)
      ∧ r.2.mem ((c.tc : Thread Cert.KIn.nD Cert.KIn.τ).loc Cert.KIn.main_arg6) = m ((c.tc : Thread Cert.KIn.nD Cert.KIn.τ).loc Cert.KIn.main_arg6)
      ∧ r.2.mem ((c.tc : Thread Cert.KIn.nD Cert.KIn.τ).loc Cert.KIn.main_arg7) = m ((c.tc : Thread Cert.KIn.nD Cert.KIn.τ).loc Cert.KIn.main_arg7))
      ∧ r.2.sem = fun _ => 0)

def quiescent_KInIdeal [hKInIdeal : Cert.KInIdeal.Facts] : Prop :=
  ∀ (m : (ℓ : Loc Cert.KInIdeal.nD Cert.KInIdeal.τ Cert.KInIdeal.sig) → Buf (Elt Ideal) ℓ) (g : Dev Cert.KInIdeal.nD → PrngReg), Pre_KInIdeal m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
      ∧ r.2.mem ((c.tc : Thread Cert.KInIdeal.nD Cert.KInIdeal.τ).loc Cert.KInIdeal.main_arg2) = m ((c.tc : Thread Cert.KInIdeal.nD Cert.KInIdeal.τ).loc Cert.KInIdeal.main_arg2)
      ∧ r.2.mem ((c.tc : Thread Cert.KInIdeal.nD Cert.KInIdeal.τ).loc Cert.KInIdeal.main_arg3) = m ((c.tc : Thread Cert.KInIdeal.nD Cert.KInIdeal.τ).loc Cert.KInIdeal.main_arg3)
      ∧ r.2.mem ((c.tc : Thread Cert.KInIdeal.nD Cert.KInIdeal.τ).loc Cert.KInIdeal.main_arg4) = m ((c.tc : Thread Cert.KInIdeal.nD Cert.KInIdeal.τ).loc Cert.KInIdeal.main_arg4)
      ∧ r.2.mem ((c.tc : Thread Cert.KInIdeal.nD Cert.KInIdeal.τ).loc Cert.KInIdeal.main_arg5) = m ((c.tc : Thread Cert.KInIdeal.nD Cert.KInIdeal.τ).loc Cert.KInIdeal.main_arg5)
      ∧ r.2.mem ((c.tc : Thread Cert.KInIdeal.nD Cert.KInIdeal.τ).loc Cert.KInIdeal.main_arg6) = m ((c.tc : Thread Cert.KInIdeal.nD Cert.KInIdeal.τ).loc Cert.KInIdeal.main_arg6)
      ∧ r.2.mem ((c.tc : Thread Cert.KInIdeal.nD Cert.KInIdeal.τ).loc Cert.KInIdeal.main_arg7) = m ((c.tc : Thread Cert.KInIdeal.nD Cert.KInIdeal.τ).loc Cert.KInIdeal.main_arg7))
      ∧ r.2.sem = fun _ => 0)

def quiescent_KInIdeal_pre_finite_in [hKInIdeal : Cert.KInIdeal.Facts] [hPre_finite_in : Cert.Pre_finite_in.Facts] : Prop :=
  ∀ (m : (ℓ : Loc Cert.KInIdeal.nD Cert.KInIdeal.τ Cert.KInIdeal.sig) → Buf (Elt Ideal) ℓ) (g : Dev Cert.KInIdeal.nD → PrngReg), Pre_KInIdeal_finite_in m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
      ∧ r.2.mem ((c.tc : Thread Cert.KInIdeal.nD Cert.KInIdeal.τ).loc Cert.KInIdeal.main_arg2) = m ((c.tc : Thread Cert.KInIdeal.nD Cert.KInIdeal.τ).loc Cert.KInIdeal.main_arg2)
      ∧ r.2.mem ((c.tc : Thread Cert.KInIdeal.nD Cert.KInIdeal.τ).loc Cert.KInIdeal.main_arg3) = m ((c.tc : Thread Cert.KInIdeal.nD Cert.KInIdeal.τ).loc Cert.KInIdeal.main_arg3)
      ∧ r.2.mem ((c.tc : Thread Cert.KInIdeal.nD Cert.KInIdeal.τ).loc Cert.KInIdeal.main_arg4) = m ((c.tc : Thread Cert.KInIdeal.nD Cert.KInIdeal.τ).loc Cert.KInIdeal.main_arg4)
      ∧ r.2.mem ((c.tc : Thread Cert.KInIdeal.nD Cert.KInIdeal.τ).loc Cert.KInIdeal.main_arg5) = m ((c.tc : Thread Cert.KInIdeal.nD Cert.KInIdeal.τ).loc Cert.KInIdeal.main_arg5)
      ∧ r.2.mem ((c.tc : Thread Cert.KInIdeal.nD Cert.KInIdeal.τ).loc Cert.KInIdeal.main_arg6) = m ((c.tc : Thread Cert.KInIdeal.nD Cert.KInIdeal.τ).loc Cert.KInIdeal.main_arg6)
      ∧ r.2.mem ((c.tc : Thread Cert.KInIdeal.nD Cert.KInIdeal.τ).loc Cert.KInIdeal.main_arg7) = m ((c.tc : Thread Cert.KInIdeal.nD Cert.KInIdeal.τ).loc Cert.KInIdeal.main_arg7))
      ∧ r.2.sem = fun _ => 0)

def quiescent_RInIdeal [hRInIdeal : Cert.RInIdeal.Facts] : Prop :=
  ∀ (m : (ℓ : Loc Cert.RInIdeal.nD Cert.RInIdeal.τ Cert.RInIdeal.sig) → Buf (Elt Ideal) ℓ) (g : Dev Cert.RInIdeal.nD → PrngReg), Pre_RInIdeal m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1)
      ∧ r.2.mem ((c.tc : Thread Cert.RInIdeal.nD Cert.RInIdeal.τ).loc Cert.RInIdeal.main_arg2) = m ((c.tc : Thread Cert.RInIdeal.nD Cert.RInIdeal.τ).loc Cert.RInIdeal.main_arg2)
      ∧ r.2.mem ((c.tc : Thread Cert.RInIdeal.nD Cert.RInIdeal.τ).loc Cert.RInIdeal.main_arg3) = m ((c.tc : Thread Cert.RInIdeal.nD Cert.RInIdeal.τ).loc Cert.RInIdeal.main_arg3)
      ∧ r.2.mem ((c.tc : Thread Cert.RInIdeal.nD Cert.RInIdeal.τ).loc Cert.RInIdeal.main_arg4) = m ((c.tc : Thread Cert.RInIdeal.nD Cert.RInIdeal.τ).loc Cert.RInIdeal.main_arg4)
      ∧ r.2.mem ((c.tc : Thread Cert.RInIdeal.nD Cert.RInIdeal.τ).loc Cert.RInIdeal.main_arg5) = m ((c.tc : Thread Cert.RInIdeal.nD Cert.RInIdeal.τ).loc Cert.RInIdeal.main_arg5)
      ∧ r.2.mem ((c.tc : Thread Cert.RInIdeal.nD Cert.RInIdeal.τ).loc Cert.RInIdeal.main_arg6) = m ((c.tc : Thread Cert.RInIdeal.nD Cert.RInIdeal.τ).loc Cert.RInIdeal.main_arg6)
      ∧ r.2.mem ((c.tc : Thread Cert.RInIdeal.nD Cert.RInIdeal.τ).loc Cert.RInIdeal.main_arg7) = m ((c.tc : Thread Cert.RInIdeal.nD Cert.RInIdeal.τ).loc Cert.RInIdeal.main_arg7))
      ∧ r.2.sem = fun _ => 0)

def quiescent_RInIdeal_pre_finite_in [hRInIdeal : Cert.RInIdeal.Facts] [hPre_finite_in : Cert.Pre_finite_in.Facts] : Prop :=
  ∀ (m : (ℓ : Loc Cert.RInIdeal.nD Cert.RInIdeal.τ Cert.RInIdeal.sig) → Buf (Elt Ideal) ℓ) (g : Dev Cert.RInIdeal.nD → PrngReg), Pre_RInIdeal_finite_in m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1)
      ∧ r.2.mem ((c.tc : Thread Cert.RInIdeal.nD Cert.RInIdeal.τ).loc Cert.RInIdeal.main_arg2) = m ((c.tc : Thread Cert.RInIdeal.nD Cert.RInIdeal.τ).loc Cert.RInIdeal.main_arg2)
      ∧ r.2.mem ((c.tc : Thread Cert.RInIdeal.nD Cert.RInIdeal.τ).loc Cert.RInIdeal.main_arg3) = m ((c.tc : Thread Cert.RInIdeal.nD Cert.RInIdeal.τ).loc Cert.RInIdeal.main_arg3)
      ∧ r.2.mem ((c.tc : Thread Cert.RInIdeal.nD Cert.RInIdeal.τ).loc Cert.RInIdeal.main_arg4) = m ((c.tc : Thread Cert.RInIdeal.nD Cert.RInIdeal.τ).loc Cert.RInIdeal.main_arg4)
      ∧ r.2.mem ((c.tc : Thread Cert.RInIdeal.nD Cert.RInIdeal.τ).loc Cert.RInIdeal.main_arg5) = m ((c.tc : Thread Cert.RInIdeal.nD Cert.RInIdeal.τ).loc Cert.RInIdeal.main_arg5)
      ∧ r.2.mem ((c.tc : Thread Cert.RInIdeal.nD Cert.RInIdeal.τ).loc Cert.RInIdeal.main_arg6) = m ((c.tc : Thread Cert.RInIdeal.nD Cert.RInIdeal.τ).loc Cert.RInIdeal.main_arg6)
      ∧ r.2.mem ((c.tc : Thread Cert.RInIdeal.nD Cert.RInIdeal.τ).loc Cert.RInIdeal.main_arg7) = m ((c.tc : Thread Cert.RInIdeal.nD Cert.RInIdeal.τ).loc Cert.RInIdeal.main_arg7))
      ∧ r.2.sem = fun _ => 0)

def quiescent_KUp [hKUp : Cert.KUp.Facts] : Prop :=
  ∀ (m : (ℓ : Loc Cert.KUp.nD Cert.KUp.τ Cert.KUp.sig) → Buf (Elt Bits) ℓ) (g : Dev Cert.KUp.nD → PrngReg), Pre_KUp m →
    θ_run (Cert.KUp.defs (F := Bits)) (onTc (τ := Cert.KUp.τ) (Cert.KUp.main (F := Bits))) ⟨m, fun _ => 0, g⟩ (fun r => (∀ c : Dev Cert.KUp.nD,
      r.2.mem ((c.tc : Thread Cert.KUp.nD Cert.KUp.τ).loc Cert.KUp.main_arg0) = m ((c.tc : Thread Cert.KUp.nD Cert.KUp.τ).loc Cert.KUp.main_arg0)
      ∧ r.2.mem ((c.tc : Thread Cert.KUp.nD Cert.KUp.τ).loc Cert.KUp.main_arg1) = m ((c.tc : Thread Cert.KUp.nD Cert.KUp.τ).loc Cert.KUp.main_arg1)
      ∧ r.2.mem ((c.tc : Thread Cert.KUp.nD Cert.KUp.τ).loc Cert.KUp.main_arg2) = m ((c.tc : Thread Cert.KUp.nD Cert.KUp.τ).loc Cert.KUp.main_arg2)
      ∧ r.2.mem ((c.tc : Thread Cert.KUp.nD Cert.KUp.τ).loc Cert.KUp.main_arg3) = m ((c.tc : Thread Cert.KUp.nD Cert.KUp.τ).loc Cert.KUp.main_arg3)
      ∧ r.2.mem ((c.tc : Thread Cert.KUp.nD Cert.KUp.τ).loc Cert.KUp.main_arg4) = m ((c.tc : Thread Cert.KUp.nD Cert.KUp.τ).loc Cert.KUp.main_arg4)
      ∧ r.2.mem ((c.tc : Thread Cert.KUp.nD Cert.KUp.τ).loc Cert.KUp.main_arg5) = m ((c.tc : Thread Cert.KUp.nD Cert.KUp.τ).loc Cert.KUp.main_arg5))
      ∧ r.2.sem = fun _ => 0)

def quiescent_KUpIdeal [hKUpIdeal : Cert.KUpIdeal.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
      ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
      ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3)
      ∧ r.2.mem ((c.tc : Thread Cert.KUpIdeal.nD Cert.KUpIdeal.τ).loc Cert.KUpIdeal.main_arg4) = m ((c.tc : Thread Cert.KUpIdeal.nD Cert.KUpIdeal.τ).loc Cert.KUpIdeal.main_arg4)
      ∧ r.2.mem ((c.tc : Thread Cert.KUpIdeal.nD Cert.KUpIdeal.τ).loc Cert.KUpIdeal.main_arg5) = m ((c.tc : Thread Cert.KUpIdeal.nD Cert.KUpIdeal.τ).loc Cert.KUpIdeal.main_arg5))
      ∧ r.2.sem = fun _ => 0)

def quiescent_KUpIdeal_pre_finite_up [hKUpIdeal : Cert.KUpIdeal.Facts] [hPre_finite_up : Cert.Pre_finite_up.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal_finite_up m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
      ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
      ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3)
      ∧ r.2.mem ((c.tc : Thread Cert.KUpIdeal.nD Cert.KUpIdeal.τ).loc Cert.KUpIdeal.main_arg4) = m ((c.tc : Thread Cert.KUpIdeal.nD Cert.KUpIdeal.τ).loc Cert.KUpIdeal.main_arg4)
      ∧ r.2.mem ((c.tc : Thread Cert.KUpIdeal.nD Cert.KUpIdeal.τ).loc Cert.KUpIdeal.main_arg5) = m ((c.tc : Thread Cert.KUpIdeal.nD Cert.KUpIdeal.τ).loc Cert.KUpIdeal.main_arg5))
      ∧ r.2.sem = fun _ => 0)

def quiescent_RUpIdeal [hRUpIdeal : Cert.RUpIdeal.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1)
      ∧ r.2.mem ((c.tc : Thread Cert.RUpIdeal.nD Cert.RUpIdeal.τ).loc Cert.RUpIdeal.main_arg2) = m ((c.tc : Thread Cert.RUpIdeal.nD Cert.RUpIdeal.τ).loc Cert.RUpIdeal.main_arg2)
      ∧ r.2.mem ((c.tc : Thread Cert.RUpIdeal.nD Cert.RUpIdeal.τ).loc Cert.RUpIdeal.main_arg3) = m ((c.tc : Thread Cert.RUpIdeal.nD Cert.RUpIdeal.τ).loc Cert.RUpIdeal.main_arg3)
      ∧ r.2.mem ((c.tc : Thread Cert.RUpIdeal.nD Cert.RUpIdeal.τ).loc Cert.RUpIdeal.main_arg4) = m ((c.tc : Thread Cert.RUpIdeal.nD Cert.RUpIdeal.τ).loc Cert.RUpIdeal.main_arg4)
      ∧ r.2.mem ((c.tc : Thread Cert.RUpIdeal.nD Cert.RUpIdeal.τ).loc Cert.RUpIdeal.main_arg5) = m ((c.tc : Thread Cert.RUpIdeal.nD Cert.RUpIdeal.τ).loc Cert.RUpIdeal.main_arg5))
      ∧ r.2.sem = fun _ => 0)

def quiescent_RUpIdeal_pre_finite_up [hRUpIdeal : Cert.RUpIdeal.Facts] [hPre_finite_up : Cert.Pre_finite_up.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal_finite_up m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1)
      ∧ r.2.mem ((c.tc : Thread Cert.RUpIdeal.nD Cert.RUpIdeal.τ).loc Cert.RUpIdeal.main_arg2) = m ((c.tc : Thread Cert.RUpIdeal.nD Cert.RUpIdeal.τ).loc Cert.RUpIdeal.main_arg2)
      ∧ r.2.mem ((c.tc : Thread Cert.RUpIdeal.nD Cert.RUpIdeal.τ).loc Cert.RUpIdeal.main_arg3) = m ((c.tc : Thread Cert.RUpIdeal.nD Cert.RUpIdeal.τ).loc Cert.RUpIdeal.main_arg3)
      ∧ r.2.mem ((c.tc : Thread Cert.RUpIdeal.nD Cert.RUpIdeal.τ).loc Cert.RUpIdeal.main_arg4) = m ((c.tc : Thread Cert.RUpIdeal.nD Cert.RUpIdeal.τ).loc Cert.RUpIdeal.main_arg4)
      ∧ r.2.mem ((c.tc : Thread Cert.RUpIdeal.nD Cert.RUpIdeal.τ).loc Cert.RUpIdeal.main_arg5) = m ((c.tc : Thread Cert.RUpIdeal.nD Cert.RUpIdeal.τ).loc Cert.RUpIdeal.main_arg5))
      ∧ r.2.sem = fun _ => 0)

def quiescent_KDn [hKDn : Cert.KDn.Facts] : Prop :=
  ∀ (m : (ℓ : Loc Cert.KDn.nD Cert.KDn.τ Cert.KDn.sig) → Buf (Elt Bits) ℓ) (g : Dev Cert.KDn.nD → PrngReg), Pre_KDn m →
    θ_run (Cert.KDn.defs (F := Bits)) (onTc (τ := Cert.KDn.τ) (Cert.KDn.main (F := Bits))) ⟨m, fun _ => 0, g⟩ (fun r => (∀ c : Dev Cert.KDn.nD,
      r.2.mem ((c.tc : Thread Cert.KDn.nD Cert.KDn.τ).loc Cert.KDn.main_arg0) = m ((c.tc : Thread Cert.KDn.nD Cert.KDn.τ).loc Cert.KDn.main_arg0)
      ∧ r.2.mem ((c.tc : Thread Cert.KDn.nD Cert.KDn.τ).loc Cert.KDn.main_arg1) = m ((c.tc : Thread Cert.KDn.nD Cert.KDn.τ).loc Cert.KDn.main_arg1)
      ∧ r.2.mem ((c.tc : Thread Cert.KDn.nD Cert.KDn.τ).loc Cert.KDn.main_arg2) = m ((c.tc : Thread Cert.KDn.nD Cert.KDn.τ).loc Cert.KDn.main_arg2)
      ∧ r.2.mem ((c.tc : Thread Cert.KDn.nD Cert.KDn.τ).loc Cert.KDn.main_arg3) = m ((c.tc : Thread Cert.KDn.nD Cert.KDn.τ).loc Cert.KDn.main_arg3)
      ∧ r.2.mem ((c.tc : Thread Cert.KDn.nD Cert.KDn.τ).loc Cert.KDn.main_arg4) = m ((c.tc : Thread Cert.KDn.nD Cert.KDn.τ).loc Cert.KDn.main_arg4)
      ∧ r.2.mem ((c.tc : Thread Cert.KDn.nD Cert.KDn.τ).loc Cert.KDn.main_arg5) = m ((c.tc : Thread Cert.KDn.nD Cert.KDn.τ).loc Cert.KDn.main_arg5))
      ∧ r.2.sem = fun _ => 0)

def quiescent_KDnIdeal [hKDnIdeal : Cert.KDnIdeal.Facts] : Prop :=
  ∀ (m : (ℓ : Loc Cert.KDnIdeal.nD Cert.KDnIdeal.τ Cert.KDnIdeal.sig) → Buf (Elt Ideal) ℓ) (g : Dev Cert.KDnIdeal.nD → PrngReg), Pre_KDnIdeal m →
    θ_run (Cert.KDnIdeal.defs (F := Ideal)) (onTc (τ := Cert.KDnIdeal.τ) (Cert.KDnIdeal.main (F := Ideal))) ⟨m, fun _ => 0, g⟩ (fun r => (∀ c : Dev Cert.KDnIdeal.nD,
      r.2.mem ((c.tc : Thread Cert.KDnIdeal.nD Cert.KDnIdeal.τ).loc Cert.KDnIdeal.main_arg0) = m ((c.tc : Thread Cert.KDnIdeal.nD Cert.KDnIdeal.τ).loc Cert.KDnIdeal.main_arg0)
      ∧ r.2.mem ((c.tc : Thread Cert.KDnIdeal.nD Cert.KDnIdeal.τ).loc Cert.KDnIdeal.main_arg1) = m ((c.tc : Thread Cert.KDnIdeal.nD Cert.KDnIdeal.τ).loc Cert.KDnIdeal.main_arg1)
      ∧ r.2.mem ((c.tc : Thread Cert.KDnIdeal.nD Cert.KDnIdeal.τ).loc Cert.KDnIdeal.main_arg2) = m ((c.tc : Thread Cert.KDnIdeal.nD Cert.KDnIdeal.τ).loc Cert.KDnIdeal.main_arg2)
      ∧ r.2.mem ((c.tc : Thread Cert.KDnIdeal.nD Cert.KDnIdeal.τ).loc Cert.KDnIdeal.main_arg3) = m ((c.tc : Thread Cert.KDnIdeal.nD Cert.KDnIdeal.τ).loc Cert.KDnIdeal.main_arg3)
      ∧ r.2.mem ((c.tc : Thread Cert.KDnIdeal.nD Cert.KDnIdeal.τ).loc Cert.KDnIdeal.main_arg4) = m ((c.tc : Thread Cert.KDnIdeal.nD Cert.KDnIdeal.τ).loc Cert.KDnIdeal.main_arg4)
      ∧ r.2.mem ((c.tc : Thread Cert.KDnIdeal.nD Cert.KDnIdeal.τ).loc Cert.KDnIdeal.main_arg5) = m ((c.tc : Thread Cert.KDnIdeal.nD Cert.KDnIdeal.τ).loc Cert.KDnIdeal.main_arg5))
      ∧ r.2.sem = fun _ => 0)

def quiescent_RDnIdeal [hRDnIdeal : Cert.RDnIdeal.Facts] : Prop :=
  ∀ (m : (ℓ : Loc Cert.RDnIdeal.nD Cert.RDnIdeal.τ Cert.RDnIdeal.sig) → Buf (Elt Ideal) ℓ) (g : Dev Cert.RDnIdeal.nD → PrngReg), Pre_RDnIdeal m →
    θ_run (Cert.RDnIdeal.defs (F := Ideal)) (onTc (τ := Cert.RDnIdeal.τ) (Cert.RDnIdeal.main (F := Ideal))) ⟨m, fun _ => 0, g⟩ (fun r => (∀ c : Dev Cert.RDnIdeal.nD,
      r.2.mem ((c.tc : Thread Cert.RDnIdeal.nD Cert.RDnIdeal.τ).loc Cert.RDnIdeal.main_arg0) = m ((c.tc : Thread Cert.RDnIdeal.nD Cert.RDnIdeal.τ).loc Cert.RDnIdeal.main_arg0)
      ∧ r.2.mem ((c.tc : Thread Cert.RDnIdeal.nD Cert.RDnIdeal.τ).loc Cert.RDnIdeal.main_arg1) = m ((c.tc : Thread Cert.RDnIdeal.nD Cert.RDnIdeal.τ).loc Cert.RDnIdeal.main_arg1)
      ∧ r.2.mem ((c.tc : Thread Cert.RDnIdeal.nD Cert.RDnIdeal.τ).loc Cert.RDnIdeal.main_arg2) = m ((c.tc : Thread Cert.RDnIdeal.nD Cert.RDnIdeal.τ).loc Cert.RDnIdeal.main_arg2)
      ∧ r.2.mem ((c.tc : Thread Cert.RDnIdeal.nD Cert.RDnIdeal.τ).loc Cert.RDnIdeal.main_arg3) = m ((c.tc : Thread Cert.RDnIdeal.nD Cert.RDnIdeal.τ).loc Cert.RDnIdeal.main_arg3)
      ∧ r.2.mem ((c.tc : Thread Cert.RDnIdeal.nD Cert.RDnIdeal.τ).loc Cert.RDnIdeal.main_arg4) = m ((c.tc : Thread Cert.RDnIdeal.nD Cert.RDnIdeal.τ).loc Cert.RDnIdeal.main_arg4)
      ∧ r.2.mem ((c.tc : Thread Cert.RDnIdeal.nD Cert.RDnIdeal.τ).loc Cert.RDnIdeal.main_arg5) = m ((c.tc : Thread Cert.RDnIdeal.nD Cert.RDnIdeal.τ).loc Cert.RDnIdeal.main_arg5))
      ∧ r.2.sem = fun _ => 0)

def quiescent_KAd [hKAd : Cert.KAd.Facts] : Prop :=
  ∀ (m : (ℓ : Loc Cert.KAd.nD Cert.KAd.τ Cert.KAd.sig) → Buf (Elt Bits) ℓ) (g : Dev Cert.KAd.nD → PrngReg), Pre_KAd m →
    θ_run (Cert.KAd.defs (F := Bits)) (onTc (τ := Cert.KAd.τ) (Cert.KAd.main (F := Bits))) ⟨m, fun _ => 0, g⟩ (fun r => (∀ c : Dev Cert.KAd.nD,
      r.2.mem ((c.tc : Thread Cert.KAd.nD Cert.KAd.τ).loc Cert.KAd.main_arg0) = m ((c.tc : Thread Cert.KAd.nD Cert.KAd.τ).loc Cert.KAd.main_arg0)
      ∧ r.2.mem ((c.tc : Thread Cert.KAd.nD Cert.KAd.τ).loc Cert.KAd.main_arg1) = m ((c.tc : Thread Cert.KAd.nD Cert.KAd.τ).loc Cert.KAd.main_arg1)
      ∧ r.2.mem ((c.tc : Thread Cert.KAd.nD Cert.KAd.τ).loc Cert.KAd.main_arg2) = m ((c.tc : Thread Cert.KAd.nD Cert.KAd.τ).loc Cert.KAd.main_arg2)
      ∧ r.2.mem ((c.tc : Thread Cert.KAd.nD Cert.KAd.τ).loc Cert.KAd.main_arg3) = m ((c.tc : Thread Cert.KAd.nD Cert.KAd.τ).loc Cert.KAd.main_arg3))
      ∧ r.2.sem = fun _ => 0)

def quiescent_KAdIdeal [hKAdIdeal : Cert.KAdIdeal.Facts] : Prop :=
  ∀ (m : (ℓ : Loc Cert.KAdIdeal.nD Cert.KAdIdeal.τ Cert.KAdIdeal.sig) → Buf (Elt Ideal) ℓ) (g : Dev Cert.KAdIdeal.nD → PrngReg), Pre_KAdIdeal m →
    θ_run (Cert.KAdIdeal.defs (F := Ideal)) (onTc (τ := Cert.KAdIdeal.τ) (Cert.KAdIdeal.main (F := Ideal))) ⟨m, fun _ => 0, g⟩ (fun r => (∀ c : Dev Cert.KAdIdeal.nD,
      r.2.mem ((c.tc : Thread Cert.KAdIdeal.nD Cert.KAdIdeal.τ).loc Cert.KAdIdeal.main_arg0) = m ((c.tc : Thread Cert.KAdIdeal.nD Cert.KAdIdeal.τ).loc Cert.KAdIdeal.main_arg0)
      ∧ r.2.mem ((c.tc : Thread Cert.KAdIdeal.nD Cert.KAdIdeal.τ).loc Cert.KAdIdeal.main_arg1) = m ((c.tc : Thread Cert.KAdIdeal.nD Cert.KAdIdeal.τ).loc Cert.KAdIdeal.main_arg1)
      ∧ r.2.mem ((c.tc : Thread Cert.KAdIdeal.nD Cert.KAdIdeal.τ).loc Cert.KAdIdeal.main_arg2) = m ((c.tc : Thread Cert.KAdIdeal.nD Cert.KAdIdeal.τ).loc Cert.KAdIdeal.main_arg2)
      ∧ r.2.mem ((c.tc : Thread Cert.KAdIdeal.nD Cert.KAdIdeal.τ).loc Cert.KAdIdeal.main_arg3) = m ((c.tc : Thread Cert.KAdIdeal.nD Cert.KAdIdeal.τ).loc Cert.KAdIdeal.main_arg3))
      ∧ r.2.sem = fun _ => 0)

def quiescent_RAdIdeal [hRAdIdeal : Cert.RAdIdeal.Facts] : Prop :=
  ∀ (m : (ℓ : Loc Cert.RAdIdeal.nD Cert.RAdIdeal.τ Cert.RAdIdeal.sig) → Buf (Elt Ideal) ℓ) (g : Dev Cert.RAdIdeal.nD → PrngReg), Pre_RAdIdeal m →
    θ_run (Cert.RAdIdeal.defs (F := Ideal)) (onTc (τ := Cert.RAdIdeal.τ) (Cert.RAdIdeal.main (F := Ideal))) ⟨m, fun _ => 0, g⟩ (fun r => (∀ c : Dev Cert.RAdIdeal.nD,
      r.2.mem ((c.tc : Thread Cert.RAdIdeal.nD Cert.RAdIdeal.τ).loc Cert.RAdIdeal.main_arg0) = m ((c.tc : Thread Cert.RAdIdeal.nD Cert.RAdIdeal.τ).loc Cert.RAdIdeal.main_arg0)
      ∧ r.2.mem ((c.tc : Thread Cert.RAdIdeal.nD Cert.RAdIdeal.τ).loc Cert.RAdIdeal.main_arg1) = m ((c.tc : Thread Cert.RAdIdeal.nD Cert.RAdIdeal.τ).loc Cert.RAdIdeal.main_arg1)
      ∧ r.2.mem ((c.tc : Thread Cert.RAdIdeal.nD Cert.RAdIdeal.τ).loc Cert.RAdIdeal.main_arg2) = m ((c.tc : Thread Cert.RAdIdeal.nD Cert.RAdIdeal.τ).loc Cert.RAdIdeal.main_arg2)
      ∧ r.2.mem ((c.tc : Thread Cert.RAdIdeal.nD Cert.RAdIdeal.τ).loc Cert.RAdIdeal.main_arg3) = m ((c.tc : Thread Cert.RAdIdeal.nD Cert.RAdIdeal.τ).loc Cert.RAdIdeal.main_arg3))
      ∧ r.2.sem = fun _ => 0)

def quiescent_KAu [hKAu : Cert.KAu.Facts] : Prop :=
  ∀ (m : (ℓ : Loc Cert.KAu.nD Cert.KAu.τ Cert.KAu.sig) → Buf (Elt Bits) ℓ) (g : Dev Cert.KAu.nD → PrngReg), Pre_KAu m →
    θ_run (Cert.KAu.defs (F := Bits)) (onTc (τ := Cert.KAu.τ) (Cert.KAu.main (F := Bits))) ⟨m, fun _ => 0, g⟩ (fun r => (∀ c : Dev Cert.KAu.nD,
      r.2.mem ((c.tc : Thread Cert.KAu.nD Cert.KAu.τ).loc Cert.KAu.main_arg0) = m ((c.tc : Thread Cert.KAu.nD Cert.KAu.τ).loc Cert.KAu.main_arg0)
      ∧ r.2.mem ((c.tc : Thread Cert.KAu.nD Cert.KAu.τ).loc Cert.KAu.main_arg1) = m ((c.tc : Thread Cert.KAu.nD Cert.KAu.τ).loc Cert.KAu.main_arg1)
      ∧ r.2.mem ((c.tc : Thread Cert.KAu.nD Cert.KAu.τ).loc Cert.KAu.main_arg2) = m ((c.tc : Thread Cert.KAu.nD Cert.KAu.τ).loc Cert.KAu.main_arg2)
      ∧ r.2.mem ((c.tc : Thread Cert.KAu.nD Cert.KAu.τ).loc Cert.KAu.main_arg3) = m ((c.tc : Thread Cert.KAu.nD Cert.KAu.τ).loc Cert.KAu.main_arg3))
      ∧ r.2.sem = fun _ => 0)

def quiescent_KAuIdeal [hKAuIdeal : Cert.KAuIdeal.Facts] : Prop :=
  ∀ (m : (ℓ : Loc Cert.KAuIdeal.nD Cert.KAuIdeal.τ Cert.KAuIdeal.sig) → Buf (Elt Ideal) ℓ) (g : Dev Cert.KAuIdeal.nD → PrngReg), Pre_KAuIdeal m →
    θ_run (Cert.KAuIdeal.defs (F := Ideal)) (onTc (τ := Cert.KAuIdeal.τ) (Cert.KAuIdeal.main (F := Ideal))) ⟨m, fun _ => 0, g⟩ (fun r => (∀ c : Dev Cert.KAuIdeal.nD,
      r.2.mem ((c.tc : Thread Cert.KAuIdeal.nD Cert.KAuIdeal.τ).loc Cert.KAuIdeal.main_arg0) = m ((c.tc : Thread Cert.KAuIdeal.nD Cert.KAuIdeal.τ).loc Cert.KAuIdeal.main_arg0)
      ∧ r.2.mem ((c.tc : Thread Cert.KAuIdeal.nD Cert.KAuIdeal.τ).loc Cert.KAuIdeal.main_arg1) = m ((c.tc : Thread Cert.KAuIdeal.nD Cert.KAuIdeal.τ).loc Cert.KAuIdeal.main_arg1)
      ∧ r.2.mem ((c.tc : Thread Cert.KAuIdeal.nD Cert.KAuIdeal.τ).loc Cert.KAuIdeal.main_arg2) = m ((c.tc : Thread Cert.KAuIdeal.nD Cert.KAuIdeal.τ).loc Cert.KAuIdeal.main_arg2)
      ∧ r.2.mem ((c.tc : Thread Cert.KAuIdeal.nD Cert.KAuIdeal.τ).loc Cert.KAuIdeal.main_arg3) = m ((c.tc : Thread Cert.KAuIdeal.nD Cert.KAuIdeal.τ).loc Cert.KAuIdeal.main_arg3))
      ∧ r.2.sem = fun _ => 0)

def quiescent_RAuIdeal [hRAuIdeal : Cert.RAuIdeal.Facts] : Prop :=
  ∀ (m : (ℓ : Loc Cert.RAuIdeal.nD Cert.RAuIdeal.τ Cert.RAuIdeal.sig) → Buf (Elt Ideal) ℓ) (g : Dev Cert.RAuIdeal.nD → PrngReg), Pre_RAuIdeal m →
    θ_run (Cert.RAuIdeal.defs (F := Ideal)) (onTc (τ := Cert.RAuIdeal.τ) (Cert.RAuIdeal.main (F := Ideal))) ⟨m, fun _ => 0, g⟩ (fun r => (∀ c : Dev Cert.RAuIdeal.nD,
      r.2.mem ((c.tc : Thread Cert.RAuIdeal.nD Cert.RAuIdeal.τ).loc Cert.RAuIdeal.main_arg0) = m ((c.tc : Thread Cert.RAuIdeal.nD Cert.RAuIdeal.τ).loc Cert.RAuIdeal.main_arg0)
      ∧ r.2.mem ((c.tc : Thread Cert.RAuIdeal.nD Cert.RAuIdeal.τ).loc Cert.RAuIdeal.main_arg1) = m ((c.tc : Thread Cert.RAuIdeal.nD Cert.RAuIdeal.τ).loc Cert.RAuIdeal.main_arg1)
      ∧ r.2.mem ((c.tc : Thread Cert.RAuIdeal.nD Cert.RAuIdeal.τ).loc Cert.RAuIdeal.main_arg2) = m ((c.tc : Thread Cert.RAuIdeal.nD Cert.RAuIdeal.τ).loc Cert.RAuIdeal.main_arg2)
      ∧ r.2.mem ((c.tc : Thread Cert.RAuIdeal.nD Cert.RAuIdeal.τ).loc Cert.RAuIdeal.main_arg3) = m ((c.tc : Thread Cert.RAuIdeal.nD Cert.RAuIdeal.τ).loc Cert.RAuIdeal.main_arg3))
      ∧ r.2.sem = fun _ => 0)

def quiescent_KAi [hKAi : Cert.KAi.Facts] : Prop :=
  ∀ (m : (ℓ : Loc Cert.KAi.nD Cert.KAi.τ Cert.KAi.sig) → Buf (Elt Bits) ℓ) (g : Dev Cert.KAi.nD → PrngReg), Pre_KAi m →
    θ_run (Cert.KAi.defs (F := Bits)) (onTc (τ := Cert.KAi.τ) (Cert.KAi.main (F := Bits))) ⟨m, fun _ => 0, g⟩ (fun r => (∀ c : Dev Cert.KAi.nD,
      r.2.mem ((c.tc : Thread Cert.KAi.nD Cert.KAi.τ).loc Cert.KAi.main_arg0) = m ((c.tc : Thread Cert.KAi.nD Cert.KAi.τ).loc Cert.KAi.main_arg0)
      ∧ r.2.mem ((c.tc : Thread Cert.KAi.nD Cert.KAi.τ).loc Cert.KAi.main_arg1) = m ((c.tc : Thread Cert.KAi.nD Cert.KAi.τ).loc Cert.KAi.main_arg1)
      ∧ r.2.mem ((c.tc : Thread Cert.KAi.nD Cert.KAi.τ).loc Cert.KAi.main_arg2) = m ((c.tc : Thread Cert.KAi.nD Cert.KAi.τ).loc Cert.KAi.main_arg2)
      ∧ r.2.mem ((c.tc : Thread Cert.KAi.nD Cert.KAi.τ).loc Cert.KAi.main_arg3) = m ((c.tc : Thread Cert.KAi.nD Cert.KAi.τ).loc Cert.KAi.main_arg3))
      ∧ r.2.sem = fun _ => 0)

def quiescent_KAiIdeal [hKAiIdeal : Cert.KAiIdeal.Facts] : Prop :=
  ∀ (m : (ℓ : Loc Cert.KAiIdeal.nD Cert.KAiIdeal.τ Cert.KAiIdeal.sig) → Buf (Elt Ideal) ℓ) (g : Dev Cert.KAiIdeal.nD → PrngReg), Pre_KAiIdeal m →
    θ_run (Cert.KAiIdeal.defs (F := Ideal)) (onTc (τ := Cert.KAiIdeal.τ) (Cert.KAiIdeal.main (F := Ideal))) ⟨m, fun _ => 0, g⟩ (fun r => (∀ c : Dev Cert.KAiIdeal.nD,
      r.2.mem ((c.tc : Thread Cert.KAiIdeal.nD Cert.KAiIdeal.τ).loc Cert.KAiIdeal.main_arg0) = m ((c.tc : Thread Cert.KAiIdeal.nD Cert.KAiIdeal.τ).loc Cert.KAiIdeal.main_arg0)
      ∧ r.2.mem ((c.tc : Thread Cert.KAiIdeal.nD Cert.KAiIdeal.τ).loc Cert.KAiIdeal.main_arg1) = m ((c.tc : Thread Cert.KAiIdeal.nD Cert.KAiIdeal.τ).loc Cert.KAiIdeal.main_arg1)
      ∧ r.2.mem ((c.tc : Thread Cert.KAiIdeal.nD Cert.KAiIdeal.τ).loc Cert.KAiIdeal.main_arg2) = m ((c.tc : Thread Cert.KAiIdeal.nD Cert.KAiIdeal.τ).loc Cert.KAiIdeal.main_arg2)
      ∧ r.2.mem ((c.tc : Thread Cert.KAiIdeal.nD Cert.KAiIdeal.τ).loc Cert.KAiIdeal.main_arg3) = m ((c.tc : Thread Cert.KAiIdeal.nD Cert.KAiIdeal.τ).loc Cert.KAiIdeal.main_arg3))
      ∧ r.2.sem = fun _ => 0)

def quiescent_RAiIdeal [hRAiIdeal : Cert.RAiIdeal.Facts] : Prop :=
  ∀ (m : (ℓ : Loc Cert.RAiIdeal.nD Cert.RAiIdeal.τ Cert.RAiIdeal.sig) → Buf (Elt Ideal) ℓ) (g : Dev Cert.RAiIdeal.nD → PrngReg), Pre_RAiIdeal m →
    θ_run (Cert.RAiIdeal.defs (F := Ideal)) (onTc (τ := Cert.RAiIdeal.τ) (Cert.RAiIdeal.main (F := Ideal))) ⟨m, fun _ => 0, g⟩ (fun r => (∀ c : Dev Cert.RAiIdeal.nD,
      r.2.mem ((c.tc : Thread Cert.RAiIdeal.nD Cert.RAiIdeal.τ).loc Cert.RAiIdeal.main_arg0) = m ((c.tc : Thread Cert.RAiIdeal.nD Cert.RAiIdeal.τ).loc Cert.RAiIdeal.main_arg0)
      ∧ r.2.mem ((c.tc : Thread Cert.RAiIdeal.nD Cert.RAiIdeal.τ).loc Cert.RAiIdeal.main_arg1) = m ((c.tc : Thread Cert.RAiIdeal.nD Cert.RAiIdeal.τ).loc Cert.RAiIdeal.main_arg1)
      ∧ r.2.mem ((c.tc : Thread Cert.RAiIdeal.nD Cert.RAiIdeal.τ).loc Cert.RAiIdeal.main_arg2) = m ((c.tc : Thread Cert.RAiIdeal.nD Cert.RAiIdeal.τ).loc Cert.RAiIdeal.main_arg2)
      ∧ r.2.mem ((c.tc : Thread Cert.RAiIdeal.nD Cert.RAiIdeal.τ).loc Cert.RAiIdeal.main_arg3) = m ((c.tc : Thread Cert.RAiIdeal.nD Cert.RAiIdeal.τ).loc Cert.RAiIdeal.main_arg3))
      ∧ r.2.sem = fun _ => 0)

def quiescent_KAo [hKAo : Cert.KAo.Facts] : Prop :=
  ∀ (m : (ℓ : Loc Cert.KAo.nD Cert.KAo.τ Cert.KAo.sig) → Buf (Elt Bits) ℓ) (g : Dev Cert.KAo.nD → PrngReg), Pre_KAo m →
    θ_run (Cert.KAo.defs (F := Bits)) (onTc (τ := Cert.KAo.τ) (Cert.KAo.main (F := Bits))) ⟨m, fun _ => 0, g⟩ (fun r => (∀ c : Dev Cert.KAo.nD,
      r.2.mem ((c.tc : Thread Cert.KAo.nD Cert.KAo.τ).loc Cert.KAo.main_arg0) = m ((c.tc : Thread Cert.KAo.nD Cert.KAo.τ).loc Cert.KAo.main_arg0)
      ∧ r.2.mem ((c.tc : Thread Cert.KAo.nD Cert.KAo.τ).loc Cert.KAo.main_arg1) = m ((c.tc : Thread Cert.KAo.nD Cert.KAo.τ).loc Cert.KAo.main_arg1)
      ∧ r.2.mem ((c.tc : Thread Cert.KAo.nD Cert.KAo.τ).loc Cert.KAo.main_arg2) = m ((c.tc : Thread Cert.KAo.nD Cert.KAo.τ).loc Cert.KAo.main_arg2)
      ∧ r.2.mem ((c.tc : Thread Cert.KAo.nD Cert.KAo.τ).loc Cert.KAo.main_arg3) = m ((c.tc : Thread Cert.KAo.nD Cert.KAo.τ).loc Cert.KAo.main_arg3))
      ∧ r.2.sem = fun _ => 0)

def quiescent_KAoIdeal [hKAoIdeal : Cert.KAoIdeal.Facts] : Prop :=
  ∀ (m : (ℓ : Loc Cert.KAoIdeal.nD Cert.KAoIdeal.τ Cert.KAoIdeal.sig) → Buf (Elt Ideal) ℓ) (g : Dev Cert.KAoIdeal.nD → PrngReg), Pre_KAoIdeal m →
    θ_run (Cert.KAoIdeal.defs (F := Ideal)) (onTc (τ := Cert.KAoIdeal.τ) (Cert.KAoIdeal.main (F := Ideal))) ⟨m, fun _ => 0, g⟩ (fun r => (∀ c : Dev Cert.KAoIdeal.nD,
      r.2.mem ((c.tc : Thread Cert.KAoIdeal.nD Cert.KAoIdeal.τ).loc Cert.KAoIdeal.main_arg0) = m ((c.tc : Thread Cert.KAoIdeal.nD Cert.KAoIdeal.τ).loc Cert.KAoIdeal.main_arg0)
      ∧ r.2.mem ((c.tc : Thread Cert.KAoIdeal.nD Cert.KAoIdeal.τ).loc Cert.KAoIdeal.main_arg1) = m ((c.tc : Thread Cert.KAoIdeal.nD Cert.KAoIdeal.τ).loc Cert.KAoIdeal.main_arg1)
      ∧ r.2.mem ((c.tc : Thread Cert.KAoIdeal.nD Cert.KAoIdeal.τ).loc Cert.KAoIdeal.main_arg2) = m ((c.tc : Thread Cert.KAoIdeal.nD Cert.KAoIdeal.τ).loc Cert.KAoIdeal.main_arg2)
      ∧ r.2.mem ((c.tc : Thread Cert.KAoIdeal.nD Cert.KAoIdeal.τ).loc Cert.KAoIdeal.main_arg3) = m ((c.tc : Thread Cert.KAoIdeal.nD Cert.KAoIdeal.τ).loc Cert.KAoIdeal.main_arg3))
      ∧ r.2.sem = fun _ => 0)

def quiescent_RAoIdeal [hRAoIdeal : Cert.RAoIdeal.Facts] : Prop :=
  ∀ (m : (ℓ : Loc Cert.RAoIdeal.nD Cert.RAoIdeal.τ Cert.RAoIdeal.sig) → Buf (Elt Ideal) ℓ) (g : Dev Cert.RAoIdeal.nD → PrngReg), Pre_RAoIdeal m →
    θ_run (Cert.RAoIdeal.defs (F := Ideal)) (onTc (τ := Cert.RAoIdeal.τ) (Cert.RAoIdeal.main (F := Ideal))) ⟨m, fun _ => 0, g⟩ (fun r => (∀ c : Dev Cert.RAoIdeal.nD,
      r.2.mem ((c.tc : Thread Cert.RAoIdeal.nD Cert.RAoIdeal.τ).loc Cert.RAoIdeal.main_arg0) = m ((c.tc : Thread Cert.RAoIdeal.nD Cert.RAoIdeal.τ).loc Cert.RAoIdeal.main_arg0)
      ∧ r.2.mem ((c.tc : Thread Cert.RAoIdeal.nD Cert.RAoIdeal.τ).loc Cert.RAoIdeal.main_arg1) = m ((c.tc : Thread Cert.RAoIdeal.nD Cert.RAoIdeal.τ).loc Cert.RAoIdeal.main_arg1)
      ∧ r.2.mem ((c.tc : Thread Cert.RAoIdeal.nD Cert.RAoIdeal.τ).loc Cert.RAoIdeal.main_arg2) = m ((c.tc : Thread Cert.RAoIdeal.nD Cert.RAoIdeal.τ).loc Cert.RAoIdeal.main_arg2)
      ∧ r.2.mem ((c.tc : Thread Cert.RAoIdeal.nD Cert.RAoIdeal.τ).loc Cert.RAoIdeal.main_arg3) = m ((c.tc : Thread Cert.RAoIdeal.nD Cert.RAoIdeal.τ).loc Cert.RAoIdeal.main_arg3))
      ∧ r.2.sem = fun _ => 0)

def quiescent_KMo [hKMo : Cert.KMo.Facts] : Prop :=
  ∀ (m : (ℓ : Loc Cert.KMo.nD Cert.KMo.τ Cert.KMo.sig) → Buf (Elt Bits) ℓ) (g : Dev Cert.KMo.nD → PrngReg), Pre_KMo m →
    θ_run (Cert.KMo.defs (F := Bits)) (onTc (τ := Cert.KMo.τ) (Cert.KMo.main (F := Bits))) ⟨m, fun _ => 0, g⟩ (fun r => (∀ c : Dev Cert.KMo.nD,
      r.2.mem ((c.tc : Thread Cert.KMo.nD Cert.KMo.τ).loc Cert.KMo.main_arg0) = m ((c.tc : Thread Cert.KMo.nD Cert.KMo.τ).loc Cert.KMo.main_arg0)
      ∧ r.2.mem ((c.tc : Thread Cert.KMo.nD Cert.KMo.τ).loc Cert.KMo.main_arg1) = m ((c.tc : Thread Cert.KMo.nD Cert.KMo.τ).loc Cert.KMo.main_arg1)
      ∧ r.2.mem ((c.tc : Thread Cert.KMo.nD Cert.KMo.τ).loc Cert.KMo.main_arg2) = m ((c.tc : Thread Cert.KMo.nD Cert.KMo.τ).loc Cert.KMo.main_arg2))
      ∧ r.2.sem = fun _ => 0)

def quiescent_KMoIdeal [hKMoIdeal : Cert.KMoIdeal.Facts] : Prop :=
  ∀ (m : (ℓ : Loc Cert.KMoIdeal.nD Cert.KMoIdeal.τ Cert.KMoIdeal.sig) → Buf (Elt Ideal) ℓ) (g : Dev Cert.KMoIdeal.nD → PrngReg), Pre_KMoIdeal m →
    θ_run (Cert.KMoIdeal.defs (F := Ideal)) (onTc (τ := Cert.KMoIdeal.τ) (Cert.KMoIdeal.main (F := Ideal))) ⟨m, fun _ => 0, g⟩ (fun r => (∀ c : Dev Cert.KMoIdeal.nD,
      r.2.mem ((c.tc : Thread Cert.KMoIdeal.nD Cert.KMoIdeal.τ).loc Cert.KMoIdeal.main_arg0) = m ((c.tc : Thread Cert.KMoIdeal.nD Cert.KMoIdeal.τ).loc Cert.KMoIdeal.main_arg0)
      ∧ r.2.mem ((c.tc : Thread Cert.KMoIdeal.nD Cert.KMoIdeal.τ).loc Cert.KMoIdeal.main_arg1) = m ((c.tc : Thread Cert.KMoIdeal.nD Cert.KMoIdeal.τ).loc Cert.KMoIdeal.main_arg1)
      ∧ r.2.mem ((c.tc : Thread Cert.KMoIdeal.nD Cert.KMoIdeal.τ).loc Cert.KMoIdeal.main_arg2) = m ((c.tc : Thread Cert.KMoIdeal.nD Cert.KMoIdeal.τ).loc Cert.KMoIdeal.main_arg2))
      ∧ r.2.sem = fun _ => 0)

def quiescent_RMoIdeal [hRMoIdeal : Cert.RMoIdeal.Facts] : Prop :=
  ∀ (m : (ℓ : Loc Cert.RMoIdeal.nD Cert.RMoIdeal.τ Cert.RMoIdeal.sig) → Buf (Elt Ideal) ℓ) (g : Dev Cert.RMoIdeal.nD → PrngReg), Pre_RMoIdeal m →
    θ_run (Cert.RMoIdeal.defs (F := Ideal)) (onTc (τ := Cert.RMoIdeal.τ) (Cert.RMoIdeal.main (F := Ideal))) ⟨m, fun _ => 0, g⟩ (fun r => (∀ c : Dev Cert.RMoIdeal.nD,
      r.2.mem ((c.tc : Thread Cert.RMoIdeal.nD Cert.RMoIdeal.τ).loc Cert.RMoIdeal.main_arg0) = m ((c.tc : Thread Cert.RMoIdeal.nD Cert.RMoIdeal.τ).loc Cert.RMoIdeal.main_arg0)
      ∧ r.2.mem ((c.tc : Thread Cert.RMoIdeal.nD Cert.RMoIdeal.τ).loc Cert.RMoIdeal.main_arg1) = m ((c.tc : Thread Cert.RMoIdeal.nD Cert.RMoIdeal.τ).loc Cert.RMoIdeal.main_arg1)
      ∧ r.2.mem ((c.tc : Thread Cert.RMoIdeal.nD Cert.RMoIdeal.τ).loc Cert.RMoIdeal.main_arg2) = m ((c.tc : Thread Cert.RMoIdeal.nD Cert.RMoIdeal.τ).loc Cert.RMoIdeal.main_arg2))
      ∧ r.2.sem = fun _ => 0)

def quiescent_KWa [hKWa : Cert.KWa.Facts] : Prop :=
  ∀ (m : (ℓ : Loc Cert.KWa.nD Cert.KWa.τ Cert.KWa.sig) → Buf (Elt Bits) ℓ) (g : Dev Cert.KWa.nD → PrngReg), Pre_KWa m →
    θ_run (Cert.KWa.defs (F := Bits)) (onTc (τ := Cert.KWa.τ) (Cert.KWa.main (F := Bits))) ⟨m, fun _ => 0, g⟩ (fun r => (∀ c : Dev Cert.KWa.nD,
      r.2.mem ((c.tc : Thread Cert.KWa.nD Cert.KWa.τ).loc Cert.KWa.main_arg0) = m ((c.tc : Thread Cert.KWa.nD Cert.KWa.τ).loc Cert.KWa.main_arg0)
      ∧ r.2.mem ((c.tc : Thread Cert.KWa.nD Cert.KWa.τ).loc Cert.KWa.main_arg1) = m ((c.tc : Thread Cert.KWa.nD Cert.KWa.τ).loc Cert.KWa.main_arg1)
      ∧ r.2.mem ((c.tc : Thread Cert.KWa.nD Cert.KWa.τ).loc Cert.KWa.main_arg2) = m ((c.tc : Thread Cert.KWa.nD Cert.KWa.τ).loc Cert.KWa.main_arg2))
      ∧ r.2.sem = fun _ => 0)

def quiescent_KWaIdeal [hKWaIdeal : Cert.KWaIdeal.Facts] : Prop :=
  ∀ (m : (ℓ : Loc Cert.KWaIdeal.nD Cert.KWaIdeal.τ Cert.KWaIdeal.sig) → Buf (Elt Ideal) ℓ) (g : Dev Cert.KWaIdeal.nD → PrngReg), Pre_KWaIdeal m →
    θ_run (Cert.KWaIdeal.defs (F := Ideal)) (onTc (τ := Cert.KWaIdeal.τ) (Cert.KWaIdeal.main (F := Ideal))) ⟨m, fun _ => 0, g⟩ (fun r => (∀ c : Dev Cert.KWaIdeal.nD,
      r.2.mem ((c.tc : Thread Cert.KWaIdeal.nD Cert.KWaIdeal.τ).loc Cert.KWaIdeal.main_arg0) = m ((c.tc : Thread Cert.KWaIdeal.nD Cert.KWaIdeal.τ).loc Cert.KWaIdeal.main_arg0)
      ∧ r.2.mem ((c.tc : Thread Cert.KWaIdeal.nD Cert.KWaIdeal.τ).loc Cert.KWaIdeal.main_arg1) = m ((c.tc : Thread Cert.KWaIdeal.nD Cert.KWaIdeal.τ).loc Cert.KWaIdeal.main_arg1)
      ∧ r.2.mem ((c.tc : Thread Cert.KWaIdeal.nD Cert.KWaIdeal.τ).loc Cert.KWaIdeal.main_arg2) = m ((c.tc : Thread Cert.KWaIdeal.nD Cert.KWaIdeal.τ).loc Cert.KWaIdeal.main_arg2))
      ∧ r.2.sem = fun _ => 0)

def quiescent_RWaIdeal [hRWaIdeal : Cert.RWaIdeal.Facts] : Prop :=
  ∀ (m : (ℓ : Loc Cert.RWaIdeal.nD Cert.RWaIdeal.τ Cert.RWaIdeal.sig) → Buf (Elt Ideal) ℓ) (g : Dev Cert.RWaIdeal.nD → PrngReg), Pre_RWaIdeal m →
    θ_run (Cert.RWaIdeal.defs (F := Ideal)) (onTc (τ := Cert.RWaIdeal.τ) (Cert.RWaIdeal.main (F := Ideal))) ⟨m, fun _ => 0, g⟩ (fun r => (∀ c : Dev Cert.RWaIdeal.nD,
      r.2.mem ((c.tc : Thread Cert.RWaIdeal.nD Cert.RWaIdeal.τ).loc Cert.RWaIdeal.main_arg0) = m ((c.tc : Thread Cert.RWaIdeal.nD Cert.RWaIdeal.τ).loc Cert.RWaIdeal.main_arg0)
      ∧ r.2.mem ((c.tc : Thread Cert.RWaIdeal.nD Cert.RWaIdeal.τ).loc Cert.RWaIdeal.main_arg1) = m ((c.tc : Thread Cert.RWaIdeal.nD Cert.RWaIdeal.τ).loc Cert.RWaIdeal.main_arg1)
      ∧ r.2.mem ((c.tc : Thread Cert.RWaIdeal.nD Cert.RWaIdeal.τ).loc Cert.RWaIdeal.main_arg2) = m ((c.tc : Thread Cert.RWaIdeal.nD Cert.RWaIdeal.τ).loc Cert.RWaIdeal.main_arg2))
      ∧ r.2.sem = fun _ => 0)

def quiescent_KWc [hKWc : Cert.KWc.Facts] : Prop :=
  ∀ (m : (ℓ : Loc Cert.KWc.nD Cert.KWc.τ Cert.KWc.sig) → Buf (Elt Bits) ℓ) (g : Dev Cert.KWc.nD → PrngReg), Pre_KWc m →
    θ_run (Cert.KWc.defs (F := Bits)) (onTc (τ := Cert.KWc.τ) (Cert.KWc.main (F := Bits))) ⟨m, fun _ => 0, g⟩ (fun r => (∀ c : Dev Cert.KWc.nD,
      r.2.mem ((c.tc : Thread Cert.KWc.nD Cert.KWc.τ).loc Cert.KWc.main_arg0) = m ((c.tc : Thread Cert.KWc.nD Cert.KWc.τ).loc Cert.KWc.main_arg0)
      ∧ r.2.mem ((c.tc : Thread Cert.KWc.nD Cert.KWc.τ).loc Cert.KWc.main_arg1) = m ((c.tc : Thread Cert.KWc.nD Cert.KWc.τ).loc Cert.KWc.main_arg1)
      ∧ r.2.mem ((c.tc : Thread Cert.KWc.nD Cert.KWc.τ).loc Cert.KWc.main_arg2) = m ((c.tc : Thread Cert.KWc.nD Cert.KWc.τ).loc Cert.KWc.main_arg2))
      ∧ r.2.sem = fun _ => 0)

def quiescent_KWcIdeal [hKWcIdeal : Cert.KWcIdeal.Facts] : Prop :=
  ∀ (m : (ℓ : Loc Cert.KWcIdeal.nD Cert.KWcIdeal.τ Cert.KWcIdeal.sig) → Buf (Elt Ideal) ℓ) (g : Dev Cert.KWcIdeal.nD → PrngReg), Pre_KWcIdeal m →
    θ_run (Cert.KWcIdeal.defs (F := Ideal)) (onTc (τ := Cert.KWcIdeal.τ) (Cert.KWcIdeal.main (F := Ideal))) ⟨m, fun _ => 0, g⟩ (fun r => (∀ c : Dev Cert.KWcIdeal.nD,
      r.2.mem ((c.tc : Thread Cert.KWcIdeal.nD Cert.KWcIdeal.τ).loc Cert.KWcIdeal.main_arg0) = m ((c.tc : Thread Cert.KWcIdeal.nD Cert.KWcIdeal.τ).loc Cert.KWcIdeal.main_arg0)
      ∧ r.2.mem ((c.tc : Thread Cert.KWcIdeal.nD Cert.KWcIdeal.τ).loc Cert.KWcIdeal.main_arg1) = m ((c.tc : Thread Cert.KWcIdeal.nD Cert.KWcIdeal.τ).loc Cert.KWcIdeal.main_arg1)
      ∧ r.2.mem ((c.tc : Thread Cert.KWcIdeal.nD Cert.KWcIdeal.τ).loc Cert.KWcIdeal.main_arg2) = m ((c.tc : Thread Cert.KWcIdeal.nD Cert.KWcIdeal.τ).loc Cert.KWcIdeal.main_arg2))
      ∧ r.2.sem = fun _ => 0)

def quiescent_RWcIdeal [hRWcIdeal : Cert.RWcIdeal.Facts] : Prop :=
  ∀ (m : (ℓ : Loc Cert.RWcIdeal.nD Cert.RWcIdeal.τ Cert.RWcIdeal.sig) → Buf (Elt Ideal) ℓ) (g : Dev Cert.RWcIdeal.nD → PrngReg), Pre_RWcIdeal m →
    θ_run (Cert.RWcIdeal.defs (F := Ideal)) (onTc (τ := Cert.RWcIdeal.τ) (Cert.RWcIdeal.main (F := Ideal))) ⟨m, fun _ => 0, g⟩ (fun r => (∀ c : Dev Cert.RWcIdeal.nD,
      r.2.mem ((c.tc : Thread Cert.RWcIdeal.nD Cert.RWcIdeal.τ).loc Cert.RWcIdeal.main_arg0) = m ((c.tc : Thread Cert.RWcIdeal.nD Cert.RWcIdeal.τ).loc Cert.RWcIdeal.main_arg0)
      ∧ r.2.mem ((c.tc : Thread Cert.RWcIdeal.nD Cert.RWcIdeal.τ).loc Cert.RWcIdeal.main_arg1) = m ((c.tc : Thread Cert.RWcIdeal.nD Cert.RWcIdeal.τ).loc Cert.RWcIdeal.main_arg1)
      ∧ r.2.mem ((c.tc : Thread Cert.RWcIdeal.nD Cert.RWcIdeal.τ).loc Cert.RWcIdeal.main_arg2) = m ((c.tc : Thread Cert.RWcIdeal.nD Cert.RWcIdeal.τ).loc Cert.RWcIdeal.main_arg2))
      ∧ r.2.sem = fun _ => 0)

def quiescent_KWi [hKWi : Cert.KWi.Facts] : Prop :=
  ∀ (m : (ℓ : Loc Cert.KWi.nD Cert.KWi.τ Cert.KWi.sig) → Buf (Elt Bits) ℓ) (g : Dev Cert.KWi.nD → PrngReg), Pre_KWi m →
    θ_run (Cert.KWi.defs (F := Bits)) (onTc (τ := Cert.KWi.τ) (Cert.KWi.main (F := Bits))) ⟨m, fun _ => 0, g⟩ (fun r => (∀ c : Dev Cert.KWi.nD,
      r.2.mem ((c.tc : Thread Cert.KWi.nD Cert.KWi.τ).loc Cert.KWi.main_arg0) = m ((c.tc : Thread Cert.KWi.nD Cert.KWi.τ).loc Cert.KWi.main_arg0)
      ∧ r.2.mem ((c.tc : Thread Cert.KWi.nD Cert.KWi.τ).loc Cert.KWi.main_arg1) = m ((c.tc : Thread Cert.KWi.nD Cert.KWi.τ).loc Cert.KWi.main_arg1)
      ∧ r.2.mem ((c.tc : Thread Cert.KWi.nD Cert.KWi.τ).loc Cert.KWi.main_arg2) = m ((c.tc : Thread Cert.KWi.nD Cert.KWi.τ).loc Cert.KWi.main_arg2))
      ∧ r.2.sem = fun _ => 0)

def quiescent_KWiIdeal [hKWiIdeal : Cert.KWiIdeal.Facts] : Prop :=
  ∀ (m : (ℓ : Loc Cert.KWiIdeal.nD Cert.KWiIdeal.τ Cert.KWiIdeal.sig) → Buf (Elt Ideal) ℓ) (g : Dev Cert.KWiIdeal.nD → PrngReg), Pre_KWiIdeal m →
    θ_run (Cert.KWiIdeal.defs (F := Ideal)) (onTc (τ := Cert.KWiIdeal.τ) (Cert.KWiIdeal.main (F := Ideal))) ⟨m, fun _ => 0, g⟩ (fun r => (∀ c : Dev Cert.KWiIdeal.nD,
      r.2.mem ((c.tc : Thread Cert.KWiIdeal.nD Cert.KWiIdeal.τ).loc Cert.KWiIdeal.main_arg0) = m ((c.tc : Thread Cert.KWiIdeal.nD Cert.KWiIdeal.τ).loc Cert.KWiIdeal.main_arg0)
      ∧ r.2.mem ((c.tc : Thread Cert.KWiIdeal.nD Cert.KWiIdeal.τ).loc Cert.KWiIdeal.main_arg1) = m ((c.tc : Thread Cert.KWiIdeal.nD Cert.KWiIdeal.τ).loc Cert.KWiIdeal.main_arg1)
      ∧ r.2.mem ((c.tc : Thread Cert.KWiIdeal.nD Cert.KWiIdeal.τ).loc Cert.KWiIdeal.main_arg2) = m ((c.tc : Thread Cert.KWiIdeal.nD Cert.KWiIdeal.τ).loc Cert.KWiIdeal.main_arg2))
      ∧ r.2.sem = fun _ => 0)

def quiescent_RWiIdeal [hRWiIdeal : Cert.RWiIdeal.Facts] : Prop :=
  ∀ (m : (ℓ : Loc Cert.RWiIdeal.nD Cert.RWiIdeal.τ Cert.RWiIdeal.sig) → Buf (Elt Ideal) ℓ) (g : Dev Cert.RWiIdeal.nD → PrngReg), Pre_RWiIdeal m →
    θ_run (Cert.RWiIdeal.defs (F := Ideal)) (onTc (τ := Cert.RWiIdeal.τ) (Cert.RWiIdeal.main (F := Ideal))) ⟨m, fun _ => 0, g⟩ (fun r => (∀ c : Dev Cert.RWiIdeal.nD,
      r.2.mem ((c.tc : Thread Cert.RWiIdeal.nD Cert.RWiIdeal.τ).loc Cert.RWiIdeal.main_arg0) = m ((c.tc : Thread Cert.RWiIdeal.nD Cert.RWiIdeal.τ).loc Cert.RWiIdeal.main_arg0)
      ∧ r.2.mem ((c.tc : Thread Cert.RWiIdeal.nD Cert.RWiIdeal.τ).loc Cert.RWiIdeal.main_arg1) = m ((c.tc : Thread Cert.RWiIdeal.nD Cert.RWiIdeal.τ).loc Cert.RWiIdeal.main_arg1)
      ∧ r.2.mem ((c.tc : Thread Cert.RWiIdeal.nD Cert.RWiIdeal.τ).loc Cert.RWiIdeal.main_arg2) = m ((c.tc : Thread Cert.RWiIdeal.nD Cert.RWiIdeal.τ).loc Cert.RWiIdeal.main_arg2))
      ∧ r.2.sem = fun _ => 0)

def quiescent_KMx [hKMx : Cert.KMx.Facts] : Prop :=
  ∀ (m : (ℓ : Loc Cert.KMx.nD Cert.KMx.τ Cert.KMx.sig) → Buf (Elt Bits) ℓ) (g : Dev Cert.KMx.nD → PrngReg), Pre_KMx m →
    θ_run (Cert.KMx.defs (F := Bits)) (onTc (τ := Cert.KMx.τ) (Cert.KMx.main (F := Bits))) ⟨m, fun _ => 0, g⟩ (fun r => (∀ c : Dev Cert.KMx.nD,
      r.2.mem ((c.tc : Thread Cert.KMx.nD Cert.KMx.τ).loc Cert.KMx.main_arg0) = m ((c.tc : Thread Cert.KMx.nD Cert.KMx.τ).loc Cert.KMx.main_arg0)
      ∧ r.2.mem ((c.tc : Thread Cert.KMx.nD Cert.KMx.τ).loc Cert.KMx.main_arg1) = m ((c.tc : Thread Cert.KMx.nD Cert.KMx.τ).loc Cert.KMx.main_arg1)
      ∧ r.2.mem ((c.tc : Thread Cert.KMx.nD Cert.KMx.τ).loc Cert.KMx.main_arg2) = m ((c.tc : Thread Cert.KMx.nD Cert.KMx.τ).loc Cert.KMx.main_arg2)
      ∧ r.2.mem ((c.tc : Thread Cert.KMx.nD Cert.KMx.τ).loc Cert.KMx.main_arg3) = m ((c.tc : Thread Cert.KMx.nD Cert.KMx.τ).loc Cert.KMx.main_arg3))
      ∧ r.2.sem = fun _ => 0)

def quiescent_KMxIdeal [hKMxIdeal : Cert.KMxIdeal.Facts] : Prop :=
  ∀ (m : (ℓ : Loc Cert.KMxIdeal.nD Cert.KMxIdeal.τ Cert.KMxIdeal.sig) → Buf (Elt Ideal) ℓ) (g : Dev Cert.KMxIdeal.nD → PrngReg), Pre_KMxIdeal m →
    θ_run (Cert.KMxIdeal.defs (F := Ideal)) (onTc (τ := Cert.KMxIdeal.τ) (Cert.KMxIdeal.main (F := Ideal))) ⟨m, fun _ => 0, g⟩ (fun r => (∀ c : Dev Cert.KMxIdeal.nD,
      r.2.mem ((c.tc : Thread Cert.KMxIdeal.nD Cert.KMxIdeal.τ).loc Cert.KMxIdeal.main_arg0) = m ((c.tc : Thread Cert.KMxIdeal.nD Cert.KMxIdeal.τ).loc Cert.KMxIdeal.main_arg0)
      ∧ r.2.mem ((c.tc : Thread Cert.KMxIdeal.nD Cert.KMxIdeal.τ).loc Cert.KMxIdeal.main_arg1) = m ((c.tc : Thread Cert.KMxIdeal.nD Cert.KMxIdeal.τ).loc Cert.KMxIdeal.main_arg1)
      ∧ r.2.mem ((c.tc : Thread Cert.KMxIdeal.nD Cert.KMxIdeal.τ).loc Cert.KMxIdeal.main_arg2) = m ((c.tc : Thread Cert.KMxIdeal.nD Cert.KMxIdeal.τ).loc Cert.KMxIdeal.main_arg2)
      ∧ r.2.mem ((c.tc : Thread Cert.KMxIdeal.nD Cert.KMxIdeal.τ).loc Cert.KMxIdeal.main_arg3) = m ((c.tc : Thread Cert.KMxIdeal.nD Cert.KMxIdeal.τ).loc Cert.KMxIdeal.main_arg3))
      ∧ r.2.sem = fun _ => 0)

def quiescent_RMxIdeal [hRMxIdeal : Cert.RMxIdeal.Facts] : Prop :=
  ∀ (m : (ℓ : Loc Cert.RMxIdeal.nD Cert.RMxIdeal.τ Cert.RMxIdeal.sig) → Buf (Elt Ideal) ℓ) (g : Dev Cert.RMxIdeal.nD → PrngReg), Pre_RMxIdeal m →
    θ_run (Cert.RMxIdeal.defs (F := Ideal)) (onTc (τ := Cert.RMxIdeal.τ) (Cert.RMxIdeal.main (F := Ideal))) ⟨m, fun _ => 0, g⟩ (fun r => (∀ c : Dev Cert.RMxIdeal.nD,
      r.2.mem ((c.tc : Thread Cert.RMxIdeal.nD Cert.RMxIdeal.τ).loc Cert.RMxIdeal.main_arg0) = m ((c.tc : Thread Cert.RMxIdeal.nD Cert.RMxIdeal.τ).loc Cert.RMxIdeal.main_arg0)
      ∧ r.2.mem ((c.tc : Thread Cert.RMxIdeal.nD Cert.RMxIdeal.τ).loc Cert.RMxIdeal.main_arg1) = m ((c.tc : Thread Cert.RMxIdeal.nD Cert.RMxIdeal.τ).loc Cert.RMxIdeal.main_arg1)
      ∧ r.2.mem ((c.tc : Thread Cert.RMxIdeal.nD Cert.RMxIdeal.τ).loc Cert.RMxIdeal.main_arg2) = m ((c.tc : Thread Cert.RMxIdeal.nD Cert.RMxIdeal.τ).loc Cert.RMxIdeal.main_arg2)
      ∧ r.2.mem ((c.tc : Thread Cert.RMxIdeal.nD Cert.RMxIdeal.τ).loc Cert.RMxIdeal.main_arg3) = m ((c.tc : Thread Cert.RMxIdeal.nD Cert.RMxIdeal.τ).loc Cert.RMxIdeal.main_arg3))
      ∧ r.2.sem = fun _ => 0)

def quiescent_KAs [hKAs : Cert.KAs.Facts] : Prop :=
  ∀ (m : (ℓ : Loc Cert.KAs.nD Cert.KAs.τ Cert.KAs.sig) → Buf (Elt Bits) ℓ) (g : Dev Cert.KAs.nD → PrngReg), Pre_KAs m →
    θ_run (Cert.KAs.defs (F := Bits)) (onTc (τ := Cert.KAs.τ) (Cert.KAs.main (F := Bits))) ⟨m, fun _ => 0, g⟩ (fun r => (∀ c : Dev Cert.KAs.nD,
      r.2.mem ((c.tc : Thread Cert.KAs.nD Cert.KAs.τ).loc Cert.KAs.main_arg0) = m ((c.tc : Thread Cert.KAs.nD Cert.KAs.τ).loc Cert.KAs.main_arg0)
      ∧ r.2.mem ((c.tc : Thread Cert.KAs.nD Cert.KAs.τ).loc Cert.KAs.main_arg1) = m ((c.tc : Thread Cert.KAs.nD Cert.KAs.τ).loc Cert.KAs.main_arg1)
      ∧ r.2.mem ((c.tc : Thread Cert.KAs.nD Cert.KAs.τ).loc Cert.KAs.main_arg2) = m ((c.tc : Thread Cert.KAs.nD Cert.KAs.τ).loc Cert.KAs.main_arg2)
      ∧ r.2.mem ((c.tc : Thread Cert.KAs.nD Cert.KAs.τ).loc Cert.KAs.main_arg3) = m ((c.tc : Thread Cert.KAs.nD Cert.KAs.τ).loc Cert.KAs.main_arg3)
      ∧ r.2.mem ((c.tc : Thread Cert.KAs.nD Cert.KAs.τ).loc Cert.KAs.main_arg4) = m ((c.tc : Thread Cert.KAs.nD Cert.KAs.τ).loc Cert.KAs.main_arg4)
      ∧ r.2.mem ((c.tc : Thread Cert.KAs.nD Cert.KAs.τ).loc Cert.KAs.main_arg5) = m ((c.tc : Thread Cert.KAs.nD Cert.KAs.τ).loc Cert.KAs.main_arg5)
      ∧ r.2.mem ((c.tc : Thread Cert.KAs.nD Cert.KAs.τ).loc Cert.KAs.main_arg6) = m ((c.tc : Thread Cert.KAs.nD Cert.KAs.τ).loc Cert.KAs.main_arg6)
      ∧ r.2.mem ((c.tc : Thread Cert.KAs.nD Cert.KAs.τ).loc Cert.KAs.main_arg7) = m ((c.tc : Thread Cert.KAs.nD Cert.KAs.τ).loc Cert.KAs.main_arg7)
      ∧ r.2.mem ((c.tc : Thread Cert.KAs.nD Cert.KAs.τ).loc Cert.KAs.main_arg8) = m ((c.tc : Thread Cert.KAs.nD Cert.KAs.τ).loc Cert.KAs.main_arg8)
      ∧ r.2.mem ((c.tc : Thread Cert.KAs.nD Cert.KAs.τ).loc Cert.KAs.main_arg9) = m ((c.tc : Thread Cert.KAs.nD Cert.KAs.τ).loc Cert.KAs.main_arg9)
      ∧ r.2.mem ((c.tc : Thread Cert.KAs.nD Cert.KAs.τ).loc Cert.KAs.main_arg10) = m ((c.tc : Thread Cert.KAs.nD Cert.KAs.τ).loc Cert.KAs.main_arg10)
      ∧ r.2.mem ((c.tc : Thread Cert.KAs.nD Cert.KAs.τ).loc Cert.KAs.main_arg11) = m ((c.tc : Thread Cert.KAs.nD Cert.KAs.τ).loc Cert.KAs.main_arg11)
      ∧ r.2.mem ((c.tc : Thread Cert.KAs.nD Cert.KAs.τ).loc Cert.KAs.main_arg12) = m ((c.tc : Thread Cert.KAs.nD Cert.KAs.τ).loc Cert.KAs.main_arg12)
      ∧ r.2.mem ((c.tc : Thread Cert.KAs.nD Cert.KAs.τ).loc Cert.KAs.main_arg13) = m ((c.tc : Thread Cert.KAs.nD Cert.KAs.τ).loc Cert.KAs.main_arg13)
      ∧ r.2.mem ((c.tc : Thread Cert.KAs.nD Cert.KAs.τ).loc Cert.KAs.main_arg14) = m ((c.tc : Thread Cert.KAs.nD Cert.KAs.τ).loc Cert.KAs.main_arg14)
      ∧ r.2.mem ((c.tc : Thread Cert.KAs.nD Cert.KAs.τ).loc Cert.KAs.main_arg15) = m ((c.tc : Thread Cert.KAs.nD Cert.KAs.τ).loc Cert.KAs.main_arg15)
      ∧ r.2.mem ((c.tc : Thread Cert.KAs.nD Cert.KAs.τ).loc Cert.KAs.main_arg16) = m ((c.tc : Thread Cert.KAs.nD Cert.KAs.τ).loc Cert.KAs.main_arg16)
      ∧ r.2.mem ((c.tc : Thread Cert.KAs.nD Cert.KAs.τ).loc Cert.KAs.main_arg17) = m ((c.tc : Thread Cert.KAs.nD Cert.KAs.τ).loc Cert.KAs.main_arg17)
      ∧ r.2.mem ((c.tc : Thread Cert.KAs.nD Cert.KAs.τ).loc Cert.KAs.main_arg18) = m ((c.tc : Thread Cert.KAs.nD Cert.KAs.τ).loc Cert.KAs.main_arg18)
      ∧ r.2.mem ((c.tc : Thread Cert.KAs.nD Cert.KAs.τ).loc Cert.KAs.main_arg19) = m ((c.tc : Thread Cert.KAs.nD Cert.KAs.τ).loc Cert.KAs.main_arg19)
      ∧ r.2.mem ((c.tc : Thread Cert.KAs.nD Cert.KAs.τ).loc Cert.KAs.main_arg20) = m ((c.tc : Thread Cert.KAs.nD Cert.KAs.τ).loc Cert.KAs.main_arg20)
      ∧ r.2.mem ((c.tc : Thread Cert.KAs.nD Cert.KAs.τ).loc Cert.KAs.main_arg21) = m ((c.tc : Thread Cert.KAs.nD Cert.KAs.τ).loc Cert.KAs.main_arg21)
      ∧ r.2.mem ((c.tc : Thread Cert.KAs.nD Cert.KAs.τ).loc Cert.KAs.main_arg22) = m ((c.tc : Thread Cert.KAs.nD Cert.KAs.τ).loc Cert.KAs.main_arg22)
      ∧ r.2.mem ((c.tc : Thread Cert.KAs.nD Cert.KAs.τ).loc Cert.KAs.main_arg23) = m ((c.tc : Thread Cert.KAs.nD Cert.KAs.τ).loc Cert.KAs.main_arg23)
      ∧ r.2.mem ((c.tc : Thread Cert.KAs.nD Cert.KAs.τ).loc Cert.KAs.main_arg24) = m ((c.tc : Thread Cert.KAs.nD Cert.KAs.τ).loc Cert.KAs.main_arg24)
      ∧ r.2.mem ((c.tc : Thread Cert.KAs.nD Cert.KAs.τ).loc Cert.KAs.main_arg25) = m ((c.tc : Thread Cert.KAs.nD Cert.KAs.τ).loc Cert.KAs.main_arg25)
      ∧ r.2.mem ((c.tc : Thread Cert.KAs.nD Cert.KAs.τ).loc Cert.KAs.main_arg26) = m ((c.tc : Thread Cert.KAs.nD Cert.KAs.τ).loc Cert.KAs.main_arg26)
      ∧ r.2.mem ((c.tc : Thread Cert.KAs.nD Cert.KAs.τ).loc Cert.KAs.main_arg27) = m ((c.tc : Thread Cert.KAs.nD Cert.KAs.τ).loc Cert.KAs.main_arg27)
      ∧ r.2.mem ((c.tc : Thread Cert.KAs.nD Cert.KAs.τ).loc Cert.KAs.main_arg28) = m ((c.tc : Thread Cert.KAs.nD Cert.KAs.τ).loc Cert.KAs.main_arg28)
      ∧ r.2.mem ((c.tc : Thread Cert.KAs.nD Cert.KAs.τ).loc Cert.KAs.main_arg29) = m ((c.tc : Thread Cert.KAs.nD Cert.KAs.τ).loc Cert.KAs.main_arg29)
      ∧ r.2.mem ((c.tc : Thread Cert.KAs.nD Cert.KAs.τ).loc Cert.KAs.main_arg30) = m ((c.tc : Thread Cert.KAs.nD Cert.KAs.τ).loc Cert.KAs.main_arg30)
      ∧ r.2.mem ((c.tc : Thread Cert.KAs.nD Cert.KAs.τ).loc Cert.KAs.main_arg31) = m ((c.tc : Thread Cert.KAs.nD Cert.KAs.τ).loc Cert.KAs.main_arg31)
      ∧ r.2.mem ((c.tc : Thread Cert.KAs.nD Cert.KAs.τ).loc Cert.KAs.main_arg32) = m ((c.tc : Thread Cert.KAs.nD Cert.KAs.τ).loc Cert.KAs.main_arg32)
      ∧ r.2.mem ((c.tc : Thread Cert.KAs.nD Cert.KAs.τ).loc Cert.KAs.main_arg33) = m ((c.tc : Thread Cert.KAs.nD Cert.KAs.τ).loc Cert.KAs.main_arg33)
      ∧ r.2.mem ((c.tc : Thread Cert.KAs.nD Cert.KAs.τ).loc Cert.KAs.main_arg34) = m ((c.tc : Thread Cert.KAs.nD Cert.KAs.τ).loc Cert.KAs.main_arg34)
      ∧ r.2.mem ((c.tc : Thread Cert.KAs.nD Cert.KAs.τ).loc Cert.KAs.main_arg35) = m ((c.tc : Thread Cert.KAs.nD Cert.KAs.τ).loc Cert.KAs.main_arg35))
      ∧ r.2.sem = fun _ => 0)

def quiescent_KAsIdeal [hKAsIdeal : Cert.KAsIdeal.Facts] : Prop :=
  ∀ (m : (ℓ : Loc Cert.KAsIdeal.nD Cert.KAsIdeal.τ Cert.KAsIdeal.sig) → Buf (Elt Ideal) ℓ) (g : Dev Cert.KAsIdeal.nD → PrngReg), Pre_KAsIdeal m →
    θ_run (Cert.KAsIdeal.defs (F := Ideal)) (onTc (τ := Cert.KAsIdeal.τ) (Cert.KAsIdeal.main (F := Ideal))) ⟨m, fun _ => 0, g⟩ (fun r => (∀ c : Dev Cert.KAsIdeal.nD,
      r.2.mem ((c.tc : Thread Cert.KAsIdeal.nD Cert.KAsIdeal.τ).loc Cert.KAsIdeal.main_arg0) = m ((c.tc : Thread Cert.KAsIdeal.nD Cert.KAsIdeal.τ).loc Cert.KAsIdeal.main_arg0)
      ∧ r.2.mem ((c.tc : Thread Cert.KAsIdeal.nD Cert.KAsIdeal.τ).loc Cert.KAsIdeal.main_arg1) = m ((c.tc : Thread Cert.KAsIdeal.nD Cert.KAsIdeal.τ).loc Cert.KAsIdeal.main_arg1)
      ∧ r.2.mem ((c.tc : Thread Cert.KAsIdeal.nD Cert.KAsIdeal.τ).loc Cert.KAsIdeal.main_arg2) = m ((c.tc : Thread Cert.KAsIdeal.nD Cert.KAsIdeal.τ).loc Cert.KAsIdeal.main_arg2)
      ∧ r.2.mem ((c.tc : Thread Cert.KAsIdeal.nD Cert.KAsIdeal.τ).loc Cert.KAsIdeal.main_arg3) = m ((c.tc : Thread Cert.KAsIdeal.nD Cert.KAsIdeal.τ).loc Cert.KAsIdeal.main_arg3)
      ∧ r.2.mem ((c.tc : Thread Cert.KAsIdeal.nD Cert.KAsIdeal.τ).loc Cert.KAsIdeal.main_arg4) = m ((c.tc : Thread Cert.KAsIdeal.nD Cert.KAsIdeal.τ).loc Cert.KAsIdeal.main_arg4)
      ∧ r.2.mem ((c.tc : Thread Cert.KAsIdeal.nD Cert.KAsIdeal.τ).loc Cert.KAsIdeal.main_arg5) = m ((c.tc : Thread Cert.KAsIdeal.nD Cert.KAsIdeal.τ).loc Cert.KAsIdeal.main_arg5)
      ∧ r.2.mem ((c.tc : Thread Cert.KAsIdeal.nD Cert.KAsIdeal.τ).loc Cert.KAsIdeal.main_arg6) = m ((c.tc : Thread Cert.KAsIdeal.nD Cert.KAsIdeal.τ).loc Cert.KAsIdeal.main_arg6)
      ∧ r.2.mem ((c.tc : Thread Cert.KAsIdeal.nD Cert.KAsIdeal.τ).loc Cert.KAsIdeal.main_arg7) = m ((c.tc : Thread Cert.KAsIdeal.nD Cert.KAsIdeal.τ).loc Cert.KAsIdeal.main_arg7)
      ∧ r.2.mem ((c.tc : Thread Cert.KAsIdeal.nD Cert.KAsIdeal.τ).loc Cert.KAsIdeal.main_arg8) = m ((c.tc : Thread Cert.KAsIdeal.nD Cert.KAsIdeal.τ).loc Cert.KAsIdeal.main_arg8)
      ∧ r.2.mem ((c.tc : Thread Cert.KAsIdeal.nD Cert.KAsIdeal.τ).loc Cert.KAsIdeal.main_arg9) = m ((c.tc : Thread Cert.KAsIdeal.nD Cert.KAsIdeal.τ).loc Cert.KAsIdeal.main_arg9)
      ∧ r.2.mem ((c.tc : Thread Cert.KAsIdeal.nD Cert.KAsIdeal.τ).loc Cert.KAsIdeal.main_arg10) = m ((c.tc : Thread Cert.KAsIdeal.nD Cert.KAsIdeal.τ).loc Cert.KAsIdeal.main_arg10)
      ∧ r.2.mem ((c.tc : Thread Cert.KAsIdeal.nD Cert.KAsIdeal.τ).loc Cert.KAsIdeal.main_arg11) = m ((c.tc : Thread Cert.KAsIdeal.nD Cert.KAsIdeal.τ).loc Cert.KAsIdeal.main_arg11)
      ∧ r.2.mem ((c.tc : Thread Cert.KAsIdeal.nD Cert.KAsIdeal.τ).loc Cert.KAsIdeal.main_arg12) = m ((c.tc : Thread Cert.KAsIdeal.nD Cert.KAsIdeal.τ).loc Cert.KAsIdeal.main_arg12)
      ∧ r.2.mem ((c.tc : Thread Cert.KAsIdeal.nD Cert.KAsIdeal.τ).loc Cert.KAsIdeal.main_arg13) = m ((c.tc : Thread Cert.KAsIdeal.nD Cert.KAsIdeal.τ).loc Cert.KAsIdeal.main_arg13)
      ∧ r.2.mem ((c.tc : Thread Cert.KAsIdeal.nD Cert.KAsIdeal.τ).loc Cert.KAsIdeal.main_arg14) = m ((c.tc : Thread Cert.KAsIdeal.nD Cert.KAsIdeal.τ).loc Cert.KAsIdeal.main_arg14)
      ∧ r.2.mem ((c.tc : Thread Cert.KAsIdeal.nD Cert.KAsIdeal.τ).loc Cert.KAsIdeal.main_arg15) = m ((c.tc : Thread Cert.KAsIdeal.nD Cert.KAsIdeal.τ).loc Cert.KAsIdeal.main_arg15)
      ∧ r.2.mem ((c.tc : Thread Cert.KAsIdeal.nD Cert.KAsIdeal.τ).loc Cert.KAsIdeal.main_arg16) = m ((c.tc : Thread Cert.KAsIdeal.nD Cert.KAsIdeal.τ).loc Cert.KAsIdeal.main_arg16)
      ∧ r.2.mem ((c.tc : Thread Cert.KAsIdeal.nD Cert.KAsIdeal.τ).loc Cert.KAsIdeal.main_arg17) = m ((c.tc : Thread Cert.KAsIdeal.nD Cert.KAsIdeal.τ).loc Cert.KAsIdeal.main_arg17)
      ∧ r.2.mem ((c.tc : Thread Cert.KAsIdeal.nD Cert.KAsIdeal.τ).loc Cert.KAsIdeal.main_arg18) = m ((c.tc : Thread Cert.KAsIdeal.nD Cert.KAsIdeal.τ).loc Cert.KAsIdeal.main_arg18)
      ∧ r.2.mem ((c.tc : Thread Cert.KAsIdeal.nD Cert.KAsIdeal.τ).loc Cert.KAsIdeal.main_arg19) = m ((c.tc : Thread Cert.KAsIdeal.nD Cert.KAsIdeal.τ).loc Cert.KAsIdeal.main_arg19)
      ∧ r.2.mem ((c.tc : Thread Cert.KAsIdeal.nD Cert.KAsIdeal.τ).loc Cert.KAsIdeal.main_arg20) = m ((c.tc : Thread Cert.KAsIdeal.nD Cert.KAsIdeal.τ).loc Cert.KAsIdeal.main_arg20)
      ∧ r.2.mem ((c.tc : Thread Cert.KAsIdeal.nD Cert.KAsIdeal.τ).loc Cert.KAsIdeal.main_arg21) = m ((c.tc : Thread Cert.KAsIdeal.nD Cert.KAsIdeal.τ).loc Cert.KAsIdeal.main_arg21)
      ∧ r.2.mem ((c.tc : Thread Cert.KAsIdeal.nD Cert.KAsIdeal.τ).loc Cert.KAsIdeal.main_arg22) = m ((c.tc : Thread Cert.KAsIdeal.nD Cert.KAsIdeal.τ).loc Cert.KAsIdeal.main_arg22)
      ∧ r.2.mem ((c.tc : Thread Cert.KAsIdeal.nD Cert.KAsIdeal.τ).loc Cert.KAsIdeal.main_arg23) = m ((c.tc : Thread Cert.KAsIdeal.nD Cert.KAsIdeal.τ).loc Cert.KAsIdeal.main_arg23)
      ∧ r.2.mem ((c.tc : Thread Cert.KAsIdeal.nD Cert.KAsIdeal.τ).loc Cert.KAsIdeal.main_arg24) = m ((c.tc : Thread Cert.KAsIdeal.nD Cert.KAsIdeal.τ).loc Cert.KAsIdeal.main_arg24)
      ∧ r.2.mem ((c.tc : Thread Cert.KAsIdeal.nD Cert.KAsIdeal.τ).loc Cert.KAsIdeal.main_arg25) = m ((c.tc : Thread Cert.KAsIdeal.nD Cert.KAsIdeal.τ).loc Cert.KAsIdeal.main_arg25)
      ∧ r.2.mem ((c.tc : Thread Cert.KAsIdeal.nD Cert.KAsIdeal.τ).loc Cert.KAsIdeal.main_arg26) = m ((c.tc : Thread Cert.KAsIdeal.nD Cert.KAsIdeal.τ).loc Cert.KAsIdeal.main_arg26)
      ∧ r.2.mem ((c.tc : Thread Cert.KAsIdeal.nD Cert.KAsIdeal.τ).loc Cert.KAsIdeal.main_arg27) = m ((c.tc : Thread Cert.KAsIdeal.nD Cert.KAsIdeal.τ).loc Cert.KAsIdeal.main_arg27)
      ∧ r.2.mem ((c.tc : Thread Cert.KAsIdeal.nD Cert.KAsIdeal.τ).loc Cert.KAsIdeal.main_arg28) = m ((c.tc : Thread Cert.KAsIdeal.nD Cert.KAsIdeal.τ).loc Cert.KAsIdeal.main_arg28)
      ∧ r.2.mem ((c.tc : Thread Cert.KAsIdeal.nD Cert.KAsIdeal.τ).loc Cert.KAsIdeal.main_arg29) = m ((c.tc : Thread Cert.KAsIdeal.nD Cert.KAsIdeal.τ).loc Cert.KAsIdeal.main_arg29)
      ∧ r.2.mem ((c.tc : Thread Cert.KAsIdeal.nD Cert.KAsIdeal.τ).loc Cert.KAsIdeal.main_arg30) = m ((c.tc : Thread Cert.KAsIdeal.nD Cert.KAsIdeal.τ).loc Cert.KAsIdeal.main_arg30)
      ∧ r.2.mem ((c.tc : Thread Cert.KAsIdeal.nD Cert.KAsIdeal.τ).loc Cert.KAsIdeal.main_arg31) = m ((c.tc : Thread Cert.KAsIdeal.nD Cert.KAsIdeal.τ).loc Cert.KAsIdeal.main_arg31)
      ∧ r.2.mem ((c.tc : Thread Cert.KAsIdeal.nD Cert.KAsIdeal.τ).loc Cert.KAsIdeal.main_arg32) = m ((c.tc : Thread Cert.KAsIdeal.nD Cert.KAsIdeal.τ).loc Cert.KAsIdeal.main_arg32)
      ∧ r.2.mem ((c.tc : Thread Cert.KAsIdeal.nD Cert.KAsIdeal.τ).loc Cert.KAsIdeal.main_arg33) = m ((c.tc : Thread Cert.KAsIdeal.nD Cert.KAsIdeal.τ).loc Cert.KAsIdeal.main_arg33)
      ∧ r.2.mem ((c.tc : Thread Cert.KAsIdeal.nD Cert.KAsIdeal.τ).loc Cert.KAsIdeal.main_arg34) = m ((c.tc : Thread Cert.KAsIdeal.nD Cert.KAsIdeal.τ).loc Cert.KAsIdeal.main_arg34)
      ∧ r.2.mem ((c.tc : Thread Cert.KAsIdeal.nD Cert.KAsIdeal.τ).loc Cert.KAsIdeal.main_arg35) = m ((c.tc : Thread Cert.KAsIdeal.nD Cert.KAsIdeal.τ).loc Cert.KAsIdeal.main_arg35))
      ∧ r.2.sem = fun _ => 0)

def quiescent_RAsIdeal [hRAsIdeal : Cert.RAsIdeal.Facts] : Prop :=
  ∀ (m : (ℓ : Loc Cert.RAsIdeal.nD Cert.RAsIdeal.τ Cert.RAsIdeal.sig) → Buf (Elt Ideal) ℓ) (g : Dev Cert.RAsIdeal.nD → PrngReg), Pre_RAsIdeal m →
    θ_run (Cert.RAsIdeal.defs (F := Ideal)) (onTc (τ := Cert.RAsIdeal.τ) (Cert.RAsIdeal.main (F := Ideal))) ⟨m, fun _ => 0, g⟩ (fun r => (∀ c : Dev Cert.RAsIdeal.nD,
      r.2.mem ((c.tc : Thread Cert.RAsIdeal.nD Cert.RAsIdeal.τ).loc Cert.RAsIdeal.main_arg0) = m ((c.tc : Thread Cert.RAsIdeal.nD Cert.RAsIdeal.τ).loc Cert.RAsIdeal.main_arg0)
      ∧ r.2.mem ((c.tc : Thread Cert.RAsIdeal.nD Cert.RAsIdeal.τ).loc Cert.RAsIdeal.main_arg1) = m ((c.tc : Thread Cert.RAsIdeal.nD Cert.RAsIdeal.τ).loc Cert.RAsIdeal.main_arg1)
      ∧ r.2.mem ((c.tc : Thread Cert.RAsIdeal.nD Cert.RAsIdeal.τ).loc Cert.RAsIdeal.main_arg2) = m ((c.tc : Thread Cert.RAsIdeal.nD Cert.RAsIdeal.τ).loc Cert.RAsIdeal.main_arg2)
      ∧ r.2.mem ((c.tc : Thread Cert.RAsIdeal.nD Cert.RAsIdeal.τ).loc Cert.RAsIdeal.main_arg3) = m ((c.tc : Thread Cert.RAsIdeal.nD Cert.RAsIdeal.τ).loc Cert.RAsIdeal.main_arg3)
      ∧ r.2.mem ((c.tc : Thread Cert.RAsIdeal.nD Cert.RAsIdeal.τ).loc Cert.RAsIdeal.main_arg4) = m ((c.tc : Thread Cert.RAsIdeal.nD Cert.RAsIdeal.τ).loc Cert.RAsIdeal.main_arg4)
      ∧ r.2.mem ((c.tc : Thread Cert.RAsIdeal.nD Cert.RAsIdeal.τ).loc Cert.RAsIdeal.main_arg5) = m ((c.tc : Thread Cert.RAsIdeal.nD Cert.RAsIdeal.τ).loc Cert.RAsIdeal.main_arg5)
      ∧ r.2.mem ((c.tc : Thread Cert.RAsIdeal.nD Cert.RAsIdeal.τ).loc Cert.RAsIdeal.main_arg6) = m ((c.tc : Thread Cert.RAsIdeal.nD Cert.RAsIdeal.τ).loc Cert.RAsIdeal.main_arg6)
      ∧ r.2.mem ((c.tc : Thread Cert.RAsIdeal.nD Cert.RAsIdeal.τ).loc Cert.RAsIdeal.main_arg7) = m ((c.tc : Thread Cert.RAsIdeal.nD Cert.RAsIdeal.τ).loc Cert.RAsIdeal.main_arg7)
      ∧ r.2.mem ((c.tc : Thread Cert.RAsIdeal.nD Cert.RAsIdeal.τ).loc Cert.RAsIdeal.main_arg8) = m ((c.tc : Thread Cert.RAsIdeal.nD Cert.RAsIdeal.τ).loc Cert.RAsIdeal.main_arg8)
      ∧ r.2.mem ((c.tc : Thread Cert.RAsIdeal.nD Cert.RAsIdeal.τ).loc Cert.RAsIdeal.main_arg9) = m ((c.tc : Thread Cert.RAsIdeal.nD Cert.RAsIdeal.τ).loc Cert.RAsIdeal.main_arg9)
      ∧ r.2.mem ((c.tc : Thread Cert.RAsIdeal.nD Cert.RAsIdeal.τ).loc Cert.RAsIdeal.main_arg10) = m ((c.tc : Thread Cert.RAsIdeal.nD Cert.RAsIdeal.τ).loc Cert.RAsIdeal.main_arg10)
      ∧ r.2.mem ((c.tc : Thread Cert.RAsIdeal.nD Cert.RAsIdeal.τ).loc Cert.RAsIdeal.main_arg11) = m ((c.tc : Thread Cert.RAsIdeal.nD Cert.RAsIdeal.τ).loc Cert.RAsIdeal.main_arg11)
      ∧ r.2.mem ((c.tc : Thread Cert.RAsIdeal.nD Cert.RAsIdeal.τ).loc Cert.RAsIdeal.main_arg12) = m ((c.tc : Thread Cert.RAsIdeal.nD Cert.RAsIdeal.τ).loc Cert.RAsIdeal.main_arg12)
      ∧ r.2.mem ((c.tc : Thread Cert.RAsIdeal.nD Cert.RAsIdeal.τ).loc Cert.RAsIdeal.main_arg13) = m ((c.tc : Thread Cert.RAsIdeal.nD Cert.RAsIdeal.τ).loc Cert.RAsIdeal.main_arg13)
      ∧ r.2.mem ((c.tc : Thread Cert.RAsIdeal.nD Cert.RAsIdeal.τ).loc Cert.RAsIdeal.main_arg14) = m ((c.tc : Thread Cert.RAsIdeal.nD Cert.RAsIdeal.τ).loc Cert.RAsIdeal.main_arg14)
      ∧ r.2.mem ((c.tc : Thread Cert.RAsIdeal.nD Cert.RAsIdeal.τ).loc Cert.RAsIdeal.main_arg15) = m ((c.tc : Thread Cert.RAsIdeal.nD Cert.RAsIdeal.τ).loc Cert.RAsIdeal.main_arg15)
      ∧ r.2.mem ((c.tc : Thread Cert.RAsIdeal.nD Cert.RAsIdeal.τ).loc Cert.RAsIdeal.main_arg16) = m ((c.tc : Thread Cert.RAsIdeal.nD Cert.RAsIdeal.τ).loc Cert.RAsIdeal.main_arg16)
      ∧ r.2.mem ((c.tc : Thread Cert.RAsIdeal.nD Cert.RAsIdeal.τ).loc Cert.RAsIdeal.main_arg17) = m ((c.tc : Thread Cert.RAsIdeal.nD Cert.RAsIdeal.τ).loc Cert.RAsIdeal.main_arg17)
      ∧ r.2.mem ((c.tc : Thread Cert.RAsIdeal.nD Cert.RAsIdeal.τ).loc Cert.RAsIdeal.main_arg18) = m ((c.tc : Thread Cert.RAsIdeal.nD Cert.RAsIdeal.τ).loc Cert.RAsIdeal.main_arg18)
      ∧ r.2.mem ((c.tc : Thread Cert.RAsIdeal.nD Cert.RAsIdeal.τ).loc Cert.RAsIdeal.main_arg19) = m ((c.tc : Thread Cert.RAsIdeal.nD Cert.RAsIdeal.τ).loc Cert.RAsIdeal.main_arg19)
      ∧ r.2.mem ((c.tc : Thread Cert.RAsIdeal.nD Cert.RAsIdeal.τ).loc Cert.RAsIdeal.main_arg20) = m ((c.tc : Thread Cert.RAsIdeal.nD Cert.RAsIdeal.τ).loc Cert.RAsIdeal.main_arg20)
      ∧ r.2.mem ((c.tc : Thread Cert.RAsIdeal.nD Cert.RAsIdeal.τ).loc Cert.RAsIdeal.main_arg21) = m ((c.tc : Thread Cert.RAsIdeal.nD Cert.RAsIdeal.τ).loc Cert.RAsIdeal.main_arg21)
      ∧ r.2.mem ((c.tc : Thread Cert.RAsIdeal.nD Cert.RAsIdeal.τ).loc Cert.RAsIdeal.main_arg22) = m ((c.tc : Thread Cert.RAsIdeal.nD Cert.RAsIdeal.τ).loc Cert.RAsIdeal.main_arg22)
      ∧ r.2.mem ((c.tc : Thread Cert.RAsIdeal.nD Cert.RAsIdeal.τ).loc Cert.RAsIdeal.main_arg23) = m ((c.tc : Thread Cert.RAsIdeal.nD Cert.RAsIdeal.τ).loc Cert.RAsIdeal.main_arg23)
      ∧ r.2.mem ((c.tc : Thread Cert.RAsIdeal.nD Cert.RAsIdeal.τ).loc Cert.RAsIdeal.main_arg24) = m ((c.tc : Thread Cert.RAsIdeal.nD Cert.RAsIdeal.τ).loc Cert.RAsIdeal.main_arg24)
      ∧ r.2.mem ((c.tc : Thread Cert.RAsIdeal.nD Cert.RAsIdeal.τ).loc Cert.RAsIdeal.main_arg25) = m ((c.tc : Thread Cert.RAsIdeal.nD Cert.RAsIdeal.τ).loc Cert.RAsIdeal.main_arg25)
      ∧ r.2.mem ((c.tc : Thread Cert.RAsIdeal.nD Cert.RAsIdeal.τ).loc Cert.RAsIdeal.main_arg26) = m ((c.tc : Thread Cert.RAsIdeal.nD Cert.RAsIdeal.τ).loc Cert.RAsIdeal.main_arg26)
      ∧ r.2.mem ((c.tc : Thread Cert.RAsIdeal.nD Cert.RAsIdeal.τ).loc Cert.RAsIdeal.main_arg27) = m ((c.tc : Thread Cert.RAsIdeal.nD Cert.RAsIdeal.τ).loc Cert.RAsIdeal.main_arg27)
      ∧ r.2.mem ((c.tc : Thread Cert.RAsIdeal.nD Cert.RAsIdeal.τ).loc Cert.RAsIdeal.main_arg28) = m ((c.tc : Thread Cert.RAsIdeal.nD Cert.RAsIdeal.τ).loc Cert.RAsIdeal.main_arg28)
      ∧ r.2.mem ((c.tc : Thread Cert.RAsIdeal.nD Cert.RAsIdeal.τ).loc Cert.RAsIdeal.main_arg29) = m ((c.tc : Thread Cert.RAsIdeal.nD Cert.RAsIdeal.τ).loc Cert.RAsIdeal.main_arg29)
      ∧ r.2.mem ((c.tc : Thread Cert.RAsIdeal.nD Cert.RAsIdeal.τ).loc Cert.RAsIdeal.main_arg30) = m ((c.tc : Thread Cert.RAsIdeal.nD Cert.RAsIdeal.τ).loc Cert.RAsIdeal.main_arg30)
      ∧ r.2.mem ((c.tc : Thread Cert.RAsIdeal.nD Cert.RAsIdeal.τ).loc Cert.RAsIdeal.main_arg31) = m ((c.tc : Thread Cert.RAsIdeal.nD Cert.RAsIdeal.τ).loc Cert.RAsIdeal.main_arg31)
      ∧ r.2.mem ((c.tc : Thread Cert.RAsIdeal.nD Cert.RAsIdeal.τ).loc Cert.RAsIdeal.main_arg32) = m ((c.tc : Thread Cert.RAsIdeal.nD Cert.RAsIdeal.τ).loc Cert.RAsIdeal.main_arg32)
      ∧ r.2.mem ((c.tc : Thread Cert.RAsIdeal.nD Cert.RAsIdeal.τ).loc Cert.RAsIdeal.main_arg33) = m ((c.tc : Thread Cert.RAsIdeal.nD Cert.RAsIdeal.τ).loc Cert.RAsIdeal.main_arg33)
      ∧ r.2.mem ((c.tc : Thread Cert.RAsIdeal.nD Cert.RAsIdeal.τ).loc Cert.RAsIdeal.main_arg34) = m ((c.tc : Thread Cert.RAsIdeal.nD Cert.RAsIdeal.τ).loc Cert.RAsIdeal.main_arg34)
      ∧ r.2.mem ((c.tc : Thread Cert.RAsIdeal.nD Cert.RAsIdeal.τ).loc Cert.RAsIdeal.main_arg35) = m ((c.tc : Thread Cert.RAsIdeal.nD Cert.RAsIdeal.τ).loc Cert.RAsIdeal.main_arg35))
      ∧ r.2.sem = fun _ => 0)

def quiescent_KMi [hKMi : Cert.KMi.Facts] : Prop :=
  ∀ (m : (ℓ : Loc Cert.KMi.nD Cert.KMi.τ Cert.KMi.sig) → Buf (Elt Bits) ℓ) (g : Dev Cert.KMi.nD → PrngReg), Pre_KMi m →
    θ_run (Cert.KMi.defs (F := Bits)) (onTc (τ := Cert.KMi.τ) (Cert.KMi.main (F := Bits))) ⟨m, fun _ => 0, g⟩ (fun r => (∀ c : Dev Cert.KMi.nD,
      r.2.mem ((c.tc : Thread Cert.KMi.nD Cert.KMi.τ).loc Cert.KMi.main_arg0) = m ((c.tc : Thread Cert.KMi.nD Cert.KMi.τ).loc Cert.KMi.main_arg0)
      ∧ r.2.mem ((c.tc : Thread Cert.KMi.nD Cert.KMi.τ).loc Cert.KMi.main_arg1) = m ((c.tc : Thread Cert.KMi.nD Cert.KMi.τ).loc Cert.KMi.main_arg1)
      ∧ r.2.mem ((c.tc : Thread Cert.KMi.nD Cert.KMi.τ).loc Cert.KMi.main_arg2) = m ((c.tc : Thread Cert.KMi.nD Cert.KMi.τ).loc Cert.KMi.main_arg2)
      ∧ r.2.mem ((c.tc : Thread Cert.KMi.nD Cert.KMi.τ).loc Cert.KMi.main_arg3) = m ((c.tc : Thread Cert.KMi.nD Cert.KMi.τ).loc Cert.KMi.main_arg3)
      ∧ r.2.mem ((c.tc : Thread Cert.KMi.nD Cert.KMi.τ).loc Cert.KMi.main_arg4) = m ((c.tc : Thread Cert.KMi.nD Cert.KMi.τ).loc Cert.KMi.main_arg4)
      ∧ r.2.mem ((c.tc : Thread Cert.KMi.nD Cert.KMi.τ).loc Cert.KMi.main_arg5) = m ((c.tc : Thread Cert.KMi.nD Cert.KMi.τ).loc Cert.KMi.main_arg5))
      ∧ r.2.sem = fun _ => 0)

def quiescent_KMiIdeal [hKMiIdeal : Cert.KMiIdeal.Facts] : Prop :=
  ∀ (m : (ℓ : Loc Cert.KMiIdeal.nD Cert.KMiIdeal.τ Cert.KMiIdeal.sig) → Buf (Elt Ideal) ℓ) (g : Dev Cert.KMiIdeal.nD → PrngReg), Pre_KMiIdeal m →
    θ_run (Cert.KMiIdeal.defs (F := Ideal)) (onTc (τ := Cert.KMiIdeal.τ) (Cert.KMiIdeal.main (F := Ideal))) ⟨m, fun _ => 0, g⟩ (fun r => (∀ c : Dev Cert.KMiIdeal.nD,
      r.2.mem ((c.tc : Thread Cert.KMiIdeal.nD Cert.KMiIdeal.τ).loc Cert.KMiIdeal.main_arg0) = m ((c.tc : Thread Cert.KMiIdeal.nD Cert.KMiIdeal.τ).loc Cert.KMiIdeal.main_arg0)
      ∧ r.2.mem ((c.tc : Thread Cert.KMiIdeal.nD Cert.KMiIdeal.τ).loc Cert.KMiIdeal.main_arg1) = m ((c.tc : Thread Cert.KMiIdeal.nD Cert.KMiIdeal.τ).loc Cert.KMiIdeal.main_arg1)
      ∧ r.2.mem ((c.tc : Thread Cert.KMiIdeal.nD Cert.KMiIdeal.τ).loc Cert.KMiIdeal.main_arg2) = m ((c.tc : Thread Cert.KMiIdeal.nD Cert.KMiIdeal.τ).loc Cert.KMiIdeal.main_arg2)
      ∧ r.2.mem ((c.tc : Thread Cert.KMiIdeal.nD Cert.KMiIdeal.τ).loc Cert.KMiIdeal.main_arg3) = m ((c.tc : Thread Cert.KMiIdeal.nD Cert.KMiIdeal.τ).loc Cert.KMiIdeal.main_arg3)
      ∧ r.2.mem ((c.tc : Thread Cert.KMiIdeal.nD Cert.KMiIdeal.τ).loc Cert.KMiIdeal.main_arg4) = m ((c.tc : Thread Cert.KMiIdeal.nD Cert.KMiIdeal.τ).loc Cert.KMiIdeal.main_arg4)
      ∧ r.2.mem ((c.tc : Thread Cert.KMiIdeal.nD Cert.KMiIdeal.τ).loc Cert.KMiIdeal.main_arg5) = m ((c.tc : Thread Cert.KMiIdeal.nD Cert.KMiIdeal.τ).loc Cert.KMiIdeal.main_arg5))
      ∧ r.2.sem = fun _ => 0)

def quiescent_RMiIdeal [hRMiIdeal : Cert.RMiIdeal.Facts] : Prop :=
  ∀ (m : (ℓ : Loc Cert.RMiIdeal.nD Cert.RMiIdeal.τ Cert.RMiIdeal.sig) → Buf (Elt Ideal) ℓ) (g : Dev Cert.RMiIdeal.nD → PrngReg), Pre_RMiIdeal m →
    θ_run (Cert.RMiIdeal.defs (F := Ideal)) (onTc (τ := Cert.RMiIdeal.τ) (Cert.RMiIdeal.main (F := Ideal))) ⟨m, fun _ => 0, g⟩ (fun r => (∀ c : Dev Cert.RMiIdeal.nD,
      r.2.mem ((c.tc : Thread Cert.RMiIdeal.nD Cert.RMiIdeal.τ).loc Cert.RMiIdeal.main_arg0) = m ((c.tc : Thread Cert.RMiIdeal.nD Cert.RMiIdeal.τ).loc Cert.RMiIdeal.main_arg0)
      ∧ r.2.mem ((c.tc : Thread Cert.RMiIdeal.nD Cert.RMiIdeal.τ).loc Cert.RMiIdeal.main_arg1) = m ((c.tc : Thread Cert.RMiIdeal.nD Cert.RMiIdeal.τ).loc Cert.RMiIdeal.main_arg1)
      ∧ r.2.mem ((c.tc : Thread Cert.RMiIdeal.nD Cert.RMiIdeal.τ).loc Cert.RMiIdeal.main_arg2) = m ((c.tc : Thread Cert.RMiIdeal.nD Cert.RMiIdeal.τ).loc Cert.RMiIdeal.main_arg2)
      ∧ r.2.mem ((c.tc : Thread Cert.RMiIdeal.nD Cert.RMiIdeal.τ).loc Cert.RMiIdeal.main_arg3) = m ((c.tc : Thread Cert.RMiIdeal.nD Cert.RMiIdeal.τ).loc Cert.RMiIdeal.main_arg3)
      ∧ r.2.mem ((c.tc : Thread Cert.RMiIdeal.nD Cert.RMiIdeal.τ).loc Cert.RMiIdeal.main_arg4) = m ((c.tc : Thread Cert.RMiIdeal.nD Cert.RMiIdeal.τ).loc Cert.RMiIdeal.main_arg4)
      ∧ r.2.mem ((c.tc : Thread Cert.RMiIdeal.nD Cert.RMiIdeal.τ).loc Cert.RMiIdeal.main_arg5) = m ((c.tc : Thread Cert.RMiIdeal.nD Cert.RMiIdeal.τ).loc Cert.RMiIdeal.main_arg5))
      ∧ r.2.sem = fun _ => 0)

def quiescent_KIb [hKIb : Cert.KIb.Facts] : Prop :=
  ∀ (m : (ℓ : Loc Cert.KIb.nD Cert.KIb.τ Cert.KIb.sig) → Buf (Elt Bits) ℓ) (g : Dev Cert.KIb.nD → PrngReg), Pre_KIb m →
    θ_run (Cert.KIb.defs (F := Bits)) (onTc (τ := Cert.KIb.τ) (Cert.KIb.main (F := Bits))) ⟨m, fun _ => 0, g⟩ (fun r => (∀ c : Dev Cert.KIb.nD,
      r.2.mem ((c.tc : Thread Cert.KIb.nD Cert.KIb.τ).loc Cert.KIb.main_arg0) = m ((c.tc : Thread Cert.KIb.nD Cert.KIb.τ).loc Cert.KIb.main_arg0)
      ∧ r.2.mem ((c.tc : Thread Cert.KIb.nD Cert.KIb.τ).loc Cert.KIb.main_arg1) = m ((c.tc : Thread Cert.KIb.nD Cert.KIb.τ).loc Cert.KIb.main_arg1)
      ∧ r.2.mem ((c.tc : Thread Cert.KIb.nD Cert.KIb.τ).loc Cert.KIb.main_arg2) = m ((c.tc : Thread Cert.KIb.nD Cert.KIb.τ).loc Cert.KIb.main_arg2)
      ∧ r.2.mem ((c.tc : Thread Cert.KIb.nD Cert.KIb.τ).loc Cert.KIb.main_arg3) = m ((c.tc : Thread Cert.KIb.nD Cert.KIb.τ).loc Cert.KIb.main_arg3)
      ∧ r.2.mem ((c.tc : Thread Cert.KIb.nD Cert.KIb.τ).loc Cert.KIb.main_arg4) = m ((c.tc : Thread Cert.KIb.nD Cert.KIb.τ).loc Cert.KIb.main_arg4)
      ∧ r.2.mem ((c.tc : Thread Cert.KIb.nD Cert.KIb.τ).loc Cert.KIb.main_arg5) = m ((c.tc : Thread Cert.KIb.nD Cert.KIb.τ).loc Cert.KIb.main_arg5)
      ∧ r.2.mem ((c.tc : Thread Cert.KIb.nD Cert.KIb.τ).loc Cert.KIb.main_arg6) = m ((c.tc : Thread Cert.KIb.nD Cert.KIb.τ).loc Cert.KIb.main_arg6)
      ∧ r.2.mem ((c.tc : Thread Cert.KIb.nD Cert.KIb.τ).loc Cert.KIb.main_arg7) = m ((c.tc : Thread Cert.KIb.nD Cert.KIb.τ).loc Cert.KIb.main_arg7)
      ∧ r.2.mem ((c.tc : Thread Cert.KIb.nD Cert.KIb.τ).loc Cert.KIb.main_arg8) = m ((c.tc : Thread Cert.KIb.nD Cert.KIb.τ).loc Cert.KIb.main_arg8)
      ∧ r.2.mem ((c.tc : Thread Cert.KIb.nD Cert.KIb.τ).loc Cert.KIb.main_arg9) = m ((c.tc : Thread Cert.KIb.nD Cert.KIb.τ).loc Cert.KIb.main_arg9))
      ∧ r.2.sem = fun _ => 0)

def quiescent_KIbIdeal [hKIbIdeal : Cert.KIbIdeal.Facts] : Prop :=
  ∀ (m : (ℓ : Loc Cert.KIbIdeal.nD Cert.KIbIdeal.τ Cert.KIbIdeal.sig) → Buf (Elt Ideal) ℓ) (g : Dev Cert.KIbIdeal.nD → PrngReg), Pre_KIbIdeal m →
    θ_run (Cert.KIbIdeal.defs (F := Ideal)) (onTc (τ := Cert.KIbIdeal.τ) (Cert.KIbIdeal.main (F := Ideal))) ⟨m, fun _ => 0, g⟩ (fun r => (∀ c : Dev Cert.KIbIdeal.nD,
      r.2.mem ((c.tc : Thread Cert.KIbIdeal.nD Cert.KIbIdeal.τ).loc Cert.KIbIdeal.main_arg0) = m ((c.tc : Thread Cert.KIbIdeal.nD Cert.KIbIdeal.τ).loc Cert.KIbIdeal.main_arg0)
      ∧ r.2.mem ((c.tc : Thread Cert.KIbIdeal.nD Cert.KIbIdeal.τ).loc Cert.KIbIdeal.main_arg1) = m ((c.tc : Thread Cert.KIbIdeal.nD Cert.KIbIdeal.τ).loc Cert.KIbIdeal.main_arg1)
      ∧ r.2.mem ((c.tc : Thread Cert.KIbIdeal.nD Cert.KIbIdeal.τ).loc Cert.KIbIdeal.main_arg2) = m ((c.tc : Thread Cert.KIbIdeal.nD Cert.KIbIdeal.τ).loc Cert.KIbIdeal.main_arg2)
      ∧ r.2.mem ((c.tc : Thread Cert.KIbIdeal.nD Cert.KIbIdeal.τ).loc Cert.KIbIdeal.main_arg3) = m ((c.tc : Thread Cert.KIbIdeal.nD Cert.KIbIdeal.τ).loc Cert.KIbIdeal.main_arg3)
      ∧ r.2.mem ((c.tc : Thread Cert.KIbIdeal.nD Cert.KIbIdeal.τ).loc Cert.KIbIdeal.main_arg4) = m ((c.tc : Thread Cert.KIbIdeal.nD Cert.KIbIdeal.τ).loc Cert.KIbIdeal.main_arg4)
      ∧ r.2.mem ((c.tc : Thread Cert.KIbIdeal.nD Cert.KIbIdeal.τ).loc Cert.KIbIdeal.main_arg5) = m ((c.tc : Thread Cert.KIbIdeal.nD Cert.KIbIdeal.τ).loc Cert.KIbIdeal.main_arg5)
      ∧ r.2.mem ((c.tc : Thread Cert.KIbIdeal.nD Cert.KIbIdeal.τ).loc Cert.KIbIdeal.main_arg6) = m ((c.tc : Thread Cert.KIbIdeal.nD Cert.KIbIdeal.τ).loc Cert.KIbIdeal.main_arg6)
      ∧ r.2.mem ((c.tc : Thread Cert.KIbIdeal.nD Cert.KIbIdeal.τ).loc Cert.KIbIdeal.main_arg7) = m ((c.tc : Thread Cert.KIbIdeal.nD Cert.KIbIdeal.τ).loc Cert.KIbIdeal.main_arg7)
      ∧ r.2.mem ((c.tc : Thread Cert.KIbIdeal.nD Cert.KIbIdeal.τ).loc Cert.KIbIdeal.main_arg8) = m ((c.tc : Thread Cert.KIbIdeal.nD Cert.KIbIdeal.τ).loc Cert.KIbIdeal.main_arg8)
      ∧ r.2.mem ((c.tc : Thread Cert.KIbIdeal.nD Cert.KIbIdeal.τ).loc Cert.KIbIdeal.main_arg9) = m ((c.tc : Thread Cert.KIbIdeal.nD Cert.KIbIdeal.τ).loc Cert.KIbIdeal.main_arg9))
      ∧ r.2.sem = fun _ => 0)

def quiescent_KIbIdeal_pre_finite_ib [hKIbIdeal : Cert.KIbIdeal.Facts] [hPre_finite_ib : Cert.Pre_finite_ib.Facts] : Prop :=
  ∀ (m : (ℓ : Loc Cert.KIbIdeal.nD Cert.KIbIdeal.τ Cert.KIbIdeal.sig) → Buf (Elt Ideal) ℓ) (g : Dev Cert.KIbIdeal.nD → PrngReg), Pre_KIbIdeal_finite_ib m →
    θ_run (Cert.KIbIdeal.defs (F := Ideal)) (onTc (τ := Cert.KIbIdeal.τ) (Cert.KIbIdeal.main (F := Ideal))) ⟨m, fun _ => 0, g⟩ (fun r => (∀ c : Dev Cert.KIbIdeal.nD,
      r.2.mem ((c.tc : Thread Cert.KIbIdeal.nD Cert.KIbIdeal.τ).loc Cert.KIbIdeal.main_arg0) = m ((c.tc : Thread Cert.KIbIdeal.nD Cert.KIbIdeal.τ).loc Cert.KIbIdeal.main_arg0)
      ∧ r.2.mem ((c.tc : Thread Cert.KIbIdeal.nD Cert.KIbIdeal.τ).loc Cert.KIbIdeal.main_arg1) = m ((c.tc : Thread Cert.KIbIdeal.nD Cert.KIbIdeal.τ).loc Cert.KIbIdeal.main_arg1)
      ∧ r.2.mem ((c.tc : Thread Cert.KIbIdeal.nD Cert.KIbIdeal.τ).loc Cert.KIbIdeal.main_arg2) = m ((c.tc : Thread Cert.KIbIdeal.nD Cert.KIbIdeal.τ).loc Cert.KIbIdeal.main_arg2)
      ∧ r.2.mem ((c.tc : Thread Cert.KIbIdeal.nD Cert.KIbIdeal.τ).loc Cert.KIbIdeal.main_arg3) = m ((c.tc : Thread Cert.KIbIdeal.nD Cert.KIbIdeal.τ).loc Cert.KIbIdeal.main_arg3)
      ∧ r.2.mem ((c.tc : Thread Cert.KIbIdeal.nD Cert.KIbIdeal.τ).loc Cert.KIbIdeal.main_arg4) = m ((c.tc : Thread Cert.KIbIdeal.nD Cert.KIbIdeal.τ).loc Cert.KIbIdeal.main_arg4)
      ∧ r.2.mem ((c.tc : Thread Cert.KIbIdeal.nD Cert.KIbIdeal.τ).loc Cert.KIbIdeal.main_arg5) = m ((c.tc : Thread Cert.KIbIdeal.nD Cert.KIbIdeal.τ).loc Cert.KIbIdeal.main_arg5)
      ∧ r.2.mem ((c.tc : Thread Cert.KIbIdeal.nD Cert.KIbIdeal.τ).loc Cert.KIbIdeal.main_arg6) = m ((c.tc : Thread Cert.KIbIdeal.nD Cert.KIbIdeal.τ).loc Cert.KIbIdeal.main_arg6)
      ∧ r.2.mem ((c.tc : Thread Cert.KIbIdeal.nD Cert.KIbIdeal.τ).loc Cert.KIbIdeal.main_arg7) = m ((c.tc : Thread Cert.KIbIdeal.nD Cert.KIbIdeal.τ).loc Cert.KIbIdeal.main_arg7)
      ∧ r.2.mem ((c.tc : Thread Cert.KIbIdeal.nD Cert.KIbIdeal.τ).loc Cert.KIbIdeal.main_arg8) = m ((c.tc : Thread Cert.KIbIdeal.nD Cert.KIbIdeal.τ).loc Cert.KIbIdeal.main_arg8)
      ∧ r.2.mem ((c.tc : Thread Cert.KIbIdeal.nD Cert.KIbIdeal.τ).loc Cert.KIbIdeal.main_arg9) = m ((c.tc : Thread Cert.KIbIdeal.nD Cert.KIbIdeal.τ).loc Cert.KIbIdeal.main_arg9))
      ∧ r.2.sem = fun _ => 0)

def quiescent_RIbIdeal [hRIbIdeal : Cert.RIbIdeal.Facts] : Prop :=
  ∀ (m : (ℓ : Loc Cert.RIbIdeal.nD Cert.RIbIdeal.τ Cert.RIbIdeal.sig) → Buf (Elt Ideal) ℓ) (g : Dev Cert.RIbIdeal.nD → PrngReg), Pre_RIbIdeal m →
    θ_run (Cert.RIbIdeal.defs (F := Ideal)) (onTc (τ := Cert.RIbIdeal.τ) (Cert.RIbIdeal.main (F := Ideal))) ⟨m, fun _ => 0, g⟩ (fun r => (∀ c : Dev Cert.RIbIdeal.nD,
      r.2.mem ((c.tc : Thread Cert.RIbIdeal.nD Cert.RIbIdeal.τ).loc Cert.RIbIdeal.main_arg0) = m ((c.tc : Thread Cert.RIbIdeal.nD Cert.RIbIdeal.τ).loc Cert.RIbIdeal.main_arg0)
      ∧ r.2.mem ((c.tc : Thread Cert.RIbIdeal.nD Cert.RIbIdeal.τ).loc Cert.RIbIdeal.main_arg1) = m ((c.tc : Thread Cert.RIbIdeal.nD Cert.RIbIdeal.τ).loc Cert.RIbIdeal.main_arg1)
      ∧ r.2.mem ((c.tc : Thread Cert.RIbIdeal.nD Cert.RIbIdeal.τ).loc Cert.RIbIdeal.main_arg2) = m ((c.tc : Thread Cert.RIbIdeal.nD Cert.RIbIdeal.τ).loc Cert.RIbIdeal.main_arg2)
      ∧ r.2.mem ((c.tc : Thread Cert.RIbIdeal.nD Cert.RIbIdeal.τ).loc Cert.RIbIdeal.main_arg3) = m ((c.tc : Thread Cert.RIbIdeal.nD Cert.RIbIdeal.τ).loc Cert.RIbIdeal.main_arg3)
      ∧ r.2.mem ((c.tc : Thread Cert.RIbIdeal.nD Cert.RIbIdeal.τ).loc Cert.RIbIdeal.main_arg4) = m ((c.tc : Thread Cert.RIbIdeal.nD Cert.RIbIdeal.τ).loc Cert.RIbIdeal.main_arg4)
      ∧ r.2.mem ((c.tc : Thread Cert.RIbIdeal.nD Cert.RIbIdeal.τ).loc Cert.RIbIdeal.main_arg5) = m ((c.tc : Thread Cert.RIbIdeal.nD Cert.RIbIdeal.τ).loc Cert.RIbIdeal.main_arg5)
      ∧ r.2.mem ((c.tc : Thread Cert.RIbIdeal.nD Cert.RIbIdeal.τ).loc Cert.RIbIdeal.main_arg6) = m ((c.tc : Thread Cert.RIbIdeal.nD Cert.RIbIdeal.τ).loc Cert.RIbIdeal.main_arg6)
      ∧ r.2.mem ((c.tc : Thread Cert.RIbIdeal.nD Cert.RIbIdeal.τ).loc Cert.RIbIdeal.main_arg7) = m ((c.tc : Thread Cert.RIbIdeal.nD Cert.RIbIdeal.τ).loc Cert.RIbIdeal.main_arg7)
      ∧ r.2.mem ((c.tc : Thread Cert.RIbIdeal.nD Cert.RIbIdeal.τ).loc Cert.RIbIdeal.main_arg8) = m ((c.tc : Thread Cert.RIbIdeal.nD Cert.RIbIdeal.τ).loc Cert.RIbIdeal.main_arg8)
      ∧ r.2.mem ((c.tc : Thread Cert.RIbIdeal.nD Cert.RIbIdeal.τ).loc Cert.RIbIdeal.main_arg9) = m ((c.tc : Thread Cert.RIbIdeal.nD Cert.RIbIdeal.τ).loc Cert.RIbIdeal.main_arg9))
      ∧ r.2.sem = fun _ => 0)

def quiescent_RIbIdeal_pre_finite_ib [hRIbIdeal : Cert.RIbIdeal.Facts] [hPre_finite_ib : Cert.Pre_finite_ib.Facts] : Prop :=
  ∀ (m : (ℓ : Loc Cert.RIbIdeal.nD Cert.RIbIdeal.τ Cert.RIbIdeal.sig) → Buf (Elt Ideal) ℓ) (g : Dev Cert.RIbIdeal.nD → PrngReg), Pre_RIbIdeal_finite_ib m →
    θ_run (Cert.RIbIdeal.defs (F := Ideal)) (onTc (τ := Cert.RIbIdeal.τ) (Cert.RIbIdeal.main (F := Ideal))) ⟨m, fun _ => 0, g⟩ (fun r => (∀ c : Dev Cert.RIbIdeal.nD,
      r.2.mem ((c.tc : Thread Cert.RIbIdeal.nD Cert.RIbIdeal.τ).loc Cert.RIbIdeal.main_arg0) = m ((c.tc : Thread Cert.RIbIdeal.nD Cert.RIbIdeal.τ).loc Cert.RIbIdeal.main_arg0)
      ∧ r.2.mem ((c.tc : Thread Cert.RIbIdeal.nD Cert.RIbIdeal.τ).loc Cert.RIbIdeal.main_arg1) = m ((c.tc : Thread Cert.RIbIdeal.nD Cert.RIbIdeal.τ).loc Cert.RIbIdeal.main_arg1)
      ∧ r.2.mem ((c.tc : Thread Cert.RIbIdeal.nD Cert.RIbIdeal.τ).loc Cert.RIbIdeal.main_arg2) = m ((c.tc : Thread Cert.RIbIdeal.nD Cert.RIbIdeal.τ).loc Cert.RIbIdeal.main_arg2)
      ∧ r.2.mem ((c.tc : Thread Cert.RIbIdeal.nD Cert.RIbIdeal.τ).loc Cert.RIbIdeal.main_arg3) = m ((c.tc : Thread Cert.RIbIdeal.nD Cert.RIbIdeal.τ).loc Cert.RIbIdeal.main_arg3)
      ∧ r.2.mem ((c.tc : Thread Cert.RIbIdeal.nD Cert.RIbIdeal.τ).loc Cert.RIbIdeal.main_arg4) = m ((c.tc : Thread Cert.RIbIdeal.nD Cert.RIbIdeal.τ).loc Cert.RIbIdeal.main_arg4)
      ∧ r.2.mem ((c.tc : Thread Cert.RIbIdeal.nD Cert.RIbIdeal.τ).loc Cert.RIbIdeal.main_arg5) = m ((c.tc : Thread Cert.RIbIdeal.nD Cert.RIbIdeal.τ).loc Cert.RIbIdeal.main_arg5)
      ∧ r.2.mem ((c.tc : Thread Cert.RIbIdeal.nD Cert.RIbIdeal.τ).loc Cert.RIbIdeal.main_arg6) = m ((c.tc : Thread Cert.RIbIdeal.nD Cert.RIbIdeal.τ).loc Cert.RIbIdeal.main_arg6)
      ∧ r.2.mem ((c.tc : Thread Cert.RIbIdeal.nD Cert.RIbIdeal.τ).loc Cert.RIbIdeal.main_arg7) = m ((c.tc : Thread Cert.RIbIdeal.nD Cert.RIbIdeal.τ).loc Cert.RIbIdeal.main_arg7)
      ∧ r.2.mem ((c.tc : Thread Cert.RIbIdeal.nD Cert.RIbIdeal.τ).loc Cert.RIbIdeal.main_arg8) = m ((c.tc : Thread Cert.RIbIdeal.nD Cert.RIbIdeal.τ).loc Cert.RIbIdeal.main_arg8)
      ∧ r.2.mem ((c.tc : Thread Cert.RIbIdeal.nD Cert.RIbIdeal.τ).loc Cert.RIbIdeal.main_arg9) = m ((c.tc : Thread Cert.RIbIdeal.nD Cert.RIbIdeal.τ).loc Cert.RIbIdeal.main_arg9))
      ∧ r.2.sem = fun _ => 0)

def quiescent_KSu [hKSu : Cert.KSu.Facts] [hPre_inside_su : Cert.Pre_inside_su.Facts] : Prop :=
  ∀ (m : (ℓ : Loc Cert.KSu.nD Cert.KSu.τ Cert.KSu.sig) → Buf (Elt Bits) ℓ) (g : Dev Cert.KSu.nD → PrngReg), Pre_KSu m →
    θ_run (Cert.KSu.defs (F := Bits)) (onTc (τ := Cert.KSu.τ) (Cert.KSu.main (F := Bits))) ⟨m, fun _ => 0, g⟩ (fun r => (∀ c : Dev Cert.KSu.nD,
      r.2.mem ((c.tc : Thread Cert.KSu.nD Cert.KSu.τ).loc Cert.KSu.main_arg0) = m ((c.tc : Thread Cert.KSu.nD Cert.KSu.τ).loc Cert.KSu.main_arg0)
      ∧ r.2.mem ((c.tc : Thread Cert.KSu.nD Cert.KSu.τ).loc Cert.KSu.main_arg1) = m ((c.tc : Thread Cert.KSu.nD Cert.KSu.τ).loc Cert.KSu.main_arg1)
      ∧ r.2.mem ((c.tc : Thread Cert.KSu.nD Cert.KSu.τ).loc Cert.KSu.main_arg2) = m ((c.tc : Thread Cert.KSu.nD Cert.KSu.τ).loc Cert.KSu.main_arg2)
      ∧ r.2.mem ((c.tc : Thread Cert.KSu.nD Cert.KSu.τ).loc Cert.KSu.main_arg3) = m ((c.tc : Thread Cert.KSu.nD Cert.KSu.τ).loc Cert.KSu.main_arg3)
      ∧ r.2.mem ((c.tc : Thread Cert.KSu.nD Cert.KSu.τ).loc Cert.KSu.main_arg4) = m ((c.tc : Thread Cert.KSu.nD Cert.KSu.τ).loc Cert.KSu.main_arg4))
      ∧ r.2.sem = fun _ => 0)

def quiescent_KSuIdeal [hKSuIdeal : Cert.KSuIdeal.Facts] [hPre_inside_su : Cert.Pre_inside_su.Facts] : Prop :=
  ∀ (m : (ℓ : Loc Cert.KSuIdeal.nD Cert.KSuIdeal.τ Cert.KSuIdeal.sig) → Buf (Elt Ideal) ℓ) (g : Dev Cert.KSuIdeal.nD → PrngReg), Pre_KSuIdeal m →
    θ_run (Cert.KSuIdeal.defs (F := Ideal)) (onTc (τ := Cert.KSuIdeal.τ) (Cert.KSuIdeal.main (F := Ideal))) ⟨m, fun _ => 0, g⟩ (fun r => (∀ c : Dev Cert.KSuIdeal.nD,
      r.2.mem ((c.tc : Thread Cert.KSuIdeal.nD Cert.KSuIdeal.τ).loc Cert.KSuIdeal.main_arg0) = m ((c.tc : Thread Cert.KSuIdeal.nD Cert.KSuIdeal.τ).loc Cert.KSuIdeal.main_arg0)
      ∧ r.2.mem ((c.tc : Thread Cert.KSuIdeal.nD Cert.KSuIdeal.τ).loc Cert.KSuIdeal.main_arg1) = m ((c.tc : Thread Cert.KSuIdeal.nD Cert.KSuIdeal.τ).loc Cert.KSuIdeal.main_arg1)
      ∧ r.2.mem ((c.tc : Thread Cert.KSuIdeal.nD Cert.KSuIdeal.τ).loc Cert.KSuIdeal.main_arg2) = m ((c.tc : Thread Cert.KSuIdeal.nD Cert.KSuIdeal.τ).loc Cert.KSuIdeal.main_arg2)
      ∧ r.2.mem ((c.tc : Thread Cert.KSuIdeal.nD Cert.KSuIdeal.τ).loc Cert.KSuIdeal.main_arg3) = m ((c.tc : Thread Cert.KSuIdeal.nD Cert.KSuIdeal.τ).loc Cert.KSuIdeal.main_arg3)
      ∧ r.2.mem ((c.tc : Thread Cert.KSuIdeal.nD Cert.KSuIdeal.τ).loc Cert.KSuIdeal.main_arg4) = m ((c.tc : Thread Cert.KSuIdeal.nD Cert.KSuIdeal.τ).loc Cert.KSuIdeal.main_arg4))
      ∧ r.2.sem = fun _ => 0)

def quiescent_RSuIdeal [hRSuIdeal : Cert.RSuIdeal.Facts] : Prop :=
  ∀ (m : (ℓ : Loc Cert.RSuIdeal.nD Cert.RSuIdeal.τ Cert.RSuIdeal.sig) → Buf (Elt Ideal) ℓ) (g : Dev Cert.RSuIdeal.nD → PrngReg), Pre_RSuIdeal m →
    θ_run (Cert.RSuIdeal.defs (F := Ideal)) (onTc (τ := Cert.RSuIdeal.τ) (Cert.RSuIdeal.main (F := Ideal))) ⟨m, fun _ => 0, g⟩ (fun r => (∀ c : Dev Cert.RSuIdeal.nD,
      r.2.mem ((c.tc : Thread Cert.RSuIdeal.nD Cert.RSuIdeal.τ).loc Cert.RSuIdeal.main_arg0) = m ((c.tc : Thread Cert.RSuIdeal.nD Cert.RSuIdeal.τ).loc Cert.RSuIdeal.main_arg0)
      ∧ r.2.mem ((c.tc : Thread Cert.RSuIdeal.nD Cert.RSuIdeal.τ).loc Cert.RSuIdeal.main_arg1) = m ((c.tc : Thread Cert.RSuIdeal.nD Cert.RSuIdeal.τ).loc Cert.RSuIdeal.main_arg1)
      ∧ r.2.mem ((c.tc : Thread Cert.RSuIdeal.nD Cert.RSuIdeal.τ).loc Cert.RSuIdeal.main_arg2) = m ((c.tc : Thread Cert.RSuIdeal.nD Cert.RSuIdeal.τ).loc Cert.RSuIdeal.main_arg2)
      ∧ r.2.mem ((c.tc : Thread Cert.RSuIdeal.nD Cert.RSuIdeal.τ).loc Cert.RSuIdeal.main_arg3) = m ((c.tc : Thread Cert.RSuIdeal.nD Cert.RSuIdeal.τ).loc Cert.RSuIdeal.main_arg3)
      ∧ r.2.mem ((c.tc : Thread Cert.RSuIdeal.nD Cert.RSuIdeal.τ).loc Cert.RSuIdeal.main_arg4) = m ((c.tc : Thread Cert.RSuIdeal.nD Cert.RSuIdeal.τ).loc Cert.RSuIdeal.main_arg4))
      ∧ r.2.sem = fun _ => 0)

def quiescent_RSuIdeal_pre_inside_su [hRSuIdeal : Cert.RSuIdeal.Facts] [hPre_inside_su : Cert.Pre_inside_su.Facts] : Prop :=
  ∀ (m : (ℓ : Loc Cert.RSuIdeal.nD Cert.RSuIdeal.τ Cert.RSuIdeal.sig) → Buf (Elt Ideal) ℓ) (g : Dev Cert.RSuIdeal.nD → PrngReg), Pre_RSuIdeal_inside_su m →
    θ_run (Cert.RSuIdeal.defs (F := Ideal)) (onTc (τ := Cert.RSuIdeal.τ) (Cert.RSuIdeal.main (F := Ideal))) ⟨m, fun _ => 0, g⟩ (fun r => (∀ c : Dev Cert.RSuIdeal.nD,
      r.2.mem ((c.tc : Thread Cert.RSuIdeal.nD Cert.RSuIdeal.τ).loc Cert.RSuIdeal.main_arg0) = m ((c.tc : Thread Cert.RSuIdeal.nD Cert.RSuIdeal.τ).loc Cert.RSuIdeal.main_arg0)
      ∧ r.2.mem ((c.tc : Thread Cert.RSuIdeal.nD Cert.RSuIdeal.τ).loc Cert.RSuIdeal.main_arg1) = m ((c.tc : Thread Cert.RSuIdeal.nD Cert.RSuIdeal.τ).loc Cert.RSuIdeal.main_arg1)
      ∧ r.2.mem ((c.tc : Thread Cert.RSuIdeal.nD Cert.RSuIdeal.τ).loc Cert.RSuIdeal.main_arg2) = m ((c.tc : Thread Cert.RSuIdeal.nD Cert.RSuIdeal.τ).loc Cert.RSuIdeal.main_arg2)
      ∧ r.2.mem ((c.tc : Thread Cert.RSuIdeal.nD Cert.RSuIdeal.τ).loc Cert.RSuIdeal.main_arg3) = m ((c.tc : Thread Cert.RSuIdeal.nD Cert.RSuIdeal.τ).loc Cert.RSuIdeal.main_arg3)
      ∧ r.2.mem ((c.tc : Thread Cert.RSuIdeal.nD Cert.RSuIdeal.τ).loc Cert.RSuIdeal.main_arg4) = m ((c.tc : Thread Cert.RSuIdeal.nD Cert.RSuIdeal.τ).loc Cert.RSuIdeal.main_arg4))
      ∧ r.2.sem = fun _ => 0)

def quiescent_KSi [hKSi : Cert.KSi.Facts] [hPre_inside_si : Cert.Pre_inside_si.Facts] : Prop :=
  ∀ (m : (ℓ : Loc Cert.KSi.nD Cert.KSi.τ Cert.KSi.sig) → Buf (Elt Bits) ℓ) (g : Dev Cert.KSi.nD → PrngReg), Pre_KSi m →
    θ_run (Cert.KSi.defs (F := Bits)) (onTc (τ := Cert.KSi.τ) (Cert.KSi.main (F := Bits))) ⟨m, fun _ => 0, g⟩ (fun r => (∀ c : Dev Cert.KSi.nD,
      r.2.mem ((c.tc : Thread Cert.KSi.nD Cert.KSi.τ).loc Cert.KSi.main_arg0) = m ((c.tc : Thread Cert.KSi.nD Cert.KSi.τ).loc Cert.KSi.main_arg0)
      ∧ r.2.mem ((c.tc : Thread Cert.KSi.nD Cert.KSi.τ).loc Cert.KSi.main_arg1) = m ((c.tc : Thread Cert.KSi.nD Cert.KSi.τ).loc Cert.KSi.main_arg1)
      ∧ r.2.mem ((c.tc : Thread Cert.KSi.nD Cert.KSi.τ).loc Cert.KSi.main_arg2) = m ((c.tc : Thread Cert.KSi.nD Cert.KSi.τ).loc Cert.KSi.main_arg2)
      ∧ r.2.mem ((c.tc : Thread Cert.KSi.nD Cert.KSi.τ).loc Cert.KSi.main_arg3) = m ((c.tc : Thread Cert.KSi.nD Cert.KSi.τ).loc Cert.KSi.main_arg3)
      ∧ r.2.mem ((c.tc : Thread Cert.KSi.nD Cert.KSi.τ).loc Cert.KSi.main_arg4) = m ((c.tc : Thread Cert.KSi.nD Cert.KSi.τ).loc Cert.KSi.main_arg4))
      ∧ r.2.sem = fun _ => 0)

def quiescent_KSiIdeal [hKSiIdeal : Cert.KSiIdeal.Facts] [hPre_inside_si : Cert.Pre_inside_si.Facts] : Prop :=
  ∀ (m : (ℓ : Loc Cert.KSiIdeal.nD Cert.KSiIdeal.τ Cert.KSiIdeal.sig) → Buf (Elt Ideal) ℓ) (g : Dev Cert.KSiIdeal.nD → PrngReg), Pre_KSiIdeal m →
    θ_run (Cert.KSiIdeal.defs (F := Ideal)) (onTc (τ := Cert.KSiIdeal.τ) (Cert.KSiIdeal.main (F := Ideal))) ⟨m, fun _ => 0, g⟩ (fun r => (∀ c : Dev Cert.KSiIdeal.nD,
      r.2.mem ((c.tc : Thread Cert.KSiIdeal.nD Cert.KSiIdeal.τ).loc Cert.KSiIdeal.main_arg0) = m ((c.tc : Thread Cert.KSiIdeal.nD Cert.KSiIdeal.τ).loc Cert.KSiIdeal.main_arg0)
      ∧ r.2.mem ((c.tc : Thread Cert.KSiIdeal.nD Cert.KSiIdeal.τ).loc Cert.KSiIdeal.main_arg1) = m ((c.tc : Thread Cert.KSiIdeal.nD Cert.KSiIdeal.τ).loc Cert.KSiIdeal.main_arg1)
      ∧ r.2.mem ((c.tc : Thread Cert.KSiIdeal.nD Cert.KSiIdeal.τ).loc Cert.KSiIdeal.main_arg2) = m ((c.tc : Thread Cert.KSiIdeal.nD Cert.KSiIdeal.τ).loc Cert.KSiIdeal.main_arg2)
      ∧ r.2.mem ((c.tc : Thread Cert.KSiIdeal.nD Cert.KSiIdeal.τ).loc Cert.KSiIdeal.main_arg3) = m ((c.tc : Thread Cert.KSiIdeal.nD Cert.KSiIdeal.τ).loc Cert.KSiIdeal.main_arg3)
      ∧ r.2.mem ((c.tc : Thread Cert.KSiIdeal.nD Cert.KSiIdeal.τ).loc Cert.KSiIdeal.main_arg4) = m ((c.tc : Thread Cert.KSiIdeal.nD Cert.KSiIdeal.τ).loc Cert.KSiIdeal.main_arg4))
      ∧ r.2.sem = fun _ => 0)

def quiescent_RSiIdeal [hRSiIdeal : Cert.RSiIdeal.Facts] : Prop :=
  ∀ (m : (ℓ : Loc Cert.RSiIdeal.nD Cert.RSiIdeal.τ Cert.RSiIdeal.sig) → Buf (Elt Ideal) ℓ) (g : Dev Cert.RSiIdeal.nD → PrngReg), Pre_RSiIdeal m →
    θ_run (Cert.RSiIdeal.defs (F := Ideal)) (onTc (τ := Cert.RSiIdeal.τ) (Cert.RSiIdeal.main (F := Ideal))) ⟨m, fun _ => 0, g⟩ (fun r => (∀ c : Dev Cert.RSiIdeal.nD,
      r.2.mem ((c.tc : Thread Cert.RSiIdeal.nD Cert.RSiIdeal.τ).loc Cert.RSiIdeal.main_arg0) = m ((c.tc : Thread Cert.RSiIdeal.nD Cert.RSiIdeal.τ).loc Cert.RSiIdeal.main_arg0)
      ∧ r.2.mem ((c.tc : Thread Cert.RSiIdeal.nD Cert.RSiIdeal.τ).loc Cert.RSiIdeal.main_arg1) = m ((c.tc : Thread Cert.RSiIdeal.nD Cert.RSiIdeal.τ).loc Cert.RSiIdeal.main_arg1)
      ∧ r.2.mem ((c.tc : Thread Cert.RSiIdeal.nD Cert.RSiIdeal.τ).loc Cert.RSiIdeal.main_arg2) = m ((c.tc : Thread Cert.RSiIdeal.nD Cert.RSiIdeal.τ).loc Cert.RSiIdeal.main_arg2)
      ∧ r.2.mem ((c.tc : Thread Cert.RSiIdeal.nD Cert.RSiIdeal.τ).loc Cert.RSiIdeal.main_arg3) = m ((c.tc : Thread Cert.RSiIdeal.nD Cert.RSiIdeal.τ).loc Cert.RSiIdeal.main_arg3)
      ∧ r.2.mem ((c.tc : Thread Cert.RSiIdeal.nD Cert.RSiIdeal.τ).loc Cert.RSiIdeal.main_arg4) = m ((c.tc : Thread Cert.RSiIdeal.nD Cert.RSiIdeal.τ).loc Cert.RSiIdeal.main_arg4))
      ∧ r.2.sem = fun _ => 0)

def quiescent_RSiIdeal_pre_inside_si [hRSiIdeal : Cert.RSiIdeal.Facts] [hPre_inside_si : Cert.Pre_inside_si.Facts] : Prop :=
  ∀ (m : (ℓ : Loc Cert.RSiIdeal.nD Cert.RSiIdeal.τ Cert.RSiIdeal.sig) → Buf (Elt Ideal) ℓ) (g : Dev Cert.RSiIdeal.nD → PrngReg), Pre_RSiIdeal_inside_si m →
    θ_run (Cert.RSiIdeal.defs (F := Ideal)) (onTc (τ := Cert.RSiIdeal.τ) (Cert.RSiIdeal.main (F := Ideal))) ⟨m, fun _ => 0, g⟩ (fun r => (∀ c : Dev Cert.RSiIdeal.nD,
      r.2.mem ((c.tc : Thread Cert.RSiIdeal.nD Cert.RSiIdeal.τ).loc Cert.RSiIdeal.main_arg0) = m ((c.tc : Thread Cert.RSiIdeal.nD Cert.RSiIdeal.τ).loc Cert.RSiIdeal.main_arg0)
      ∧ r.2.mem ((c.tc : Thread Cert.RSiIdeal.nD Cert.RSiIdeal.τ).loc Cert.RSiIdeal.main_arg1) = m ((c.tc : Thread Cert.RSiIdeal.nD Cert.RSiIdeal.τ).loc Cert.RSiIdeal.main_arg1)
      ∧ r.2.mem ((c.tc : Thread Cert.RSiIdeal.nD Cert.RSiIdeal.τ).loc Cert.RSiIdeal.main_arg2) = m ((c.tc : Thread Cert.RSiIdeal.nD Cert.RSiIdeal.τ).loc Cert.RSiIdeal.main_arg2)
      ∧ r.2.mem ((c.tc : Thread Cert.RSiIdeal.nD Cert.RSiIdeal.τ).loc Cert.RSiIdeal.main_arg3) = m ((c.tc : Thread Cert.RSiIdeal.nD Cert.RSiIdeal.τ).loc Cert.RSiIdeal.main_arg3)
      ∧ r.2.mem ((c.tc : Thread Cert.RSiIdeal.nD Cert.RSiIdeal.τ).loc Cert.RSiIdeal.main_arg4) = m ((c.tc : Thread Cert.RSiIdeal.nD Cert.RSiIdeal.τ).loc Cert.RSiIdeal.main_arg4))
      ∧ r.2.sem = fun _ => 0)

def quiescent_KSo [hKSo : Cert.KSo.Facts] [hPre_inside_so : Cert.Pre_inside_so.Facts] : Prop :=
  ∀ (m : (ℓ : Loc Cert.KSo.nD Cert.KSo.τ Cert.KSo.sig) → Buf (Elt Bits) ℓ) (g : Dev Cert.KSo.nD → PrngReg), Pre_KSo m →
    θ_run (Cert.KSo.defs (F := Bits)) (onTc (τ := Cert.KSo.τ) (Cert.KSo.main (F := Bits))) ⟨m, fun _ => 0, g⟩ (fun r => (∀ c : Dev Cert.KSo.nD,
      r.2.mem ((c.tc : Thread Cert.KSo.nD Cert.KSo.τ).loc Cert.KSo.main_arg0) = m ((c.tc : Thread Cert.KSo.nD Cert.KSo.τ).loc Cert.KSo.main_arg0)
      ∧ r.2.mem ((c.tc : Thread Cert.KSo.nD Cert.KSo.τ).loc Cert.KSo.main_arg1) = m ((c.tc : Thread Cert.KSo.nD Cert.KSo.τ).loc Cert.KSo.main_arg1)
      ∧ r.2.mem ((c.tc : Thread Cert.KSo.nD Cert.KSo.τ).loc Cert.KSo.main_arg2) = m ((c.tc : Thread Cert.KSo.nD Cert.KSo.τ).loc Cert.KSo.main_arg2)
      ∧ r.2.mem ((c.tc : Thread Cert.KSo.nD Cert.KSo.τ).loc Cert.KSo.main_arg3) = m ((c.tc : Thread Cert.KSo.nD Cert.KSo.τ).loc Cert.KSo.main_arg3)
      ∧ r.2.mem ((c.tc : Thread Cert.KSo.nD Cert.KSo.τ).loc Cert.KSo.main_arg4) = m ((c.tc : Thread Cert.KSo.nD Cert.KSo.τ).loc Cert.KSo.main_arg4))
      ∧ r.2.sem = fun _ => 0)

def quiescent_KSoIdeal [hKSoIdeal : Cert.KSoIdeal.Facts] [hPre_inside_so : Cert.Pre_inside_so.Facts] : Prop :=
  ∀ (m : (ℓ : Loc Cert.KSoIdeal.nD Cert.KSoIdeal.τ Cert.KSoIdeal.sig) → Buf (Elt Ideal) ℓ) (g : Dev Cert.KSoIdeal.nD → PrngReg), Pre_KSoIdeal m →
    θ_run (Cert.KSoIdeal.defs (F := Ideal)) (onTc (τ := Cert.KSoIdeal.τ) (Cert.KSoIdeal.main (F := Ideal))) ⟨m, fun _ => 0, g⟩ (fun r => (∀ c : Dev Cert.KSoIdeal.nD,
      r.2.mem ((c.tc : Thread Cert.KSoIdeal.nD Cert.KSoIdeal.τ).loc Cert.KSoIdeal.main_arg0) = m ((c.tc : Thread Cert.KSoIdeal.nD Cert.KSoIdeal.τ).loc Cert.KSoIdeal.main_arg0)
      ∧ r.2.mem ((c.tc : Thread Cert.KSoIdeal.nD Cert.KSoIdeal.τ).loc Cert.KSoIdeal.main_arg1) = m ((c.tc : Thread Cert.KSoIdeal.nD Cert.KSoIdeal.τ).loc Cert.KSoIdeal.main_arg1)
      ∧ r.2.mem ((c.tc : Thread Cert.KSoIdeal.nD Cert.KSoIdeal.τ).loc Cert.KSoIdeal.main_arg2) = m ((c.tc : Thread Cert.KSoIdeal.nD Cert.KSoIdeal.τ).loc Cert.KSoIdeal.main_arg2)
      ∧ r.2.mem ((c.tc : Thread Cert.KSoIdeal.nD Cert.KSoIdeal.τ).loc Cert.KSoIdeal.main_arg3) = m ((c.tc : Thread Cert.KSoIdeal.nD Cert.KSoIdeal.τ).loc Cert.KSoIdeal.main_arg3)
      ∧ r.2.mem ((c.tc : Thread Cert.KSoIdeal.nD Cert.KSoIdeal.τ).loc Cert.KSoIdeal.main_arg4) = m ((c.tc : Thread Cert.KSoIdeal.nD Cert.KSoIdeal.τ).loc Cert.KSoIdeal.main_arg4))
      ∧ r.2.sem = fun _ => 0)

def quiescent_RSoIdeal [hRSoIdeal : Cert.RSoIdeal.Facts] : Prop :=
  ∀ (m : (ℓ : Loc Cert.RSoIdeal.nD Cert.RSoIdeal.τ Cert.RSoIdeal.sig) → Buf (Elt Ideal) ℓ) (g : Dev Cert.RSoIdeal.nD → PrngReg), Pre_RSoIdeal m →
    θ_run (Cert.RSoIdeal.defs (F := Ideal)) (onTc (τ := Cert.RSoIdeal.τ) (Cert.RSoIdeal.main (F := Ideal))) ⟨m, fun _ => 0, g⟩ (fun r => (∀ c : Dev Cert.RSoIdeal.nD,
      r.2.mem ((c.tc : Thread Cert.RSoIdeal.nD Cert.RSoIdeal.τ).loc Cert.RSoIdeal.main_arg0) = m ((c.tc : Thread Cert.RSoIdeal.nD Cert.RSoIdeal.τ).loc Cert.RSoIdeal.main_arg0)
      ∧ r.2.mem ((c.tc : Thread Cert.RSoIdeal.nD Cert.RSoIdeal.τ).loc Cert.RSoIdeal.main_arg1) = m ((c.tc : Thread Cert.RSoIdeal.nD Cert.RSoIdeal.τ).loc Cert.RSoIdeal.main_arg1)
      ∧ r.2.mem ((c.tc : Thread Cert.RSoIdeal.nD Cert.RSoIdeal.τ).loc Cert.RSoIdeal.main_arg2) = m ((c.tc : Thread Cert.RSoIdeal.nD Cert.RSoIdeal.τ).loc Cert.RSoIdeal.main_arg2)
      ∧ r.2.mem ((c.tc : Thread Cert.RSoIdeal.nD Cert.RSoIdeal.τ).loc Cert.RSoIdeal.main_arg3) = m ((c.tc : Thread Cert.RSoIdeal.nD Cert.RSoIdeal.τ).loc Cert.RSoIdeal.main_arg3)
      ∧ r.2.mem ((c.tc : Thread Cert.RSoIdeal.nD Cert.RSoIdeal.τ).loc Cert.RSoIdeal.main_arg4) = m ((c.tc : Thread Cert.RSoIdeal.nD Cert.RSoIdeal.τ).loc Cert.RSoIdeal.main_arg4))
      ∧ r.2.sem = fun _ => 0)

def quiescent_RSoIdeal_pre_inside_so [hRSoIdeal : Cert.RSoIdeal.Facts] [hPre_inside_so : Cert.Pre_inside_so.Facts] : Prop :=
  ∀ (m : (ℓ : Loc Cert.RSoIdeal.nD Cert.RSoIdeal.τ Cert.RSoIdeal.sig) → Buf (Elt Ideal) ℓ) (g : Dev Cert.RSoIdeal.nD → PrngReg), Pre_RSoIdeal_inside_so m →
    θ_run (Cert.RSoIdeal.defs (F := Ideal)) (onTc (τ := Cert.RSoIdeal.τ) (Cert.RSoIdeal.main (F := Ideal))) ⟨m, fun _ => 0, g⟩ (fun r => (∀ c : Dev Cert.RSoIdeal.nD,
      r.2.mem ((c.tc : Thread Cert.RSoIdeal.nD Cert.RSoIdeal.τ).loc Cert.RSoIdeal.main_arg0) = m ((c.tc : Thread Cert.RSoIdeal.nD Cert.RSoIdeal.τ).loc Cert.RSoIdeal.main_arg0)
      ∧ r.2.mem ((c.tc : Thread Cert.RSoIdeal.nD Cert.RSoIdeal.τ).loc Cert.RSoIdeal.main_arg1) = m ((c.tc : Thread Cert.RSoIdeal.nD Cert.RSoIdeal.τ).loc Cert.RSoIdeal.main_arg1)
      ∧ r.2.mem ((c.tc : Thread Cert.RSoIdeal.nD Cert.RSoIdeal.τ).loc Cert.RSoIdeal.main_arg2) = m ((c.tc : Thread Cert.RSoIdeal.nD Cert.RSoIdeal.τ).loc Cert.RSoIdeal.main_arg2)
      ∧ r.2.mem ((c.tc : Thread Cert.RSoIdeal.nD Cert.RSoIdeal.τ).loc Cert.RSoIdeal.main_arg3) = m ((c.tc : Thread Cert.RSoIdeal.nD Cert.RSoIdeal.τ).loc Cert.RSoIdeal.main_arg3)
      ∧ r.2.mem ((c.tc : Thread Cert.RSoIdeal.nD Cert.RSoIdeal.τ).loc Cert.RSoIdeal.main_arg4) = m ((c.tc : Thread Cert.RSoIdeal.nD Cert.RSoIdeal.τ).loc Cert.RSoIdeal.main_arg4))
      ∧ r.2.sem = fun _ => 0)

def quiescent_KLo [hKLo : Cert.KLo.Facts] : Prop :=
  ∀ (m : (ℓ : Loc Cert.KLo.nD Cert.KLo.τ Cert.KLo.sig) → Buf (Elt Bits) ℓ) (g : Dev Cert.KLo.nD → PrngReg), Pre_KLo m →
    θ_run (Cert.KLo.defs (F := Bits)) (onTc (τ := Cert.KLo.τ) (Cert.KLo.main (F := Bits))) ⟨m, fun _ => 0, g⟩ (fun r => (∀ c : Dev Cert.KLo.nD,
      r.2.mem ((c.tc : Thread Cert.KLo.nD Cert.KLo.τ).loc Cert.KLo.main_arg0) = m ((c.tc : Thread Cert.KLo.nD Cert.KLo.τ).loc Cert.KLo.main_arg0)
      ∧ r.2.mem ((c.tc : Thread Cert.KLo.nD Cert.KLo.τ).loc Cert.KLo.main_arg1) = m ((c.tc : Thread Cert.KLo.nD Cert.KLo.τ).loc Cert.KLo.main_arg1)
      ∧ r.2.mem ((c.tc : Thread Cert.KLo.nD Cert.KLo.τ).loc Cert.KLo.main_arg2) = m ((c.tc : Thread Cert.KLo.nD Cert.KLo.τ).loc Cert.KLo.main_arg2)
      ∧ r.2.mem ((c.tc : Thread Cert.KLo.nD Cert.KLo.τ).loc Cert.KLo.main_arg3) = m ((c.tc : Thread Cert.KLo.nD Cert.KLo.τ).loc Cert.KLo.main_arg3)
      ∧ r.2.mem ((c.tc : Thread Cert.KLo.nD Cert.KLo.τ).loc Cert.KLo.main_arg4) = m ((c.tc : Thread Cert.KLo.nD Cert.KLo.τ).loc Cert.KLo.main_arg4)
      ∧ r.2.mem ((c.tc : Thread Cert.KLo.nD Cert.KLo.τ).loc Cert.KLo.main_arg5) = m ((c.tc : Thread Cert.KLo.nD Cert.KLo.τ).loc Cert.KLo.main_arg5)
      ∧ r.2.mem ((c.tc : Thread Cert.KLo.nD Cert.KLo.τ).loc Cert.KLo.main_arg6) = m ((c.tc : Thread Cert.KLo.nD Cert.KLo.τ).loc Cert.KLo.main_arg6))
      ∧ r.2.sem = fun _ => 0)

def quiescent_KLoIdeal [hKLoIdeal : Cert.KLoIdeal.Facts] : Prop :=
  ∀ (m : (ℓ : Loc Cert.KLoIdeal.nD Cert.KLoIdeal.τ Cert.KLoIdeal.sig) → Buf (Elt Ideal) ℓ) (g : Dev Cert.KLoIdeal.nD → PrngReg), Pre_KLoIdeal m →
    θ_run (Cert.KLoIdeal.defs (F := Ideal)) (onTc (τ := Cert.KLoIdeal.τ) (Cert.KLoIdeal.main (F := Ideal))) ⟨m, fun _ => 0, g⟩ (fun r => (∀ c : Dev Cert.KLoIdeal.nD,
      r.2.mem ((c.tc : Thread Cert.KLoIdeal.nD Cert.KLoIdeal.τ).loc Cert.KLoIdeal.main_arg0) = m ((c.tc : Thread Cert.KLoIdeal.nD Cert.KLoIdeal.τ).loc Cert.KLoIdeal.main_arg0)
      ∧ r.2.mem ((c.tc : Thread Cert.KLoIdeal.nD Cert.KLoIdeal.τ).loc Cert.KLoIdeal.main_arg1) = m ((c.tc : Thread Cert.KLoIdeal.nD Cert.KLoIdeal.τ).loc Cert.KLoIdeal.main_arg1)
      ∧ r.2.mem ((c.tc : Thread Cert.KLoIdeal.nD Cert.KLoIdeal.τ).loc Cert.KLoIdeal.main_arg2) = m ((c.tc : Thread Cert.KLoIdeal.nD Cert.KLoIdeal.τ).loc Cert.KLoIdeal.main_arg2)
      ∧ r.2.mem ((c.tc : Thread Cert.KLoIdeal.nD Cert.KLoIdeal.τ).loc Cert.KLoIdeal.main_arg3) = m ((c.tc : Thread Cert.KLoIdeal.nD Cert.KLoIdeal.τ).loc Cert.KLoIdeal.main_arg3)
      ∧ r.2.mem ((c.tc : Thread Cert.KLoIdeal.nD Cert.KLoIdeal.τ).loc Cert.KLoIdeal.main_arg4) = m ((c.tc : Thread Cert.KLoIdeal.nD Cert.KLoIdeal.τ).loc Cert.KLoIdeal.main_arg4)
      ∧ r.2.mem ((c.tc : Thread Cert.KLoIdeal.nD Cert.KLoIdeal.τ).loc Cert.KLoIdeal.main_arg5) = m ((c.tc : Thread Cert.KLoIdeal.nD Cert.KLoIdeal.τ).loc Cert.KLoIdeal.main_arg5)
      ∧ r.2.mem ((c.tc : Thread Cert.KLoIdeal.nD Cert.KLoIdeal.τ).loc Cert.KLoIdeal.main_arg6) = m ((c.tc : Thread Cert.KLoIdeal.nD Cert.KLoIdeal.τ).loc Cert.KLoIdeal.main_arg6))
      ∧ r.2.sem = fun _ => 0)

def quiescent_KLoIdeal_pre_finite_lo [hKLoIdeal : Cert.KLoIdeal.Facts] [hPre_finite_lo : Cert.Pre_finite_lo.Facts] : Prop :=
  ∀ (m : (ℓ : Loc Cert.KLoIdeal.nD Cert.KLoIdeal.τ Cert.KLoIdeal.sig) → Buf (Elt Ideal) ℓ) (g : Dev Cert.KLoIdeal.nD → PrngReg), Pre_KLoIdeal_finite_lo m →
    θ_run (Cert.KLoIdeal.defs (F := Ideal)) (onTc (τ := Cert.KLoIdeal.τ) (Cert.KLoIdeal.main (F := Ideal))) ⟨m, fun _ => 0, g⟩ (fun r => (∀ c : Dev Cert.KLoIdeal.nD,
      r.2.mem ((c.tc : Thread Cert.KLoIdeal.nD Cert.KLoIdeal.τ).loc Cert.KLoIdeal.main_arg0) = m ((c.tc : Thread Cert.KLoIdeal.nD Cert.KLoIdeal.τ).loc Cert.KLoIdeal.main_arg0)
      ∧ r.2.mem ((c.tc : Thread Cert.KLoIdeal.nD Cert.KLoIdeal.τ).loc Cert.KLoIdeal.main_arg1) = m ((c.tc : Thread Cert.KLoIdeal.nD Cert.KLoIdeal.τ).loc Cert.KLoIdeal.main_arg1)
      ∧ r.2.mem ((c.tc : Thread Cert.KLoIdeal.nD Cert.KLoIdeal.τ).loc Cert.KLoIdeal.main_arg2) = m ((c.tc : Thread Cert.KLoIdeal.nD Cert.KLoIdeal.τ).loc Cert.KLoIdeal.main_arg2)
      ∧ r.2.mem ((c.tc : Thread Cert.KLoIdeal.nD Cert.KLoIdeal.τ).loc Cert.KLoIdeal.main_arg3) = m ((c.tc : Thread Cert.KLoIdeal.nD Cert.KLoIdeal.τ).loc Cert.KLoIdeal.main_arg3)
      ∧ r.2.mem ((c.tc : Thread Cert.KLoIdeal.nD Cert.KLoIdeal.τ).loc Cert.KLoIdeal.main_arg4) = m ((c.tc : Thread Cert.KLoIdeal.nD Cert.KLoIdeal.τ).loc Cert.KLoIdeal.main_arg4)
      ∧ r.2.mem ((c.tc : Thread Cert.KLoIdeal.nD Cert.KLoIdeal.τ).loc Cert.KLoIdeal.main_arg5) = m ((c.tc : Thread Cert.KLoIdeal.nD Cert.KLoIdeal.τ).loc Cert.KLoIdeal.main_arg5)
      ∧ r.2.mem ((c.tc : Thread Cert.KLoIdeal.nD Cert.KLoIdeal.τ).loc Cert.KLoIdeal.main_arg6) = m ((c.tc : Thread Cert.KLoIdeal.nD Cert.KLoIdeal.τ).loc Cert.KLoIdeal.main_arg6))
      ∧ r.2.sem = fun _ => 0)

def quiescent_RLoIdeal [hRLoIdeal : Cert.RLoIdeal.Facts] : Prop :=
  ∀ (m : (ℓ : Loc Cert.RLoIdeal.nD Cert.RLoIdeal.τ Cert.RLoIdeal.sig) → Buf (Elt Ideal) ℓ) (g : Dev Cert.RLoIdeal.nD → PrngReg), Pre_RLoIdeal m →
    θ_run (Cert.RLoIdeal.defs (F := Ideal)) (onTc (τ := Cert.RLoIdeal.τ) (Cert.RLoIdeal.main (F := Ideal))) ⟨m, fun _ => 0, g⟩ (fun r => (∀ c : Dev Cert.RLoIdeal.nD,
      r.2.mem ((c.tc : Thread Cert.RLoIdeal.nD Cert.RLoIdeal.τ).loc Cert.RLoIdeal.main_arg0) = m ((c.tc : Thread Cert.RLoIdeal.nD Cert.RLoIdeal.τ).loc Cert.RLoIdeal.main_arg0)
      ∧ r.2.mem ((c.tc : Thread Cert.RLoIdeal.nD Cert.RLoIdeal.τ).loc Cert.RLoIdeal.main_arg1) = m ((c.tc : Thread Cert.RLoIdeal.nD Cert.RLoIdeal.τ).loc Cert.RLoIdeal.main_arg1)
      ∧ r.2.mem ((c.tc : Thread Cert.RLoIdeal.nD Cert.RLoIdeal.τ).loc Cert.RLoIdeal.main_arg2) = m ((c.tc : Thread Cert.RLoIdeal.nD Cert.RLoIdeal.τ).loc Cert.RLoIdeal.main_arg2)
      ∧ r.2.mem ((c.tc : Thread Cert.RLoIdeal.nD Cert.RLoIdeal.τ).loc Cert.RLoIdeal.main_arg3) = m ((c.tc : Thread Cert.RLoIdeal.nD Cert.RLoIdeal.τ).loc Cert.RLoIdeal.main_arg3)
      ∧ r.2.mem ((c.tc : Thread Cert.RLoIdeal.nD Cert.RLoIdeal.τ).loc Cert.RLoIdeal.main_arg4) = m ((c.tc : Thread Cert.RLoIdeal.nD Cert.RLoIdeal.τ).loc Cert.RLoIdeal.main_arg4)
      ∧ r.2.mem ((c.tc : Thread Cert.RLoIdeal.nD Cert.RLoIdeal.τ).loc Cert.RLoIdeal.main_arg5) = m ((c.tc : Thread Cert.RLoIdeal.nD Cert.RLoIdeal.τ).loc Cert.RLoIdeal.main_arg5)
      ∧ r.2.mem ((c.tc : Thread Cert.RLoIdeal.nD Cert.RLoIdeal.τ).loc Cert.RLoIdeal.main_arg6) = m ((c.tc : Thread Cert.RLoIdeal.nD Cert.RLoIdeal.τ).loc Cert.RLoIdeal.main_arg6))
      ∧ r.2.sem = fun _ => 0)

def quiescent_RLoIdeal_pre_finite_lo [hRLoIdeal : Cert.RLoIdeal.Facts] [hPre_finite_lo : Cert.Pre_finite_lo.Facts] : Prop :=
  ∀ (m : (ℓ : Loc Cert.RLoIdeal.nD Cert.RLoIdeal.τ Cert.RLoIdeal.sig) → Buf (Elt Ideal) ℓ) (g : Dev Cert.RLoIdeal.nD → PrngReg), Pre_RLoIdeal_finite_lo m →
    θ_run (Cert.RLoIdeal.defs (F := Ideal)) (onTc (τ := Cert.RLoIdeal.τ) (Cert.RLoIdeal.main (F := Ideal))) ⟨m, fun _ => 0, g⟩ (fun r => (∀ c : Dev Cert.RLoIdeal.nD,
      r.2.mem ((c.tc : Thread Cert.RLoIdeal.nD Cert.RLoIdeal.τ).loc Cert.RLoIdeal.main_arg0) = m ((c.tc : Thread Cert.RLoIdeal.nD Cert.RLoIdeal.τ).loc Cert.RLoIdeal.main_arg0)
      ∧ r.2.mem ((c.tc : Thread Cert.RLoIdeal.nD Cert.RLoIdeal.τ).loc Cert.RLoIdeal.main_arg1) = m ((c.tc : Thread Cert.RLoIdeal.nD Cert.RLoIdeal.τ).loc Cert.RLoIdeal.main_arg1)
      ∧ r.2.mem ((c.tc : Thread Cert.RLoIdeal.nD Cert.RLoIdeal.τ).loc Cert.RLoIdeal.main_arg2) = m ((c.tc : Thread Cert.RLoIdeal.nD Cert.RLoIdeal.τ).loc Cert.RLoIdeal.main_arg2)
      ∧ r.2.mem ((c.tc : Thread Cert.RLoIdeal.nD Cert.RLoIdeal.τ).loc Cert.RLoIdeal.main_arg3) = m ((c.tc : Thread Cert.RLoIdeal.nD Cert.RLoIdeal.τ).loc Cert.RLoIdeal.main_arg3)
      ∧ r.2.mem ((c.tc : Thread Cert.RLoIdeal.nD Cert.RLoIdeal.τ).loc Cert.RLoIdeal.main_arg4) = m ((c.tc : Thread Cert.RLoIdeal.nD Cert.RLoIdeal.τ).loc Cert.RLoIdeal.main_arg4)
      ∧ r.2.mem ((c.tc : Thread Cert.RLoIdeal.nD Cert.RLoIdeal.τ).loc Cert.RLoIdeal.main_arg5) = m ((c.tc : Thread Cert.RLoIdeal.nD Cert.RLoIdeal.τ).loc Cert.RLoIdeal.main_arg5)
      ∧ r.2.mem ((c.tc : Thread Cert.RLoIdeal.nD Cert.RLoIdeal.τ).loc Cert.RLoIdeal.main_arg6) = m ((c.tc : Thread Cert.RLoIdeal.nD Cert.RLoIdeal.τ).loc Cert.RLoIdeal.main_arg6))
      ∧ r.2.sem = fun _ => 0)

def quiescent_KPs [hKPs : Cert.KPs.Facts] [hPre_inside_ps : Cert.Pre_inside_ps.Facts] : Prop :=
  ∀ (m : (ℓ : Loc Cert.KPs.nD Cert.KPs.τ Cert.KPs.sig) → Buf (Elt Bits) ℓ) (g : Dev Cert.KPs.nD → PrngReg), Pre_KPs m →
    θ_run (Cert.KPs.defs (F := Bits)) (onTc (τ := Cert.KPs.τ) (Cert.KPs.main (F := Bits))) ⟨m, fun _ => 0, g⟩ (fun r => (∀ c : Dev Cert.KPs.nD,
      r.2.mem ((c.tc : Thread Cert.KPs.nD Cert.KPs.τ).loc Cert.KPs.main_arg0) = m ((c.tc : Thread Cert.KPs.nD Cert.KPs.τ).loc Cert.KPs.main_arg0)
      ∧ r.2.mem ((c.tc : Thread Cert.KPs.nD Cert.KPs.τ).loc Cert.KPs.main_arg1) = m ((c.tc : Thread Cert.KPs.nD Cert.KPs.τ).loc Cert.KPs.main_arg1)
      ∧ r.2.mem ((c.tc : Thread Cert.KPs.nD Cert.KPs.τ).loc Cert.KPs.main_arg2) = m ((c.tc : Thread Cert.KPs.nD Cert.KPs.τ).loc Cert.KPs.main_arg2)
      ∧ r.2.mem ((c.tc : Thread Cert.KPs.nD Cert.KPs.τ).loc Cert.KPs.main_arg3) = m ((c.tc : Thread Cert.KPs.nD Cert.KPs.τ).loc Cert.KPs.main_arg3))
      ∧ r.2.sem = fun _ => 0)

def quiescent_KPsIdeal [hKPsIdeal : Cert.KPsIdeal.Facts] [hPre_inside_ps : Cert.Pre_inside_ps.Facts] : Prop :=
  ∀ (m : (ℓ : Loc Cert.KPsIdeal.nD Cert.KPsIdeal.τ Cert.KPsIdeal.sig) → Buf (Elt Ideal) ℓ) (g : Dev Cert.KPsIdeal.nD → PrngReg), Pre_KPsIdeal m →
    θ_run (Cert.KPsIdeal.defs (F := Ideal)) (onTc (τ := Cert.KPsIdeal.τ) (Cert.KPsIdeal.main (F := Ideal))) ⟨m, fun _ => 0, g⟩ (fun r => (∀ c : Dev Cert.KPsIdeal.nD,
      r.2.mem ((c.tc : Thread Cert.KPsIdeal.nD Cert.KPsIdeal.τ).loc Cert.KPsIdeal.main_arg0) = m ((c.tc : Thread Cert.KPsIdeal.nD Cert.KPsIdeal.τ).loc Cert.KPsIdeal.main_arg0)
      ∧ r.2.mem ((c.tc : Thread Cert.KPsIdeal.nD Cert.KPsIdeal.τ).loc Cert.KPsIdeal.main_arg1) = m ((c.tc : Thread Cert.KPsIdeal.nD Cert.KPsIdeal.τ).loc Cert.KPsIdeal.main_arg1)
      ∧ r.2.mem ((c.tc : Thread Cert.KPsIdeal.nD Cert.KPsIdeal.τ).loc Cert.KPsIdeal.main_arg2) = m ((c.tc : Thread Cert.KPsIdeal.nD Cert.KPsIdeal.τ).loc Cert.KPsIdeal.main_arg2)
      ∧ r.2.mem ((c.tc : Thread Cert.KPsIdeal.nD Cert.KPsIdeal.τ).loc Cert.KPsIdeal.main_arg3) = m ((c.tc : Thread Cert.KPsIdeal.nD Cert.KPsIdeal.τ).loc Cert.KPsIdeal.main_arg3))
      ∧ r.2.sem = fun _ => 0)

def quiescent_RPsIdeal [hRPsIdeal : Cert.RPsIdeal.Facts] : Prop :=
  ∀ (m : (ℓ : Loc Cert.RPsIdeal.nD Cert.RPsIdeal.τ Cert.RPsIdeal.sig) → Buf (Elt Ideal) ℓ) (g : Dev Cert.RPsIdeal.nD → PrngReg), Pre_RPsIdeal m →
    θ_run (Cert.RPsIdeal.defs (F := Ideal)) (onTc (τ := Cert.RPsIdeal.τ) (Cert.RPsIdeal.main (F := Ideal))) ⟨m, fun _ => 0, g⟩ (fun r => (∀ c : Dev Cert.RPsIdeal.nD,
      r.2.mem ((c.tc : Thread Cert.RPsIdeal.nD Cert.RPsIdeal.τ).loc Cert.RPsIdeal.main_arg0) = m ((c.tc : Thread Cert.RPsIdeal.nD Cert.RPsIdeal.τ).loc Cert.RPsIdeal.main_arg0)
      ∧ r.2.mem ((c.tc : Thread Cert.RPsIdeal.nD Cert.RPsIdeal.τ).loc Cert.RPsIdeal.main_arg1) = m ((c.tc : Thread Cert.RPsIdeal.nD Cert.RPsIdeal.τ).loc Cert.RPsIdeal.main_arg1)
      ∧ r.2.mem ((c.tc : Thread Cert.RPsIdeal.nD Cert.RPsIdeal.τ).loc Cert.RPsIdeal.main_arg2) = m ((c.tc : Thread Cert.RPsIdeal.nD Cert.RPsIdeal.τ).loc Cert.RPsIdeal.main_arg2)
      ∧ r.2.mem ((c.tc : Thread Cert.RPsIdeal.nD Cert.RPsIdeal.τ).loc Cert.RPsIdeal.main_arg3) = m ((c.tc : Thread Cert.RPsIdeal.nD Cert.RPsIdeal.τ).loc Cert.RPsIdeal.main_arg3))
      ∧ r.2.sem = fun _ => 0)

def quiescent_RPsIdeal_pre_inside_ps [hRPsIdeal : Cert.RPsIdeal.Facts] [hPre_inside_ps : Cert.Pre_inside_ps.Facts] : Prop :=
  ∀ (m : (ℓ : Loc Cert.RPsIdeal.nD Cert.RPsIdeal.τ Cert.RPsIdeal.sig) → Buf (Elt Ideal) ℓ) (g : Dev Cert.RPsIdeal.nD → PrngReg), Pre_RPsIdeal_inside_ps m →
    θ_run (Cert.RPsIdeal.defs (F := Ideal)) (onTc (τ := Cert.RPsIdeal.τ) (Cert.RPsIdeal.main (F := Ideal))) ⟨m, fun _ => 0, g⟩ (fun r => (∀ c : Dev Cert.RPsIdeal.nD,
      r.2.mem ((c.tc : Thread Cert.RPsIdeal.nD Cert.RPsIdeal.τ).loc Cert.RPsIdeal.main_arg0) = m ((c.tc : Thread Cert.RPsIdeal.nD Cert.RPsIdeal.τ).loc Cert.RPsIdeal.main_arg0)
      ∧ r.2.mem ((c.tc : Thread Cert.RPsIdeal.nD Cert.RPsIdeal.τ).loc Cert.RPsIdeal.main_arg1) = m ((c.tc : Thread Cert.RPsIdeal.nD Cert.RPsIdeal.τ).loc Cert.RPsIdeal.main_arg1)
      ∧ r.2.mem ((c.tc : Thread Cert.RPsIdeal.nD Cert.RPsIdeal.τ).loc Cert.RPsIdeal.main_arg2) = m ((c.tc : Thread Cert.RPsIdeal.nD Cert.RPsIdeal.τ).loc Cert.RPsIdeal.main_arg2)
      ∧ r.2.mem ((c.tc : Thread Cert.RPsIdeal.nD Cert.RPsIdeal.τ).loc Cert.RPsIdeal.main_arg3) = m ((c.tc : Thread Cert.RPsIdeal.nD Cert.RPsIdeal.τ).loc Cert.RPsIdeal.main_arg3))
      ∧ r.2.sem = fun _ => 0)

def preserves_KAct_KActIdeal : Prop :=
  True

def algebraic_KActIdeal_RActIdeal [hKActIdeal : Cert.KActIdeal.Facts] [hRActIdeal : Cert.RActIdeal.Facts] : Prop :=
  ∀ (m : (ℓ : Loc Cert.KActIdeal.nD Cert.KActIdeal.τ Cert.KActIdeal.sig) → Buf (Elt Ideal) ℓ) (g : Dev Cert.KActIdeal.nD → PrngReg)
    (m' : (ℓ : Loc Cert.RActIdeal.nD Cert.RActIdeal.τ Cert.RActIdeal.sig) → Buf (Elt Ideal) ℓ) (g' : Dev Cert.RActIdeal.nD → PrngReg), Pre_KActIdeal m →
    (∀ c : Dev Cert.KActIdeal.nD,
      m' ((c.tc : Thread Cert.RActIdeal.nD Cert.RActIdeal.τ).loc Cert.RActIdeal.main_arg0) = m ((c.tc : Thread Cert.KActIdeal.nD Cert.KActIdeal.τ).loc Cert.KActIdeal.main_arg0)
      ∧ m' ((c.tc : Thread Cert.RActIdeal.nD Cert.RActIdeal.τ).loc Cert.RActIdeal.main_arg1) = m ((c.tc : Thread Cert.KActIdeal.nD Cert.KActIdeal.τ).loc Cert.KActIdeal.main_arg1)
      ∧ m' ((c.tc : Thread Cert.RActIdeal.nD Cert.RActIdeal.τ).loc Cert.RActIdeal.main_arg2) = m ((c.tc : Thread Cert.KActIdeal.nD Cert.KActIdeal.τ).loc Cert.KActIdeal.main_arg2)
      ∧ m' ((c.tc : Thread Cert.RActIdeal.nD Cert.RActIdeal.τ).loc Cert.RActIdeal.main_arg3) = m ((c.tc : Thread Cert.KActIdeal.nD Cert.KActIdeal.τ).loc Cert.KActIdeal.main_arg3)
      ∧ m' ((c.tc : Thread Cert.RActIdeal.nD Cert.RActIdeal.τ).loc Cert.RActIdeal.main_arg4) = m ((c.tc : Thread Cert.KActIdeal.nD Cert.KActIdeal.τ).loc Cert.KActIdeal.main_arg4)) →
    ∃ (v0 : (c : Dev Cert.KActIdeal.nD) → Buf (Elt Ideal) ((c.tc : Thread Cert.KActIdeal.nD Cert.KActIdeal.τ).loc Cert.KActIdeal.main_v7_0)) (v1 : (c : Dev Cert.KActIdeal.nD) → Buf (Elt Ideal) ((c.tc : Thread Cert.KActIdeal.nD Cert.KActIdeal.τ).loc Cert.KActIdeal.main_v7_1)),
      θ_run (Cert.KActIdeal.defs (F := Ideal)) (onTc (τ := Cert.KActIdeal.τ) (Cert.KActIdeal.main (F := Ideal))) ⟨m, fun _ => 0, g⟩ (fun r => ∀ c : Dev Cert.KActIdeal.nD,
          r.2.mem ((c.tc : Thread Cert.KActIdeal.nD Cert.KActIdeal.τ).loc Cert.KActIdeal.main_v7_0) = v0 c
          ∧ r.2.mem ((c.tc : Thread Cert.KActIdeal.nD Cert.KActIdeal.τ).loc Cert.KActIdeal.main_v7_1) = v1 c
          ∧ r.2.mem ((c.tc : Thread Cert.KActIdeal.nD Cert.KActIdeal.τ).loc Cert.KActIdeal.main_arg0) = m ((c.tc : Thread Cert.KActIdeal.nD Cert.KActIdeal.τ).loc Cert.KActIdeal.main_arg0)
          ∧ r.2.mem ((c.tc : Thread Cert.KActIdeal.nD Cert.KActIdeal.τ).loc Cert.KActIdeal.main_arg1) = m ((c.tc : Thread Cert.KActIdeal.nD Cert.KActIdeal.τ).loc Cert.KActIdeal.main_arg1)
          ∧ r.2.mem ((c.tc : Thread Cert.KActIdeal.nD Cert.KActIdeal.τ).loc Cert.KActIdeal.main_arg2) = m ((c.tc : Thread Cert.KActIdeal.nD Cert.KActIdeal.τ).loc Cert.KActIdeal.main_arg2)
          ∧ r.2.mem ((c.tc : Thread Cert.KActIdeal.nD Cert.KActIdeal.τ).loc Cert.KActIdeal.main_arg3) = m ((c.tc : Thread Cert.KActIdeal.nD Cert.KActIdeal.τ).loc Cert.KActIdeal.main_arg3)
          ∧ r.2.mem ((c.tc : Thread Cert.KActIdeal.nD Cert.KActIdeal.τ).loc Cert.KActIdeal.main_arg4) = m ((c.tc : Thread Cert.KActIdeal.nD Cert.KActIdeal.τ).loc Cert.KActIdeal.main_arg4))
      ∧ θ_run (Cert.RActIdeal.defs (F := Ideal)) (onTc (τ := Cert.RActIdeal.τ) (Cert.RActIdeal.main (F := Ideal))) ⟨m', fun _ => 0, g'⟩ (fun r => ∀ c : Dev Cert.RActIdeal.nD,
          r.2.mem ((c.tc : Thread Cert.RActIdeal.nD Cert.RActIdeal.τ).loc Cert.RActIdeal.main_v12) = v0 c
          ∧ r.2.mem ((c.tc : Thread Cert.RActIdeal.nD Cert.RActIdeal.τ).loc Cert.RActIdeal.main_v13) = v1 c
          ∧ r.2.mem ((c.tc : Thread Cert.RActIdeal.nD Cert.RActIdeal.τ).loc Cert.RActIdeal.main_arg0) = m' ((c.tc : Thread Cert.RActIdeal.nD Cert.RActIdeal.τ).loc Cert.RActIdeal.main_arg0)
          ∧ r.2.mem ((c.tc : Thread Cert.RActIdeal.nD Cert.RActIdeal.τ).loc Cert.RActIdeal.main_arg1) = m' ((c.tc : Thread Cert.RActIdeal.nD Cert.RActIdeal.τ).loc Cert.RActIdeal.main_arg1)
          ∧ r.2.mem ((c.tc : Thread Cert.RActIdeal.nD Cert.RActIdeal.τ).loc Cert.RActIdeal.main_arg2) = m' ((c.tc : Thread Cert.RActIdeal.nD Cert.RActIdeal.τ).loc Cert.RActIdeal.main_arg2)
          ∧ r.2.mem ((c.tc : Thread Cert.RActIdeal.nD Cert.RActIdeal.τ).loc Cert.RActIdeal.main_arg3) = m' ((c.tc : Thread Cert.RActIdeal.nD Cert.RActIdeal.τ).loc Cert.RActIdeal.main_arg3)
          ∧ r.2.mem ((c.tc : Thread Cert.RActIdeal.nD Cert.RActIdeal.τ).loc Cert.RActIdeal.main_arg4) = m' ((c.tc : Thread Cert.RActIdeal.nD Cert.RActIdeal.τ).loc Cert.RActIdeal.main_arg4))

def preserves_KWd_KWdIdeal : Prop :=
  True

def algebraic_KWdIdeal_RWdIdeal [hKWdIdeal : Cert.KWdIdeal.Facts] [hRWdIdeal : Cert.RWdIdeal.Facts] : Prop :=
  ∀ (m : (ℓ : Loc Cert.KWdIdeal.nD Cert.KWdIdeal.τ Cert.KWdIdeal.sig) → Buf (Elt Ideal) ℓ) (g : Dev Cert.KWdIdeal.nD → PrngReg)
    (m' : (ℓ : Loc Cert.RWdIdeal.nD Cert.RWdIdeal.τ Cert.RWdIdeal.sig) → Buf (Elt Ideal) ℓ) (g' : Dev Cert.RWdIdeal.nD → PrngReg), Pre_KWdIdeal m →
    (∀ c : Dev Cert.KWdIdeal.nD,
      m' ((c.tc : Thread Cert.RWdIdeal.nD Cert.RWdIdeal.τ).loc Cert.RWdIdeal.main_arg0) = m ((c.tc : Thread Cert.KWdIdeal.nD Cert.KWdIdeal.τ).loc Cert.KWdIdeal.main_arg0)
      ∧ m' ((c.tc : Thread Cert.RWdIdeal.nD Cert.RWdIdeal.τ).loc Cert.RWdIdeal.main_arg1) = m ((c.tc : Thread Cert.KWdIdeal.nD Cert.KWdIdeal.τ).loc Cert.KWdIdeal.main_arg1)
      ∧ m' ((c.tc : Thread Cert.RWdIdeal.nD Cert.RWdIdeal.τ).loc Cert.RWdIdeal.main_arg2) = m ((c.tc : Thread Cert.KWdIdeal.nD Cert.KWdIdeal.τ).loc Cert.KWdIdeal.main_arg2)
      ∧ m' ((c.tc : Thread Cert.RWdIdeal.nD Cert.RWdIdeal.τ).loc Cert.RWdIdeal.main_arg3) = m ((c.tc : Thread Cert.KWdIdeal.nD Cert.KWdIdeal.τ).loc Cert.KWdIdeal.main_arg3)
      ∧ m' ((c.tc : Thread Cert.RWdIdeal.nD Cert.RWdIdeal.τ).loc Cert.RWdIdeal.main_arg4) = m ((c.tc : Thread Cert.KWdIdeal.nD Cert.KWdIdeal.τ).loc Cert.KWdIdeal.main_arg4)) →
    ∃ (v0 : (c : Dev Cert.KWdIdeal.nD) → Buf (Elt Ideal) ((c.tc : Thread Cert.KWdIdeal.nD Cert.KWdIdeal.τ).loc Cert.KWdIdeal.main_v8)),
      θ_run (Cert.KWdIdeal.defs (F := Ideal)) (onTc (τ := Cert.KWdIdeal.τ) (Cert.KWdIdeal.main (F := Ideal))) ⟨m, fun _ => 0, g⟩ (fun r => ∀ c : Dev Cert.KWdIdeal.nD,
          r.2.mem ((c.tc : Thread Cert.KWdIdeal.nD Cert.KWdIdeal.τ).loc Cert.KWdIdeal.main_v8) = v0 c
          ∧ r.2.mem ((c.tc : Thread Cert.KWdIdeal.nD Cert.KWdIdeal.τ).loc Cert.KWdIdeal.main_arg0) = m ((c.tc : Thread Cert.KWdIdeal.nD Cert.KWdIdeal.τ).loc Cert.KWdIdeal.main_arg0)
          ∧ r.2.mem ((c.tc : Thread Cert.KWdIdeal.nD Cert.KWdIdeal.τ).loc Cert.KWdIdeal.main_arg1) = m ((c.tc : Thread Cert.KWdIdeal.nD Cert.KWdIdeal.τ).loc Cert.KWdIdeal.main_arg1)
          ∧ r.2.mem ((c.tc : Thread Cert.KWdIdeal.nD Cert.KWdIdeal.τ).loc Cert.KWdIdeal.main_arg2) = m ((c.tc : Thread Cert.KWdIdeal.nD Cert.KWdIdeal.τ).loc Cert.KWdIdeal.main_arg2)
          ∧ r.2.mem ((c.tc : Thread Cert.KWdIdeal.nD Cert.KWdIdeal.τ).loc Cert.KWdIdeal.main_arg3) = m ((c.tc : Thread Cert.KWdIdeal.nD Cert.KWdIdeal.τ).loc Cert.KWdIdeal.main_arg3)
          ∧ r.2.mem ((c.tc : Thread Cert.KWdIdeal.nD Cert.KWdIdeal.τ).loc Cert.KWdIdeal.main_arg4) = m ((c.tc : Thread Cert.KWdIdeal.nD Cert.KWdIdeal.τ).loc Cert.KWdIdeal.main_arg4))
      ∧ θ_run (Cert.RWdIdeal.defs (F := Ideal)) (onTc (τ := Cert.RWdIdeal.τ) (Cert.RWdIdeal.main (F := Ideal))) ⟨m', fun _ => 0, g'⟩ (fun r => ∀ c : Dev Cert.RWdIdeal.nD,
          r.2.mem ((c.tc : Thread Cert.RWdIdeal.nD Cert.RWdIdeal.τ).loc Cert.RWdIdeal.main_v14) = v0 c
          ∧ r.2.mem ((c.tc : Thread Cert.RWdIdeal.nD Cert.RWdIdeal.τ).loc Cert.RWdIdeal.main_arg0) = m' ((c.tc : Thread Cert.RWdIdeal.nD Cert.RWdIdeal.τ).loc Cert.RWdIdeal.main_arg0)
          ∧ r.2.mem ((c.tc : Thread Cert.RWdIdeal.nD Cert.RWdIdeal.τ).loc Cert.RWdIdeal.main_arg1) = m' ((c.tc : Thread Cert.RWdIdeal.nD Cert.RWdIdeal.τ).loc Cert.RWdIdeal.main_arg1)
          ∧ r.2.mem ((c.tc : Thread Cert.RWdIdeal.nD Cert.RWdIdeal.τ).loc Cert.RWdIdeal.main_arg2) = m' ((c.tc : Thread Cert.RWdIdeal.nD Cert.RWdIdeal.τ).loc Cert.RWdIdeal.main_arg2)
          ∧ r.2.mem ((c.tc : Thread Cert.RWdIdeal.nD Cert.RWdIdeal.τ).loc Cert.RWdIdeal.main_arg3) = m' ((c.tc : Thread Cert.RWdIdeal.nD Cert.RWdIdeal.τ).loc Cert.RWdIdeal.main_arg3)
          ∧ r.2.mem ((c.tc : Thread Cert.RWdIdeal.nD Cert.RWdIdeal.τ).loc Cert.RWdIdeal.main_arg4) = m' ((c.tc : Thread Cert.RWdIdeal.nD Cert.RWdIdeal.τ).loc Cert.RWdIdeal.main_arg4))

def preserves_KWu_KWuIdeal : Prop :=
  True

def algebraic_KWuIdeal_RWuIdeal [hKWuIdeal : Cert.KWuIdeal.Facts] [hRWuIdeal : Cert.RWuIdeal.Facts] : Prop :=
  ∀ (m : (ℓ : Loc Cert.KWuIdeal.nD Cert.KWuIdeal.τ Cert.KWuIdeal.sig) → Buf (Elt Ideal) ℓ) (g : Dev Cert.KWuIdeal.nD → PrngReg)
    (m' : (ℓ : Loc Cert.RWuIdeal.nD Cert.RWuIdeal.τ Cert.RWuIdeal.sig) → Buf (Elt Ideal) ℓ) (g' : Dev Cert.RWuIdeal.nD → PrngReg), Pre_KWuIdeal m →
    (∀ c : Dev Cert.KWuIdeal.nD,
      m' ((c.tc : Thread Cert.RWuIdeal.nD Cert.RWuIdeal.τ).loc Cert.RWuIdeal.main_arg0) = m ((c.tc : Thread Cert.KWuIdeal.nD Cert.KWuIdeal.τ).loc Cert.KWuIdeal.main_arg0)
      ∧ m' ((c.tc : Thread Cert.RWuIdeal.nD Cert.RWuIdeal.τ).loc Cert.RWuIdeal.main_arg1) = m ((c.tc : Thread Cert.KWuIdeal.nD Cert.KWuIdeal.τ).loc Cert.KWuIdeal.main_arg1)
      ∧ m' ((c.tc : Thread Cert.RWuIdeal.nD Cert.RWuIdeal.τ).loc Cert.RWuIdeal.main_arg2) = m ((c.tc : Thread Cert.KWuIdeal.nD Cert.KWuIdeal.τ).loc Cert.KWuIdeal.main_arg2)
      ∧ m' ((c.tc : Thread Cert.RWuIdeal.nD Cert.RWuIdeal.τ).loc Cert.RWuIdeal.main_arg3) = m ((c.tc : Thread Cert.KWuIdeal.nD Cert.KWuIdeal.τ).loc Cert.KWuIdeal.main_arg3)
      ∧ m' ((c.tc : Thread Cert.RWuIdeal.nD Cert.RWuIdeal.τ).loc Cert.RWuIdeal.main_arg4) = m ((c.tc : Thread Cert.KWuIdeal.nD Cert.KWuIdeal.τ).loc Cert.KWuIdeal.main_arg4)) →
    ∃ (v0 : (c : Dev Cert.KWuIdeal.nD) → Buf (Elt Ideal) ((c.tc : Thread Cert.KWuIdeal.nD Cert.KWuIdeal.τ).loc Cert.KWuIdeal.main_v12)),
      θ_run (Cert.KWuIdeal.defs (F := Ideal)) (onTc (τ := Cert.KWuIdeal.τ) (Cert.KWuIdeal.main (F := Ideal))) ⟨m, fun _ => 0, g⟩ (fun r => ∀ c : Dev Cert.KWuIdeal.nD,
          r.2.mem ((c.tc : Thread Cert.KWuIdeal.nD Cert.KWuIdeal.τ).loc Cert.KWuIdeal.main_v12) = v0 c
          ∧ r.2.mem ((c.tc : Thread Cert.KWuIdeal.nD Cert.KWuIdeal.τ).loc Cert.KWuIdeal.main_arg0) = m ((c.tc : Thread Cert.KWuIdeal.nD Cert.KWuIdeal.τ).loc Cert.KWuIdeal.main_arg0)
          ∧ r.2.mem ((c.tc : Thread Cert.KWuIdeal.nD Cert.KWuIdeal.τ).loc Cert.KWuIdeal.main_arg1) = m ((c.tc : Thread Cert.KWuIdeal.nD Cert.KWuIdeal.τ).loc Cert.KWuIdeal.main_arg1)
          ∧ r.2.mem ((c.tc : Thread Cert.KWuIdeal.nD Cert.KWuIdeal.τ).loc Cert.KWuIdeal.main_arg2) = m ((c.tc : Thread Cert.KWuIdeal.nD Cert.KWuIdeal.τ).loc Cert.KWuIdeal.main_arg2)
          ∧ r.2.mem ((c.tc : Thread Cert.KWuIdeal.nD Cert.KWuIdeal.τ).loc Cert.KWuIdeal.main_arg3) = m ((c.tc : Thread Cert.KWuIdeal.nD Cert.KWuIdeal.τ).loc Cert.KWuIdeal.main_arg3)
          ∧ r.2.mem ((c.tc : Thread Cert.KWuIdeal.nD Cert.KWuIdeal.τ).loc Cert.KWuIdeal.main_arg4) = m ((c.tc : Thread Cert.KWuIdeal.nD Cert.KWuIdeal.τ).loc Cert.KWuIdeal.main_arg4))
      ∧ θ_run (Cert.RWuIdeal.defs (F := Ideal)) (onTc (τ := Cert.RWuIdeal.τ) (Cert.RWuIdeal.main (F := Ideal))) ⟨m', fun _ => 0, g'⟩ (fun r => ∀ c : Dev Cert.RWuIdeal.nD,
          r.2.mem ((c.tc : Thread Cert.RWuIdeal.nD Cert.RWuIdeal.τ).loc Cert.RWuIdeal.main_v11) = v0 c
          ∧ r.2.mem ((c.tc : Thread Cert.RWuIdeal.nD Cert.RWuIdeal.τ).loc Cert.RWuIdeal.main_arg0) = m' ((c.tc : Thread Cert.RWuIdeal.nD Cert.RWuIdeal.τ).loc Cert.RWuIdeal.main_arg0)
          ∧ r.2.mem ((c.tc : Thread Cert.RWuIdeal.nD Cert.RWuIdeal.τ).loc Cert.RWuIdeal.main_arg1) = m' ((c.tc : Thread Cert.RWuIdeal.nD Cert.RWuIdeal.τ).loc Cert.RWuIdeal.main_arg1)
          ∧ r.2.mem ((c.tc : Thread Cert.RWuIdeal.nD Cert.RWuIdeal.τ).loc Cert.RWuIdeal.main_arg2) = m' ((c.tc : Thread Cert.RWuIdeal.nD Cert.RWuIdeal.τ).loc Cert.RWuIdeal.main_arg2)
          ∧ r.2.mem ((c.tc : Thread Cert.RWuIdeal.nD Cert.RWuIdeal.τ).loc Cert.RWuIdeal.main_arg3) = m' ((c.tc : Thread Cert.RWuIdeal.nD Cert.RWuIdeal.τ).loc Cert.RWuIdeal.main_arg3)
          ∧ r.2.mem ((c.tc : Thread Cert.RWuIdeal.nD Cert.RWuIdeal.τ).loc Cert.RWuIdeal.main_arg4) = m' ((c.tc : Thread Cert.RWuIdeal.nD Cert.RWuIdeal.τ).loc Cert.RWuIdeal.main_arg4))

def preserves_KWg_KWgIdeal : Prop :=
  True

def algebraic_KWgIdeal_RWgIdeal_pre_finite_wg [hKWgIdeal : Cert.KWgIdeal.Facts] [hRWgIdeal : Cert.RWgIdeal.Facts] [hPre_finite_wg : Cert.Pre_finite_wg.Facts] : Prop :=
  ∀ (m : (ℓ : Loc Cert.KWgIdeal.nD Cert.KWgIdeal.τ Cert.KWgIdeal.sig) → Buf (Elt Ideal) ℓ) (g : Dev Cert.KWgIdeal.nD → PrngReg)
    (m' : (ℓ : Loc Cert.RWgIdeal.nD Cert.RWgIdeal.τ Cert.RWgIdeal.sig) → Buf (Elt Ideal) ℓ) (g' : Dev Cert.RWgIdeal.nD → PrngReg), Pre_KWgIdeal_finite_wg m →
    (∀ c : Dev Cert.KWgIdeal.nD,
      m' ((c.tc : Thread Cert.RWgIdeal.nD Cert.RWgIdeal.τ).loc Cert.RWgIdeal.main_arg0) = m ((c.tc : Thread Cert.KWgIdeal.nD Cert.KWgIdeal.τ).loc Cert.KWgIdeal.main_arg0)
      ∧ m' ((c.tc : Thread Cert.RWgIdeal.nD Cert.RWgIdeal.τ).loc Cert.RWgIdeal.main_arg1) = m ((c.tc : Thread Cert.KWgIdeal.nD Cert.KWgIdeal.τ).loc Cert.KWgIdeal.main_arg1)
      ∧ m' ((c.tc : Thread Cert.RWgIdeal.nD Cert.RWgIdeal.τ).loc Cert.RWgIdeal.main_arg2) = m ((c.tc : Thread Cert.KWgIdeal.nD Cert.KWgIdeal.τ).loc Cert.KWgIdeal.main_arg2)
      ∧ m' ((c.tc : Thread Cert.RWgIdeal.nD Cert.RWgIdeal.τ).loc Cert.RWgIdeal.main_arg3) = m ((c.tc : Thread Cert.KWgIdeal.nD Cert.KWgIdeal.τ).loc Cert.KWgIdeal.main_arg3)
      ∧ m' ((c.tc : Thread Cert.RWgIdeal.nD Cert.RWgIdeal.τ).loc Cert.RWgIdeal.main_arg4) = m ((c.tc : Thread Cert.KWgIdeal.nD Cert.KWgIdeal.τ).loc Cert.KWgIdeal.main_arg4)) →
    ∃ (v0 : (c : Dev Cert.KWgIdeal.nD) → Buf (Elt Ideal) ((c.tc : Thread Cert.KWgIdeal.nD Cert.KWgIdeal.τ).loc Cert.KWgIdeal.main_v12)),
      θ_run (Cert.KWgIdeal.defs (F := Ideal)) (onTc (τ := Cert.KWgIdeal.τ) (Cert.KWgIdeal.main (F := Ideal))) ⟨m, fun _ => 0, g⟩ (fun r => ∀ c : Dev Cert.KWgIdeal.nD,
          r.2.mem ((c.tc : Thread Cert.KWgIdeal.nD Cert.KWgIdeal.τ).loc Cert.KWgIdeal.main_v12) = v0 c
          ∧ r.2.mem ((c.tc : Thread Cert.KWgIdeal.nD Cert.KWgIdeal.τ).loc Cert.KWgIdeal.main_arg0) = m ((c.tc : Thread Cert.KWgIdeal.nD Cert.KWgIdeal.τ).loc Cert.KWgIdeal.main_arg0)
          ∧ r.2.mem ((c.tc : Thread Cert.KWgIdeal.nD Cert.KWgIdeal.τ).loc Cert.KWgIdeal.main_arg1) = m ((c.tc : Thread Cert.KWgIdeal.nD Cert.KWgIdeal.τ).loc Cert.KWgIdeal.main_arg1)
          ∧ r.2.mem ((c.tc : Thread Cert.KWgIdeal.nD Cert.KWgIdeal.τ).loc Cert.KWgIdeal.main_arg2) = m ((c.tc : Thread Cert.KWgIdeal.nD Cert.KWgIdeal.τ).loc Cert.KWgIdeal.main_arg2)
          ∧ r.2.mem ((c.tc : Thread Cert.KWgIdeal.nD Cert.KWgIdeal.τ).loc Cert.KWgIdeal.main_arg3) = m ((c.tc : Thread Cert.KWgIdeal.nD Cert.KWgIdeal.τ).loc Cert.KWgIdeal.main_arg3)
          ∧ r.2.mem ((c.tc : Thread Cert.KWgIdeal.nD Cert.KWgIdeal.τ).loc Cert.KWgIdeal.main_arg4) = m ((c.tc : Thread Cert.KWgIdeal.nD Cert.KWgIdeal.τ).loc Cert.KWgIdeal.main_arg4))
      ∧ θ_run (Cert.RWgIdeal.defs (F := Ideal)) (onTc (τ := Cert.RWgIdeal.τ) (Cert.RWgIdeal.main (F := Ideal))) ⟨m', fun _ => 0, g'⟩ (fun r => ∀ c : Dev Cert.RWgIdeal.nD,
          r.2.mem ((c.tc : Thread Cert.RWgIdeal.nD Cert.RWgIdeal.τ).loc Cert.RWgIdeal.main_v11) = v0 c
          ∧ r.2.mem ((c.tc : Thread Cert.RWgIdeal.nD Cert.RWgIdeal.τ).loc Cert.RWgIdeal.main_arg0) = m' ((c.tc : Thread Cert.RWgIdeal.nD Cert.RWgIdeal.τ).loc Cert.RWgIdeal.main_arg0)
          ∧ r.2.mem ((c.tc : Thread Cert.RWgIdeal.nD Cert.RWgIdeal.τ).loc Cert.RWgIdeal.main_arg1) = m' ((c.tc : Thread Cert.RWgIdeal.nD Cert.RWgIdeal.τ).loc Cert.RWgIdeal.main_arg1)
          ∧ r.2.mem ((c.tc : Thread Cert.RWgIdeal.nD Cert.RWgIdeal.τ).loc Cert.RWgIdeal.main_arg2) = m' ((c.tc : Thread Cert.RWgIdeal.nD Cert.RWgIdeal.τ).loc Cert.RWgIdeal.main_arg2)
          ∧ r.2.mem ((c.tc : Thread Cert.RWgIdeal.nD Cert.RWgIdeal.τ).loc Cert.RWgIdeal.main_arg3) = m' ((c.tc : Thread Cert.RWgIdeal.nD Cert.RWgIdeal.τ).loc Cert.RWgIdeal.main_arg3)
          ∧ r.2.mem ((c.tc : Thread Cert.RWgIdeal.nD Cert.RWgIdeal.τ).loc Cert.RWgIdeal.main_arg4) = m' ((c.tc : Thread Cert.RWgIdeal.nD Cert.RWgIdeal.τ).loc Cert.RWgIdeal.main_arg4))

def preserves_KIn_KInIdeal : Prop :=
  True

def algebraic_KInIdeal_RInIdeal_pre_finite_in [hKInIdeal : Cert.KInIdeal.Facts] [hRInIdeal : Cert.RInIdeal.Facts] [hPre_finite_in : Cert.Pre_finite_in.Facts] : Prop :=
  ∀ (m : (ℓ : Loc Cert.KInIdeal.nD Cert.KInIdeal.τ Cert.KInIdeal.sig) → Buf (Elt Ideal) ℓ) (g : Dev Cert.KInIdeal.nD → PrngReg)
    (m' : (ℓ : Loc Cert.RInIdeal.nD Cert.RInIdeal.τ Cert.RInIdeal.sig) → Buf (Elt Ideal) ℓ) (g' : Dev Cert.RInIdeal.nD → PrngReg), Pre_KInIdeal_finite_in m →
    (∀ c : Dev Cert.KInIdeal.nD,
      m' ((c.tc : Thread Cert.RInIdeal.nD Cert.RInIdeal.τ).loc Cert.RInIdeal.main_arg0) = m ((c.tc : Thread Cert.KInIdeal.nD Cert.KInIdeal.τ).loc Cert.KInIdeal.main_arg0)
      ∧ m' ((c.tc : Thread Cert.RInIdeal.nD Cert.RInIdeal.τ).loc Cert.RInIdeal.main_arg1) = m ((c.tc : Thread Cert.KInIdeal.nD Cert.KInIdeal.τ).loc Cert.KInIdeal.main_arg1)
      ∧ m' ((c.tc : Thread Cert.RInIdeal.nD Cert.RInIdeal.τ).loc Cert.RInIdeal.main_arg2) = m ((c.tc : Thread Cert.KInIdeal.nD Cert.KInIdeal.τ).loc Cert.KInIdeal.main_arg2)
      ∧ m' ((c.tc : Thread Cert.RInIdeal.nD Cert.RInIdeal.τ).loc Cert.RInIdeal.main_arg3) = m ((c.tc : Thread Cert.KInIdeal.nD Cert.KInIdeal.τ).loc Cert.KInIdeal.main_arg3)
      ∧ m' ((c.tc : Thread Cert.RInIdeal.nD Cert.RInIdeal.τ).loc Cert.RInIdeal.main_arg4) = m ((c.tc : Thread Cert.KInIdeal.nD Cert.KInIdeal.τ).loc Cert.KInIdeal.main_arg4)
      ∧ m' ((c.tc : Thread Cert.RInIdeal.nD Cert.RInIdeal.τ).loc Cert.RInIdeal.main_arg5) = m ((c.tc : Thread Cert.KInIdeal.nD Cert.KInIdeal.τ).loc Cert.KInIdeal.main_arg5)
      ∧ m' ((c.tc : Thread Cert.RInIdeal.nD Cert.RInIdeal.τ).loc Cert.RInIdeal.main_arg6) = m ((c.tc : Thread Cert.KInIdeal.nD Cert.KInIdeal.τ).loc Cert.KInIdeal.main_arg6)
      ∧ m' ((c.tc : Thread Cert.RInIdeal.nD Cert.RInIdeal.τ).loc Cert.RInIdeal.main_arg7) = m ((c.tc : Thread Cert.KInIdeal.nD Cert.KInIdeal.τ).loc Cert.KInIdeal.main_arg7)) →
    ∃ (v0 : (c : Dev Cert.KInIdeal.nD) → Buf (Elt Ideal) ((c.tc : Thread Cert.KInIdeal.nD Cert.KInIdeal.τ).loc Cert.KInIdeal.main_v34_0)) (v1 : (c : Dev Cert.KInIdeal.nD) → Buf (Elt Ideal) ((c.tc : Thread Cert.KInIdeal.nD Cert.KInIdeal.τ).loc Cert.KInIdeal.main_v34_1)),
      θ_run (Cert.KInIdeal.defs (F := Ideal)) (onTc (τ := Cert.KInIdeal.τ) (Cert.KInIdeal.main (F := Ideal))) ⟨m, fun _ => 0, g⟩ (fun r => ∀ c : Dev Cert.KInIdeal.nD,
          r.2.mem ((c.tc : Thread Cert.KInIdeal.nD Cert.KInIdeal.τ).loc Cert.KInIdeal.main_v34_0) = v0 c
          ∧ r.2.mem ((c.tc : Thread Cert.KInIdeal.nD Cert.KInIdeal.τ).loc Cert.KInIdeal.main_v34_1) = v1 c
          ∧ r.2.mem ((c.tc : Thread Cert.KInIdeal.nD Cert.KInIdeal.τ).loc Cert.KInIdeal.main_arg0) = m ((c.tc : Thread Cert.KInIdeal.nD Cert.KInIdeal.τ).loc Cert.KInIdeal.main_arg0)
          ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
          ∧ r.2.mem ((c.tc : Thread Cert.KInIdeal.nD Cert.KInIdeal.τ).loc Cert.KInIdeal.main_arg2) = m ((c.tc : Thread Cert.KInIdeal.nD Cert.KInIdeal.τ).loc Cert.KInIdeal.main_arg2)
          ∧ r.2.mem ((c.tc : Thread Cert.KInIdeal.nD Cert.KInIdeal.τ).loc Cert.KInIdeal.main_arg3) = m ((c.tc : Thread Cert.KInIdeal.nD Cert.KInIdeal.τ).loc Cert.KInIdeal.main_arg3)
          ∧ r.2.mem ((c.tc : Thread Cert.KInIdeal.nD Cert.KInIdeal.τ).loc Cert.KInIdeal.main_arg4) = m ((c.tc : Thread Cert.KInIdeal.nD Cert.KInIdeal.τ).loc Cert.KInIdeal.main_arg4)
          ∧ r.2.mem ((c.tc : Thread Cert.KInIdeal.nD Cert.KInIdeal.τ).loc Cert.KInIdeal.main_arg5) = m ((c.tc : Thread Cert.KInIdeal.nD Cert.KInIdeal.τ).loc Cert.KInIdeal.main_arg5)
          ∧ r.2.mem ((c.tc : Thread Cert.KInIdeal.nD Cert.KInIdeal.τ).loc Cert.KInIdeal.main_arg6) = m ((c.tc : Thread Cert.KInIdeal.nD Cert.KInIdeal.τ).loc Cert.KInIdeal.main_arg6)
          ∧ r.2.mem ((c.tc : Thread Cert.KInIdeal.nD Cert.KInIdeal.τ).loc Cert.KInIdeal.main_arg7) = m ((c.tc : Thread Cert.KInIdeal.nD Cert.KInIdeal.τ).loc Cert.KInIdeal.main_arg7))
      ∧ θ_run (Cert.RInIdeal.defs (F := Ideal)) (onTc (τ := Cert.RInIdeal.τ) (Cert.RInIdeal.main (F := Ideal))) ⟨m', fun _ => 0, g'⟩ (fun r => ∀ c : Dev Cert.RInIdeal.nD,
          r.2.mem ((c.tc : Thread Cert.RInIdeal.nD Cert.RInIdeal.τ).loc Cert.RInIdeal.main_v48) = v0 c
          ∧ r.2.mem ((c.tc : Thread Cert.RInIdeal.nD Cert.RInIdeal.τ).loc Cert.RInIdeal.main_v49) = v1 c
          ∧ r.2.mem ((c.tc : Thread Cert.RInIdeal.nD Cert.RInIdeal.τ).loc Cert.RInIdeal.main_arg0) = m' ((c.tc : Thread Cert.RInIdeal.nD Cert.RInIdeal.τ).loc Cert.RInIdeal.main_arg0)
          ∧ r.2.mem ((c.tc : Thread Cert.RInIdeal.nD Cert.RInIdeal.τ).loc Cert.RInIdeal.main_arg1) = m' ((c.tc : Thread Cert.RInIdeal.nD Cert.RInIdeal.τ).loc Cert.RInIdeal.main_arg1)
          ∧ r.2.mem ((c.tc : Thread Cert.RInIdeal.nD Cert.RInIdeal.τ).loc Cert.RInIdeal.main_arg2) = m' ((c.tc : Thread Cert.RInIdeal.nD Cert.RInIdeal.τ).loc Cert.RInIdeal.main_arg2)
          ∧ r.2.mem ((c.tc : Thread Cert.RInIdeal.nD Cert.RInIdeal.τ).loc Cert.RInIdeal.main_arg3) = m' ((c.tc : Thread Cert.RInIdeal.nD Cert.RInIdeal.τ).loc Cert.RInIdeal.main_arg3)
          ∧ r.2.mem ((c.tc : Thread Cert.RInIdeal.nD Cert.RInIdeal.τ).loc Cert.RInIdeal.main_arg4) = m' ((c.tc : Thread Cert.RInIdeal.nD Cert.RInIdeal.τ).loc Cert.RInIdeal.main_arg4)
          ∧ r.2.mem ((c.tc : Thread Cert.RInIdeal.nD Cert.RInIdeal.τ).loc Cert.RInIdeal.main_arg5) = m' ((c.tc : Thread Cert.RInIdeal.nD Cert.RInIdeal.τ).loc Cert.RInIdeal.main_arg5)
          ∧ r.2.mem ((c.tc : Thread Cert.RInIdeal.nD Cert.RInIdeal.τ).loc Cert.RInIdeal.main_arg6) = m' ((c.tc : Thread Cert.RInIdeal.nD Cert.RInIdeal.τ).loc Cert.RInIdeal.main_arg6)
          ∧ r.2.mem ((c.tc : Thread Cert.RInIdeal.nD Cert.RInIdeal.τ).loc Cert.RInIdeal.main_arg7) = m' ((c.tc : Thread Cert.RInIdeal.nD Cert.RInIdeal.τ).loc Cert.RInIdeal.main_arg7))

def preserves_KUp_KUpIdeal : Prop :=
  True

def algebraic_KUpIdeal_RUpIdeal_pre_finite_up [hKUpIdeal : Cert.KUpIdeal.Facts] [hRUpIdeal : Cert.RUpIdeal.Facts] [hPre_finite_up : Cert.Pre_finite_up.Facts] : Prop :=
  ∀ (m : (ℓ : Loc Cert.KUpIdeal.nD Cert.KUpIdeal.τ Cert.KUpIdeal.sig) → Buf (Elt Ideal) ℓ) (g : Dev Cert.KUpIdeal.nD → PrngReg)
    (m' : (ℓ : Loc Cert.RUpIdeal.nD Cert.RUpIdeal.τ Cert.RUpIdeal.sig) → Buf (Elt Ideal) ℓ) (g' : Dev Cert.RUpIdeal.nD → PrngReg), Pre_KUpIdeal_finite_up m →
    (∀ c : Dev Cert.KUpIdeal.nD,
      m' ((c.tc : Thread Cert.RUpIdeal.nD Cert.RUpIdeal.τ).loc Cert.RUpIdeal.main_arg0) = m ((c.tc : Thread Cert.KUpIdeal.nD Cert.KUpIdeal.τ).loc Cert.KUpIdeal.main_arg0)
      ∧ m' ((c.tc : Thread Cert.RUpIdeal.nD Cert.RUpIdeal.τ).loc Cert.RUpIdeal.main_arg1) = m ((c.tc : Thread Cert.KUpIdeal.nD Cert.KUpIdeal.τ).loc Cert.KUpIdeal.main_arg1)
      ∧ m' ((c.tc : Thread Cert.RUpIdeal.nD Cert.RUpIdeal.τ).loc Cert.RUpIdeal.main_arg2) = m ((c.tc : Thread Cert.KUpIdeal.nD Cert.KUpIdeal.τ).loc Cert.KUpIdeal.main_arg2)
      ∧ m' ((c.tc : Thread Cert.RUpIdeal.nD Cert.RUpIdeal.τ).loc Cert.RUpIdeal.main_arg3) = m ((c.tc : Thread Cert.KUpIdeal.nD Cert.KUpIdeal.τ).loc Cert.KUpIdeal.main_arg3)
      ∧ m' ((c.tc : Thread Cert.RUpIdeal.nD Cert.RUpIdeal.τ).loc Cert.RUpIdeal.main_arg4) = m ((c.tc : Thread Cert.KUpIdeal.nD Cert.KUpIdeal.τ).loc Cert.KUpIdeal.main_arg4)
      ∧ m' ((c.tc : Thread Cert.RUpIdeal.nD Cert.RUpIdeal.τ).loc Cert.RUpIdeal.main_arg5) = m ((c.tc : Thread Cert.KUpIdeal.nD Cert.KUpIdeal.τ).loc Cert.KUpIdeal.main_arg5)) →
    ∃ (v0 : (c : Dev Cert.KUpIdeal.nD) → Buf (Elt Ideal) ((c.tc : Thread Cert.KUpIdeal.nD Cert.KUpIdeal.τ).loc Cert.KUpIdeal.main_v8_0)) (v1 : (c : Dev Cert.KUpIdeal.nD) → Buf (Elt Ideal) ((c.tc : Thread Cert.KUpIdeal.nD Cert.KUpIdeal.τ).loc Cert.KUpIdeal.main_v8_1)) (v2 : (c : Dev Cert.KUpIdeal.nD) → Buf (Elt Ideal) ((c.tc : Thread Cert.KUpIdeal.nD Cert.KUpIdeal.τ).loc Cert.KUpIdeal.main_v8_2)) (v3 : (c : Dev Cert.KUpIdeal.nD) → Buf (Elt Ideal) ((c.tc : Thread Cert.KUpIdeal.nD Cert.KUpIdeal.τ).loc Cert.KUpIdeal.main_v8_3)),
      θ_run (Cert.KUpIdeal.defs (F := Ideal)) (onTc (τ := Cert.KUpIdeal.τ) (Cert.KUpIdeal.main (F := Ideal))) ⟨m, fun _ => 0, g⟩ (fun r => ∀ c : Dev Cert.KUpIdeal.nD,
          r.2.mem ((c.tc : Thread Cert.KUpIdeal.nD Cert.KUpIdeal.τ).loc Cert.KUpIdeal.main_v8_0) = v0 c
          ∧ r.2.mem ((c.tc : Thread Cert.KUpIdeal.nD Cert.KUpIdeal.τ).loc Cert.KUpIdeal.main_v8_1) = v1 c
          ∧ r.2.mem ((c.tc : Thread Cert.KUpIdeal.nD Cert.KUpIdeal.τ).loc Cert.KUpIdeal.main_v8_2) = v2 c
          ∧ r.2.mem ((c.tc : Thread Cert.KUpIdeal.nD Cert.KUpIdeal.τ).loc Cert.KUpIdeal.main_v8_3) = v3 c
          ∧ r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
          ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
          ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
          ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3)
          ∧ r.2.mem ((c.tc : Thread Cert.KUpIdeal.nD Cert.KUpIdeal.τ).loc Cert.KUpIdeal.main_arg4) = m ((c.tc : Thread Cert.KUpIdeal.nD Cert.KUpIdeal.τ).loc Cert.KUpIdeal.main_arg4)
          ∧ r.2.mem ((c.tc : Thread Cert.KUpIdeal.nD Cert.KUpIdeal.τ).loc Cert.KUpIdeal.main_arg5) = m ((c.tc : Thread Cert.KUpIdeal.nD Cert.KUpIdeal.τ).loc Cert.KUpIdeal.main_arg5))
      ∧ θ_run (Cert.RUpIdeal.defs (F := Ideal)) (onTc (τ := Cert.RUpIdeal.τ) (Cert.RUpIdeal.main (F := Ideal))) ⟨m', fun _ => 0, g'⟩ (fun r => ∀ c : Dev Cert.RUpIdeal.nD,
          r.2.mem ((c.tc : Thread Cert.RUpIdeal.nD Cert.RUpIdeal.τ).loc Cert.RUpIdeal.main_v25) = v0 c
          ∧ r.2.mem ((c.tc : Thread Cert.RUpIdeal.nD Cert.RUpIdeal.τ).loc Cert.RUpIdeal.main_v23) = v1 c
          ∧ r.2.mem ((c.tc : Thread Cert.RUpIdeal.nD Cert.RUpIdeal.τ).loc Cert.RUpIdeal.main_v24) = v2 c
          ∧ r.2.mem ((c.tc : Thread Cert.RUpIdeal.nD Cert.RUpIdeal.τ).loc Cert.RUpIdeal.main_v30) = v3 c
          ∧ r.2.mem ((c.tc : Thread Cert.RUpIdeal.nD Cert.RUpIdeal.τ).loc Cert.RUpIdeal.main_arg0) = m' ((c.tc : Thread Cert.RUpIdeal.nD Cert.RUpIdeal.τ).loc Cert.RUpIdeal.main_arg0)
          ∧ r.2.mem ((c.tc : Thread Cert.RUpIdeal.nD Cert.RUpIdeal.τ).loc Cert.RUpIdeal.main_arg1) = m' ((c.tc : Thread Cert.RUpIdeal.nD Cert.RUpIdeal.τ).loc Cert.RUpIdeal.main_arg1)
          ∧ r.2.mem ((c.tc : Thread Cert.RUpIdeal.nD Cert.RUpIdeal.τ).loc Cert.RUpIdeal.main_arg2) = m' ((c.tc : Thread Cert.RUpIdeal.nD Cert.RUpIdeal.τ).loc Cert.RUpIdeal.main_arg2)
          ∧ r.2.mem ((c.tc : Thread Cert.RUpIdeal.nD Cert.RUpIdeal.τ).loc Cert.RUpIdeal.main_arg3) = m' ((c.tc : Thread Cert.RUpIdeal.nD Cert.RUpIdeal.τ).loc Cert.RUpIdeal.main_arg3)
          ∧ r.2.mem ((c.tc : Thread Cert.RUpIdeal.nD Cert.RUpIdeal.τ).loc Cert.RUpIdeal.main_arg4) = m' ((c.tc : Thread Cert.RUpIdeal.nD Cert.RUpIdeal.τ).loc Cert.RUpIdeal.main_arg4)
          ∧ r.2.mem ((c.tc : Thread Cert.RUpIdeal.nD Cert.RUpIdeal.τ).loc Cert.RUpIdeal.main_arg5) = m' ((c.tc : Thread Cert.RUpIdeal.nD Cert.RUpIdeal.τ).loc Cert.RUpIdeal.main_arg5))

def preserves_KDn_KDnIdeal : Prop :=
  True

def algebraic_KDnIdeal_RDnIdeal [hKDnIdeal : Cert.KDnIdeal.Facts] [hRDnIdeal : Cert.RDnIdeal.Facts] : Prop :=
  ∀ (m : (ℓ : Loc Cert.KDnIdeal.nD Cert.KDnIdeal.τ Cert.KDnIdeal.sig) → Buf (Elt Ideal) ℓ) (g : Dev Cert.KDnIdeal.nD → PrngReg)
    (m' : (ℓ : Loc Cert.RDnIdeal.nD Cert.RDnIdeal.τ Cert.RDnIdeal.sig) → Buf (Elt Ideal) ℓ) (g' : Dev Cert.RDnIdeal.nD → PrngReg), Pre_KDnIdeal m →
    (∀ c : Dev Cert.KDnIdeal.nD,
      m' ((c.tc : Thread Cert.RDnIdeal.nD Cert.RDnIdeal.τ).loc Cert.RDnIdeal.main_arg0) = m ((c.tc : Thread Cert.KDnIdeal.nD Cert.KDnIdeal.τ).loc Cert.KDnIdeal.main_arg0)
      ∧ m' ((c.tc : Thread Cert.RDnIdeal.nD Cert.RDnIdeal.τ).loc Cert.RDnIdeal.main_arg1) = m ((c.tc : Thread Cert.KDnIdeal.nD Cert.KDnIdeal.τ).loc Cert.KDnIdeal.main_arg1)
      ∧ m' ((c.tc : Thread Cert.RDnIdeal.nD Cert.RDnIdeal.τ).loc Cert.RDnIdeal.main_arg2) = m ((c.tc : Thread Cert.KDnIdeal.nD Cert.KDnIdeal.τ).loc Cert.KDnIdeal.main_arg2)
      ∧ m' ((c.tc : Thread Cert.RDnIdeal.nD Cert.RDnIdeal.τ).loc Cert.RDnIdeal.main_arg3) = m ((c.tc : Thread Cert.KDnIdeal.nD Cert.KDnIdeal.τ).loc Cert.KDnIdeal.main_arg3)
      ∧ m' ((c.tc : Thread Cert.RDnIdeal.nD Cert.RDnIdeal.τ).loc Cert.RDnIdeal.main_arg4) = m ((c.tc : Thread Cert.KDnIdeal.nD Cert.KDnIdeal.τ).loc Cert.KDnIdeal.main_arg4)
      ∧ m' ((c.tc : Thread Cert.RDnIdeal.nD Cert.RDnIdeal.τ).loc Cert.RDnIdeal.main_arg5) = m ((c.tc : Thread Cert.KDnIdeal.nD Cert.KDnIdeal.τ).loc Cert.KDnIdeal.main_arg5)) →
    ∃ (v0 : (c : Dev Cert.KDnIdeal.nD) → Buf (Elt Ideal) ((c.tc : Thread Cert.KDnIdeal.nD Cert.KDnIdeal.τ).loc Cert.KDnIdeal.main_v12)),
      θ_run (Cert.KDnIdeal.defs (F := Ideal)) (onTc (τ := Cert.KDnIdeal.τ) (Cert.KDnIdeal.main (F := Ideal))) ⟨m, fun _ => 0, g⟩ (fun r => ∀ c : Dev Cert.KDnIdeal.nD,
          r.2.mem ((c.tc : Thread Cert.KDnIdeal.nD Cert.KDnIdeal.τ).loc Cert.KDnIdeal.main_v12) = v0 c
          ∧ r.2.mem ((c.tc : Thread Cert.KDnIdeal.nD Cert.KDnIdeal.τ).loc Cert.KDnIdeal.main_arg0) = m ((c.tc : Thread Cert.KDnIdeal.nD Cert.KDnIdeal.τ).loc Cert.KDnIdeal.main_arg0)
          ∧ r.2.mem ((c.tc : Thread Cert.KDnIdeal.nD Cert.KDnIdeal.τ).loc Cert.KDnIdeal.main_arg1) = m ((c.tc : Thread Cert.KDnIdeal.nD Cert.KDnIdeal.τ).loc Cert.KDnIdeal.main_arg1)
          ∧ r.2.mem ((c.tc : Thread Cert.KDnIdeal.nD Cert.KDnIdeal.τ).loc Cert.KDnIdeal.main_arg2) = m ((c.tc : Thread Cert.KDnIdeal.nD Cert.KDnIdeal.τ).loc Cert.KDnIdeal.main_arg2)
          ∧ r.2.mem ((c.tc : Thread Cert.KDnIdeal.nD Cert.KDnIdeal.τ).loc Cert.KDnIdeal.main_arg3) = m ((c.tc : Thread Cert.KDnIdeal.nD Cert.KDnIdeal.τ).loc Cert.KDnIdeal.main_arg3)
          ∧ r.2.mem ((c.tc : Thread Cert.KDnIdeal.nD Cert.KDnIdeal.τ).loc Cert.KDnIdeal.main_arg4) = m ((c.tc : Thread Cert.KDnIdeal.nD Cert.KDnIdeal.τ).loc Cert.KDnIdeal.main_arg4)
          ∧ r.2.mem ((c.tc : Thread Cert.KDnIdeal.nD Cert.KDnIdeal.τ).loc Cert.KDnIdeal.main_arg5) = m ((c.tc : Thread Cert.KDnIdeal.nD Cert.KDnIdeal.τ).loc Cert.KDnIdeal.main_arg5))
      ∧ θ_run (Cert.RDnIdeal.defs (F := Ideal)) (onTc (τ := Cert.RDnIdeal.τ) (Cert.RDnIdeal.main (F := Ideal))) ⟨m', fun _ => 0, g'⟩ (fun r => ∀ c : Dev Cert.RDnIdeal.nD,
          r.2.mem ((c.tc : Thread Cert.RDnIdeal.nD Cert.RDnIdeal.τ).loc Cert.RDnIdeal.main_v7) = v0 c
          ∧ r.2.mem ((c.tc : Thread Cert.RDnIdeal.nD Cert.RDnIdeal.τ).loc Cert.RDnIdeal.main_arg0) = m' ((c.tc : Thread Cert.RDnIdeal.nD Cert.RDnIdeal.τ).loc Cert.RDnIdeal.main_arg0)
          ∧ r.2.mem ((c.tc : Thread Cert.RDnIdeal.nD Cert.RDnIdeal.τ).loc Cert.RDnIdeal.main_arg1) = m' ((c.tc : Thread Cert.RDnIdeal.nD Cert.RDnIdeal.τ).loc Cert.RDnIdeal.main_arg1)
          ∧ r.2.mem ((c.tc : Thread Cert.RDnIdeal.nD Cert.RDnIdeal.τ).loc Cert.RDnIdeal.main_arg2) = m' ((c.tc : Thread Cert.RDnIdeal.nD Cert.RDnIdeal.τ).loc Cert.RDnIdeal.main_arg2)
          ∧ r.2.mem ((c.tc : Thread Cert.RDnIdeal.nD Cert.RDnIdeal.τ).loc Cert.RDnIdeal.main_arg3) = m' ((c.tc : Thread Cert.RDnIdeal.nD Cert.RDnIdeal.τ).loc Cert.RDnIdeal.main_arg3)
          ∧ r.2.mem ((c.tc : Thread Cert.RDnIdeal.nD Cert.RDnIdeal.τ).loc Cert.RDnIdeal.main_arg4) = m' ((c.tc : Thread Cert.RDnIdeal.nD Cert.RDnIdeal.τ).loc Cert.RDnIdeal.main_arg4)
          ∧ r.2.mem ((c.tc : Thread Cert.RDnIdeal.nD Cert.RDnIdeal.τ).loc Cert.RDnIdeal.main_arg5) = m' ((c.tc : Thread Cert.RDnIdeal.nD Cert.RDnIdeal.τ).loc Cert.RDnIdeal.main_arg5))

def preserves_KAd_KAdIdeal : Prop :=
  True

def algebraic_KAdIdeal_RAdIdeal [hKAdIdeal : Cert.KAdIdeal.Facts] [hRAdIdeal : Cert.RAdIdeal.Facts] : Prop :=
  ∀ (m : (ℓ : Loc Cert.KAdIdeal.nD Cert.KAdIdeal.τ Cert.KAdIdeal.sig) → Buf (Elt Ideal) ℓ) (g : Dev Cert.KAdIdeal.nD → PrngReg)
    (m' : (ℓ : Loc Cert.RAdIdeal.nD Cert.RAdIdeal.τ Cert.RAdIdeal.sig) → Buf (Elt Ideal) ℓ) (g' : Dev Cert.RAdIdeal.nD → PrngReg), Pre_KAdIdeal m →
    (∀ c : Dev Cert.KAdIdeal.nD,
      m' ((c.tc : Thread Cert.RAdIdeal.nD Cert.RAdIdeal.τ).loc Cert.RAdIdeal.main_arg0) = m ((c.tc : Thread Cert.KAdIdeal.nD Cert.KAdIdeal.τ).loc Cert.KAdIdeal.main_arg0)
      ∧ m' ((c.tc : Thread Cert.RAdIdeal.nD Cert.RAdIdeal.τ).loc Cert.RAdIdeal.main_arg1) = m ((c.tc : Thread Cert.KAdIdeal.nD Cert.KAdIdeal.τ).loc Cert.KAdIdeal.main_arg1)
      ∧ m' ((c.tc : Thread Cert.RAdIdeal.nD Cert.RAdIdeal.τ).loc Cert.RAdIdeal.main_arg2) = m ((c.tc : Thread Cert.KAdIdeal.nD Cert.KAdIdeal.τ).loc Cert.KAdIdeal.main_arg2)
      ∧ m' ((c.tc : Thread Cert.RAdIdeal.nD Cert.RAdIdeal.τ).loc Cert.RAdIdeal.main_arg3) = m ((c.tc : Thread Cert.KAdIdeal.nD Cert.KAdIdeal.τ).loc Cert.KAdIdeal.main_arg3)) →
    ∃ (v0 : (c : Dev Cert.KAdIdeal.nD) → Buf (Elt Ideal) ((c.tc : Thread Cert.KAdIdeal.nD Cert.KAdIdeal.τ).loc Cert.KAdIdeal.main_v4_0)) (v1 : (c : Dev Cert.KAdIdeal.nD) → Buf (Elt Ideal) ((c.tc : Thread Cert.KAdIdeal.nD Cert.KAdIdeal.τ).loc Cert.KAdIdeal.main_v4_1)) (v2 : (c : Dev Cert.KAdIdeal.nD) → Buf (Elt Ideal) ((c.tc : Thread Cert.KAdIdeal.nD Cert.KAdIdeal.τ).loc Cert.KAdIdeal.main_v4_2)),
      θ_run (Cert.KAdIdeal.defs (F := Ideal)) (onTc (τ := Cert.KAdIdeal.τ) (Cert.KAdIdeal.main (F := Ideal))) ⟨m, fun _ => 0, g⟩ (fun r => ∀ c : Dev Cert.KAdIdeal.nD,
          r.2.mem ((c.tc : Thread Cert.KAdIdeal.nD Cert.KAdIdeal.τ).loc Cert.KAdIdeal.main_v4_0) = v0 c
          ∧ r.2.mem ((c.tc : Thread Cert.KAdIdeal.nD Cert.KAdIdeal.τ).loc Cert.KAdIdeal.main_v4_1) = v1 c
          ∧ r.2.mem ((c.tc : Thread Cert.KAdIdeal.nD Cert.KAdIdeal.τ).loc Cert.KAdIdeal.main_v4_2) = v2 c
          ∧ r.2.mem ((c.tc : Thread Cert.KAdIdeal.nD Cert.KAdIdeal.τ).loc Cert.KAdIdeal.main_arg0) = m ((c.tc : Thread Cert.KAdIdeal.nD Cert.KAdIdeal.τ).loc Cert.KAdIdeal.main_arg0)
          ∧ r.2.mem ((c.tc : Thread Cert.KAdIdeal.nD Cert.KAdIdeal.τ).loc Cert.KAdIdeal.main_arg1) = m ((c.tc : Thread Cert.KAdIdeal.nD Cert.KAdIdeal.τ).loc Cert.KAdIdeal.main_arg1)
          ∧ r.2.mem ((c.tc : Thread Cert.KAdIdeal.nD Cert.KAdIdeal.τ).loc Cert.KAdIdeal.main_arg2) = m ((c.tc : Thread Cert.KAdIdeal.nD Cert.KAdIdeal.τ).loc Cert.KAdIdeal.main_arg2)
          ∧ r.2.mem ((c.tc : Thread Cert.KAdIdeal.nD Cert.KAdIdeal.τ).loc Cert.KAdIdeal.main_arg3) = m ((c.tc : Thread Cert.KAdIdeal.nD Cert.KAdIdeal.τ).loc Cert.KAdIdeal.main_arg3))
      ∧ θ_run (Cert.RAdIdeal.defs (F := Ideal)) (onTc (τ := Cert.RAdIdeal.τ) (Cert.RAdIdeal.main (F := Ideal))) ⟨m', fun _ => 0, g'⟩ (fun r => ∀ c : Dev Cert.RAdIdeal.nD,
          r.2.mem ((c.tc : Thread Cert.RAdIdeal.nD Cert.RAdIdeal.τ).loc Cert.RAdIdeal.main_v24) = v0 c
          ∧ r.2.mem ((c.tc : Thread Cert.RAdIdeal.nD Cert.RAdIdeal.τ).loc Cert.RAdIdeal.main_v25) = v1 c
          ∧ r.2.mem ((c.tc : Thread Cert.RAdIdeal.nD Cert.RAdIdeal.τ).loc Cert.RAdIdeal.main_v26) = v2 c
          ∧ r.2.mem ((c.tc : Thread Cert.RAdIdeal.nD Cert.RAdIdeal.τ).loc Cert.RAdIdeal.main_arg0) = m' ((c.tc : Thread Cert.RAdIdeal.nD Cert.RAdIdeal.τ).loc Cert.RAdIdeal.main_arg0)
          ∧ r.2.mem ((c.tc : Thread Cert.RAdIdeal.nD Cert.RAdIdeal.τ).loc Cert.RAdIdeal.main_arg1) = m' ((c.tc : Thread Cert.RAdIdeal.nD Cert.RAdIdeal.τ).loc Cert.RAdIdeal.main_arg1)
          ∧ r.2.mem ((c.tc : Thread Cert.RAdIdeal.nD Cert.RAdIdeal.τ).loc Cert.RAdIdeal.main_arg2) = m' ((c.tc : Thread Cert.RAdIdeal.nD Cert.RAdIdeal.τ).loc Cert.RAdIdeal.main_arg2)
          ∧ r.2.mem ((c.tc : Thread Cert.RAdIdeal.nD Cert.RAdIdeal.τ).loc Cert.RAdIdeal.main_arg3) = m' ((c.tc : Thread Cert.RAdIdeal.nD Cert.RAdIdeal.τ).loc Cert.RAdIdeal.main_arg3))

def preserves_KAu_KAuIdeal : Prop :=
  True

def algebraic_KAuIdeal_RAuIdeal [hKAuIdeal : Cert.KAuIdeal.Facts] [hRAuIdeal : Cert.RAuIdeal.Facts] : Prop :=
  ∀ (m : (ℓ : Loc Cert.KAuIdeal.nD Cert.KAuIdeal.τ Cert.KAuIdeal.sig) → Buf (Elt Ideal) ℓ) (g : Dev Cert.KAuIdeal.nD → PrngReg)
    (m' : (ℓ : Loc Cert.RAuIdeal.nD Cert.RAuIdeal.τ Cert.RAuIdeal.sig) → Buf (Elt Ideal) ℓ) (g' : Dev Cert.RAuIdeal.nD → PrngReg), Pre_KAuIdeal m →
    (∀ c : Dev Cert.KAuIdeal.nD,
      m' ((c.tc : Thread Cert.RAuIdeal.nD Cert.RAuIdeal.τ).loc Cert.RAuIdeal.main_arg0) = m ((c.tc : Thread Cert.KAuIdeal.nD Cert.KAuIdeal.τ).loc Cert.KAuIdeal.main_arg0)
      ∧ m' ((c.tc : Thread Cert.RAuIdeal.nD Cert.RAuIdeal.τ).loc Cert.RAuIdeal.main_arg1) = m ((c.tc : Thread Cert.KAuIdeal.nD Cert.KAuIdeal.τ).loc Cert.KAuIdeal.main_arg1)
      ∧ m' ((c.tc : Thread Cert.RAuIdeal.nD Cert.RAuIdeal.τ).loc Cert.RAuIdeal.main_arg2) = m ((c.tc : Thread Cert.KAuIdeal.nD Cert.KAuIdeal.τ).loc Cert.KAuIdeal.main_arg2)
      ∧ m' ((c.tc : Thread Cert.RAuIdeal.nD Cert.RAuIdeal.τ).loc Cert.RAuIdeal.main_arg3) = m ((c.tc : Thread Cert.KAuIdeal.nD Cert.KAuIdeal.τ).loc Cert.KAuIdeal.main_arg3)) →
    ∃ (v0 : (c : Dev Cert.KAuIdeal.nD) → Buf (Elt Ideal) ((c.tc : Thread Cert.KAuIdeal.nD Cert.KAuIdeal.τ).loc Cert.KAuIdeal.main_v8_0)) (v1 : (c : Dev Cert.KAuIdeal.nD) → Buf (Elt Ideal) ((c.tc : Thread Cert.KAuIdeal.nD Cert.KAuIdeal.τ).loc Cert.KAuIdeal.main_v8_1)) (v2 : (c : Dev Cert.KAuIdeal.nD) → Buf (Elt Ideal) ((c.tc : Thread Cert.KAuIdeal.nD Cert.KAuIdeal.τ).loc Cert.KAuIdeal.main_v8_2)),
      θ_run (Cert.KAuIdeal.defs (F := Ideal)) (onTc (τ := Cert.KAuIdeal.τ) (Cert.KAuIdeal.main (F := Ideal))) ⟨m, fun _ => 0, g⟩ (fun r => ∀ c : Dev Cert.KAuIdeal.nD,
          r.2.mem ((c.tc : Thread Cert.KAuIdeal.nD Cert.KAuIdeal.τ).loc Cert.KAuIdeal.main_v8_0) = v0 c
          ∧ r.2.mem ((c.tc : Thread Cert.KAuIdeal.nD Cert.KAuIdeal.τ).loc Cert.KAuIdeal.main_v8_1) = v1 c
          ∧ r.2.mem ((c.tc : Thread Cert.KAuIdeal.nD Cert.KAuIdeal.τ).loc Cert.KAuIdeal.main_v8_2) = v2 c
          ∧ r.2.mem ((c.tc : Thread Cert.KAuIdeal.nD Cert.KAuIdeal.τ).loc Cert.KAuIdeal.main_arg0) = m ((c.tc : Thread Cert.KAuIdeal.nD Cert.KAuIdeal.τ).loc Cert.KAuIdeal.main_arg0)
          ∧ r.2.mem ((c.tc : Thread Cert.KAuIdeal.nD Cert.KAuIdeal.τ).loc Cert.KAuIdeal.main_arg1) = m ((c.tc : Thread Cert.KAuIdeal.nD Cert.KAuIdeal.τ).loc Cert.KAuIdeal.main_arg1)
          ∧ r.2.mem ((c.tc : Thread Cert.KAuIdeal.nD Cert.KAuIdeal.τ).loc Cert.KAuIdeal.main_arg2) = m ((c.tc : Thread Cert.KAuIdeal.nD Cert.KAuIdeal.τ).loc Cert.KAuIdeal.main_arg2)
          ∧ r.2.mem ((c.tc : Thread Cert.KAuIdeal.nD Cert.KAuIdeal.τ).loc Cert.KAuIdeal.main_arg3) = m ((c.tc : Thread Cert.KAuIdeal.nD Cert.KAuIdeal.τ).loc Cert.KAuIdeal.main_arg3))
      ∧ θ_run (Cert.RAuIdeal.defs (F := Ideal)) (onTc (τ := Cert.RAuIdeal.τ) (Cert.RAuIdeal.main (F := Ideal))) ⟨m', fun _ => 0, g'⟩ (fun r => ∀ c : Dev Cert.RAuIdeal.nD,
          r.2.mem ((c.tc : Thread Cert.RAuIdeal.nD Cert.RAuIdeal.τ).loc Cert.RAuIdeal.main_v25) = v0 c
          ∧ r.2.mem ((c.tc : Thread Cert.RAuIdeal.nD Cert.RAuIdeal.τ).loc Cert.RAuIdeal.main_v27) = v1 c
          ∧ r.2.mem ((c.tc : Thread Cert.RAuIdeal.nD Cert.RAuIdeal.τ).loc Cert.RAuIdeal.main_v29) = v2 c
          ∧ r.2.mem ((c.tc : Thread Cert.RAuIdeal.nD Cert.RAuIdeal.τ).loc Cert.RAuIdeal.main_arg0) = m' ((c.tc : Thread Cert.RAuIdeal.nD Cert.RAuIdeal.τ).loc Cert.RAuIdeal.main_arg0)
          ∧ r.2.mem ((c.tc : Thread Cert.RAuIdeal.nD Cert.RAuIdeal.τ).loc Cert.RAuIdeal.main_arg1) = m' ((c.tc : Thread Cert.RAuIdeal.nD Cert.RAuIdeal.τ).loc Cert.RAuIdeal.main_arg1)
          ∧ r.2.mem ((c.tc : Thread Cert.RAuIdeal.nD Cert.RAuIdeal.τ).loc Cert.RAuIdeal.main_arg2) = m' ((c.tc : Thread Cert.RAuIdeal.nD Cert.RAuIdeal.τ).loc Cert.RAuIdeal.main_arg2)
          ∧ r.2.mem ((c.tc : Thread Cert.RAuIdeal.nD Cert.RAuIdeal.τ).loc Cert.RAuIdeal.main_arg3) = m' ((c.tc : Thread Cert.RAuIdeal.nD Cert.RAuIdeal.τ).loc Cert.RAuIdeal.main_arg3))

def preserves_KAi_KAiIdeal : Prop :=
  True

def algebraic_KAiIdeal_RAiIdeal [hKAiIdeal : Cert.KAiIdeal.Facts] [hRAiIdeal : Cert.RAiIdeal.Facts] : Prop :=
  ∀ (m : (ℓ : Loc Cert.KAiIdeal.nD Cert.KAiIdeal.τ Cert.KAiIdeal.sig) → Buf (Elt Ideal) ℓ) (g : Dev Cert.KAiIdeal.nD → PrngReg)
    (m' : (ℓ : Loc Cert.RAiIdeal.nD Cert.RAiIdeal.τ Cert.RAiIdeal.sig) → Buf (Elt Ideal) ℓ) (g' : Dev Cert.RAiIdeal.nD → PrngReg), Pre_KAiIdeal m →
    (∀ c : Dev Cert.KAiIdeal.nD,
      m' ((c.tc : Thread Cert.RAiIdeal.nD Cert.RAiIdeal.τ).loc Cert.RAiIdeal.main_arg0) = m ((c.tc : Thread Cert.KAiIdeal.nD Cert.KAiIdeal.τ).loc Cert.KAiIdeal.main_arg0)
      ∧ m' ((c.tc : Thread Cert.RAiIdeal.nD Cert.RAiIdeal.τ).loc Cert.RAiIdeal.main_arg1) = m ((c.tc : Thread Cert.KAiIdeal.nD Cert.KAiIdeal.τ).loc Cert.KAiIdeal.main_arg1)
      ∧ m' ((c.tc : Thread Cert.RAiIdeal.nD Cert.RAiIdeal.τ).loc Cert.RAiIdeal.main_arg2) = m ((c.tc : Thread Cert.KAiIdeal.nD Cert.KAiIdeal.τ).loc Cert.KAiIdeal.main_arg2)
      ∧ m' ((c.tc : Thread Cert.RAiIdeal.nD Cert.RAiIdeal.τ).loc Cert.RAiIdeal.main_arg3) = m ((c.tc : Thread Cert.KAiIdeal.nD Cert.KAiIdeal.τ).loc Cert.KAiIdeal.main_arg3)) →
    ∃ (v0 : (c : Dev Cert.KAiIdeal.nD) → Buf (Elt Ideal) ((c.tc : Thread Cert.KAiIdeal.nD Cert.KAiIdeal.τ).loc Cert.KAiIdeal.main_v8_0)) (v1 : (c : Dev Cert.KAiIdeal.nD) → Buf (Elt Ideal) ((c.tc : Thread Cert.KAiIdeal.nD Cert.KAiIdeal.τ).loc Cert.KAiIdeal.main_v8_1)) (v2 : (c : Dev Cert.KAiIdeal.nD) → Buf (Elt Ideal) ((c.tc : Thread Cert.KAiIdeal.nD Cert.KAiIdeal.τ).loc Cert.KAiIdeal.main_v8_2)),
      θ_run (Cert.KAiIdeal.defs (F := Ideal)) (onTc (τ := Cert.KAiIdeal.τ) (Cert.KAiIdeal.main (F := Ideal))) ⟨m, fun _ => 0, g⟩ (fun r => ∀ c : Dev Cert.KAiIdeal.nD,
          r.2.mem ((c.tc : Thread Cert.KAiIdeal.nD Cert.KAiIdeal.τ).loc Cert.KAiIdeal.main_v8_0) = v0 c
          ∧ r.2.mem ((c.tc : Thread Cert.KAiIdeal.nD Cert.KAiIdeal.τ).loc Cert.KAiIdeal.main_v8_1) = v1 c
          ∧ r.2.mem ((c.tc : Thread Cert.KAiIdeal.nD Cert.KAiIdeal.τ).loc Cert.KAiIdeal.main_v8_2) = v2 c
          ∧ r.2.mem ((c.tc : Thread Cert.KAiIdeal.nD Cert.KAiIdeal.τ).loc Cert.KAiIdeal.main_arg0) = m ((c.tc : Thread Cert.KAiIdeal.nD Cert.KAiIdeal.τ).loc Cert.KAiIdeal.main_arg0)
          ∧ r.2.mem ((c.tc : Thread Cert.KAiIdeal.nD Cert.KAiIdeal.τ).loc Cert.KAiIdeal.main_arg1) = m ((c.tc : Thread Cert.KAiIdeal.nD Cert.KAiIdeal.τ).loc Cert.KAiIdeal.main_arg1)
          ∧ r.2.mem ((c.tc : Thread Cert.KAiIdeal.nD Cert.KAiIdeal.τ).loc Cert.KAiIdeal.main_arg2) = m ((c.tc : Thread Cert.KAiIdeal.nD Cert.KAiIdeal.τ).loc Cert.KAiIdeal.main_arg2)
          ∧ r.2.mem ((c.tc : Thread Cert.KAiIdeal.nD Cert.KAiIdeal.τ).loc Cert.KAiIdeal.main_arg3) = m ((c.tc : Thread Cert.KAiIdeal.nD Cert.KAiIdeal.τ).loc Cert.KAiIdeal.main_arg3))
      ∧ θ_run (Cert.RAiIdeal.defs (F := Ideal)) (onTc (τ := Cert.RAiIdeal.τ) (Cert.RAiIdeal.main (F := Ideal))) ⟨m', fun _ => 0, g'⟩ (fun r => ∀ c : Dev Cert.RAiIdeal.nD,
          r.2.mem ((c.tc : Thread Cert.RAiIdeal.nD Cert.RAiIdeal.τ).loc Cert.RAiIdeal.main_v25) = v0 c
          ∧ r.2.mem ((c.tc : Thread Cert.RAiIdeal.nD Cert.RAiIdeal.τ).loc Cert.RAiIdeal.main_v27) = v1 c
          ∧ r.2.mem ((c.tc : Thread Cert.RAiIdeal.nD Cert.RAiIdeal.τ).loc Cert.RAiIdeal.main_v29) = v2 c
          ∧ r.2.mem ((c.tc : Thread Cert.RAiIdeal.nD Cert.RAiIdeal.τ).loc Cert.RAiIdeal.main_arg0) = m' ((c.tc : Thread Cert.RAiIdeal.nD Cert.RAiIdeal.τ).loc Cert.RAiIdeal.main_arg0)
          ∧ r.2.mem ((c.tc : Thread Cert.RAiIdeal.nD Cert.RAiIdeal.τ).loc Cert.RAiIdeal.main_arg1) = m' ((c.tc : Thread Cert.RAiIdeal.nD Cert.RAiIdeal.τ).loc Cert.RAiIdeal.main_arg1)
          ∧ r.2.mem ((c.tc : Thread Cert.RAiIdeal.nD Cert.RAiIdeal.τ).loc Cert.RAiIdeal.main_arg2) = m' ((c.tc : Thread Cert.RAiIdeal.nD Cert.RAiIdeal.τ).loc Cert.RAiIdeal.main_arg2)
          ∧ r.2.mem ((c.tc : Thread Cert.RAiIdeal.nD Cert.RAiIdeal.τ).loc Cert.RAiIdeal.main_arg3) = m' ((c.tc : Thread Cert.RAiIdeal.nD Cert.RAiIdeal.τ).loc Cert.RAiIdeal.main_arg3))

def preserves_KAo_KAoIdeal : Prop :=
  True

def algebraic_KAoIdeal_RAoIdeal [hKAoIdeal : Cert.KAoIdeal.Facts] [hRAoIdeal : Cert.RAoIdeal.Facts] : Prop :=
  ∀ (m : (ℓ : Loc Cert.KAoIdeal.nD Cert.KAoIdeal.τ Cert.KAoIdeal.sig) → Buf (Elt Ideal) ℓ) (g : Dev Cert.KAoIdeal.nD → PrngReg)
    (m' : (ℓ : Loc Cert.RAoIdeal.nD Cert.RAoIdeal.τ Cert.RAoIdeal.sig) → Buf (Elt Ideal) ℓ) (g' : Dev Cert.RAoIdeal.nD → PrngReg), Pre_KAoIdeal m →
    (∀ c : Dev Cert.KAoIdeal.nD,
      m' ((c.tc : Thread Cert.RAoIdeal.nD Cert.RAoIdeal.τ).loc Cert.RAoIdeal.main_arg0) = m ((c.tc : Thread Cert.KAoIdeal.nD Cert.KAoIdeal.τ).loc Cert.KAoIdeal.main_arg0)
      ∧ m' ((c.tc : Thread Cert.RAoIdeal.nD Cert.RAoIdeal.τ).loc Cert.RAoIdeal.main_arg1) = m ((c.tc : Thread Cert.KAoIdeal.nD Cert.KAoIdeal.τ).loc Cert.KAoIdeal.main_arg1)
      ∧ m' ((c.tc : Thread Cert.RAoIdeal.nD Cert.RAoIdeal.τ).loc Cert.RAoIdeal.main_arg2) = m ((c.tc : Thread Cert.KAoIdeal.nD Cert.KAoIdeal.τ).loc Cert.KAoIdeal.main_arg2)
      ∧ m' ((c.tc : Thread Cert.RAoIdeal.nD Cert.RAoIdeal.τ).loc Cert.RAoIdeal.main_arg3) = m ((c.tc : Thread Cert.KAoIdeal.nD Cert.KAoIdeal.τ).loc Cert.KAoIdeal.main_arg3)) →
    ∃ (v0 : (c : Dev Cert.KAoIdeal.nD) → Buf (Elt Ideal) ((c.tc : Thread Cert.KAoIdeal.nD Cert.KAoIdeal.τ).loc Cert.KAoIdeal.main_v4_0)) (v1 : (c : Dev Cert.KAoIdeal.nD) → Buf (Elt Ideal) ((c.tc : Thread Cert.KAoIdeal.nD Cert.KAoIdeal.τ).loc Cert.KAoIdeal.main_v4_1)) (v2 : (c : Dev Cert.KAoIdeal.nD) → Buf (Elt Ideal) ((c.tc : Thread Cert.KAoIdeal.nD Cert.KAoIdeal.τ).loc Cert.KAoIdeal.main_v4_2)),
      θ_run (Cert.KAoIdeal.defs (F := Ideal)) (onTc (τ := Cert.KAoIdeal.τ) (Cert.KAoIdeal.main (F := Ideal))) ⟨m, fun _ => 0, g⟩ (fun r => ∀ c : Dev Cert.KAoIdeal.nD,
          r.2.mem ((c.tc : Thread Cert.KAoIdeal.nD Cert.KAoIdeal.τ).loc Cert.KAoIdeal.main_v4_0) = v0 c
          ∧ r.2.mem ((c.tc : Thread Cert.KAoIdeal.nD Cert.KAoIdeal.τ).loc Cert.KAoIdeal.main_v4_1) = v1 c
          ∧ r.2.mem ((c.tc : Thread Cert.KAoIdeal.nD Cert.KAoIdeal.τ).loc Cert.KAoIdeal.main_v4_2) = v2 c
          ∧ r.2.mem ((c.tc : Thread Cert.KAoIdeal.nD Cert.KAoIdeal.τ).loc Cert.KAoIdeal.main_arg0) = m ((c.tc : Thread Cert.KAoIdeal.nD Cert.KAoIdeal.τ).loc Cert.KAoIdeal.main_arg0)
          ∧ r.2.mem ((c.tc : Thread Cert.KAoIdeal.nD Cert.KAoIdeal.τ).loc Cert.KAoIdeal.main_arg1) = m ((c.tc : Thread Cert.KAoIdeal.nD Cert.KAoIdeal.τ).loc Cert.KAoIdeal.main_arg1)
          ∧ r.2.mem ((c.tc : Thread Cert.KAoIdeal.nD Cert.KAoIdeal.τ).loc Cert.KAoIdeal.main_arg2) = m ((c.tc : Thread Cert.KAoIdeal.nD Cert.KAoIdeal.τ).loc Cert.KAoIdeal.main_arg2)
          ∧ r.2.mem ((c.tc : Thread Cert.KAoIdeal.nD Cert.KAoIdeal.τ).loc Cert.KAoIdeal.main_arg3) = m ((c.tc : Thread Cert.KAoIdeal.nD Cert.KAoIdeal.τ).loc Cert.KAoIdeal.main_arg3))
      ∧ θ_run (Cert.RAoIdeal.defs (F := Ideal)) (onTc (τ := Cert.RAoIdeal.τ) (Cert.RAoIdeal.main (F := Ideal))) ⟨m', fun _ => 0, g'⟩ (fun r => ∀ c : Dev Cert.RAoIdeal.nD,
          r.2.mem ((c.tc : Thread Cert.RAoIdeal.nD Cert.RAoIdeal.τ).loc Cert.RAoIdeal.main_v24) = v0 c
          ∧ r.2.mem ((c.tc : Thread Cert.RAoIdeal.nD Cert.RAoIdeal.τ).loc Cert.RAoIdeal.main_v25) = v1 c
          ∧ r.2.mem ((c.tc : Thread Cert.RAoIdeal.nD Cert.RAoIdeal.τ).loc Cert.RAoIdeal.main_v26) = v2 c
          ∧ r.2.mem ((c.tc : Thread Cert.RAoIdeal.nD Cert.RAoIdeal.τ).loc Cert.RAoIdeal.main_arg0) = m' ((c.tc : Thread Cert.RAoIdeal.nD Cert.RAoIdeal.τ).loc Cert.RAoIdeal.main_arg0)
          ∧ r.2.mem ((c.tc : Thread Cert.RAoIdeal.nD Cert.RAoIdeal.τ).loc Cert.RAoIdeal.main_arg1) = m' ((c.tc : Thread Cert.RAoIdeal.nD Cert.RAoIdeal.τ).loc Cert.RAoIdeal.main_arg1)
          ∧ r.2.mem ((c.tc : Thread Cert.RAoIdeal.nD Cert.RAoIdeal.τ).loc Cert.RAoIdeal.main_arg2) = m' ((c.tc : Thread Cert.RAoIdeal.nD Cert.RAoIdeal.τ).loc Cert.RAoIdeal.main_arg2)
          ∧ r.2.mem ((c.tc : Thread Cert.RAoIdeal.nD Cert.RAoIdeal.τ).loc Cert.RAoIdeal.main_arg3) = m' ((c.tc : Thread Cert.RAoIdeal.nD Cert.RAoIdeal.τ).loc Cert.RAoIdeal.main_arg3))

def preserves_KMo_KMoIdeal : Prop :=
  True

def algebraic_KMoIdeal_RMoIdeal [hKMoIdeal : Cert.KMoIdeal.Facts] [hRMoIdeal : Cert.RMoIdeal.Facts] : Prop :=
  ∀ (m : (ℓ : Loc Cert.KMoIdeal.nD Cert.KMoIdeal.τ Cert.KMoIdeal.sig) → Buf (Elt Ideal) ℓ) (g : Dev Cert.KMoIdeal.nD → PrngReg)
    (m' : (ℓ : Loc Cert.RMoIdeal.nD Cert.RMoIdeal.τ Cert.RMoIdeal.sig) → Buf (Elt Ideal) ℓ) (g' : Dev Cert.RMoIdeal.nD → PrngReg), Pre_KMoIdeal m →
    (∀ c : Dev Cert.KMoIdeal.nD,
      m' ((c.tc : Thread Cert.RMoIdeal.nD Cert.RMoIdeal.τ).loc Cert.RMoIdeal.main_arg0) = m ((c.tc : Thread Cert.KMoIdeal.nD Cert.KMoIdeal.τ).loc Cert.KMoIdeal.main_arg0)
      ∧ m' ((c.tc : Thread Cert.RMoIdeal.nD Cert.RMoIdeal.τ).loc Cert.RMoIdeal.main_arg1) = m ((c.tc : Thread Cert.KMoIdeal.nD Cert.KMoIdeal.τ).loc Cert.KMoIdeal.main_arg1)
      ∧ m' ((c.tc : Thread Cert.RMoIdeal.nD Cert.RMoIdeal.τ).loc Cert.RMoIdeal.main_arg2) = m ((c.tc : Thread Cert.KMoIdeal.nD Cert.KMoIdeal.τ).loc Cert.KMoIdeal.main_arg2)) →
    ∃ (v0 : (c : Dev Cert.KMoIdeal.nD) → Buf (Elt Ideal) ((c.tc : Thread Cert.KMoIdeal.nD Cert.KMoIdeal.τ).loc Cert.KMoIdeal.main_v2_0)) (v1 : (c : Dev Cert.KMoIdeal.nD) → Buf (Elt Ideal) ((c.tc : Thread Cert.KMoIdeal.nD Cert.KMoIdeal.τ).loc Cert.KMoIdeal.main_v2_1)) (v2 : (c : Dev Cert.KMoIdeal.nD) → Buf (Elt Ideal) ((c.tc : Thread Cert.KMoIdeal.nD Cert.KMoIdeal.τ).loc Cert.KMoIdeal.main_v2_2)),
      θ_run (Cert.KMoIdeal.defs (F := Ideal)) (onTc (τ := Cert.KMoIdeal.τ) (Cert.KMoIdeal.main (F := Ideal))) ⟨m, fun _ => 0, g⟩ (fun r => ∀ c : Dev Cert.KMoIdeal.nD,
          r.2.mem ((c.tc : Thread Cert.KMoIdeal.nD Cert.KMoIdeal.τ).loc Cert.KMoIdeal.main_v2_0) = v0 c
          ∧ r.2.mem ((c.tc : Thread Cert.KMoIdeal.nD Cert.KMoIdeal.τ).loc Cert.KMoIdeal.main_v2_1) = v1 c
          ∧ r.2.mem ((c.tc : Thread Cert.KMoIdeal.nD Cert.KMoIdeal.τ).loc Cert.KMoIdeal.main_v2_2) = v2 c
          ∧ r.2.mem ((c.tc : Thread Cert.KMoIdeal.nD Cert.KMoIdeal.τ).loc Cert.KMoIdeal.main_arg0) = m ((c.tc : Thread Cert.KMoIdeal.nD Cert.KMoIdeal.τ).loc Cert.KMoIdeal.main_arg0)
          ∧ r.2.mem ((c.tc : Thread Cert.KMoIdeal.nD Cert.KMoIdeal.τ).loc Cert.KMoIdeal.main_arg1) = m ((c.tc : Thread Cert.KMoIdeal.nD Cert.KMoIdeal.τ).loc Cert.KMoIdeal.main_arg1)
          ∧ r.2.mem ((c.tc : Thread Cert.KMoIdeal.nD Cert.KMoIdeal.τ).loc Cert.KMoIdeal.main_arg2) = m ((c.tc : Thread Cert.KMoIdeal.nD Cert.KMoIdeal.τ).loc Cert.KMoIdeal.main_arg2))
      ∧ θ_run (Cert.RMoIdeal.defs (F := Ideal)) (onTc (τ := Cert.RMoIdeal.τ) (Cert.RMoIdeal.main (F := Ideal))) ⟨m', fun _ => 0, g'⟩ (fun r => ∀ c : Dev Cert.RMoIdeal.nD,
          r.2.mem ((c.tc : Thread Cert.RMoIdeal.nD Cert.RMoIdeal.τ).loc Cert.RMoIdeal.main_v7) = v0 c
          ∧ r.2.mem ((c.tc : Thread Cert.RMoIdeal.nD Cert.RMoIdeal.τ).loc Cert.RMoIdeal.main_v8) = v1 c
          ∧ r.2.mem ((c.tc : Thread Cert.RMoIdeal.nD Cert.RMoIdeal.τ).loc Cert.RMoIdeal.main_v9) = v2 c
          ∧ r.2.mem ((c.tc : Thread Cert.RMoIdeal.nD Cert.RMoIdeal.τ).loc Cert.RMoIdeal.main_arg0) = m' ((c.tc : Thread Cert.RMoIdeal.nD Cert.RMoIdeal.τ).loc Cert.RMoIdeal.main_arg0)
          ∧ r.2.mem ((c.tc : Thread Cert.RMoIdeal.nD Cert.RMoIdeal.τ).loc Cert.RMoIdeal.main_arg1) = m' ((c.tc : Thread Cert.RMoIdeal.nD Cert.RMoIdeal.τ).loc Cert.RMoIdeal.main_arg1)
          ∧ r.2.mem ((c.tc : Thread Cert.RMoIdeal.nD Cert.RMoIdeal.τ).loc Cert.RMoIdeal.main_arg2) = m' ((c.tc : Thread Cert.RMoIdeal.nD Cert.RMoIdeal.τ).loc Cert.RMoIdeal.main_arg2))

def preserves_KWa_KWaIdeal : Prop :=
  True

def algebraic_KWaIdeal_RWaIdeal [hKWaIdeal : Cert.KWaIdeal.Facts] [hRWaIdeal : Cert.RWaIdeal.Facts] : Prop :=
  ∀ (m : (ℓ : Loc Cert.KWaIdeal.nD Cert.KWaIdeal.τ Cert.KWaIdeal.sig) → Buf (Elt Ideal) ℓ) (g : Dev Cert.KWaIdeal.nD → PrngReg)
    (m' : (ℓ : Loc Cert.RWaIdeal.nD Cert.RWaIdeal.τ Cert.RWaIdeal.sig) → Buf (Elt Ideal) ℓ) (g' : Dev Cert.RWaIdeal.nD → PrngReg), Pre_KWaIdeal m →
    (∀ c : Dev Cert.KWaIdeal.nD,
      m' ((c.tc : Thread Cert.RWaIdeal.nD Cert.RWaIdeal.τ).loc Cert.RWaIdeal.main_arg0) = m ((c.tc : Thread Cert.KWaIdeal.nD Cert.KWaIdeal.τ).loc Cert.KWaIdeal.main_arg0)
      ∧ m' ((c.tc : Thread Cert.RWaIdeal.nD Cert.RWaIdeal.τ).loc Cert.RWaIdeal.main_arg1) = m ((c.tc : Thread Cert.KWaIdeal.nD Cert.KWaIdeal.τ).loc Cert.KWaIdeal.main_arg1)
      ∧ m' ((c.tc : Thread Cert.RWaIdeal.nD Cert.RWaIdeal.τ).loc Cert.RWaIdeal.main_arg2) = m ((c.tc : Thread Cert.KWaIdeal.nD Cert.KWaIdeal.τ).loc Cert.KWaIdeal.main_arg2)) →
    ∃ (v0 : (c : Dev Cert.KWaIdeal.nD) → Buf (Elt Ideal) ((c.tc : Thread Cert.KWaIdeal.nD Cert.KWaIdeal.τ).loc Cert.KWaIdeal.main_v2)),
      θ_run (Cert.KWaIdeal.defs (F := Ideal)) (onTc (τ := Cert.KWaIdeal.τ) (Cert.KWaIdeal.main (F := Ideal))) ⟨m, fun _ => 0, g⟩ (fun r => ∀ c : Dev Cert.KWaIdeal.nD,
          r.2.mem ((c.tc : Thread Cert.KWaIdeal.nD Cert.KWaIdeal.τ).loc Cert.KWaIdeal.main_v2) = v0 c
          ∧ r.2.mem ((c.tc : Thread Cert.KWaIdeal.nD Cert.KWaIdeal.τ).loc Cert.KWaIdeal.main_arg0) = m ((c.tc : Thread Cert.KWaIdeal.nD Cert.KWaIdeal.τ).loc Cert.KWaIdeal.main_arg0)
          ∧ r.2.mem ((c.tc : Thread Cert.KWaIdeal.nD Cert.KWaIdeal.τ).loc Cert.KWaIdeal.main_arg1) = m ((c.tc : Thread Cert.KWaIdeal.nD Cert.KWaIdeal.τ).loc Cert.KWaIdeal.main_arg1)
          ∧ r.2.mem ((c.tc : Thread Cert.KWaIdeal.nD Cert.KWaIdeal.τ).loc Cert.KWaIdeal.main_arg2) = m ((c.tc : Thread Cert.KWaIdeal.nD Cert.KWaIdeal.τ).loc Cert.KWaIdeal.main_arg2))
      ∧ θ_run (Cert.RWaIdeal.defs (F := Ideal)) (onTc (τ := Cert.RWaIdeal.τ) (Cert.RWaIdeal.main (F := Ideal))) ⟨m', fun _ => 0, g'⟩ (fun r => ∀ c : Dev Cert.RWaIdeal.nD,
          r.2.mem ((c.tc : Thread Cert.RWaIdeal.nD Cert.RWaIdeal.τ).loc Cert.RWaIdeal.main_v7) = v0 c
          ∧ r.2.mem ((c.tc : Thread Cert.RWaIdeal.nD Cert.RWaIdeal.τ).loc Cert.RWaIdeal.main_arg0) = m' ((c.tc : Thread Cert.RWaIdeal.nD Cert.RWaIdeal.τ).loc Cert.RWaIdeal.main_arg0)
          ∧ r.2.mem ((c.tc : Thread Cert.RWaIdeal.nD Cert.RWaIdeal.τ).loc Cert.RWaIdeal.main_arg1) = m' ((c.tc : Thread Cert.RWaIdeal.nD Cert.RWaIdeal.τ).loc Cert.RWaIdeal.main_arg1)
          ∧ r.2.mem ((c.tc : Thread Cert.RWaIdeal.nD Cert.RWaIdeal.τ).loc Cert.RWaIdeal.main_arg2) = m' ((c.tc : Thread Cert.RWaIdeal.nD Cert.RWaIdeal.τ).loc Cert.RWaIdeal.main_arg2))

def preserves_KWc_KWcIdeal : Prop :=
  True

def algebraic_KWcIdeal_RWcIdeal [hKWcIdeal : Cert.KWcIdeal.Facts] [hRWcIdeal : Cert.RWcIdeal.Facts] : Prop :=
  ∀ (m : (ℓ : Loc Cert.KWcIdeal.nD Cert.KWcIdeal.τ Cert.KWcIdeal.sig) → Buf (Elt Ideal) ℓ) (g : Dev Cert.KWcIdeal.nD → PrngReg)
    (m' : (ℓ : Loc Cert.RWcIdeal.nD Cert.RWcIdeal.τ Cert.RWcIdeal.sig) → Buf (Elt Ideal) ℓ) (g' : Dev Cert.RWcIdeal.nD → PrngReg), Pre_KWcIdeal m →
    (∀ c : Dev Cert.KWcIdeal.nD,
      m' ((c.tc : Thread Cert.RWcIdeal.nD Cert.RWcIdeal.τ).loc Cert.RWcIdeal.main_arg0) = m ((c.tc : Thread Cert.KWcIdeal.nD Cert.KWcIdeal.τ).loc Cert.KWcIdeal.main_arg0)
      ∧ m' ((c.tc : Thread Cert.RWcIdeal.nD Cert.RWcIdeal.τ).loc Cert.RWcIdeal.main_arg1) = m ((c.tc : Thread Cert.KWcIdeal.nD Cert.KWcIdeal.τ).loc Cert.KWcIdeal.main_arg1)
      ∧ m' ((c.tc : Thread Cert.RWcIdeal.nD Cert.RWcIdeal.τ).loc Cert.RWcIdeal.main_arg2) = m ((c.tc : Thread Cert.KWcIdeal.nD Cert.KWcIdeal.τ).loc Cert.KWcIdeal.main_arg2)) →
    ∃ (v0 : (c : Dev Cert.KWcIdeal.nD) → Buf (Elt Ideal) ((c.tc : Thread Cert.KWcIdeal.nD Cert.KWcIdeal.τ).loc Cert.KWcIdeal.main_v2)),
      θ_run (Cert.KWcIdeal.defs (F := Ideal)) (onTc (τ := Cert.KWcIdeal.τ) (Cert.KWcIdeal.main (F := Ideal))) ⟨m, fun _ => 0, g⟩ (fun r => ∀ c : Dev Cert.KWcIdeal.nD,
          r.2.mem ((c.tc : Thread Cert.KWcIdeal.nD Cert.KWcIdeal.τ).loc Cert.KWcIdeal.main_v2) = v0 c
          ∧ r.2.mem ((c.tc : Thread Cert.KWcIdeal.nD Cert.KWcIdeal.τ).loc Cert.KWcIdeal.main_arg0) = m ((c.tc : Thread Cert.KWcIdeal.nD Cert.KWcIdeal.τ).loc Cert.KWcIdeal.main_arg0)
          ∧ r.2.mem ((c.tc : Thread Cert.KWcIdeal.nD Cert.KWcIdeal.τ).loc Cert.KWcIdeal.main_arg1) = m ((c.tc : Thread Cert.KWcIdeal.nD Cert.KWcIdeal.τ).loc Cert.KWcIdeal.main_arg1)
          ∧ r.2.mem ((c.tc : Thread Cert.KWcIdeal.nD Cert.KWcIdeal.τ).loc Cert.KWcIdeal.main_arg2) = m ((c.tc : Thread Cert.KWcIdeal.nD Cert.KWcIdeal.τ).loc Cert.KWcIdeal.main_arg2))
      ∧ θ_run (Cert.RWcIdeal.defs (F := Ideal)) (onTc (τ := Cert.RWcIdeal.τ) (Cert.RWcIdeal.main (F := Ideal))) ⟨m', fun _ => 0, g'⟩ (fun r => ∀ c : Dev Cert.RWcIdeal.nD,
          r.2.mem ((c.tc : Thread Cert.RWcIdeal.nD Cert.RWcIdeal.τ).loc Cert.RWcIdeal.main_v7) = v0 c
          ∧ r.2.mem ((c.tc : Thread Cert.RWcIdeal.nD Cert.RWcIdeal.τ).loc Cert.RWcIdeal.main_arg0) = m' ((c.tc : Thread Cert.RWcIdeal.nD Cert.RWcIdeal.τ).loc Cert.RWcIdeal.main_arg0)
          ∧ r.2.mem ((c.tc : Thread Cert.RWcIdeal.nD Cert.RWcIdeal.τ).loc Cert.RWcIdeal.main_arg1) = m' ((c.tc : Thread Cert.RWcIdeal.nD Cert.RWcIdeal.τ).loc Cert.RWcIdeal.main_arg1)
          ∧ r.2.mem ((c.tc : Thread Cert.RWcIdeal.nD Cert.RWcIdeal.τ).loc Cert.RWcIdeal.main_arg2) = m' ((c.tc : Thread Cert.RWcIdeal.nD Cert.RWcIdeal.τ).loc Cert.RWcIdeal.main_arg2))

def preserves_KWi_KWiIdeal : Prop :=
  True

def algebraic_KWiIdeal_RWiIdeal [hKWiIdeal : Cert.KWiIdeal.Facts] [hRWiIdeal : Cert.RWiIdeal.Facts] : Prop :=
  ∀ (m : (ℓ : Loc Cert.KWiIdeal.nD Cert.KWiIdeal.τ Cert.KWiIdeal.sig) → Buf (Elt Ideal) ℓ) (g : Dev Cert.KWiIdeal.nD → PrngReg)
    (m' : (ℓ : Loc Cert.RWiIdeal.nD Cert.RWiIdeal.τ Cert.RWiIdeal.sig) → Buf (Elt Ideal) ℓ) (g' : Dev Cert.RWiIdeal.nD → PrngReg), Pre_KWiIdeal m →
    (∀ c : Dev Cert.KWiIdeal.nD,
      m' ((c.tc : Thread Cert.RWiIdeal.nD Cert.RWiIdeal.τ).loc Cert.RWiIdeal.main_arg0) = m ((c.tc : Thread Cert.KWiIdeal.nD Cert.KWiIdeal.τ).loc Cert.KWiIdeal.main_arg0)
      ∧ m' ((c.tc : Thread Cert.RWiIdeal.nD Cert.RWiIdeal.τ).loc Cert.RWiIdeal.main_arg1) = m ((c.tc : Thread Cert.KWiIdeal.nD Cert.KWiIdeal.τ).loc Cert.KWiIdeal.main_arg1)
      ∧ m' ((c.tc : Thread Cert.RWiIdeal.nD Cert.RWiIdeal.τ).loc Cert.RWiIdeal.main_arg2) = m ((c.tc : Thread Cert.KWiIdeal.nD Cert.KWiIdeal.τ).loc Cert.KWiIdeal.main_arg2)) →
    ∃ (v0 : (c : Dev Cert.KWiIdeal.nD) → Buf (Elt Ideal) ((c.tc : Thread Cert.KWiIdeal.nD Cert.KWiIdeal.τ).loc Cert.KWiIdeal.main_v2)),
      θ_run (Cert.KWiIdeal.defs (F := Ideal)) (onTc (τ := Cert.KWiIdeal.τ) (Cert.KWiIdeal.main (F := Ideal))) ⟨m, fun _ => 0, g⟩ (fun r => ∀ c : Dev Cert.KWiIdeal.nD,
          r.2.mem ((c.tc : Thread Cert.KWiIdeal.nD Cert.KWiIdeal.τ).loc Cert.KWiIdeal.main_v2) = v0 c
          ∧ r.2.mem ((c.tc : Thread Cert.KWiIdeal.nD Cert.KWiIdeal.τ).loc Cert.KWiIdeal.main_arg0) = m ((c.tc : Thread Cert.KWiIdeal.nD Cert.KWiIdeal.τ).loc Cert.KWiIdeal.main_arg0)
          ∧ r.2.mem ((c.tc : Thread Cert.KWiIdeal.nD Cert.KWiIdeal.τ).loc Cert.KWiIdeal.main_arg1) = m ((c.tc : Thread Cert.KWiIdeal.nD Cert.KWiIdeal.τ).loc Cert.KWiIdeal.main_arg1)
          ∧ r.2.mem ((c.tc : Thread Cert.KWiIdeal.nD Cert.KWiIdeal.τ).loc Cert.KWiIdeal.main_arg2) = m ((c.tc : Thread Cert.KWiIdeal.nD Cert.KWiIdeal.τ).loc Cert.KWiIdeal.main_arg2))
      ∧ θ_run (Cert.RWiIdeal.defs (F := Ideal)) (onTc (τ := Cert.RWiIdeal.τ) (Cert.RWiIdeal.main (F := Ideal))) ⟨m', fun _ => 0, g'⟩ (fun r => ∀ c : Dev Cert.RWiIdeal.nD,
          r.2.mem ((c.tc : Thread Cert.RWiIdeal.nD Cert.RWiIdeal.τ).loc Cert.RWiIdeal.main_v5) = v0 c
          ∧ r.2.mem ((c.tc : Thread Cert.RWiIdeal.nD Cert.RWiIdeal.τ).loc Cert.RWiIdeal.main_arg0) = m' ((c.tc : Thread Cert.RWiIdeal.nD Cert.RWiIdeal.τ).loc Cert.RWiIdeal.main_arg0)
          ∧ r.2.mem ((c.tc : Thread Cert.RWiIdeal.nD Cert.RWiIdeal.τ).loc Cert.RWiIdeal.main_arg1) = m' ((c.tc : Thread Cert.RWiIdeal.nD Cert.RWiIdeal.τ).loc Cert.RWiIdeal.main_arg1)
          ∧ r.2.mem ((c.tc : Thread Cert.RWiIdeal.nD Cert.RWiIdeal.τ).loc Cert.RWiIdeal.main_arg2) = m' ((c.tc : Thread Cert.RWiIdeal.nD Cert.RWiIdeal.τ).loc Cert.RWiIdeal.main_arg2))

def preserves_KMx_KMxIdeal : Prop :=
  True

def algebraic_KMxIdeal_RMxIdeal [hKMxIdeal : Cert.KMxIdeal.Facts] [hRMxIdeal : Cert.RMxIdeal.Facts] : Prop :=
  ∀ (m : (ℓ : Loc Cert.KMxIdeal.nD Cert.KMxIdeal.τ Cert.KMxIdeal.sig) → Buf (Elt Ideal) ℓ) (g : Dev Cert.KMxIdeal.nD → PrngReg)
    (m' : (ℓ : Loc Cert.RMxIdeal.nD Cert.RMxIdeal.τ Cert.RMxIdeal.sig) → Buf (Elt Ideal) ℓ) (g' : Dev Cert.RMxIdeal.nD → PrngReg), Pre_KMxIdeal m →
    (∀ c : Dev Cert.KMxIdeal.nD,
      m' ((c.tc : Thread Cert.RMxIdeal.nD Cert.RMxIdeal.τ).loc Cert.RMxIdeal.main_arg0) = m ((c.tc : Thread Cert.KMxIdeal.nD Cert.KMxIdeal.τ).loc Cert.KMxIdeal.main_arg0)
      ∧ m' ((c.tc : Thread Cert.RMxIdeal.nD Cert.RMxIdeal.τ).loc Cert.RMxIdeal.main_arg1) = m ((c.tc : Thread Cert.KMxIdeal.nD Cert.KMxIdeal.τ).loc Cert.KMxIdeal.main_arg1)
      ∧ m' ((c.tc : Thread Cert.RMxIdeal.nD Cert.RMxIdeal.τ).loc Cert.RMxIdeal.main_arg2) = m ((c.tc : Thread Cert.KMxIdeal.nD Cert.KMxIdeal.τ).loc Cert.KMxIdeal.main_arg2)
      ∧ m' ((c.tc : Thread Cert.RMxIdeal.nD Cert.RMxIdeal.τ).loc Cert.RMxIdeal.main_arg3) = m ((c.tc : Thread Cert.KMxIdeal.nD Cert.KMxIdeal.τ).loc Cert.KMxIdeal.main_arg3)) →
    ∃ (v0 : (c : Dev Cert.KMxIdeal.nD) → Buf (Elt Ideal) ((c.tc : Thread Cert.KMxIdeal.nD Cert.KMxIdeal.τ).loc Cert.KMxIdeal.main_v4)),
      θ_run (Cert.KMxIdeal.defs (F := Ideal)) (onTc (τ := Cert.KMxIdeal.τ) (Cert.KMxIdeal.main (F := Ideal))) ⟨m, fun _ => 0, g⟩ (fun r => ∀ c : Dev Cert.KMxIdeal.nD,
          r.2.mem ((c.tc : Thread Cert.KMxIdeal.nD Cert.KMxIdeal.τ).loc Cert.KMxIdeal.main_v4) = v0 c
          ∧ r.2.mem ((c.tc : Thread Cert.KMxIdeal.nD Cert.KMxIdeal.τ).loc Cert.KMxIdeal.main_arg0) = m ((c.tc : Thread Cert.KMxIdeal.nD Cert.KMxIdeal.τ).loc Cert.KMxIdeal.main_arg0)
          ∧ r.2.mem ((c.tc : Thread Cert.KMxIdeal.nD Cert.KMxIdeal.τ).loc Cert.KMxIdeal.main_arg1) = m ((c.tc : Thread Cert.KMxIdeal.nD Cert.KMxIdeal.τ).loc Cert.KMxIdeal.main_arg1)
          ∧ r.2.mem ((c.tc : Thread Cert.KMxIdeal.nD Cert.KMxIdeal.τ).loc Cert.KMxIdeal.main_arg2) = m ((c.tc : Thread Cert.KMxIdeal.nD Cert.KMxIdeal.τ).loc Cert.KMxIdeal.main_arg2)
          ∧ r.2.mem ((c.tc : Thread Cert.KMxIdeal.nD Cert.KMxIdeal.τ).loc Cert.KMxIdeal.main_arg3) = m ((c.tc : Thread Cert.KMxIdeal.nD Cert.KMxIdeal.τ).loc Cert.KMxIdeal.main_arg3))
      ∧ θ_run (Cert.RMxIdeal.defs (F := Ideal)) (onTc (τ := Cert.RMxIdeal.τ) (Cert.RMxIdeal.main (F := Ideal))) ⟨m', fun _ => 0, g'⟩ (fun r => ∀ c : Dev Cert.RMxIdeal.nD,
          r.2.mem ((c.tc : Thread Cert.RMxIdeal.nD Cert.RMxIdeal.τ).loc Cert.RMxIdeal.main_v2) = v0 c
          ∧ r.2.mem ((c.tc : Thread Cert.RMxIdeal.nD Cert.RMxIdeal.τ).loc Cert.RMxIdeal.main_arg0) = m' ((c.tc : Thread Cert.RMxIdeal.nD Cert.RMxIdeal.τ).loc Cert.RMxIdeal.main_arg0)
          ∧ r.2.mem ((c.tc : Thread Cert.RMxIdeal.nD Cert.RMxIdeal.τ).loc Cert.RMxIdeal.main_arg1) = m' ((c.tc : Thread Cert.RMxIdeal.nD Cert.RMxIdeal.τ).loc Cert.RMxIdeal.main_arg1)
          ∧ r.2.mem ((c.tc : Thread Cert.RMxIdeal.nD Cert.RMxIdeal.τ).loc Cert.RMxIdeal.main_arg2) = m' ((c.tc : Thread Cert.RMxIdeal.nD Cert.RMxIdeal.τ).loc Cert.RMxIdeal.main_arg2)
          ∧ r.2.mem ((c.tc : Thread Cert.RMxIdeal.nD Cert.RMxIdeal.τ).loc Cert.RMxIdeal.main_arg3) = m' ((c.tc : Thread Cert.RMxIdeal.nD Cert.RMxIdeal.τ).loc Cert.RMxIdeal.main_arg3))

def preserves_KAs_KAsIdeal : Prop :=
  True

def algebraic_KAsIdeal_RAsIdeal [hKAsIdeal : Cert.KAsIdeal.Facts] [hRAsIdeal : Cert.RAsIdeal.Facts] : Prop :=
  ∀ (m : (ℓ : Loc Cert.KAsIdeal.nD Cert.KAsIdeal.τ Cert.KAsIdeal.sig) → Buf (Elt Ideal) ℓ) (g : Dev Cert.KAsIdeal.nD → PrngReg)
    (m' : (ℓ : Loc Cert.RAsIdeal.nD Cert.RAsIdeal.τ Cert.RAsIdeal.sig) → Buf (Elt Ideal) ℓ) (g' : Dev Cert.RAsIdeal.nD → PrngReg), Pre_KAsIdeal m →
    (∀ c : Dev Cert.KAsIdeal.nD,
      m' ((c.tc : Thread Cert.RAsIdeal.nD Cert.RAsIdeal.τ).loc Cert.RAsIdeal.main_arg0) = m ((c.tc : Thread Cert.KAsIdeal.nD Cert.KAsIdeal.τ).loc Cert.KAsIdeal.main_arg0)
      ∧ m' ((c.tc : Thread Cert.RAsIdeal.nD Cert.RAsIdeal.τ).loc Cert.RAsIdeal.main_arg1) = m ((c.tc : Thread Cert.KAsIdeal.nD Cert.KAsIdeal.τ).loc Cert.KAsIdeal.main_arg1)
      ∧ m' ((c.tc : Thread Cert.RAsIdeal.nD Cert.RAsIdeal.τ).loc Cert.RAsIdeal.main_arg2) = m ((c.tc : Thread Cert.KAsIdeal.nD Cert.KAsIdeal.τ).loc Cert.KAsIdeal.main_arg2)
      ∧ m' ((c.tc : Thread Cert.RAsIdeal.nD Cert.RAsIdeal.τ).loc Cert.RAsIdeal.main_arg3) = m ((c.tc : Thread Cert.KAsIdeal.nD Cert.KAsIdeal.τ).loc Cert.KAsIdeal.main_arg3)
      ∧ m' ((c.tc : Thread Cert.RAsIdeal.nD Cert.RAsIdeal.τ).loc Cert.RAsIdeal.main_arg4) = m ((c.tc : Thread Cert.KAsIdeal.nD Cert.KAsIdeal.τ).loc Cert.KAsIdeal.main_arg4)
      ∧ m' ((c.tc : Thread Cert.RAsIdeal.nD Cert.RAsIdeal.τ).loc Cert.RAsIdeal.main_arg5) = m ((c.tc : Thread Cert.KAsIdeal.nD Cert.KAsIdeal.τ).loc Cert.KAsIdeal.main_arg5)
      ∧ m' ((c.tc : Thread Cert.RAsIdeal.nD Cert.RAsIdeal.τ).loc Cert.RAsIdeal.main_arg6) = m ((c.tc : Thread Cert.KAsIdeal.nD Cert.KAsIdeal.τ).loc Cert.KAsIdeal.main_arg6)
      ∧ m' ((c.tc : Thread Cert.RAsIdeal.nD Cert.RAsIdeal.τ).loc Cert.RAsIdeal.main_arg7) = m ((c.tc : Thread Cert.KAsIdeal.nD Cert.KAsIdeal.τ).loc Cert.KAsIdeal.main_arg7)
      ∧ m' ((c.tc : Thread Cert.RAsIdeal.nD Cert.RAsIdeal.τ).loc Cert.RAsIdeal.main_arg8) = m ((c.tc : Thread Cert.KAsIdeal.nD Cert.KAsIdeal.τ).loc Cert.KAsIdeal.main_arg8)
      ∧ m' ((c.tc : Thread Cert.RAsIdeal.nD Cert.RAsIdeal.τ).loc Cert.RAsIdeal.main_arg9) = m ((c.tc : Thread Cert.KAsIdeal.nD Cert.KAsIdeal.τ).loc Cert.KAsIdeal.main_arg9)
      ∧ m' ((c.tc : Thread Cert.RAsIdeal.nD Cert.RAsIdeal.τ).loc Cert.RAsIdeal.main_arg10) = m ((c.tc : Thread Cert.KAsIdeal.nD Cert.KAsIdeal.τ).loc Cert.KAsIdeal.main_arg10)
      ∧ m' ((c.tc : Thread Cert.RAsIdeal.nD Cert.RAsIdeal.τ).loc Cert.RAsIdeal.main_arg11) = m ((c.tc : Thread Cert.KAsIdeal.nD Cert.KAsIdeal.τ).loc Cert.KAsIdeal.main_arg11)
      ∧ m' ((c.tc : Thread Cert.RAsIdeal.nD Cert.RAsIdeal.τ).loc Cert.RAsIdeal.main_arg12) = m ((c.tc : Thread Cert.KAsIdeal.nD Cert.KAsIdeal.τ).loc Cert.KAsIdeal.main_arg12)
      ∧ m' ((c.tc : Thread Cert.RAsIdeal.nD Cert.RAsIdeal.τ).loc Cert.RAsIdeal.main_arg13) = m ((c.tc : Thread Cert.KAsIdeal.nD Cert.KAsIdeal.τ).loc Cert.KAsIdeal.main_arg13)
      ∧ m' ((c.tc : Thread Cert.RAsIdeal.nD Cert.RAsIdeal.τ).loc Cert.RAsIdeal.main_arg14) = m ((c.tc : Thread Cert.KAsIdeal.nD Cert.KAsIdeal.τ).loc Cert.KAsIdeal.main_arg14)
      ∧ m' ((c.tc : Thread Cert.RAsIdeal.nD Cert.RAsIdeal.τ).loc Cert.RAsIdeal.main_arg15) = m ((c.tc : Thread Cert.KAsIdeal.nD Cert.KAsIdeal.τ).loc Cert.KAsIdeal.main_arg15)
      ∧ m' ((c.tc : Thread Cert.RAsIdeal.nD Cert.RAsIdeal.τ).loc Cert.RAsIdeal.main_arg16) = m ((c.tc : Thread Cert.KAsIdeal.nD Cert.KAsIdeal.τ).loc Cert.KAsIdeal.main_arg16)
      ∧ m' ((c.tc : Thread Cert.RAsIdeal.nD Cert.RAsIdeal.τ).loc Cert.RAsIdeal.main_arg17) = m ((c.tc : Thread Cert.KAsIdeal.nD Cert.KAsIdeal.τ).loc Cert.KAsIdeal.main_arg17)
      ∧ m' ((c.tc : Thread Cert.RAsIdeal.nD Cert.RAsIdeal.τ).loc Cert.RAsIdeal.main_arg18) = m ((c.tc : Thread Cert.KAsIdeal.nD Cert.KAsIdeal.τ).loc Cert.KAsIdeal.main_arg18)
      ∧ m' ((c.tc : Thread Cert.RAsIdeal.nD Cert.RAsIdeal.τ).loc Cert.RAsIdeal.main_arg19) = m ((c.tc : Thread Cert.KAsIdeal.nD Cert.KAsIdeal.τ).loc Cert.KAsIdeal.main_arg19)
      ∧ m' ((c.tc : Thread Cert.RAsIdeal.nD Cert.RAsIdeal.τ).loc Cert.RAsIdeal.main_arg20) = m ((c.tc : Thread Cert.KAsIdeal.nD Cert.KAsIdeal.τ).loc Cert.KAsIdeal.main_arg20)
      ∧ m' ((c.tc : Thread Cert.RAsIdeal.nD Cert.RAsIdeal.τ).loc Cert.RAsIdeal.main_arg21) = m ((c.tc : Thread Cert.KAsIdeal.nD Cert.KAsIdeal.τ).loc Cert.KAsIdeal.main_arg21)
      ∧ m' ((c.tc : Thread Cert.RAsIdeal.nD Cert.RAsIdeal.τ).loc Cert.RAsIdeal.main_arg22) = m ((c.tc : Thread Cert.KAsIdeal.nD Cert.KAsIdeal.τ).loc Cert.KAsIdeal.main_arg22)
      ∧ m' ((c.tc : Thread Cert.RAsIdeal.nD Cert.RAsIdeal.τ).loc Cert.RAsIdeal.main_arg23) = m ((c.tc : Thread Cert.KAsIdeal.nD Cert.KAsIdeal.τ).loc Cert.KAsIdeal.main_arg23)
      ∧ m' ((c.tc : Thread Cert.RAsIdeal.nD Cert.RAsIdeal.τ).loc Cert.RAsIdeal.main_arg24) = m ((c.tc : Thread Cert.KAsIdeal.nD Cert.KAsIdeal.τ).loc Cert.KAsIdeal.main_arg24)
      ∧ m' ((c.tc : Thread Cert.RAsIdeal.nD Cert.RAsIdeal.τ).loc Cert.RAsIdeal.main_arg25) = m ((c.tc : Thread Cert.KAsIdeal.nD Cert.KAsIdeal.τ).loc Cert.KAsIdeal.main_arg25)
      ∧ m' ((c.tc : Thread Cert.RAsIdeal.nD Cert.RAsIdeal.τ).loc Cert.RAsIdeal.main_arg26) = m ((c.tc : Thread Cert.KAsIdeal.nD Cert.KAsIdeal.τ).loc Cert.KAsIdeal.main_arg26)
      ∧ m' ((c.tc : Thread Cert.RAsIdeal.nD Cert.RAsIdeal.τ).loc Cert.RAsIdeal.main_arg27) = m ((c.tc : Thread Cert.KAsIdeal.nD Cert.KAsIdeal.τ).loc Cert.KAsIdeal.main_arg27)
      ∧ m' ((c.tc : Thread Cert.RAsIdeal.nD Cert.RAsIdeal.τ).loc Cert.RAsIdeal.main_arg28) = m ((c.tc : Thread Cert.KAsIdeal.nD Cert.KAsIdeal.τ).loc Cert.KAsIdeal.main_arg28)
      ∧ m' ((c.tc : Thread Cert.RAsIdeal.nD Cert.RAsIdeal.τ).loc Cert.RAsIdeal.main_arg29) = m ((c.tc : Thread Cert.KAsIdeal.nD Cert.KAsIdeal.τ).loc Cert.KAsIdeal.main_arg29)
      ∧ m' ((c.tc : Thread Cert.RAsIdeal.nD Cert.RAsIdeal.τ).loc Cert.RAsIdeal.main_arg30) = m ((c.tc : Thread Cert.KAsIdeal.nD Cert.KAsIdeal.τ).loc Cert.KAsIdeal.main_arg30)
      ∧ m' ((c.tc : Thread Cert.RAsIdeal.nD Cert.RAsIdeal.τ).loc Cert.RAsIdeal.main_arg31) = m ((c.tc : Thread Cert.KAsIdeal.nD Cert.KAsIdeal.τ).loc Cert.KAsIdeal.main_arg31)
      ∧ m' ((c.tc : Thread Cert.RAsIdeal.nD Cert.RAsIdeal.τ).loc Cert.RAsIdeal.main_arg32) = m ((c.tc : Thread Cert.KAsIdeal.nD Cert.KAsIdeal.τ).loc Cert.KAsIdeal.main_arg32)
      ∧ m' ((c.tc : Thread Cert.RAsIdeal.nD Cert.RAsIdeal.τ).loc Cert.RAsIdeal.main_arg33) = m ((c.tc : Thread Cert.KAsIdeal.nD Cert.KAsIdeal.τ).loc Cert.KAsIdeal.main_arg33)
      ∧ m' ((c.tc : Thread Cert.RAsIdeal.nD Cert.RAsIdeal.τ).loc Cert.RAsIdeal.main_arg34) = m ((c.tc : Thread Cert.KAsIdeal.nD Cert.KAsIdeal.τ).loc Cert.KAsIdeal.main_arg34)
      ∧ m' ((c.tc : Thread Cert.RAsIdeal.nD Cert.RAsIdeal.τ).loc Cert.RAsIdeal.main_arg35) = m ((c.tc : Thread Cert.KAsIdeal.nD Cert.KAsIdeal.τ).loc Cert.KAsIdeal.main_arg35)) →
    ∃ (v0 : (c : Dev Cert.KAsIdeal.nD) → Buf (Elt Ideal) ((c.tc : Thread Cert.KAsIdeal.nD Cert.KAsIdeal.τ).loc Cert.KAsIdeal.main_v76_0)) (v1 : (c : Dev Cert.KAsIdeal.nD) → Buf (Elt Ideal) ((c.tc : Thread Cert.KAsIdeal.nD Cert.KAsIdeal.τ).loc Cert.KAsIdeal.main_v76_1)) (v2 : (c : Dev Cert.KAsIdeal.nD) → Buf (Elt Ideal) ((c.tc : Thread Cert.KAsIdeal.nD Cert.KAsIdeal.τ).loc Cert.KAsIdeal.main_v76_2)),
      θ_run (Cert.KAsIdeal.defs (F := Ideal)) (onTc (τ := Cert.KAsIdeal.τ) (Cert.KAsIdeal.main (F := Ideal))) ⟨m, fun _ => 0, g⟩ (fun r => ∀ c : Dev Cert.KAsIdeal.nD,
          r.2.mem ((c.tc : Thread Cert.KAsIdeal.nD Cert.KAsIdeal.τ).loc Cert.KAsIdeal.main_v76_0) = v0 c
          ∧ r.2.mem ((c.tc : Thread Cert.KAsIdeal.nD Cert.KAsIdeal.τ).loc Cert.KAsIdeal.main_v76_1) = v1 c
          ∧ r.2.mem ((c.tc : Thread Cert.KAsIdeal.nD Cert.KAsIdeal.τ).loc Cert.KAsIdeal.main_v76_2) = v2 c
          ∧ r.2.mem ((c.tc : Thread Cert.KAsIdeal.nD Cert.KAsIdeal.τ).loc Cert.KAsIdeal.main_arg0) = m ((c.tc : Thread Cert.KAsIdeal.nD Cert.KAsIdeal.τ).loc Cert.KAsIdeal.main_arg0)
          ∧ r.2.mem ((c.tc : Thread Cert.KAsIdeal.nD Cert.KAsIdeal.τ).loc Cert.KAsIdeal.main_arg1) = m ((c.tc : Thread Cert.KAsIdeal.nD Cert.KAsIdeal.τ).loc Cert.KAsIdeal.main_arg1)
          ∧ r.2.mem ((c.tc : Thread Cert.KAsIdeal.nD Cert.KAsIdeal.τ).loc Cert.KAsIdeal.main_arg2) = m ((c.tc : Thread Cert.KAsIdeal.nD Cert.KAsIdeal.τ).loc Cert.KAsIdeal.main_arg2)
          ∧ r.2.mem ((c.tc : Thread Cert.KAsIdeal.nD Cert.KAsIdeal.τ).loc Cert.KAsIdeal.main_arg3) = m ((c.tc : Thread Cert.KAsIdeal.nD Cert.KAsIdeal.τ).loc Cert.KAsIdeal.main_arg3)
          ∧ r.2.mem ((c.tc : Thread Cert.KAsIdeal.nD Cert.KAsIdeal.τ).loc Cert.KAsIdeal.main_arg4) = m ((c.tc : Thread Cert.KAsIdeal.nD Cert.KAsIdeal.τ).loc Cert.KAsIdeal.main_arg4)
          ∧ r.2.mem ((c.tc : Thread Cert.KAsIdeal.nD Cert.KAsIdeal.τ).loc Cert.KAsIdeal.main_arg5) = m ((c.tc : Thread Cert.KAsIdeal.nD Cert.KAsIdeal.τ).loc Cert.KAsIdeal.main_arg5)
          ∧ r.2.mem ((c.tc : Thread Cert.KAsIdeal.nD Cert.KAsIdeal.τ).loc Cert.KAsIdeal.main_arg6) = m ((c.tc : Thread Cert.KAsIdeal.nD Cert.KAsIdeal.τ).loc Cert.KAsIdeal.main_arg6)
          ∧ r.2.mem ((c.tc : Thread Cert.KAsIdeal.nD Cert.KAsIdeal.τ).loc Cert.KAsIdeal.main_arg7) = m ((c.tc : Thread Cert.KAsIdeal.nD Cert.KAsIdeal.τ).loc Cert.KAsIdeal.main_arg7)
          ∧ r.2.mem ((c.tc : Thread Cert.KAsIdeal.nD Cert.KAsIdeal.τ).loc Cert.KAsIdeal.main_arg8) = m ((c.tc : Thread Cert.KAsIdeal.nD Cert.KAsIdeal.τ).loc Cert.KAsIdeal.main_arg8)
          ∧ r.2.mem ((c.tc : Thread Cert.KAsIdeal.nD Cert.KAsIdeal.τ).loc Cert.KAsIdeal.main_arg9) = m ((c.tc : Thread Cert.KAsIdeal.nD Cert.KAsIdeal.τ).loc Cert.KAsIdeal.main_arg9)
          ∧ r.2.mem ((c.tc : Thread Cert.KAsIdeal.nD Cert.KAsIdeal.τ).loc Cert.KAsIdeal.main_arg10) = m ((c.tc : Thread Cert.KAsIdeal.nD Cert.KAsIdeal.τ).loc Cert.KAsIdeal.main_arg10)
          ∧ r.2.mem ((c.tc : Thread Cert.KAsIdeal.nD Cert.KAsIdeal.τ).loc Cert.KAsIdeal.main_arg11) = m ((c.tc : Thread Cert.KAsIdeal.nD Cert.KAsIdeal.τ).loc Cert.KAsIdeal.main_arg11)
          ∧ r.2.mem ((c.tc : Thread Cert.KAsIdeal.nD Cert.KAsIdeal.τ).loc Cert.KAsIdeal.main_arg12) = m ((c.tc : Thread Cert.KAsIdeal.nD Cert.KAsIdeal.τ).loc Cert.KAsIdeal.main_arg12)
          ∧ r.2.mem ((c.tc : Thread Cert.KAsIdeal.nD Cert.KAsIdeal.τ).loc Cert.KAsIdeal.main_arg13) = m ((c.tc : Thread Cert.KAsIdeal.nD Cert.KAsIdeal.τ).loc Cert.KAsIdeal.main_arg13)
          ∧ r.2.mem ((c.tc : Thread Cert.KAsIdeal.nD Cert.KAsIdeal.τ).loc Cert.KAsIdeal.main_arg14) = m ((c.tc : Thread Cert.KAsIdeal.nD Cert.KAsIdeal.τ).loc Cert.KAsIdeal.main_arg14)
          ∧ r.2.mem ((c.tc : Thread Cert.KAsIdeal.nD Cert.KAsIdeal.τ).loc Cert.KAsIdeal.main_arg15) = m ((c.tc : Thread Cert.KAsIdeal.nD Cert.KAsIdeal.τ).loc Cert.KAsIdeal.main_arg15)
          ∧ r.2.mem ((c.tc : Thread Cert.KAsIdeal.nD Cert.KAsIdeal.τ).loc Cert.KAsIdeal.main_arg16) = m ((c.tc : Thread Cert.KAsIdeal.nD Cert.KAsIdeal.τ).loc Cert.KAsIdeal.main_arg16)
          ∧ r.2.mem ((c.tc : Thread Cert.KAsIdeal.nD Cert.KAsIdeal.τ).loc Cert.KAsIdeal.main_arg17) = m ((c.tc : Thread Cert.KAsIdeal.nD Cert.KAsIdeal.τ).loc Cert.KAsIdeal.main_arg17)
          ∧ r.2.mem ((c.tc : Thread Cert.KAsIdeal.nD Cert.KAsIdeal.τ).loc Cert.KAsIdeal.main_arg18) = m ((c.tc : Thread Cert.KAsIdeal.nD Cert.KAsIdeal.τ).loc Cert.KAsIdeal.main_arg18)
          ∧ r.2.mem ((c.tc : Thread Cert.KAsIdeal.nD Cert.KAsIdeal.τ).loc Cert.KAsIdeal.main_arg19) = m ((c.tc : Thread Cert.KAsIdeal.nD Cert.KAsIdeal.τ).loc Cert.KAsIdeal.main_arg19)
          ∧ r.2.mem ((c.tc : Thread Cert.KAsIdeal.nD Cert.KAsIdeal.τ).loc Cert.KAsIdeal.main_arg20) = m ((c.tc : Thread Cert.KAsIdeal.nD Cert.KAsIdeal.τ).loc Cert.KAsIdeal.main_arg20)
          ∧ r.2.mem ((c.tc : Thread Cert.KAsIdeal.nD Cert.KAsIdeal.τ).loc Cert.KAsIdeal.main_arg21) = m ((c.tc : Thread Cert.KAsIdeal.nD Cert.KAsIdeal.τ).loc Cert.KAsIdeal.main_arg21)
          ∧ r.2.mem ((c.tc : Thread Cert.KAsIdeal.nD Cert.KAsIdeal.τ).loc Cert.KAsIdeal.main_arg22) = m ((c.tc : Thread Cert.KAsIdeal.nD Cert.KAsIdeal.τ).loc Cert.KAsIdeal.main_arg22)
          ∧ r.2.mem ((c.tc : Thread Cert.KAsIdeal.nD Cert.KAsIdeal.τ).loc Cert.KAsIdeal.main_arg23) = m ((c.tc : Thread Cert.KAsIdeal.nD Cert.KAsIdeal.τ).loc Cert.KAsIdeal.main_arg23)
          ∧ r.2.mem ((c.tc : Thread Cert.KAsIdeal.nD Cert.KAsIdeal.τ).loc Cert.KAsIdeal.main_arg24) = m ((c.tc : Thread Cert.KAsIdeal.nD Cert.KAsIdeal.τ).loc Cert.KAsIdeal.main_arg24)
          ∧ r.2.mem ((c.tc : Thread Cert.KAsIdeal.nD Cert.KAsIdeal.τ).loc Cert.KAsIdeal.main_arg25) = m ((c.tc : Thread Cert.KAsIdeal.nD Cert.KAsIdeal.τ).loc Cert.KAsIdeal.main_arg25)
          ∧ r.2.mem ((c.tc : Thread Cert.KAsIdeal.nD Cert.KAsIdeal.τ).loc Cert.KAsIdeal.main_arg26) = m ((c.tc : Thread Cert.KAsIdeal.nD Cert.KAsIdeal.τ).loc Cert.KAsIdeal.main_arg26)
          ∧ r.2.mem ((c.tc : Thread Cert.KAsIdeal.nD Cert.KAsIdeal.τ).loc Cert.KAsIdeal.main_arg27) = m ((c.tc : Thread Cert.KAsIdeal.nD Cert.KAsIdeal.τ).loc Cert.KAsIdeal.main_arg27)
          ∧ r.2.mem ((c.tc : Thread Cert.KAsIdeal.nD Cert.KAsIdeal.τ).loc Cert.KAsIdeal.main_arg28) = m ((c.tc : Thread Cert.KAsIdeal.nD Cert.KAsIdeal.τ).loc Cert.KAsIdeal.main_arg28)
          ∧ r.2.mem ((c.tc : Thread Cert.KAsIdeal.nD Cert.KAsIdeal.τ).loc Cert.KAsIdeal.main_arg29) = m ((c.tc : Thread Cert.KAsIdeal.nD Cert.KAsIdeal.τ).loc Cert.KAsIdeal.main_arg29)
          ∧ r.2.mem ((c.tc : Thread Cert.KAsIdeal.nD Cert.KAsIdeal.τ).loc Cert.KAsIdeal.main_arg30) = m ((c.tc : Thread Cert.KAsIdeal.nD Cert.KAsIdeal.τ).loc Cert.KAsIdeal.main_arg30)
          ∧ r.2.mem ((c.tc : Thread Cert.KAsIdeal.nD Cert.KAsIdeal.τ).loc Cert.KAsIdeal.main_arg31) = m ((c.tc : Thread Cert.KAsIdeal.nD Cert.KAsIdeal.τ).loc Cert.KAsIdeal.main_arg31)
          ∧ r.2.mem ((c.tc : Thread Cert.KAsIdeal.nD Cert.KAsIdeal.τ).loc Cert.KAsIdeal.main_arg32) = m ((c.tc : Thread Cert.KAsIdeal.nD Cert.KAsIdeal.τ).loc Cert.KAsIdeal.main_arg32)
          ∧ r.2.mem ((c.tc : Thread Cert.KAsIdeal.nD Cert.KAsIdeal.τ).loc Cert.KAsIdeal.main_arg33) = m ((c.tc : Thread Cert.KAsIdeal.nD Cert.KAsIdeal.τ).loc Cert.KAsIdeal.main_arg33)
          ∧ r.2.mem ((c.tc : Thread Cert.KAsIdeal.nD Cert.KAsIdeal.τ).loc Cert.KAsIdeal.main_arg34) = m ((c.tc : Thread Cert.KAsIdeal.nD Cert.KAsIdeal.τ).loc Cert.KAsIdeal.main_arg34)
          ∧ r.2.mem ((c.tc : Thread Cert.KAsIdeal.nD Cert.KAsIdeal.τ).loc Cert.KAsIdeal.main_arg35) = m ((c.tc : Thread Cert.KAsIdeal.nD Cert.KAsIdeal.τ).loc Cert.KAsIdeal.main_arg35))
      ∧ θ_run (Cert.RAsIdeal.defs (F := Ideal)) (onTc (τ := Cert.RAsIdeal.τ) (Cert.RAsIdeal.main (F := Ideal))) ⟨m', fun _ => 0, g'⟩ (fun r => ∀ c : Dev Cert.RAsIdeal.nD,
          r.2.mem ((c.tc : Thread Cert.RAsIdeal.nD Cert.RAsIdeal.τ).loc Cert.RAsIdeal.main_v229) = v0 c
          ∧ r.2.mem ((c.tc : Thread Cert.RAsIdeal.nD Cert.RAsIdeal.τ).loc Cert.RAsIdeal.main_v243) = v1 c
          ∧ r.2.mem ((c.tc : Thread Cert.RAsIdeal.nD Cert.RAsIdeal.τ).loc Cert.RAsIdeal.main_v257) = v2 c
          ∧ r.2.mem ((c.tc : Thread Cert.RAsIdeal.nD Cert.RAsIdeal.τ).loc Cert.RAsIdeal.main_arg0) = m' ((c.tc : Thread Cert.RAsIdeal.nD Cert.RAsIdeal.τ).loc Cert.RAsIdeal.main_arg0)
          ∧ r.2.mem ((c.tc : Thread Cert.RAsIdeal.nD Cert.RAsIdeal.τ).loc Cert.RAsIdeal.main_arg1) = m' ((c.tc : Thread Cert.RAsIdeal.nD Cert.RAsIdeal.τ).loc Cert.RAsIdeal.main_arg1)
          ∧ r.2.mem ((c.tc : Thread Cert.RAsIdeal.nD Cert.RAsIdeal.τ).loc Cert.RAsIdeal.main_arg2) = m' ((c.tc : Thread Cert.RAsIdeal.nD Cert.RAsIdeal.τ).loc Cert.RAsIdeal.main_arg2)
          ∧ r.2.mem ((c.tc : Thread Cert.RAsIdeal.nD Cert.RAsIdeal.τ).loc Cert.RAsIdeal.main_arg3) = m' ((c.tc : Thread Cert.RAsIdeal.nD Cert.RAsIdeal.τ).loc Cert.RAsIdeal.main_arg3)
          ∧ r.2.mem ((c.tc : Thread Cert.RAsIdeal.nD Cert.RAsIdeal.τ).loc Cert.RAsIdeal.main_arg4) = m' ((c.tc : Thread Cert.RAsIdeal.nD Cert.RAsIdeal.τ).loc Cert.RAsIdeal.main_arg4)
          ∧ r.2.mem ((c.tc : Thread Cert.RAsIdeal.nD Cert.RAsIdeal.τ).loc Cert.RAsIdeal.main_arg5) = m' ((c.tc : Thread Cert.RAsIdeal.nD Cert.RAsIdeal.τ).loc Cert.RAsIdeal.main_arg5)
          ∧ r.2.mem ((c.tc : Thread Cert.RAsIdeal.nD Cert.RAsIdeal.τ).loc Cert.RAsIdeal.main_arg6) = m' ((c.tc : Thread Cert.RAsIdeal.nD Cert.RAsIdeal.τ).loc Cert.RAsIdeal.main_arg6)
          ∧ r.2.mem ((c.tc : Thread Cert.RAsIdeal.nD Cert.RAsIdeal.τ).loc Cert.RAsIdeal.main_arg7) = m' ((c.tc : Thread Cert.RAsIdeal.nD Cert.RAsIdeal.τ).loc Cert.RAsIdeal.main_arg7)
          ∧ r.2.mem ((c.tc : Thread Cert.RAsIdeal.nD Cert.RAsIdeal.τ).loc Cert.RAsIdeal.main_arg8) = m' ((c.tc : Thread Cert.RAsIdeal.nD Cert.RAsIdeal.τ).loc Cert.RAsIdeal.main_arg8)
          ∧ r.2.mem ((c.tc : Thread Cert.RAsIdeal.nD Cert.RAsIdeal.τ).loc Cert.RAsIdeal.main_arg9) = m' ((c.tc : Thread Cert.RAsIdeal.nD Cert.RAsIdeal.τ).loc Cert.RAsIdeal.main_arg9)
          ∧ r.2.mem ((c.tc : Thread Cert.RAsIdeal.nD Cert.RAsIdeal.τ).loc Cert.RAsIdeal.main_arg10) = m' ((c.tc : Thread Cert.RAsIdeal.nD Cert.RAsIdeal.τ).loc Cert.RAsIdeal.main_arg10)
          ∧ r.2.mem ((c.tc : Thread Cert.RAsIdeal.nD Cert.RAsIdeal.τ).loc Cert.RAsIdeal.main_arg11) = m' ((c.tc : Thread Cert.RAsIdeal.nD Cert.RAsIdeal.τ).loc Cert.RAsIdeal.main_arg11)
          ∧ r.2.mem ((c.tc : Thread Cert.RAsIdeal.nD Cert.RAsIdeal.τ).loc Cert.RAsIdeal.main_arg12) = m' ((c.tc : Thread Cert.RAsIdeal.nD Cert.RAsIdeal.τ).loc Cert.RAsIdeal.main_arg12)
          ∧ r.2.mem ((c.tc : Thread Cert.RAsIdeal.nD Cert.RAsIdeal.τ).loc Cert.RAsIdeal.main_arg13) = m' ((c.tc : Thread Cert.RAsIdeal.nD Cert.RAsIdeal.τ).loc Cert.RAsIdeal.main_arg13)
          ∧ r.2.mem ((c.tc : Thread Cert.RAsIdeal.nD Cert.RAsIdeal.τ).loc Cert.RAsIdeal.main_arg14) = m' ((c.tc : Thread Cert.RAsIdeal.nD Cert.RAsIdeal.τ).loc Cert.RAsIdeal.main_arg14)
          ∧ r.2.mem ((c.tc : Thread Cert.RAsIdeal.nD Cert.RAsIdeal.τ).loc Cert.RAsIdeal.main_arg15) = m' ((c.tc : Thread Cert.RAsIdeal.nD Cert.RAsIdeal.τ).loc Cert.RAsIdeal.main_arg15)
          ∧ r.2.mem ((c.tc : Thread Cert.RAsIdeal.nD Cert.RAsIdeal.τ).loc Cert.RAsIdeal.main_arg16) = m' ((c.tc : Thread Cert.RAsIdeal.nD Cert.RAsIdeal.τ).loc Cert.RAsIdeal.main_arg16)
          ∧ r.2.mem ((c.tc : Thread Cert.RAsIdeal.nD Cert.RAsIdeal.τ).loc Cert.RAsIdeal.main_arg17) = m' ((c.tc : Thread Cert.RAsIdeal.nD Cert.RAsIdeal.τ).loc Cert.RAsIdeal.main_arg17)
          ∧ r.2.mem ((c.tc : Thread Cert.RAsIdeal.nD Cert.RAsIdeal.τ).loc Cert.RAsIdeal.main_arg18) = m' ((c.tc : Thread Cert.RAsIdeal.nD Cert.RAsIdeal.τ).loc Cert.RAsIdeal.main_arg18)
          ∧ r.2.mem ((c.tc : Thread Cert.RAsIdeal.nD Cert.RAsIdeal.τ).loc Cert.RAsIdeal.main_arg19) = m' ((c.tc : Thread Cert.RAsIdeal.nD Cert.RAsIdeal.τ).loc Cert.RAsIdeal.main_arg19)
          ∧ r.2.mem ((c.tc : Thread Cert.RAsIdeal.nD Cert.RAsIdeal.τ).loc Cert.RAsIdeal.main_arg20) = m' ((c.tc : Thread Cert.RAsIdeal.nD Cert.RAsIdeal.τ).loc Cert.RAsIdeal.main_arg20)
          ∧ r.2.mem ((c.tc : Thread Cert.RAsIdeal.nD Cert.RAsIdeal.τ).loc Cert.RAsIdeal.main_arg21) = m' ((c.tc : Thread Cert.RAsIdeal.nD Cert.RAsIdeal.τ).loc Cert.RAsIdeal.main_arg21)
          ∧ r.2.mem ((c.tc : Thread Cert.RAsIdeal.nD Cert.RAsIdeal.τ).loc Cert.RAsIdeal.main_arg22) = m' ((c.tc : Thread Cert.RAsIdeal.nD Cert.RAsIdeal.τ).loc Cert.RAsIdeal.main_arg22)
          ∧ r.2.mem ((c.tc : Thread Cert.RAsIdeal.nD Cert.RAsIdeal.τ).loc Cert.RAsIdeal.main_arg23) = m' ((c.tc : Thread Cert.RAsIdeal.nD Cert.RAsIdeal.τ).loc Cert.RAsIdeal.main_arg23)
          ∧ r.2.mem ((c.tc : Thread Cert.RAsIdeal.nD Cert.RAsIdeal.τ).loc Cert.RAsIdeal.main_arg24) = m' ((c.tc : Thread Cert.RAsIdeal.nD Cert.RAsIdeal.τ).loc Cert.RAsIdeal.main_arg24)
          ∧ r.2.mem ((c.tc : Thread Cert.RAsIdeal.nD Cert.RAsIdeal.τ).loc Cert.RAsIdeal.main_arg25) = m' ((c.tc : Thread Cert.RAsIdeal.nD Cert.RAsIdeal.τ).loc Cert.RAsIdeal.main_arg25)
          ∧ r.2.mem ((c.tc : Thread Cert.RAsIdeal.nD Cert.RAsIdeal.τ).loc Cert.RAsIdeal.main_arg26) = m' ((c.tc : Thread Cert.RAsIdeal.nD Cert.RAsIdeal.τ).loc Cert.RAsIdeal.main_arg26)
          ∧ r.2.mem ((c.tc : Thread Cert.RAsIdeal.nD Cert.RAsIdeal.τ).loc Cert.RAsIdeal.main_arg27) = m' ((c.tc : Thread Cert.RAsIdeal.nD Cert.RAsIdeal.τ).loc Cert.RAsIdeal.main_arg27)
          ∧ r.2.mem ((c.tc : Thread Cert.RAsIdeal.nD Cert.RAsIdeal.τ).loc Cert.RAsIdeal.main_arg28) = m' ((c.tc : Thread Cert.RAsIdeal.nD Cert.RAsIdeal.τ).loc Cert.RAsIdeal.main_arg28)
          ∧ r.2.mem ((c.tc : Thread Cert.RAsIdeal.nD Cert.RAsIdeal.τ).loc Cert.RAsIdeal.main_arg29) = m' ((c.tc : Thread Cert.RAsIdeal.nD Cert.RAsIdeal.τ).loc Cert.RAsIdeal.main_arg29)
          ∧ r.2.mem ((c.tc : Thread Cert.RAsIdeal.nD Cert.RAsIdeal.τ).loc Cert.RAsIdeal.main_arg30) = m' ((c.tc : Thread Cert.RAsIdeal.nD Cert.RAsIdeal.τ).loc Cert.RAsIdeal.main_arg30)
          ∧ r.2.mem ((c.tc : Thread Cert.RAsIdeal.nD Cert.RAsIdeal.τ).loc Cert.RAsIdeal.main_arg31) = m' ((c.tc : Thread Cert.RAsIdeal.nD Cert.RAsIdeal.τ).loc Cert.RAsIdeal.main_arg31)
          ∧ r.2.mem ((c.tc : Thread Cert.RAsIdeal.nD Cert.RAsIdeal.τ).loc Cert.RAsIdeal.main_arg32) = m' ((c.tc : Thread Cert.RAsIdeal.nD Cert.RAsIdeal.τ).loc Cert.RAsIdeal.main_arg32)
          ∧ r.2.mem ((c.tc : Thread Cert.RAsIdeal.nD Cert.RAsIdeal.τ).loc Cert.RAsIdeal.main_arg33) = m' ((c.tc : Thread Cert.RAsIdeal.nD Cert.RAsIdeal.τ).loc Cert.RAsIdeal.main_arg33)
          ∧ r.2.mem ((c.tc : Thread Cert.RAsIdeal.nD Cert.RAsIdeal.τ).loc Cert.RAsIdeal.main_arg34) = m' ((c.tc : Thread Cert.RAsIdeal.nD Cert.RAsIdeal.τ).loc Cert.RAsIdeal.main_arg34)
          ∧ r.2.mem ((c.tc : Thread Cert.RAsIdeal.nD Cert.RAsIdeal.τ).loc Cert.RAsIdeal.main_arg35) = m' ((c.tc : Thread Cert.RAsIdeal.nD Cert.RAsIdeal.τ).loc Cert.RAsIdeal.main_arg35))

def preserves_KMi_KMiIdeal : Prop :=
  True

def algebraic_KMiIdeal_RMiIdeal [hKMiIdeal : Cert.KMiIdeal.Facts] [hRMiIdeal : Cert.RMiIdeal.Facts] : Prop :=
  ∀ (m : (ℓ : Loc Cert.KMiIdeal.nD Cert.KMiIdeal.τ Cert.KMiIdeal.sig) → Buf (Elt Ideal) ℓ) (g : Dev Cert.KMiIdeal.nD → PrngReg)
    (m' : (ℓ : Loc Cert.RMiIdeal.nD Cert.RMiIdeal.τ Cert.RMiIdeal.sig) → Buf (Elt Ideal) ℓ) (g' : Dev Cert.RMiIdeal.nD → PrngReg), Pre_KMiIdeal m →
    (∀ c : Dev Cert.KMiIdeal.nD,
      m' ((c.tc : Thread Cert.RMiIdeal.nD Cert.RMiIdeal.τ).loc Cert.RMiIdeal.main_arg0) = m ((c.tc : Thread Cert.KMiIdeal.nD Cert.KMiIdeal.τ).loc Cert.KMiIdeal.main_arg0)
      ∧ m' ((c.tc : Thread Cert.RMiIdeal.nD Cert.RMiIdeal.τ).loc Cert.RMiIdeal.main_arg1) = m ((c.tc : Thread Cert.KMiIdeal.nD Cert.KMiIdeal.τ).loc Cert.KMiIdeal.main_arg1)
      ∧ m' ((c.tc : Thread Cert.RMiIdeal.nD Cert.RMiIdeal.τ).loc Cert.RMiIdeal.main_arg2) = m ((c.tc : Thread Cert.KMiIdeal.nD Cert.KMiIdeal.τ).loc Cert.KMiIdeal.main_arg2)
      ∧ m' ((c.tc : Thread Cert.RMiIdeal.nD Cert.RMiIdeal.τ).loc Cert.RMiIdeal.main_arg3) = m ((c.tc : Thread Cert.KMiIdeal.nD Cert.KMiIdeal.τ).loc Cert.KMiIdeal.main_arg3)
      ∧ m' ((c.tc : Thread Cert.RMiIdeal.nD Cert.RMiIdeal.τ).loc Cert.RMiIdeal.main_arg4) = m ((c.tc : Thread Cert.KMiIdeal.nD Cert.KMiIdeal.τ).loc Cert.KMiIdeal.main_arg4)
      ∧ m' ((c.tc : Thread Cert.RMiIdeal.nD Cert.RMiIdeal.τ).loc Cert.RMiIdeal.main_arg5) = m ((c.tc : Thread Cert.KMiIdeal.nD Cert.KMiIdeal.τ).loc Cert.KMiIdeal.main_arg5)) →
    ∃ (v0 : (c : Dev Cert.KMiIdeal.nD) → Buf (Elt Ideal) ((c.tc : Thread Cert.KMiIdeal.nD Cert.KMiIdeal.τ).loc Cert.KMiIdeal.main_v8_0)) (v1 : (c : Dev Cert.KMiIdeal.nD) → Buf (Elt Ideal) ((c.tc : Thread Cert.KMiIdeal.nD Cert.KMiIdeal.τ).loc Cert.KMiIdeal.main_v8_1)) (v2 : (c : Dev Cert.KMiIdeal.nD) → Buf (Elt Ideal) ((c.tc : Thread Cert.KMiIdeal.nD Cert.KMiIdeal.τ).loc Cert.KMiIdeal.main_v8_2)),
      θ_run (Cert.KMiIdeal.defs (F := Ideal)) (onTc (τ := Cert.KMiIdeal.τ) (Cert.KMiIdeal.main (F := Ideal))) ⟨m, fun _ => 0, g⟩ (fun r => ∀ c : Dev Cert.KMiIdeal.nD,
          r.2.mem ((c.tc : Thread Cert.KMiIdeal.nD Cert.KMiIdeal.τ).loc Cert.KMiIdeal.main_v8_0) = v0 c
          ∧ r.2.mem ((c.tc : Thread Cert.KMiIdeal.nD Cert.KMiIdeal.τ).loc Cert.KMiIdeal.main_v8_1) = v1 c
          ∧ r.2.mem ((c.tc : Thread Cert.KMiIdeal.nD Cert.KMiIdeal.τ).loc Cert.KMiIdeal.main_v8_2) = v2 c
          ∧ r.2.mem ((c.tc : Thread Cert.KMiIdeal.nD Cert.KMiIdeal.τ).loc Cert.KMiIdeal.main_arg0) = m ((c.tc : Thread Cert.KMiIdeal.nD Cert.KMiIdeal.τ).loc Cert.KMiIdeal.main_arg0)
          ∧ r.2.mem ((c.tc : Thread Cert.KMiIdeal.nD Cert.KMiIdeal.τ).loc Cert.KMiIdeal.main_arg1) = m ((c.tc : Thread Cert.KMiIdeal.nD Cert.KMiIdeal.τ).loc Cert.KMiIdeal.main_arg1)
          ∧ r.2.mem ((c.tc : Thread Cert.KMiIdeal.nD Cert.KMiIdeal.τ).loc Cert.KMiIdeal.main_arg2) = m ((c.tc : Thread Cert.KMiIdeal.nD Cert.KMiIdeal.τ).loc Cert.KMiIdeal.main_arg2)
          ∧ r.2.mem ((c.tc : Thread Cert.KMiIdeal.nD Cert.KMiIdeal.τ).loc Cert.KMiIdeal.main_arg3) = m ((c.tc : Thread Cert.KMiIdeal.nD Cert.KMiIdeal.τ).loc Cert.KMiIdeal.main_arg3)
          ∧ r.2.mem ((c.tc : Thread Cert.KMiIdeal.nD Cert.KMiIdeal.τ).loc Cert.KMiIdeal.main_arg4) = m ((c.tc : Thread Cert.KMiIdeal.nD Cert.KMiIdeal.τ).loc Cert.KMiIdeal.main_arg4)
          ∧ r.2.mem ((c.tc : Thread Cert.KMiIdeal.nD Cert.KMiIdeal.τ).loc Cert.KMiIdeal.main_arg5) = m ((c.tc : Thread Cert.KMiIdeal.nD Cert.KMiIdeal.τ).loc Cert.KMiIdeal.main_arg5))
      ∧ θ_run (Cert.RMiIdeal.defs (F := Ideal)) (onTc (τ := Cert.RMiIdeal.τ) (Cert.RMiIdeal.main (F := Ideal))) ⟨m', fun _ => 0, g'⟩ (fun r => ∀ c : Dev Cert.RMiIdeal.nD,
          r.2.mem ((c.tc : Thread Cert.RMiIdeal.nD Cert.RMiIdeal.τ).loc Cert.RMiIdeal.main_v56) = v0 c
          ∧ r.2.mem ((c.tc : Thread Cert.RMiIdeal.nD Cert.RMiIdeal.τ).loc Cert.RMiIdeal.main_v58) = v1 c
          ∧ r.2.mem ((c.tc : Thread Cert.RMiIdeal.nD Cert.RMiIdeal.τ).loc Cert.RMiIdeal.main_v59) = v2 c
          ∧ r.2.mem ((c.tc : Thread Cert.RMiIdeal.nD Cert.RMiIdeal.τ).loc Cert.RMiIdeal.main_arg0) = m' ((c.tc : Thread Cert.RMiIdeal.nD Cert.RMiIdeal.τ).loc Cert.RMiIdeal.main_arg0)
          ∧ r.2.mem ((c.tc : Thread Cert.RMiIdeal.nD Cert.RMiIdeal.τ).loc Cert.RMiIdeal.main_arg1) = m' ((c.tc : Thread Cert.RMiIdeal.nD Cert.RMiIdeal.τ).loc Cert.RMiIdeal.main_arg1)
          ∧ r.2.mem ((c.tc : Thread Cert.RMiIdeal.nD Cert.RMiIdeal.τ).loc Cert.RMiIdeal.main_arg2) = m' ((c.tc : Thread Cert.RMiIdeal.nD Cert.RMiIdeal.τ).loc Cert.RMiIdeal.main_arg2)
          ∧ r.2.mem ((c.tc : Thread Cert.RMiIdeal.nD Cert.RMiIdeal.τ).loc Cert.RMiIdeal.main_arg3) = m' ((c.tc : Thread Cert.RMiIdeal.nD Cert.RMiIdeal.τ).loc Cert.RMiIdeal.main_arg3)
          ∧ r.2.mem ((c.tc : Thread Cert.RMiIdeal.nD Cert.RMiIdeal.τ).loc Cert.RMiIdeal.main_arg4) = m' ((c.tc : Thread Cert.RMiIdeal.nD Cert.RMiIdeal.τ).loc Cert.RMiIdeal.main_arg4)
          ∧ r.2.mem ((c.tc : Thread Cert.RMiIdeal.nD Cert.RMiIdeal.τ).loc Cert.RMiIdeal.main_arg5) = m' ((c.tc : Thread Cert.RMiIdeal.nD Cert.RMiIdeal.τ).loc Cert.RMiIdeal.main_arg5))

def preserves_KIb_KIbIdeal : Prop :=
  True

def algebraic_KIbIdeal_RIbIdeal_pre_finite_ib [hKIbIdeal : Cert.KIbIdeal.Facts] [hRIbIdeal : Cert.RIbIdeal.Facts] [hPre_finite_ib : Cert.Pre_finite_ib.Facts] : Prop :=
  ∀ (m : (ℓ : Loc Cert.KIbIdeal.nD Cert.KIbIdeal.τ Cert.KIbIdeal.sig) → Buf (Elt Ideal) ℓ) (g : Dev Cert.KIbIdeal.nD → PrngReg)
    (m' : (ℓ : Loc Cert.RIbIdeal.nD Cert.RIbIdeal.τ Cert.RIbIdeal.sig) → Buf (Elt Ideal) ℓ) (g' : Dev Cert.RIbIdeal.nD → PrngReg), Pre_KIbIdeal_finite_ib m →
    (∀ c : Dev Cert.KIbIdeal.nD,
      m' ((c.tc : Thread Cert.RIbIdeal.nD Cert.RIbIdeal.τ).loc Cert.RIbIdeal.main_arg0) = m ((c.tc : Thread Cert.KIbIdeal.nD Cert.KIbIdeal.τ).loc Cert.KIbIdeal.main_arg0)
      ∧ m' ((c.tc : Thread Cert.RIbIdeal.nD Cert.RIbIdeal.τ).loc Cert.RIbIdeal.main_arg1) = m ((c.tc : Thread Cert.KIbIdeal.nD Cert.KIbIdeal.τ).loc Cert.KIbIdeal.main_arg1)
      ∧ m' ((c.tc : Thread Cert.RIbIdeal.nD Cert.RIbIdeal.τ).loc Cert.RIbIdeal.main_arg2) = m ((c.tc : Thread Cert.KIbIdeal.nD Cert.KIbIdeal.τ).loc Cert.KIbIdeal.main_arg2)
      ∧ m' ((c.tc : Thread Cert.RIbIdeal.nD Cert.RIbIdeal.τ).loc Cert.RIbIdeal.main_arg3) = m ((c.tc : Thread Cert.KIbIdeal.nD Cert.KIbIdeal.τ).loc Cert.KIbIdeal.main_arg3)
      ∧ m' ((c.tc : Thread Cert.RIbIdeal.nD Cert.RIbIdeal.τ).loc Cert.RIbIdeal.main_arg4) = m ((c.tc : Thread Cert.KIbIdeal.nD Cert.KIbIdeal.τ).loc Cert.KIbIdeal.main_arg4)
      ∧ m' ((c.tc : Thread Cert.RIbIdeal.nD Cert.RIbIdeal.τ).loc Cert.RIbIdeal.main_arg5) = m ((c.tc : Thread Cert.KIbIdeal.nD Cert.KIbIdeal.τ).loc Cert.KIbIdeal.main_arg5)
      ∧ m' ((c.tc : Thread Cert.RIbIdeal.nD Cert.RIbIdeal.τ).loc Cert.RIbIdeal.main_arg6) = m ((c.tc : Thread Cert.KIbIdeal.nD Cert.KIbIdeal.τ).loc Cert.KIbIdeal.main_arg6)
      ∧ m' ((c.tc : Thread Cert.RIbIdeal.nD Cert.RIbIdeal.τ).loc Cert.RIbIdeal.main_arg7) = m ((c.tc : Thread Cert.KIbIdeal.nD Cert.KIbIdeal.τ).loc Cert.KIbIdeal.main_arg7)
      ∧ m' ((c.tc : Thread Cert.RIbIdeal.nD Cert.RIbIdeal.τ).loc Cert.RIbIdeal.main_arg8) = m ((c.tc : Thread Cert.KIbIdeal.nD Cert.KIbIdeal.τ).loc Cert.KIbIdeal.main_arg8)
      ∧ m' ((c.tc : Thread Cert.RIbIdeal.nD Cert.RIbIdeal.τ).loc Cert.RIbIdeal.main_arg9) = m ((c.tc : Thread Cert.KIbIdeal.nD Cert.KIbIdeal.τ).loc Cert.KIbIdeal.main_arg9)) →
    ∃ (v0 : (c : Dev Cert.KIbIdeal.nD) → Buf (Elt Ideal) ((c.tc : Thread Cert.KIbIdeal.nD Cert.KIbIdeal.τ).loc Cert.KIbIdeal.main_v10_0)) (v1 : (c : Dev Cert.KIbIdeal.nD) → Buf (Elt Ideal) ((c.tc : Thread Cert.KIbIdeal.nD Cert.KIbIdeal.τ).loc Cert.KIbIdeal.main_v10_1)) (v2 : (c : Dev Cert.KIbIdeal.nD) → Buf (Elt Ideal) ((c.tc : Thread Cert.KIbIdeal.nD Cert.KIbIdeal.τ).loc Cert.KIbIdeal.main_v10_2)),
      θ_run (Cert.KIbIdeal.defs (F := Ideal)) (onTc (τ := Cert.KIbIdeal.τ) (Cert.KIbIdeal.main (F := Ideal))) ⟨m, fun _ => 0, g⟩ (fun r => ∀ c : Dev Cert.KIbIdeal.nD,
          r.2.mem ((c.tc : Thread Cert.KIbIdeal.nD Cert.KIbIdeal.τ).loc Cert.KIbIdeal.main_v10_0) = v0 c
          ∧ r.2.mem ((c.tc : Thread Cert.KIbIdeal.nD Cert.KIbIdeal.τ).loc Cert.KIbIdeal.main_v10_1) = v1 c
          ∧ r.2.mem ((c.tc : Thread Cert.KIbIdeal.nD Cert.KIbIdeal.τ).loc Cert.KIbIdeal.main_v10_2) = v2 c
          ∧ r.2.mem ((c.tc : Thread Cert.KIbIdeal.nD Cert.KIbIdeal.τ).loc Cert.KIbIdeal.main_arg0) = m ((c.tc : Thread Cert.KIbIdeal.nD Cert.KIbIdeal.τ).loc Cert.KIbIdeal.main_arg0)
          ∧ r.2.mem ((c.tc : Thread Cert.KIbIdeal.nD Cert.KIbIdeal.τ).loc Cert.KIbIdeal.main_arg1) = m ((c.tc : Thread Cert.KIbIdeal.nD Cert.KIbIdeal.τ).loc Cert.KIbIdeal.main_arg1)
          ∧ r.2.mem ((c.tc : Thread Cert.KIbIdeal.nD Cert.KIbIdeal.τ).loc Cert.KIbIdeal.main_arg2) = m ((c.tc : Thread Cert.KIbIdeal.nD Cert.KIbIdeal.τ).loc Cert.KIbIdeal.main_arg2)
          ∧ r.2.mem ((c.tc : Thread Cert.KIbIdeal.nD Cert.KIbIdeal.τ).loc Cert.KIbIdeal.main_arg3) = m ((c.tc : Thread Cert.KIbIdeal.nD Cert.KIbIdeal.τ).loc Cert.KIbIdeal.main_arg3)
          ∧ r.2.mem ((c.tc : Thread Cert.KIbIdeal.nD Cert.KIbIdeal.τ).loc Cert.KIbIdeal.main_arg4) = m ((c.tc : Thread Cert.KIbIdeal.nD Cert.KIbIdeal.τ).loc Cert.KIbIdeal.main_arg4)
          ∧ r.2.mem ((c.tc : Thread Cert.KIbIdeal.nD Cert.KIbIdeal.τ).loc Cert.KIbIdeal.main_arg5) = m ((c.tc : Thread Cert.KIbIdeal.nD Cert.KIbIdeal.τ).loc Cert.KIbIdeal.main_arg5)
          ∧ r.2.mem ((c.tc : Thread Cert.KIbIdeal.nD Cert.KIbIdeal.τ).loc Cert.KIbIdeal.main_arg6) = m ((c.tc : Thread Cert.KIbIdeal.nD Cert.KIbIdeal.τ).loc Cert.KIbIdeal.main_arg6)
          ∧ r.2.mem ((c.tc : Thread Cert.KIbIdeal.nD Cert.KIbIdeal.τ).loc Cert.KIbIdeal.main_arg7) = m ((c.tc : Thread Cert.KIbIdeal.nD Cert.KIbIdeal.τ).loc Cert.KIbIdeal.main_arg7)
          ∧ r.2.mem ((c.tc : Thread Cert.KIbIdeal.nD Cert.KIbIdeal.τ).loc Cert.KIbIdeal.main_arg8) = m ((c.tc : Thread Cert.KIbIdeal.nD Cert.KIbIdeal.τ).loc Cert.KIbIdeal.main_arg8)
          ∧ r.2.mem ((c.tc : Thread Cert.KIbIdeal.nD Cert.KIbIdeal.τ).loc Cert.KIbIdeal.main_arg9) = m ((c.tc : Thread Cert.KIbIdeal.nD Cert.KIbIdeal.τ).loc Cert.KIbIdeal.main_arg9))
      ∧ θ_run (Cert.RIbIdeal.defs (F := Ideal)) (onTc (τ := Cert.RIbIdeal.τ) (Cert.RIbIdeal.main (F := Ideal))) ⟨m', fun _ => 0, g'⟩ (fun r => ∀ c : Dev Cert.RIbIdeal.nD,
          r.2.mem ((c.tc : Thread Cert.RIbIdeal.nD Cert.RIbIdeal.τ).loc Cert.RIbIdeal.main_v122) = v0 c
          ∧ r.2.mem ((c.tc : Thread Cert.RIbIdeal.nD Cert.RIbIdeal.τ).loc Cert.RIbIdeal.main_v123) = v1 c
          ∧ r.2.mem ((c.tc : Thread Cert.RIbIdeal.nD Cert.RIbIdeal.τ).loc Cert.RIbIdeal.main_v124) = v2 c
          ∧ r.2.mem ((c.tc : Thread Cert.RIbIdeal.nD Cert.RIbIdeal.τ).loc Cert.RIbIdeal.main_arg0) = m' ((c.tc : Thread Cert.RIbIdeal.nD Cert.RIbIdeal.τ).loc Cert.RIbIdeal.main_arg0)
          ∧ r.2.mem ((c.tc : Thread Cert.RIbIdeal.nD Cert.RIbIdeal.τ).loc Cert.RIbIdeal.main_arg1) = m' ((c.tc : Thread Cert.RIbIdeal.nD Cert.RIbIdeal.τ).loc Cert.RIbIdeal.main_arg1)
          ∧ r.2.mem ((c.tc : Thread Cert.RIbIdeal.nD Cert.RIbIdeal.τ).loc Cert.RIbIdeal.main_arg2) = m' ((c.tc : Thread Cert.RIbIdeal.nD Cert.RIbIdeal.τ).loc Cert.RIbIdeal.main_arg2)
          ∧ r.2.mem ((c.tc : Thread Cert.RIbIdeal.nD Cert.RIbIdeal.τ).loc Cert.RIbIdeal.main_arg3) = m' ((c.tc : Thread Cert.RIbIdeal.nD Cert.RIbIdeal.τ).loc Cert.RIbIdeal.main_arg3)
          ∧ r.2.mem ((c.tc : Thread Cert.RIbIdeal.nD Cert.RIbIdeal.τ).loc Cert.RIbIdeal.main_arg4) = m' ((c.tc : Thread Cert.RIbIdeal.nD Cert.RIbIdeal.τ).loc Cert.RIbIdeal.main_arg4)
          ∧ r.2.mem ((c.tc : Thread Cert.RIbIdeal.nD Cert.RIbIdeal.τ).loc Cert.RIbIdeal.main_arg5) = m' ((c.tc : Thread Cert.RIbIdeal.nD Cert.RIbIdeal.τ).loc Cert.RIbIdeal.main_arg5)
          ∧ r.2.mem ((c.tc : Thread Cert.RIbIdeal.nD Cert.RIbIdeal.τ).loc Cert.RIbIdeal.main_arg6) = m' ((c.tc : Thread Cert.RIbIdeal.nD Cert.RIbIdeal.τ).loc Cert.RIbIdeal.main_arg6)
          ∧ r.2.mem ((c.tc : Thread Cert.RIbIdeal.nD Cert.RIbIdeal.τ).loc Cert.RIbIdeal.main_arg7) = m' ((c.tc : Thread Cert.RIbIdeal.nD Cert.RIbIdeal.τ).loc Cert.RIbIdeal.main_arg7)
          ∧ r.2.mem ((c.tc : Thread Cert.RIbIdeal.nD Cert.RIbIdeal.τ).loc Cert.RIbIdeal.main_arg8) = m' ((c.tc : Thread Cert.RIbIdeal.nD Cert.RIbIdeal.τ).loc Cert.RIbIdeal.main_arg8)
          ∧ r.2.mem ((c.tc : Thread Cert.RIbIdeal.nD Cert.RIbIdeal.τ).loc Cert.RIbIdeal.main_arg9) = m' ((c.tc : Thread Cert.RIbIdeal.nD Cert.RIbIdeal.τ).loc Cert.RIbIdeal.main_arg9))

def preserves_KSu_KSuIdeal : Prop :=
  True

def algebraic_KSuIdeal_RSuIdeal [hKSuIdeal : Cert.KSuIdeal.Facts] [hRSuIdeal : Cert.RSuIdeal.Facts] [hPre_inside_su : Cert.Pre_inside_su.Facts] : Prop :=
  ∀ (m : (ℓ : Loc Cert.KSuIdeal.nD Cert.KSuIdeal.τ Cert.KSuIdeal.sig) → Buf (Elt Ideal) ℓ) (g : Dev Cert.KSuIdeal.nD → PrngReg)
    (m' : (ℓ : Loc Cert.RSuIdeal.nD Cert.RSuIdeal.τ Cert.RSuIdeal.sig) → Buf (Elt Ideal) ℓ) (g' : Dev Cert.RSuIdeal.nD → PrngReg), Pre_KSuIdeal m →
    (∀ c : Dev Cert.KSuIdeal.nD,
      m' ((c.tc : Thread Cert.RSuIdeal.nD Cert.RSuIdeal.τ).loc Cert.RSuIdeal.main_arg0) = m ((c.tc : Thread Cert.KSuIdeal.nD Cert.KSuIdeal.τ).loc Cert.KSuIdeal.main_arg0)
      ∧ m' ((c.tc : Thread Cert.RSuIdeal.nD Cert.RSuIdeal.τ).loc Cert.RSuIdeal.main_arg1) = m ((c.tc : Thread Cert.KSuIdeal.nD Cert.KSuIdeal.τ).loc Cert.KSuIdeal.main_arg1)
      ∧ m' ((c.tc : Thread Cert.RSuIdeal.nD Cert.RSuIdeal.τ).loc Cert.RSuIdeal.main_arg2) = m ((c.tc : Thread Cert.KSuIdeal.nD Cert.KSuIdeal.τ).loc Cert.KSuIdeal.main_arg2)
      ∧ m' ((c.tc : Thread Cert.RSuIdeal.nD Cert.RSuIdeal.τ).loc Cert.RSuIdeal.main_arg3) = m ((c.tc : Thread Cert.KSuIdeal.nD Cert.KSuIdeal.τ).loc Cert.KSuIdeal.main_arg3)
      ∧ m' ((c.tc : Thread Cert.RSuIdeal.nD Cert.RSuIdeal.τ).loc Cert.RSuIdeal.main_arg4) = m ((c.tc : Thread Cert.KSuIdeal.nD Cert.KSuIdeal.τ).loc Cert.KSuIdeal.main_arg4)) →
    ∃ (v0 : (c : Dev Cert.KSuIdeal.nD) → Buf (Elt Ideal) ((c.tc : Thread Cert.KSuIdeal.nD Cert.KSuIdeal.τ).loc Cert.KSuIdeal.main_v1)),
      θ_run (Cert.KSuIdeal.defs (F := Ideal)) (onTc (τ := Cert.KSuIdeal.τ) (Cert.KSuIdeal.main (F := Ideal))) ⟨m, fun _ => 0, g⟩ (fun r => ∀ c : Dev Cert.KSuIdeal.nD,
          r.2.mem ((c.tc : Thread Cert.KSuIdeal.nD Cert.KSuIdeal.τ).loc Cert.KSuIdeal.main_v1) = v0 c
          ∧ r.2.mem ((c.tc : Thread Cert.KSuIdeal.nD Cert.KSuIdeal.τ).loc Cert.KSuIdeal.main_arg0) = m ((c.tc : Thread Cert.KSuIdeal.nD Cert.KSuIdeal.τ).loc Cert.KSuIdeal.main_arg0)
          ∧ r.2.mem ((c.tc : Thread Cert.KSuIdeal.nD Cert.KSuIdeal.τ).loc Cert.KSuIdeal.main_arg1) = m ((c.tc : Thread Cert.KSuIdeal.nD Cert.KSuIdeal.τ).loc Cert.KSuIdeal.main_arg1)
          ∧ r.2.mem ((c.tc : Thread Cert.KSuIdeal.nD Cert.KSuIdeal.τ).loc Cert.KSuIdeal.main_arg2) = m ((c.tc : Thread Cert.KSuIdeal.nD Cert.KSuIdeal.τ).loc Cert.KSuIdeal.main_arg2)
          ∧ r.2.mem ((c.tc : Thread Cert.KSuIdeal.nD Cert.KSuIdeal.τ).loc Cert.KSuIdeal.main_arg3) = m ((c.tc : Thread Cert.KSuIdeal.nD Cert.KSuIdeal.τ).loc Cert.KSuIdeal.main_arg3)
          ∧ r.2.mem ((c.tc : Thread Cert.KSuIdeal.nD Cert.KSuIdeal.τ).loc Cert.KSuIdeal.main_arg4) = m ((c.tc : Thread Cert.KSuIdeal.nD Cert.KSuIdeal.τ).loc Cert.KSuIdeal.main_arg4))
      ∧ θ_run (Cert.RSuIdeal.defs (F := Ideal)) (onTc (τ := Cert.RSuIdeal.τ) (Cert.RSuIdeal.main (F := Ideal))) ⟨m', fun _ => 0, g'⟩ (fun r => ∀ c : Dev Cert.RSuIdeal.nD,
          r.2.mem ((c.tc : Thread Cert.RSuIdeal.nD Cert.RSuIdeal.τ).loc Cert.RSuIdeal.main_v17) = v0 c
          ∧ r.2.mem ((c.tc : Thread Cert.RSuIdeal.nD Cert.RSuIdeal.τ).loc Cert.RSuIdeal.main_arg0) = m' ((c.tc : Thread Cert.RSuIdeal.nD Cert.RSuIdeal.τ).loc Cert.RSuIdeal.main_arg0)
          ∧ r.2.mem ((c.tc : Thread Cert.RSuIdeal.nD Cert.RSuIdeal.τ).loc Cert.RSuIdeal.main_arg1) = m' ((c.tc : Thread Cert.RSuIdeal.nD Cert.RSuIdeal.τ).loc Cert.RSuIdeal.main_arg1)
          ∧ r.2.mem ((c.tc : Thread Cert.RSuIdeal.nD Cert.RSuIdeal.τ).loc Cert.RSuIdeal.main_arg2) = m' ((c.tc : Thread Cert.RSuIdeal.nD Cert.RSuIdeal.τ).loc Cert.RSuIdeal.main_arg2)
          ∧ r.2.mem ((c.tc : Thread Cert.RSuIdeal.nD Cert.RSuIdeal.τ).loc Cert.RSuIdeal.main_arg3) = m' ((c.tc : Thread Cert.RSuIdeal.nD Cert.RSuIdeal.τ).loc Cert.RSuIdeal.main_arg3)
          ∧ r.2.mem ((c.tc : Thread Cert.RSuIdeal.nD Cert.RSuIdeal.τ).loc Cert.RSuIdeal.main_arg4) = m' ((c.tc : Thread Cert.RSuIdeal.nD Cert.RSuIdeal.τ).loc Cert.RSuIdeal.main_arg4))

def preserves_KSi_KSiIdeal : Prop :=
  True

def algebraic_KSiIdeal_RSiIdeal [hKSiIdeal : Cert.KSiIdeal.Facts] [hRSiIdeal : Cert.RSiIdeal.Facts] [hPre_inside_si : Cert.Pre_inside_si.Facts] : Prop :=
  ∀ (m : (ℓ : Loc Cert.KSiIdeal.nD Cert.KSiIdeal.τ Cert.KSiIdeal.sig) → Buf (Elt Ideal) ℓ) (g : Dev Cert.KSiIdeal.nD → PrngReg)
    (m' : (ℓ : Loc Cert.RSiIdeal.nD Cert.RSiIdeal.τ Cert.RSiIdeal.sig) → Buf (Elt Ideal) ℓ) (g' : Dev Cert.RSiIdeal.nD → PrngReg), Pre_KSiIdeal m →
    (∀ c : Dev Cert.KSiIdeal.nD,
      m' ((c.tc : Thread Cert.RSiIdeal.nD Cert.RSiIdeal.τ).loc Cert.RSiIdeal.main_arg0) = m ((c.tc : Thread Cert.KSiIdeal.nD Cert.KSiIdeal.τ).loc Cert.KSiIdeal.main_arg0)
      ∧ m' ((c.tc : Thread Cert.RSiIdeal.nD Cert.RSiIdeal.τ).loc Cert.RSiIdeal.main_arg1) = m ((c.tc : Thread Cert.KSiIdeal.nD Cert.KSiIdeal.τ).loc Cert.KSiIdeal.main_arg1)
      ∧ m' ((c.tc : Thread Cert.RSiIdeal.nD Cert.RSiIdeal.τ).loc Cert.RSiIdeal.main_arg2) = m ((c.tc : Thread Cert.KSiIdeal.nD Cert.KSiIdeal.τ).loc Cert.KSiIdeal.main_arg2)
      ∧ m' ((c.tc : Thread Cert.RSiIdeal.nD Cert.RSiIdeal.τ).loc Cert.RSiIdeal.main_arg3) = m ((c.tc : Thread Cert.KSiIdeal.nD Cert.KSiIdeal.τ).loc Cert.KSiIdeal.main_arg3)
      ∧ m' ((c.tc : Thread Cert.RSiIdeal.nD Cert.RSiIdeal.τ).loc Cert.RSiIdeal.main_arg4) = m ((c.tc : Thread Cert.KSiIdeal.nD Cert.KSiIdeal.τ).loc Cert.KSiIdeal.main_arg4)) →
    ∃ (v0 : (c : Dev Cert.KSiIdeal.nD) → Buf (Elt Ideal) ((c.tc : Thread Cert.KSiIdeal.nD Cert.KSiIdeal.τ).loc Cert.KSiIdeal.main_v1)),
      θ_run (Cert.KSiIdeal.defs (F := Ideal)) (onTc (τ := Cert.KSiIdeal.τ) (Cert.KSiIdeal.main (F := Ideal))) ⟨m, fun _ => 0, g⟩ (fun r => ∀ c : Dev Cert.KSiIdeal.nD,
          r.2.mem ((c.tc : Thread Cert.KSiIdeal.nD Cert.KSiIdeal.τ).loc Cert.KSiIdeal.main_v1) = v0 c
          ∧ r.2.mem ((c.tc : Thread Cert.KSiIdeal.nD Cert.KSiIdeal.τ).loc Cert.KSiIdeal.main_arg0) = m ((c.tc : Thread Cert.KSiIdeal.nD Cert.KSiIdeal.τ).loc Cert.KSiIdeal.main_arg0)
          ∧ r.2.mem ((c.tc : Thread Cert.KSiIdeal.nD Cert.KSiIdeal.τ).loc Cert.KSiIdeal.main_arg1) = m ((c.tc : Thread Cert.KSiIdeal.nD Cert.KSiIdeal.τ).loc Cert.KSiIdeal.main_arg1)
          ∧ r.2.mem ((c.tc : Thread Cert.KSiIdeal.nD Cert.KSiIdeal.τ).loc Cert.KSiIdeal.main_arg2) = m ((c.tc : Thread Cert.KSiIdeal.nD Cert.KSiIdeal.τ).loc Cert.KSiIdeal.main_arg2)
          ∧ r.2.mem ((c.tc : Thread Cert.KSiIdeal.nD Cert.KSiIdeal.τ).loc Cert.KSiIdeal.main_arg3) = m ((c.tc : Thread Cert.KSiIdeal.nD Cert.KSiIdeal.τ).loc Cert.KSiIdeal.main_arg3)
          ∧ r.2.mem ((c.tc : Thread Cert.KSiIdeal.nD Cert.KSiIdeal.τ).loc Cert.KSiIdeal.main_arg4) = m ((c.tc : Thread Cert.KSiIdeal.nD Cert.KSiIdeal.τ).loc Cert.KSiIdeal.main_arg4))
      ∧ θ_run (Cert.RSiIdeal.defs (F := Ideal)) (onTc (τ := Cert.RSiIdeal.τ) (Cert.RSiIdeal.main (F := Ideal))) ⟨m', fun _ => 0, g'⟩ (fun r => ∀ c : Dev Cert.RSiIdeal.nD,
          r.2.mem ((c.tc : Thread Cert.RSiIdeal.nD Cert.RSiIdeal.τ).loc Cert.RSiIdeal.main_v17) = v0 c
          ∧ r.2.mem ((c.tc : Thread Cert.RSiIdeal.nD Cert.RSiIdeal.τ).loc Cert.RSiIdeal.main_arg0) = m' ((c.tc : Thread Cert.RSiIdeal.nD Cert.RSiIdeal.τ).loc Cert.RSiIdeal.main_arg0)
          ∧ r.2.mem ((c.tc : Thread Cert.RSiIdeal.nD Cert.RSiIdeal.τ).loc Cert.RSiIdeal.main_arg1) = m' ((c.tc : Thread Cert.RSiIdeal.nD Cert.RSiIdeal.τ).loc Cert.RSiIdeal.main_arg1)
          ∧ r.2.mem ((c.tc : Thread Cert.RSiIdeal.nD Cert.RSiIdeal.τ).loc Cert.RSiIdeal.main_arg2) = m' ((c.tc : Thread Cert.RSiIdeal.nD Cert.RSiIdeal.τ).loc Cert.RSiIdeal.main_arg2)
          ∧ r.2.mem ((c.tc : Thread Cert.RSiIdeal.nD Cert.RSiIdeal.τ).loc Cert.RSiIdeal.main_arg3) = m' ((c.tc : Thread Cert.RSiIdeal.nD Cert.RSiIdeal.τ).loc Cert.RSiIdeal.main_arg3)
          ∧ r.2.mem ((c.tc : Thread Cert.RSiIdeal.nD Cert.RSiIdeal.τ).loc Cert.RSiIdeal.main_arg4) = m' ((c.tc : Thread Cert.RSiIdeal.nD Cert.RSiIdeal.τ).loc Cert.RSiIdeal.main_arg4))

def preserves_KSo_KSoIdeal : Prop :=
  True

def algebraic_KSoIdeal_RSoIdeal [hKSoIdeal : Cert.KSoIdeal.Facts] [hRSoIdeal : Cert.RSoIdeal.Facts] [hPre_inside_so : Cert.Pre_inside_so.Facts] : Prop :=
  ∀ (m : (ℓ : Loc Cert.KSoIdeal.nD Cert.KSoIdeal.τ Cert.KSoIdeal.sig) → Buf (Elt Ideal) ℓ) (g : Dev Cert.KSoIdeal.nD → PrngReg)
    (m' : (ℓ : Loc Cert.RSoIdeal.nD Cert.RSoIdeal.τ Cert.RSoIdeal.sig) → Buf (Elt Ideal) ℓ) (g' : Dev Cert.RSoIdeal.nD → PrngReg), Pre_KSoIdeal m →
    (∀ c : Dev Cert.KSoIdeal.nD,
      m' ((c.tc : Thread Cert.RSoIdeal.nD Cert.RSoIdeal.τ).loc Cert.RSoIdeal.main_arg0) = m ((c.tc : Thread Cert.KSoIdeal.nD Cert.KSoIdeal.τ).loc Cert.KSoIdeal.main_arg0)
      ∧ m' ((c.tc : Thread Cert.RSoIdeal.nD Cert.RSoIdeal.τ).loc Cert.RSoIdeal.main_arg1) = m ((c.tc : Thread Cert.KSoIdeal.nD Cert.KSoIdeal.τ).loc Cert.KSoIdeal.main_arg1)
      ∧ m' ((c.tc : Thread Cert.RSoIdeal.nD Cert.RSoIdeal.τ).loc Cert.RSoIdeal.main_arg2) = m ((c.tc : Thread Cert.KSoIdeal.nD Cert.KSoIdeal.τ).loc Cert.KSoIdeal.main_arg2)
      ∧ m' ((c.tc : Thread Cert.RSoIdeal.nD Cert.RSoIdeal.τ).loc Cert.RSoIdeal.main_arg3) = m ((c.tc : Thread Cert.KSoIdeal.nD Cert.KSoIdeal.τ).loc Cert.KSoIdeal.main_arg3)
      ∧ m' ((c.tc : Thread Cert.RSoIdeal.nD Cert.RSoIdeal.τ).loc Cert.RSoIdeal.main_arg4) = m ((c.tc : Thread Cert.KSoIdeal.nD Cert.KSoIdeal.τ).loc Cert.KSoIdeal.main_arg4)) →
    ∃ (v0 : (c : Dev Cert.KSoIdeal.nD) → Buf (Elt Ideal) ((c.tc : Thread Cert.KSoIdeal.nD Cert.KSoIdeal.τ).loc Cert.KSoIdeal.main_v1)),
      θ_run (Cert.KSoIdeal.defs (F := Ideal)) (onTc (τ := Cert.KSoIdeal.τ) (Cert.KSoIdeal.main (F := Ideal))) ⟨m, fun _ => 0, g⟩ (fun r => ∀ c : Dev Cert.KSoIdeal.nD,
          r.2.mem ((c.tc : Thread Cert.KSoIdeal.nD Cert.KSoIdeal.τ).loc Cert.KSoIdeal.main_v1) = v0 c
          ∧ r.2.mem ((c.tc : Thread Cert.KSoIdeal.nD Cert.KSoIdeal.τ).loc Cert.KSoIdeal.main_arg0) = m ((c.tc : Thread Cert.KSoIdeal.nD Cert.KSoIdeal.τ).loc Cert.KSoIdeal.main_arg0)
          ∧ r.2.mem ((c.tc : Thread Cert.KSoIdeal.nD Cert.KSoIdeal.τ).loc Cert.KSoIdeal.main_arg1) = m ((c.tc : Thread Cert.KSoIdeal.nD Cert.KSoIdeal.τ).loc Cert.KSoIdeal.main_arg1)
          ∧ r.2.mem ((c.tc : Thread Cert.KSoIdeal.nD Cert.KSoIdeal.τ).loc Cert.KSoIdeal.main_arg2) = m ((c.tc : Thread Cert.KSoIdeal.nD Cert.KSoIdeal.τ).loc Cert.KSoIdeal.main_arg2)
          ∧ r.2.mem ((c.tc : Thread Cert.KSoIdeal.nD Cert.KSoIdeal.τ).loc Cert.KSoIdeal.main_arg3) = m ((c.tc : Thread Cert.KSoIdeal.nD Cert.KSoIdeal.τ).loc Cert.KSoIdeal.main_arg3)
          ∧ r.2.mem ((c.tc : Thread Cert.KSoIdeal.nD Cert.KSoIdeal.τ).loc Cert.KSoIdeal.main_arg4) = m ((c.tc : Thread Cert.KSoIdeal.nD Cert.KSoIdeal.τ).loc Cert.KSoIdeal.main_arg4))
      ∧ θ_run (Cert.RSoIdeal.defs (F := Ideal)) (onTc (τ := Cert.RSoIdeal.τ) (Cert.RSoIdeal.main (F := Ideal))) ⟨m', fun _ => 0, g'⟩ (fun r => ∀ c : Dev Cert.RSoIdeal.nD,
          r.2.mem ((c.tc : Thread Cert.RSoIdeal.nD Cert.RSoIdeal.τ).loc Cert.RSoIdeal.main_v17) = v0 c
          ∧ r.2.mem ((c.tc : Thread Cert.RSoIdeal.nD Cert.RSoIdeal.τ).loc Cert.RSoIdeal.main_arg0) = m' ((c.tc : Thread Cert.RSoIdeal.nD Cert.RSoIdeal.τ).loc Cert.RSoIdeal.main_arg0)
          ∧ r.2.mem ((c.tc : Thread Cert.RSoIdeal.nD Cert.RSoIdeal.τ).loc Cert.RSoIdeal.main_arg1) = m' ((c.tc : Thread Cert.RSoIdeal.nD Cert.RSoIdeal.τ).loc Cert.RSoIdeal.main_arg1)
          ∧ r.2.mem ((c.tc : Thread Cert.RSoIdeal.nD Cert.RSoIdeal.τ).loc Cert.RSoIdeal.main_arg2) = m' ((c.tc : Thread Cert.RSoIdeal.nD Cert.RSoIdeal.τ).loc Cert.RSoIdeal.main_arg2)
          ∧ r.2.mem ((c.tc : Thread Cert.RSoIdeal.nD Cert.RSoIdeal.τ).loc Cert.RSoIdeal.main_arg3) = m' ((c.tc : Thread Cert.RSoIdeal.nD Cert.RSoIdeal.τ).loc Cert.RSoIdeal.main_arg3)
          ∧ r.2.mem ((c.tc : Thread Cert.RSoIdeal.nD Cert.RSoIdeal.τ).loc Cert.RSoIdeal.main_arg4) = m' ((c.tc : Thread Cert.RSoIdeal.nD Cert.RSoIdeal.τ).loc Cert.RSoIdeal.main_arg4))

def preserves_KLo_KLoIdeal : Prop :=
  True

def algebraic_KLoIdeal_RLoIdeal_pre_finite_lo [hKLoIdeal : Cert.KLoIdeal.Facts] [hRLoIdeal : Cert.RLoIdeal.Facts] [hPre_finite_lo : Cert.Pre_finite_lo.Facts] : Prop :=
  ∀ (m : (ℓ : Loc Cert.KLoIdeal.nD Cert.KLoIdeal.τ Cert.KLoIdeal.sig) → Buf (Elt Ideal) ℓ) (g : Dev Cert.KLoIdeal.nD → PrngReg)
    (m' : (ℓ : Loc Cert.RLoIdeal.nD Cert.RLoIdeal.τ Cert.RLoIdeal.sig) → Buf (Elt Ideal) ℓ) (g' : Dev Cert.RLoIdeal.nD → PrngReg), Pre_KLoIdeal_finite_lo m →
    (∀ c : Dev Cert.KLoIdeal.nD,
      m' ((c.tc : Thread Cert.RLoIdeal.nD Cert.RLoIdeal.τ).loc Cert.RLoIdeal.main_arg0) = m ((c.tc : Thread Cert.KLoIdeal.nD Cert.KLoIdeal.τ).loc Cert.KLoIdeal.main_arg0)
      ∧ m' ((c.tc : Thread Cert.RLoIdeal.nD Cert.RLoIdeal.τ).loc Cert.RLoIdeal.main_arg1) = m ((c.tc : Thread Cert.KLoIdeal.nD Cert.KLoIdeal.τ).loc Cert.KLoIdeal.main_arg1)
      ∧ m' ((c.tc : Thread Cert.RLoIdeal.nD Cert.RLoIdeal.τ).loc Cert.RLoIdeal.main_arg2) = m ((c.tc : Thread Cert.KLoIdeal.nD Cert.KLoIdeal.τ).loc Cert.KLoIdeal.main_arg2)
      ∧ m' ((c.tc : Thread Cert.RLoIdeal.nD Cert.RLoIdeal.τ).loc Cert.RLoIdeal.main_arg3) = m ((c.tc : Thread Cert.KLoIdeal.nD Cert.KLoIdeal.τ).loc Cert.KLoIdeal.main_arg3)
      ∧ m' ((c.tc : Thread Cert.RLoIdeal.nD Cert.RLoIdeal.τ).loc Cert.RLoIdeal.main_arg4) = m ((c.tc : Thread Cert.KLoIdeal.nD Cert.KLoIdeal.τ).loc Cert.KLoIdeal.main_arg4)
      ∧ m' ((c.tc : Thread Cert.RLoIdeal.nD Cert.RLoIdeal.τ).loc Cert.RLoIdeal.main_arg5) = m ((c.tc : Thread Cert.KLoIdeal.nD Cert.KLoIdeal.τ).loc Cert.KLoIdeal.main_arg5)
      ∧ m' ((c.tc : Thread Cert.RLoIdeal.nD Cert.RLoIdeal.τ).loc Cert.RLoIdeal.main_arg6) = m ((c.tc : Thread Cert.KLoIdeal.nD Cert.KLoIdeal.τ).loc Cert.KLoIdeal.main_arg6)) →
    ∃ (v0 : (c : Dev Cert.KLoIdeal.nD) → Buf (Elt Ideal) ((c.tc : Thread Cert.KLoIdeal.nD Cert.KLoIdeal.τ).loc Cert.KLoIdeal.main_v9_0)) (v1 : (c : Dev Cert.KLoIdeal.nD) → Buf (Elt Ideal) ((c.tc : Thread Cert.KLoIdeal.nD Cert.KLoIdeal.τ).loc Cert.KLoIdeal.main_v9_1)) (v2 : (c : Dev Cert.KLoIdeal.nD) → Buf (Elt Ideal) ((c.tc : Thread Cert.KLoIdeal.nD Cert.KLoIdeal.τ).loc Cert.KLoIdeal.main_v9_2)),
      θ_run (Cert.KLoIdeal.defs (F := Ideal)) (onTc (τ := Cert.KLoIdeal.τ) (Cert.KLoIdeal.main (F := Ideal))) ⟨m, fun _ => 0, g⟩ (fun r => ∀ c : Dev Cert.KLoIdeal.nD,
          r.2.mem ((c.tc : Thread Cert.KLoIdeal.nD Cert.KLoIdeal.τ).loc Cert.KLoIdeal.main_v9_0) = v0 c
          ∧ r.2.mem ((c.tc : Thread Cert.KLoIdeal.nD Cert.KLoIdeal.τ).loc Cert.KLoIdeal.main_v9_1) = v1 c
          ∧ r.2.mem ((c.tc : Thread Cert.KLoIdeal.nD Cert.KLoIdeal.τ).loc Cert.KLoIdeal.main_v9_2) = v2 c
          ∧ r.2.mem ((c.tc : Thread Cert.KLoIdeal.nD Cert.KLoIdeal.τ).loc Cert.KLoIdeal.main_arg0) = m ((c.tc : Thread Cert.KLoIdeal.nD Cert.KLoIdeal.τ).loc Cert.KLoIdeal.main_arg0)
          ∧ r.2.mem ((c.tc : Thread Cert.KLoIdeal.nD Cert.KLoIdeal.τ).loc Cert.KLoIdeal.main_arg1) = m ((c.tc : Thread Cert.KLoIdeal.nD Cert.KLoIdeal.τ).loc Cert.KLoIdeal.main_arg1)
          ∧ r.2.mem ((c.tc : Thread Cert.KLoIdeal.nD Cert.KLoIdeal.τ).loc Cert.KLoIdeal.main_arg2) = m ((c.tc : Thread Cert.KLoIdeal.nD Cert.KLoIdeal.τ).loc Cert.KLoIdeal.main_arg2)
          ∧ r.2.mem ((c.tc : Thread Cert.KLoIdeal.nD Cert.KLoIdeal.τ).loc Cert.KLoIdeal.main_arg3) = m ((c.tc : Thread Cert.KLoIdeal.nD Cert.KLoIdeal.τ).loc Cert.KLoIdeal.main_arg3)
          ∧ r.2.mem ((c.tc : Thread Cert.KLoIdeal.nD Cert.KLoIdeal.τ).loc Cert.KLoIdeal.main_arg4) = m ((c.tc : Thread Cert.KLoIdeal.nD Cert.KLoIdeal.τ).loc Cert.KLoIdeal.main_arg4)
          ∧ r.2.mem ((c.tc : Thread Cert.KLoIdeal.nD Cert.KLoIdeal.τ).loc Cert.KLoIdeal.main_arg5) = m ((c.tc : Thread Cert.KLoIdeal.nD Cert.KLoIdeal.τ).loc Cert.KLoIdeal.main_arg5)
          ∧ r.2.mem ((c.tc : Thread Cert.KLoIdeal.nD Cert.KLoIdeal.τ).loc Cert.KLoIdeal.main_arg6) = m ((c.tc : Thread Cert.KLoIdeal.nD Cert.KLoIdeal.τ).loc Cert.KLoIdeal.main_arg6))
      ∧ θ_run (Cert.RLoIdeal.defs (F := Ideal)) (onTc (τ := Cert.RLoIdeal.τ) (Cert.RLoIdeal.main (F := Ideal))) ⟨m', fun _ => 0, g'⟩ (fun r => ∀ c : Dev Cert.RLoIdeal.nD,
          r.2.mem ((c.tc : Thread Cert.RLoIdeal.nD Cert.RLoIdeal.τ).loc Cert.RLoIdeal.main_v54) = v0 c
          ∧ r.2.mem ((c.tc : Thread Cert.RLoIdeal.nD Cert.RLoIdeal.τ).loc Cert.RLoIdeal.main_v55) = v1 c
          ∧ r.2.mem ((c.tc : Thread Cert.RLoIdeal.nD Cert.RLoIdeal.τ).loc Cert.RLoIdeal.main_v56) = v2 c
          ∧ r.2.mem ((c.tc : Thread Cert.RLoIdeal.nD Cert.RLoIdeal.τ).loc Cert.RLoIdeal.main_arg0) = m' ((c.tc : Thread Cert.RLoIdeal.nD Cert.RLoIdeal.τ).loc Cert.RLoIdeal.main_arg0)
          ∧ r.2.mem ((c.tc : Thread Cert.RLoIdeal.nD Cert.RLoIdeal.τ).loc Cert.RLoIdeal.main_arg1) = m' ((c.tc : Thread Cert.RLoIdeal.nD Cert.RLoIdeal.τ).loc Cert.RLoIdeal.main_arg1)
          ∧ r.2.mem ((c.tc : Thread Cert.RLoIdeal.nD Cert.RLoIdeal.τ).loc Cert.RLoIdeal.main_arg2) = m' ((c.tc : Thread Cert.RLoIdeal.nD Cert.RLoIdeal.τ).loc Cert.RLoIdeal.main_arg2)
          ∧ r.2.mem ((c.tc : Thread Cert.RLoIdeal.nD Cert.RLoIdeal.τ).loc Cert.RLoIdeal.main_arg3) = m' ((c.tc : Thread Cert.RLoIdeal.nD Cert.RLoIdeal.τ).loc Cert.RLoIdeal.main_arg3)
          ∧ r.2.mem ((c.tc : Thread Cert.RLoIdeal.nD Cert.RLoIdeal.τ).loc Cert.RLoIdeal.main_arg4) = m' ((c.tc : Thread Cert.RLoIdeal.nD Cert.RLoIdeal.τ).loc Cert.RLoIdeal.main_arg4)
          ∧ r.2.mem ((c.tc : Thread Cert.RLoIdeal.nD Cert.RLoIdeal.τ).loc Cert.RLoIdeal.main_arg5) = m' ((c.tc : Thread Cert.RLoIdeal.nD Cert.RLoIdeal.τ).loc Cert.RLoIdeal.main_arg5)
          ∧ r.2.mem ((c.tc : Thread Cert.RLoIdeal.nD Cert.RLoIdeal.τ).loc Cert.RLoIdeal.main_arg6) = m' ((c.tc : Thread Cert.RLoIdeal.nD Cert.RLoIdeal.τ).loc Cert.RLoIdeal.main_arg6))

def preserves_KPs_KPsIdeal : Prop :=
  True

def algebraic_KPsIdeal_RPsIdeal [hKPsIdeal : Cert.KPsIdeal.Facts] [hRPsIdeal : Cert.RPsIdeal.Facts] [hPre_inside_ps : Cert.Pre_inside_ps.Facts] : Prop :=
  ∀ (m : (ℓ : Loc Cert.KPsIdeal.nD Cert.KPsIdeal.τ Cert.KPsIdeal.sig) → Buf (Elt Ideal) ℓ) (g : Dev Cert.KPsIdeal.nD → PrngReg)
    (m' : (ℓ : Loc Cert.RPsIdeal.nD Cert.RPsIdeal.τ Cert.RPsIdeal.sig) → Buf (Elt Ideal) ℓ) (g' : Dev Cert.RPsIdeal.nD → PrngReg), Pre_KPsIdeal m →
    (∀ c : Dev Cert.KPsIdeal.nD,
      m' ((c.tc : Thread Cert.RPsIdeal.nD Cert.RPsIdeal.τ).loc Cert.RPsIdeal.main_arg0) = m ((c.tc : Thread Cert.KPsIdeal.nD Cert.KPsIdeal.τ).loc Cert.KPsIdeal.main_arg0)
      ∧ m' ((c.tc : Thread Cert.RPsIdeal.nD Cert.RPsIdeal.τ).loc Cert.RPsIdeal.main_arg1) = m ((c.tc : Thread Cert.KPsIdeal.nD Cert.KPsIdeal.τ).loc Cert.KPsIdeal.main_arg1)
      ∧ m' ((c.tc : Thread Cert.RPsIdeal.nD Cert.RPsIdeal.τ).loc Cert.RPsIdeal.main_arg2) = m ((c.tc : Thread Cert.KPsIdeal.nD Cert.KPsIdeal.τ).loc Cert.KPsIdeal.main_arg2)
      ∧ m' ((c.tc : Thread Cert.RPsIdeal.nD Cert.RPsIdeal.τ).loc Cert.RPsIdeal.main_arg3) = m ((c.tc : Thread Cert.KPsIdeal.nD Cert.KPsIdeal.τ).loc Cert.KPsIdeal.main_arg3)) →
    ∃ (v0 : (c : Dev Cert.KPsIdeal.nD) → Buf (Elt Ideal) ((c.tc : Thread Cert.KPsIdeal.nD Cert.KPsIdeal.τ).loc Cert.KPsIdeal.main_v0)),
      θ_run (Cert.KPsIdeal.defs (F := Ideal)) (onTc (τ := Cert.KPsIdeal.τ) (Cert.KPsIdeal.main (F := Ideal))) ⟨m, fun _ => 0, g⟩ (fun r => ∀ c : Dev Cert.KPsIdeal.nD,
          r.2.mem ((c.tc : Thread Cert.KPsIdeal.nD Cert.KPsIdeal.τ).loc Cert.KPsIdeal.main_v0) = v0 c
          ∧ r.2.mem ((c.tc : Thread Cert.KPsIdeal.nD Cert.KPsIdeal.τ).loc Cert.KPsIdeal.main_arg0) = m ((c.tc : Thread Cert.KPsIdeal.nD Cert.KPsIdeal.τ).loc Cert.KPsIdeal.main_arg0)
          ∧ r.2.mem ((c.tc : Thread Cert.KPsIdeal.nD Cert.KPsIdeal.τ).loc Cert.KPsIdeal.main_arg1) = m ((c.tc : Thread Cert.KPsIdeal.nD Cert.KPsIdeal.τ).loc Cert.KPsIdeal.main_arg1)
          ∧ r.2.mem ((c.tc : Thread Cert.KPsIdeal.nD Cert.KPsIdeal.τ).loc Cert.KPsIdeal.main_arg2) = m ((c.tc : Thread Cert.KPsIdeal.nD Cert.KPsIdeal.τ).loc Cert.KPsIdeal.main_arg2)
          ∧ r.2.mem ((c.tc : Thread Cert.KPsIdeal.nD Cert.KPsIdeal.τ).loc Cert.KPsIdeal.main_arg3) = m ((c.tc : Thread Cert.KPsIdeal.nD Cert.KPsIdeal.τ).loc Cert.KPsIdeal.main_arg3))
      ∧ θ_run (Cert.RPsIdeal.defs (F := Ideal)) (onTc (τ := Cert.RPsIdeal.τ) (Cert.RPsIdeal.main (F := Ideal))) ⟨m', fun _ => 0, g'⟩ (fun r => ∀ c : Dev Cert.RPsIdeal.nD,
          r.2.mem ((c.tc : Thread Cert.RPsIdeal.nD Cert.RPsIdeal.τ).loc Cert.RPsIdeal.main_v58) = v0 c
          ∧ r.2.mem ((c.tc : Thread Cert.RPsIdeal.nD Cert.RPsIdeal.τ).loc Cert.RPsIdeal.main_arg0) = m' ((c.tc : Thread Cert.RPsIdeal.nD Cert.RPsIdeal.τ).loc Cert.RPsIdeal.main_arg0)
          ∧ r.2.mem ((c.tc : Thread Cert.RPsIdeal.nD Cert.RPsIdeal.τ).loc Cert.RPsIdeal.main_arg1) = m' ((c.tc : Thread Cert.RPsIdeal.nD Cert.RPsIdeal.τ).loc Cert.RPsIdeal.main_arg1)
          ∧ r.2.mem ((c.tc : Thread Cert.RPsIdeal.nD Cert.RPsIdeal.τ).loc Cert.RPsIdeal.main_arg2) = m' ((c.tc : Thread Cert.RPsIdeal.nD Cert.RPsIdeal.τ).loc Cert.RPsIdeal.main_arg2)
          ∧ r.2.mem ((c.tc : Thread Cert.RPsIdeal.nD Cert.RPsIdeal.τ).loc Cert.RPsIdeal.main_arg3) = m' ((c.tc : Thread Cert.RPsIdeal.nD Cert.RPsIdeal.τ).loc Cert.RPsIdeal.main_arg3))

def Claim : Prop :=
  ∃ (hKAct : Cert.KAct.Facts) (hKActIdeal : Cert.KActIdeal.Facts) (hRActIdeal : Cert.RActIdeal.Facts) (hKWd : Cert.KWd.Facts) (hKWdIdeal : Cert.KWdIdeal.Facts) (hRWdIdeal : Cert.RWdIdeal.Facts) (hKWu : Cert.KWu.Facts) (hKWuIdeal : Cert.KWuIdeal.Facts) (hRWuIdeal : Cert.RWuIdeal.Facts) (hKWg : Cert.KWg.Facts) (hKWgIdeal : Cert.KWgIdeal.Facts) (hRWgIdeal : Cert.RWgIdeal.Facts) (hKIn : Cert.KIn.Facts) (hKInIdeal : Cert.KInIdeal.Facts) (hRInIdeal : Cert.RInIdeal.Facts) (hKUp : Cert.KUp.Facts) (hKUpIdeal : Cert.KUpIdeal.Facts) (hRUpIdeal : Cert.RUpIdeal.Facts) (hKDn : Cert.KDn.Facts) (hKDnIdeal : Cert.KDnIdeal.Facts) (hRDnIdeal : Cert.RDnIdeal.Facts) (hKAd : Cert.KAd.Facts) (hKAdIdeal : Cert.KAdIdeal.Facts) (hRAdIdeal : Cert.RAdIdeal.Facts) (hKAu : Cert.KAu.Facts) (hKAuIdeal : Cert.KAuIdeal.Facts) (hRAuIdeal : Cert.RAuIdeal.Facts) (hKAi : Cert.KAi.Facts) (hKAiIdeal : Cert.KAiIdeal.Facts) (hRAiIdeal : Cert.RAiIdeal.Facts) (hKAo : Cert.KAo.Facts) (hKAoIdeal : Cert.KAoIdeal.Facts) (hRAoIdeal : Cert.RAoIdeal.Facts) (hKMo : Cert.KMo.Facts) (hKMoIdeal : Cert.KMoIdeal.Facts) (hRMoIdeal : Cert.RMoIdeal.Facts) (hKWa : Cert.KWa.Facts) (hKWaIdeal : Cert.KWaIdeal.Facts) (hRWaIdeal : Cert.RWaIdeal.Facts) (hKWc : Cert.KWc.Facts) (hKWcIdeal : Cert.KWcIdeal.Facts) (hRWcIdeal : Cert.RWcIdeal.Facts) (hKWi : Cert.KWi.Facts) (hKWiIdeal : Cert.KWiIdeal.Facts) (hRWiIdeal : Cert.RWiIdeal.Facts) (hKMx : Cert.KMx.Facts) (hKMxIdeal : Cert.KMxIdeal.Facts) (hRMxIdeal : Cert.RMxIdeal.Facts) (hKAs : Cert.KAs.Facts) (hKAsIdeal : Cert.KAsIdeal.Facts) (hRAsIdeal : Cert.RAsIdeal.Facts) (hKMi : Cert.KMi.Facts) (hKMiIdeal : Cert.KMiIdeal.Facts) (hRMiIdeal : Cert.RMiIdeal.Facts) (hKIb : Cert.KIb.Facts) (hKIbIdeal : Cert.KIbIdeal.Facts) (hRIbIdeal : Cert.RIbIdeal.Facts) (hKSu : Cert.KSu.Facts) (hKSuIdeal : Cert.KSuIdeal.Facts) (hRSuIdeal : Cert.RSuIdeal.Facts) (hKSi : Cert.KSi.Facts) (hKSiIdeal : Cert.KSiIdeal.Facts) (hRSiIdeal : Cert.RSiIdeal.Facts) (hKSo : Cert.KSo.Facts) (hKSoIdeal : Cert.KSoIdeal.Facts) (hRSoIdeal : Cert.RSoIdeal.Facts) (hKLo : Cert.KLo.Facts) (hKLoIdeal : Cert.KLoIdeal.Facts) (hRLoIdeal : Cert.RLoIdeal.Facts) (hKPs : Cert.KPs.Facts) (hKPsIdeal : Cert.KPsIdeal.Facts) (hRPsIdeal : Cert.RPsIdeal.Facts) (hPre_finite_wg : Cert.Pre_finite_wg.Facts) (hPre_finite_in : Cert.Pre_finite_in.Facts) (hPre_finite_up : Cert.Pre_finite_up.Facts) (hPre_finite_ib : Cert.Pre_finite_ib.Facts) (hPre_inside_su : Cert.Pre_inside_su.Facts) (hPre_inside_si : Cert.Pre_inside_si.Facts) (hPre_inside_so : Cert.Pre_inside_so.Facts) (hPre_finite_lo : Cert.Pre_finite_lo.Facts) (hPre_inside_ps : Cert.Pre_inside_ps.Facts),
    quiescent_KAct (hKAct := hKAct)
    ∧ quiescent_KActIdeal (hKActIdeal := hKActIdeal)
    ∧ quiescent_RActIdeal (hRActIdeal := hRActIdeal)
    ∧ quiescent_KWd (hKWd := hKWd)
    ∧ quiescent_KWdIdeal (hKWdIdeal := hKWdIdeal)
    ∧ quiescent_RWdIdeal (hRWdIdeal := hRWdIdeal)
    ∧ quiescent_KWu (hKWu := hKWu)
    ∧ quiescent_KWuIdeal (hKWuIdeal := hKWuIdeal)
    ∧ quiescent_RWuIdeal (hRWuIdeal := hRWuIdeal)
    ∧ quiescent_KWg (hKWg := hKWg)
    ∧ quiescent_KWgIdeal (hKWgIdeal := hKWgIdeal)
    ∧ quiescent_KWgIdeal_pre_finite_wg (hKWgIdeal := hKWgIdeal) (hPre_finite_wg := hPre_finite_wg)
    ∧ quiescent_RWgIdeal (hRWgIdeal := hRWgIdeal)
    ∧ quiescent_RWgIdeal_pre_finite_wg (hRWgIdeal := hRWgIdeal) (hPre_finite_wg := hPre_finite_wg)
    ∧ quiescent_KIn (hKIn := hKIn)
    ∧ quiescent_KInIdeal (hKInIdeal := hKInIdeal)
    ∧ quiescent_KInIdeal_pre_finite_in (hKInIdeal := hKInIdeal) (hPre_finite_in := hPre_finite_in)
    ∧ quiescent_RInIdeal (hRInIdeal := hRInIdeal)
    ∧ quiescent_RInIdeal_pre_finite_in (hRInIdeal := hRInIdeal) (hPre_finite_in := hPre_finite_in)
    ∧ quiescent_KUp (hKUp := hKUp)
    ∧ quiescent_KUpIdeal (hKUpIdeal := hKUpIdeal)
    ∧ quiescent_KUpIdeal_pre_finite_up (hKUpIdeal := hKUpIdeal) (hPre_finite_up := hPre_finite_up)
    ∧ quiescent_RUpIdeal (hRUpIdeal := hRUpIdeal)
    ∧ quiescent_RUpIdeal_pre_finite_up (hRUpIdeal := hRUpIdeal) (hPre_finite_up := hPre_finite_up)
    ∧ quiescent_KDn (hKDn := hKDn)
    ∧ quiescent_KDnIdeal (hKDnIdeal := hKDnIdeal)
    ∧ quiescent_RDnIdeal (hRDnIdeal := hRDnIdeal)
    ∧ quiescent_KAd (hKAd := hKAd)
    ∧ quiescent_KAdIdeal (hKAdIdeal := hKAdIdeal)
    ∧ quiescent_RAdIdeal (hRAdIdeal := hRAdIdeal)
    ∧ quiescent_KAu (hKAu := hKAu)
    ∧ quiescent_KAuIdeal (hKAuIdeal := hKAuIdeal)
    ∧ quiescent_RAuIdeal (hRAuIdeal := hRAuIdeal)
    ∧ quiescent_KAi (hKAi := hKAi)
    ∧ quiescent_KAiIdeal (hKAiIdeal := hKAiIdeal)
    ∧ quiescent_RAiIdeal (hRAiIdeal := hRAiIdeal)
    ∧ quiescent_KAo (hKAo := hKAo)
    ∧ quiescent_KAoIdeal (hKAoIdeal := hKAoIdeal)
    ∧ quiescent_RAoIdeal (hRAoIdeal := hRAoIdeal)
    ∧ quiescent_KMo (hKMo := hKMo)
    ∧ quiescent_KMoIdeal (hKMoIdeal := hKMoIdeal)
    ∧ quiescent_RMoIdeal (hRMoIdeal := hRMoIdeal)
    ∧ quiescent_KWa (hKWa := hKWa)
    ∧ quiescent_KWaIdeal (hKWaIdeal := hKWaIdeal)
    ∧ quiescent_RWaIdeal (hRWaIdeal := hRWaIdeal)
    ∧ quiescent_KWc (hKWc := hKWc)
    ∧ quiescent_KWcIdeal (hKWcIdeal := hKWcIdeal)
    ∧ quiescent_RWcIdeal (hRWcIdeal := hRWcIdeal)
    ∧ quiescent_KWi (hKWi := hKWi)
    ∧ quiescent_KWiIdeal (hKWiIdeal := hKWiIdeal)
    ∧ quiescent_RWiIdeal (hRWiIdeal := hRWiIdeal)
    ∧ quiescent_KMx (hKMx := hKMx)
    ∧ quiescent_KMxIdeal (hKMxIdeal := hKMxIdeal)
    ∧ quiescent_RMxIdeal (hRMxIdeal := hRMxIdeal)
    ∧ quiescent_KAs (hKAs := hKAs)
    ∧ quiescent_KAsIdeal (hKAsIdeal := hKAsIdeal)
    ∧ quiescent_RAsIdeal (hRAsIdeal := hRAsIdeal)
    ∧ quiescent_KMi (hKMi := hKMi)
    ∧ quiescent_KMiIdeal (hKMiIdeal := hKMiIdeal)
    ∧ quiescent_RMiIdeal (hRMiIdeal := hRMiIdeal)
    ∧ quiescent_KIb (hKIb := hKIb)
    ∧ quiescent_KIbIdeal (hKIbIdeal := hKIbIdeal)
    ∧ quiescent_KIbIdeal_pre_finite_ib (hKIbIdeal := hKIbIdeal) (hPre_finite_ib := hPre_finite_ib)
    ∧ quiescent_RIbIdeal (hRIbIdeal := hRIbIdeal)
    ∧ quiescent_RIbIdeal_pre_finite_ib (hRIbIdeal := hRIbIdeal) (hPre_finite_ib := hPre_finite_ib)
    ∧ quiescent_KSu (hKSu := hKSu) (hPre_inside_su := hPre_inside_su)
    ∧ quiescent_KSuIdeal (hKSuIdeal := hKSuIdeal) (hPre_inside_su := hPre_inside_su)
    ∧ quiescent_RSuIdeal (hRSuIdeal := hRSuIdeal)
    ∧ quiescent_RSuIdeal_pre_inside_su (hRSuIdeal := hRSuIdeal) (hPre_inside_su := hPre_inside_su)
    ∧ quiescent_KSi (hKSi := hKSi) (hPre_inside_si := hPre_inside_si)
    ∧ quiescent_KSiIdeal (hKSiIdeal := hKSiIdeal) (hPre_inside_si := hPre_inside_si)
    ∧ quiescent_RSiIdeal (hRSiIdeal := hRSiIdeal)
    ∧ quiescent_RSiIdeal_pre_inside_si (hRSiIdeal := hRSiIdeal) (hPre_inside_si := hPre_inside_si)
    ∧ quiescent_KSo (hKSo := hKSo) (hPre_inside_so := hPre_inside_so)
    ∧ quiescent_KSoIdeal (hKSoIdeal := hKSoIdeal) (hPre_inside_so := hPre_inside_so)
    ∧ quiescent_RSoIdeal (hRSoIdeal := hRSoIdeal)
    ∧ quiescent_RSoIdeal_pre_inside_so (hRSoIdeal := hRSoIdeal) (hPre_inside_so := hPre_inside_so)
    ∧ quiescent_KLo (hKLo := hKLo)
    ∧ quiescent_KLoIdeal (hKLoIdeal := hKLoIdeal)
    ∧ quiescent_KLoIdeal_pre_finite_lo (hKLoIdeal := hKLoIdeal) (hPre_finite_lo := hPre_finite_lo)
    ∧ quiescent_RLoIdeal (hRLoIdeal := hRLoIdeal)
    ∧ quiescent_RLoIdeal_pre_finite_lo (hRLoIdeal := hRLoIdeal) (hPre_finite_lo := hPre_finite_lo)
    ∧ quiescent_KPs (hKPs := hKPs) (hPre_inside_ps := hPre_inside_ps)
    ∧ quiescent_KPsIdeal (hKPsIdeal := hKPsIdeal) (hPre_inside_ps := hPre_inside_ps)
    ∧ quiescent_RPsIdeal (hRPsIdeal := hRPsIdeal)
    ∧ quiescent_RPsIdeal_pre_inside_ps (hRPsIdeal := hRPsIdeal) (hPre_inside_ps := hPre_inside_ps)
    ∧ preserves_KAct_KActIdeal
    ∧ algebraic_KActIdeal_RActIdeal (hKActIdeal := hKActIdeal) (hRActIdeal := hRActIdeal)
    ∧ preserves_KWd_KWdIdeal
    ∧ algebraic_KWdIdeal_RWdIdeal (hKWdIdeal := hKWdIdeal) (hRWdIdeal := hRWdIdeal)
    ∧ preserves_KWu_KWuIdeal
    ∧ algebraic_KWuIdeal_RWuIdeal (hKWuIdeal := hKWuIdeal) (hRWuIdeal := hRWuIdeal)
    ∧ preserves_KWg_KWgIdeal
    ∧ algebraic_KWgIdeal_RWgIdeal_pre_finite_wg (hKWgIdeal := hKWgIdeal) (hRWgIdeal := hRWgIdeal) (hPre_finite_wg := hPre_finite_wg)
    ∧ preserves_KIn_KInIdeal
    ∧ algebraic_KInIdeal_RInIdeal_pre_finite_in (hKInIdeal := hKInIdeal) (hRInIdeal := hRInIdeal) (hPre_finite_in := hPre_finite_in)
    ∧ preserves_KUp_KUpIdeal
    ∧ algebraic_KUpIdeal_RUpIdeal_pre_finite_up (hKUpIdeal := hKUpIdeal) (hRUpIdeal := hRUpIdeal) (hPre_finite_up := hPre_finite_up)
    ∧ preserves_KDn_KDnIdeal
    ∧ algebraic_KDnIdeal_RDnIdeal (hKDnIdeal := hKDnIdeal) (hRDnIdeal := hRDnIdeal)
    ∧ preserves_KAd_KAdIdeal
    ∧ algebraic_KAdIdeal_RAdIdeal (hKAdIdeal := hKAdIdeal) (hRAdIdeal := hRAdIdeal)
    ∧ preserves_KAu_KAuIdeal
    ∧ algebraic_KAuIdeal_RAuIdeal (hKAuIdeal := hKAuIdeal) (hRAuIdeal := hRAuIdeal)
    ∧ preserves_KAi_KAiIdeal
    ∧ algebraic_KAiIdeal_RAiIdeal (hKAiIdeal := hKAiIdeal) (hRAiIdeal := hRAiIdeal)
    ∧ preserves_KAo_KAoIdeal
    ∧ algebraic_KAoIdeal_RAoIdeal (hKAoIdeal := hKAoIdeal) (hRAoIdeal := hRAoIdeal)
    ∧ preserves_KMo_KMoIdeal
    ∧ algebraic_KMoIdeal_RMoIdeal (hKMoIdeal := hKMoIdeal) (hRMoIdeal := hRMoIdeal)
    ∧ preserves_KWa_KWaIdeal
    ∧ algebraic_KWaIdeal_RWaIdeal (hKWaIdeal := hKWaIdeal) (hRWaIdeal := hRWaIdeal)
    ∧ preserves_KWc_KWcIdeal
    ∧ algebraic_KWcIdeal_RWcIdeal (hKWcIdeal := hKWcIdeal) (hRWcIdeal := hRWcIdeal)
    ∧ preserves_KWi_KWiIdeal
    ∧ algebraic_KWiIdeal_RWiIdeal (hKWiIdeal := hKWiIdeal) (hRWiIdeal := hRWiIdeal)
    ∧ preserves_KMx_KMxIdeal
    ∧ algebraic_KMxIdeal_RMxIdeal (hKMxIdeal := hKMxIdeal) (hRMxIdeal := hRMxIdeal)
    ∧ preserves_KAs_KAsIdeal
    ∧ algebraic_KAsIdeal_RAsIdeal (hKAsIdeal := hKAsIdeal) (hRAsIdeal := hRAsIdeal)
    ∧ preserves_KMi_KMiIdeal
    ∧ algebraic_KMiIdeal_RMiIdeal (hKMiIdeal := hKMiIdeal) (hRMiIdeal := hRMiIdeal)
    ∧ preserves_KIb_KIbIdeal
    ∧ algebraic_KIbIdeal_RIbIdeal_pre_finite_ib (hKIbIdeal := hKIbIdeal) (hRIbIdeal := hRIbIdeal) (hPre_finite_ib := hPre_finite_ib)
    ∧ preserves_KSu_KSuIdeal
    ∧ algebraic_KSuIdeal_RSuIdeal (hKSuIdeal := hKSuIdeal) (hRSuIdeal := hRSuIdeal) (hPre_inside_su := hPre_inside_su)
    ∧ preserves_KSi_KSiIdeal
    ∧ algebraic_KSiIdeal_RSiIdeal (hKSiIdeal := hKSiIdeal) (hRSiIdeal := hRSiIdeal) (hPre_inside_si := hPre_inside_si)
    ∧ preserves_KSo_KSoIdeal
    ∧ algebraic_KSoIdeal_RSoIdeal (hKSoIdeal := hKSoIdeal) (hRSoIdeal := hRSoIdeal) (hPre_inside_so := hPre_inside_so)
    ∧ preserves_KLo_KLoIdeal
    ∧ algebraic_KLoIdeal_RLoIdeal_pre_finite_lo (hKLoIdeal := hKLoIdeal) (hRLoIdeal := hRLoIdeal) (hPre_finite_lo := hPre_finite_lo)
    ∧ preserves_KPs_KPsIdeal
    ∧ algebraic_KPsIdeal_RPsIdeal (hKPsIdeal := hKPsIdeal) (hRPsIdeal := hRPsIdeal) (hPre_inside_ps := hPre_inside_ps)
-- ==== Pre_finite_ib.lean ====
abbrev S8192x512 : Shape := ⟨2, ![8192, 512]⟩
abbrev S8192x128 : Shape := ⟨2, ![8192, 128]⟩
abbrev S8192x1024 : Shape := ⟨2, ![8192, 1024]⟩
abbrev S8192x32 : Shape := ⟨2, ![8192, 32]⟩
abbrev S2x1024 : Shape := ⟨2, ![2, 1024]⟩
abbrev S1024x1792 : Shape := ⟨2, ![1024, 1792]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S8192x32 : S_.BroadcastsInDim S8192x32 (![] : Fin 0 → Fin S8192x32.rank)
  reducesTo_S8192x32_S_d0_1 : S8192x32.ReducesTo [0, 1] S_
  bcast_S_S2x1024 : S_.BroadcastsInDim S2x1024 (![] : Fin 0 → Fin S2x1024.rank)
  reducesTo_S2x1024_S_d0_1 : S2x1024.ReducesTo [0, 1] S_
  bcast_S_S1024x1792 : S_.BroadcastsInDim S1024x1792 (![] : Fin 0 → Fin S1024x1792.rank)
  reducesTo_S1024x1792_S_d0_1 : S1024x1792.ReducesTo [0, 1] S_

variable [Facts]

def fn_part2 {F : FTy → Type} [FloatOps F] (main_arg9 : FVec F S1024x1792 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024x1792 .f32 := Host.absf main_arg9
  let main_cst_14 : FVec F S_ .f32 := constant S_ .f32 0x7F800000#32
  let main_v33 : FVec F S1024x1792 .f32 := broadcastInDim S1024x1792 ![] bcast_S_S1024x1792 main_cst_14
  let main_v34 : IVec S1024x1792 1 := cmpf .olt main_v32 main_v33
  let main_c_15 : IVec S_ 1 := constantI S_ 1 1#1
  let main_v35 : IVec S_ 1 := (fun x v => Host.reduce IntOp.andi x v reducesTo_S1024x1792_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S8192x32 .f32) (main_arg5 : FVec F S8192x32 .f32) (main_arg6 : FVec F S8192x1024 .f32) (main_arg8 : FVec F S2x1024 .f32) (main_arg9 : FVec F S1024x1792 .f32) (main_v3 : IVec S_ 1) (main_v7 : IVec S_ 1) (main_v11 : IVec S_ 1) (main_v15 : IVec S_ 1) : IVec S_ 1 :=
  let main_v16 : FVec F S8192x32 .f32 := Host.absf main_arg4
  let main_cst_6 : FVec F S_ .f32 := constant S_ .f32 0x7F800000#32
  let main_v17 : FVec F S8192x32 .f32 := broadcastInDim S8192x32 ![] bcast_S_S8192x32 main_cst_6
  let main_v18 : IVec S8192x32 1 := cmpf .olt main_v16 main_v17
  let main_c_7 : IVec S_ 1 := constantI S_ 1 1#1
  let main_v19 : IVec S_ 1 := (fun x v => Host.reduce IntOp.andi x v reducesTo_S8192x32_S_d0_1 h_S_) main_v18 main_c_7
  let main_v20 : FVec F S8192x32 .f32 := Host.absf main_arg5
  let main_cst_8 : FVec F S_ .f32 := constant S_ .f32 0x7F800000#32
  let main_v21 : FVec F S8192x32 .f32 := broadcastInDim S8192x32 ![] bcast_S_S8192x32 main_cst_8
  let main_v22 : IVec S8192x32 1 := cmpf .olt main_v20 main_v21
  let main_c_9 : IVec S_ 1 := constantI S_ 1 1#1
  let main_v23 : IVec S_ 1 := (fun x v => Host.reduce IntOp.andi x v reducesTo_S8192x32_S_d0_1 h_S_) main_v22 main_c_9
  let main_v24 : FVec F S8192x1024 .f32 := Host.absf main_arg6
  let main_cst_10 : FVec F S_ .f32 := constant S_ .f32 0x7F800000#32
  let main_v25 : FVec F S8192x1024 .f32 := broadcastInDim S8192x1024 ![] bcast_S_S8192x1024 main_cst_10
  let main_v26 : IVec S8192x1024 1 := cmpf .olt main_v24 main_v25
  let main_c_11 : IVec S_ 1 := constantI S_ 1 1#1
  let main_v27 : IVec S_ 1 := (fun x v => Host.reduce IntOp.andi x v reducesTo_S8192x1024_S_d0_1 h_S_) main_v26 main_c_11
  let main_v28 : FVec F S2x1024 .f32 := Host.absf main_arg8
  let main_cst_12 : FVec F S_ .f32 := constant S_ .f32 0x7F800000#32
  let main_v29 : FVec F S2x1024 .f32 := broadcastInDim S2x1024 ![] bcast_S_S2x1024 main_cst_12
  let main_v30 : IVec S2x1024 1 := cmpf .olt main_v28 main_v29
  let main_c_13 : IVec S_ 1 := constantI S_ 1 1#1
  let main_v31 : IVec S_ 1 := (fun x v => Host.reduce IntOp.andi x v reducesTo_S2x1024_S_d0_1 h_S_) main_v30 main_c_13
  fn_part2 (F := F) main_arg9 main_v3 main_v7 main_v11 main_v15 main_v19 main_v23 main_v27 main_v31

def fn {F : FTy → Type} [FloatOps F] (main_arg0 : FVec F S8192x512 .f32) (main_arg1 : FVec F S8192x128 .f32) (main_arg2 : FVec F S8192x128 .f32) (main_arg3 : FVec F S8192x1024 .f32) (main_arg4 : FVec F S8192x32 .f32) (main_arg5 : FVec F S8192x32 .f32) (main_arg6 : FVec F S8192x1024 .f32) (main_arg7 : FVec F S8192x1024 .f32) (main_arg8 : FVec F S2x1024 .f32) (main_arg9 : FVec F S1024x1792 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : FVec F S8192x128 .f32 := Host.absf main_arg2
  let main_cst_2 : FVec F S_ .f32 := constant S_ .f32 0x7F800000#32
  let main_v9 : FVec F S8192x128 .f32 := broadcastInDim S8192x128 ![] bcast_S_S8192x128 main_cst_2
  let main_v10 : IVec S8192x128 1 := cmpf .olt main_v8 main_v9
  let main_c_3 : IVec S_ 1 := constantI S_ 1 1#1
  let main_v11 : IVec S_ 1 := (fun x v => Host.reduce IntOp.andi x v reducesTo_S8192x128_S_d0_1 h_S_) main_v10 main_c_3
  let main_v12 : FVec F S8192x1024 .f32 := Host.absf main_arg3
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_arg4 main_arg5 main_arg6 main_arg8 main_arg9 main_v3 main_v7 main_v11 main_v15
-- ==== Pre_finite_in.lean ====
abbrev S8192x1024 : Shape := ⟨2, ![8192, 1024]⟩
abbrev S2x1024 : Shape := ⟨2, ![2, 1024]⟩
abbrev S1024x2816 : Shape := ⟨2, ![1024, 2816]⟩
abbrev S2816x1024 : Shape := ⟨2, ![2816, 1024]⟩
abbrev S8192x2816 : Shape := ⟨2, ![8192, 2816]⟩
abbrev S8x128 : Shape := ⟨2, ![8, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg5 : FVec F S8192x2816 .f32) (main_v3 : IVec S_ 1) (main_v7 : IVec S_ 1) (main_v11 : IVec S_ 1) (main_v15 : IVec S_ 1) : IVec S_ 1 :=
  let main_v16 : FVec F S8192x2816 .f32 := Host.absf main_arg5
  let main_cst_6 : FVec F S_ .f32 := constant S_ .f32 0x7F800000#32
  let main_v17 : FVec F S8192x2816 .f32 := broadcastInDim S8192x2816 ![] bcast_S_S8192x2816 main_cst_6
  let main_v18 : IVec S8192x2816 1 := cmpf .olt main_v16 main_v17
  let main_c_7 : IVec S_ 1 := constantI S_ 1 1#1
  let main_v19 : IVec S_ 1 := (fun x v => Host.reduce IntOp.andi x v reducesTo_S8192x2816_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x1024 .f32) (main_arg1 : FVec F S2x1024 .f32) (main_arg2 : FVec F S1024x2816 .f32) (main_arg3 : FVec F S1024x2816 .f32) (main_arg4 : FVec F S2816x1024 .f32) (main_arg5 : FVec F S8192x2816 .f32) (main_arg6 : FVec F S8192x1024 .f32) (main_arg7 : FVec F S8x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg5 main_v3 main_v7 main_v11 main_v15
-- ==== Pre_finite_lo.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg6 : FVec F S8192x1024 .f32) (main_v3 : IVec S_ 1) (main_v7 : IVec S_ 1) (main_v11 : IVec S_ 1) (main_v15 : IVec S_ 1) : IVec S_ 1 :=
  let main_v16 : FVec F S8192x1024 .f32 := Host.absf main_arg6
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x2816 .f32) (main_arg1 : FVec F S8192x1024 .f32) (main_arg2 : FVec F S1024x2816 .f32) (main_arg3 : FVec F S1024x2816 .f32) (main_arg4 : FVec F S2816x1024 .f32) (main_arg5 : FVec F S1024 .f32) (main_arg6 : FVec F S8192x1024 .f32) : IVec S_ 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S2816x1024 .f32 := Host.absf main_arg4
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S1024 .f32 := Host.absf main_arg5
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg6 main_v3 main_v7 main_v11 main_v15
-- ==== Pre_finite_up.lean ====
abbrev S8192x1024 : Shape := ⟨2, ![8192, 1024]⟩
abbrev S2x1024 : Shape := ⟨2, ![2, 1024]⟩
abbrev S1024x2816 : Shape := ⟨2, ![1024, 2816]⟩
abbrev S2816x1024 : Shape := ⟨2, ![2816, 1024]⟩
abbrev S8x128 : Shape := ⟨2, ![8, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2x1024 : S_.BroadcastsInDim S2x1024 (![] : Fin 0 → Fin S2x1024.rank)
  reducesTo_S2x1024_S_d0_1 : S2x1024.ReducesTo [0, 1] S_
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x1024 .f32) (main_arg1 : FVec F S2x1024 .f32) (main_arg2 : FVec F S1024x2816 .f32) (main_arg3 : FVec F S1024x2816 .f32) (main_arg4 : FVec F S2816x1024 .f32) (main_arg5 : FVec F S8x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2x1024 .f32 := Host.absf main_arg1
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_v3 main_v7 main_v11 main_v15
-- ==== Pre_finite_wg.lean ====
abbrev S3x2816x1024 : Shape := ⟨3, ![3, 2816, 1024]⟩
abbrev S8192x2816 : Shape := ⟨2, ![8192, 2816]⟩
abbrev S8192x1024 : Shape := ⟨2, ![8192, 1024]⟩
abbrev S1024x2816 : Shape := ⟨2, ![1024, 2816]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S3x2816x1024 .f32) (main_arg1 : FVec F S8192x2816 .f32) (main_arg2 : FVec F S8192x1024 .f32) (main_arg3 : FVec F S1024x2816 .f32) (main_arg4 : FVec F S1024x2816 .f32) : IVec S_ 1 :=
  let main_v0 : FVec F S8192x2816 .f32 := Host.absf main_arg1
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x1024 .f32 := Host.absf main_arg2
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S1024x2816 .f32 := Host.absf main_arg3
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg4
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_v3 main_v7 main_v11 main_v15
-- ==== Pre_inside_ps.lean ====
abbrev S3 : Shape := ⟨1, ![3]⟩
abbrev S3x2816x1024 : Shape := ⟨3, ![3, 2816, 1024]⟩
abbrev S4x3x352x1024 : Shape := ⟨4, ![4, 3, 352, 1024]⟩
abbrev S_ : Shape := ⟨0, ![]⟩

class Facts : Prop where
  bcast_S_S3 : S_.BroadcastsInDim S3 (![] : Fin 0 → Fin S3.rank)
  reducesTo_S3_S_d0 : S3.ReducesTo [0] S_
  h_S_ : 0 < S_.numel

variable [Facts]

def fn {F : FTy → Type} [FloatOps F] (main_arg0 : IVec S3 32) (main_arg1 : IVec S3 32) (main_arg2 : FVec F S3x2816x1024 .f32) (main_arg3 : FVec F S4x3x352x1024 .f32) : IVec S_ 1 :=
  let main_c : IVec S_ 32 := constantI S_ 32 0#32
  let main_v0 : IVec S3 32 := broadcastInDim S3 ![] bcast_S_S3 main_c
  let main_v1 : IVec S3 1 := cmpi .sge main_arg0 main_v0
  let main_c_0 : IVec S_ 32 := constantI S_ 32 8#32
  let main_v2 : IVec S3 32 := broadcastInDim S3 ![] bcast_S_S3 main_c_0
  let main_v3 : IVec S3 1 := cmpi .slt main_arg0 main_v2
  let main_v4 : IVec S3 1 := andi main_v1 main_v3
  let main_c_1 : IVec S_ 32 := constantI S_ 32 0#32
  let main_v5 : IVec S3 32 := broadcastInDim S3 ![] bcast_S_S3 main_c_1
  let main_v6 : IVec S3 1 := cmpi .sge main_arg1 main_v5
  let main_v7 : IVec S3 1 := andi main_v4 main_v6
  let main_c_2 : IVec S_ 32 := constantI S_ 32 4#32
  let main_v8 : IVec S3 32 := broadcastInDim S3 ![] bcast_S_S3 main_c_2
  let main_v9 : IVec S3 1 := cmpi .slt main_arg1 main_v8
  let main_v10 : IVec S3 1 := andi main_v7 main_v9
  let main_c_3 : IVec S_ 1 := constantI S_ 1 1#1
  let main_v11 : IVec S_ 1 := (fun x v => Host.reduce IntOp.andi x v reducesTo_S3_S_d0 h_S_) main_v10 main_c_3
  main_v11
-- ==== Pre_inside_si.lean ====
abbrev S1 : Shape := ⟨1, ![1]⟩
abbrev S1x1792x1024 : Shape := ⟨3, ![1, 1792, 1024]⟩
abbrev S4x1x224x1024 : Shape := ⟨4, ![4, 1, 224, 1024]⟩
abbrev S3x1x224x1024 : Shape := ⟨4, ![3, 1, 224, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : IVec S1 32) (main_arg2 : FVec F S1x1792x1024 .f32) (main_arg3 : FVec F S4x1x224x1024 .f32) (main_arg4 : FVec F S3x1x224x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 32 := constantI S_ 32 0#32
  let main_v5 : IVec S1 32 := broadcastInDim S1 ![] bcast_S_S1 main_c_1
  let main_v6 : IVec S1 1 := cmpi .sge main_arg1 main_v5
  let main_v7 : IVec S1 1 := andi main_v4 main_v6
  let main_c_2 : IVec S_ 32 := constantI S_ 32 4#32
  let main_v8 : IVec S1 32 := broadcastInDim S1 ![] bcast_S_S1 main_c_2
  let main_v9 : IVec S1 1 := cmpi .slt main_arg1 main_v8
  let main_v10 : IVec S1 1 := andi main_v7 main_v9
  main_v10
-- ==== Pre_inside_so.lean ====
abbrev S1 : Shape := ⟨1, ![1]⟩
abbrev S1x1024x1024 : Shape := ⟨3, ![1, 1024, 1024]⟩
abbrev S4x1x128x1024 : Shape := ⟨4, ![4, 1, 128, 1024]⟩
abbrev S3x1x128x1024 : Shape := ⟨4, ![3, 1, 128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : IVec S1 32) (main_arg2 : FVec F S1x1024x1024 .f32) (main_arg3 : FVec F S4x1x128x1024 .f32) (main_arg4 : FVec F S3x1x128x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 32 := constantI S_ 32 0#32
  let main_v5 : IVec S1 32 := broadcastInDim S1 ![] bcast_S_S1 main_c_1
  let main_v6 : IVec S1 1 := cmpi .sge main_arg1 main_v5
  let main_v7 : IVec S1 1 := andi main_v4 main_v6
  let main_c_2 : IVec S_ 32 := constantI S_ 32 4#32
  let main_v8 : IVec S1 32 := broadcastInDim S1 ![] bcast_S_S1 main_c_2
  let main_v9 : IVec S1 1 := cmpi .slt main_arg1 main_v8
  let main_v10 : IVec S1 1 := andi main_v7 main_v9
  main_v10
-- ==== Pre_inside_su.lean ====
abbrev S1 : Shape := ⟨1, ![1]⟩
abbrev S3x2816x1024 : Shape := ⟨3, ![3, 2816, 1024]⟩
abbrev S4x3x352x1024 : Shape := ⟨4, ![4, 3, 352, 1024]⟩
abbrev S3x3x352x1024 : Shape := ⟨4, ![3, 3, 352, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : IVec S1 32) (main_arg2 : FVec F S3x2816x1024 .f32) (main_arg3 : FVec F S4x3x352x1024 .f32) (main_arg4 : FVec F S3x3x352x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  let main_c_1 : IVec S_ 32 := constantI S_ 32 0#32
  let main_v5 : IVec S1 32 := broadcastInDim S1 ![] bcast_S_S1 main_c_1
  let main_v6 : IVec S1 1 := cmpi .sge main_arg1 main_v5
  let main_v7 : IVec S1 1 := andi main_v4 main_v6
  let main_c_2 : IVec S_ 32 := constantI S_ 32 4#32
  let main_v8 : IVec S1 32 := broadcastInDim S1 ![] bcast_S_S1 main_c_2
  let main_v9 : IVec S1 1 := cmpi .slt main_arg1 main_v8
  let main_v10 : IVec S1 1 := andi main_v7 main_v9
  main_v10
-- ==== KAct.lean ====
abbrev S8192x1024 : Shape := ⟨2, ![8192, 1024]⟩
abbrev S1024x2816 : Shape := ⟨2, ![1024, 2816]⟩
abbrev S2816x1024 : Shape := ⟨2, ![2816, 1024]⟩
abbrev S8x128 : Shape := ⟨2, ![8, 128]⟩
abbrev S1x2816x1024 : Shape := ⟨3, ![1, 2816, 1024]⟩
abbrev S3x2816x1024 : Shape := ⟨3, ![3, 2816, 1024]⟩
abbrev S8192x2816 : Shape := ⟨2, ![8192, 2816]⟩
abbrev S1024x1024 : Shape := ⟨2, ![1024, 1024]⟩
abbrev S1x256x1024 : Shape := ⟨3, ![1, 256, 1024]⟩
abbrev S256x1024 : Shape := ⟨2, ![256, 1024]⟩
abbrev S1024x256 : Shape := ⟨2, ![1024, 256]⟩

abbrev nBuf : Space → Nat
  | .hbm => 14
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8x128, .f32⟩
  | .hbm, ⟨5, _⟩ => ⟨S2816x1024, .f32⟩
  | .hbm, ⟨6, _⟩ => ⟨S2816x1024, .f32⟩
  | .hbm, ⟨7, _⟩ => ⟨S1x2816x1024, .f32⟩
  | .hbm, ⟨8, _⟩ => ⟨S1x2816x1024, .f32⟩
  | .hbm, ⟨9, _⟩ => ⟨S1x2816x1024, .f32⟩
  | .hbm, ⟨10, _⟩ => ⟨S3x2816x1024, .f32⟩
  | .hbm, ⟨11, _⟩ => ⟨S3x2816x1024, .bf16⟩
  | .hbm, ⟨12, _⟩ => ⟨S8192x1024, .bf16⟩
  | .hbm, ⟨13, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1x2816x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x2816, .bf16⟩
  | .local _ .vmem, ⟨6, _⟩ => ⟨S1024x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RActIdeal.lean ====
abbrev S8192x1024 : Shape := ⟨2, ![8192, 1024]⟩
abbrev S1024x2816 : Shape := ⟨2, ![1024, 2816]⟩
abbrev S2816x1024 : Shape := ⟨2, ![2816, 1024]⟩
abbrev S8x128 : Shape := ⟨2, ![8, 128]⟩
abbrev S_ : Shape := ⟨0, ![]⟩
abbrev S8192x2816 : Shape := ⟨2, ![8192, 2816]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8x128, .f32⟩
  | .hbm, ⟨5, _⟩ => ⟨S_, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x2816, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x1024, .bf16⟩
  | .hbm, ⟨24, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== KWd.lean ====
abbrev S3x2816x1024 : Shape := ⟨3, ![3, 2816, 1024]⟩
abbrev S8192x1024 : Shape := ⟨2, ![8192, 1024]⟩
abbrev S1024x2816 : Shape := ⟨2, ![1024, 2816]⟩
abbrev S8192x2816 : Shape := ⟨2, ![8192, 2816]⟩
abbrev S_ : Shape := ⟨0, ![]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 23
  | .vmem => 6
  | .smem => 0
  | _ => 0

abbrev bufTy : (tb : Table) → Fin (tcTables nBuf tb) → BufTy
  | .hbm, ⟨0, _⟩ => ⟨S3x2816x1024, .f32⟩
  | .hbm, ⟨1, _⟩ => ⟨S8192x1024, .f32⟩
  | .hbm, ⟨2, _⟩ => ⟨S8192x1024, .f32⟩
  | .hbm, ⟨3, _⟩ => ⟨S1024x2816, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S3x2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .f32⟩
  | .local _ .vmem, ⟨5, _⟩ => ⟨S1x1408x1024, .f32⟩
  | _, _ => ⟨S3x2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let c0_i32_0 : BitVec 32 := 0#32
  let c0_i32_1 : BitVec 32 := 0#32
  ![c2_i32.toNat, v0.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RWdIdeal.lean ====
abbrev S3x2816x1024 : Shape := ⟨3, ![3, 2816, 1024]⟩
abbrev S8192x1024 : Shape := ⟨2, ![8192, 1024]⟩
abbrev S1024x2816 : Shape := ⟨2, ![1024, 2816]⟩
abbrev S_ : Shape := ⟨0, ![]⟩
abbrev S2816x1024 : Shape := ⟨2, ![2816, 1024]⟩
abbrev S8192x2816 : Shape := ⟨2, ![8192, 2816]⟩
abbrev S2x2816x1024 : Shape := ⟨3, ![2, 2816, 1024]⟩
abbrev S1x2816x1024 : Shape := ⟨3, ![1, 2816, 1024]⟩

abbrev nBuf : Space → Nat
  | .hbm => 31
  | .vmem => 0
  | .smem => 0
  | _ => 0

abbrev bufTy : (tb : Table) → Fin (tcTables nBuf tb) → BufTy
  | .hbm, ⟨0, _⟩ => ⟨S3x2816x1024, .f32⟩
  | .hbm, ⟨1, _⟩ => ⟨S8192x1024, .f32⟩
  | .hbm, ⟨2, _⟩ => ⟨S8192x1024, .f32⟩
  | .hbm, ⟨3, _⟩ => ⟨S1024x2816, .f32⟩
  | .hbm, ⟨4, _⟩ => ⟨S1024x2816, .f32⟩
  | .hbm, ⟨5, _⟩ => ⟨S_, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1024x2816, .f32⟩
  | .hbm, ⟨27, _⟩ => ⟨S2816x1024, .f32⟩
  | .hbm, ⟨28, _⟩ => ⟨S2x2816x1024, .f32⟩
  | .hbm, ⟨29, _⟩ => ⟨S1x2816x1024, .f32⟩
  | .hbm, ⟨30, _⟩ => ⟨S3x2816x1024, .f32⟩
  | _, _ => ⟨S3x2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩

abbrev nD : Nat := 1
abbrev τ : Topo := Topo.v7x

variable {F : FTy → Type} [FloatOps F]
-- ==== KWu.lean ====
abbrev S3x2816x1024 : Shape := ⟨3, ![3, 2816, 1024]⟩
abbrev S8192x2816 : Shape := ⟨2, ![8192, 2816]⟩
abbrev S8192x1024 : Shape := ⟨2, ![8192, 1024]⟩
abbrev S1024x2816 : Shape := ⟨2, ![1024, 2816]⟩
abbrev S_ : Shape := ⟨0, ![]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 42
  | .vmem => 8
  | .smem => 0
  | _ => 0

abbrev bufTy : (tb : Table) → Fin (tcTables nBuf tb) → BufTy
  | .hbm, ⟨0, _⟩ => ⟨S3x2816x1024, .f32⟩
  | .hbm, ⟨1, _⟩ => ⟨S8192x2816, .f32⟩
  | .hbm, ⟨2, _⟩ => ⟨S8192x1024, .f32⟩
  | .hbm, ⟨3, _⟩ => ⟨S1024x2816, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S_, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .bf16⟩
  | .hbm, ⟨38, _⟩ => ⟨S8192x2816, .bf16⟩
  | .hbm, ⟨39, _⟩ => ⟨S8192x2816, .bf16⟩
  | .hbm, ⟨40, _⟩ => ⟨S8192x1024, .bf16⟩
  | .hbm, ⟨41, _⟩ => ⟨S3x2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S2048x1024, .bf16⟩
  | .local _ .vmem, ⟨6, _⟩ => ⟨S1x1408x1024, .f32⟩
  | .local _ .vmem, ⟨7, _⟩ => ⟨S1x1408x1024, .f32⟩
  | _, _ => ⟨S3x2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v6 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RWuIdeal.lean ====
abbrev S3x2816x1024 : Shape := ⟨3, ![3, 2816, 1024]⟩
abbrev S8192x2816 : Shape := ⟨2, ![8192, 2816]⟩
abbrev S8192x1024 : Shape := ⟨2, ![8192, 1024]⟩
abbrev S1024x2816 : Shape := ⟨2, ![1024, 2816]⟩
abbrev S_ : Shape := ⟨0, ![]⟩
abbrev S2816x1024 : Shape := ⟨2, ![2816, 1024]⟩
abbrev S1x2816x1024 : Shape := ⟨3, ![1, 2816, 1024]⟩

abbrev nBuf : Space → Nat
  | .hbm => 25
  | .vmem => 0
  | .smem => 0
  | _ => 0

abbrev bufTy : (tb : Table) → Fin (tcTables nBuf tb) → BufTy
  | .hbm, ⟨0, _⟩ => ⟨S3x2816x1024, .f32⟩
  | .hbm, ⟨1, _⟩ => ⟨S8192x2816, .f32⟩
  | .hbm, ⟨2, _⟩ => ⟨S8192x1024, .f32⟩
  | .hbm, ⟨3, _⟩ => ⟨S1024x2816, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S2816x1024, .f32⟩
  | .hbm, ⟨19, _⟩ => ⟨S1024x2816, .f32⟩
  | .hbm, ⟨20, _⟩ => ⟨S1x2816x1024, .f32⟩
  | .hbm, ⟨21, _⟩ => ⟨S2816x1024, .f32⟩
  | .hbm, ⟨22, _⟩ => ⟨S1x2816x1024, .f32⟩
  | .hbm, ⟨23, _⟩ => ⟨S1x2816x1024, .f32⟩
  | .hbm, ⟨24, _⟩ => ⟨S3x2816x1024, .f32⟩
  | _, _ => ⟨S3x2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== KWg.lean ====
abbrev S3x2816x1024 : Shape := ⟨3, ![3, 2816, 1024]⟩
abbrev S8192x2816 : Shape := ⟨2, ![8192, 2816]⟩
abbrev S8192x1024 : Shape := ⟨2, ![8192, 1024]⟩
abbrev S1024x2816 : Shape := ⟨2, ![1024, 2816]⟩
abbrev S_ : Shape := ⟨0, ![]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 42
  | .vmem => 8
  | .smem => 0
  | _ => 0

abbrev bufTy : (tb : Table) → Fin (tcTables nBuf tb) → BufTy
  | .hbm, ⟨0, _⟩ => ⟨S3x2816x1024, .f32⟩
  | .hbm, ⟨1, _⟩ => ⟨S8192x2816, .f32⟩
  | .hbm, ⟨2, _⟩ => ⟨S8192x1024, .f32⟩
  | .hbm, ⟨3, _⟩ => ⟨S1024x2816, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S_, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .bf16⟩
  | .hbm, ⟨38, _⟩ => ⟨S8192x2816, .bf16⟩
  | .hbm, ⟨39, _⟩ => ⟨S8192x2816, .bf16⟩
  | .hbm, ⟨40, _⟩ => ⟨S8192x1024, .bf16⟩
  | .hbm, ⟨41, _⟩ => ⟨S3x2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S2048x1024, .bf16⟩
  | .local _ .vmem, ⟨6, _⟩ => ⟨S1x1408x1024, .f32⟩
  | .local _ .vmem, ⟨7, _⟩ => ⟨S1x1408x1024, .f32⟩
  | _, _ => ⟨S3x2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v6 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RWgIdeal.lean ====
abbrev S3x2816x1024 : Shape := ⟨3, ![3, 2816, 1024]⟩
abbrev S8192x2816 : Shape := ⟨2, ![8192, 2816]⟩
abbrev S8192x1024 : Shape := ⟨2, ![8192, 1024]⟩
abbrev S1024x2816 : Shape := ⟨2, ![1024, 2816]⟩
abbrev S_ : Shape := ⟨0, ![]⟩
abbrev S2816x1024 : Shape := ⟨2, ![2816, 1024]⟩
abbrev S1x2816x1024 : Shape := ⟨3, ![1, 2816, 1024]⟩
abbrev S2x2816x1024 : Shape := ⟨3, ![2, 2816, 1024]⟩

abbrev nBuf : Space → Nat
  | .hbm => 32
  | .vmem => 0
  | .smem => 0
  | _ => 0

abbrev bufTy : (tb : Table) → Fin (tcTables nBuf tb) → BufTy
  | .hbm, ⟨0, _⟩ => ⟨S3x2816x1024, .f32⟩
  | .hbm, ⟨1, _⟩ => ⟨S8192x2816, .f32⟩
  | .hbm, ⟨2, _⟩ => ⟨S8192x1024, .f32⟩
  | .hbm, ⟨3, _⟩ => ⟨S1024x2816, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S2816x1024, .f32⟩
  | .hbm, ⟨27, _⟩ => ⟨S1024x2816, .f32⟩
  | .hbm, ⟨28, _⟩ => ⟨S2816x1024, .f32⟩
  | .hbm, ⟨29, _⟩ => ⟨S1x2816x1024, .f32⟩
  | .hbm, ⟨30, _⟩ => ⟨S2x2816x1024, .f32⟩
  | .hbm, ⟨31, _⟩ => ⟨S3x2816x1024, .f32⟩
  | _, _ => ⟨S3x2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== KIn.lean ====
abbrev S8192x1024 : Shape := ⟨2, ![8192, 1024]⟩
abbrev S2x1024 : Shape := ⟨2, ![2, 1024]⟩
abbrev S1024x2816 : Shape := ⟨2, ![1024, 2816]⟩
abbrev S2816x1024 : Shape := ⟨2, ![2816, 1024]⟩
abbrev S8192x2816 : Shape := ⟨2, ![8192, 2816]⟩
abbrev S8x128 : Shape := ⟨2, ![8, 128]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x2816x1024 : Shape := ⟨3, ![1, 2816, 1024]⟩
abbrev S3x2816x1024 : Shape := ⟨3, ![3, 2816, 1024]⟩
abbrev S2x1x1024 : Shape := ⟨3, ![2, 1, 1024]⟩
abbrev S512x2816 : Shape := ⟨2, ![512, 2816]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 71
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x2816, .f32⟩
  | .hbm, ⟨6, _⟩ => ⟨S8192x1024, .f32⟩
  | .hbm, ⟨7, _⟩ => ⟨S8x128, .f32⟩
  | .hbm, ⟨8, _⟩ => ⟨S1x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S_, .f32⟩
  | .hbm, ⟨52, _⟩ => ⟨S8192x2816, .f32⟩
  | .hbm, ⟨53, _⟩ => ⟨S8192x2816, .f32⟩
  | .hbm, ⟨54, _⟩ => ⟨S_, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .bf16⟩
  | .hbm, ⟨59, _⟩ => ⟨S8192x2816, .bf16⟩
  | .hbm, ⟨60, _⟩ => ⟨S2816x1024, .f32⟩
  | .hbm, ⟨61, _⟩ => ⟨S2816x1024, .f32⟩
  | .hbm, ⟨62, _⟩ => ⟨S1x2816x1024, .f32⟩
  | .hbm, ⟨63, _⟩ => ⟨S1x2816x1024, .f32⟩
  | .hbm, ⟨64, _⟩ => ⟨S1x2816x1024, .f32⟩
  | .hbm, ⟨65, _⟩ => ⟨S3x2816x1024, .f32⟩
  | .hbm, ⟨66, _⟩ => ⟨S3x2816x1024, .bf16⟩
  | .hbm, ⟨67, _⟩ => ⟨S8192x2816, .bf16⟩
  | .hbm, ⟨68, _⟩ => ⟨S2x1x1024, .f32⟩
  | .hbm, ⟨69, _⟩ => ⟨S8192x1024, .f32⟩
  | .hbm, ⟨70, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x2816x1024, .bf16⟩
  | .local _ .vmem, ⟨12, _⟩ => ⟨S1x2816x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v17_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v17_1 : Ref sig .tc := ⟨.hbm, 39, rfl⟩
abbrev main_v17_0 : Ref sig .tc := ⟨.hbm, 40, rfl⟩
abbrev main_v18 : Ref sig .tc := ⟨.hbm, 41, rfl⟩
abbrev main_cst_2 : Ref sig .tc := ⟨.hbm, 42, rfl⟩
abbrev main_v19 : Ref sig .tc := ⟨.hbm, 43, rfl⟩
abbrev main_v20 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v21 : Ref sig .tc := ⟨.hbm, 48, rfl⟩
abbrev main_call2_v0 : Ref sig .tc := ⟨.hbm, 49, rfl⟩
abbrev main_call2_v1 : Ref sig .tc := ⟨.hbm, 50, rfl⟩
abbrev main_call2_cst : Ref sig .tc := ⟨.hbm, 51, rfl⟩
abbrev main_call2_v2 : Ref sig .tc := ⟨.hbm, 52, rfl⟩
abbrev main_call2_v3 : Ref sig .tc := ⟨.hbm, 53, rfl⟩
abbrev main_call2_cst_0 : Ref sig .tc := ⟨.hbm, 54, rfl⟩
abbrev main_call2_v4 : Ref sig .tc := ⟨.hbm, 55, rfl⟩
abbrev main_call2_v5 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34_0 : Ref sig .tc := ⟨.hbm, 69, rfl⟩
abbrev main_v34_1 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RInIdeal.lean ====
abbrev S8192x1024 : Shape := ⟨2, ![8192, 1024]⟩
abbrev S2x1024 : Shape := ⟨2, ![2, 1024]⟩
abbrev S1024x2816 : Shape := ⟨2, ![1024, 2816]⟩
abbrev S2816x1024 : Shape := ⟨2, ![2816, 1024]⟩
abbrev S8192x2816 : Shape := ⟨2, ![8192, 2816]⟩
abbrev S8x128 : Shape := ⟨2, ![8, 128]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x2816, .f32⟩
  | .hbm, ⟨6, _⟩ => ⟨S8192x1024, .f32⟩
  | .hbm, ⟨7, _⟩ => ⟨S8x128, .f32⟩
  | .hbm, ⟨8, _⟩ => ⟨S1x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x1024, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v19_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v19_1 : Ref sig .tc := ⟨.hbm, 42, rfl⟩
abbrev main_v19_0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_3 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_4 : Ref sig .tc := ⟨.hbm, 61, rfl⟩
abbrev main_v33 : Ref sig .tc := ⟨.hbm, 62, rfl⟩
abbrev main_v34 : Ref sig .tc := ⟨.hbm, 63, rfl⟩
abbrev main_cst_5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_6 : Ref sig .tc := ⟨.hbm, 70, rfl⟩
abbrev main_v40 : Ref sig .tc := ⟨.hbm, 71, rfl⟩
abbrev main_v41 : Ref sig .tc := ⟨.hbm, 72, rfl⟩
abbrev main_cst_7 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩

abbrev nD : Nat := 1
abbrev τ : Topo := Topo.v7x

variable {F : FTy → Type} [FloatOps F]
-- ==== KUp.lean ====
abbrev S8192x1024 : Shape := ⟨2, ![8192, 1024]⟩
abbrev S2x1024 : Shape := ⟨2, ![2, 1024]⟩
abbrev S1024x2816 : Shape := ⟨2, ![1024, 2816]⟩
abbrev S2816x1024 : Shape := ⟨2, ![2816, 1024]⟩
abbrev S8x128 : Shape := ⟨2, ![8, 128]⟩
abbrev S2x1x1024 : Shape := ⟨3, ![2, 1, 1024]⟩
abbrev S1x2816x1024 : Shape := ⟨3, ![1, 2816, 1024]⟩
abbrev S3x2816x1024 : Shape := ⟨3, ![3, 2816, 1024]⟩
abbrev S8192x2816 : Shape := ⟨2, ![8192, 2816]⟩
abbrev S256x1024 : Shape := ⟨2, ![256, 1024]⟩
abbrev S1x1x1024 : Shape := ⟨3, ![1, 1, 1024]⟩
abbrev S256x2816 : Shape := ⟨2, ![256, 2816]⟩
abbrev S1x1024 : Shape := ⟨2, ![1, 1024]⟩
abbrev S256 : Shape := ⟨1, ![256]⟩
abbrev S256x1 : Shape := ⟨2, ![256, 1]⟩
abbrev S1x256x1024 : Shape := ⟨3, ![1, 256, 1024]⟩
abbrev S256x256 : Shape := ⟨2, ![256, 256]⟩

abbrev nBuf : Space → Nat
  | .hbm => 18
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x128, .f32⟩
  | .hbm, ⟨6, _⟩ => ⟨S2x1x1024, .f32⟩
  | .hbm, ⟨7, _⟩ => ⟨S2816x1024, .f32⟩
  | .hbm, ⟨8, _⟩ => ⟨S2816x1024, .f32⟩
  | .hbm, ⟨9, _⟩ => ⟨S1x2816x1024, .f32⟩
  | .hbm, ⟨10, _⟩ => ⟨S1x2816x1024, .f32⟩
  | .hbm, ⟨11, _⟩ => ⟨S1x2816x1024, .f32⟩
  | .hbm, ⟨12, _⟩ => ⟨S3x2816x1024, .f32⟩
  | .hbm, ⟨13, _⟩ => ⟨S3x2816x1024, .bf16⟩
  | .hbm, ⟨14, _⟩ => ⟨S8192x1024, .bf16⟩
  | .hbm, ⟨15, _⟩ => ⟨S8192x2816, .bf16⟩
  | .hbm, ⟨16, _⟩ => ⟨S8192x2816, .bf16⟩
  | .hbm, ⟨17, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x2816x1024, .bf16⟩
  | .local _ .vmem, ⟨4, _⟩ => ⟨S1x2816x1024, .bf16⟩
  | .local _ .vmem, ⟨5, _⟩ => ⟨S256x1024, .bf16⟩
  | .local _ .vmem, ⟨6, _⟩ => ⟨S256x1024, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RUpIdeal.lean ====
abbrev S8192x1024 : Shape := ⟨2, ![8192, 1024]⟩
abbrev S2x1024 : Shape := ⟨2, ![2, 1024]⟩
abbrev S1024x2816 : Shape := ⟨2, ![1024, 2816]⟩
abbrev S2816x1024 : Shape := ⟨2, ![2816, 1024]⟩
abbrev S8x128 : Shape := ⟨2, ![8, 128]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x128, .f32⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S_, .f32⟩
  | .hbm, ⟨50, _⟩ => ⟨S8192x2816, .f32⟩
  | .hbm, ⟨51, _⟩ => ⟨S8192x2816, .f32⟩
  | .hbm, ⟨52, _⟩ => ⟨S_, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .bf16⟩
  | .hbm, ⟨57, _⟩ => ⟨S8192x2816, .bf16⟩
  | .hbm, ⟨58, _⟩ => ⟨S8192x1024, .bf16⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S_, .f32⟩
  | .hbm, ⟨63, _⟩ => ⟨S8192x2816, .f32⟩
  | .hbm, ⟨64, _⟩ => ⟨S8192x2816, .f32⟩
  | .hbm, ⟨65, _⟩ => ⟨S_, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v17_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v17_1 : Ref sig .tc := ⟨.hbm, 37, rfl⟩
abbrev main_v17_0 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v21 : Ref sig .tc := ⟨.hbm, 46, rfl⟩
abbrev main_call2_v0 : Ref sig .tc := ⟨.hbm, 47, rfl⟩
abbrev main_call2_v1 : Ref sig .tc := ⟨.hbm, 48, rfl⟩
abbrev main_call2_cst : Ref sig .tc := ⟨.hbm, 49, rfl⟩
abbrev main_call2_v2 : Ref sig .tc := ⟨.hbm, 50, rfl⟩
abbrev main_call2_v3 : Ref sig .tc := ⟨.hbm, 51, rfl⟩
abbrev main_call2_cst_0 : Ref sig .tc := ⟨.hbm, 52, rfl⟩
abbrev main_call2_v4 : Ref sig .tc := ⟨.hbm, 53, rfl⟩
abbrev main_call2_v5 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_call3_v0 : Ref sig .tc := ⟨.hbm, 60, rfl⟩
abbrev main_call3_v1 : Ref sig .tc := ⟨.hbm, 61, rfl⟩
abbrev main_call3_cst : Ref sig .tc := ⟨.hbm, 62, rfl⟩
abbrev main_call3_v2 : Ref sig .tc := ⟨.hbm, 63, rfl⟩
abbrev main_call3_v3 : Ref sig .tc := ⟨.hbm, 64, rfl⟩
abbrev main_call3_cst_0 : Ref sig .tc := ⟨.hbm, 65, rfl⟩
abbrev main_call3_v4 : Ref sig .tc := ⟨.hbm, 66, rfl⟩
abbrev main_call3_v5 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩

abbrev nD : Nat := 1
abbrev τ : Topo := Topo.v7x

variable {F : FTy → Type} [FloatOps F]
-- ==== KDn.lean ====
abbrev S8192x1024 : Shape := ⟨2, ![8192, 1024]⟩
abbrev S1024x2816 : Shape := ⟨2, ![1024, 2816]⟩
abbrev S2816x1024 : Shape := ⟨2, ![2816, 1024]⟩
abbrev S8x128 : Shape := ⟨2, ![8, 128]⟩
abbrev S8192x2816 : Shape := ⟨2, ![8192, 2816]⟩
abbrev S_ : Shape := ⟨0, ![]⟩
abbrev S1x2816x1024 : Shape := ⟨3, ![1, 2816, 1024]⟩
abbrev S3x2816x1024 : Shape := ⟨3, ![3, 2816, 1024]⟩
abbrev S1024x1024 : Shape := ⟨2, ![1024, 1024]⟩

abbrev nBuf : Space → Nat
  | .hbm => 27
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x128, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .bf16⟩
  | .hbm, ⟨19, _⟩ => ⟨S2816x1024, .f32⟩
  | .hbm, ⟨20, _⟩ => ⟨S2816x1024, .f32⟩
  | .hbm, ⟨21, _⟩ => ⟨S1x2816x1024, .f32⟩
  | .hbm, ⟨22, _⟩ => ⟨S1x2816x1024, .f32⟩
  | .hbm, ⟨23, _⟩ => ⟨S1x2816x1024, .f32⟩
  | .hbm, ⟨24, _⟩ => ⟨S3x2816x1024, .f32⟩
  | .hbm, ⟨25, _⟩ => ⟨S3x2816x1024, .bf16⟩
  | .hbm, ⟨26, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S1x2816x1024, .bf16⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RDnIdeal.lean ====
abbrev S8192x1024 : Shape := ⟨2, ![8192, 1024]⟩
abbrev S1024x2816 : Shape := ⟨2, ![1024, 2816]⟩
abbrev S2816x1024 : Shape := ⟨2, ![2816, 1024]⟩
abbrev S8x128 : Shape := ⟨2, ![8, 128]⟩
abbrev S8192x2816 : Shape := ⟨2, ![8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x128, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩

abbrev nD : Nat := 1
abbrev τ : Topo := Topo.v7x

variable {F : FTy → Type} [FloatOps F]
-- ==== KAd.lean ====
abbrev S2x352x1024 : Shape := ⟨3, ![2, 352, 1024]⟩
abbrev S704x1024 : Shape := ⟨2, ![704, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RAdIdeal.lean ====
abbrev S2x352x1024 : Shape := ⟨3, ![2, 352, 1024]⟩
abbrev S_ : Shape := ⟨0, ![]⟩
abbrev S704x1024 : Shape := ⟨2, ![704, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S_, .f32⟩
  | .hbm, ⟨5, _⟩ => ⟨S2x352x1024, .f32⟩
  | .hbm, ⟨6, _⟩ => ⟨S2x352x1024, .f32⟩
  | .hbm, ⟨7, _⟩ => ⟨S_, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S_, .f32⟩
  | .hbm, ⟨23, _⟩ => ⟨S2x352x1024, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S704x1024, .f32⟩
  | .hbm, ⟨38, _⟩ => ⟨S704x1024, .f32⟩
  | .hbm, ⟨39, _⟩ => ⟨S704x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KAu.lean ====
abbrev S2x1024x352 : Shape := ⟨3, ![2, 1024, 352]⟩
abbrev S2x352x1024 : Shape := ⟨3, ![2, 352, 1024]⟩
abbrev S704x1024 : Shape := ⟨2, ![704, 1024]⟩
abbrev S352x1024 : Shape := ⟨2, ![352, 1024]⟩

abbrev nBuf : Space → Nat
  | .hbm => 15
  | .vmem => 14
  | .smem => 0
  | _ => 0

abbrev bufTy : (tb : Table) → Fin (tcTables nBuf tb) → BufTy
  | .hbm, ⟨0, _⟩ => ⟨S2x1024x352, .f32⟩
  | .hbm, ⟨1, _⟩ => ⟨S2x1024x352, .f32⟩
  | .hbm, ⟨2, _⟩ => ⟨S2x1024x352, .f32⟩
  | .hbm, ⟨3, _⟩ => ⟨S2x1024x352, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S2x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RAuIdeal.lean ====
abbrev S2x1024x352 : Shape := ⟨3, ![2, 1024, 352]⟩
abbrev S_ : Shape := ⟨0, ![]⟩
abbrev S2x352x1024 : Shape := ⟨3, ![2, 352, 1024]⟩
abbrev S704x1024 : Shape := ⟨2, ![704, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x1024x352, .f32⟩
  | .hbm, ⟨1, _⟩ => ⟨S2x1024x352, .f32⟩
  | .hbm, ⟨2, _⟩ => ⟨S2x1024x352, .f32⟩
  | .hbm, ⟨3, _⟩ => ⟨S2x1024x352, .f32⟩
  | .hbm, ⟨4, _⟩ => ⟨S_, .f32⟩
  | .hbm, ⟨5, _⟩ => ⟨S2x1024x352, .f32⟩
  | .hbm, ⟨6, _⟩ => ⟨S2x1024x352, .f32⟩
  | .hbm, ⟨7, _⟩ => ⟨S_, .f32⟩
  | .hbm, ⟨8, _⟩ => ⟨S2x1024x352, .f32⟩
  | .hbm, ⟨9, _⟩ => ⟨S2x1024x352, .f32⟩
  | .hbm, ⟨10, _⟩ => ⟨S2x1024x352, .f32⟩
  | .hbm, ⟨11, _⟩ => ⟨S_, .f32⟩
  | .hbm, ⟨12, _⟩ => ⟨S2x1024x352, .f32⟩
  | .hbm, ⟨13, _⟩ => ⟨S2x1024x352, .f32⟩
  | .hbm, ⟨14, _⟩ => ⟨S2x1024x352, .f32⟩
  | .hbm, ⟨15, _⟩ => ⟨S_, .f32⟩
  | .hbm, ⟨16, _⟩ => ⟨S2x1024x352, .f32⟩
  | .hbm, ⟨17, _⟩ => ⟨S2x1024x352, .f32⟩
  | .hbm, ⟨18, _⟩ => ⟨S2x1024x352, .f32⟩
  | .hbm, ⟨19, _⟩ => ⟨S_, .f32⟩
  | .hbm, ⟨20, _⟩ => ⟨S2x1024x352, .f32⟩
  | .hbm, ⟨21, _⟩ => ⟨S2x1024x352, .f32⟩
  | .hbm, ⟨22, _⟩ => ⟨S_, .f32⟩
  | .hbm, ⟨23, _⟩ => ⟨S2x1024x352, .f32⟩
  | .hbm, ⟨24, _⟩ => ⟨S2x1024x352, .f32⟩
  | .hbm, ⟨25, _⟩ => ⟨S2x1024x352, .f32⟩
  | .hbm, ⟨26, _⟩ => ⟨S_, .f32⟩
  | .hbm, ⟨27, _⟩ => ⟨S2x1024x352, .f32⟩
  | .hbm, ⟨28, _⟩ => ⟨S2x1024x352, .f32⟩
  | .hbm, ⟨29, _⟩ => ⟨S2x1024x352, .f32⟩
  | .hbm, ⟨30, _⟩ => ⟨S_, .f32⟩
  | .hbm, ⟨31, _⟩ => ⟨S2x1024x352, .f32⟩
  | .hbm, ⟨32, _⟩ => ⟨S2x1024x352, .f32⟩
  | .hbm, ⟨33, _⟩ => ⟨S2x1024x352, .f32⟩
  | .hbm, ⟨34, _⟩ => ⟨S_, .f32⟩
  | .hbm, ⟨35, _⟩ => ⟨S2x1024x352, .f32⟩
  | .hbm, ⟨36, _⟩ => ⟨S2x1024x352, .f32⟩
  | .hbm, ⟨37, _⟩ => ⟨S2x352x1024, .f32⟩
  | .hbm, ⟨38, _⟩ => ⟨S704x1024, .f32⟩
  | .hbm, ⟨39, _⟩ => ⟨S2x352x1024, .f32⟩
  | .hbm, ⟨40, _⟩ => ⟨S704x1024, .f32⟩
  | .hbm, ⟨41, _⟩ => ⟨S2x352x1024, .f32⟩
  | .hbm, ⟨42, _⟩ => ⟨S704x1024, .f32⟩
  | _, _ => ⟨S2x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== KAi.lean ====
abbrev S2x1024x224 : Shape := ⟨3, ![2, 1024, 224]⟩
abbrev S2x224x1024 : Shape := ⟨3, ![2, 224, 1024]⟩
abbrev S448x1024 : Shape := ⟨2, ![448, 1024]⟩

abbrev nBuf : Space → Nat
  | .hbm => 15
  | .vmem => 7
  | .smem => 0
  | _ => 0

abbrev bufTy : (tb : Table) → Fin (tcTables nBuf tb) → BufTy
  | .hbm, ⟨0, _⟩ => ⟨S2x1024x224, .f32⟩
  | .hbm, ⟨1, _⟩ => ⟨S2x1024x224, .f32⟩
  | .hbm, ⟨2, _⟩ => ⟨S2x1024x224, .f32⟩
  | .hbm, ⟨3, _⟩ => ⟨S2x1024x224, .f32⟩
  | .hbm, ⟨4, _⟩ => ⟨S2x224x1024, .f32⟩
  | .hbm, ⟨5, _⟩ => ⟨S2x224x1024, .f32⟩
  | .hbm, ⟨6, _⟩ => ⟨S2x224x1024, .f32⟩
  | .hbm, ⟨7, _⟩ => ⟨S2x224x1024, .f32⟩
  | .hbm, ⟨8, _⟩ => ⟨S448x1024, .f32⟩
  | .hbm, ⟨9, _⟩ => ⟨S448x1024, .f32⟩
  | .hbm, ⟨10, _⟩ => ⟨S448x1024, .f32⟩
  | .hbm, ⟨11, _⟩ => ⟨S448x1024, .f32⟩
  | .hbm, ⟨12, _⟩ => ⟨S448x1024, .f32⟩
  | .hbm, ⟨13, _⟩ => ⟨S448x1024, .f32⟩
  | .hbm, ⟨14, _⟩ => ⟨S448x1024, .f32⟩
  | .local _ .vmem, ⟨0, _⟩ => ⟨S448x1024, .f32⟩
  | .local _ .vmem, ⟨1, _⟩ => ⟨S448x1024, .f32⟩
  | .local _ .vmem, ⟨2, _⟩ => ⟨S448x1024, .f32⟩
  | .local _ .vmem, ⟨3, _⟩ => ⟨S448x1024, .f32⟩
  | .local _ .vmem, ⟨4, _⟩ => ⟨S448x1024, .f32⟩
  | .local _ .vmem, ⟨5, _⟩ => ⟨S448x1024, .f32⟩
  | .local _ .vmem, ⟨6, _⟩ => ⟨S448x1024, .f32⟩
  | _, _ => ⟨S2x1024x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S448x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S448x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S448x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S448x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S448x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S448x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S448x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RAiIdeal.lean ====
abbrev S2x1024x224 : Shape := ⟨3, ![2, 1024, 224]⟩
abbrev S_ : Shape := ⟨0, ![]⟩
abbrev S2x224x1024 : Shape := ⟨3, ![2, 224, 1024]⟩
abbrev S448x1024 : Shape := ⟨2, ![448, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x1024x224, .f32⟩
  | .hbm, ⟨1, _⟩ => ⟨S2x1024x224, .f32⟩
  | .hbm, ⟨2, _⟩ => ⟨S2x1024x224, .f32⟩
  | .hbm, ⟨3, _⟩ => ⟨S2x1024x224, .f32⟩
  | .hbm, ⟨4, _⟩ => ⟨S_, .f32⟩
  | .hbm, ⟨5, _⟩ => ⟨S2x1024x224, .f32⟩
  | .hbm, ⟨6, _⟩ => ⟨S2x1024x224, .f32⟩
  | .hbm, ⟨7, _⟩ => ⟨S_, .f32⟩
  | .hbm, ⟨8, _⟩ => ⟨S2x1024x224, .f32⟩
  | .hbm, ⟨9, _⟩ => ⟨S2x1024x224, .f32⟩
  | .hbm, ⟨10, _⟩ => ⟨S2x1024x224, .f32⟩
  | .hbm, ⟨11, _⟩ => ⟨S_, .f32⟩
  | .hbm, ⟨12, _⟩ => ⟨S2x1024x224, .f32⟩
  | .hbm, ⟨13, _⟩ => ⟨S2x1024x224, .f32⟩
  | .hbm, ⟨14, _⟩ => ⟨S2x1024x224, .f32⟩
  | .hbm, ⟨15, _⟩ => ⟨S_, .f32⟩
  | .hbm, ⟨16, _⟩ => ⟨S2x1024x224, .f32⟩
  | .hbm, ⟨17, _⟩ => ⟨S2x1024x224, .f32⟩
  | .hbm, ⟨18, _⟩ => ⟨S2x1024x224, .f32⟩
  | .hbm, ⟨19, _⟩ => ⟨S_, .f32⟩
  | .hbm, ⟨20, _⟩ => ⟨S2x1024x224, .f32⟩
  | .hbm, ⟨21, _⟩ => ⟨S2x1024x224, .f32⟩
  | .hbm, ⟨22, _⟩ => ⟨S_, .f32⟩
  | .hbm, ⟨23, _⟩ => ⟨S2x1024x224, .f32⟩
  | .hbm, ⟨24, _⟩ => ⟨S2x1024x224, .f32⟩
  | .hbm, ⟨25, _⟩ => ⟨S2x1024x224, .f32⟩
  | .hbm, ⟨26, _⟩ => ⟨S_, .f32⟩
  | .hbm, ⟨27, _⟩ => ⟨S2x1024x224, .f32⟩
  | .hbm, ⟨28, _⟩ => ⟨S2x1024x224, .f32⟩
  | .hbm, ⟨29, _⟩ => ⟨S2x1024x224, .f32⟩
  | .hbm, ⟨30, _⟩ => ⟨S_, .f32⟩
  | .hbm, ⟨31, _⟩ => ⟨S2x1024x224, .f32⟩
  | .hbm, ⟨32, _⟩ => ⟨S2x1024x224, .f32⟩
  | .hbm, ⟨33, _⟩ => ⟨S2x1024x224, .f32⟩
  | .hbm, ⟨34, _⟩ => ⟨S_, .f32⟩
  | .hbm, ⟨35, _⟩ => ⟨S2x1024x224, .f32⟩
  | .hbm, ⟨36, _⟩ => ⟨S2x1024x224, .f32⟩
  | .hbm, ⟨37, _⟩ => ⟨S2x224x1024, .f32⟩
  | .hbm, ⟨38, _⟩ => ⟨S448x1024, .f32⟩
  | .hbm, ⟨39, _⟩ => ⟨S2x224x1024, .f32⟩
  | .hbm, ⟨40, _⟩ => ⟨S448x1024, .f32⟩
  | .hbm, ⟨41, _⟩ => ⟨S2x224x1024, .f32⟩
  | .hbm, ⟨42, _⟩ => ⟨S448x1024, .f32⟩
  | _, _ => ⟨S2x1024x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== KAo.lean ====
abbrev S2x128x1024 : Shape := ⟨3, ![2, 128, 1024]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RAoIdeal.lean ====
abbrev S2x128x1024 : Shape := ⟨3, ![2, 128, 1024]⟩
abbrev S_ : Shape := ⟨0, ![]⟩
abbrev S256x1024 : Shape := ⟨2, ![256, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S_, .f32⟩
  | .hbm, ⟨5, _⟩ => ⟨S2x128x1024, .f32⟩
  | .hbm, ⟨6, _⟩ => ⟨S2x128x1024, .f32⟩
  | .hbm, ⟨7, _⟩ => ⟨S_, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S_, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .hbm, ⟨15, _⟩ => ⟨S_, .f32⟩
  | .hbm, ⟨16, _⟩ => ⟨S2x128x1024, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S_, .f32⟩
  | .hbm, ⟨23, _⟩ => ⟨S2x128x1024, .f32⟩
  | .hbm, ⟨24, _⟩ => ⟨S2x128x1024, .f32⟩
  | .hbm, ⟨25, _⟩ => ⟨S2x128x1024, .f32⟩
  | .hbm, ⟨26, _⟩ => ⟨S_, .f32⟩
  | .hbm, ⟨27, _⟩ => ⟨S2x128x1024, .f32⟩
  | .hbm, ⟨28, _⟩ => ⟨S2x128x1024, .f32⟩
  | .hbm, ⟨29, _⟩ => ⟨S2x128x1024, .f32⟩
  | .hbm, ⟨30, _⟩ => ⟨S_, .f32⟩
  | .hbm, ⟨31, _⟩ => ⟨S2x128x1024, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S256x1024, .f32⟩
  | .hbm, ⟨38, _⟩ => ⟨S256x1024, .f32⟩
  | .hbm, ⟨39, _⟩ => ⟨S256x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KMo.lean ====
abbrev S8192x1024 : Shape := ⟨2, ![8192, 1024]⟩
abbrev S1024x1024 : Shape := ⟨2, ![1024, 1024]⟩
abbrev S8x128 : Shape := ⟨2, ![8, 128]⟩
abbrev S1x1024x1024 : Shape := ⟨3, ![1, 1024, 1024]⟩
abbrev S8192x512 : Shape := ⟨2, ![8192, 512]⟩
abbrev S1024x512 : Shape := ⟨2, ![1024, 512]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8x128, .f32⟩
  | .hbm, ⟨3, _⟩ => ⟨S1x1024x1024, .f32⟩
  | .hbm, ⟨4, _⟩ => ⟨S1x1024x1024, .bf16⟩
  | .hbm, ⟨5, _⟩ => ⟨S8192x1024, .bf16⟩
  | .hbm, ⟨6, _⟩ => ⟨S8192x512, .bf16⟩
  | .hbm, ⟨7, _⟩ => ⟨S8192x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RMoIdeal.lean ====
abbrev S8192x1024 : Shape := ⟨2, ![8192, 1024]⟩
abbrev S1024x1024 : Shape := ⟨2, ![1024, 1024]⟩
abbrev S8x128 : Shape := ⟨2, ![8, 128]⟩
abbrev S_ : Shape := ⟨0, ![]⟩
abbrev S8192x512 : Shape := ⟨2, ![8192, 512]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8x128, .f32⟩
  | .hbm, ⟨3, _⟩ => ⟨S_, .f32⟩
  | .hbm, ⟨4, _⟩ => ⟨S8192x512, .f32⟩
  | .hbm, ⟨5, _⟩ => ⟨S_, .f32⟩
  | .hbm, ⟨6, _⟩ => ⟨S8192x512, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x512, .f32⟩
  | .hbm, ⟨11, _⟩ => ⟨S8192x512, .f32⟩
  | .hbm, ⟨12, _⟩ => ⟨S8192x1024, .bf16⟩
  | .hbm, ⟨13, _⟩ => ⟨S8192x512, .bf16⟩
  | .hbm, ⟨14, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== KWa.lean ====
abbrev S1x1024x1024 : Shape := ⟨3, ![1, 1024, 1024]⟩
abbrev S8192x512 : Shape := ⟨2, ![8192, 512]⟩
abbrev S8192x1024 : Shape := ⟨2, ![8192, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S8192x512, .f32⟩
  | .hbm, ⟨2, _⟩ => ⟨S8192x1024, .f32⟩
  | .hbm, ⟨3, _⟩ => ⟨S8192x512, .bf16⟩
  | .hbm, ⟨4, _⟩ => ⟨S8192x1024, .bf16⟩
  | .hbm, ⟨5, _⟩ => ⟨S1x1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RWaIdeal.lean ====
abbrev S1x1024x1024 : Shape := ⟨3, ![1, 1024, 1024]⟩
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S1x512x1024 : Shape := ⟨3, ![1, 512, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S8192x512, .f32⟩
  | .hbm, ⟨2, _⟩ => ⟨S8192x1024, .f32⟩
  | .hbm, ⟨3, _⟩ => ⟨S_, .f32⟩
  | .hbm, ⟨4, _⟩ => ⟨S512x1024, .f32⟩
  | .hbm, ⟨5, _⟩ => ⟨S8192x1024, .f32⟩
  | .hbm, ⟨6, _⟩ => ⟨S1024x512, .f32⟩
  | .hbm, ⟨7, _⟩ => ⟨S512x1024, .f32⟩
  | .hbm, ⟨8, _⟩ => ⟨S1x512x1024, .f32⟩
  | .hbm, ⟨9, _⟩ => ⟨S512x1024, .f32⟩
  | .hbm, ⟨10, _⟩ => ⟨S1024x1024, .f32⟩
  | .hbm, ⟨11, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KWc.lean ====
abbrev S1x1024x1024 : Shape := ⟨3, ![1, 1024, 1024]⟩
abbrev S8192x512 : Shape := ⟨2, ![8192, 512]⟩
abbrev S8192x1024 : Shape := ⟨2, ![8192, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S8192x512, .f32⟩
  | .hbm, ⟨2, _⟩ => ⟨S8192x1024, .f32⟩
  | .hbm, ⟨3, _⟩ => ⟨S8192x512, .bf16⟩
  | .hbm, ⟨4, _⟩ => ⟨S8192x1024, .bf16⟩
  | .hbm, ⟨5, _⟩ => ⟨S1x1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, v0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RWcIdeal.lean ====
abbrev S1x1024x1024 : Shape := ⟨3, ![1, 1024, 1024]⟩
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S1x512x1024 : Shape := ⟨3, ![1, 512, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S8192x512, .f32⟩
  | .hbm, ⟨2, _⟩ => ⟨S8192x1024, .f32⟩
  | .hbm, ⟨3, _⟩ => ⟨S_, .f32⟩
  | .hbm, ⟨4, _⟩ => ⟨S512x1024, .f32⟩
  | .hbm, ⟨5, _⟩ => ⟨S8192x1024, .f32⟩
  | .hbm, ⟨6, _⟩ => ⟨S1024x512, .f32⟩
  | .hbm, ⟨7, _⟩ => ⟨S512x1024, .f32⟩
  | .hbm, ⟨8, _⟩ => ⟨S1x512x1024, .f32⟩
  | .hbm, ⟨9, _⟩ => ⟨S512x1024, .f32⟩
  | .hbm, ⟨10, _⟩ => ⟨S1024x1024, .f32⟩
  | .hbm, ⟨11, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KWi.lean ====
abbrev S1x1792x1024 : Shape := ⟨3, ![1, 1792, 1024]⟩
abbrev S8192x1792 : Shape := ⟨2, ![8192, 1792]⟩
abbrev S8192x1024 : Shape := ⟨2, ![8192, 1024]⟩
abbrev S2048x896 : Shape := ⟨2, ![2048, 896]⟩
abbrev S2048x1024 : Shape := ⟨2, ![2048, 1024]⟩
abbrev S1x896x1024 : Shape := ⟨3, ![1, 896, 1024]⟩
abbrev S896x1024 : Shape := ⟨2, ![896, 1024]⟩

abbrev nBuf : Space → Nat
  | .hbm => 6
  | .vmem => 6
  | .smem => 0
  | _ => 0

abbrev bufTy : (tb : Table) → Fin (tcTables nBuf tb) → BufTy
  | .hbm, ⟨0, _⟩ => ⟨S1x1792x1024, .f32⟩
  | .hbm, ⟨1, _⟩ => ⟨S8192x1792, .f32⟩
  | .hbm, ⟨2, _⟩ => ⟨S8192x1024, .f32⟩
  | .hbm, ⟨3, _⟩ => ⟨S8192x1792, .bf16⟩
  | .hbm, ⟨4, _⟩ => ⟨S8192x1024, .bf16⟩
  | .hbm, ⟨5, _⟩ => ⟨S1x1792x1024, .f32⟩
  | .local _ .vmem, ⟨0, _⟩ => ⟨S2048x896, .bf16⟩
  | .local _ .vmem, ⟨1, _⟩ => ⟨S2048x896, .bf16⟩
  | .local _ .vmem, ⟨2, _⟩ => ⟨S2048x1024, .bf16⟩
  | .local _ .vmem, ⟨3, _⟩ => ⟨S2048x1024, .bf16⟩
  | .local _ .vmem, ⟨4, _⟩ => ⟨S1x896x1024, .f32⟩
  | .local _ .vmem, ⟨5, _⟩ => ⟨S1x896x1024, .f32⟩
  | _, _ => ⟨S1x1792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RWiIdeal.lean ====
abbrev S1x1792x1024 : Shape := ⟨3, ![1, 1792, 1024]⟩
abbrev S8192x1792 : Shape := ⟨2, ![8192, 1792]⟩
abbrev S8192x1024 : Shape := ⟨2, ![8192, 1024]⟩
abbrev S_ : Shape := ⟨0, ![]⟩
abbrev S1024x1792 : Shape := ⟨2, ![1024, 1792]⟩
abbrev S1792x1024 : Shape := ⟨2, ![1792, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1x1792x1024, .f32⟩
  | .hbm, ⟨1, _⟩ => ⟨S8192x1792, .f32⟩
  | .hbm, ⟨2, _⟩ => ⟨S8192x1024, .f32⟩
  | .hbm, ⟨3, _⟩ => ⟨S_, .f32⟩
  | .hbm, ⟨4, _⟩ => ⟨S1024x1792, .f32⟩
  | .hbm, ⟨5, _⟩ => ⟨S8192x1792, .f32⟩
  | .hbm, ⟨6, _⟩ => ⟨S1792x1024, .f32⟩
  | .hbm, ⟨7, _⟩ => ⟨S1024x1792, .f32⟩
  | .hbm, ⟨8, _⟩ => ⟨S1792x1024, .f32⟩
  | .hbm, ⟨9, _⟩ => ⟨S1x1792x1024, .f32⟩
  | _, _ => ⟨S1x1792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KMx.lean ====
abbrev S8192x512 : Shape := ⟨2, ![8192, 512]⟩
abbrev S8192x1024 : Shape := ⟨2, ![8192, 1024]⟩
abbrev S1024x1024 : Shape := ⟨2, ![1024, 1024]⟩
abbrev S1x1024x1024 : Shape := ⟨3, ![1, 1024, 1024]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S1024x1024, .f32⟩
  | .hbm, ⟨4, _⟩ => ⟨S8192x512, .bf16⟩
  | .hbm, ⟨5, _⟩ => ⟨S8192x512, .bf16⟩
  | .hbm, ⟨6, _⟩ => ⟨S1x1024x1024, .f32⟩
  | .hbm, ⟨7, _⟩ => ⟨S1x1024x1024, .bf16⟩
  | .hbm, ⟨8, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1x1024x1024, .bf16⟩
  | .local _ .vmem, ⟨7, _⟩ => ⟨S1024x1024, .f32⟩
  | .local _ .vmem, ⟨8, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RMxIdeal.lean ====
abbrev S8192x512 : Shape := ⟨2, ![8192, 512]⟩
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== KAs.lean ====
abbrev S2x1024 : Shape := ⟨2, ![2, 1024]⟩
abbrev S2x31x64 : Shape := ⟨3, ![2, 31, 64]⟩
abbrev S2x512 : Shape := ⟨2, ![2, 512]⟩
abbrev S2x8 : Shape := ⟨2, ![2, 8]⟩
abbrev S1024 : Shape := ⟨1, ![1024]⟩
abbrev S2048 : Shape := ⟨1, ![2048]⟩
abbrev S_ : Shape := ⟨0, ![]⟩
abbrev S3968 : Shape := ⟨1, ![3968]⟩
abbrev S4096 : Shape := ⟨1, ![4096]⟩
abbrev S16 : Shape := ⟨1, ![16]⟩
abbrev S15360 : Shape := ⟨1, ![15360]⟩
abbrev S120x128 : Shape := ⟨2, ![120, 128]⟩

abbrev nBuf : Space → Nat
  | .hbm => 187
  | .vmem => 7
  | .smem => 0
  | _ => 0

abbrev hbmTy0_0 (i : Nat) : BufTy := match i % 128 with
  | 0 => ⟨S2x1024, .f32⟩
  | 1 => ⟨S2x1024, .f32⟩
  | 2 => ⟨S2x31x64, .f32⟩
  | 3 => ⟨S2x512, .f32⟩
  | 4 => ⟨S2x512, .f32⟩
  | 5 => ⟨S2x512, .f32⟩
  | 6 => ⟨S2x8, .f32⟩
  | 7 => ⟨S2x1024, .f32⟩
  | 8 => ⟨S1024, .f32⟩
  | 9 => ⟨S2x1024, .f32⟩
  | 10 => ⟨S2x1024, .f32⟩
  | 11 => ⟨S2x31x64, .f32⟩
  | 12 => ⟨S2x512, .f32⟩
  | 13 => ⟨S2x512, .f32⟩
  | 14 => ⟨S2x512, .f32⟩
  | 15 => ⟨S2x8, .f32⟩
  | 16 => ⟨S2x1024, .f32⟩
  | 17 => ⟨S1024, .f32⟩
  | 18 => ⟨S2x1024, .f32⟩
  | 19 => ⟨S2x1024, .f32⟩
  | 20 => ⟨S2x31x64, .f32⟩
  | 21 => ⟨S2x512, .f32⟩
  | 22 => ⟨S2x512, .f32⟩
  | 23 => ⟨S2x512, .f32⟩
  | 24 => ⟨S2x8, .f32⟩
  | 25 => ⟨S2x1024, .f32⟩
  | 26 => ⟨S1024, .f32⟩
  | 27 => ⟨S2x1024, .f32⟩
  | 28 => ⟨S2x1024, .f32⟩
  | 29 => ⟨S2x31x64, .f32⟩
  | 30 => ⟨S2x512, .f32⟩
  | 31 => ⟨S2x512, .f32⟩
  | 32 => ⟨S2x512, .f32⟩
  | 33 => ⟨S2x8, .f32⟩
  | 34 => ⟨S2x1024, .f32⟩
  | 35 => ⟨S1024, .f32⟩
  | 36 => ⟨S2048, .f32⟩
  | 37 => ⟨S_, .i32⟩
  | 38 => ⟨S_, .f32⟩
  | 39 => ⟨S2048, .f32⟩
  | 40 => ⟨S2048, .f32⟩
  | 41 => ⟨S_, .i32⟩
  | 42 => ⟨S_, .f32⟩
  | 43 => ⟨S2048, .f32⟩
  | 44 => ⟨S3968, .f32⟩
  | 45 => ⟨S_, .i32⟩
  | 46 => ⟨S_, .f32⟩
  | 47 => ⟨S4096, .f32⟩
  | 48 => ⟨S1024, .f32⟩
  | 49 => ⟨S_, .i32⟩
  | 50 => ⟨S_, .f32⟩
  | 51 => ⟨S1024, .f32⟩
  | 52 => ⟨S1024, .f32⟩
  | 53 => ⟨S_, .i32⟩
  | 54 => ⟨S_, .f32⟩
  | 55 => ⟨S1024, .f32⟩
  | 56 => ⟨S1024, .f32⟩
  | 57 => ⟨S_, .i32⟩
  | 58 => ⟨S_, .f32⟩
  | 59 => ⟨S1024, .f32⟩
  | 60 => ⟨S16, .f32⟩
  | 61 => ⟨S_, .i32⟩
  | 62 => ⟨S_, .f32⟩
  | 63 => ⟨S1024, .f32⟩
  | 64 => ⟨S2048, .f32⟩
  | 65 => ⟨S_, .i32⟩
  | 66 => ⟨S_, .f32⟩
  | 67 => ⟨S2048, .f32⟩
  | 68 => ⟨S_, .i32⟩
  | 69 => ⟨S_, .f32⟩
  | 70 => ⟨S1024, .f32⟩
  | 71 => ⟨S15360, .f32⟩
  | 72 => ⟨S120x128, .f32⟩
  | 73 => ⟨S2048, .f32⟩
  | 74 => ⟨S_, .i32⟩
  | 75 => ⟨S_, .f32⟩
  | 76 => ⟨S2048, .f32⟩
  | 77 => ⟨S2048, .f32⟩
  | 78 => ⟨S_, .i32⟩
  | 79 => ⟨S_, .f32⟩
  | 80 => ⟨S2048, .f32⟩
  | 81 => ⟨S3968, .f32⟩
  | 82 => ⟨S_, .i32⟩
  | 83 => ⟨S_, .f32⟩
  | 84 => ⟨S4096, .f32⟩
  | 85 => ⟨S1024, .f32⟩
  | 86 => ⟨S_, .i32⟩
  | 87 => ⟨S_, .f32⟩
  | 88 => ⟨S1024, .f32⟩
  | 89 => ⟨S1024, .f32⟩
  | 90 => ⟨S_, .i32⟩
  | 91 => ⟨S_, .f32⟩
  | 92 => ⟨S1024, .f32⟩
  | 93 => ⟨S1024, .f32⟩
  | 94 => ⟨S_, .i32⟩
  | 95 => ⟨S_, .f32⟩
  | 96 => ⟨S1024, .f32⟩
  | 97 => ⟨S16, .f32⟩
  | 98 => ⟨S_, .i32⟩
  | 99 => ⟨S_, .f32⟩
  | 100 => ⟨S1024, .f32⟩
  | 101 => ⟨S2048, .f32⟩
  | 102 => ⟨S_, .i32⟩
  | 103 => ⟨S_, .f32⟩
  | 104 => ⟨S2048, .f32⟩
  | 105 => ⟨S_, .i32⟩
  | 106 => ⟨S_, .f32⟩
  | 107 => ⟨S1024, .f32⟩
  | 108 => ⟨S15360, .f32⟩
  | 109 => ⟨S120x128, .f32⟩
  | 110 => ⟨S2048, .f32⟩
  | 111 => ⟨S_, .i32⟩
  | 112 => ⟨S_, .f32⟩
  | 113 => ⟨S2048, .f32⟩
  | 114 => ⟨S2048, .f32⟩
  | 115 => ⟨S_, .i32⟩
  | 116 => ⟨S_, .f32⟩
  | 117 => ⟨S2048, .f32⟩
  | 118 => ⟨S3968, .f32⟩
  | 119 => ⟨S_, .i32⟩
  | 120 => ⟨S_, .f32⟩
  | 121 => ⟨S4096, .f32⟩
  | 122 => ⟨S1024, .f32⟩
  | 123 => ⟨S_, .i32⟩
  | 124 => ⟨S_, .f32⟩
  | 125 => ⟨S1024, .f32⟩
  | 126 => ⟨S1024, .f32⟩
  | 127 => ⟨S_, .i32⟩
  | _ => ⟨S2x1024, .f32⟩

abbrev hbmTy0_1 (i : Nat) : BufTy := match i % 128 with
  | 0 => ⟨S_, .f32⟩
  | 1 => ⟨S1024, .f32⟩
  | 2 => ⟨S1024, .f32⟩
  | 3 => ⟨S_, .i32⟩
  | 4 => ⟨S_, .f32⟩
  | 5 => ⟨S1024, .f32⟩
  | 6 => ⟨S16, .f32⟩
  | 7 => ⟨S_, .i32⟩
  | 8 => ⟨S_, .f32⟩
  | 9 => ⟨S1024, .f32⟩
  | 10 => ⟨S2048, .f32⟩
  | 11 => ⟨S_, .i32⟩
  | 12 => ⟨S_, .f32⟩
  | 13 => ⟨S2048, .f32⟩
  | 14 => ⟨S_, .i32⟩
  | 15 => ⟨S_, .f32⟩
  | 16 => ⟨S1024, .f32⟩
  | 17 => ⟨S15360, .f32⟩
  | 18 => ⟨S120x128, .f32⟩
  | 19 => ⟨S2048, .f32⟩
  | 20 => ⟨S_, .i32⟩
  | 21 => ⟨S_, .f32⟩
  | 22 => ⟨S2048, .f32⟩
  | 23 => ⟨S2048, .f32⟩
  | 24 => ⟨S_, .i32⟩
  | 25 => ⟨S_, .f32⟩
  | 26 => ⟨S2048, .f32⟩
  | 27 => ⟨S3968, .f32⟩
  | 28 => ⟨S_, .i32⟩
  | 29 => ⟨S_, .f32⟩
  | 30 => ⟨S4096, .f32⟩
  | 31 => ⟨S1024, .f32⟩
  | 32 => ⟨S_, .i32⟩
  | 33 => ⟨S_, .f32⟩
  | 34 => ⟨S1024, .f32⟩
  | 35 => ⟨S1024, .f32⟩
  | 36 => ⟨S_, .i32⟩
  | 37 => ⟨S_, .f32⟩
  | 38 => ⟨S1024, .f32⟩
  | 39 => ⟨S1024, .f32⟩
  | 40 => ⟨S_, .i32⟩
  | 41 => ⟨S_, .f32⟩
  | 42 => ⟨S1024, .f32⟩
  | 43 => ⟨S16, .f32⟩
  | 44 => ⟨S_, .i32⟩
  | 45 => ⟨S_, .f32⟩
  | 46 => ⟨S1024, .f32⟩
  | 47 => ⟨S2048, .f32⟩
  | 48 => ⟨S_, .i32⟩
  | 49 => ⟨S_, .f32⟩
  | 50 => ⟨S2048, .f32⟩
  | 51 => ⟨S_, .i32⟩
  | 52 => ⟨S_, .f32⟩
  | 53 => ⟨S1024, .f32⟩
  | 54 => ⟨S15360, .f32⟩
  | 55 => ⟨S120x128, .f32⟩
  | 56 => ⟨S120x128, .f32⟩
  | 57 => ⟨S120x128, .f32⟩
  | 58 => ⟨S120x128, .f32⟩
  | _ => ⟨S2x1024, .f32⟩

abbrev hbmTy (i : Nat) : BufTy := match i / 128 with
  | 0 => hbmTy0_0 i
  | 1 => hbmTy0_1 i
  | _ => ⟨S2x1024, .f32⟩

abbrev bufTy : (tb : Table) → Fin (tcTables nBuf tb) → BufTy
  | .hbm, ⟨i, _⟩ => hbmTy i
  | .local _ .vmem, ⟨0, _⟩ => ⟨S120x128, .f32⟩
  | .local _ .vmem, ⟨1, _⟩ => ⟨S120x128, .f32⟩
  | .local _ .vmem, ⟨2, _⟩ => ⟨S120x128, .f32⟩
  | .local _ .vmem, ⟨3, _⟩ => ⟨S120x128, .f32⟩
  | .local _ .vmem, ⟨4, _⟩ => ⟨S120x128, .f32⟩
  | .local _ .vmem, ⟨5, _⟩ => ⟨S120x128, .f32⟩
  | .local _ .vmem, ⟨6, _⟩ => ⟨S120x128, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_c : Ref sig .tc := ⟨.hbm, 37, rfl⟩
abbrev main_call0_v0 : Ref sig .tc := ⟨.hbm, 38, rfl⟩
abbrev main_v1 : Ref sig .tc := ⟨.hbm, 39, rfl⟩
abbrev main_v2 : Ref sig .tc := ⟨.hbm, 40, rfl⟩
abbrev main_c_0 : Ref sig .tc := ⟨.hbm, 41, rfl⟩
abbrev main_call1_v0 : Ref sig .tc := ⟨.hbm, 42, rfl⟩
abbrev main_v3 : Ref sig .tc := ⟨.hbm, 43, rfl⟩
abbrev main_v4 : Ref sig .tc := ⟨.hbm, 44, rfl⟩
abbrev main_c_1 : Ref sig .tc := ⟨.hbm, 45, rfl⟩
abbrev main_call2_v0 : Ref sig .tc := ⟨.hbm, 46, rfl⟩
abbrev main_v5 : Ref sig .tc := ⟨.hbm, 47, rfl⟩
abbrev main_v6 : Ref sig .tc := ⟨.hbm, 48, rfl⟩
abbrev main_c_2 : Ref sig .tc := ⟨.hbm, 49, rfl⟩
abbrev main_call3_v0 : Ref sig .tc := ⟨.hbm, 50, rfl⟩
abbrev main_v7 : Ref sig .tc := ⟨.hbm, 51, rfl⟩
abbrev main_v8 : Ref sig .tc := ⟨.hbm, 52, rfl⟩
abbrev main_c_3 : Ref sig .tc := ⟨.hbm, 53, rfl⟩
abbrev main_call4_v0 : Ref sig .tc := ⟨.hbm, 54, rfl⟩
abbrev main_v9 : Ref sig .tc := ⟨.hbm, 55, rfl⟩
abbrev main_v10 : Ref sig .tc := ⟨.hbm, 56, rfl⟩
abbrev main_c_4 : Ref sig .tc := ⟨.hbm, 57, rfl⟩
abbrev main_call5_v0 : Ref sig .tc := ⟨.hbm, 58, rfl⟩
abbrev main_v11 : Ref sig .tc := ⟨.hbm, 59, rfl⟩
abbrev main_v12 : Ref sig .tc := ⟨.hbm, 60, rfl⟩
abbrev main_c_5 : Ref sig .tc := ⟨.hbm, 61, rfl⟩
abbrev main_call6_v0 : Ref sig .tc := ⟨.hbm, 62, rfl⟩
abbrev main_v13 : Ref sig .tc := ⟨.hbm, 63, rfl⟩
abbrev main_v14 : Ref sig .tc := ⟨.hbm, 64, rfl⟩
abbrev main_c_6 : Ref sig .tc := ⟨.hbm, 65, rfl⟩
abbrev main_call7_v0 : Ref sig .tc := ⟨.hbm, 66, rfl⟩
abbrev main_v15 : Ref sig .tc := ⟨.hbm, 67, rfl⟩
abbrev main_c_7 : Ref sig .tc := ⟨.hbm, 68, rfl⟩
abbrev main_call8_v0 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_c_8 : Ref sig .tc := ⟨.hbm, 74, rfl⟩
abbrev main_call9_v0 : Ref sig .tc := ⟨.hbm, 75, rfl⟩
abbrev main_v20 : Ref sig .tc := ⟨.hbm, 76, rfl⟩
abbrev main_v21 : Ref sig .tc := ⟨.hbm, 77, rfl⟩
abbrev main_c_9 : Ref sig .tc := ⟨.hbm, 78, rfl⟩
abbrev main_call10_v0 : Ref sig .tc := ⟨.hbm, 79, rfl⟩
abbrev main_v22 : Ref sig .tc := ⟨.hbm, 80, rfl⟩
abbrev main_v23 : Ref sig .tc := ⟨.hbm, 81, rfl⟩
abbrev main_c_10 : Ref sig .tc := ⟨.hbm, 82, rfl⟩
abbrev main_call11_v0 : Ref sig .tc := ⟨.hbm, 83, rfl⟩
abbrev main_v24 : Ref sig .tc := ⟨.hbm, 84, rfl⟩
abbrev main_v25 : Ref sig .tc := ⟨.hbm, 85, rfl⟩
abbrev main_c_11 : Ref sig .tc := ⟨.hbm, 86, rfl⟩
abbrev main_call12_v0 : Ref sig .tc := ⟨.hbm, 87, rfl⟩
abbrev main_v26 : Ref sig .tc := ⟨.hbm, 88, rfl⟩
abbrev main_v27 : Ref sig .tc := ⟨.hbm, 89, rfl⟩
abbrev main_c_12 : Ref sig .tc := ⟨.hbm, 90, rfl⟩
abbrev main_call13_v0 : Ref sig .tc := ⟨.hbm, 91, rfl⟩
abbrev main_v28 : Ref sig .tc := ⟨.hbm, 92, rfl⟩
abbrev main_v29 : Ref sig .tc := ⟨.hbm, 93, rfl⟩
abbrev main_c_13 : Ref sig .tc := ⟨.hbm, 94, rfl⟩
abbrev main_call14_v0 : Ref sig .tc := ⟨.hbm, 95, rfl⟩
abbrev main_v30 : Ref sig .tc := ⟨.hbm, 96, rfl⟩
abbrev main_v31 : Ref sig .tc := ⟨.hbm, 97, rfl⟩
abbrev main_c_14 : Ref sig .tc := ⟨.hbm, 98, rfl⟩
abbrev main_call15_v0 : Ref sig .tc := ⟨.hbm, 99, rfl⟩
abbrev main_v32 : Ref sig .tc := ⟨.hbm, 100, rfl⟩
abbrev main_v33 : Ref sig .tc := ⟨.hbm, 101, rfl⟩
abbrev main_c_15 : Ref sig .tc := ⟨.hbm, 102, rfl⟩
abbrev main_call16_v0 : Ref sig .tc := ⟨.hbm, 103, rfl⟩
abbrev main_v34 : Ref sig .tc := ⟨.hbm, 104, rfl⟩
abbrev main_c_16 : Ref sig .tc := ⟨.hbm, 105, rfl⟩
abbrev main_call17_v0 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_c_17 : Ref sig .tc := ⟨.hbm, 111, rfl⟩
abbrev main_call18_v0 : Ref sig .tc := ⟨.hbm, 112, rfl⟩
abbrev main_v39 : Ref sig .tc := ⟨.hbm, 113, rfl⟩
abbrev main_v40 : Ref sig .tc := ⟨.hbm, 114, rfl⟩
abbrev main_c_18 : Ref sig .tc := ⟨.hbm, 115, rfl⟩
abbrev main_call19_v0 : Ref sig .tc := ⟨.hbm, 116, rfl⟩
abbrev main_v41 : Ref sig .tc := ⟨.hbm, 117, rfl⟩
abbrev main_v42 : Ref sig .tc := ⟨.hbm, 118, rfl⟩
abbrev main_c_19 : Ref sig .tc := ⟨.hbm, 119, rfl⟩
abbrev main_call20_v0 : Ref sig .tc := ⟨.hbm, 120, rfl⟩
abbrev main_v43 : Ref sig .tc := ⟨.hbm, 121, rfl⟩
abbrev main_v44 : Ref sig .tc := ⟨.hbm, 122, rfl⟩
abbrev main_c_20 : Ref sig .tc := ⟨.hbm, 123, rfl⟩
abbrev main_call21_v0 : Ref sig .tc := ⟨.hbm, 124, rfl⟩
abbrev main_v45 : Ref sig .tc := ⟨.hbm, 125, rfl⟩
abbrev main_v46 : Ref sig .tc := ⟨.hbm, 126, rfl⟩
abbrev main_c_21 : Ref sig .tc := ⟨.hbm, 127, rfl⟩
abbrev main_call22_v0 : Ref sig .tc := ⟨.hbm, 128, rfl⟩
abbrev main_v47 : Ref sig .tc := ⟨.hbm, 129, rfl⟩
abbrev main_v48 : Ref sig .tc := ⟨.hbm, 130, rfl⟩
abbrev main_c_22 : Ref sig .tc := ⟨.hbm, 131, rfl⟩
abbrev main_call23_v0 : Ref sig .tc := ⟨.hbm, 132, rfl⟩
abbrev main_v49 : Ref sig .tc := ⟨.hbm, 133, rfl⟩
abbrev main_v50 : Ref sig .tc := ⟨.hbm, 134, rfl⟩
abbrev main_c_23 : Ref sig .tc := ⟨.hbm, 135, rfl⟩
abbrev main_call24_v0 : Ref sig .tc := ⟨.hbm, 136, rfl⟩
abbrev main_v51 : Ref sig .tc := ⟨.hbm, 137, rfl⟩
abbrev main_v52 : Ref sig .tc := ⟨.hbm, 138, rfl⟩
abbrev main_c_24 : Ref sig .tc := ⟨.hbm, 139, rfl⟩
abbrev main_call25_v0 : Ref sig .tc := ⟨.hbm, 140, rfl⟩
abbrev main_v53 : Ref sig .tc := ⟨.hbm, 141, rfl⟩
abbrev main_c_25 : Ref sig .tc := ⟨.hbm, 142, rfl⟩
abbrev main_call26_v0 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_c_26 : Ref sig .tc := ⟨.hbm, 148, rfl⟩
abbrev main_call27_v0 : Ref sig .tc := ⟨.hbm, 149, rfl⟩
abbrev main_v58 : Ref sig .tc := ⟨.hbm, 150, rfl⟩
abbrev main_v59 : Ref sig .tc := ⟨.hbm, 151, rfl⟩
abbrev main_c_27 : Ref sig .tc := ⟨.hbm, 152, rfl⟩
abbrev main_call28_v0 : Ref sig .tc := ⟨.hbm, 153, rfl⟩
abbrev main_v60 : Ref sig .tc := ⟨.hbm, 154, rfl⟩
abbrev main_v61 : Ref sig .tc := ⟨.hbm, 155, rfl⟩
abbrev main_c_28 : Ref sig .tc := ⟨.hbm, 156, rfl⟩
abbrev main_call29_v0 : Ref sig .tc := ⟨.hbm, 157, rfl⟩
abbrev main_v62 : Ref sig .tc := ⟨.hbm, 158, rfl⟩
abbrev main_v63 : Ref sig .tc := ⟨.hbm, 159, rfl⟩
abbrev main_c_29 : Ref sig .tc := ⟨.hbm, 160, rfl⟩
abbrev main_call30_v0 : Ref sig .tc := ⟨.hbm, 161, rfl⟩
abbrev main_v64 : Ref sig .tc := ⟨.hbm, 162, rfl⟩
abbrev main_v65 : Ref sig .tc := ⟨.hbm, 163, rfl⟩
abbrev main_c_30 : Ref sig .tc := ⟨.hbm, 164, rfl⟩
abbrev main_call31_v0 : Ref sig .tc := ⟨.hbm, 165, rfl⟩
abbrev main_v66 : Ref sig .tc := ⟨.hbm, 166, rfl⟩
abbrev main_v67 : Ref sig .tc := ⟨.hbm, 167, rfl⟩
abbrev main_c_31 : Ref sig .tc := ⟨.hbm, 168, rfl⟩
abbrev main_call32_v0 : Ref sig .tc := ⟨.hbm, 169, rfl⟩
abbrev main_v68 : Ref sig .tc := ⟨.hbm, 170, rfl⟩
abbrev main_v69 : Ref sig .tc := ⟨.hbm, 171, rfl⟩
abbrev main_c_32 : Ref sig .tc := ⟨.hbm, 172, rfl⟩
abbrev main_call33_v0 : Ref sig .tc := ⟨.hbm, 173, rfl⟩
abbrev main_v70 : Ref sig .tc := ⟨.hbm, 174, rfl⟩
abbrev main_v71 : Ref sig .tc := ⟨.hbm, 175, rfl⟩
abbrev main_c_33 : Ref sig .tc := ⟨.hbm, 176, rfl⟩
abbrev main_call34_v0 : Ref sig .tc := ⟨.hbm, 177, rfl⟩
abbrev main_v72 : Ref sig .tc := ⟨.hbm, 178, rfl⟩
abbrev main_c_34 : Ref sig .tc := ⟨.hbm, 179, rfl⟩
abbrev main_call35_v0 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76_0 : Ref sig .tc := ⟨.hbm, 184, rfl⟩
abbrev main_v76_1 : Ref sig .tc := ⟨.hbm, 185, rfl⟩
abbrev main_v76_2 : Ref sig .tc := ⟨.hbm, 186, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S120x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RAsIdeal.lean ====
abbrev S2x1024 : Shape := ⟨2, ![2, 1024]⟩
abbrev S2x31x64 : Shape := ⟨3, ![2, 31, 64]⟩
abbrev S2x512 : Shape := ⟨2, ![2, 512]⟩
abbrev S2x8 : Shape := ⟨2, ![2, 8]⟩
abbrev S1024 : Shape := ⟨1, ![1024]⟩
abbrev S_ : Shape := ⟨0, ![]⟩
abbrev S2048 : Shape := ⟨1, ![2048]⟩
abbrev S3968 : Shape := ⟨1, ![3968]⟩
abbrev S128 : Shape := ⟨1, ![128]⟩
abbrev S4096 : Shape := ⟨1, ![4096]⟩
abbrev S16 : Shape := ⟨1, ![16]⟩
abbrev S1008 : Shape := ⟨1, ![1008]⟩
abbrev S15360 : Shape := ⟨1, ![15360]⟩
abbrev S120x128 : Shape := ⟨2, ![120, 128]⟩

abbrev nBuf : Space → Nat
  | .hbm => 381
  | .vmem => 0
  | .smem => 0
  | _ => 0

abbrev hbmTy0_0 (i : Nat) : BufTy := match i % 128 with
  | 0 => ⟨S2x1024, .f32⟩
  | 1 => ⟨S2x1024, .f32⟩
  | 2 => ⟨S2x31x64, .f32⟩
  | 3 => ⟨S2x512, .f32⟩
  | 4 => ⟨S2x512, .f32⟩
  | 5 => ⟨S2x512, .f32⟩
  | 6 => ⟨S2x8, .f32⟩
  | 7 => ⟨S2x1024, .f32⟩
  | 8 => ⟨S1024, .f32⟩
  | 9 => ⟨S2x1024, .f32⟩
  | 10 => ⟨S2x1024, .f32⟩
  | 11 => ⟨S2x31x64, .f32⟩
  | 12 => ⟨S2x512, .f32⟩
  | 13 => ⟨S2x512, .f32⟩
  | 14 => ⟨S2x512, .f32⟩
  | 15 => ⟨S2x8, .f32⟩
  | 16 => ⟨S2x1024, .f32⟩
  | 17 => ⟨S1024, .f32⟩
  | 18 => ⟨S2x1024, .f32⟩
  | 19 => ⟨S2x1024, .f32⟩
  | 20 => ⟨S2x31x64, .f32⟩
  | 21 => ⟨S2x512, .f32⟩
  | 22 => ⟨S2x512, .f32⟩
  | 23 => ⟨S2x512, .f32⟩
  | 24 => ⟨S2x8, .f32⟩
  | 25 => ⟨S2x1024, .f32⟩
  | 26 => ⟨S1024, .f32⟩
  | 27 => ⟨S2x1024, .f32⟩
  | 28 => ⟨S2x1024, .f32⟩
  | 29 => ⟨S2x31x64, .f32⟩
  | 30 => ⟨S2x512, .f32⟩
  | 31 => ⟨S2x512, .f32⟩
  | 32 => ⟨S2x512, .f32⟩
  | 33 => ⟨S2x8, .f32⟩
  | 34 => ⟨S2x1024, .f32⟩
  | 35 => ⟨S1024, .f32⟩
  | 36 => ⟨S_, .f32⟩
  | 37 => ⟨S2x1024, .f32⟩
  | 38 => ⟨S2x1024, .f32⟩
  | 39 => ⟨S_, .f32⟩
  | 40 => ⟨S2x1024, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S2x1024, .f32⟩
  | 51 => ⟨S_, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S2x1024, .f32⟩
  | 66 => ⟨S_, .f32⟩
  | 67 => ⟨S2x1024, .f32⟩
  | 68 => ⟨S2x1024, .f32⟩
  | 69 => ⟨S_, .f32⟩
  | 70 => ⟨S2x1024, .f32⟩
  | 71 => ⟨S2x1024, .f32⟩
  | 72 => ⟨S_, .f32⟩
  | 73 => ⟨S2x1024, .f32⟩
  | 74 => ⟨S2x1024, .f32⟩
  | 75 => ⟨S2x1024, .f32⟩
  | 76 => ⟨S_, .f32⟩
  | 77 => ⟨S2x1024, .f32⟩
  | 78 => ⟨S2x1024, .f32⟩
  | 79 => ⟨S2x1024, .f32⟩
  | 80 => ⟨S_, .f32⟩
  | 81 => ⟨S2x1024, .f32⟩
  | 82 => ⟨S2x1024, .f32⟩
  | 83 => ⟨S2x1024, .f32⟩
  | 84 => ⟨S_, .f32⟩
  | 85 => ⟨S2x1024, .f32⟩
  | 86 => ⟨S2x1024, .f32⟩
  | 87 => ⟨S_, .f32⟩
  | 88 => ⟨S2x1024, .f32⟩
  | 89 => ⟨S2x1024, .f32⟩
  | 90 => ⟨S2x1024, .f32⟩
  | 91 => ⟨S_, .f32⟩
  | 92 => ⟨S2x1024, .f32⟩
  | 93 => ⟨S2x1024, .f32⟩
  | 94 => ⟨S2x1024, .f32⟩
  | 95 => ⟨S_, .f32⟩
  | 96 => ⟨S2x1024, .f32⟩
  | 97 => ⟨S2x1024, .f32⟩
  | 98 => ⟨S2x1024, .f32⟩
  | 99 => ⟨S_, .f32⟩
  | 100 => ⟨S2x1024, .f32⟩
  | 101 => ⟨S2x1024, .f32⟩
  | 102 => ⟨S_, .f32⟩
  | 103 => ⟨S2x31x64, .f32⟩
  | 104 => ⟨S2x31x64, .f32⟩
  | 105 => ⟨S_, .f32⟩
  | 106 => ⟨S2x31x64, .f32⟩
  | 107 => ⟨S2x31x64, .f32⟩
  | 108 => ⟨S2x31x64, .f32⟩
  | 109 => ⟨S_, .f32⟩
  | 110 => ⟨S2x31x64, .f32⟩
  | 111 => ⟨S2x31x64, .f32⟩
  | 112 => ⟨S2x31x64, .f32⟩
  | 113 => ⟨S_, .f32⟩
  | 114 => ⟨S2x31x64, .f32⟩
  | 115 => ⟨S2x31x64, .f32⟩
  | 116 => ⟨S2x31x64, .f32⟩
  | 117 => ⟨S_, .f32⟩
  | 118 => ⟨S2x31x64, .f32⟩
  | 119 => ⟨S2x31x64, .f32⟩
  | 120 => ⟨S_, .f32⟩
  | 121 => ⟨S2x31x64, .f32⟩
  | 122 => ⟨S2x31x64, .f32⟩
  | 123 => ⟨S2x31x64, .f32⟩
  | 124 => ⟨S_, .f32⟩
  | 125 => ⟨S2x31x64, .f32⟩
  | 126 => ⟨S2x31x64, .f32⟩
  | 127 => ⟨S2x31x64, .f32⟩
  | _ => ⟨S2x1024, .f32⟩

abbrev hbmTy0_1 (i : Nat) : BufTy := match i % 128 with
  | 0 => ⟨S_, .f32⟩
  | 1 => ⟨S2x31x64, .f32⟩
  | 2 => ⟨S2x31x64, .f32⟩
  | 3 => ⟨S2x31x64, .f32⟩
  | 4 => ⟨S_, .f32⟩
  | 5 => ⟨S2x31x64, .f32⟩
  | 6 => ⟨S2x31x64, .f32⟩
  | 7 => ⟨S_, .f32⟩
  | 8 => ⟨S2x512, .f32⟩
  | 9 => ⟨S2x512, .f32⟩
  | 10 => ⟨S_, .f32⟩
  | 11 => ⟨S2x512, .f32⟩
  | 12 => ⟨S2x512, .f32⟩
  | 13 => ⟨S2x512, .f32⟩
  | 14 => ⟨S_, .f32⟩
  | 15 => ⟨S2x512, .f32⟩
  | 16 => ⟨S2x512, .f32⟩
  | 17 => ⟨S2x512, .f32⟩
  | 18 => ⟨S_, .f32⟩
  | 19 => ⟨S2x512, .f32⟩
  | 20 => ⟨S2x512, .f32⟩
  | 21 => ⟨S2x512, .f32⟩
  | 22 => ⟨S_, .f32⟩
  | 23 => ⟨S2x512, .f32⟩
  | 24 => ⟨S2x512, .f32⟩
  | 25 => ⟨S_, .f32⟩
  | 26 => ⟨S2x512, .f32⟩
  | 27 => ⟨S2x512, .f32⟩
  | 28 => ⟨S2x512, .f32⟩
  | 29 => ⟨S_, .f32⟩
  | 30 => ⟨S2x512, .f32⟩
  | 31 => ⟨S2x512, .f32⟩
  | 32 => ⟨S2x512, .f32⟩
  | 33 => ⟨S_, .f32⟩
  | 34 => ⟨S2x512, .f32⟩
  | 35 => ⟨S2x512, .f32⟩
  | 36 => ⟨S2x512, .f32⟩
  | 37 => ⟨S_, .f32⟩
  | 38 => ⟨S2x512, .f32⟩
  | 39 => ⟨S2x512, .f32⟩
  | 40 => ⟨S_, .f32⟩
  | 41 => ⟨S2x512, .f32⟩
  | 42 => ⟨S2x512, .f32⟩
  | 43 => ⟨S_, .f32⟩
  | 44 => ⟨S2x512, .f32⟩
  | 45 => ⟨S2x512, .f32⟩
  | 46 => ⟨S2x512, .f32⟩
  | 47 => ⟨S_, .f32⟩
  | 48 => ⟨S2x512, .f32⟩
  | 49 => ⟨S2x512, .f32⟩
  | 50 => ⟨S2x512, .f32⟩
  | 51 => ⟨S_, .f32⟩
  | 52 => ⟨S2x512, .f32⟩
  | 53 => ⟨S2x512, .f32⟩
  | 54 => ⟨S2x512, .f32⟩
  | 55 => ⟨S_, .f32⟩
  | 56 => ⟨S2x512, .f32⟩
  | 57 => ⟨S2x512, .f32⟩
  | 58 => ⟨S_, .f32⟩
  | 59 => ⟨S2x512, .f32⟩
  | 60 => ⟨S2x512, .f32⟩
  | 61 => ⟨S2x512, .f32⟩
  | 62 => ⟨S_, .f32⟩
  | 63 => ⟨S2x512, .f32⟩
  | 64 => ⟨S2x512, .f32⟩
  | 65 => ⟨S2x512, .f32⟩
  | 66 => ⟨S_, .f32⟩
  | 67 => ⟨S2x512, .f32⟩
  | 68 => ⟨S2x512, .f32⟩
  | 69 => ⟨S2x512, .f32⟩
  | 70 => ⟨S_, .f32⟩
  | 71 => ⟨S2x512, .f32⟩
  | 72 => ⟨S2x512, .f32⟩
  | 73 => ⟨S_, .f32⟩
  | 74 => ⟨S2x512, .f32⟩
  | 75 => ⟨S2x512, .f32⟩
  | 76 => ⟨S_, .f32⟩
  | 77 => ⟨S2x512, .f32⟩
  | 78 => ⟨S2x512, .f32⟩
  | 79 => ⟨S2x512, .f32⟩
  | 80 => ⟨S_, .f32⟩
  | 81 => ⟨S2x512, .f32⟩
  | 82 => ⟨S2x512, .f32⟩
  | 83 => ⟨S2x512, .f32⟩
  | 84 => ⟨S_, .f32⟩
  | 85 => ⟨S2x512, .f32⟩
  | 86 => ⟨S2x512, .f32⟩
  | 87 => ⟨S2x512, .f32⟩
  | 88 => ⟨S_, .f32⟩
  | 89 => ⟨S2x512, .f32⟩
  | 90 => ⟨S2x512, .f32⟩
  | 91 => ⟨S_, .f32⟩
  | 92 => ⟨S2x512, .f32⟩
  | 93 => ⟨S2x512, .f32⟩
  | 94 => ⟨S2x512, .f32⟩
  | 95 => ⟨S_, .f32⟩
  | 96 => ⟨S2x512, .f32⟩
  | 97 => ⟨S2x512, .f32⟩
  | 98 => ⟨S2x512, .f32⟩
  | 99 => ⟨S_, .f32⟩
  | 100 => ⟨S2x512, .f32⟩
  | 101 => ⟨S2x512, .f32⟩
  | 102 => ⟨S2x512, .f32⟩
  | 103 => ⟨S_, .f32⟩
  | 104 => ⟨S2x512, .f32⟩
  | 105 => ⟨S2x512, .f32⟩
  | 106 => ⟨S_, .f32⟩
  | 107 => ⟨S2x8, .f32⟩
  | 108 => ⟨S2x8, .f32⟩
  | 109 => ⟨S_, .f32⟩
  | 110 => ⟨S2x8, .f32⟩
  | 111 => ⟨S2x8, .f32⟩
  | 112 => ⟨S2x8, .f32⟩
  | 113 => ⟨S_, .f32⟩
  | 114 => ⟨S2x8, .f32⟩
  | 115 => ⟨S2x8, .f32⟩
  | 116 => ⟨S2x8, .f32⟩
  | 117 => ⟨S_, .f32⟩
  | 118 => ⟨S2x8, .f32⟩
  | 119 => ⟨S2x8, .f32⟩
  | 120 => ⟨S2x8, .f32⟩
  | 121 => ⟨S_, .f32⟩
  | 122 => ⟨S2x8, .f32⟩
  | 123 => ⟨S2x8, .f32⟩
  | 124 => ⟨S_, .f32⟩
  | 125 => ⟨S2x8, .f32⟩
  | 126 => ⟨S2x8, .f32⟩
  | 127 => ⟨S2x8, .f32⟩
  | _ => ⟨S2x1024, .f32⟩

abbrev hbmTy0_2 (i : Nat) : BufTy := match i % 128 with
  | 0 => ⟨S_, .f32⟩
  | 1 => ⟨S2x8, .f32⟩
  | 2 => ⟨S2x8, .f32⟩
  | 3 => ⟨S2x8, .f32⟩
  | 4 => ⟨S_, .f32⟩
  | 5 => ⟨S2x8, .f32⟩
  | 6 => ⟨S2x8, .f32⟩
  | 7 => ⟨S2x8, .f32⟩
  | 8 => ⟨S_, .f32⟩
  | 9 => ⟨S2x8, .f32⟩
  | 10 => ⟨S2x8, .f32⟩
  | 11 => ⟨S_, .f32⟩
  | 12 => ⟨S2x1024, .f32⟩
  | 13 => ⟨S2x1024, .f32⟩
  | 14 => ⟨S_, .f32⟩
  | 15 => ⟨S2x1024, .f32⟩
  | 16 => ⟨S2x1024, .f32⟩
  | 17 => ⟨S2x1024, .f32⟩
  | 18 => ⟨S_, .f32⟩
  | 19 => ⟨S2x1024, .f32⟩
  | 20 => ⟨S2x1024, .f32⟩
  | 21 => ⟨S2x1024, .f32⟩
  | 22 => ⟨S_, .f32⟩
  | 23 => ⟨S2x1024, .f32⟩
  | 24 => ⟨S2x1024, .f32⟩
  | 25 => ⟨S2x1024, .f32⟩
  | 26 => ⟨S_, .f32⟩
  | 27 => ⟨S2x1024, .f32⟩
  | 28 => ⟨S2x1024, .f32⟩
  | 29 => ⟨S_, .f32⟩
  | 30 => ⟨S2x1024, .f32⟩
  | 31 => ⟨S2x1024, .f32⟩
  | 32 => ⟨S2x1024, .f32⟩
  | 33 => ⟨S_, .f32⟩
  | 34 => ⟨S2x1024, .f32⟩
  | 35 => ⟨S2x1024, .f32⟩
  | 36 => ⟨S2x1024, .f32⟩
  | 37 => ⟨S_, .f32⟩
  | 38 => ⟨S2x1024, .f32⟩
  | 39 => ⟨S2x1024, .f32⟩
  | 40 => ⟨S2x1024, .f32⟩
  | 41 => ⟨S_, .f32⟩
  | 42 => ⟨S2x1024, .f32⟩
  | 43 => ⟨S2x1024, .f32⟩
  | 44 => ⟨S_, .f32⟩
  | 45 => ⟨S1024, .f32⟩
  | 46 => ⟨S1024, .f32⟩
  | 47 => ⟨S_, .f32⟩
  | 48 => ⟨S1024, .f32⟩
  | 49 => ⟨S1024, .f32⟩
  | 50 => ⟨S1024, .f32⟩
  | 51 => ⟨S_, .f32⟩
  | 52 => ⟨S1024, .f32⟩
  | 53 => ⟨S1024, .f32⟩
  | 54 => ⟨S1024, .f32⟩
  | 55 => ⟨S_, .f32⟩
  | 56 => ⟨S1024, .f32⟩
  | 57 => ⟨S1024, .f32⟩
  | 58 => ⟨S1024, .f32⟩
  | 59 => ⟨S_, .f32⟩
  | 60 => ⟨S1024, .f32⟩
  | 61 => ⟨S1024, .f32⟩
  | 62 => ⟨S_, .f32⟩
  | 63 => ⟨S1024, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .f32⟩
  | 70 => ⟨S_, .f32⟩
  | 71 => ⟨S1024, .f32⟩
  | 72 => ⟨S1024, .f32⟩
  | 73 => ⟨S1024, .f32⟩
  | 74 => ⟨S_, .f32⟩
  | 75 => ⟨S1024, .f32⟩
  | 76 => ⟨S1024, .f32⟩
  | 77 => ⟨S2048, .f32⟩
  | 78 => ⟨S2048, .f32⟩
  | 79 => ⟨S3968, .f32⟩
  | 80 => ⟨S_, .f32⟩
  | 81 => ⟨S128, .f32⟩
  | 82 => ⟨S4096, .f32⟩
  | 83 => ⟨S1024, .f32⟩
  | 84 => ⟨S1024, .f32⟩
  | 85 => ⟨S1024, .f32⟩
  | 86 => ⟨S16, .f32⟩
  | 87 => ⟨S_, .f32⟩
  | 88 => ⟨S1008, .f32⟩
  | 89 => ⟨S1024, .f32⟩
  | 90 => ⟨S2048, .f32⟩
  | 91 => ⟨S15360, .f32⟩
  | 92 => ⟨S120x128, .f32⟩
  | 93 => ⟨S2048, .f32⟩
  | 94 => ⟨S2048, .f32⟩
  | 95 => ⟨S3968, .f32⟩
  | 96 => ⟨S_, .f32⟩
  | 97 => ⟨S128, .f32⟩
  | 98 => ⟨S4096, .f32⟩
  | 99 => ⟨S1024, .f32⟩
  | 100 => ⟨S1024, .f32⟩
  | 101 => ⟨S1024, .f32⟩
  | 102 => ⟨S16, .f32⟩
  | 103 => ⟨S_, .f32⟩
  | 104 => ⟨S1008, .f32⟩
  | 105 => ⟨S1024, .f32⟩
  | 106 => ⟨S2048, .f32⟩
  | 107 => ⟨S15360, .f32⟩
  | 108 => ⟨S120x128, .f32⟩
  | 109 => ⟨S2048, .f32⟩
  | 110 => ⟨S2048, .f32⟩
  | 111 => ⟨S3968, .f32⟩
  | 112 => ⟨S_, .f32⟩
  | 113 => ⟨S128, .f32⟩
  | 114 => ⟨S4096, .f32⟩
  | 115 => ⟨S1024, .f32⟩
  | 116 => ⟨S1024, .f32⟩
  | 117 => ⟨S1024, .f32⟩
  | 118 => ⟨S16, .f32⟩
  | 119 => ⟨S_, .f32⟩
  | 120 => ⟨S1008, .f32⟩
  | 121 => ⟨S1024, .f32⟩
  | 122 => ⟨S2048, .f32⟩
  | 123 => ⟨S15360, .f32⟩
  | 124 => ⟨S120x128, .f32⟩
  | _ => ⟨S2x1024, .f32⟩

abbrev hbmTy (i : Nat) : BufTy := match i / 128 with
  | 0 => hbmTy0_0 i
  | 1 => hbmTy0_1 i
  | 2 => hbmTy0_2 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_cst : Ref sig .tc := ⟨.hbm, 36, rfl⟩
abbrev main_v0 : Ref sig .tc := ⟨.hbm, 37, rfl⟩
abbrev main_v1 : Ref sig .tc := ⟨.hbm, 38, rfl⟩
abbrev main_cst_0 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst_1 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_3 : Ref sig .tc := ⟨.hbm, 51, rfl⟩
abbrev main_v11 : Ref sig .tc := ⟨.hbm, 52, rfl⟩
abbrev main_v12 : Ref sig .tc := ⟨.hbm, 53, rfl⟩
abbrev main_cst_4 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_5 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst_6 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_7 : Ref sig .tc := ⟨.hbm, 66, rfl⟩
abbrev main_v22 : Ref sig .tc := ⟨.hbm, 67, rfl⟩
abbrev main_v23 : Ref sig .tc := ⟨.hbm, 68, rfl⟩
abbrev main_cst_8 : Ref sig .tc := ⟨.hbm, 69, rfl⟩
abbrev main_v24 : Ref sig .tc := ⟨.hbm, 70, rfl⟩
abbrev main_v25 : Ref sig .tc := ⟨.hbm, 71, rfl⟩
abbrev main_cst_9 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_10 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_11 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst_12 : Ref sig .tc := ⟨.hbm, 84, rfl⟩
abbrev main_v35 : Ref sig .tc := ⟨.hbm, 85, rfl⟩
abbrev main_v36 : Ref sig .tc := ⟨.hbm, 86, rfl⟩
abbrev main_cst_13 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_cst_14 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_cst_15 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_16 : Ref sig .tc := ⟨.hbm, 99, rfl⟩
abbrev main_v46 : Ref sig .tc := ⟨.hbm, 100, rfl⟩
abbrev main_v47 : Ref sig .tc := ⟨.hbm, 101, rfl⟩
abbrev main_cst_17 : Ref sig .tc := ⟨.hbm, 102, rfl⟩
abbrev main_v48 : Ref sig .tc := ⟨.hbm, 103, rfl⟩
abbrev main_v49 : Ref sig .tc := ⟨.hbm, 104, rfl⟩
abbrev main_cst_18 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_cst_19 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_20 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_21 : Ref sig .tc := ⟨.hbm, 117, rfl⟩
abbrev main_v59 : Ref sig .tc := ⟨.hbm, 118, rfl⟩
abbrev main_v60 : Ref sig .tc := ⟨.hbm, 119, rfl⟩
abbrev main_cst_22 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_cst_23 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_24 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_cst_25 : Ref sig .tc := ⟨.hbm, 132, rfl⟩
abbrev main_v70 : Ref sig .tc := ⟨.hbm, 133, rfl⟩
abbrev main_v71 : Ref sig .tc := ⟨.hbm, 134, rfl⟩
abbrev main_cst_26 : Ref sig .tc := ⟨.hbm, 135, rfl⟩
abbrev main_v72 : Ref sig .tc := ⟨.hbm, 136, rfl⟩
abbrev main_v73 : Ref sig .tc := ⟨.hbm, 137, rfl⟩
abbrev main_cst_27 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_28 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_cst_29 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_30 : Ref sig .tc := ⟨.hbm, 150, rfl⟩
abbrev main_v83 : Ref sig .tc := ⟨.hbm, 151, rfl⟩
abbrev main_v84 : Ref sig .tc := ⟨.hbm, 152, rfl⟩
abbrev main_cst_31 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_cst_32 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_33 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_34 : Ref sig .tc := ⟨.hbm, 165, rfl⟩
abbrev main_v94 : Ref sig .tc := ⟨.hbm, 166, rfl⟩
abbrev main_v95 : Ref sig .tc := ⟨.hbm, 167, rfl⟩
abbrev main_cst_35 : Ref sig .tc := ⟨.hbm, 168, rfl⟩
abbrev main_v96 : Ref sig .tc := ⟨.hbm, 169, rfl⟩
abbrev main_v97 : Ref sig .tc := ⟨.hbm, 170, rfl⟩
abbrev main_cst_36 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_37 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_cst_38 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_cst_39 : Ref sig .tc := ⟨.hbm, 183, rfl⟩
abbrev main_v107 : Ref sig .tc := ⟨.hbm, 184, rfl⟩
abbrev main_v108 : Ref sig .tc := ⟨.hbm, 185, rfl⟩
abbrev main_cst_40 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_cst_41 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_42 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_cst_43 : Ref sig .tc := ⟨.hbm, 198, rfl⟩
abbrev main_v118 : Ref sig .tc := ⟨.hbm, 199, rfl⟩
abbrev main_v119 : Ref sig .tc := ⟨.hbm, 200, rfl⟩
abbrev main_cst_44 : Ref sig .tc := ⟨.hbm, 201, rfl⟩
abbrev main_v120 : Ref sig .tc := ⟨.hbm, 202, rfl⟩
abbrev main_v121 : Ref sig .tc := ⟨.hbm, 203, rfl⟩
abbrev main_cst_45 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_cst_46 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_cst_47 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_48 : Ref sig .tc := ⟨.hbm, 216, rfl⟩
abbrev main_v131 : Ref sig .tc := ⟨.hbm, 217, rfl⟩
abbrev main_v132 : Ref sig .tc := ⟨.hbm, 218, rfl⟩
abbrev main_cst_49 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_cst_50 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_cst_51 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_cst_52 : Ref sig .tc := ⟨.hbm, 231, rfl⟩
abbrev main_v142 : Ref sig .tc := ⟨.hbm, 232, rfl⟩
abbrev main_v143 : Ref sig .tc := ⟨.hbm, 233, rfl⟩
abbrev main_cst_53 : Ref sig .tc := ⟨.hbm, 234, rfl⟩
abbrev main_v144 : Ref sig .tc := ⟨.hbm, 235, rfl⟩
abbrev main_v145 : Ref sig .tc := ⟨.hbm, 236, rfl⟩
abbrev main_cst_54 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_55 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_cst_57 : Ref sig .tc := ⟨.hbm, 249, rfl⟩
abbrev main_v155 : Ref sig .tc := ⟨.hbm, 250, rfl⟩
abbrev main_v156 : Ref sig .tc := ⟨.hbm, 251, rfl⟩
abbrev main_cst_58 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_59 : Ref sig .tc := ⟨.hbm, 256, rfl⟩
abbrev main_v160 : Ref sig .tc := ⟨.hbm, 257, rfl⟩
abbrev main_v161 : Ref sig .tc := ⟨.hbm, 258, rfl⟩
abbrev main_v162 : Ref sig .tc := ⟨.hbm, 259, rfl⟩
abbrev main_cst_60 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_cst_61 : Ref sig .tc := ⟨.hbm, 264, rfl⟩
abbrev main_v166 : Ref sig .tc := ⟨.hbm, 265, rfl⟩
abbrev main_v167 : Ref sig .tc := ⟨.hbm, 266, rfl⟩
abbrev main_cst_62 : Ref sig .tc := ⟨.hbm, 267, rfl⟩
abbrev main_v168 : Ref sig .tc := ⟨.hbm, 268, rfl⟩
abbrev main_v169 : Ref sig .tc := ⟨.hbm, 269, rfl⟩
abbrev main_cst_63 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_cst_64 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_65 : Ref sig .tc := ⟨.hbm, 278, rfl⟩
abbrev main_v176 : Ref sig .tc := ⟨.hbm, 279, rfl⟩
abbrev main_v177 : Ref sig .tc := ⟨.hbm, 280, rfl⟩
abbrev main_v178 : Ref sig .tc := ⟨.hbm, 281, rfl⟩
abbrev main_cst_66 : Ref sig .tc := ⟨.hbm, 282, rfl⟩
abbrev main_v179 : Ref sig .tc := ⟨.hbm, 283, rfl⟩
abbrev main_v180 : Ref sig .tc := ⟨.hbm, 284, rfl⟩
abbrev main_cst_67 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_cst_68 : Ref sig .tc := ⟨.hbm, 289, rfl⟩
abbrev main_v184 : Ref sig .tc := ⟨.hbm, 290, rfl⟩
abbrev main_v185 : Ref sig .tc := ⟨.hbm, 291, rfl⟩
abbrev main_v186 : Ref sig .tc := ⟨.hbm, 292, rfl⟩
abbrev main_cst_69 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_cst_70 : Ref sig .tc := ⟨.hbm, 297, rfl⟩
abbrev main_v190 : Ref sig .tc := ⟨.hbm, 298, rfl⟩
abbrev main_v191 : Ref sig .tc := ⟨.hbm, 299, rfl⟩
abbrev main_cst_71 : Ref sig .tc := ⟨.hbm, 300, rfl⟩
abbrev main_v192 : Ref sig .tc := ⟨.hbm, 301, rfl⟩
abbrev main_v193 : Ref sig .tc := ⟨.hbm, 302, rfl⟩
abbrev main_cst_72 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_cst_73 : Ref sig .tc := ⟨.hbm, 307, rfl⟩
abbrev main_v197 : Ref sig .tc := ⟨.hbm, 308, rfl⟩
abbrev main_v198 : Ref sig .tc := ⟨.hbm, 309, rfl⟩
abbrev main_v199 : Ref sig .tc := ⟨.hbm, 310, rfl⟩
abbrev main_cst_74 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_cst_75 : Ref sig .tc := ⟨.hbm, 315, rfl⟩
abbrev main_v203 : Ref sig .tc := ⟨.hbm, 316, rfl⟩
abbrev main_v204 : Ref sig .tc := ⟨.hbm, 317, rfl⟩
abbrev main_cst_76 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_cst_77 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_cst_78 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_cst_79 : Ref sig .tc := ⟨.hbm, 330, rfl⟩
abbrev main_v214 : Ref sig .tc := ⟨.hbm, 331, rfl⟩
abbrev main_v215 : Ref sig .tc := ⟨.hbm, 332, rfl⟩
abbrev main_v216 : Ref sig .tc := ⟨.hbm, 333, rfl⟩
abbrev main_v217 : Ref sig .tc := ⟨.hbm, 334, rfl⟩
abbrev main_v218 : Ref sig .tc := ⟨.hbm, 335, rfl⟩
abbrev main_cst_80 : Ref sig .tc := ⟨.hbm, 336, rfl⟩
abbrev main_v219 : Ref sig .tc := ⟨.hbm, 337, rfl⟩
abbrev main_v220 : Ref sig .tc := ⟨.hbm, 338, rfl⟩
abbrev main_v221 : Ref sig .tc := ⟨.hbm, 339, rfl⟩
abbrev main_v222 : Ref sig .tc := ⟨.hbm, 340, rfl⟩
abbrev main_v223 : Ref sig .tc := ⟨.hbm, 341, rfl⟩
abbrev main_v224 : Ref sig .tc := ⟨.hbm, 342, rfl⟩
abbrev main_cst_81 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_v231 : Ref sig .tc := ⟨.hbm, 350, rfl⟩
abbrev main_v232 : Ref sig .tc := ⟨.hbm, 351, rfl⟩
abbrev main_cst_82 : Ref sig .tc := ⟨.hbm, 352, rfl⟩
abbrev main_v233 : Ref sig .tc := ⟨.hbm, 353, rfl⟩
abbrev main_v234 : Ref sig .tc := ⟨.hbm, 354, rfl⟩
abbrev main_v235 : Ref sig .tc := ⟨.hbm, 355, rfl⟩
abbrev main_v236 : Ref sig .tc := ⟨.hbm, 356, rfl⟩
abbrev main_v237 : Ref sig .tc := ⟨.hbm, 357, rfl⟩
abbrev main_v238 : Ref sig .tc := ⟨.hbm, 358, rfl⟩
abbrev main_cst_83 : Ref sig .tc := ⟨.hbm, 359, rfl⟩
abbrev main_v239 : Ref sig .tc := ⟨.hbm, 360, rfl⟩
abbrev main_v240 : Ref sig .tc := ⟨.hbm, 361, rfl⟩
abbrev main_v241 : Ref sig .tc := ⟨.hbm, 362, rfl⟩
abbrev main_v242 : Ref sig .tc := ⟨.hbm, 363, rfl⟩
abbrev main_v243 : Ref sig .tc := ⟨.hbm, 364, rfl⟩
abbrev main_v244 : Ref sig .tc := ⟨.hbm, 365, rfl⟩
abbrev main_v245 : Ref sig .tc := ⟨.hbm, 366, rfl⟩
abbrev main_v246 : Ref sig .tc := ⟨.hbm, 367, rfl⟩
abbrev main_cst_84 : Ref sig .tc := ⟨.hbm, 368, rfl⟩
abbrev main_v247 : Ref sig .tc := ⟨.hbm, 369, rfl⟩
abbrev main_v248 : Ref sig .tc := ⟨.hbm, 370, rfl⟩
abbrev main_v249 : Ref sig .tc := ⟨.hbm, 371, rfl⟩
abbrev main_v250 : Ref sig .tc := ⟨.hbm, 372, rfl⟩
abbrev main_v251 : Ref sig .tc := ⟨.hbm, 373, rfl⟩
abbrev main_v252 : Ref sig .tc := ⟨.hbm, 374, rfl⟩
abbrev main_cst_85 : Ref sig .tc := ⟨.hbm, 375, rfl⟩
abbrev main_v253 : Ref sig .tc := ⟨.hbm, 376, rfl⟩
abbrev main_v254 : Ref sig .tc := ⟨.hbm, 377, rfl⟩
abbrev main_v255 : Ref sig .tc := ⟨.hbm, 378, rfl⟩
abbrev main_v256 : Ref sig .tc := ⟨.hbm, 379, rfl⟩
abbrev main_v257 : Ref sig .tc := ⟨.hbm, 380, rfl⟩

abbrev nD : Nat := 1
abbrev τ : Topo := Topo.v7x

variable {F : FTy → Type} [FloatOps F]
-- ==== KMi.lean ====
abbrev S8192x1024 : Shape := ⟨2, ![8192, 1024]⟩
abbrev S2x1024 : Shape := ⟨2, ![2, 1024]⟩
abbrev S1024x1792 : Shape := ⟨2, ![1024, 1792]⟩
abbrev S8192x32 : Shape := ⟨2, ![8192, 32]⟩
abbrev S8x128 : Shape := ⟨2, ![8, 128]⟩
abbrev S8192x128 : Shape := ⟨2, ![8192, 128]⟩
abbrev S2x1x1024 : Shape := ⟨3, ![2, 1, 1024]⟩
abbrev S1792x1024 : Shape := ⟨2, ![1792, 1024]⟩
abbrev S1x1792x1024 : Shape := ⟨3, ![1, 1792, 1024]⟩
abbrev S8192x768 : Shape := ⟨2, ![8192, 768]⟩
abbrev S1024x1024 : Shape := ⟨2, ![1024, 1024]⟩
abbrev S1x1x1024 : Shape := ⟨3, ![1, 1, 1024]⟩
abbrev S1024x128 : Shape := ⟨2, ![1024, 128]⟩
abbrev S1024x768 : Shape := ⟨2, ![1024, 768]⟩
abbrev S1x1024 : Shape := ⟨2, ![1, 1024]⟩
abbrev S1024 : Shape := ⟨1, ![1024]⟩
abbrev S1024x1 : Shape := ⟨2, ![1024, 1]⟩
abbrev S1x640x1024 : Shape := ⟨3, ![1, 640, 1024]⟩
abbrev S640x1024 : Shape := ⟨2, ![640, 1024]⟩
abbrev S1024x640 : Shape := ⟨2, ![1024, 640]⟩
abbrev S1024x512 : Shape := ⟨2, ![1024, 512]⟩
abbrev S1x128x1024 : Shape := ⟨3, ![1, 128, 1024]⟩
abbrev S128x1024 : Shape := ⟨2, ![128, 1024]⟩
abbrev S1x256x1024 : Shape := ⟨3, ![1, 256, 1024]⟩
abbrev S256x1024 : Shape := ⟨2, ![256, 1024]⟩
abbrev S1024x256 : Shape := ⟨2, ![1024, 256]⟩

abbrev nBuf : Space → Nat
  | .hbm => 17
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1024x1792, .f32⟩
  | .hbm, ⟨3, _⟩ => ⟨S8192x32, .f32⟩
  | .hbm, ⟨4, _⟩ => ⟨S8192x32, .f32⟩
  | .hbm, ⟨5, _⟩ => ⟨S8x128, .f32⟩
  | .hbm, ⟨6, _⟩ => ⟨S8192x128, .f32⟩
  | .hbm, ⟨7, _⟩ => ⟨S8192x32, .f32⟩
  | .hbm, ⟨8, _⟩ => ⟨S8192x32, .f32⟩
  | .hbm, ⟨9, _⟩ => ⟨S8192x128, .f32⟩
  | .hbm, ⟨10, _⟩ => ⟨S2x1x1024, .f32⟩
  | .hbm, ⟨11, _⟩ => ⟨S1792x1024, .f32⟩
  | .hbm, ⟨12, _⟩ => ⟨S1x1792x1024, .f32⟩
  | .hbm, ⟨13, _⟩ => ⟨S1x1792x1024, .bf16⟩
  | .hbm, ⟨14, _⟩ => ⟨S8192x1024, .bf16⟩
  | .hbm, ⟨15, _⟩ => ⟨S8192x768, .bf16⟩
  | .hbm, ⟨16, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1792x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S1024x768, .bf16⟩
  | .local _ .vmem, ⟨11, _⟩ => ⟨S1024x768, .bf16⟩
  | .local _ .vmem, ⟨12, _⟩ => ⟨S1024x1024, .bf16⟩
  | .local _ .vmem, ⟨13, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RMiIdeal.lean ====
abbrev S8192x1024 : Shape := ⟨2, ![8192, 1024]⟩
abbrev S2x1024 : Shape := ⟨2, ![2, 1024]⟩
abbrev S1024x1792 : Shape := ⟨2, ![1024, 1792]⟩
abbrev S8192x32 : Shape := ⟨2, ![8192, 32]⟩
abbrev S8x128 : Shape := ⟨2, ![8, 128]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x1792 : Shape := ⟨2, ![8192, 1792]⟩
abbrev S8192x512 : Shape := ⟨2, ![8192, 512]⟩
abbrev S8192x8x64 : Shape := ⟨3, ![8192, 8, 64]⟩
abbrev S8192x8x32 : Shape := ⟨3, ![8192, 8, 32]⟩
abbrev S8192x1x32 : Shape := ⟨3, ![8192, 1, 32]⟩
abbrev S8192x128 : Shape := ⟨2, ![8192, 128]⟩
abbrev S8192x2x64 : Shape := ⟨3, ![8192, 2, 64]⟩
abbrev S8192x2x32 : Shape := ⟨3, ![8192, 2, 32]⟩
abbrev S8192x768 : Shape := ⟨2, ![8192, 768]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024, .f32⟩
  | .hbm, ⟨2, _⟩ => ⟨S1024x1792, .f32⟩
  | .hbm, ⟨3, _⟩ => ⟨S8192x32, .f32⟩
  | .hbm, ⟨4, _⟩ => ⟨S8192x32, .f32⟩
  | .hbm, ⟨5, _⟩ => ⟨S8x128, .f32⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1792, .f32⟩
  | .hbm, ⟨25, _⟩ => ⟨S8192x512, .f32⟩
  | .hbm, ⟨26, _⟩ => ⟨S8192x8x64, .f32⟩
  | .hbm, ⟨27, _⟩ => ⟨S8192x8x32, .f32⟩
  | .hbm, ⟨28, _⟩ => ⟨S8192x8x32, .f32⟩
  | .hbm, ⟨29, _⟩ => ⟨S8192x1x32, .f32⟩
  | .hbm, ⟨30, _⟩ => ⟨S8192x1x32, .f32⟩
  | .hbm, ⟨31, _⟩ => ⟨S8192x8x32, .f32⟩
  | .hbm, ⟨32, _⟩ => ⟨S8192x8x32, .f32⟩
  | .hbm, ⟨33, _⟩ => ⟨S8192x8x32, .f32⟩
  | .hbm, ⟨34, _⟩ => ⟨S8192x8x32, .f32⟩
  | .hbm, ⟨35, _⟩ => ⟨S8192x8x32, .f32⟩
  | .hbm, ⟨36, _⟩ => ⟨S8192x8x32, .f32⟩
  | .hbm, ⟨37, _⟩ => ⟨S8192x8x32, .f32⟩
  | .hbm, ⟨38, _⟩ => ⟨S8192x8x32, .f32⟩
  | .hbm, ⟨39, _⟩ => ⟨S8192x8x32, .f32⟩
  | .hbm, ⟨40, _⟩ => ⟨S8192x8x32, .f32⟩
  | .hbm, ⟨41, _⟩ => ⟨S8192x8x64, .f32⟩
  | .hbm, ⟨42, _⟩ => ⟨S_, .f32⟩
  | .hbm, ⟨43, _⟩ => ⟨S8192x8x64, .f32⟩
  | .hbm, ⟨44, _⟩ => ⟨S8192x8x64, .f32⟩
  | .hbm, ⟨45, _⟩ => ⟨S8192x128, .f32⟩
  | .hbm, ⟨46, _⟩ => ⟨S8192x2x64, .f32⟩
  | .hbm, ⟨47, _⟩ => ⟨S8192x2x32, .f32⟩
  | .hbm, ⟨48, _⟩ => ⟨S8192x2x32, .f32⟩
  | .hbm, ⟨49, _⟩ => ⟨S8192x1x32, .f32⟩
  | .hbm, ⟨50, _⟩ => ⟨S8192x1x32, .f32⟩
  | .hbm, ⟨51, _⟩ => ⟨S8192x2x32, .f32⟩
  | .hbm, ⟨52, _⟩ => ⟨S8192x2x32, .f32⟩
  | .hbm, ⟨53, _⟩ => ⟨S8192x2x32, .f32⟩
  | .hbm, ⟨54, _⟩ => ⟨S8192x2x32, .f32⟩
  | .hbm, ⟨55, _⟩ => ⟨S8192x2x32, .f32⟩
  | .hbm, ⟨56, _⟩ => ⟨S8192x2x32, .f32⟩
  | .hbm, ⟨57, _⟩ => ⟨S8192x2x32, .f32⟩
  | .hbm, ⟨58, _⟩ => ⟨S8192x2x32, .f32⟩
  | .hbm, ⟨59, _⟩ => ⟨S8192x2x32, .f32⟩
  | .hbm, ⟨60, _⟩ => ⟨S8192x2x32, .f32⟩
  | .hbm, ⟨61, _⟩ => ⟨S8192x2x64, .f32⟩
  | .hbm, ⟨62, _⟩ => ⟨S8192x512, .f32⟩
  | .hbm, ⟨63, _⟩ => ⟨S8192x128, .f32⟩
  | .hbm, ⟨64, _⟩ => ⟨S8192x128, .f32⟩
  | .hbm, ⟨65, _⟩ => ⟨S8192x1024, .f32⟩
  | .hbm, ⟨66, _⟩ => ⟨S8192x1024, .bf16⟩
  | .hbm, ⟨67, _⟩ => ⟨S8192x768, .f32⟩
  | .hbm, ⟨68, _⟩ => ⟨S8192x768, .bf16⟩
  | .hbm, ⟨69, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩

abbrev nD : Nat := 1
abbrev τ : Topo := Topo.v7x

variable {F : FTy → Type} [FloatOps F]
-- ==== KIb.lean ====
abbrev S8192x512 : Shape := ⟨2, ![8192, 512]⟩
abbrev S8192x128 : Shape := ⟨2, ![8192, 128]⟩
abbrev S8192x1024 : Shape := ⟨2, ![8192, 1024]⟩
abbrev S8192x32 : Shape := ⟨2, ![8192, 32]⟩
abbrev S2x1024 : Shape := ⟨2, ![2, 1024]⟩
abbrev S1024x1792 : Shape := ⟨2, ![1024, 1792]⟩
abbrev S2x1x1024 : Shape := ⟨3, ![2, 1, 1024]⟩
abbrev S1792x1024 : Shape := ⟨2, ![1792, 1024]⟩
abbrev S1x1792x1024 : Shape := ⟨3, ![1, 1792, 1024]⟩
abbrev S8192x1792 : Shape := ⟨2, ![8192, 1792]⟩
abbrev S1x1024 : Shape := ⟨2, ![1, 1024]⟩
abbrev S1024x512 : Shape := ⟨2, ![1024, 512]⟩
abbrev S1024x128 : Shape := ⟨2, ![1024, 128]⟩
abbrev S1024x1024 : Shape := ⟨2, ![1024, 1024]⟩
abbrev S1x1x1024 : Shape := ⟨3, ![1, 1, 1024]⟩
abbrev S1024x640 : Shape := ⟨2, ![1024, 640]⟩
abbrev S1024 : Shape := ⟨1, ![1024]⟩
abbrev S1024x1 : Shape := ⟨2, ![1024, 1]⟩

abbrev nBuf : Space → Nat
  | .hbm => 23
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x1024, .f32⟩
  | .hbm, ⟨4, _⟩ => ⟨S8192x32, .f32⟩
  | .hbm, ⟨5, _⟩ => ⟨S8192x32, .f32⟩
  | .hbm, ⟨6, _⟩ => ⟨S8192x1024, .f32⟩
  | .hbm, ⟨7, _⟩ => ⟨S8192x1024, .f32⟩
  | .hbm, ⟨8, _⟩ => ⟨S2x1024, .f32⟩
  | .hbm, ⟨9, _⟩ => ⟨S1024x1792, .f32⟩
  | .hbm, ⟨10, _⟩ => ⟨S8192x128, .f32⟩
  | .hbm, ⟨11, _⟩ => ⟨S8192x32, .f32⟩
  | .hbm, ⟨12, _⟩ => ⟨S8192x32, .f32⟩
  | .hbm, ⟨13, _⟩ => ⟨S8192x128, .f32⟩
  | .hbm, ⟨14, _⟩ => ⟨S8192x512, .bf16⟩
  | .hbm, ⟨15, _⟩ => ⟨S8192x1024, .bf16⟩
  | .hbm, ⟨16, _⟩ => ⟨S2x1x1024, .f32⟩
  | .hbm, ⟨17, _⟩ => ⟨S1792x1024, .f32⟩
  | .hbm, ⟨18, _⟩ => ⟨S1x1792x1024, .f32⟩
  | .hbm, ⟨19, _⟩ => ⟨S1x1792x1024, .bf16⟩
  | .hbm, ⟨20, _⟩ => ⟨S8192x1792, .bf16⟩
  | .hbm, ⟨21, _⟩ => ⟨S8192x1024, .f32⟩
  | .hbm, ⟨22, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x1024, .bf16⟩
  | .local _ .vmem, ⟨7, _⟩ => ⟨S1024x1024, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1x1x1024, .f32⟩
  | .local _ .vmem, ⟨17, _⟩ => ⟨S1x1792x1024, .bf16⟩
  | .local _ .vmem, ⟨18, _⟩ => ⟨S1024x1792, .bf16⟩
  | .local _ .vmem, ⟨19, _⟩ => ⟨S1024x1792, .bf16⟩
  | .local _ .vmem, ⟨20, _⟩ => ⟨S1024x1024, .f32⟩
  | .local _ .vmem, ⟨21, _⟩ => ⟨S1024x1024, .f32⟩
  | .local _ .vmem, ⟨22, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1792x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1792 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== RIbIdeal.lean ====
abbrev S8192x512 : Shape := ⟨2, ![8192, 512]⟩
abbrev S8192x128 : Shape := ⟨2, ![8192, 128]⟩
abbrev S8192x1024 : Shape := ⟨2, ![8192, 1024]⟩
abbrev S8192x32 : Shape := ⟨2, ![8192, 32]⟩
abbrev S2x1024 : Shape := ⟨2, ![2, 1024]⟩
abbrev S1024x1792 : Shape := ⟨2, ![1024, 1792]⟩
abbrev S_ : Shape := ⟨0, ![]⟩
abbrev S8192x1792 : Shape := ⟨2, ![8192, 1792]⟩
abbrev S8192x8x64 : Shape := ⟨3, ![8192, 8, 64]⟩
abbrev S8192x8x32 : Shape := ⟨3, ![8192, 8, 32]⟩
abbrev S8192x1x32 : Shape := ⟨3, ![8192, 1, 32]⟩
abbrev S8192x2x64 : Shape := ⟨3, ![8192, 2, 64]⟩
abbrev S8192x2x32 : Shape := ⟨3, ![8192, 2, 32]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩

abbrev nBuf : Space → Nat
  | .hbm => 151
  | .vmem => 0
  | .smem => 0
  | _ => 0

abbrev hbmTy0_0 (i : Nat) : BufTy := match i % 128 with
  | 0 => ⟨S8192x512, .f32⟩
  | 1 => ⟨S8192x128, .f32⟩
  | 2 => ⟨S8192x128, .f32⟩
  | 3 => ⟨S8192x1024, .f32⟩
  | 4 => ⟨S8192x32, .f32⟩
  | 5 => ⟨S8192x32, .f32⟩
  | 6 => ⟨S8192x1024, .f32⟩
  | 7 => ⟨S8192x1024, .f32⟩
  | 8 => ⟨S2x1024, .f32⟩
  | 9 => ⟨S1024x1792, .f32⟩
  | 10 => ⟨S_, .f32⟩
  | 11 => ⟨S8192x1792, .f32⟩
  | 12 => ⟨S8192x512, .f32⟩
  | 13 => ⟨S8192x8x64, .f32⟩
  | 14 => ⟨S8192x8x32, .f32⟩
  | 15 => ⟨S8192x8x32, .f32⟩
  | 16 => ⟨S8192x1x32, .f32⟩
  | 17 => ⟨S8192x1x32, .f32⟩
  | 18 => ⟨S8192x8x32, .f32⟩
  | 19 => ⟨S8192x8x32, .f32⟩
  | 20 => ⟨S8192x8x32, .f32⟩
  | 21 => ⟨S8192x8x32, .f32⟩
  | 22 => ⟨S8192x8x32, .f32⟩
  | 23 => ⟨S8192x8x32, .f32⟩
  | 24 => ⟨S8192x8x32, .f32⟩
  | 25 => ⟨S8192x8x32, .f32⟩
  | 26 => ⟨S8192x8x32, .f32⟩
  | 27 => ⟨S8192x8x32, .f32⟩
  | 28 => ⟨S8192x8x64, .f32⟩
  | 29 => ⟨S_, .f32⟩
  | 30 => ⟨S8192x8x64, .f32⟩
  | 31 => ⟨S8192x8x64, .f32⟩
  | 32 => ⟨S8192x128, .f32⟩
  | 33 => ⟨S8192x2x64, .f32⟩
  | 34 => ⟨S8192x2x32, .f32⟩
  | 35 => ⟨S8192x2x32, .f32⟩
  | 36 => ⟨S8192x1x32, .f32⟩
  | 37 => ⟨S8192x1x32, .f32⟩
  | 38 => ⟨S8192x2x32, .f32⟩
  | 39 => ⟨S8192x2x32, .f32⟩
  | 40 => ⟨S8192x2x32, .f32⟩
  | 41 => ⟨S8192x2x32, .f32⟩
  | 42 => ⟨S8192x2x32, .f32⟩
  | 43 => ⟨S8192x2x32, .f32⟩
  | 44 => ⟨S8192x2x32, .f32⟩
  | 45 => ⟨S8192x2x32, .f32⟩
  | 46 => ⟨S8192x2x32, .f32⟩
  | 47 => ⟨S8192x2x32, .f32⟩
  | 48 => ⟨S8192x2x64, .f32⟩
  | 49 => ⟨S8192x512, .f32⟩
  | 50 => ⟨S8192x128, .f32⟩
  | 51 => ⟨S8192x128, .f32⟩
  | 52 => ⟨S8192x1024, .f32⟩
  | 53 => ⟨S_, .f32⟩
  | 54 => ⟨S8192x1792, .f32⟩
  | 55 => ⟨S_, .f32⟩
  | 56 => ⟨S8192x1792, .f32⟩
  | 57 => ⟨S8192x1792, .f32⟩
  | 58 => ⟨S8192x2x64, .f32⟩
  | 59 => ⟨S8192x8x64, .f32⟩
  | 60 => ⟨S8192x2x32, .f32⟩
  | 61 => ⟨S8192x2x32, .f32⟩
  | 62 => ⟨S8192x2x32, .f32⟩
  | 63 => ⟨S8192x2x32, .f32⟩
  | 64 => ⟨S8192x2x32, .f32⟩
  | 65 => ⟨S8192x2x32, .f32⟩
  | 66 => ⟨S8192x2x32, .f32⟩
  | 67 => ⟨S8192x2x32, .f32⟩
  | 68 => ⟨S8192x2x32, .f32⟩
  | 69 => ⟨S8192x2x32, .f32⟩
  | 70 => ⟨S8192x2x32, .f32⟩
  | 71 => ⟨S8192x2x32, .f32⟩
  | 72 => ⟨S8192x2x32, .f32⟩
  | 73 => ⟨S8192x2x64, .f32⟩
  | 74 => ⟨S8192x128, .f32⟩
  | 75 => ⟨S_, .f32⟩
  | 76 => ⟨S8192x1792, .f32⟩
  | 77 => ⟨S8192x1792, .f32⟩
  | 78 => ⟨S_, .f32⟩
  | 79 => ⟨S8192x8x64, .f32⟩
  | 80 => ⟨S8192x8x64, .f32⟩
  | 81 => ⟨S8192x8x32, .f32⟩
  | 82 => ⟨S8192x8x32, .f32⟩
  | 83 => ⟨S8192x8x32, .f32⟩
  | 84 => ⟨S8192x8x32, .f32⟩
  | 85 => ⟨S8192x8x32, .f32⟩
  | 86 => ⟨S8192x8x32, .f32⟩
  | 87 => ⟨S8192x8x32, .f32⟩
  | 88 => ⟨S8192x8x32, .f32⟩
  | 89 => ⟨S8192x8x32, .f32⟩
  | 90 => ⟨S8192x8x32, .f32⟩
  | 91 => ⟨S8192x8x32, .f32⟩
  | 92 => ⟨S8192x8x32, .f32⟩
  | 93 => ⟨S8192x8x32, .f32⟩
  | 94 => ⟨S8192x8x64, .f32⟩
  | 95 => ⟨S8192x512, .f32⟩
  | 96 => ⟨S_, .f32⟩
  | 97 => ⟨S8192x1792, .f32⟩
  | 98 => ⟨S8192x1792, .f32⟩
  | 99 => ⟨S1x1024, .f32⟩
  | 100 => ⟨S1024, .f32⟩
  | 101 => ⟨S8192x1024, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192x1, .f32⟩
  | 110 => ⟨S8192x1, .f32⟩
  | 111 => ⟨S8192x1, .f32⟩
  | 112 => ⟨S8192x1, .f32⟩
  | 113 => ⟨S_, .f32⟩
  | 114 => ⟨S8192x1, .f32⟩
  | 115 => ⟨S8192x1, .f32⟩
  | 116 => ⟨S8192x1024, .f32⟩
  | 117 => ⟨S8192x1024, .f32⟩
  | 118 => ⟨S1x1024, .f32⟩
  | 119 => ⟨S8192x1024, .f32⟩
  | 120 => ⟨S8192x1024, .f32⟩
  | 121 => ⟨S8192x1792, .f32⟩
  | 122 => ⟨S8192x1024, .f32⟩
  | 123 => ⟨S8192x1024, .f32⟩
  | 124 => ⟨S_, .f32⟩
  | 125 => ⟨S1024, .f32⟩
  | 126 => ⟨S1x1024, .f32⟩
  | 127 => ⟨S8192x1024, .f32⟩
  | _ => ⟨S8192x512, .f32⟩

abbrev hbmTy0_1 (i : Nat) : BufTy := match i % 128 with
  | 0 => ⟨S8192x1024, .f32⟩
  | 1 => ⟨S_, .f32⟩
  | 2 => ⟨S1024, .f32⟩
  | 3 => ⟨S8192x1024, .f32⟩
  | 4 => ⟨S_, .f32⟩
  | 5 => ⟨S8192, .f32⟩
  | 6 => ⟨S8192x1, .f32⟩
  | 7 => ⟨S8192x1024, .f32⟩
  | 8 => ⟨S8192x1024, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1792, .bf16⟩
  | 21 => ⟨S8192x1024, .f32⟩
  | 22 => ⟨S1x1024, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_1 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_3 : Ref sig .tc := ⟨.hbm, 75, rfl⟩
abbrev main_v61 : Ref sig .tc := ⟨.hbm, 76, rfl⟩
abbrev main_v62 : Ref sig .tc := ⟨.hbm, 77, rfl⟩
abbrev main_cst_4 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_5 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_6 : Ref sig .tc := ⟨.hbm, 102, rfl⟩
abbrev main_v85 : Ref sig .tc := ⟨.hbm, 103, rfl⟩
abbrev main_v86 : Ref sig .tc := ⟨.hbm, 104, rfl⟩
abbrev main_cst_7 : Ref sig .tc := ⟨.hbm, 105, rfl⟩
abbrev main_v87 : Ref sig .tc := ⟨.hbm, 106, rfl⟩
abbrev main_v88 : Ref sig .tc := ⟨.hbm, 107, rfl⟩
abbrev main_cst_8 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_9 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_10 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_cst_11 : Ref sig .tc := ⟨.hbm, 129, rfl⟩
abbrev main_v107 : Ref sig .tc := ⟨.hbm, 130, rfl⟩
abbrev main_v108 : Ref sig .tc := ⟨.hbm, 131, rfl⟩
abbrev main_cst_12 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_cst_13 : Ref sig .tc := ⟨.hbm, 138, rfl⟩
abbrev main_v114 : Ref sig .tc := ⟨.hbm, 139, rfl⟩
abbrev main_v115 : Ref sig .tc := ⟨.hbm, 140, rfl⟩
abbrev main_cst_14 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩

abbrev nD : Nat := 1
abbrev τ : Topo := Topo.v7x

variable {F : FTy → Type} [FloatOps F]
-- ==== KSu.lean ====
abbrev S1 : Shape := ⟨1, ![1]⟩
abbrev S3x2816x1024 : Shape := ⟨3, ![3, 2816, 1024]⟩
abbrev S4x3x352x1024 : Shape := ⟨4, ![4, 3, 352, 1024]⟩
abbrev S3x3x352x1024 : Shape := ⟨4, ![3, 3, 352, 1024]⟩
abbrev S3x352x1024 : Shape := ⟨3, ![3, 352, 1024]⟩
abbrev S1x352x1024 : Shape := ⟨3, ![1, 352, 1024]⟩
abbrev S1x1x352x1024 : Shape := ⟨4, ![1, 1, 352, 1024]⟩
abbrev S352x1024 : Shape := ⟨2, ![352, 1024]⟩

abbrev nBuf : Space → Nat
  | .hbm => 5
  | .vmem => 12
  | .smem => 2
  | _ => 0

abbrev bufTy : (tb : Table) → Fin (tcTables nBuf tb) → BufTy
  | .hbm, ⟨0, _⟩ => ⟨S3x2816x1024, .f32⟩
  | .hbm, ⟨1, _⟩ => ⟨S4x3x352x1024, .f32⟩
  | .hbm, ⟨2, _⟩ => ⟨S3x3x352x1024, .f32⟩
  | .hbm, ⟨3, _⟩ => ⟨S3x3x352x1024, .bf16⟩
  | .hbm, ⟨4, _⟩ => ⟨S3x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x1x352x1024, .f32⟩
  | .local _ .vmem, ⟨3, _⟩ => ⟨S1x1x352x1024, .f32⟩
  | .local _ .vmem, ⟨4, _⟩ => ⟨S1x1x352x1024, .bf16⟩
  | .local _ .vmem, ⟨5, _⟩ => ⟨S1x1x352x1024, .bf16⟩
  | .local _ .vmem, ⟨6, _⟩ => ⟨S1x1x352x1024, .bf16⟩
  | .local _ .vmem, ⟨7, _⟩ => ⟨S1x1x352x1024, .bf16⟩
  | .local _ .vmem, ⟨8, _⟩ => ⟨S1x1x352x1024, .bf16⟩
  | .local _ .vmem, ⟨9, _⟩ => ⟨S1x1x352x1024, .bf16⟩
  | .local _ .vmem, ⟨10, _⟩ => ⟨S1x352x1024, .f32⟩
  | .local _ .vmem, ⟨11, _⟩ => ⟨S1x352x1024, .f32⟩
  | .local _ .smem, ⟨0, _⟩ => ⟨S1, .i32⟩
  | .local _ .smem, ⟨1, _⟩ => ⟨S1, .i32⟩
  | _, _ => ⟨S3x2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![3], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KSuIdeal.lean ====
abbrev S1 : Shape := ⟨1, ![1]⟩
abbrev S3x2816x1024 : Shape := ⟨3, ![3, 2816, 1024]⟩
abbrev S4x3x352x1024 : Shape := ⟨4, ![4, 3, 352, 1024]⟩
abbrev S3x3x352x1024 : Shape := ⟨4, ![3, 3, 352, 1024]⟩
abbrev S3x352x1024 : Shape := ⟨3, ![3, 352, 1024]⟩
abbrev S1x352x1024 : Shape := ⟨3, ![1, 352, 1024]⟩
abbrev S1x1x352x1024 : Shape := ⟨4, ![1, 1, 352, 1024]⟩
abbrev S352x1024 : Shape := ⟨2, ![352, 1024]⟩

abbrev nBuf : Space → Nat
  | .hbm => 5
  | .vmem => 12
  | .smem => 2
  | _ => 0

abbrev bufTy : (tb : Table) → Fin (tcTables nBuf tb) → BufTy
  | .hbm, ⟨0, _⟩ => ⟨S3x2816x1024, .f32⟩
  | .hbm, ⟨1, _⟩ => ⟨S4x3x352x1024, .f32⟩
  | .hbm, ⟨2, _⟩ => ⟨S3x3x352x1024, .f32⟩
  | .hbm, ⟨3, _⟩ => ⟨S3x3x352x1024, .bf16⟩
  | .hbm, ⟨4, _⟩ => ⟨S3x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x1x352x1024, .f32⟩
  | .local _ .vmem, ⟨3, _⟩ => ⟨S1x1x352x1024, .f32⟩
  | .local _ .vmem, ⟨4, _⟩ => ⟨S1x1x352x1024, .bf16⟩
  | .local _ .vmem, ⟨5, _⟩ => ⟨S1x1x352x1024, .bf16⟩
  | .local _ .vmem, ⟨6, _⟩ => ⟨S1x1x352x1024, .bf16⟩
  | .local _ .vmem, ⟨7, _⟩ => ⟨S1x1x352x1024, .bf16⟩
  | .local _ .vmem, ⟨8, _⟩ => ⟨S1x1x352x1024, .bf16⟩
  | .local _ .vmem, ⟨9, _⟩ => ⟨S1x1x352x1024, .bf16⟩
  | .local _ .vmem, ⟨10, _⟩ => ⟨S1x352x1024, .f32⟩
  | .local _ .vmem, ⟨11, _⟩ => ⟨S1x352x1024, .f32⟩
  | .local _ .smem, ⟨0, _⟩ => ⟨S1, .i32⟩
  | .local _ .smem, ⟨1, _⟩ => ⟨S1, .i32⟩
  | _, _ => ⟨S3x2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![3], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RSuIdeal.lean ====
abbrev S1 : Shape := ⟨1, ![1]⟩
abbrev S3x2816x1024 : Shape := ⟨3, ![3, 2816, 1024]⟩
abbrev S4x3x352x1024 : Shape := ⟨4, ![4, 3, 352, 1024]⟩
abbrev S3x3x352x1024 : Shape := ⟨4, ![3, 3, 352, 1024]⟩
abbrev S8 : Shape := ⟨1, ![8]⟩
abbrev S1x8x1x1 : Shape := ⟨4, ![1, 8, 1, 1]⟩
abbrev S_ : Shape := ⟨0, ![]⟩
abbrev S4 : Shape := ⟨1, ![4]⟩
abbrev S4x1x1x1 : Shape := ⟨4, ![4, 1, 1, 1]⟩
abbrev S3x8x352x1024 : Shape := ⟨4, ![3, 8, 352, 1024]⟩
abbrev S3x352x1024 : Shape := ⟨3, ![3, 352, 1024]⟩

abbrev nBuf : Space → Nat
  | .hbm => 34
  | .vmem => 0
  | .smem => 0
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S3x2816x1024, .f32⟩
  | .hbm, ⟨3, _⟩ => ⟨S4x3x352x1024, .f32⟩
  | .hbm, ⟨4, _⟩ => ⟨S3x3x352x1024, .f32⟩
  | .hbm, ⟨5, _⟩ => ⟨S8, .i32⟩
  | .hbm, ⟨6, _⟩ => ⟨S1x8x1x1, .i32⟩
  | .hbm, ⟨7, _⟩ => ⟨S_, .i32⟩
  | .hbm, ⟨8, _⟩ => ⟨S1x8x1x1, .i32⟩
  | .hbm, ⟨9, _⟩ => ⟨S1x8x1x1, .i1⟩
  | .hbm, ⟨10, _⟩ => ⟨S4, .i32⟩
  | .hbm, ⟨11, _⟩ => ⟨S4x1x1x1, .i32⟩
  | .hbm, ⟨12, _⟩ => ⟨S_, .i32⟩
  | .hbm, ⟨13, _⟩ => ⟨S4x1x1x1, .i32⟩
  | .hbm, ⟨14, _⟩ => ⟨S4x1x1x1, .i1⟩
  | .hbm, ⟨15, _⟩ => ⟨S3x8x352x1024, .f32⟩
  | .hbm, ⟨16, _⟩ => ⟨S_, .f32⟩
  | .hbm, ⟨17, _⟩ => ⟨S_, .f32⟩
  | .hbm, ⟨18, _⟩ => ⟨S3x8x352x1024, .i1⟩
  | .hbm, ⟨19, _⟩ => ⟨S3x8x352x1024, .f32⟩
  | .hbm, ⟨20, _⟩ => ⟨S3x8x352x1024, .f32⟩
  | .hbm, ⟨21, _⟩ => ⟨S_, .f32⟩
  | .hbm, ⟨22, _⟩ => ⟨S3x352x1024, .f32⟩
  | .hbm, ⟨23, _⟩ => ⟨S_, .f32⟩
  | .hbm, ⟨24, _⟩ => ⟨S_, .f32⟩
  | .hbm, ⟨25, _⟩ => ⟨S4x3x352x1024, .i1⟩
  | .hbm, ⟨26, _⟩ => ⟨S4x3x352x1024, .f32⟩
  | .hbm, ⟨27, _⟩ => ⟨S4x3x352x1024, .f32⟩
  | .hbm, ⟨28, _⟩ => ⟨S_, .f32⟩
  | .hbm, ⟨29, _⟩ => ⟨S3x352x1024, .f32⟩
  | .hbm, ⟨30, _⟩ => ⟨S3x352x1024, .f32⟩
  | .hbm, ⟨31, _⟩ => ⟨S_, .f32⟩
  | .hbm, ⟨32, _⟩ => ⟨S3x352x1024, .f32⟩
  | .hbm, ⟨33, _⟩ => ⟨S3x352x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== KSi.lean ====
abbrev S1 : Shape := ⟨1, ![1]⟩
abbrev S1x1792x1024 : Shape := ⟨3, ![1, 1792, 1024]⟩
abbrev S4x1x224x1024 : Shape := ⟨4, ![4, 1, 224, 1024]⟩
abbrev S3x1x224x1024 : Shape := ⟨4, ![3, 1, 224, 1024]⟩
abbrev S1x224x1024 : Shape := ⟨3, ![1, 224, 1024]⟩
abbrev S1x1x224x1024 : Shape := ⟨4, ![1, 1, 224, 1024]⟩
abbrev S224x1024 : Shape := ⟨2, ![224, 1024]⟩

abbrev nBuf : Space → Nat
  | .hbm => 5
  | .vmem => 6
  | .smem => 2
  | _ => 0

abbrev bufTy : (tb : Table) → Fin (tcTables nBuf tb) → BufTy
  | .hbm, ⟨0, _⟩ => ⟨S1x1792x1024, .f32⟩
  | .hbm, ⟨1, _⟩ => ⟨S4x1x224x1024, .f32⟩
  | .hbm, ⟨2, _⟩ => ⟨S3x1x224x1024, .f32⟩
  | .hbm, ⟨3, _⟩ => ⟨S3x1x224x1024, .bf16⟩
  | .hbm, ⟨4, _⟩ => ⟨S1x224x1024, .f32⟩
  | .local _ .vmem, ⟨0, _⟩ => ⟨S1x224x1024, .f32⟩
  | .local _ .vmem, ⟨1, _⟩ => ⟨S1x1x224x1024, .f32⟩
  | .local _ .vmem, ⟨2, _⟩ => ⟨S1x1x224x1024, .bf16⟩
  | .local _ .vmem, ⟨3, _⟩ => ⟨S1x1x224x1024, .bf16⟩
  | .local _ .vmem, ⟨4, _⟩ => ⟨S1x1x224x1024, .bf16⟩
  | .local _ .vmem, ⟨5, _⟩ => ⟨S1x224x1024, .f32⟩
  | .local _ .smem, ⟨0, _⟩ => ⟨S1, .i32⟩
  | .local _ .smem, ⟨1, _⟩ => ⟨S1, .i32⟩
  | _, _ => ⟨S1x1792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x224x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x224x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x224x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x224x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x224x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x224x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== KSiIdeal.lean ====
abbrev S1 : Shape := ⟨1, ![1]⟩
abbrev S1x1792x1024 : Shape := ⟨3, ![1, 1792, 1024]⟩
abbrev S4x1x224x1024 : Shape := ⟨4, ![4, 1, 224, 1024]⟩
abbrev S3x1x224x1024 : Shape := ⟨4, ![3, 1, 224, 1024]⟩
abbrev S1x224x1024 : Shape := ⟨3, ![1, 224, 1024]⟩
abbrev S1x1x224x1024 : Shape := ⟨4, ![1, 1, 224, 1024]⟩
abbrev S224x1024 : Shape := ⟨2, ![224, 1024]⟩

abbrev nBuf : Space → Nat
  | .hbm => 5
  | .vmem => 6
  | .smem => 2
  | _ => 0

abbrev bufTy : (tb : Table) → Fin (tcTables nBuf tb) → BufTy
  | .hbm, ⟨0, _⟩ => ⟨S1x1792x1024, .f32⟩
  | .hbm, ⟨1, _⟩ => ⟨S4x1x224x1024, .f32⟩
  | .hbm, ⟨2, _⟩ => ⟨S3x1x224x1024, .f32⟩
  | .hbm, ⟨3, _⟩ => ⟨S3x1x224x1024, .bf16⟩
  | .hbm, ⟨4, _⟩ => ⟨S1x224x1024, .f32⟩
  | .local _ .vmem, ⟨0, _⟩ => ⟨S1x224x1024, .f32⟩
  | .local _ .vmem, ⟨1, _⟩ => ⟨S1x1x224x1024, .f32⟩
  | .local _ .vmem, ⟨2, _⟩ => ⟨S1x1x224x1024, .bf16⟩
  | .local _ .vmem, ⟨3, _⟩ => ⟨S1x1x224x1024, .bf16⟩
  | .local _ .vmem, ⟨4, _⟩ => ⟨S1x1x224x1024, .bf16⟩
  | .local _ .vmem, ⟨5, _⟩ => ⟨S1x224x1024, .f32⟩
  | .local _ .smem, ⟨0, _⟩ => ⟨S1, .i32⟩
  | .local _ .smem, ⟨1, _⟩ => ⟨S1, .i32⟩
  | _, _ => ⟨S1x1792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x224x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x224x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x224x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x224x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x224x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x224x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== RSiIdeal.lean ====
abbrev S1 : Shape := ⟨1, ![1]⟩
abbrev S1x1792x1024 : Shape := ⟨3, ![1, 1792, 1024]⟩
abbrev S4x1x224x1024 : Shape := ⟨4, ![4, 1, 224, 1024]⟩
abbrev S3x1x224x1024 : Shape := ⟨4, ![3, 1, 224, 1024]⟩
abbrev S8 : Shape := ⟨1, ![8]⟩
abbrev S1x8x1x1 : Shape := ⟨4, ![1, 8, 1, 1]⟩
abbrev S_ : Shape := ⟨0, ![]⟩
abbrev S4 : Shape := ⟨1, ![4]⟩
abbrev S4x1x1x1 : Shape := ⟨4, ![4, 1, 1, 1]⟩
abbrev S1x8x224x1024 : Shape := ⟨4, ![1, 8, 224, 1024]⟩
abbrev S1x224x1024 : Shape := ⟨3, ![1, 224, 1024]⟩

abbrev nBuf : Space → Nat
  | .hbm => 34
  | .vmem => 0
  | .smem => 0
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S1x1792x1024, .f32⟩
  | .hbm, ⟨3, _⟩ => ⟨S4x1x224x1024, .f32⟩
  | .hbm, ⟨4, _⟩ => ⟨S3x1x224x1024, .f32⟩
  | .hbm, ⟨5, _⟩ => ⟨S8, .i32⟩
  | .hbm, ⟨6, _⟩ => ⟨S1x8x1x1, .i32⟩
  | .hbm, ⟨7, _⟩ => ⟨S_, .i32⟩
  | .hbm, ⟨8, _⟩ => ⟨S1x8x1x1, .i32⟩
  | .hbm, ⟨9, _⟩ => ⟨S1x8x1x1, .i1⟩
  | .hbm, ⟨10, _⟩ => ⟨S4, .i32⟩
  | .hbm, ⟨11, _⟩ => ⟨S4x1x1x1, .i32⟩
  | .hbm, ⟨12, _⟩ => ⟨S_, .i32⟩
  | .hbm, ⟨13, _⟩ => ⟨S4x1x1x1, .i32⟩
  | .hbm, ⟨14, _⟩ => ⟨S4x1x1x1, .i1⟩
  | .hbm, ⟨15, _⟩ => ⟨S1x8x224x1024, .f32⟩
  | .hbm, ⟨16, _⟩ => ⟨S_, .f32⟩
  | .hbm, ⟨17, _⟩ => ⟨S_, .f32⟩
  | .hbm, ⟨18, _⟩ => ⟨S1x8x224x1024, .i1⟩
  | .hbm, ⟨19, _⟩ => ⟨S1x8x224x1024, .f32⟩
  | .hbm, ⟨20, _⟩ => ⟨S1x8x224x1024, .f32⟩
  | .hbm, ⟨21, _⟩ => ⟨S_, .f32⟩
  | .hbm, ⟨22, _⟩ => ⟨S1x224x1024, .f32⟩
  | .hbm, ⟨23, _⟩ => ⟨S_, .f32⟩
  | .hbm, ⟨24, _⟩ => ⟨S_, .f32⟩
  | .hbm, ⟨25, _⟩ => ⟨S4x1x224x1024, .i1⟩
  | .hbm, ⟨26, _⟩ => ⟨S4x1x224x1024, .f32⟩
  | .hbm, ⟨27, _⟩ => ⟨S4x1x224x1024, .f32⟩
  | .hbm, ⟨28, _⟩ => ⟨S_, .f32⟩
  | .hbm, ⟨29, _⟩ => ⟨S1x224x1024, .f32⟩
  | .hbm, ⟨30, _⟩ => ⟨S1x224x1024, .f32⟩
  | .hbm, ⟨31, _⟩ => ⟨S_, .f32⟩
  | .hbm, ⟨32, _⟩ => ⟨S1x224x1024, .f32⟩
  | .hbm, ⟨33, _⟩ => ⟨S1x224x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== KSo.lean ====
abbrev S1 : Shape := ⟨1, ![1]⟩
abbrev S1x1024x1024 : Shape := ⟨3, ![1, 1024, 1024]⟩
abbrev S4x1x128x1024 : Shape := ⟨4, ![4, 1, 128, 1024]⟩
abbrev S3x1x128x1024 : Shape := ⟨4, ![3, 1, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 5
  | .vmem => 6
  | .smem => 2
  | _ => 0

abbrev bufTy : (tb : Table) → Fin (tcTables nBuf tb) → BufTy
  | .hbm, ⟨0, _⟩ => ⟨S1x1024x1024, .f32⟩
  | .hbm, ⟨1, _⟩ => ⟨S4x1x128x1024, .f32⟩
  | .hbm, ⟨2, _⟩ => ⟨S3x1x128x1024, .f32⟩
  | .hbm, ⟨3, _⟩ => ⟨S3x1x128x1024, .bf16⟩
  | .hbm, ⟨4, _⟩ => ⟨S1x128x1024, .f32⟩
  | .local _ .vmem, ⟨0, _⟩ => ⟨S1x128x1024, .f32⟩
  | .local _ .vmem, ⟨1, _⟩ => ⟨S1x1x128x1024, .f32⟩
  | .local _ .vmem, ⟨2, _⟩ => ⟨S1x1x128x1024, .bf16⟩
  | .local _ .vmem, ⟨3, _⟩ => ⟨S1x1x128x1024, .bf16⟩
  | .local _ .vmem, ⟨4, _⟩ => ⟨S1x1x128x1024, .bf16⟩
  | .local _ .vmem, ⟨5, _⟩ => ⟨S1x128x1024, .f32⟩
  | .local _ .smem, ⟨0, _⟩ => ⟨S1, .i32⟩
  | .local _ .smem, ⟨1, _⟩ => ⟨S1, .i32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let c0 : Index := 0#32
  let v0 : BitVec 32 := pf.at 1 (Rect.unit (s := S1) ![0] S1.size inb_S1_S1_0) numel1_S1
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_4 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== RSoIdeal.lean ====
abbrev S1 : Shape := ⟨1, ![1]⟩
abbrev S1x1024x1024 : Shape := ⟨3, ![1, 1024, 1024]⟩
abbrev S4x1x128x1024 : Shape := ⟨4, ![4, 1, 128, 1024]⟩
abbrev S3x1x128x1024 : Shape := ⟨4, ![3, 1, 128, 1024]⟩
abbrev S8 : Shape := ⟨1, ![8]⟩
abbrev S1x8x1x1 : Shape := ⟨4, ![1, 8, 1, 1]⟩
abbrev S_ : Shape := ⟨0, ![]⟩
abbrev S4 : Shape := ⟨1, ![4]⟩
abbrev S4x1x1x1 : Shape := ⟨4, ![4, 1, 1, 1]⟩
abbrev S1x8x128x1024 : Shape := ⟨4, ![1, 8, 128, 1024]⟩
abbrev S1x128x1024 : Shape := ⟨3, ![1, 128, 1024]⟩

abbrev nBuf : Space → Nat
  | .hbm => 34
  | .vmem => 0
  | .smem => 0
  | _ => 0

abbrev bufTy : (tb : Table) → Fin (tcTables nBuf tb) → BufTy
  | .hbm, ⟨0, _⟩ => ⟨S1, .i32⟩
  | .hbm, ⟨1, _⟩ => ⟨S1, .i32⟩
  | .hbm, ⟨2, _⟩ => ⟨S1x1024x1024, .f32⟩
  | .hbm, ⟨3, _⟩ => ⟨S4x1x128x1024, .f32⟩
  | .hbm, ⟨4, _⟩ => ⟨S3x1x128x1024, .f32⟩
  | .hbm, ⟨5, _⟩ => ⟨S8, .i32⟩
  | .hbm, ⟨6, _⟩ => ⟨S1x8x1x1, .i32⟩
  | .hbm, ⟨7, _⟩ => ⟨S_, .i32⟩
  | .hbm, ⟨8, _⟩ => ⟨S1x8x1x1, .i32⟩
  | .hbm, ⟨9, _⟩ => ⟨S1x8x1x1, .i1⟩
  | .hbm, ⟨10, _⟩ => ⟨S4, .i32⟩
  | .hbm, ⟨11, _⟩ => ⟨S4x1x1x1, .i32⟩
  | .hbm, ⟨12, _⟩ => ⟨S_, .i32⟩
  | .hbm, ⟨13, _⟩ => ⟨S4x1x1x1, .i32⟩
  | .hbm, ⟨14, _⟩ => ⟨S4x1x1x1, .i1⟩
  | .hbm, ⟨15, _⟩ => ⟨S1x8x128x1024, .f32⟩
  | .hbm, ⟨16, _⟩ => ⟨S_, .f32⟩
  | .hbm, ⟨17, _⟩ => ⟨S_, .f32⟩
  | .hbm, ⟨18, _⟩ => ⟨S1x8x128x1024, .i1⟩
  | .hbm, ⟨19, _⟩ => ⟨S1x8x128x1024, .f32⟩
  | .hbm, ⟨20, _⟩ => ⟨S1x8x128x1024, .f32⟩
  | .hbm, ⟨21, _⟩ => ⟨S_, .f32⟩
  | .hbm, ⟨22, _⟩ => ⟨S1x128x1024, .f32⟩
  | .hbm, ⟨23, _⟩ => ⟨S_, .f32⟩
  | .hbm, ⟨24, _⟩ => ⟨S_, .f32⟩
  | .hbm, ⟨25, _⟩ => ⟨S4x1x128x1024, .i1⟩
  | .hbm, ⟨26, _⟩ => ⟨S4x1x128x1024, .f32⟩
  | .hbm, ⟨27, _⟩ => ⟨S4x1x128x1024, .f32⟩
  | .hbm, ⟨28, _⟩ => ⟨S_, .f32⟩
  | .hbm, ⟨29, _⟩ => ⟨S1x128x1024, .f32⟩
  | .hbm, ⟨30, _⟩ => ⟨S1x128x1024, .f32⟩
  | .hbm, ⟨31, _⟩ => ⟨S_, .f32⟩
  | .hbm, ⟨32, _⟩ => ⟨S1x128x1024, .f32⟩
  | .hbm, ⟨33, _⟩ => ⟨S1x128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== KLo.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S1x2816x1024 : Shape := ⟨3, ![1, 2816, 1024]⟩
abbrev S3x2816x1024 : Shape := ⟨3, ![3, 2816, 1024]⟩
abbrev S1x1024 : Shape := ⟨2, ![1, 1024]⟩
abbrev S1x128 : Shape := ⟨2, ![1, 128]⟩
abbrev S1024x1024 : Shape := ⟨2, ![1024, 1024]⟩
abbrev S1024x1 : Shape := ⟨2, ![1024, 1]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 19
  | .vmem => 12
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S8192x2816, .bf16⟩
  | .hbm, ⟨8, _⟩ => ⟨S2816x1024, .f32⟩
  | .hbm, ⟨9, _⟩ => ⟨S2816x1024, .f32⟩
  | .hbm, ⟨10, _⟩ => ⟨S1x2816x1024, .f32⟩
  | .hbm, ⟨11, _⟩ => ⟨S1x2816x1024, .f32⟩
  | .hbm, ⟨12, _⟩ => ⟨S1x2816x1024, .f32⟩
  | .hbm, ⟨13, _⟩ => ⟨S3x2816x1024, .f32⟩
  | .hbm, ⟨14, _⟩ => ⟨S3x2816x1024, .bf16⟩
  | .hbm, ⟨15, _⟩ => ⟨S1x1024, .f32⟩
  | .hbm, ⟨16, _⟩ => ⟨S8192x1024, .f32⟩
  | .hbm, ⟨17, _⟩ => ⟨S1x128, .f32⟩
  | .hbm, ⟨18, _⟩ => ⟨S1x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S1x2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x128, .f32⟩
  | .local _ .vmem, ⟨11, _⟩ => ⟨S1x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RLoIdeal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S1x128, .f32⟩
  | .hbm, ⟨81, _⟩ => ⟨S1x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_cst_9 : Ref sig .tc := ⟨.hbm, 46, rfl⟩
abbrev main_cst_10 : Ref sig .tc := ⟨.hbm, 47, rfl⟩
abbrev main_v29 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_12 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_13 : Ref sig .tc := ⟨.hbm, 61, rfl⟩
abbrev main_v40 : Ref sig .tc := ⟨.hbm, 62, rfl⟩
abbrev main_v41 : Ref sig .tc := ⟨.hbm, 63, rfl⟩
abbrev main_cst_14 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_15 : Ref sig .tc := ⟨.hbm, 70, rfl⟩
abbrev main_v47 : Ref sig .tc := ⟨.hbm, 71, rfl⟩
abbrev main_v48 : Ref sig .tc := ⟨.hbm, 72, rfl⟩
abbrev main_cst_16 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== KPs.lean ====
abbrev S3 : Shape := ⟨1, ![3]⟩
abbrev S3x2816x1024 : Shape := ⟨3, ![3, 2816, 1024]⟩
abbrev S4x3x352x1024 : Shape := ⟨4, ![4, 3, 352, 1024]⟩
abbrev S3x3x352x1024 : Shape := ⟨4, ![3, 3, 352, 1024]⟩
abbrev S1x352x1024 : Shape := ⟨3, ![1, 352, 1024]⟩
abbrev S1 : Shape := ⟨1, ![1]⟩
abbrev S1x1x352x1024 : Shape := ⟨4, ![1, 1, 352, 1024]⟩
abbrev S352x1024 : Shape := ⟨2, ![352, 1024]⟩

abbrev nBuf : Space → Nat
  | .hbm => 3
  | .vmem => 6
  | .smem => 2
  | _ => 0

abbrev bufTy : (tb : Table) → Fin (tcTables nBuf tb) → BufTy
  | .hbm, ⟨0, _⟩ => ⟨S3x2816x1024, .f32⟩
  | .hbm, ⟨1, _⟩ => ⟨S4x3x352x1024, .f32⟩
  | .hbm, ⟨2, _⟩ => ⟨S3x3x352x1024, .bf16⟩
  | .local _ .vmem, ⟨0, _⟩ => ⟨S1x352x1024, .f32⟩
  | .local _ .vmem, ⟨1, _⟩ => ⟨S1x352x1024, .f32⟩
  | .local _ .vmem, ⟨2, _⟩ => ⟨S1x1x352x1024, .f32⟩
  | .local _ .vmem, ⟨3, _⟩ => ⟨S1x1x352x1024, .f32⟩
  | .local _ .vmem, ⟨4, _⟩ => ⟨S1x1x352x1024, .bf16⟩
  | .local _ .vmem, ⟨5, _⟩ => ⟨S1x1x352x1024, .bf16⟩
  | .local _ .smem, ⟨0, _⟩ => ⟨S3, .i32⟩
  | .local _ .smem, ⟨1, _⟩ => ⟨S3, .i32⟩
  | _, _ => ⟨S3x2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 3], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S3) ![v0.toNat] S1.size (k0_off1_inb i)) numel1_S1
  let c0_i32 : BitVec 32 := 0#32
  let c0_i32_0 : BitVec 32 := 0#32
  ![arg1.toNat, v1.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S3) ![v0.toNat] S1.size (k0_off1_inb i)) numel1_S1
  let c0_i32 : BitVec 32 := 0#32
  let c0_i32_0 : BitVec 32 := 0#32
  let c0_i32_1 : BitVec 32 := 0#32
  ![v1.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RPsIdeal.lean ====
abbrev S3 : Shape := ⟨1, ![3]⟩
abbrev S3x2816x1024 : Shape := ⟨3, ![3, 2816, 1024]⟩
abbrev S4x3x352x1024 : Shape := ⟨4, ![4, 3, 352, 1024]⟩
abbrev S1 : Shape := ⟨1, ![1]⟩
abbrev S_ : Shape := ⟨0, ![]⟩
abbrev S8 : Shape := ⟨1, ![8]⟩
abbrev S1x8x1x1 : Shape := ⟨4, ![1, 8, 1, 1]⟩
abbrev S4 : Shape := ⟨1, ![4]⟩
abbrev S4x1x1x1 : Shape := ⟨4, ![4, 1, 1, 1]⟩
abbrev S3x8x352x1024 : Shape := ⟨4, ![3, 8, 352, 1024]⟩
abbrev S3x352x1024 : Shape := ⟨3, ![3, 352, 1024]⟩
abbrev S1x3x352x1024 : Shape := ⟨4, ![1, 3, 352, 1024]⟩
abbrev S3x3x352x1024 : Shape := ⟨4, ![3, 3, 352, 1024]⟩

abbrev nBuf : Space → Nat
  | .hbm => 93
  | .vmem => 0
  | .smem => 0
  | _ => 0

abbrev bufTy : (tb : Table) → Fin (tcTables nBuf tb) → BufTy
  | .hbm, ⟨0, _⟩ => ⟨S3, .i32⟩
  | .hbm, ⟨1, _⟩ => ⟨S3, .i32⟩
  | .hbm, ⟨2, _⟩ => ⟨S3x2816x1024, .f32⟩
  | .hbm, ⟨3, _⟩ => ⟨S4x3x352x1024, .f32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S8, .i32⟩
  | .hbm, ⟨9, _⟩ => ⟨S1x8x1x1, .i32⟩
  | .hbm, ⟨10, _⟩ => ⟨S1x8x1x1, .i32⟩
  | .hbm, ⟨11, _⟩ => ⟨S1x8x1x1, .i1⟩
  | .hbm, ⟨12, _⟩ => ⟨S4, .i32⟩
  | .hbm, ⟨13, _⟩ => ⟨S4x1x1x1, .i32⟩
  | .hbm, ⟨14, _⟩ => ⟨S4x1x1x1, .i32⟩
  | .hbm, ⟨15, _⟩ => ⟨S4x1x1x1, .i1⟩
  | .hbm, ⟨16, _⟩ => ⟨S3x8x352x1024, .f32⟩
  | .hbm, ⟨17, _⟩ => ⟨S_, .f32⟩
  | .hbm, ⟨18, _⟩ => ⟨S_, .f32⟩
  | .hbm, ⟨19, _⟩ => ⟨S3x8x352x1024, .i1⟩
  | .hbm, ⟨20, _⟩ => ⟨S3x8x352x1024, .f32⟩
  | .hbm, ⟨21, _⟩ => ⟨S3x8x352x1024, .f32⟩
  | .hbm, ⟨22, _⟩ => ⟨S_, .f32⟩
  | .hbm, ⟨23, _⟩ => ⟨S3x352x1024, .f32⟩
  | .hbm, ⟨24, _⟩ => ⟨S_, .f32⟩
  | .hbm, ⟨25, _⟩ => ⟨S_, .f32⟩
  | .hbm, ⟨26, _⟩ => ⟨S4x3x352x1024, .i1⟩
  | .hbm, ⟨27, _⟩ => ⟨S4x3x352x1024, .f32⟩
  | .hbm, ⟨28, _⟩ => ⟨S4x3x352x1024, .f32⟩
  | .hbm, ⟨29, _⟩ => ⟨S_, .f32⟩
  | .hbm, ⟨30, _⟩ => ⟨S3x352x1024, .f32⟩
  | .hbm, ⟨31, _⟩ => ⟨S3x352x1024, .f32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S8, .i32⟩
  | .hbm, ⟨37, _⟩ => ⟨S1x8x1x1, .i32⟩
  | .hbm, ⟨38, _⟩ => ⟨S1x8x1x1, .i32⟩
  | .hbm, ⟨39, _⟩ => ⟨S1x8x1x1, .i1⟩
  | .hbm, ⟨40, _⟩ => ⟨S4, .i32⟩
  | .hbm, ⟨41, _⟩ => ⟨S4x1x1x1, .i32⟩
  | .hbm, ⟨42, _⟩ => ⟨S4x1x1x1, .i32⟩
  | .hbm, ⟨43, _⟩ => ⟨S4x1x1x1, .i1⟩
  | .hbm, ⟨44, _⟩ => ⟨S3x8x352x1024, .f32⟩
  | .hbm, ⟨45, _⟩ => ⟨S_, .f32⟩
  | .hbm, ⟨46, _⟩ => ⟨S_, .f32⟩
  | .hbm, ⟨47, _⟩ => ⟨S3x8x352x1024, .i1⟩
  | .hbm, ⟨48, _⟩ => ⟨S3x8x352x1024, .f32⟩
  | .hbm, ⟨49, _⟩ => ⟨S3x8x352x1024, .f32⟩
  | .hbm, ⟨50, _⟩ => ⟨S_, .f32⟩
  | .hbm, ⟨51, _⟩ => ⟨S3x352x1024, .f32⟩
  | .hbm, ⟨52, _⟩ => ⟨S_, .f32⟩
  | .hbm, ⟨53, _⟩ => ⟨S_, .f32⟩
  | .hbm, ⟨54, _⟩ => ⟨S4x3x352x1024, .i1⟩
  | .hbm, ⟨55, _⟩ => ⟨S4x3x352x1024, .f32⟩
  | .hbm, ⟨56, _⟩ => ⟨S4x3x352x1024, .f32⟩
  | .hbm, ⟨57, _⟩ => ⟨S_, .f32⟩
  | .hbm, ⟨58, _⟩ => ⟨S3x352x1024, .f32⟩
  | .hbm, ⟨59, _⟩ => ⟨S3x352x1024, .f32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S_, .i32⟩
  | .hbm, ⟨64, _⟩ => ⟨S8, .i32⟩
  | .hbm, ⟨65, _⟩ => ⟨S1x8x1x1, .i32⟩
  | .hbm, ⟨66, _⟩ => ⟨S1x8x1x1, .i32⟩
  | .hbm, ⟨67, _⟩ => ⟨S1x8x1x1, .i1⟩
  | .hbm, ⟨68, _⟩ => ⟨S4, .i32⟩
  | .hbm, ⟨69, _⟩ => ⟨S4x1x1x1, .i32⟩
  | .hbm, ⟨70, _⟩ => ⟨S4x1x1x1, .i32⟩
  | .hbm, ⟨71, _⟩ => ⟨S4x1x1x1, .i1⟩
  | .hbm, ⟨72, _⟩ => ⟨S3x8x352x1024, .f32⟩
  | .hbm, ⟨73, _⟩ => ⟨S_, .f32⟩
  | .hbm, ⟨74, _⟩ => ⟨S_, .f32⟩
  | .hbm, ⟨75, _⟩ => ⟨S3x8x352x1024, .i1⟩
  | .hbm, ⟨76, _⟩ => ⟨S3x8x352x1024, .f32⟩
  | .hbm, ⟨77, _⟩ => ⟨S3x8x352x1024, .f32⟩
  | .hbm, ⟨78, _⟩ => ⟨S_, .f32⟩
  | .hbm, ⟨79, _⟩ => ⟨S3x352x1024, .f32⟩
  | .hbm, ⟨80, _⟩ => ⟨S_, .f32⟩
  | .hbm, ⟨81, _⟩ => ⟨S_, .f32⟩
  | .hbm, ⟨82, _⟩ => ⟨S4x3x352x1024, .i1⟩
  | .hbm, ⟨83, _⟩ => ⟨S4x3x352x1024, .f32⟩
  | .hbm, ⟨84, _⟩ => ⟨S4x3x352x1024, .f32⟩
  | .hbm, ⟨85, _⟩ => ⟨S_, .f32⟩
  | .hbm, ⟨86, _⟩ => ⟨S3x352x1024, .f32⟩
  | .hbm, ⟨87, _⟩ => ⟨S3x352x1024, .f32⟩
  | .hbm, ⟨88, _⟩ => ⟨S1x3x352x1024, .f32⟩
  | .hbm, ⟨89, _⟩ => ⟨S1x3x352x1024, .f32⟩
  | .hbm, ⟨90, _⟩ => ⟨S1x3x352x1024, .f32⟩
  | .hbm, ⟨91, _⟩ => ⟨S3x3x352x1024, .f32⟩
  | .hbm, ⟨92, _⟩ => ⟨S3x3x352x1024, .bf16⟩
  | _, _ => ⟨S3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_cst_5 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_cst_9 : Ref sig .tc := ⟨.hbm, 80, rfl⟩
abbrev main_call5_v0 : Ref sig .tc := ⟨.hbm, 81, rfl⟩
abbrev main_call5_v1 : Ref sig .tc := ⟨.hbm, 82, rfl⟩
abbrev main_call5_v2 : Ref sig .tc := ⟨.hbm, 83, rfl⟩
abbrev main_v51 : Ref sig .tc := ⟨.hbm, 84, rfl⟩
abbrev main_cst_10 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩

abbrev nD : Nat := 1
abbrev τ : Topo := Topo.v7x

variable {F : FTy → Type} [FloatOps F]
-- ==== Proof.Act.lean ====
/- What the half step's activation-gradient call computes (`Cert.KActIdeal`): its two results are the reference's, entry by entry. -/
module

public import proofs.«01_k».proof.Proof.Gen.KActIdeal
public import proofs.«01_k».proof.Proof.Gen.KActIdeal.Skeleton
public import proofs.«01_k».proof.Proof.Gen.KActIdeal.Launch
public import proofs.«01_k».proof.Proof.Gen.KActIdeal.Points
public import proofs.«01_k».proof.Proof.Gen.KActIdeal.Frame
public import proofs.«01_k».proof.Proof.Gen.RActIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.RActIdeal.Terms

open Cert.RActIdeal Cert.RActIdeal.Gen

/-- The reference's first result: half of the incoming gradient. -/
def ref_v12 (a0 : FVec Ideal S8192x1024 .f32) : FVec Ideal S8192x1024 .bf16 :=
  truncf .bf16 (mulf (broadcastInDim S8192x1024 ![] bcast_S_S8192x1024 (constant S_ .f32 0x3F000000#32)) a0)
    bitsLt_bf16_f32

/-- The reference's second result: that half against the rows of `w_down`. -/
def ref_v13 (a0 : FVec Ideal S8192x1024 .f32) (a3 : FVec Ideal S2816x1024 .f32) : FVec Ideal S8192x2816 .bf16 :=
  truncf .bf16 (Host.dotGeneral dot_S8192x1024_S2816x1024_S8192x2816_1_1_0_0_n_n none (mulf (broadcastInDim S8192x1024
    ![] bcast_S_S8192x1024 (constant S_ .f32 0x3F000000#32)) a0) a3) bitsLt_bf16_f32

end Cert.RActIdeal.Terms

namespace Cert.KActIdeal.Act

open Cert.KActIdeal Cert.KActIdeal.Gen Cert.RActIdeal.Terms

variable (m : (ℓ : Loc nD τ sig) → Buf (Elt Ideal) ℓ)

/-- Every window's block index at grid point `t`. -/
theorem idx : ∀ t : Fin cfg0.N, win0_0.index t = ![t.val, 0] ∧ win0_1.index t = ![2, 0, 0]
    ∧ win0_2.index t = ![t.val, 0] ∧ win0_3.index t = ![t.val, 0] :=
  (by decide +kernel : ∀ t : Fin grid0.N, _)

set_option maxHeartbeats 1600000 in
/-- The halved gradient. -/
theorem final_2 (c : Dev nD) : (dats m 0 c).arrAt 2 (cfgs 0).N = ref_v12 (m ((c : Thread nD τ).loc main_arg0)) := by
  refine (dats m 0 c).arrAt_eq_of_covers 2 _ (by decide +kernel) fun t hf y => ?_
  blk_simp; rw [after0_2]; unfold Gen.outsAt0; frame_out
  pointwise [k0_pay3, ref_v12]
  blk_point [iblk, V, idx t]

set_option maxHeartbeats 1600000 in
/-- Slab 2 of the stacked weights is `w_down`. -/
theorem weights (c : Dev nD) (a : Fin 2816) (b : Fin 1024) :
    (show FVec Ideal S3x2816x1024 .bf16 from V m c main_v6) (ix3 2 a b) = m ((c : Thread nD τ).loc main_arg3) (ix2 a b) := by
  unfold V; after_results
  pointwise
  repeat (first | rw [StableHlo.unary_result] | (rw [StableHlo.unary_result_ne]; rotate_left; decide))
  pointwise

/-- The weights' block is `w_down`. -/
theorem iblk1 (c : Dev nD) (t : Fin cfg0.N) (a : Fin 2816) (b : Fin 1024) :
    (show FVec Ideal S1x2816x1024 .bf16 from iblk m c 1 t) (ix3 0 a b) = m ((c : Thread nD τ).loc main_arg3) (ix2 a b) := by
  refine Eq.trans ?_ (weights m c a b)
  blk_point [iblk, idx t]

set_option maxHeartbeats 1600000 in
/-- The gradient in the activation. -/
theorem final_3 (c : Dev nD) : (dats m 0 c).arrAt 3 (cfgs 0).N
    = ref_v13 (m ((c : Thread nD τ).loc main_arg0)) (m ((c : Thread nD τ).loc main_arg3)) := by
  refine (dats m 0 c).arrAt_eq_of_covers 3 _ (by decide +kernel) fun t hf y => ?_
  blk_simp; rw [after0_3]; unfold Gen.outsAt0; frame_out
  canon_tiles x h
  all_goals (open_payloads; pointwise [ref_v13]; blk_simp [iblk1]; blk_point [iblk, V, idx t])

end Cert.KActIdeal.Act

end
-- ==== Proof.ActClaims.lean ====
/- The claims about the gradient in the activation (`Cert.KAct`, `Cert.KActIdeal`, `Cert.RActIdeal`): each program runs and leaves its arguments
   as they were; over the extended reals the call's results are the reference's. -/
module

public import proofs.«01_k».proof.Defs
public import proofs.«01_k».proof.Proof.Gen.KAct.Frame
public import proofs.«01_k».proof.Proof.Gen.KActIdeal.Value
public import proofs.«01_k».proof.Proof.Gen.RActIdeal.Run
public import proofs.«01_k».proof.Proof.Act
public import Idealize.ShloMosaic.Lib.Claim

@[expose] public section

namespace Cert.Proof.Act

open Idealize.ShloMosaic Idealize.SL.Sem

/-- The kernel as printed: it terminates, and its arguments end unchanged. -/
theorem frame_kernel : Cert.quiescent_KAct := fun m ρ _ => Cert.KAct.Gen.frame m ρ

/-- The kernel over the extended reals: likewise. -/
theorem frame_ideal : Cert.quiescent_KActIdeal := fun m ρ _ => Cert.KActIdeal.Gen.frame m ρ

/-- The reference: likewise. -/
theorem frame_reference : Cert.quiescent_RActIdeal := fun m ρ _ =>
  (θ_run Cert.RActIdeal.defs _ _).mono (fun r h => ⟨fun c => (h c).2.2, sem_eq_zero_of_no_sems (by decide) r.2⟩)
    (Cert.RActIdeal.Value.run (F := Ideal) m ρ)

set_option maxRecDepth 16384 in
set_option maxHeartbeats 1600000 in
/-- The results agree. -/
theorem algebraic : Cert.algebraic_KActIdeal_RActIdeal := by
  pair_intro
  · run_from Cert.KActIdeal.Value.run_blocks (F := Ideal) m g
  · run_from Cert.RActIdeal.Value.run (F := Ideal) m' g'
    · exact (Cert.KActIdeal.Act.final_2 m c).symm
    · exact (Cert.KActIdeal.Act.final_3 m c).symm

end Cert.Proof.Act
-- ==== Proof.Wd.lean ====
/- What the weight-gradient call leaves for `w_down` (`Cert.KWdIdeal`): slab 2 of the gradients is the reference's product, the other
   slabs are as they came in. -/
module

public import proofs.«01_k».proof.Proof.Gen.KWdIdeal
public import proofs.«01_k».proof.Proof.Gen.KWdIdeal.Skeleton
public import proofs.«01_k».proof.Proof.Gen.KWdIdeal.Launch
public import proofs.«01_k».proof.Proof.Gen.KWdIdeal.Points
public import proofs.«01_k».proof.Proof.Gen.KWdIdeal.Frame
public import proofs.«01_k».proof.Proof.Gen.RWdIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.RWdIdeal.Terms

open Cert.RWdIdeal Cert.RWdIdeal.Gen

/-- The activation `silu(h · w_gate) * (h · w_up)`. -/
def act (a2 : FVec Ideal S8192x1024 .f32) (a3 a4 : FVec Ideal S1024x2816 .f32) : FVec Ideal S8192x2816 .f32 :=
  mulf (mulf (Host.dotGeneral dot_S8192x1024_S1024x2816_S8192x2816_1_0_0_1_n_n none a2 a3)
    (Host.divf (broadcastInDim S8192x2816 ![] bcast_S_S8192x2816 (constant S_ .f32 0x3F800000#32))
      (addf (broadcastInDim S8192x2816 ![] bcast_S_S8192x2816 (constant S_ .f32 0x3F800000#32))
        (Host.exp (Host.negf (Host.dotGeneral dot_S8192x1024_S1024x2816_S8192x2816_1_0_0_1_n_n none a2 a3))))))
    (Host.dotGeneral dot_S8192x1024_S1024x2816_S8192x2816_1_0_0_1_n_n none a2 a4)

/-- Half of the incoming gradient. -/
def half (a1 : FVec Ideal S8192x1024 .f32) : FVec Ideal S8192x1024 .f32 :=
  mulf (broadcastInDim S8192x1024 ![] bcast_S_S8192x1024 (constant S_ .f32 0x3F000000#32)) a1

/-- The reference's result over an activation `A` and a half gradient `d`. -/
def refOf (a0 : FVec Ideal S3x2816x1024 .f32) (d : FVec Ideal S8192x1024 .f32) (A : FVec Ideal S8192x2816 .f32) :
    FVec Ideal S3x2816x1024 .f32 :=
  concatenate S3x2816x1024 0 [⟨S2x2816x1024, (extractStridedSlice S2x2816x1024 ![0, 0, 0] a0
    slices_S3x2816x1024_S2x2816x1024_0_0_0)⟩, ⟨S1x2816x1024, (broadcastInDim S1x2816x1024 ![1, 2]
    bcast_S2816x1024_S1x2816x1024_1_2 (transpose S2816x1024 [1, 0] (Host.dotGeneral
    dot_S8192x1024_S8192x2816_S1024x2816_0_0_1_1_n_n none d A) transposes_S1024x2816_S2816x1024_1_0))⟩]
    concatenates_S2x2816x1024_S1x2816x1024_S3x2816x1024_d0

/-- The reference's result: slabs 0 and 1 as they were, slab 2 the product. -/
abbrev ref_v14 (a0 : FVec Ideal S3x2816x1024 .f32) (a1 : FVec Ideal S8192x1024 .f32) (a2 : FVec Ideal S8192x1024 .f32)
    (a3 : FVec Ideal S1024x2816 .f32) (a4 : FVec Ideal S1024x2816 .f32) : FVec Ideal S3x2816x1024 .f32 :=
  refOf a0 (half a1) (act a2 a3 a4)

end Cert.RWdIdeal.Terms

namespace Cert.KWdIdeal.Wd

open Cert.KWdIdeal Cert.KWdIdeal.Gen Cert.RWdIdeal.Terms

variable (m : (ℓ : Loc nD τ sig) → Buf (Elt Ideal) ℓ)

/-- The staged windows' block indices at grid point `t`. -/
theorem idx : ∀ t : Fin cfg0.N, win0_0.index t = ![t.val % 4, t.val / 4] ∧ win0_1.index t = ![t.val % 4, 0]
    ∧ win0_2.index t = ![2, t.val / 4, 0] :=
  (by decide +kernel : ∀ t : Fin grid0.N, _)

set_option maxHeartbeats 1600000 in
/-- The left operand's array at the region's entry: the activation. -/
theorem entry_act (c : Dev nD) : (show FVec Ideal S8192x2816 .bf16 from V m c main_v4) = fun i =>
    act (m ((c : Thread nD τ).loc main_arg2)) (m ((c : Thread nD τ).loc main_arg3)) (m ((c : Thread nD τ).loc main_arg4)) i := by
  unfold V; after_results; rfl

set_option maxHeartbeats 1600000 in
/-- The right operand's array: half of the incoming gradient. -/
theorem entry_half (c : Dev nD) : (show FVec Ideal S8192x1024 .bf16 from V m c main_v7) = fun i =>
    half (m ((c : Thread nD τ).loc main_arg1)) i := by
  unfold V; after_results; rfl

/-- The result's array at the region's entry: the gradients that came in. -/
theorem entry_buf (c : Dev nD) : (show FVec Ideal S3x2816x1024 .f32 from V m c main_v8) = fun i => m ((c : Thread nD τ).loc main_arg0) i := by
  unfold V; after_results; rfl

/-- The zero fill. -/
theorem hzero (j : S1x1408x1024.Idx) : k0_pay1 (F := Ideal) j = 0 := by
  pointwise! [k0_pay1]

/-- The accumulating store: what was there, plus this point's lanes of the product. -/
theorem hpay (v3 : Vec Ideal S2048x1408 .bf16) (v5 : Vec Ideal S1x1408x1024 .f32) (v7 : Vec Ideal S2048x1024 .bf16) (j : S1x1408x1024.Idx) :
    k0_pay2 v3 v5 v7 j = v5 j + k0_pay2 v3 (fun _ => 0) v7 j := by
  pointwise [k0_pay2]

set_option maxHeartbeats 1600000 in
/-- The result: the written slab is the product, the rest as it came in. -/
theorem final (c : Dev nD) : (dats m 0 c).arrAt 2 (cfgs 0).N
    = ref_v14 (m ((c : Thread nD τ).loc main_arg0)) (m ((c : Thread nD τ).loc main_arg1)) (m ((c : Thread nD τ).loc main_arg2))
      (m ((c : Thread nD τ).loc main_arg3)) (m ((c : Thread nD τ).loc main_arg4)) := by
  refine Eq.trans (b := fun i => if (i 0 : ℕ) = 2 then ref_v14 (m ((c : Thread nD τ).loc main_arg0)) (m ((c : Thread nD τ).loc main_arg1)) (m ((c : Thread nD τ).loc main_arg2))
      (m ((c : Thread nD τ).loc main_arg3)) (m ((c : Thread nD τ).loc main_arg4)) i else V m c main_v8 i) ?_ ?_
  · refine (dats m 0 c).arrAt_eq_of_coversWhere 2 _ (fun β => β 0 = 2) (by decide +kernel) (fun t hf y => ?_)
      (fun j => by blk_simp [Pipeline.Window.cell_apply]; try omega)
    blk_simp
    rw [after0_2, Pipeline.eq_sum_fin_of_reset_step_apply_of_flush (fun n h => (outsAt0 m c n h)) 4 (fun _ => 0) _
      (fun t h j => by rw [outsAt0_A m c t h]; frame_out; rw [hpay, hzero])
      (fun t h j => by rw [outsAt0_B m c t h]; frame_out; rw [hpay])
      t ((flush0_2 t).mp hf) _, zero_add]
    pointwise [k0_pay2, refOf]
    rw [dif_neg (by blk_simp [idx t]; try omega)]
    refine Fin.sum_mul_add_congr fun s k hl => ?_
    rw [mul_comm]
    have e0 := congrFun (entry_act m c)
    have e1 := congrFun (entry_half m c)
    blk_simp [iblk, idx t, idx ⟨_, Pipeline.run_point_lt_of_flush t ((flush0_2 t).mp hf) s⟩]
    refine congrArg₂ (· * ·) ((e1 _).trans ?_) ((e0 _).trans ?_) <;>
      blk_ext [idx t, idx ⟨_, Pipeline.run_point_lt_of_flush t ((flush0_2 t).mp hf) s⟩]
  · funext i
    have e := congrFun (entry_buf m c) i
    have hi := (i 0).isLt
    pointwise [refOf]
    split_ifs with h1 h2
    · exact absurd h1 (by omega)
    · rfl
    · exact e
    · exact absurd hi (by simp; omega)

end Cert.KWdIdeal.Wd

end
-- ==== Proof.WdClaims.lean ====
/- The claims about the gradient in `w_down` (`Cert.KWd`, `Cert.KWdIdeal`, `Cert.RWdIdeal`): each program runs and leaves its arguments
   as they were; over the extended reals the call's results are the reference's. -/
module

public import proofs.«01_k».proof.Defs
public import proofs.«01_k».proof.Proof.Gen.KWd.Frame
public import proofs.«01_k».proof.Proof.Gen.KWdIdeal.Value
public import proofs.«01_k».proof.Proof.Gen.RWdIdeal.Run
public import proofs.«01_k».proof.Proof.Wd
public import Idealize.ShloMosaic.Lib.Claim

@[expose] public section

namespace Cert.Proof.Wd

open Idealize.ShloMosaic Idealize.SL.Sem

/-- The kernel as printed: it terminates, and its arguments end unchanged. -/
theorem frame_kernel : Cert.quiescent_KWd := fun m ρ _ => Cert.KWd.Gen.frame m ρ

/-- The kernel over the extended reals: likewise. -/
theorem frame_ideal : Cert.quiescent_KWdIdeal := fun m ρ _ => Cert.KWdIdeal.Gen.frame m ρ

/-- The reference: likewise. -/
theorem frame_reference : Cert.quiescent_RWdIdeal := fun m ρ _ =>
  (θ_run Cert.RWdIdeal.defs _ _).mono (fun r h => ⟨fun c => (h c).2, sem_eq_zero_of_no_sems (by decide) r.2⟩)
    (Cert.RWdIdeal.Value.run (F := Ideal) m ρ)

set_option maxRecDepth 16384 in
set_option maxHeartbeats 1600000 in
/-- The results agree. -/
theorem algebraic : Cert.algebraic_KWdIdeal_RWdIdeal := by
  pair_intro
  · run_from Cert.KWdIdeal.Value.run_blocks (F := Ideal) m g
  · run_from Cert.RWdIdeal.Value.run (F := Ideal) m' g'
    rw [(hagree c).2.2.2.2]
    exact (Cert.KWdIdeal.Wd.final m c).symm

end Cert.Proof.Wd
-- ==== Proof.Wu.lean ====
/- What the weight-gradient call leaves for `w_up` (`Cert.KWuIdeal`): slab 1 of the gradients is the reference's product, the other
   slabs are as they came in. -/
module

public import proofs.«01_k».proof.Proof.Gen.KWuIdeal
public import proofs.«01_k».proof.Proof.Gen.KWuIdeal.Skeleton
public import proofs.«01_k».proof.Proof.Gen.KWuIdeal.Launch
public import proofs.«01_k».proof.Proof.Gen.KWuIdeal.Points
public import proofs.«01_k».proof.Proof.Gen.KWuIdeal.Frame
public import proofs.«01_k».proof.Proof.Gen.RWuIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.RWuIdeal.Terms

open Cert.RWuIdeal Cert.RWuIdeal.Gen

/-- The product `h · w`. -/
def prod (a2 : FVec Ideal S8192x1024 .f32) (w : FVec Ideal S1024x2816 .f32) : FVec Ideal S8192x2816 .f32 :=
  Host.dotGeneral dot_S8192x1024_S1024x2816_S8192x2816_1_0_0_1_n_n none a2 w

/-- Ones. -/
def ones : FVec Ideal S8192x2816 .f32 := broadcastInDim S8192x2816 ![] bcast_S_S8192x2816 (constant S_ .f32 0x3F800000#32)

/-- The sigmoid, as the host spells it. -/
def sigm (g : FVec Ideal S8192x2816 .f32) : FVec Ideal S8192x2816 .f32 :=
  Host.divf ones (addf ones (Host.exp (Host.negf g)))

/-- The reference's result over a left operand `X`: slabs 0 and 2 as they were, slab 1 the product of `X` and `h`. -/
def refOf (a0 : FVec Ideal S3x2816x1024 .f32) (X : FVec Ideal S8192x2816 .f32) (a2 : FVec Ideal S8192x1024 .f32) :
    FVec Ideal S3x2816x1024 .f32 :=
  concatenate S3x2816x1024 0 [⟨S1x2816x1024, (extractStridedSlice S1x2816x1024 ![0, 0, 0] a0
    slices_S3x2816x1024_S1x2816x1024_0_0_0)⟩, ⟨S1x2816x1024, (broadcastInDim S1x2816x1024 ![1, 2]
    bcast_S2816x1024_S1x2816x1024_1_2 (transpose S2816x1024 [1, 0] (transpose S1024x2816 [1, 0] (Host.dotGeneral
    dot_S8192x2816_S8192x1024_S2816x1024_0_0_1_1_n_n none X a2) transposes_S2816x1024_S1024x2816_1_0)
    transposes_S1024x2816_S2816x1024_1_0))⟩, ⟨S1x2816x1024,
    (extractStridedSlice S1x2816x1024 ![2, 0, 0] a0 slices_S3x2816x1024_S1x2816x1024_2_0_0)⟩]
    concatenates_S1x2816x1024_S1x2816x1024_S1x2816x1024_S3x2816x1024_d0

/-- `silu (h · w_gate)`. -/
def gate (a2 : FVec Ideal S8192x1024 .f32) (a3 : FVec Ideal S1024x2816 .f32) : FVec Ideal S8192x2816 .f32 :=
  mulf (prod a2 a3) (sigm (prod a2 a3))

/-- The reference's result. -/
abbrev ref_v11 (a0 : FVec Ideal S3x2816x1024 .f32) (a1 : FVec Ideal S8192x2816 .f32) (a2 : FVec Ideal S8192x1024 .f32)
    (a3 : FVec Ideal S1024x2816 .f32) : FVec Ideal S3x2816x1024 .f32 :=
  refOf a0 (mulf (gate a2 a3) a1) a2

/-- The factors of the left operand commute. -/
theorem comm (g d : FVec Ideal S8192x2816 .f32) (i) : mulf g d i = (show EReal from d i) * (show EReal from g i) := mul_comm _ _

end Cert.RWuIdeal.Terms

namespace Cert.KWuIdeal.Wu

open Cert.KWuIdeal Cert.KWuIdeal.Gen Cert.RWuIdeal.Terms

variable (m : (ℓ : Loc nD τ sig) → Buf (Elt Ideal) ℓ)

/-- The staged windows' block indices at grid point `t`. -/
theorem idx : ∀ t : Fin cfg0.N, win0_0.index t = ![t.val % 4, t.val / 4] ∧ win0_1.index t = ![t.val % 4, t.val / 4]
    ∧ win0_2.index t = ![t.val % 4, 0] ∧ win0_3.index t = ![1, t.val / 4, 0] :=
  (by decide +kernel : ∀ t : Fin grid0.N, _)

set_option maxHeartbeats 1600000 in
/-- The left operand's array at the region's entry. -/
theorem entry_dA (c : Dev nD) : (show FVec Ideal S8192x2816 .bf16 from V m c main_v10) = fun i =>
    m ((c : Thread nD τ).loc main_arg1) i := by
  unfold V; after_results; rfl

set_option maxHeartbeats 1600000 in
/-- The factor's array: what the forward pass keeps. -/
theorem entry_times (c : Dev nD) : (show FVec Ideal S8192x2816 .bf16 from V m c main_v8) = fun i =>
    gate (m ((c : Thread nD τ).loc main_arg2)) (m ((c : Thread nD τ).loc main_arg3)) i := by
  unfold V; after_results; rfl

set_option maxHeartbeats 1600000 in
/-- The right operand's array: the activation. -/
theorem entry_h (c : Dev nD) : (show FVec Ideal S8192x1024 .bf16 from V m c main_v11) = fun i =>
    m ((c : Thread nD τ).loc main_arg2) i := by
  unfold V; after_results; rfl

/-- The result's array at the region's entry: the gradients that came in. -/
theorem entry_buf (c : Dev nD) : (show FVec Ideal S3x2816x1024 .f32 from V m c main_v12) = fun i => m ((c : Thread nD τ).loc main_arg0) i := by
  unfold V; after_results; rfl

/-- The zero fill. -/
theorem hzero (j : S1x1408x1024.Idx) : k0_pay1 (F := Ideal) j = 0 := by
  pointwise! [k0_pay1]

/-- The accumulating store: what was there, plus this point's lanes of the product. -/
theorem hpay (v3 v5 : Vec Ideal S2048x1408 .bf16) (v8 : Vec Ideal S1x1408x1024 .f32) (v10 : Vec Ideal S2048x1024 .bf16) (j : S1x1408x1024.Idx) :
    k0_pay2 v3 v5 v8 v10 j = v8 j + k0_pay2 v3 v5 (fun _ => 0) v10 j := by
  pointwise [k0_pay2]

set_option maxHeartbeats 1600000 in
/-- The result over a left operand `X` that is the product of the two staged ones: the written slab is the product, the rest as it
    came in. -/
theorem final_of (c : Dev nD) (X : FVec Ideal S8192x2816 .f32)
    (hX : ∀ i, X i = (show EReal from m ((c : Thread nD τ).loc main_arg1) i) * (show EReal from gate (m ((c : Thread nD τ).loc main_arg2)) (m ((c : Thread nD τ).loc main_arg3)) i)) :
    (dats m 0 c).arrAt 3 (cfgs 0).N
    = refOf (m ((c : Thread nD τ).loc main_arg0)) X (m ((c : Thread nD τ).loc main_arg2)) := by
  refine Eq.trans (b := fun i => if (i 0 : ℕ) = 1 then refOf (m ((c : Thread nD τ).loc main_arg0)) X (m ((c : Thread nD τ).loc main_arg2)) i
      else V m c main_v12 i) ?_ ?_
  · refine (dats m 0 c).arrAt_eq_of_coversWhere 3 _ (fun β => β 0 = 1) (by decide +kernel) (fun t hf y => ?_)
      (fun j => by blk_simp [Pipeline.Window.cell_apply]; try omega)
    blk_simp
    rw [after0_3, Pipeline.eq_sum_fin_of_reset_step_apply_of_flush (fun n h => (outsAt0 m c n h)) 4 (fun _ => 0) _
      (fun t h j => by rw [outsAt0_A m c t h]; frame_out; rw [hpay, hzero])
      (fun t h j => by rw [outsAt0_B m c t h]; frame_out; rw [hpay])
      t ((flush0_3 t).mp hf) _, zero_add]
    pointwise [k0_pay2, refOf]
    rw [dif_neg (by blk_simp [idx t]; try omega), dif_pos (by blk_simp [idx t]; try omega)]
    refine Fin.sum_mul_add_congr fun s k hl => ?_
    rw [hX]
    have e0 := congrFun (entry_dA m c)
    have e1 := congrFun (entry_times m c)
    have e2 := congrFun (entry_h m c)
    blk_simp [iblk, idx t, idx ⟨_, Pipeline.run_point_lt_of_flush t ((flush0_3 t).mp hf) s⟩]
    refine congrArg₂ (· * ·) (congrArg₂ (· * ·) ((e0 _).trans ?_) ((e1 _).trans ?_)) ((e2 _).trans ?_) <;>
      blk_ext [idx t, idx ⟨_, Pipeline.run_point_lt_of_flush t ((flush0_3 t).mp hf) s⟩]
  · funext i
    have e := congrFun (entry_buf m c) i
    have hi : (i 0 : ℕ) < 3 := (i 0).isLt
    pointwise [refOf]
    split_ifs with h1 h2 h3 h4
    all_goals first
      | rfl
      | exact e
      | (exfalso; omega)
      | (refine e.trans (congrArg _ (funext fun a => ?_))
         fin_cases a
         · exact Fin.ext (by simp [ix3]; omega)
         · rfl
         · rfl)

/-- The result: slab 1 is the reference's product. -/
theorem final (c : Dev nD) : (dats m 0 c).arrAt 3 (cfgs 0).N
    = ref_v11 (m ((c : Thread nD τ).loc main_arg0)) (m ((c : Thread nD τ).loc main_arg1)) (m ((c : Thread nD τ).loc main_arg2))
      (m ((c : Thread nD τ).loc main_arg3)) :=
  final_of m c _ (comm _ _)

end Cert.KWuIdeal.Wu

end
-- ==== Proof.WuClaims.lean ====
/- The claims about the gradient in `w_up` (`Cert.KWu`, `Cert.KWuIdeal`, `Cert.RWuIdeal`): each program runs and leaves its arguments
   as they were; over the extended reals the call's results are the reference's. -/
module

public import proofs.«01_k».proof.Defs
public import proofs.«01_k».proof.Proof.Gen.KWu.Frame
public import proofs.«01_k».proof.Proof.Gen.KWuIdeal.Value
public import proofs.«01_k».proof.Proof.Gen.RWuIdeal.Run
public import proofs.«01_k».proof.Proof.Wu
public import Idealize.ShloMosaic.Lib.Claim

@[expose] public section

namespace Cert.Proof.Wu

open Idealize.ShloMosaic Idealize.SL.Sem

/-- The kernel as printed: it terminates, and its arguments end unchanged. -/
theorem frame_kernel : Cert.quiescent_KWu := fun m ρ _ => Cert.KWu.Gen.frame m ρ

/-- The kernel over the extended reals: likewise. -/
theorem frame_ideal : Cert.quiescent_KWuIdeal := fun m ρ _ => Cert.KWuIdeal.Gen.frame m ρ

/-- The reference: likewise. -/
theorem frame_reference : Cert.quiescent_RWuIdeal := fun m ρ _ =>
  (θ_run Cert.RWuIdeal.defs _ _).mono (fun r h => ⟨fun c => (h c).2, sem_eq_zero_of_no_sems (by decide) r.2⟩)
    (Cert.RWuIdeal.Value.run (F := Ideal) m ρ)

set_option maxRecDepth 16384 in
set_option maxHeartbeats 1600000 in
/-- The results agree. -/
theorem algebraic : Cert.algebraic_KWuIdeal_RWuIdeal := by
  pair_intro
  · run_from Cert.KWuIdeal.Value.run_blocks (F := Ideal) m g
  · run_from Cert.RWuIdeal.Value.run (F := Ideal) m' g'
    exact (Cert.KWuIdeal.Wu.final m c).symm

end Cert.Proof.Wu
-- ==== Proof.Reals.lean ====
/- Real arithmetic inside the extended reals: what `finite` says of an array, the constants that the programs spell, and the operations
   at finite values. -/
module

public import Idealize.ShloMosaic.Lib.Pipeline.ValueKit
public import Idealize.ShloMosaic.Lib.StableHlo.Run
public import Idealize.ShloMosaic.Lib.IdealHost
public import Idealize.ShloMosaic.Lib.Affine

@[expose] public section

set_option maxRecDepth 16384

noncomputable section

open Idealize.ShloMosaic
open scoped BigOperators

namespace Cert.Reals

/-- An extended real that is a real number. -/
def IsReal (x : EReal) : Prop := ∃ r : ℝ, x = r

theorem IsReal.coe (r : ℝ) : IsReal r := ⟨r, rfl⟩
theorem IsReal.add {x y : EReal} : IsReal x → IsReal y → IsReal (x + y) := by
  rintro ⟨a, rfl⟩ ⟨b, rfl⟩; exact ⟨a + b, by push_cast; rfl⟩
theorem IsReal.mul {x y : EReal} : IsReal x → IsReal y → IsReal (x * y) := by
  rintro ⟨a, rfl⟩ ⟨b, rfl⟩; exact ⟨a * b, by push_cast; rfl⟩
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The magnitude of an extended real lies under `+∞` exactly when it is a real number. -/
theorem isReal_of_abs_lt {x : EReal} (h : max x (-x) < ⊤) : IsReal x := by
  induction x using EReal.rec with
  | bot => simp at h
  | top => simp at h
  | coe r => exact ⟨r, rfl⟩

/-! ### The constants -/

theorem one_f32 : Ideal.ofBits .f32 0x3F800000#32 = ((1 : ℝ) : EReal) := by
  simp [Ideal.ofBits, Ideal.ieee, -EReal.coe_mul]; norm_num
theorem inf_f32 : Ideal.ofBits .f32 0x7F800000#32 = ⊤ := by
  simp [Ideal.ofBits, Ideal.ieee]

theorem k1024_f32 : Ideal.ofBits .f32 0x44800000#32 = ((1024 : ℝ) : EReal) := by
  simp [Ideal.ofBits, Ideal.ieee, -EReal.coe_mul]; norm_num
theorem k512_f32 : Ideal.ofBits .f32 0x44000000#32 = ((512 : ℝ) : EReal) := by
  simp [Ideal.ofBits, Ideal.ieee, -EReal.coe_mul]; norm_num
theorem neg_half_f32 : Ideal.ofBits .f32 0xBF000000#32 = ((-(1 / 2) : ℝ) : EReal) := by
  simp [Ideal.ofBits, Ideal.ieee, -EReal.coe_mul]; norm_num

/-- The norms' small constant, the float nearest to `1e-5`. -/
def eps : ℝ := 10995116 / 2 ^ 40
theorem eps_pos : 0 < eps := by unfold eps; positivity
theorem eps_f32 : Ideal.ofBits .f32 0x3727C5AC#32 = (eps : EReal) := by
  unfold eps; simp [Ideal.ofBits, Ideal.ieee, -EReal.coe_mul]; norm_num

/-! ### The operations at real numbers -/

theorem exp_coe (r : ℝ) : Ideal.exp (r : EReal) = (Real.exp r : EReal) := rfl

theorem div_coe' (a : ℝ) {b : ℝ} (h : b ≠ 0) : Ideal.div (a : EReal) (b : EReal) = ((a / b : ℝ) : EReal) := by
  rw [Ideal.div_coe h, ← EReal.coe_mul]; congr 1; ring

/-- The sigmoid, as a real number. -/
def sig (x : ℝ) : ℝ := 1 / (1 + Real.exp (-x))

theorem sig_den_ne (x : ℝ) : 1 + Real.exp (-x) ≠ 0 := by positivity

/-- The host's spelling of the sigmoid at a real number. -/
theorem sigmoid_coe (r : ℝ) : Ideal.div ((1 : ℝ) : EReal) (((1 : ℝ) : EReal) + Ideal.exp (-(r : EReal))) = (sig r : EReal) := by
  rw [← EReal.coe_neg, exp_coe, ← EReal.coe_add, div_coe' _ (sig_den_ne r)]; rfl

/-! ### A conjunction over every entry -/

theorem fold_andi_eq_one {ι : Type} [DecidableEq ι] (s : Finset ι) (x : ι → BitVec 1) (b : BitVec 1)
    (h : s.fold IntOp.andi b x = 1#1) : ∀ i ∈ s, x i = 1#1 := by
  induction s using Finset.induction_on with
  | empty => simp
  | insert a s ha ih =>
    rw [Finset.fold_insert ha] at h
    have h' : x a = 1#1 ∧ s.fold IntOp.andi b x = 1#1 := by
      revert h; generalize x a = p; generalize s.fold IntOp.andi b x = q; revert p q; decide
    intro i hi
    rcases Finset.mem_insert.mp hi with rfl | hi
    · exact h'.1
    · exact ih h'.2 i hi

/-- `all` of an array of bits is one only if every bit is. -/
theorem all_eq_one {s u : Shape} {axes : List (Fin s.rank)} (x : s.Idx → BitVec 1) (init : u.Idx → BitVec 1)
    (h : s.ReducesTo axes ⟨0, ![]⟩) (hu : 0 < u.numel) (j : Shape.Idx ⟨0, ![]⟩) (e : Host.reduce IntOp.andi x init h hu j = 1#1) (i : s.Idx) :
    x i = 1#1 := by
  classical
  rw [Host.reduce_eq_fold] at e
  exact fold_andi_eq_one _ _ _ e i (by
    simp only [Finset.mem_filter, Finset.mem_univ, true_and]
    funext a; exact a.elim0)

/-- `finite` of one array: every entry is a real number. -/
theorem isReal_of_all {s u : Shape} {axes : List (Fin s.rank)} (a b : FVec Ideal s .f32) (hb : ∀ i, b i = ⊤) (init : u.Idx → BitVec 1)
    (h : s.ReducesTo axes ⟨0, ![]⟩) (hu : 0 < u.numel) (j : Shape.Idx ⟨0, ![]⟩)
    (e : Host.reduce IntOp.andi (cmpf .olt (Host.absf a) b) init h hu j = 1#1) (i : s.Idx) : IsReal (a i) := by
  have h1 := all_eq_one _ _ _ _ _ e i
  have h2 : BitVec.ofBool (decide (max (a i) (-(a i)) < b i)) = 1#1 := h1
  rw [hb] at h2
  refine isReal_of_abs_lt ?_
  by_contra hn
  rw [decide_eq_false hn] at h2
  exact absurd h2 (by decide)

theorem andi_one {p q : BitVec 1} (h : IntOp.andi p q = 1#1) : p = 1#1 ∧ q = 1#1 := by
  revert p q; decide

theorem IsReal.sub {x y : EReal} : IsReal x → IsReal y → IsReal (x - y) := by
  rintro ⟨a, rfl⟩ ⟨b, rfl⟩; exact ⟨a - b, by push_cast; rfl⟩

/-- The reciprocal root of a positive real number. -/
theorem rsqrt_coe' {x : ℝ} (h : 0 < x) : Ideal.rsqrt (x : EReal) = (((Real.sqrt x)⁻¹ : ℝ) : EReal) := by
  rw [Ideal.rsqrt_coe, if_neg (not_lt.mpr h.le), if_neg h.ne']

/-- A row's mean square plus the small constant is positive. -/
theorem ms_pos {ι : Type} (s : Finset ι) (x : ι → ℝ) {n : ℝ} (hn : 0 < n) : 0 < (∑ k ∈ s, x k * x k) / n + eps :=
  add_pos_of_nonneg_of_pos (div_nonneg (Finset.sum_nonneg fun k _ => mul_self_nonneg _) hn.le) eps_pos

/-- The reciprocal root of a row's mean square, as the programs spell it. -/
theorem rms_coe {ι : Type} (s : Finset ι) (x : ι → ℝ) : Ideal.rsqrt (Ideal.div (∑ k ∈ s, (x k : EReal) * (x k : EReal)) (Ideal.ofBits .f32 0x44800000#32)
      + Ideal.ofBits .f32 0x3727C5AC#32) = (((Real.sqrt ((∑ k ∈ s, x k * x k) / 1024 + eps))⁻¹ : ℝ) : EReal) := by
  rw [k1024_f32, eps_f32, show (∑ k ∈ s, (x k : EReal) * (x k : EReal)) = ((∑ k ∈ s, x k * x k : ℝ) : EReal) by
    rw [coe_sum]; exact Finset.sum_congr rfl fun k _ => (EReal.coe_mul _ _).symm, div_coe' _ (by norm_num), ← EReal.coe_add,
    rsqrt_coe' (ms_pos s x (by norm_num))]

theorem rms_real {ι : Type} {s : Finset ι} (x : ι → EReal) (h : ∀ k, IsReal (x k)) : IsReal (Ideal.rsqrt (Ideal.div (∑ k ∈ s, x k * x k)
      (Ideal.ofBits .f32 0x44800000#32) + Ideal.ofBits .f32 0x3727C5AC#32)) := by
  choose y hy using h
  obtain rfl : x = fun k => (y k : EReal) := funext hy
  exact ⟨_, rms_coe s y⟩

/-- The gradient of a root-mean-square norm's input, as the kernel spells it (the left) and as the reference does: `d` the gradient of
    the normalised row times the gains, in the kernel `d · g`. At real numbers the two are one, the reciprocal root's square times what it is the root
    of being 1. -/
theorem norm_back {ι : Type} [Fintype ι] {x d x' d' g' : ι → EReal} {a a' : EReal} (hx : ∀ j, IsReal (x j)) (hd : ∀ j, IsReal (d j))
    (ea : a' = a) (ex : ∀ j, x' j = x j) (ed : ∀ j, d' j * g' j = d j) (k : ι) :
    a' + Ideal.rsqrt (Ideal.div (∑ j, x' j * x' j) (Ideal.ofBits .f32 0x44800000#32) + Ideal.ofBits .f32 0x3727C5AC#32)
        * (d' k * g' k - x' k * Ideal.rsqrt (Ideal.div (∑ j, x' j * x' j) (Ideal.ofBits .f32 0x44800000#32) + Ideal.ofBits .f32 0x3727C5AC#32)
          * Ideal.div (∑ j, d' j * g' j * (x' j * Ideal.rsqrt (Ideal.div (∑ j, x' j * x' j) (Ideal.ofBits .f32 0x44800000#32)
            + Ideal.ofBits .f32 0x3727C5AC#32))) (Ideal.ofBits .f32 0x44800000#32))
      = a + (d k * Ideal.rsqrt (Ideal.div (∑ j, x j * x j) (Ideal.ofBits .f32 0x44800000#32) + Ideal.ofBits .f32 0x3727C5AC#32)
        + x k * (∑ _i : Fin 1, Ideal.div ((∑ j, x j * d j) * (Ideal.ofBits .f32 0xBF000000#32
          * Ideal.div (Ideal.rsqrt (Ideal.div (∑ j, x j * x j) (Ideal.ofBits .f32 0x44800000#32) + Ideal.ofBits .f32 0x3727C5AC#32))
            (Ideal.div (∑ j, x j * x j) (Ideal.ofBits .f32 0x44800000#32) + Ideal.ofBits .f32 0x3727C5AC#32))) (Ideal.ofBits .f32 0x44800000#32))
        + (∑ _i : Fin 1, Ideal.div ((∑ j, x j * d j) * (Ideal.ofBits .f32 0xBF000000#32
          * Ideal.div (Ideal.rsqrt (Ideal.div (∑ j, x j * x j) (Ideal.ofBits .f32 0x44800000#32) + Ideal.ofBits .f32 0x3727C5AC#32))
            (Ideal.div (∑ j, x j * x j) (Ideal.ofBits .f32 0x44800000#32) + Ideal.ofBits .f32 0x3727C5AC#32))) (Ideal.ofBits .f32 0x44800000#32)) * x k) := by
  choose y hy using hx
  choose z hz using hd
  simp only [ea, ex, ed, Fin.sum_univ_one, hy, hz, rms_coe]
  congr 1
  have hv := ms_pos Finset.univ y (n := 1024) (by norm_num)
  have e1 : (∑ j, (y j : EReal) * (y j : EReal)) = ((∑ j, y j * y j : ℝ) : EReal) := by rw [coe_sum]; exact Finset.sum_congr rfl fun _ _ => (EReal.coe_mul _ _).symm
  have e2 : (∑ j, (y j : EReal) * (z j : EReal)) = ((∑ j, y j * z j : ℝ) : EReal) := by rw [coe_sum]; exact Finset.sum_congr rfl fun _ _ => (EReal.coe_mul _ _).symm
  rw [e1, e2, k1024_f32, eps_f32, neg_half_f32, div_coe' _ (by norm_num), ← EReal.coe_add, div_coe' _ hv.ne']
  set v : ℝ := (∑ j, y j * y j) / 1024 + eps with hvd
  set r : ℝ := (Real.sqrt v)⁻¹ with hr
  have e3 : (∑ j, (z j : EReal) * ((y j : EReal) * (r : EReal))) = ((r * ∑ j, y j * z j : ℝ) : EReal) := by
    rw [Finset.mul_sum, coe_sum]; exact Finset.sum_congr rfl fun j _ => by rw [← EReal.coe_mul, ← EReal.coe_mul]; congr 1; ring
  rw [e3, ← EReal.coe_mul (-(1 / 2)), ← EReal.coe_mul (∑ j, y j * z j), div_coe' _ (by norm_num), div_coe' _ (by norm_num)]
  have hvr : r * r * v = 1 := by rw [hr, ← mul_inv, Real.mul_self_sqrt hv.le, inv_mul_cancel₀ hv.ne']
  have hdiv : r / v = r * r * r := by rw [div_eq_iff hv.ne']; linear_combination -r * hvr
  rw [hdiv]
  norm_cast
  ring

/-- An element of a normalised row depends on the row's elements alone. -/
theorem rms_congr {ι : Type} [Fintype ι] {x x' : ι → EReal} (h : ∀ j, x' j = x j) (k : ι) :
    x' k * Ideal.rsqrt (Ideal.div (∑ j, x' j * x' j) (Ideal.ofBits .f32 0x44800000#32) + Ideal.ofBits .f32 0x3727C5AC#32)
      = x k * Ideal.rsqrt (Ideal.div (∑ j, x j * x j) (Ideal.ofBits .f32 0x44800000#32) + Ideal.ofBits .f32 0x3727C5AC#32) := by
  obtain rfl : x' = x := funext h
  rfl

end Cert.Reals

end
-- ==== Proof.Wg.lean ====
/- What the weight-gradient call leaves for `w_gate` (`Cert.KWgIdeal`): at finite arguments slab 0 of the gradients is the
   reference's product, the other slabs are as they came in. -/
module

public import proofs.«01_k».proof.Proof.Gen.KWgIdeal
public import proofs.«01_k».proof.Proof.Gen.KWgIdeal.Skeleton
public import proofs.«01_k».proof.Proof.Gen.KWgIdeal.Launch
public import proofs.«01_k».proof.Proof.Gen.KWgIdeal.Points
public import proofs.«01_k».proof.Proof.Gen.KWgIdeal.Frame
public import proofs.«01_k».proof.Proof.Gen.RWgIdeal
public import proofs.«01_k».proof.Defs
public import proofs.«01_k».proof.Proof.Gen.Pre_finite_wg
public import proofs.«01_k».proof.Proof.Reals
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.RWgIdeal.Terms

open Cert.RWgIdeal Cert.RWgIdeal.Gen

/-- The product `h · w`. -/
def prod (a2 : FVec Ideal S8192x1024 .f32) (w : FVec Ideal S1024x2816 .f32) : FVec Ideal S8192x2816 .f32 :=
  Host.dotGeneral dot_S8192x1024_S1024x2816_S8192x2816_1_0_0_1_n_n none a2 w

/-- Ones. -/
def ones : FVec Ideal S8192x2816 .f32 := broadcastInDim S8192x2816 ![] bcast_S_S8192x2816 (constant S_ .f32 0x3F800000#32)

/-- The sigmoid, as the host spells it. -/
def sigm (g : FVec Ideal S8192x2816 .f32) : FVec Ideal S8192x2816 .f32 :=
  Host.divf ones (addf ones (Host.exp (Host.negf g)))

/-- The reference's result over a left operand `X`: slab 0 the product of `X` and `h`, slabs 1 and 2 as they were. -/
def refOf (a0 : FVec Ideal S3x2816x1024 .f32) (X : FVec Ideal S8192x2816 .f32) (a2 : FVec Ideal S8192x1024 .f32) :
    FVec Ideal S3x2816x1024 .f32 :=
  concatenate S3x2816x1024 0 [⟨S1x2816x1024, (broadcastInDim S1x2816x1024 ![1, 2] bcast_S2816x1024_S1x2816x1024_1_2
    (transpose S2816x1024 [1, 0] (transpose S1024x2816 [1, 0] (Host.dotGeneral
    dot_S8192x2816_S8192x1024_S2816x1024_0_0_1_1_n_n none X a2) transposes_S2816x1024_S1024x2816_1_0)
    transposes_S1024x2816_S2816x1024_1_0))⟩, ⟨S2x2816x1024,
    (extractStridedSlice S2x2816x1024 ![1, 0, 0] a0 slices_S3x2816x1024_S2x2816x1024_1_0_0)⟩]
    concatenates_S1x2816x1024_S2x2816x1024_S3x2816x1024_d0

/-- The pullback of `silu` at `g`, applied to `y`. -/
def dsilu (g y : FVec Ideal S8192x2816 .f32) : FVec Ideal S8192x2816 .f32 :=
  addf (mulf y (sigm g)) (mulf (mulf g y) (mulf (sigm g) (subf ones (sigm g))))

/-- The reference's result. -/
abbrev ref_v11 (a0 : FVec Ideal S3x2816x1024 .f32) (a1 : FVec Ideal S8192x2816 .f32) (a2 : FVec Ideal S8192x1024 .f32)
    (a3 : FVec Ideal S1024x2816 .f32) (a4 : FVec Ideal S1024x2816 .f32) : FVec Ideal S3x2816x1024 .f32 :=
  refOf a0 (dsilu (prod a2 a3) (mulf a1 (prod a2 a4))) a2

/-- A product of finite arrays is finite. -/
theorem prod_real (a2 : FVec Ideal S8192x1024 .f32) (w : FVec Ideal S1024x2816 .f32) (h2 : ∀ i, Reals.IsReal (a2 i)) (hw : ∀ i, Reals.IsReal (w i)) (i) :
    Reals.IsReal (prod a2 w i) := by
  pointwise [prod]
  exact Reals.IsReal.sum _ fun k => (h2 _).mul (hw _)

/-- At finite values the pullback is linear: a factor comes out of it. -/
theorem dsilu_mul (g u d : FVec Ideal S8192x2816 .f32) (hg : ∀ i, Reals.IsReal (g i)) (hu : ∀ i, Reals.IsReal (u i)) (hd : ∀ i, Reals.IsReal (d i)) (i) :
    dsilu g (mulf d u) i = d i * dsilu g (mulf ones u) i := by
  obtain ⟨x, hx⟩ := hg i
  obtain ⟨y, hy⟩ := hu i
  obtain ⟨z, hz⟩ := hd i
  have h1 : ones i = ((1 : ℝ) : EReal) := Reals.one_f32
  have hs : sigm g i = (Reals.sig x : EReal) := by
    have e : sigm g i = Ideal.div (ones i) (ones i + Ideal.exp (-(g i))) := rfl
    rw [e, h1, hx, Reals.sigmoid_coe]
  have e : ∀ w : FVec Ideal S8192x2816 .f32, dsilu g (mulf w u) i
      = w i * u i * sigm g i + g i * (w i * u i) * (sigm g i * (ones i - sigm g i)) := fun _ => rfl
  rw [e, e, hx, hy, hz, hs, h1]
  norm_cast
  ring

end Cert.RWgIdeal.Terms

namespace Cert.KWgIdeal.Wg

open Cert.KWgIdeal Cert.KWgIdeal.Gen Cert.RWgIdeal.Terms

variable (m : (ℓ : Loc nD τ sig) → Buf (Elt Ideal) ℓ)

/-- The staged windows' block indices at grid point `t`. -/
theorem idx : ∀ t : Fin cfg0.N, win0_0.index t = ![t.val % 4, t.val / 4] ∧ win0_1.index t = ![t.val % 4, t.val / 4]
    ∧ win0_2.index t = ![t.val % 4, 0] ∧ win0_3.index t = ![0, t.val / 4, 0] :=
  (by decide +kernel : ∀ t : Fin grid0.N, _)

set_option maxHeartbeats 1600000 in
/-- The left operand's array at the region's entry. -/
theorem entry_dA (c : Dev nD) : (show FVec Ideal S8192x2816 .bf16 from V m c main_v10) = fun i =>
    m ((c : Thread nD τ).loc main_arg1) i := by
  unfold V; after_results; rfl

set_option maxHeartbeats 1600000 in
/-- The factor's array: what the forward pass keeps. -/
theorem entry_times (c : Dev nD) : (show FVec Ideal S8192x2816 .bf16 from V m c main_v9) = fun i =>
    dsilu (prod (m ((c : Thread nD τ).loc main_arg2)) (m ((c : Thread nD τ).loc main_arg3))) (mulf ones (prod (m ((c : Thread nD τ).loc main_arg2)) (m ((c : Thread nD τ).loc main_arg4)))) i := by
  unfold V; after_results; rfl

set_option maxHeartbeats 1600000 in
/-- The right operand's array: the activation. -/
theorem entry_h (c : Dev nD) : (show FVec Ideal S8192x1024 .bf16 from V m c main_v11) = fun i =>
    m ((c : Thread nD τ).loc main_arg2) i := by
  unfold V; after_results; rfl

/-- The result's array at the region's entry: the gradients that came in. -/
theorem entry_buf (c : Dev nD) : (show FVec Ideal S3x2816x1024 .f32 from V m c main_v12) = fun i => m ((c : Thread nD τ).loc main_arg0) i := by
  unfold V; after_results; rfl

/-- The zero fill. -/
theorem hzero (j : S1x1408x1024.Idx) : k0_pay1 (F := Ideal) j = 0 := by
  pointwise! [k0_pay1]

/-- The accumulating store: what was there, plus this point's lanes of the product. -/
theorem hpay (v3 v5 : Vec Ideal S2048x1408 .bf16) (v8 : Vec Ideal S1x1408x1024 .f32) (v10 : Vec Ideal S2048x1024 .bf16) (j : S1x1408x1024.Idx) :
    k0_pay2 v3 v5 v8 v10 j = v8 j + k0_pay2 v3 v5 (fun _ => 0) v10 j := by
  pointwise [k0_pay2]

set_option maxHeartbeats 1600000 in
/-- The result over a left operand `X` that is the product of the two staged ones: the written slab is the product, the rest as it
    came in. -/
theorem final_of (c : Dev nD) (X : FVec Ideal S8192x2816 .f32)
    (hX : ∀ i, X i = (show EReal from m ((c : Thread nD τ).loc main_arg1) i) * (show EReal from dsilu (prod (m ((c : Thread nD τ).loc main_arg2)) (m ((c : Thread nD τ).loc main_arg3))) (mulf ones (prod (m ((c : Thread nD τ).loc main_arg2)) (m ((c : Thread nD τ).loc main_arg4)))) i)) :
    (dats m 0 c).arrAt 3 (cfgs 0).N
    = refOf (m ((c : Thread nD τ).loc main_arg0)) X (m ((c : Thread nD τ).loc main_arg2)) := by
  refine Eq.trans (b := fun i => if (i 0 : ℕ) = 0 then refOf (m ((c : Thread nD τ).loc main_arg0)) X (m ((c : Thread nD τ).loc main_arg2)) i
      else V m c main_v12 i) ?_ ?_
  · refine (dats m 0 c).arrAt_eq_of_coversWhere 3 _ (fun β => β 0 = 0) (by decide +kernel) (fun t hf y => ?_)
      (fun j => by blk_simp [Pipeline.Window.cell_apply]; try omega)
    blk_simp
    rw [after0_3, Pipeline.eq_sum_fin_of_reset_step_apply_of_flush (fun n h => (outsAt0 m c n h)) 4 (fun _ => 0) _
      (fun t h j => by rw [outsAt0_A m c t h]; frame_out; rw [hpay, hzero])
      (fun t h j => by rw [outsAt0_B m c t h]; frame_out; rw [hpay])
      t ((flush0_3 t).mp hf) _, zero_add]
    pointwise [k0_pay2, refOf]
    rw [dif_pos (by blk_simp [idx t]; try omega)]
    refine Fin.sum_mul_add_congr fun s k hl => ?_
    rw [hX]
    have e0 := congrFun (entry_dA m c)
    have e1 := congrFun (entry_times m c)
    have e2 := congrFun (entry_h m c)
    blk_simp [iblk, idx t, idx ⟨_, Pipeline.run_point_lt_of_flush t ((flush0_3 t).mp hf) s⟩]
    refine congrArg₂ (· * ·) (congrArg₂ (· * ·) ((e0 _).trans ?_) ((e1 _).trans ?_)) ((e2 _).trans ?_) <;>
      blk_ext [idx t, idx ⟨_, Pipeline.run_point_lt_of_flush t ((flush0_3 t).mp hf) s⟩]
  · funext i
    have e := congrFun (entry_buf m c) i
    have hi : (i 0 : ℕ) < 3 := (i 0).isLt
    pointwise [refOf]
    split_ifs with h1 h2 h3 h4
    all_goals first
      | rfl
      | exact e
      | (exfalso; omega)
      | (refine e.trans (congrArg _ (funext fun a => ?_))
         fin_cases a
         · exact Fin.ext (by simp [ix3]; omega)
         · rfl
         · rfl)

/-- The result at finite arguments: slab 0 is the reference's product. -/
theorem final (c : Dev nD) (h1 : ∀ i, Reals.IsReal (m ((c : Thread nD τ).loc main_arg1) i)) (h2 : ∀ i, Reals.IsReal (m ((c : Thread nD τ).loc main_arg2) i))
    (h3 : ∀ i, Reals.IsReal (m ((c : Thread nD τ).loc main_arg3) i)) (h4 : ∀ i, Reals.IsReal (m ((c : Thread nD τ).loc main_arg4) i)) :
    (dats m 0 c).arrAt 3 (cfgs 0).N
    = ref_v11 (m ((c : Thread nD τ).loc main_arg0)) (m ((c : Thread nD τ).loc main_arg1)) (m ((c : Thread nD τ).loc main_arg2))
      (m ((c : Thread nD τ).loc main_arg3)) (m ((c : Thread nD τ).loc main_arg4)) :=
  final_of m c _ (dsilu_mul _ _ _ (prod_real _ _ h2 h3) (prod_real _ _ h2 h4) h1)

/-- The result under the precondition. -/
theorem final_pre (hp : Pre_KWgIdeal_finite_wg m) (c : Dev nD) : (dats m 0 c).arrAt 3 (cfgs 0).N
    = ref_v11 (m ((c : Thread nD τ).loc main_arg0)) (m ((c : Thread nD τ).loc main_arg1)) (m ((c : Thread nD τ).loc main_arg2))
      (m ((c : Thread nD τ).loc main_arg3)) (m ((c : Thread nD τ).loc main_arg4)) := by
  have h := congrFun (hp c) (fun a => Fin.elim0 a)
  obtain ⟨h, h4⟩ := Reals.andi_one h
  obtain ⟨h, h3⟩ := Reals.andi_one h
  obtain ⟨h1, h2⟩ := Reals.andi_one h
  exact final m c (fun i => Reals.isReal_of_all _ _ (fun _ => Reals.inf_f32) _ _ _ _ h1 i) (fun i => Reals.isReal_of_all _ _ (fun _ => Reals.inf_f32) _ _ _ _ h2 i)
    (fun i => Reals.isReal_of_all _ _ (fun _ => Reals.inf_f32) _ _ _ _ h3 i) (fun i => Reals.isReal_of_all _ _ (fun _ => Reals.inf_f32) _ _ _ _ h4 i)

end Cert.KWgIdeal.Wg

end
-- ==== Proof.WgClaims.lean ====
/- The claims about the gradient in `w_gate` (`Cert.KWg`, `Cert.KWgIdeal`, `Cert.RWgIdeal`): each program runs and leaves its arguments
   as they were; over the extended reals the call's results are the reference's. -/
module

public import proofs.«01_k».proof.Defs
public import proofs.«01_k».proof.Proof.Gen.KWg.Frame
public import proofs.«01_k».proof.Proof.Gen.KWgIdeal.Value
public import proofs.«01_k».proof.Proof.Gen.RWgIdeal.Run
public import proofs.«01_k».proof.Proof.Gen.Pre_finite_wg
public import proofs.«01_k».proof.Proof.Wg
public import Idealize.ShloMosaic.Lib.Claim

@[expose] public section

namespace Cert.Proof.Wg

open Idealize.ShloMosaic Idealize.SL.Sem

/-- The kernel as printed: it terminates, and its arguments end unchanged. -/
theorem frame_kernel : Cert.quiescent_KWg := fun m ρ _ => Cert.KWg.Gen.frame m ρ

/-- The kernel over the extended reals: likewise. -/
theorem frame_ideal : Cert.quiescent_KWgIdeal := fun m ρ _ => Cert.KWgIdeal.Gen.frame m ρ

/-- The same, where the precondition is stated too. -/
theorem frame_ideal_pre : Cert.quiescent_KWgIdeal_pre_finite_wg := fun m ρ _ => Cert.KWgIdeal.Gen.frame m ρ

/-- The reference: likewise. -/
theorem frame_reference : Cert.quiescent_RWgIdeal := fun m ρ _ =>
  (θ_run Cert.RWgIdeal.defs _ _).mono (fun r h => ⟨fun c => (h c).2, sem_eq_zero_of_no_sems (by decide) r.2⟩)
    (Cert.RWgIdeal.Value.run (F := Ideal) m ρ)

/-- The same, where the precondition is stated too. -/
theorem frame_reference_pre : Cert.quiescent_RWgIdeal_pre_finite_wg := fun m ρ _ => frame_reference m ρ trivial

set_option maxRecDepth 16384 in
set_option maxHeartbeats 1600000 in
/-- The results agree. -/
theorem algebraic : Cert.algebraic_KWgIdeal_RWgIdeal_pre_finite_wg := by
  pair_intro
  · run_from Cert.KWgIdeal.Value.run_blocks (F := Ideal) m g
  · run_from Cert.RWgIdeal.Value.run (F := Ideal) m' g'
    rw [(hagree c).2.2.2.2]
    exact (Cert.KWgIdeal.Wg.final_pre m hpre c).symm

end Cert.Proof.Wg
-- ==== Proof.In.lean ====
/- What the half step's backward call leaves (`Cert.KInIdeal`): at finite arguments the gradient of its input, added to the one that came in,
   and the gradient of the norm's gains. -/
module

public import proofs.«01_k».proof.Proof.Gen.KInIdeal
public import proofs.«01_k».proof.Proof.Gen.KInIdeal.Skeleton
public import proofs.«01_k».proof.Proof.Gen.KInIdeal.Launch
public import proofs.«01_k».proof.Proof.Gen.KInIdeal.Points
public import proofs.«01_k».proof.Proof.Gen.KInIdeal.Frame
public import proofs.«01_k».proof.Proof.Gen.RInIdeal
public import proofs.«01_k».proof.Proof.Gen.RInIdeal.Run
public import proofs.«01_k».proof.Defs
public import proofs.«01_k».proof.Proof.Gen.Pre_finite_in
public import proofs.«01_k».proof.Proof.Reals
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.RInIdeal.Terms

open Cert.RInIdeal Cert.RInIdeal.Gen

/-- A row's mean square, plus the small constant. -/
def ms (a0 : FVec Ideal S8192x1024 .f32) : FVec Ideal S8192x1 .f32 :=
  addf (Host.divf (broadcastInDim S8192x1 ![0] bcast_S8192_S8192x1_0 (Host.reduceAdd (mulf a0 a0) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x3727C5AC#32))

/-- The input over its rows' root mean square. -/
def xh (a0 : FVec Ideal S8192x1024 .f32) : FVec Ideal S8192x1024 .f32 :=
  mulf a0 (broadcastInDim S8192x1024 ![0, 1] bcast_S8192x1_S8192x1024_0_1 (Host.rsqrt (ms a0)))

/-- The gains, in every row. -/
def gains (a1 : FVec Ideal S2x1024 .f32) : FVec Ideal S8192x1024 .f32 :=
  broadcastInDim S8192x1024 ![0, 1] bcast_S1x1024_S8192x1024_0_1 (broadcastInDim S1x1024 ![1] bcast_S1024_S1x1024_1 (shapeCast _
    (extractStridedSlice S1x1024 ![0, 0] a1 slices_S2x1024_S1x1024_0_0) shapeCasts_S1x1024_S1024))

/-- The normalised input. -/
def hn (a0 : FVec Ideal S8192x1024 .f32) (a1 : FVec Ideal S2x1024 .f32) : FVec Ideal S8192x1024 .f32 := mulf (xh a0) (gains a1)

/-- The product `h · w`. -/
def prod (h : FVec Ideal S8192x1024 .f32) (w : FVec Ideal S1024x2816 .f32) : FVec Ideal S8192x2816 .f32 :=
  Host.dotGeneral dot_S8192x1024_S1024x2816_S8192x2816_1_0_0_1_n_n none h w

/-- Ones. -/
def ones : FVec Ideal S8192x2816 .f32 := broadcastInDim S8192x2816 ![] bcast_S_S8192x2816 (constant S_ .f32 0x3F800000#32)

/-- The sigmoid, as the host spells it. -/
def sigm (g : FVec Ideal S8192x2816 .f32) : FVec Ideal S8192x2816 .f32 :=
  Host.divf ones (addf ones (Host.exp (Host.negf g)))

/-- The pullback of `silu` at `g`, applied to `y`. -/
def dsilu (g y : FVec Ideal S8192x2816 .f32) : FVec Ideal S8192x2816 .f32 :=
  addf (mulf y (sigm g)) (mulf (mulf g y) (mulf (sigm g) (subf ones (sigm g))))

/-- The gradient of the normalised input, from the products `g` and `u` and the activation's gradient. -/
def dh (g u dA : FVec Ideal S8192x2816 .f32) (a2 a3 : FVec Ideal S1024x2816 .f32) : FVec Ideal S8192x1024 .f32 :=
  addf (Host.dotGeneral dot_S8192x2816_S1024x2816_S8192x1024_1_1_0_0_n_n none (mulf (mulf g (sigm g)) dA) a3)
    (Host.dotGeneral dot_S8192x2816_S1024x2816_S8192x1024_1_1_0_0_n_n none (dsilu g (mulf dA u)) a2)

/-- What a row's mean square's gradient is, from the gradient `y` of the normalised input. -/
def dms (a0 y : FVec Ideal S8192x1024 .f32) : FVec Ideal S8192x1024 .f32 :=
  broadcastInDim S8192x1024 ![0] bcast_S8192_S8192x1024_0 (Host.reduceAdd (Host.divf (mulf (shapeCast _ (Host.reduceAdd (mulf a0 y)
    (constant S_ .f32 0x00000000#32) reducesTo_S8192x1024_S8192_d1 h_S_) shapeCasts_S8192_S8192x1) (mulf (broadcastInDim S8192x1 ![] bcast_S_S8192x1
    (constant S_ .f32 0xBF000000#32)) (Host.divf (Host.rsqrt (ms a0)) (ms a0)))) (broadcastInDim S8192x1 ![] bcast_S_S8192x1
    (constant S_ .f32 0x44800000#32))) (constant S_ .f32 0x00000000#32) reducesTo_S8192x1_S8192_d1 h_S_)

/-- The gradient of the norm's input, from the gradient `y` of the normalised input, added to `a6`. -/
def back (a0 y a6 : FVec Ideal S8192x1024 .f32) : FVec Ideal S8192x1024 .f32 :=
  addf a6 (addf (addf (mulf y (broadcastInDim S8192x1024 ![0, 1] bcast_S8192x1_S8192x1024_0_1 (Host.rsqrt (ms a0)))) (mulf a0 (dms a0 y)))
    (mulf (dms a0 y) a0))

/-- The gradient of the norm's gains. -/
def gback (a0 d : FVec Ideal S8192x1024 .f32) : FVec Ideal S1x1024 .f32 :=
  shapeCast _ (Host.reduceAdd (shapeCast _ (Host.reduceAdd (mulf (xh a0) d) (constant S_ .f32 0x00000000#32) reducesTo_S8192x1024_S1024_d0 h_S_)
    shapeCasts_S1024_S1x1024) (constant S_ .f32 0x00000000#32) reducesTo_S1x1024_S1024_d0 h_S_) shapeCasts_S1024_S1x1024

/-- The host's spelling of the sigmoid is the logistic function. -/
theorem sigm_eq (g : FVec Ideal S8192x2816 .f32) (i) : sigm g i = Ideal.logistic (g i) := by
  pointwise [sigm, ones]
  rfl

/-- At finite values the pullback is linear: a factor comes out of it. -/
theorem dsilu_mul {g u d : FVec Ideal S8192x2816 .f32} {i : S8192x2816.Idx} (hg : Reals.IsReal (g i)) (hu : Reals.IsReal (u i)) (hd : Reals.IsReal (d i)) :
    dsilu g (mulf d u) i = d i * dsilu g (mulf ones u) i := by
  have h1 : ones i = ((1 : ℝ) : EReal) := Reals.one_f32
  have e : ∀ w : FVec Ideal S8192x2816 .f32, dsilu g (mulf w u) i
      = w i * u i * sigm g i + g i * (w i * u i) * (sigm g i * (ones i - sigm g i)) := fun _ => rfl
  rw [e, e, sigm_eq, h1]
  obtain ⟨x, hx⟩ := hg
  obtain ⟨y, hy⟩ := hu
  obtain ⟨z, hz⟩ := hd
  rw [hx, hy, hz, Ideal.logistic_coe]
  norm_cast
  ring

/-- The normalised input is finite where the input and the gains are. -/
theorem hn_real (a0 : FVec Ideal S8192x1024 .f32) (a1 : FVec Ideal S2x1024 .f32) (h0 : ∀ i, Reals.IsReal (a0 i)) (h1 : ∀ i, Reals.IsReal (a1 i)) (i) :
    Reals.IsReal (hn a0 a1 i) := by
  pointwise [hn, xh, gains, ms]
  exact ((h0 _).mul (Reals.rms_real _ fun _ => h0 _)).mul (h1 _)

theorem gains_real (a1 : FVec Ideal S2x1024 .f32) (h1 : ∀ i, Reals.IsReal (a1 i)) (i) : Reals.IsReal (gains a1 i) := by
  pointwise [gains]
  exact h1 _

theorem prod_real (a : FVec Ideal S8192x1024 .f32) (w : FVec Ideal S1024x2816 .f32) (h : ∀ i, Reals.IsReal (a i)) (hw : ∀ i, Reals.IsReal (w i)) (i) :
    Reals.IsReal (prod a w i) := by
  pointwise [prod]
  exact Reals.IsReal.sum _ fun k => (h _).mul (hw _)

theorem dsilu_real {g y : FVec Ideal S8192x2816 .f32} {i : S8192x2816.Idx} (hg : Reals.IsReal (g i)) (hy : Reals.IsReal (y i)) : Reals.IsReal (dsilu g y i) := by
  have h1 : ones i = ((1 : ℝ) : EReal) := Reals.one_f32
  have hs : Reals.IsReal (Ideal.logistic (g i)) := by obtain ⟨x, hx⟩ := hg; exact ⟨_, by rw [hx, Ideal.logistic_coe]⟩
  have e : dsilu g y i = y i * sigm g i + g i * y i * (sigm g i * (ones i - sigm g i)) := rfl
  rw [e, sigm_eq, h1]
  exact (hy.mul hs).add ((hg.mul hy).mul (hs.mul ((Reals.IsReal.coe 1).sub hs)))

/-- A row of the gradient of the normalised input, as sums. -/
theorem dh_row (g u dA : FVec Ideal S8192x2816 .f32) (a2 a3 : FVec Ideal S1024x2816 .f32) (R : Fin 8192) (k : Fin 1024) :
    dh g u dA a2 a3 (ix2 R k) = (∑ j : Fin 2816, g (ix2 R j) * sigm g (ix2 R j) * dA (ix2 R j) * a3 (ix2 k j))
      + ∑ j : Fin 2816, dsilu g (mulf dA u) (ix2 R j) * a2 (ix2 k j) := by
  pointwise [dh]

theorem dh_real (g u dA : FVec Ideal S8192x2816 .f32) (a2 a3 : FVec Ideal S1024x2816 .f32) (hg : ∀ i, Reals.IsReal (g i)) (hu : ∀ i, Reals.IsReal (u i))
    (hd : ∀ i, Reals.IsReal (dA i)) (h2 : ∀ i, Reals.IsReal (a2 i)) (h3 : ∀ i, Reals.IsReal (a3 i)) (R : Fin 8192) (k : Fin 1024) :
    Reals.IsReal (dh g u dA a2 a3 (ix2 R k)) := by
  rw [dh_row]
  refine (Reals.IsReal.sum _ fun j => ?_).add (Reals.IsReal.sum _ fun j => (dsilu_real (hg _) ((hd _).mul (hu _))).mul (h2 _))
  refine (((hg _).mul ?_).mul (hd _)).mul (h3 _)
  rw [sigm_eq]
  obtain ⟨x, hx⟩ := hg (ix2 R j)
  exact ⟨_, by rw [hx, Ideal.logistic_coe]⟩

set_option maxHeartbeats 1600000 in
/-- The reference's result `v48`, in these terms. -/
theorem v48_eq (m : (ℓ : Loc nD τ sig) → Buf (Elt Ideal) ℓ) (c : Dev nD) : Cert.RInIdeal.Value.res_main_v48 m c = back (m ((c.tc : Thread nD τ).loc main_arg0)) (mulf (dh (prod (hn (m ((c.tc : Thread nD τ).loc main_arg0)) (m ((c.tc : Thread nD τ).loc main_arg1))) (m ((c.tc : Thread nD τ).loc main_arg2))) (prod (hn (m ((c.tc : Thread nD τ).loc main_arg0)) (m ((c.tc : Thread nD τ).loc main_arg1))) (m ((c.tc : Thread nD τ).loc main_arg3))) (m ((c.tc : Thread nD τ).loc main_arg5)) (m ((c.tc : Thread nD τ).loc main_arg2)) (m ((c.tc : Thread nD τ).loc main_arg3))) (gains (m ((c.tc : Thread nD τ).loc main_arg1)))) (m ((c.tc : Thread nD τ).loc main_arg6)) := by
  unfold Cert.RInIdeal.Value.res_main_v48 back dh dms dsilu sigm prod hn xh gains ms ones
  rfl

set_option maxHeartbeats 1600000 in
/-- The reference's result `v49`, in these terms. -/
theorem v49_eq (m : (ℓ : Loc nD τ sig) → Buf (Elt Ideal) ℓ) (c : Dev nD) : Cert.RInIdeal.Value.res_main_v49 m c = gback (m ((c.tc : Thread nD τ).loc main_arg0)) (dh (prod (hn (m ((c.tc : Thread nD τ).loc main_arg0)) (m ((c.tc : Thread nD τ).loc main_arg1))) (m ((c.tc : Thread nD τ).loc main_arg2))) (prod (hn (m ((c.tc : Thread nD τ).loc main_arg0)) (m ((c.tc : Thread nD τ).loc main_arg1))) (m ((c.tc : Thread nD τ).loc main_arg3))) (m ((c.tc : Thread nD τ).loc main_arg5)) (m ((c.tc : Thread nD τ).loc main_arg2)) (m ((c.tc : Thread nD τ).loc main_arg3))) := by
  unfold Cert.RInIdeal.Value.res_main_v49 gback dh dsilu sigm prod hn xh gains ms ones
  rfl

end Cert.RInIdeal.Terms

namespace Cert.KInIdeal.In

open Cert.KInIdeal Cert.KInIdeal.Gen Cert.RInIdeal.Terms

variable (m : (ℓ : Loc nD τ sig) → Buf (Elt Ideal) ℓ)

/-- Every window's block index at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![0, 0, 0]
    ∧ win0_7.index t = ![1, 0, 0] ∧ win0_8.index t = ![t.val, 0] ∧ win0_9.index t = ![0, 0] :=
  (by decide +kernel : ∀ t : Fin grid0.N, _)

/-- The three weights in one array, a slab each. -/
def stack (a2 a3 : FVec Ideal S1024x2816 .f32) (a4 : FVec Ideal S2816x1024 .f32) : FVec Ideal S3x2816x1024 .f32 :=
  concatenate S3x2816x1024 0 [⟨S1x2816x1024, broadcastInDim S1x2816x1024 ![1, 2] bcast_S2816x1024_S1x2816x1024_1_2 (transpose S2816x1024 [1, 0] a2 transposes_S1024x2816_S2816x1024_1_0)⟩,
    ⟨S1x2816x1024, broadcastInDim S1x2816x1024 ![1, 2] bcast_S2816x1024_S1x2816x1024_1_2 (transpose S2816x1024 [1, 0] a3 transposes_S1024x2816_S2816x1024_1_0)⟩,
    ⟨S1x2816x1024, broadcastInDim S1x2816x1024 ![1, 2] bcast_S2816x1024_S1x2816x1024_1_2 a4⟩] concatenates_S1x2816x1024_S1x2816x1024_S1x2816x1024_S3x2816x1024_d0

set_option maxHeartbeats 1600000 in
/-- The weights' array at the region's entry. -/
theorem entry_w (c : Dev nD) : (show FVec Ideal S3x2816x1024 .bf16 from V m c main_v31) = fun i =>
    stack (m ((c : Thread nD τ).loc main_arg2)) (m ((c : Thread nD τ).loc main_arg3)) (m ((c : Thread nD τ).loc main_arg4)) i := by
  unfold V; after_results; rfl

/-- Slab 0 of the stacked weights is `w_gate`, transposed. -/
theorem weights0 (c : Dev nD) (a : Fin 2816) (b : Fin 1024) :
    (show FVec Ideal S3x2816x1024 .bf16 from V m c main_v31) (ix3 0 a b) = m ((c : Thread nD τ).loc main_arg2) (ix2 b a) := by
  rw [entry_w]
  pointwise [stack]

/-- Slab 1 of the stacked weights is `w_up`, transposed. -/
theorem weights1 (c : Dev nD) (a : Fin 2816) (b : Fin 1024) :
    (show FVec Ideal S3x2816x1024 .bf16 from V m c main_v31) (ix3 1 a b) = m ((c : Thread nD τ).loc main_arg3) (ix2 b a) := by
  rw [entry_w]
  pointwise [stack]

/-- The gate weights' block. -/
theorem iblk6 (c : Dev nD) (t : Fin cfg0.N) (a : Fin 2816) (b : Fin 1024) :
    (show FVec Ideal S1x2816x1024 .bf16 from iblk m c 6 t) (ix3 0 a b) = m ((c : Thread nD τ).loc main_arg2) (ix2 b a) := by
  refine Eq.trans ?_ (weights0 m c a b)
  blk_point [iblk, idx t]

/-- The up weights' block. -/
theorem iblk7 (c : Dev nD) (t : Fin cfg0.N) (a : Fin 2816) (b : Fin 1024) :
    (show FVec Ideal S1x2816x1024 .bf16 from iblk m c 7 t) (ix3 0 a b) = m ((c : Thread nD τ).loc main_arg3) (ix2 b a) := by
  refine Eq.trans ?_ (weights1 m c a b)
  blk_point [iblk, idx t]

/-- The gains' array at the region's entry. -/
theorem entry_norm (c : Dev nD) : (show FVec Ideal S2x1x1024 .f32 from V m c main_v33) = fun i =>
    shapeCast S2x1x1024 (show FVec Ideal S2x1024 .f32 from m ((c : Thread nD τ).loc main_arg1)) shapeCasts_S2x1024_S2x1x1024 i := by
  unfold V; after_results; rfl

/-- The gain's block is the gains' row 0. -/
theorem iblk5 (c : Dev nD) (t : Fin cfg0.N) (b : Fin 1024) :
    (show FVec Ideal S1x1x1024 .f32 from iblk m c 5 t) (ix3 0 0 b) = m ((c : Thread nD τ).loc main_arg1) (ix2 0 b) := by
  refine Eq.trans ?_ ((congrFun (entry_norm m c) (ix3 0 0 b)).trans ?_)
  · blk_point [iblk, idx t]
  · pointwise

/-- The products that the reference is made of. -/
abbrev G (c : Dev nD) : FVec Ideal RInIdeal.S8192x2816 .f32 :=
  prod (hn (m ((c : Thread nD τ).loc main_arg0)) (m ((c : Thread nD τ).loc main_arg1))) (m ((c : Thread nD τ).loc main_arg2))
abbrev U (c : Dev nD) : FVec Ideal RInIdeal.S8192x2816 .f32 :=
  prod (hn (m ((c : Thread nD τ).loc main_arg0)) (m ((c : Thread nD τ).loc main_arg1))) (m ((c : Thread nD τ).loc main_arg3))
abbrev DH (c : Dev nD) : FVec Ideal RInIdeal.S8192x1024 .f32 :=
  dh (G m c) (U m c) (m ((c : Thread nD τ).loc main_arg5)) (m ((c : Thread nD τ).loc main_arg2)) (m ((c : Thread nD τ).loc main_arg3))

set_option maxHeartbeats 1600000 in
/-- The two arrays that the forward pass keeps, and the activation's gradient, at the region's entry. -/
theorem entry_P (c : Dev nD) : (show FVec Ideal S8192x2816 .bf16 from V m c main_v23) = fun i => mulf (G m c) (sigm (G m c)) i := by
  unfold V; after_results; rfl
set_option maxHeartbeats 1600000 in
theorem entry_Q (c : Dev nD) : (show FVec Ideal S8192x2816 .bf16 from V m c main_v24) = fun i => dsilu (G m c) (mulf ones (U m c)) i := by
  unfold V; after_results; rfl
set_option maxHeartbeats 1600000 in
theorem entry_dA (c : Dev nD) : (show FVec Ideal S8192x2816 .bf16 from V m c main_v32) = fun i => m ((c : Thread nD τ).loc main_arg5) i := by
  unfold V; after_results; rfl

/-- The row of the whole array that row `r` of point `t`'s block is. -/
def row (t : Fin cfg0.N) (r : Fin 512) : Fin 8192 :=
  ⟨512 * t.val + r, by have h : t.val < 16 := lt_of_lt_of_eq t.isLt (show cfg0.N = 16 from N_0); omega⟩

theorem iblk0 (c : Dev nD) (t : Fin cfg0.N) (r : Fin 512) (j : Fin 2816) :
    (show FVec Ideal S512x2816 .bf16 from iblk m c 0 t) (ix2 r j) = m ((c : Thread nD τ).loc main_arg5) (ix2 (row t r) j) := by
  refine Eq.trans ?_ (congrFun (entry_dA m c) (ix2 (row t r) j))
  unfold row; blk_point [iblk, idx t]
theorem iblk1 (c : Dev nD) (t : Fin cfg0.N) (r : Fin 512) (j : Fin 2816) :
    (show FVec Ideal S512x2816 .bf16 from iblk m c 1 t) (ix2 r j) = mulf (G m c) (sigm (G m c)) (ix2 (row t r) j) := by
  refine Eq.trans ?_ (congrFun (entry_P m c) (ix2 (row t r) j))
  unfold row; blk_point [iblk, idx t]
theorem iblk2 (c : Dev nD) (t : Fin cfg0.N) (r : Fin 512) (j : Fin 2816) :
    (show FVec Ideal S512x2816 .bf16 from iblk m c 2 t) (ix2 r j) = dsilu (G m c) (mulf ones (U m c)) (ix2 (row t r) j) := by
  refine Eq.trans ?_ (congrFun (entry_Q m c) (ix2 (row t r) j))
  unfold row; blk_point [iblk, idx t]
theorem iblk3 (c : Dev nD) (t : Fin cfg0.N) (r : Fin 512) (k : Fin 1024) :
    (show FVec Ideal S512x1024 .f32 from iblk m c 3 t) (ix2 r k) = m ((c : Thread nD τ).loc main_arg0) (ix2 (row t r) k) := by
  unfold row; blk_point [iblk, V, idx t]
theorem iblk4 (c : Dev nD) (t : Fin cfg0.N) (r : Fin 512) (k : Fin 1024) :
    (show FVec Ideal S512x1024 .f32 from iblk m c 4 t) (ix2 r k) = m ((c : Thread nD τ).loc main_arg6) (ix2 (row t r) k) := by
  unfold row; blk_point [iblk, V, idx t]

/-- The body's gradient of the normalised input, at point `t`. -/
abbrev kd (c : Dev nD) (t : Fin cfg0.N) : FVec Ideal S512x1024 .f32 :=
  k0_pay4 (iblk m c 0 t) (iblk m c 2 t) (iblk m c 6 t) (iblk m c 1 t) (iblk m c 7 t)

/-- The body's gradient of the normalised input is the reference's, where the products and `dA` are real numbers. -/
theorem kd_eq (c : Dev nD) (hg : ∀ i, Reals.IsReal (G m c i)) (hu : ∀ i, Reals.IsReal (U m c i)) (hd : ∀ i, Reals.IsReal (m ((c : Thread nD τ).loc main_arg5) i))
    (t : Fin cfg0.N) (r : Fin 512) (k : Fin 1024) : (show EReal from kd m c t (ix2 r k)) = DH m c (ix2 (row t r) k) := by
  refine Eq.trans ?_ ((add_comm _ _).trans (dh_row (G m c) (U m c) _ _ _ (row t r) k).symm)
  pointwise [k0_pay4]
  refine congrArg₂ (· + ·) (Finset.sum_congr rfl fun j _ => ?_) (Finset.sum_congr rfl fun j _ => ?_)
  · exact congrArg₂ (· * ·) ((congrArg₂ (· * ·) (iblk0 m c t r j) (iblk2 m c t r j)).trans (dsilu_mul (hg _) (hu _) (hd _)).symm) (iblk6 m c t j k)
  · exact congrArg₂ (· * ·) ((congrArg₂ (· * ·) (iblk0 m c t r j) (iblk1 m c t r j)).trans (mul_comm _ _)) (iblk7 m c t j k)

/-- What a point writes back of the input's gradient. -/
theorem out_8 (c : Dev nD) (t : Fin cfg0.N) : (outsAt0 m c t.val t.isLt).1
    = k0_pay2 (kd m c t) (k0_pay5 (iblk m c 5 t)) (k0_pay6 (iblk m c 3 t)) (k0_pay7 (iblk m c 3 t)) (iblk m c 4 t) := by
  by_cases h : t.val % 16 = 0
  · rw [outsAt0_A m c t h]; frame_out
  · rw [outsAt0_B m c t h]; frame_out

set_option maxHeartbeats 1600000 in
/-- An element of that is the reference's. -/
theorem out_row (c : Dev nD) (h0 : ∀ i, Reals.IsReal (m ((c : Thread nD τ).loc main_arg0) i)) (h1 : ∀ i, Reals.IsReal (m ((c : Thread nD τ).loc main_arg1) i))
    (hg : ∀ i, Reals.IsReal (G m c i)) (hu : ∀ i, Reals.IsReal (U m c i))
    (h2 : ∀ i, Reals.IsReal (m ((c : Thread nD τ).loc main_arg2) i)) (h3 : ∀ i, Reals.IsReal (m ((c : Thread nD τ).loc main_arg3) i))
    (h5 : ∀ i, Reals.IsReal (m ((c : Thread nD τ).loc main_arg5) i)) (t : Fin cfg0.N) (r : Fin 512) (k : Fin 1024) :
    (show EReal from k0_pay2 (kd m c t) (k0_pay5 (iblk m c 5 t)) (k0_pay6 (iblk m c 3 t)) (k0_pay7 (iblk m c 3 t)) (iblk m c 4 t) (ix2 r k))
      = back (m ((c : Thread nD τ).loc main_arg0)) (mulf (DH m c) (gains (m ((c : Thread nD τ).loc main_arg1)))) (m ((c : Thread nD τ).loc main_arg6)) (ix2 (row t r) k) := by
  have hgain : ∀ j : Fin 1024, gains (m ((c : Thread nD τ).loc main_arg1)) (ix2 (row t r) j) = m ((c : Thread nD τ).loc main_arg1) (ix2 0 j) := fun j => by pointwise [gains]
  pointwise [k0_pay2, k0_pay5, k0_pay6, k0_pay7, back, dms, ms]
  exact Reals.norm_back (x := fun j => m ((c : Thread nD τ).loc main_arg0) (ix2 (row t r) j)) (d := fun j => DH m c (ix2 (row t r) j) * gains (m ((c : Thread nD τ).loc main_arg1)) (ix2 (row t r) j))
    (x' := fun j => iblk m c 3 t (ix2 r j)) (d' := fun j => kd m c t (ix2 r j)) (g' := fun j => iblk m c 5 t (ix3 0 0 j))
    (fun j => h0 _) (fun j => (dh_real _ _ _ _ _ hg hu h5 h2 h3 _ _).mul (gains_real _ h1 _)) (iblk4 m c t r k) (fun j => iblk3 m c t r j)
    (fun j => congrArg₂ (· * ·) (kd_eq m c hg hu h5 t r j) ((iblk5 m c t j).trans (hgain j).symm)) k

set_option maxHeartbeats 1600000 in
/-- The input's gradient. -/
theorem final_8 (c : Dev nD) (h0 : ∀ i, Reals.IsReal (m ((c : Thread nD τ).loc main_arg0) i)) (h1 : ∀ i, Reals.IsReal (m ((c : Thread nD τ).loc main_arg1) i))
    (h2 : ∀ i, Reals.IsReal (m ((c : Thread nD τ).loc main_arg2) i)) (h3 : ∀ i, Reals.IsReal (m ((c : Thread nD τ).loc main_arg3) i))
    (h5 : ∀ i, Reals.IsReal (m ((c : Thread nD τ).loc main_arg5) i)) :
    (dats m 0 c).arrAt 8 (cfgs 0).N = back (m ((c : Thread nD τ).loc main_arg0)) (mulf (DH m c) (gains (m ((c : Thread nD τ).loc main_arg1)))) (m ((c : Thread nD τ).loc main_arg6)) := by
  have hg := prod_real _ _ (hn_real _ _ h0 h1) h2
  have hu := prod_real _ _ (hn_real _ _ h0 h1) h3
  refine (dats m 0 c).arrAt_eq_of_covers 8 _ (by decide +kernel) fun t hf y => ?_
  blk_simp; rw [after0_8, out_8]
  have hi : (win0_8.blk t).view.emb y = ix2 (row t (y 0)) (y 1) := by unfold row; blk_ext [idx t]
  rw [hi]
  refine (congrArg _ (eq_ix2 y)).trans (out_row m c h0 h1 hg hu h2 h3 h5 t (y 0) (y 1))

/-- The zero fill. -/
theorem hzero (j : S1x1024.Idx) : k0_pay3 (F := Ideal) j = 0 := by
  pointwise! [k0_pay3]

/-- The accumulating store: what was there, plus this point's rows' sum. -/
theorem hpay (v17 v30 : FVec Ideal S512x1024 .f32) (v31 : Vec Ideal S1x1024 .f32) (j : S1x1024.Idx) :
    k0_pay1 v17 v30 v31 j = v31 j + k0_pay1 v17 v30 (fun _ => 0) j := by
  pointwise [k0_pay1]

set_option maxHeartbeats 1600000 in
/-- The gradient of the norm's gains. -/
theorem final_9 (c : Dev nD) (h0 : ∀ i, Reals.IsReal (m ((c : Thread nD τ).loc main_arg0) i)) (h1 : ∀ i, Reals.IsReal (m ((c : Thread nD τ).loc main_arg1) i))
    (h2 : ∀ i, Reals.IsReal (m ((c : Thread nD τ).loc main_arg2) i)) (h3 : ∀ i, Reals.IsReal (m ((c : Thread nD τ).loc main_arg3) i))
    (h5 : ∀ i, Reals.IsReal (m ((c : Thread nD τ).loc main_arg5) i)) :
    (dats m 0 c).arrAt 9 (cfgs 0).N = gback (m ((c : Thread nD τ).loc main_arg0)) (DH m c) := by
  have hg := prod_real _ _ (hn_real _ _ h0 h1) h2
  have hu := prod_real _ _ (hn_real _ _ h0 h1) h3
  refine (dats m 0 c).arrAt_eq_of_covers 9 _ (by decide +kernel) fun t hf y => ?_
  blk_simp
  rw [after0_9, Pipeline.eq_sum_fin_of_reset_step_apply_of_flush (fun n h => (outsAt0 m c n h).2) 16 (fun _ => 0)
      (fun s => k0_pay1 (kd m c s) (k0_pay7 (iblk m c 3 s)) (fun _ => 0))
      (fun t h j => by rw [outsAt0_A m c t h]; frame_out; rw [hpay, hzero])
      (fun t h j => by rw [outsAt0_B m c t h]; frame_out; rw [hpay])
      t ((flush0_9 t).mp hf) _, zero_add]
  have hy : ((win0_9.blk t).view.emb y) = ix2 0 (y 1) := by blk_ext [idx t]
  rw [hy]
  pointwise [k0_pay1, k0_pay6, k0_pay7, gback, xh, ms]
  rw [Fin.sum_univ_one]
  refine Fin.sum_mul_add_congr fun s k hl => ?_
  have hb := Pipeline.run_point_lt_of_flush t ((flush0_9 t).mp hf) s
  have hrow : row ⟨16 * (t.val / 16) + s.val, hb⟩ k = ⟨s.val * 512 + k.val, hl⟩ := by
    have h : t.val < 16 := lt_of_lt_of_eq t.isLt (show cfg0.N = 16 from N_0)
    exact Fin.ext (by simp only [row]; omega)
  rw [← hrow]
  refine (@mul_comm EReal _ _ _).trans (congrArg₂ (· * ·) ?_ (kd_eq m c hg hu h5 ⟨16 * (t.val / 16) + s.val, hb⟩ k (y 1)))
  exact Reals.rms_congr (x := fun j => m ((c : Thread nD τ).loc main_arg0) (ix2 (row ⟨16 * (t.val / 16) + s.val, hb⟩ k) j))
    (x' := fun j => iblk m c 3 ⟨16 * (t.val / 16) + s.val, hb⟩ (ix2 k j)) (fun j => iblk3 m c _ k j) (y 1)

/-- What the precondition says. -/
theorem reals_of_pre (hp : Pre_KInIdeal_finite_in m) (c : Dev nD) : (∀ i, Reals.IsReal (m ((c : Thread nD τ).loc main_arg0) i)) ∧ (∀ i, Reals.IsReal (m ((c : Thread nD τ).loc main_arg1) i))
    ∧ (∀ i, Reals.IsReal (m ((c : Thread nD τ).loc main_arg2) i)) ∧ (∀ i, Reals.IsReal (m ((c : Thread nD τ).loc main_arg3) i)) ∧ (∀ i, Reals.IsReal (m ((c : Thread nD τ).loc main_arg5) i)) := by
  have h := congrFun (hp c) (fun a => Fin.elim0 a)
  obtain ⟨h, h5⟩ := Reals.andi_one h
  obtain ⟨h, h3⟩ := Reals.andi_one h
  obtain ⟨h, h2⟩ := Reals.andi_one h
  obtain ⟨h0, h1⟩ := Reals.andi_one h
  exact ⟨fun i => Reals.isReal_of_all _ _ (fun _ => Reals.inf_f32) _ _ _ _ h0 i, fun i => Reals.isReal_of_all _ _ (fun _ => Reals.inf_f32) _ _ _ _ h1 i,
    fun i => Reals.isReal_of_all _ _ (fun _ => Reals.inf_f32) _ _ _ _ h2 i, fun i => Reals.isReal_of_all _ _ (fun _ => Reals.inf_f32) _ _ _ _ h3 i,
    fun i => Reals.isReal_of_all _ _ (fun _ => Reals.inf_f32) _ _ _ _ h5 i⟩

/-- The two results under the precondition. -/
theorem final_8_pre (hp : Pre_KInIdeal_finite_in m) (c : Dev nD) :
    (dats m 0 c).arrAt 8 (cfgs 0).N = back (m ((c : Thread nD τ).loc main_arg0)) (mulf (DH m c) (gains (m ((c : Thread nD τ).loc main_arg1)))) (m ((c : Thread nD τ).loc main_arg6)) := by
  obtain ⟨h0, h1, h2, h3, h5⟩ := reals_of_pre m hp c
  exact final_8 m c h0 h1 h2 h3 h5

theorem final_9_pre (hp : Pre_KInIdeal_finite_in m) (c : Dev nD) :
    (dats m 0 c).arrAt 9 (cfgs 0).N = gback (m ((c : Thread nD τ).loc main_arg0)) (DH m c) := by
  obtain ⟨h0, h1, h2, h3, h5⟩ := reals_of_pre m hp c
  exact final_9 m c h0 h1 h2 h3 h5

end Cert.KInIdeal.In

end
-- ==== Proof.InClaims.lean ====
/- The claims about the gradients in the half step's input and in the norm's gain (`Cert.KIn`, `Cert.KInIdeal`, `Cert.RInIdeal`): each program runs and leaves its arguments
   as they were; over the extended reals the call's results are the reference's. -/
module

public import proofs.«01_k».proof.Defs
public import proofs.«01_k».proof.Proof.Gen.KIn.Frame
public import proofs.«01_k».proof.Proof.Gen.KInIdeal.Value
public import proofs.«01_k».proof.Proof.Gen.RInIdeal.Run
public import proofs.«01_k».proof.Proof.Gen.Pre_finite_in
public import proofs.«01_k».proof.Proof.In
public import Idealize.ShloMosaic.Lib.Claim

@[expose] public section

namespace Cert.Proof.In

open Idealize.ShloMosaic Idealize.SL.Sem

/-- The kernel as printed: it terminates, and its arguments end unchanged. -/
theorem frame_kernel : Cert.quiescent_KIn := fun m ρ _ => Cert.KIn.Gen.frame m ρ

/-- The kernel over the extended reals: likewise. -/
theorem frame_ideal : Cert.quiescent_KInIdeal := fun m ρ _ => Cert.KInIdeal.Gen.frame m ρ

/-- The same, where the precondition is stated too. -/
theorem frame_ideal_pre : Cert.quiescent_KInIdeal_pre_finite_in := fun m ρ _ => Cert.KInIdeal.Gen.frame m ρ

/-- The reference: likewise. -/
theorem frame_reference : Cert.quiescent_RInIdeal := fun m ρ _ =>
  (θ_run Cert.RInIdeal.defs _ _).mono (fun r h => ⟨fun c => (h c).2.2, sem_eq_zero_of_no_sems (by decide) r.2⟩)
    (Cert.RInIdeal.Value.run (F := Ideal) m ρ)

/-- The same, where the precondition is stated too. -/
theorem frame_reference_pre : Cert.quiescent_RInIdeal_pre_finite_in := fun m ρ _ => frame_reference m ρ trivial

set_option maxRecDepth 16384 in
set_option maxHeartbeats 1600000 in
/-- The results agree. -/
theorem algebraic : Cert.algebraic_KInIdeal_RInIdeal_pre_finite_in := by
  pair_intro
  · run_from Cert.KInIdeal.Value.run_blocks (F := Ideal) m g
  · run_from Cert.RInIdeal.Value.run (F := Ideal) m' g'
    · refine (Cert.RInIdeal.Terms.v48_eq m' c).trans ?_
      rw [(hagree c).1, (hagree c).2.1, (hagree c).2.2.1, (hagree c).2.2.2.1, (hagree c).2.2.2.2.2.1, (hagree c).2.2.2.2.2.2.1]
      exact (Cert.KInIdeal.In.final_8_pre m hpre c).symm
    · refine (Cert.RInIdeal.Terms.v49_eq m' c).trans ?_
      rw [(hagree c).1, (hagree c).2.1, (hagree c).2.2.1, (hagree c).2.2.2.1, (hagree c).2.2.2.2.2.1]
      exact (Cert.KInIdeal.In.final_9_pre m hpre c).symm

end Cert.Proof.In
-- ==== Proof.Up.lean ====
/- What the forward half step's first call leaves (`Cert.KUpIdeal`): the normalised input, the gate's `silu`, the derivative that the
   backward pass multiplies by, and the activation. -/
module

public import proofs.«01_k».proof.Proof.Gen.KUpIdeal
public import proofs.«01_k».proof.Proof.Gen.KUpIdeal.Skeleton
public import proofs.«01_k».proof.Proof.Gen.KUpIdeal.Launch
public import proofs.«01_k».proof.Proof.Gen.KUpIdeal.Points
public import proofs.«01_k».proof.Proof.Gen.KUpIdeal.Frame
public import proofs.«01_k».proof.Proof.Gen.RUpIdeal
public import proofs.«01_k».proof.Proof.Gen.RUpIdeal.Run
public import proofs.«01_k».proof.Defs
public import proofs.«01_k».proof.Proof.Gen.Pre_finite_up
public import proofs.«01_k».proof.Proof.Reals
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.RUpIdeal.Terms

open Cert.RUpIdeal Cert.RUpIdeal.Gen

/-- The normalised input. -/
def hn (a0 : FVec Ideal S8192x1024 .f32) (a1 : FVec Ideal S2x1024 .f32) : FVec Ideal S8192x1024 .f32 :=
  mulf (mulf a0 (broadcastInDim S8192x1024 ![0, 1] bcast_S8192x1_S8192x1024_0_1 (Host.rsqrt (addf
    (Host.divf (broadcastInDim S8192x1 ![0] bcast_S8192_S8192x1_0 (Host.reduceAdd (mulf a0 a0) (constant S_ .f32
    0x00000000#32) reducesTo_S8192x1024_S8192_d1 h_S_)) (broadcastInDim S8192x1 ![] bcast_S_S8192x1 (constant S_ .f32
    0x44800000#32))) (broadcastInDim S8192x1 ![] bcast_S_S8192x1 (constant S_ .f32 0x3727C5AC#32)))))) (broadcastInDim
    S8192x1024 ![0, 1] bcast_S1x1024_S8192x1024_0_1 (broadcastInDim S1x1024 ![1] bcast_S1024_S1x1024_1 (shapeCast _
    (extractStridedSlice S1x1024 ![0, 0] a1 slices_S2x1024_S1x1024_0_0) shapeCasts_S1x1024_S1024)))

/-- The product `h · w`. -/
def prod (h : FVec Ideal S8192x1024 .f32) (w : FVec Ideal S1024x2816 .f32) : FVec Ideal S8192x2816 .f32 :=
  Host.dotGeneral dot_S8192x1024_S1024x2816_S8192x2816_1_0_0_1_n_n none h w

/-- Ones. -/
def ones : FVec Ideal S8192x2816 .f32 := broadcastInDim S8192x2816 ![] bcast_S_S8192x2816 (constant S_ .f32 0x3F800000#32)

/-- The sigmoid, as the host spells it. -/
def sigm (g : FVec Ideal S8192x2816 .f32) : FVec Ideal S8192x2816 .f32 :=
  Host.divf ones (addf ones (Host.exp (Host.negf g)))

/-- The pullback of `silu` at `g`, applied to `y`. -/
def dsilu (g y : FVec Ideal S8192x2816 .f32) : FVec Ideal S8192x2816 .f32 :=
  addf (mulf y (sigm g)) (mulf (mulf g y) (mulf (sigm g) (subf ones (sigm g))))

set_option maxHeartbeats 1600000 in
/-- The reference's result `v24`, in these terms. -/
theorem v24_eq (m : (ℓ : Loc nD τ sig) → Buf (Elt Ideal) ℓ) (c : Dev nD) : Cert.RUpIdeal.Value.res_main_v24 m c = dsilu (prod (hn (m ((c.tc : Thread nD τ).loc main_arg0)) (m ((c.tc : Thread nD τ).loc main_arg1))) (m ((c.tc : Thread nD τ).loc main_arg2))) (mulf ones (prod (hn (m ((c.tc : Thread nD τ).loc main_arg0)) (m ((c.tc : Thread nD τ).loc main_arg1))) (m ((c.tc : Thread nD τ).loc main_arg3)))) := by
  unfold Cert.RUpIdeal.Value.res_main_v24 dsilu sigm prod hn ones
  rfl

end Cert.RUpIdeal.Terms

namespace Cert.KUpIdeal.Up

open Cert.KUpIdeal Cert.KUpIdeal.Gen Cert.RUpIdeal.Terms

variable (m : (ℓ : Loc nD τ sig) → Buf (Elt Ideal) ℓ)

/-- Every window's block index at grid point `t`. -/
theorem idx : ∀ t : Fin cfg0.N, win0_0.index t = ![t.val, 0] ∧ win0_1.index t = ![0, 0, 0]
    ∧ win0_2.index t = ![0, 0, 0] ∧ win0_3.index t = ![1, 0, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The three weights in one array, a slab each. -/
def stack (a2 a3 : FVec Ideal S1024x2816 .f32) (a4 : FVec Ideal S2816x1024 .f32) : FVec Ideal S3x2816x1024 .f32 :=
  concatenate S3x2816x1024 0 [⟨S1x2816x1024, broadcastInDim S1x2816x1024 ![1, 2] bcast_S2816x1024_S1x2816x1024_1_2 (transpose S2816x1024 [1, 0] a2 transposes_S1024x2816_S2816x1024_1_0)⟩,
    ⟨S1x2816x1024, broadcastInDim S1x2816x1024 ![1, 2] bcast_S2816x1024_S1x2816x1024_1_2 (transpose S2816x1024 [1, 0] a3 transposes_S1024x2816_S2816x1024_1_0)⟩,
    ⟨S1x2816x1024, broadcastInDim S1x2816x1024 ![1, 2] bcast_S2816x1024_S1x2816x1024_1_2 a4⟩] concatenates_S1x2816x1024_S1x2816x1024_S1x2816x1024_S3x2816x1024_d0

set_option maxHeartbeats 1600000 in
/-- The weights' array at the region's entry. -/
theorem entry_w (c : Dev nD) : (show FVec Ideal S3x2816x1024 .bf16 from V m c main_v7) = fun i =>
    stack (m ((c : Thread nD τ).loc main_arg2)) (m ((c : Thread nD τ).loc main_arg3)) (m ((c : Thread nD τ).loc main_arg4)) i := by
  unfold V; after_results; rfl

/-- Slab 0 of the stacked weights is `w_gate`, transposed. -/
theorem weights0 (c : Dev nD) (a : Fin 2816) (b : Fin 1024) :
    (show FVec Ideal S3x2816x1024 .bf16 from V m c main_v7) (ix3 0 a b) = m ((c : Thread nD τ).loc main_arg2) (ix2 b a) := by
  rw [entry_w]
  pointwise [stack]

/-- Slab 1 of the stacked weights is `w_up`, transposed. -/
theorem weights1 (c : Dev nD) (a : Fin 2816) (b : Fin 1024) :
    (show FVec Ideal S3x2816x1024 .bf16 from V m c main_v7) (ix3 1 a b) = m ((c : Thread nD τ).loc main_arg3) (ix2 b a) := by
  rw [entry_w]
  pointwise [stack]

/-- The gate weights' block. -/
theorem iblk2 (c : Dev nD) (t : Fin cfg0.N) (a : Fin 2816) (b : Fin 1024) :
    (show FVec Ideal S1x2816x1024 .bf16 from iblk m c 2 t) (ix3 0 a b) = m ((c : Thread nD τ).loc main_arg2) (ix2 b a) := by
  refine Eq.trans ?_ (weights0 m c a b)
  blk_point [iblk, idx t]

/-- The up weights' block. -/
theorem iblk3 (c : Dev nD) (t : Fin cfg0.N) (a : Fin 2816) (b : Fin 1024) :
    (show FVec Ideal S1x2816x1024 .bf16 from iblk m c 3 t) (ix3 0 a b) = m ((c : Thread nD τ).loc main_arg3) (ix2 b a) := by
  refine Eq.trans ?_ (weights1 m c a b)
  blk_point [iblk, idx t]

/-- The gains' array at the region's entry. -/
theorem entry_norm (c : Dev nD) : (show FVec Ideal S2x1x1024 .f32 from V m c main_v0) = fun i =>
    shapeCast S2x1x1024 (show FVec Ideal S2x1024 .f32 from m ((c : Thread nD τ).loc main_arg1)) shapeCasts_S2x1024_S2x1x1024 i := by
  unfold V; after_results; rfl

/-- The gain's block is the gains' row 0. -/
theorem iblk1 (c : Dev nD) (t : Fin cfg0.N) (b : Fin 1024) :
    (show FVec Ideal S1x1x1024 .f32 from iblk m c 1 t) (ix3 0 0 b) = m ((c : Thread nD τ).loc main_arg1) (ix2 0 b) := by
  refine Eq.trans ?_ ((congrFun (entry_norm m c) (ix3 0 0 b)).trans ?_)
  · blk_point [iblk, idx t]
  · pointwise

set_option maxHeartbeats 1600000 in
/-- The normalised input. -/
theorem final_4 (c : Dev nD) : (dats m 0 c).arrAt 4 (cfgs 0).N = hn (m ((c : Thread nD τ).loc main_arg0)) (m ((c : Thread nD τ).loc main_arg1)) := by
  refine (dats m 0 c).arrAt_eq_of_covers 4 _ (by decide +kernel) fun t hf y => ?_
  blk_simp; rw [after0_4]; unfold Gen.outsAt0; frame_out
  pointwise [k0_pay2, hn]
  refine congrArg₂ (· * ·) ?_ ((iblk1 m c t _).trans ?_)
  · blk_point [iblk, V, idx t]
  · blk_ext [idx t]

/-- A row of the block that the body normalises is the row of the normalised input. -/
theorem norm_row (c : Dev nD) (t : Fin cfg0.N) (r : Fin 256) (k : Fin 1024) (R : Fin 8192) (hR : (R : ℕ) = 256 * t.val + r) :
    (show EReal from k0_pay2 (iblk m c 0 t) (iblk m c 1 t) (ix2 r k)) = hn (m ((c : Thread nD τ).loc main_arg0)) (m ((c : Thread nD τ).loc main_arg1)) (ix2 R k) := by
  pointwise [k0_pay2, hn]
  refine congrArg₂ (· * ·) ?_ ((iblk1 m c t _).trans ?_)
  · blk_point [iblk, V, idx t]
  · rfl

/-- The gate's product at a row of a block. -/
def gate (c : Dev nD) (t : Fin cfg0.N) (r : Fin 256) (j : Fin 2816) : EReal :=
  ∑ k : Fin 1024, k0_pay2 (iblk m c 0 t) (iblk m c 1 t) (ix2 r k) * iblk m c 2 t (ix3 0 j k)

/-- The other product. -/
def up (c : Dev nD) (t : Fin cfg0.N) (r : Fin 256) (j : Fin 2816) : EReal :=
  ∑ k : Fin 1024, k0_pay2 (iblk m c 0 t) (iblk m c 1 t) (ix2 r k) * iblk m c 3 t (ix3 0 j k)

theorem gate_eq (c : Dev nD) (t : Fin cfg0.N) (r : Fin 256) (j : Fin 2816) (R : Fin 8192) (hR : (R : ℕ) = 256 * t.val + r) :
    gate m c t r j = prod (hn (m ((c : Thread nD τ).loc main_arg0)) (m ((c : Thread nD τ).loc main_arg1))) (m ((c : Thread nD τ).loc main_arg2)) (ix2 R j) := by
  refine Eq.trans (Finset.sum_congr rfl fun k _ => congrArg₂ (· * ·) (norm_row m c t r k R hR) (iblk2 m c t j k)) ?_
  pointwise [prod]

theorem up_eq (c : Dev nD) (t : Fin cfg0.N) (r : Fin 256) (j : Fin 2816) (R : Fin 8192) (hR : (R : ℕ) = 256 * t.val + r) :
    up m c t r j = prod (hn (m ((c : Thread nD τ).loc main_arg0)) (m ((c : Thread nD τ).loc main_arg1))) (m ((c : Thread nD τ).loc main_arg3)) (ix2 R j) := by
  refine Eq.trans (Finset.sum_congr rfl fun k _ => congrArg₂ (· * ·) (norm_row m c t r k R hR) (iblk3 m c t j k)) ?_
  pointwise [prod]

set_option maxHeartbeats 3200000 in
/-- The block of `silu(g)`, chunk by chunk. -/
theorem out_5 (c : Dev nD) (t : Fin cfg0.N) (y : S256x2816.Idx) : (outsAt0 m c t).2.1 y
    = gate m c t (y 0) (y 1) * Ideal.logistic (gate m c t (y 0) (y 1)) := by
  unfold Gen.outsAt0 gate; frame_out
  canon_tiles x h
  all_goals (open_payloads; pointwise; rw [(Fin.ext h0 : y 0 = x 0), (Fin.ext h1 : y 1 = ⟨_, lt_of_eq_of_lt h1.symm (y 1).isLt⟩)]; try rfl)

set_option maxHeartbeats 3200000 in
/-- The block of the derivative. -/
theorem out_6 (c : Dev nD) (t : Fin cfg0.N) (y : S256x2816.Idx) : (outsAt0 m c t).2.2.1 y
    = up m c t (y 0) (y 1) * (Ideal.logistic (gate m c t (y 0) (y 1)) + gate m c t (y 0) (y 1) * Ideal.logistic (gate m c t (y 0) (y 1))
      - gate m c t (y 0) (y 1) * Ideal.logistic (gate m c t (y 0) (y 1)) * Ideal.logistic (gate m c t (y 0) (y 1))) := by
  unfold Gen.outsAt0 gate up; frame_out
  canon_tiles x h
  all_goals (open_payloads; pointwise; rw [(Fin.ext h0 : y 0 = x 0), (Fin.ext h1 : y 1 = ⟨_, lt_of_eq_of_lt h1.symm (y 1).isLt⟩)]; try rfl)

set_option maxHeartbeats 3200000 in
/-- The block of the activation. -/
theorem out_7 (c : Dev nD) (t : Fin cfg0.N) (y : S256x2816.Idx) : (outsAt0 m c t).2.2.2 y
    = gate m c t (y 0) (y 1) * Ideal.logistic (gate m c t (y 0) (y 1)) * up m c t (y 0) (y 1) := by
  unfold Gen.outsAt0 gate up; frame_out
  canon_tiles x h
  all_goals (open_payloads; pointwise; rw [(Fin.ext h0 : y 0 = x 0), (Fin.ext h1 : y 1 = ⟨_, lt_of_eq_of_lt h1.symm (y 1).isLt⟩)]; try rfl)

/-- The host's spelling of the sigmoid is the logistic function. -/
theorem sigm_eq (g : FVec Ideal RUpIdeal.S8192x2816 .f32) (i) : sigm g i = Ideal.logistic (g i) := by
  pointwise [sigm, ones]
  rfl

/-- The products that the call's results are made of. -/
abbrev G (c : Dev nD) : FVec Ideal RUpIdeal.S8192x2816 .f32 :=
  prod (hn (m ((c : Thread nD τ).loc main_arg0)) (m ((c : Thread nD τ).loc main_arg1))) (m ((c : Thread nD τ).loc main_arg2))
abbrev U (c : Dev nD) : FVec Ideal RUpIdeal.S8192x2816 .f32 :=
  prod (hn (m ((c : Thread nD τ).loc main_arg0)) (m ((c : Thread nD τ).loc main_arg1))) (m ((c : Thread nD τ).loc main_arg3))

/-- The row of the whole array that row `r` of point `t`'s block is. -/
def row (t : Fin cfg0.N) (r : Fin 256) : Fin 8192 :=
  ⟨256 * t.val + r, by have h : t.val < 32 := lt_of_lt_of_eq t.isLt (show cfg0.N = 32 from N_0); omega⟩

theorem gate_G (c : Dev nD) (t : Fin cfg0.N) (r : Fin 256) (j : Fin 2816) : gate m c t r j = G m c (ix2 (row t r) j) := gate_eq m c t r j (row t r) rfl
theorem up_U (c : Dev nD) (t : Fin cfg0.N) (r : Fin 256) (j : Fin 2816) : up m c t r j = U m c (ix2 (row t r) j) := up_eq m c t r j (row t r) rfl

set_option maxHeartbeats 1600000 in
/-- `silu(g)`. -/
theorem final_5 (c : Dev nD) : (dats m 0 c).arrAt 5 (cfgs 0).N = mulf (G m c) (sigm (G m c)) := by
  refine (dats m 0 c).arrAt_eq_of_covers 5 _ (by decide +kernel) fun t hf y => ?_
  blk_simp; rw [after0_5]
  refine (out_5 m c t y).trans ?_
  have hi : (win0_5.blk t).view.emb y = ix2 (row t (y 0)) (y 1) := by unfold row; blk_ext [idx t]
  rw [hi]
  refine Eq.trans ?_ (congrArg₂ (· * ·) rfl (sigm_eq _ _).symm)
  rw [gate_G m c t (y 0) (y 1)]; rfl

set_option maxHeartbeats 1600000 in
/-- The activation. -/
theorem final_7 (c : Dev nD) : (dats m 0 c).arrAt 7 (cfgs 0).N = mulf (mulf (G m c) (sigm (G m c))) (U m c) := by
  refine (dats m 0 c).arrAt_eq_of_covers 7 _ (by decide +kernel) fun t hf y => ?_
  blk_simp; rw [after0_7]
  refine (out_7 m c t y).trans ?_
  have hi : (win0_7.blk t).view.emb y = ix2 (row t (y 0)) (y 1) := by unfold row; blk_ext [idx t]
  rw [hi]
  refine Eq.trans ?_ (congrArg₂ (· * ·) (congrArg₂ (· * ·) rfl (sigm_eq _ _).symm) rfl)
  rw [gate_G m c t (y 0) (y 1), up_U m c t (y 0) (y 1)]; rfl

/-- At real numbers the kernel's spelling of the derivative is the pullback of `silu`. -/
theorem dsilu_real {g u : FVec Ideal RUpIdeal.S8192x2816 .f32} {i : RUpIdeal.S8192x2816.Idx} (hg : Reals.IsReal (g i)) (hu : Reals.IsReal (u i)) :
    u i * (Ideal.logistic (g i) + g i * Ideal.logistic (g i) - g i * Ideal.logistic (g i) * Ideal.logistic (g i)) = dsilu g (mulf ones u) i := by
  have e : dsilu g (mulf ones u) i = ones i * u i * sigm g i + g i * (ones i * u i) * (sigm g i * (ones i - sigm g i)) := rfl
  have h1 : ones i = ((1 : ℝ) : EReal) := Reals.one_f32
  rw [e, sigm_eq, h1]
  obtain ⟨x, hx⟩ := hg
  obtain ⟨y, hy⟩ := hu
  rw [hx, hy, Ideal.logistic_coe]
  norm_cast
  ring

set_option maxHeartbeats 1600000 in
/-- The derivative, where the products are real numbers. -/
theorem final_6 (c : Dev nD) (hg : ∀ i, Reals.IsReal (G m c i)) (hu : ∀ i, Reals.IsReal (U m c i)) :
    (dats m 0 c).arrAt 6 (cfgs 0).N = dsilu (G m c) (mulf ones (U m c)) := by
  refine (dats m 0 c).arrAt_eq_of_covers 6 _ (by decide +kernel) fun t hf y => ?_
  blk_simp; rw [after0_6]
  refine (out_6 m c t y).trans ?_
  have hi : (win0_6.blk t).view.emb y = ix2 (row t (y 0)) (y 1) := by unfold row; blk_ext [idx t]
  rw [hi, gate_G m c t (y 0) (y 1), up_U m c t (y 0) (y 1)]
  exact dsilu_real (hg _) (hu _)

/-- The normalised input is finite where the input and the gains are. -/
theorem hn_real (a0 : FVec Ideal RUpIdeal.S8192x1024 .f32) (a1 : FVec Ideal RUpIdeal.S2x1024 .f32) (h0 : ∀ i, Reals.IsReal (a0 i)) (h1 : ∀ i, Reals.IsReal (a1 i)) (i) :
    Reals.IsReal (hn a0 a1 i) := by
  pointwise [hn]
  exact ((h0 _).mul (Reals.rms_real _ fun _ => h0 _)).mul (h1 _)

theorem prod_real (a : FVec Ideal RUpIdeal.S8192x1024 .f32) (w : FVec Ideal RUpIdeal.S1024x2816 .f32) (h : ∀ i, Reals.IsReal (a i)) (hw : ∀ i, Reals.IsReal (w i)) (i) :
    Reals.IsReal (prod a w i) := by
  pointwise [prod]
  exact Reals.IsReal.sum _ fun k => (h _).mul (hw _)

/-- The derivative under the precondition. -/
theorem final_6_pre (hp : Pre_KUpIdeal_finite_up m) (c : Dev nD) :
    (dats m 0 c).arrAt 6 (cfgs 0).N = dsilu (G m c) (mulf ones (U m c)) := by
  have h := congrFun (hp c) (fun a => Fin.elim0 a)
  obtain ⟨h, h3⟩ := Reals.andi_one h
  obtain ⟨h, h2⟩ := Reals.andi_one h
  obtain ⟨h0, h1⟩ := Reals.andi_one h
  have r0 := fun i => Reals.isReal_of_all _ _ (fun _ => Reals.inf_f32) _ _ _ _ h0 i
  have r1 := fun i => Reals.isReal_of_all _ _ (fun _ => Reals.inf_f32) _ _ _ _ h1 i
  have r2 := fun i => Reals.isReal_of_all _ _ (fun _ => Reals.inf_f32) _ _ _ _ h2 i
  have r3 := fun i => Reals.isReal_of_all _ _ (fun _ => Reals.inf_f32) _ _ _ _ h3 i
  exact final_6 m c (prod_real _ _ (hn_real _ _ r0 r1) r2) (prod_real _ _ (hn_real _ _ r0 r1) r3)

end Cert.KUpIdeal.Up

end
-- ==== Proof.UpClaims.lean ====
/- The claims about the forward half step's products up (`Cert.KUp`, `Cert.KUpIdeal`, `Cert.RUpIdeal`): each program runs and leaves its arguments
   as they were; over the extended reals the call's results are the reference's. -/
module

public import proofs.«01_k».proof.Defs
public import proofs.«01_k».proof.Proof.Gen.KUp.Frame
public import proofs.«01_k».proof.Proof.Gen.KUpIdeal.Value
public import proofs.«01_k».proof.Proof.Gen.RUpIdeal.Run
public import proofs.«01_k».proof.Proof.Gen.Pre_finite_up
public import proofs.«01_k».proof.Proof.Up
public import Idealize.ShloMosaic.Lib.Claim

@[expose] public section

namespace Cert.Proof.Up

open Idealize.ShloMosaic Idealize.SL.Sem

/-- The kernel as printed: it terminates, and its arguments end unchanged. -/
theorem frame_kernel : Cert.quiescent_KUp := fun m ρ _ => Cert.KUp.Gen.frame m ρ

/-- The kernel over the extended reals: likewise. -/
theorem frame_ideal : Cert.quiescent_KUpIdeal := fun m ρ _ => Cert.KUpIdeal.Gen.frame m ρ

/-- The same, where the precondition is stated too. -/
theorem frame_ideal_pre : Cert.quiescent_KUpIdeal_pre_finite_up := fun m ρ _ => Cert.KUpIdeal.Gen.frame m ρ

/-- The reference: likewise. -/
theorem frame_reference : Cert.quiescent_RUpIdeal := fun m ρ _ =>
  (θ_run Cert.RUpIdeal.defs _ _).mono (fun r h => ⟨fun c => (h c).2.2.2.2, sem_eq_zero_of_no_sems (by decide) r.2⟩)
    (Cert.RUpIdeal.Value.run (F := Ideal) m ρ)

/-- The same, where the precondition is stated too. -/
theorem frame_reference_pre : Cert.quiescent_RUpIdeal_pre_finite_up := fun m ρ _ => frame_reference m ρ trivial

set_option maxRecDepth 16384 in
set_option maxHeartbeats 1600000 in
/-- The results agree. -/
theorem algebraic : Cert.algebraic_KUpIdeal_RUpIdeal_pre_finite_up := by
  pair_intro
  · run_from Cert.KUpIdeal.Value.run_blocks (F := Ideal) m g
  · run_from Cert.RUpIdeal.Value.run (F := Ideal) m' g'
    · exact (Cert.KUpIdeal.Up.final_4 m c).symm
    · exact (Cert.KUpIdeal.Up.final_5 m c).symm
    · refine (Cert.RUpIdeal.Terms.v24_eq m' c).trans ?_
      rw [(hagree c).1, (hagree c).2.1, (hagree c).2.2.1, (hagree c).2.2.2.1]
      exact (Cert.KUpIdeal.Up.final_6_pre m hpre c).symm
    · exact (Cert.KUpIdeal.Up.final_7 m c).symm

end Cert.Proof.Up
-- ==== Proof.Dn.lean ====
/- What the forward half step's last call leaves (`Cert.KDnIdeal`): the input plus half of the activation against `w_down`. -/
module

public import proofs.«01_k».proof.Proof.Gen.KDnIdeal
public import proofs.«01_k».proof.Proof.Gen.KDnIdeal.Skeleton
public import proofs.«01_k».proof.Proof.Gen.KDnIdeal.Launch
public import proofs.«01_k».proof.Proof.Gen.KDnIdeal.Points
public import proofs.«01_k».proof.Proof.Gen.KDnIdeal.Frame
public import proofs.«01_k».proof.Proof.Gen.RDnIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.RDnIdeal.Terms

open Cert.RDnIdeal Cert.RDnIdeal.Gen

/-- The activation `silu(h · w_gate) * (h · w_up)`. -/
def act (a1 : FVec Ideal S8192x1024 .f32) (a2 a3 : FVec Ideal S1024x2816 .f32) : FVec Ideal S8192x2816 .f32 :=
  mulf (mulf (Host.dotGeneral dot_S8192x1024_S1024x2816_S8192x2816_1_0_0_1_n_n none a1 a2)
    (Host.divf (broadcastInDim S8192x2816 ![] bcast_S_S8192x2816 (constant S_ .f32 0x3F800000#32))
      (addf (broadcastInDim S8192x2816 ![] bcast_S_S8192x2816 (constant S_ .f32 0x3F800000#32))
        (Host.exp (Host.negf (Host.dotGeneral dot_S8192x1024_S1024x2816_S8192x2816_1_0_0_1_n_n none a1 a2))))))
    (Host.dotGeneral dot_S8192x1024_S1024x2816_S8192x2816_1_0_0_1_n_n none a1 a3)

/-- The reference's result over an activation `A`. -/
def refOf (a0 : FVec Ideal S8192x1024 .f32) (A : FVec Ideal S8192x2816 .f32) (a4 : FVec Ideal S2816x1024 .f32) : FVec Ideal S8192x1024 .f32 :=
  addf a0 (mulf (broadcastInDim S8192x1024 ![] bcast_S_S8192x1024 (constant S_ .f32 0x3F000000#32)) (Host.dotGeneral
    dot_S8192x2816_S2816x1024_S8192x1024_1_0_0_1_n_n none A a4))

/-- The reference's result. -/
abbrev ref_v7 (a0 : FVec Ideal S8192x1024 .f32) (a1 : FVec Ideal S8192x1024 .f32) (a2 : FVec Ideal S1024x2816 .f32)
    (a3 : FVec Ideal S1024x2816 .f32) (a4 : FVec Ideal S2816x1024 .f32) : FVec Ideal S8192x1024 .f32 :=
  refOf a0 (act a1 a2 a3) a4

end Cert.RDnIdeal.Terms

namespace Cert.KDnIdeal.Dn

open Cert.KDnIdeal Cert.KDnIdeal.Gen Cert.RDnIdeal.Terms

variable (m : (ℓ : Loc nD τ sig) → Buf (Elt Ideal) ℓ)

/-- Every window's block index at grid point `t`. -/
theorem idx : ∀ t : Fin cfg0.N, win0_0.index t = ![t.val, 0] ∧ win0_1.index t = ![t.val, 0]
    ∧ win0_2.index t = ![2, 0, 0] ∧ win0_3.index t = ![t.val, 0] :=
  (by decide +kernel : ∀ t : Fin grid0.N, _)

set_option maxHeartbeats 1600000 in
/-- The activation's array at the region's entry. -/
theorem entry_act (c : Dev nD) : (show FVec Ideal S8192x2816 .bf16 from V m c main_v4) = fun i =>
    act (m ((c : Thread nD τ).loc main_arg1)) (m ((c : Thread nD τ).loc main_arg2)) (m ((c : Thread nD τ).loc main_arg3)) i := by
  unfold V; after_results; rfl

/-- The three weights in one array, a slab each. -/
def stack (a2 a3 : FVec Ideal S1024x2816 .f32) (a4 : FVec Ideal S2816x1024 .f32) : FVec Ideal S3x2816x1024 .f32 :=
  concatenate S3x2816x1024 0 [⟨S1x2816x1024, broadcastInDim S1x2816x1024 ![1, 2] bcast_S2816x1024_S1x2816x1024_1_2 (transpose S2816x1024 [1, 0] a2 transposes_S1024x2816_S2816x1024_1_0)⟩,
    ⟨S1x2816x1024, broadcastInDim S1x2816x1024 ![1, 2] bcast_S2816x1024_S1x2816x1024_1_2 (transpose S2816x1024 [1, 0] a3 transposes_S1024x2816_S2816x1024_1_0)⟩,
    ⟨S1x2816x1024, broadcastInDim S1x2816x1024 ![1, 2] bcast_S2816x1024_S1x2816x1024_1_2 a4⟩] concatenates_S1x2816x1024_S1x2816x1024_S1x2816x1024_S3x2816x1024_d0

set_option maxHeartbeats 1600000 in
/-- The weights' array at the region's entry. -/
theorem entry_w (c : Dev nD) : (show FVec Ideal S3x2816x1024 .bf16 from V m c main_v11) = fun i =>
    stack (m ((c : Thread nD τ).loc main_arg2)) (m ((c : Thread nD τ).loc main_arg3)) (m ((c : Thread nD τ).loc main_arg4)) i := by
  unfold V; after_results; rfl

/-- Slab 2 of the stacked weights is `w_down`. -/
theorem weights (c : Dev nD) (a : Fin 2816) (b : Fin 1024) :
    (show FVec Ideal S3x2816x1024 .bf16 from V m c main_v11) (ix3 2 a b) = m ((c : Thread nD τ).loc main_arg4) (ix2 a b) := by
  rw [entry_w]
  pointwise [stack]

/-- The weights' block is `w_down`. -/
theorem iblk2 (c : Dev nD) (t : Fin cfg0.N) (a : Fin 2816) (b : Fin 1024) :
    (show FVec Ideal S1x2816x1024 .bf16 from iblk m c 2 t) (ix3 0 a b) = m ((c : Thread nD τ).loc main_arg4) (ix2 a b) := by
  refine Eq.trans ?_ (weights m c a b)
  blk_point [iblk, idx t]

set_option maxHeartbeats 1600000 in
/-- The result. -/
theorem final (c : Dev nD) : (dats m 0 c).arrAt 3 (cfgs 0).N
    = ref_v7 (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 3 _ (by decide +kernel) fun t hf y => ?_
  blk_simp; rw [after0_3]; unfold Gen.outsAt0; frame_out
  have e1 := congrFun (entry_act m c)
  have e2 := iblk2 m c t
  pointwise [k0_pay1, refOf]
  refine congrArg₂ (· + ·) ?_ (congrArg₂ (· * ·) rfl (Finset.sum_congr rfl fun k _ => congrArg₂ (· * ·) ?_ ?_))
  · blk_point [iblk, V, idx t]
  · blk_simp [iblk, idx t]
    refine (e1 _).trans ?_
    blk_ext [idx t]
  · refine (e2 _ _).trans ?_
    blk_ext [idx t]

end Cert.KDnIdeal.Dn

end
-- ==== Proof.DnClaims.lean ====
/- The claims about the forward half step's product down (`Cert.KDn`, `Cert.KDnIdeal`, `Cert.RDnIdeal`): each program runs and leaves its arguments
   as they were; over the extended reals the call's results are the reference's. -/
module

public import proofs.«01_k».proof.Defs
public import proofs.«01_k».proof.Proof.Gen.KDn.Frame
public import proofs.«01_k».proof.Proof.Gen.KDnIdeal.Value
public import proofs.«01_k».proof.Proof.Gen.RDnIdeal.Run
public import proofs.«01_k».proof.Proof.Dn
public import Idealize.ShloMosaic.Lib.Claim

@[expose] public section

namespace Cert.Proof.Dn

open Idealize.ShloMosaic Idealize.SL.Sem

/-- The kernel as printed: it terminates, and its arguments end unchanged. -/
theorem frame_kernel : Cert.quiescent_KDn := fun m ρ _ => Cert.KDn.Gen.frame m ρ

/-- The kernel over the extended reals: likewise. -/
theorem frame_ideal : Cert.quiescent_KDnIdeal := fun m ρ _ => Cert.KDnIdeal.Gen.frame m ρ

/-- The reference: likewise. -/
theorem frame_reference : Cert.quiescent_RDnIdeal := fun m ρ _ =>
  (θ_run Cert.RDnIdeal.defs _ _).mono (fun r h => ⟨fun c => (h c).2, sem_eq_zero_of_no_sems (by decide) r.2⟩)
    (Cert.RDnIdeal.Value.run (F := Ideal) m ρ)

set_option maxRecDepth 16384 in
set_option maxHeartbeats 1600000 in
/-- The results agree. -/
theorem algebraic : Cert.algebraic_KDnIdeal_RDnIdeal := by
  pair_intro
  · run_from Cert.KDnIdeal.Value.run_blocks (F := Ideal) m g
  · run_from Cert.RDnIdeal.Value.run (F := Ideal) m' g'
    exact (Cert.KDnIdeal.Dn.final m c).symm

end Cert.Proof.Dn
-- ==== Proof.Adam.lean ====
/- One step of AdamW, of one entry: the new moments and the weight's change, in the constants' words as the programs spell them. -/
module

public import Idealize.ShloMosaic.Lib.Pipeline.ValueKit
public import Idealize.ShloMosaic.Lib.StableHlo.Run
public import Idealize.ShloMosaic.Lib.IdealHost

@[expose] public section

noncomputable section

open Idealize.ShloMosaic

namespace Cert.Adam

/-- The first moment: `0.9 * m + 0.1 * g`. -/
def newM (g m : EReal) : EReal := Ideal.ofBits .f32 0x3F666666#32 * m + Ideal.ofBits .f32 0x3DCCCCCD#32 * g

/-- The second moment: `0.999 * v + 0.001 * g²`. -/
def newV (g v : EReal) : EReal := Ideal.ofBits .f32 0x3F7FBE77#32 * v + Ideal.ofBits .f32 0x3A83126F#32 * (g * g)

/-- The weight's change: the first moment over the root of the second, both with their bias taken out, and the weight's decay, times
    the rate. -/
def delta (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

theorem delta_congr {w w' g g' m m' v v' : EReal} (hw : w = w') (hg : g = g') (hm : m = m') (hv : v = v') :
    delta w g m v = delta w' g' m' v' := by rw [hw, hg, hm, hv]

end Cert.Adam

end
-- ==== Proof.Ad.lean ====
/- What the optimiser's call leaves for `w_down` (`Cert.KAdIdeal`): the weight's change and the two new moments, entry by entry. -/
module

public import proofs.«01_k».proof.Proof.Gen.KAdIdeal
public import proofs.«01_k».proof.Proof.Gen.KAdIdeal.Skeleton
public import proofs.«01_k».proof.Proof.Gen.KAdIdeal.Launch
public import proofs.«01_k».proof.Proof.Gen.KAdIdeal.Points
public import proofs.«01_k».proof.Proof.Gen.KAdIdeal.Frame
public import proofs.«01_k».proof.Proof.Gen.RAdIdeal
public import proofs.«01_k».proof.Proof.Adam

@[expose] public section

set_option maxRecDepth 16384

noncomputable section

open Idealize.ShloMosaic Idealize.ShloMosaic.TcCoe Idealize.SL.Sem
open Idealize.ShloMosaic.Pipeline (Dat)
open Cert.Adam

namespace Cert.RAdIdeal.Terms

open Cert.RAdIdeal Cert.RAdIdeal.Gen

/-- An array of the reference, flattened to rows. -/
def laid (a : FVec Ideal S2x352x1024 .f32) : FVec Ideal S704x1024 .f32 := shapeCast _ a shapeCasts_S2x352x1024_S704x1024

/-- The reference's results: the weight's change and the new moments. -/
def ref_d (w g m v : FVec Ideal S2x352x1024 .f32) : FVec Ideal S704x1024 .f32 := fun j => delta (laid w j) (laid g j) (laid m j) (laid v j)
def ref_m (g m : FVec Ideal S2x352x1024 .f32) : FVec Ideal S704x1024 .f32 := fun j => newM (laid g j) (laid m j)
def ref_v (g v : FVec Ideal S2x352x1024 .f32) : FVec Ideal S704x1024 .f32 := fun j => newV (laid g j) (laid v j)

end Cert.RAdIdeal.Terms

namespace Cert.KAdIdeal.Ad

open Cert.KAdIdeal Cert.KAdIdeal.Gen Cert.RAdIdeal.Terms

variable (m : (ℓ : Loc nD τ sig) → Buf (Elt Ideal) ℓ)

/-- Every window's block index at grid point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-! The four arrays at the region's entry. -/

set_option maxHeartbeats 1600000 in
theorem entry0 (c : Dev nD) : (show FVec Ideal S704x1024 .f32 from V m c main_v0) = fun i => laid (m ((c : Thread nD τ).loc main_arg0)) i := by
  unfold V; after_results; rfl

set_option maxHeartbeats 1600000 in
theorem entry1 (c : Dev nD) : (show FVec Ideal S704x1024 .f32 from V m c main_v1) = fun i => laid (m ((c : Thread nD τ).loc main_arg1)) i := by
  unfold V; after_results; rfl

set_option maxHeartbeats 1600000 in
theorem entry2 (c : Dev nD) : (show FVec Ideal S704x1024 .f32 from V m c main_v2) = fun i => laid (m ((c : Thread nD τ).loc main_arg2)) i := by
  unfold V; after_results; rfl

set_option maxHeartbeats 1600000 in
theorem entry3 (c : Dev nD) : (show FVec Ideal S704x1024 .f32 from V m c main_v3) = fun i => laid (m ((c : Thread nD τ).loc main_arg3)) i := by
  unfold V; after_results; rfl

/-! The three stores' values at an entry. -/

theorem pay_m (g x : Vec Ideal S352x1024 .f32) (j : S352x1024.Idx) : k0_pay2 g x j = newM (g j) (x j) := by
  pointwise [k0_pay1, k0_pay2, newM]
theorem pay_v (g x : Vec Ideal S352x1024 .f32) (j : S352x1024.Idx) : k0_pay3 g x j = newV (g j) (x j) := by
  pointwise [k0_pay1, k0_pay3, newV]
theorem pay_d (g x v w : Vec Ideal S352x1024 .f32) (j : S352x1024.Idx) : k0_pay4 g x v w j = delta (w j) (g j) (x j) (v j) := by
  pointwise [k0_pay1, k0_pay2, k0_pay3, k0_pay4, newM, newV, delta]

set_option maxHeartbeats 1600000 in
/-- The weight's change. -/
theorem final_4 (c : Dev nD) : (dats m 0 c).arrAt 4 (cfgs 0).N = ref_d (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  rw [pay_d]; unfold ref_d
  refine delta_congr ?_ ?_ ?_ ?_
  · blk_simp [iblk, idx t]; refine (congrFun (entry0 m c) _).trans ?_; blk_ext [idx t]
  · blk_simp [iblk, idx t]; refine (congrFun (entry1 m c) _).trans ?_; blk_ext [idx t]
  · blk_simp [iblk, idx t]; refine (congrFun (entry2 m c) _).trans ?_; blk_ext [idx t]
  · blk_simp [iblk, idx t]; refine (congrFun (entry3 m c) _).trans ?_; blk_ext [idx t]

set_option maxHeartbeats 1600000 in
/-- The first moment. -/
theorem final_5 (c : Dev nD) : (dats m 0 c).arrAt 5 (cfgs 0).N = ref_m (m ((c : Thread nD τ).loc main_arg1)) (m ((c : Thread nD τ).loc main_arg2)) := by
  refine (dats m 0 c).arrAt_eq_of_covers 5 _ (by decide +kernel) fun t hf y => ?_
  blk_simp; rw [after0_5]; frame_out
  rw [pay_m]; unfold ref_m
  refine congrArg₂ newM ?_ ?_
  · blk_simp [iblk, idx t]; refine (congrFun (entry1 m c) _).trans ?_; blk_ext [idx t]
  · blk_simp [iblk, idx t]; refine (congrFun (entry2 m c) _).trans ?_; blk_ext [idx t]

set_option maxHeartbeats 1600000 in
/-- The second moment. -/
theorem final_6 (c : Dev nD) : (dats m 0 c).arrAt 6 (cfgs 0).N = ref_v (m ((c : Thread nD τ).loc main_arg1)) (m ((c : Thread nD τ).loc main_arg3)) := by
  refine (dats m 0 c).arrAt_eq_of_covers 6 _ (by decide +kernel) fun t hf y => ?_
  blk_simp; rw [after0_6]; frame_out
  rw [pay_v]; unfold ref_v
  refine congrArg₂ newV ?_ ?_
  · blk_simp [iblk, idx t]; refine (congrFun (entry1 m c) _).trans ?_; blk_ext [idx t]
  · blk_simp [iblk, idx t]; refine (congrFun (entry3 m c) _).trans ?_; blk_ext [idx t]

end Cert.KAdIdeal.Ad

end
-- ==== Proof.AdClaims.lean ====
/- The claims about the optimiser's step for `w_down` (`Cert.KAd`, `Cert.KAdIdeal`, `Cert.RAdIdeal`): each program runs and leaves its arguments
   as they were; over the extended reals the call's results are the reference's. -/
module

public import proofs.«01_k».proof.Defs
public import proofs.«01_k».proof.Proof.Gen.KAd.Frame
public import proofs.«01_k».proof.Proof.Gen.KAdIdeal.Value
public import proofs.«01_k».proof.Proof.Gen.RAdIdeal.Run
public import proofs.«01_k».proof.Proof.Ad
public import Idealize.ShloMosaic.Lib.Claim

@[expose] public section

namespace Cert.Proof.Ad

open Idealize.ShloMosaic Idealize.SL.Sem

/-- The kernel as printed: it terminates, and its arguments end unchanged. -/
theorem frame_kernel : Cert.quiescent_KAd := fun m ρ _ => Cert.KAd.Gen.frame m ρ

/-- The kernel over the extended reals: likewise. -/
theorem frame_ideal : Cert.quiescent_KAdIdeal := fun m ρ _ => Cert.KAdIdeal.Gen.frame m ρ

/-- The reference: likewise. -/
theorem frame_reference : Cert.quiescent_RAdIdeal := fun m ρ _ =>
  (θ_run Cert.RAdIdeal.defs _ _).mono (fun r h => ⟨fun c => (h c).2.2.2, sem_eq_zero_of_no_sems (by decide) r.2⟩)
    (Cert.RAdIdeal.Value.run (F := Ideal) m ρ)

set_option maxRecDepth 16384 in
set_option maxHeartbeats 1600000 in
/-- The results agree. -/
theorem algebraic : Cert.algebraic_KAdIdeal_RAdIdeal := by
  pair_intro
  · run_from Cert.KAdIdeal.Value.run_blocks (F := Ideal) m g
  · run_from Cert.RAdIdeal.Value.run (F := Ideal) m' g'
    · exact (Cert.KAdIdeal.Ad.final_4 m c).symm
    · exact (Cert.KAdIdeal.Ad.final_5 m c).symm
    · exact (Cert.KAdIdeal.Ad.final_6 m c).symm

end Cert.Proof.Ad
-- ==== Proof.Au.lean ====
/- What the optimiser's call leaves for `w_gate` and `w_up` (`Cert.KAuIdeal`): the weight's change and the two new moments, entry by entry. -/
module

public import proofs.«01_k».proof.Proof.Gen.KAuIdeal
public import proofs.«01_k».proof.Proof.Gen.KAuIdeal.Skeleton
public import proofs.«01_k».proof.Proof.Gen.KAuIdeal.Launch
public import proofs.«01_k».proof.Proof.Gen.KAuIdeal.Points
public import proofs.«01_k».proof.Proof.Gen.KAuIdeal.Frame
public import proofs.«01_k».proof.Proof.Gen.RAuIdeal
public import proofs.«01_k».proof.Proof.Adam

@[expose] public section

set_option maxRecDepth 16384

noncomputable section

open Idealize.ShloMosaic Idealize.ShloMosaic.TcCoe Idealize.SL.Sem
open Idealize.ShloMosaic.Pipeline (Dat)
open Cert.Adam

namespace Cert.RAuIdeal.Terms

open Cert.RAuIdeal Cert.RAuIdeal.Gen

/-- An array of the reference, transposed and flattened to rows. -/
def laid (a : FVec Ideal S2x1024x352 .f32) : FVec Ideal S704x1024 .f32 := shapeCast _ (transpose S2x352x1024 [0, 2, 1] a transposes_S2x1024x352_S2x352x1024_0_2_1) shapeCasts_S2x352x1024_S704x1024

/-- The reference's results: the weight's change and the new moments. -/
def ref_d (w g m v : FVec Ideal S2x1024x352 .f32) : FVec Ideal S704x1024 .f32 := fun j => delta (laid w j) (laid g j) (laid m j) (laid v j)
def ref_m (g m : FVec Ideal S2x1024x352 .f32) : FVec Ideal S704x1024 .f32 := fun j => newM (laid g j) (laid m j)
def ref_v (g v : FVec Ideal S2x1024x352 .f32) : FVec Ideal S704x1024 .f32 := fun j => newV (laid g j) (laid v j)

end Cert.RAuIdeal.Terms

namespace Cert.KAuIdeal.Au

open Cert.KAuIdeal Cert.KAuIdeal.Gen Cert.RAuIdeal.Terms

variable (m : (ℓ : Loc nD τ sig) → Buf (Elt Ideal) ℓ)

/-- Every window's block index at grid point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-! The four arrays at the region's entry. -/

set_option maxHeartbeats 1600000 in
theorem entry0 (c : Dev nD) : (show FVec Ideal S704x1024 .f32 from V m c main_v4) = fun i => laid (m ((c : Thread nD τ).loc main_arg0)) i := by
  unfold V; after_results; rfl

set_option maxHeartbeats 1600000 in
theorem entry1 (c : Dev nD) : (show FVec Ideal S704x1024 .f32 from V m c main_v5) = fun i => laid (m ((c : Thread nD τ).loc main_arg1)) i := by
  unfold V; after_results; rfl

set_option maxHeartbeats 1600000 in
theorem entry2 (c : Dev nD) : (show FVec Ideal S704x1024 .f32 from V m c main_v6) = fun i => laid (m ((c : Thread nD τ).loc main_arg2)) i := by
  unfold V; after_results; rfl

set_option maxHeartbeats 1600000 in
theorem entry3 (c : Dev nD) : (show FVec Ideal S704x1024 .f32 from V m c main_v7) = fun i => laid (m ((c : Thread nD τ).loc main_arg3)) i := by
  unfold V; after_results; rfl

/-! The three stores' values at an entry. -/

theorem pay_m (g x : Vec Ideal S352x1024 .f32) (j : S352x1024.Idx) : k0_pay2 g x j = newM (g j) (x j) := by
  pointwise [k0_pay1, k0_pay2, newM]
theorem pay_v (g x : Vec Ideal S352x1024 .f32) (j : S352x1024.Idx) : k0_pay3 g x j = newV (g j) (x j) := by
  pointwise [k0_pay1, k0_pay3, newV]
theorem pay_d (g x v w : Vec Ideal S352x1024 .f32) (j : S352x1024.Idx) : k0_pay4 g x v w j = delta (w j) (g j) (x j) (v j) := by
  pointwise [k0_pay1, k0_pay2, k0_pay3, k0_pay4, newM, newV, delta]

set_option maxHeartbeats 1600000 in
/-- The weight's change. -/
theorem final_4 (c : Dev nD) : (dats m 0 c).arrAt 4 (cfgs 0).N = ref_d (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  rw [pay_d]; unfold ref_d
  refine delta_congr ?_ ?_ ?_ ?_
  · blk_simp [iblk, idx t]; refine (congrFun (entry0 m c) _).trans ?_; blk_ext [idx t]
  · blk_simp [iblk, idx t]; refine (congrFun (entry1 m c) _).trans ?_; blk_ext [idx t]
  · blk_simp [iblk, idx t]; refine (congrFun (entry2 m c) _).trans ?_; blk_ext [idx t]
  · blk_simp [iblk, idx t]; refine (congrFun (entry3 m c) _).trans ?_; blk_ext [idx t]

set_option maxHeartbeats 1600000 in
/-- The first moment. -/
theorem final_5 (c : Dev nD) : (dats m 0 c).arrAt 5 (cfgs 0).N = ref_m (m ((c : Thread nD τ).loc main_arg1)) (m ((c : Thread nD τ).loc main_arg2)) := by
  refine (dats m 0 c).arrAt_eq_of_covers 5 _ (by decide +kernel) fun t hf y => ?_
  blk_simp; rw [after0_5]; frame_out
  rw [pay_m]; unfold ref_m
  refine congrArg₂ newM ?_ ?_
  · blk_simp [iblk, idx t]; refine (congrFun (entry1 m c) _).trans ?_; blk_ext [idx t]
  · blk_simp [iblk, idx t]; refine (congrFun (entry2 m c) _).trans ?_; blk_ext [idx t]

set_option maxHeartbeats 1600000 in
/-- The second moment. -/
theorem final_6 (c : Dev nD) : (dats m 0 c).arrAt 6 (cfgs 0).N = ref_v (m ((c : Thread nD τ).loc main_arg1)) (m ((c : Thread nD τ).loc main_arg3)) := by
  refine (dats m 0 c).arrAt_eq_of_covers 6 _ (by decide +kernel) fun t hf y => ?_
  blk_simp; rw [after0_6]; frame_out
  rw [pay_v]; unfold ref_v
  refine congrArg₂ newV ?_ ?_
  · blk_simp [iblk, idx t]; refine (congrFun (entry1 m c) _).trans ?_; blk_ext [idx t]
  · blk_simp [iblk, idx t]; refine (congrFun (entry3 m c) _).trans ?_; blk_ext [idx t]

end Cert.KAuIdeal.Au

end
-- ==== Proof.AuClaims.lean ====
/- The claims about the optimiser's step for `w_gate` and `w_up` (`Cert.KAu`, `Cert.KAuIdeal`, `Cert.RAuIdeal`): each program runs and leaves its arguments
   as they were; over the extended reals the call's results are the reference's. -/
module

public import proofs.«01_k».proof.Defs
public import proofs.«01_k».proof.Proof.Gen.KAu.Frame
public import proofs.«01_k».proof.Proof.Gen.KAuIdeal.Value
public import proofs.«01_k».proof.Proof.Gen.RAuIdeal.Run
public import proofs.«01_k».proof.Proof.Au
public import Idealize.ShloMosaic.Lib.Claim

@[expose] public section

namespace Cert.Proof.Au

open Idealize.ShloMosaic Idealize.SL.Sem

/-- The kernel as printed: it terminates, and its arguments end unchanged. -/
theorem frame_kernel : Cert.quiescent_KAu := fun m ρ _ => Cert.KAu.Gen.frame m ρ

/-- The kernel over the extended reals: likewise. -/
theorem frame_ideal : Cert.quiescent_KAuIdeal := fun m ρ _ => Cert.KAuIdeal.Gen.frame m ρ

/-- The reference: likewise. -/
theorem frame_reference : Cert.quiescent_RAuIdeal := fun m ρ _ =>
  (θ_run Cert.RAuIdeal.defs _ _).mono (fun r h => ⟨fun c => (h c).2.2.2, sem_eq_zero_of_no_sems (by decide) r.2⟩)
    (Cert.RAuIdeal.Value.run (F := Ideal) m ρ)

set_option maxRecDepth 16384 in
set_option maxHeartbeats 1600000 in
/-- The results agree. -/
theorem algebraic : Cert.algebraic_KAuIdeal_RAuIdeal := by
  pair_intro
  · run_from Cert.KAuIdeal.Value.run_blocks (F := Ideal) m g
  · run_from Cert.RAuIdeal.Value.run (F := Ideal) m' g'
    · exact (Cert.KAuIdeal.Au.final_4 m c).symm
    · exact (Cert.KAuIdeal.Au.final_5 m c).symm
    · exact (Cert.KAuIdeal.Au.final_6 m c).symm

end Cert.Proof.Au
-- ==== Proof.Ai.lean ====
/- What the optimiser's call leaves for `w_in` (`Cert.KAiIdeal`): the weight's change and the two new moments, entry by entry. -/
module

public import proofs.«01_k».proof.Proof.Gen.KAiIdeal
public import proofs.«01_k».proof.Proof.Gen.KAiIdeal.Skeleton
public import proofs.«01_k».proof.Proof.Gen.KAiIdeal.Launch
public import proofs.«01_k».proof.Proof.Gen.KAiIdeal.Points
public import proofs.«01_k».proof.Proof.Gen.KAiIdeal.Frame
public import proofs.«01_k».proof.Proof.Gen.RAiIdeal
public import proofs.«01_k».proof.Proof.Adam

@[expose] public section

set_option maxRecDepth 16384

noncomputable section

open Idealize.ShloMosaic Idealize.ShloMosaic.TcCoe Idealize.SL.Sem
open Idealize.ShloMosaic.Pipeline (Dat)
open Cert.Adam

namespace Cert.RAiIdeal.Terms

open Cert.RAiIdeal Cert.RAiIdeal.Gen

/-- An array of the reference, transposed and flattened to rows. -/
def laid (a : FVec Ideal S2x1024x224 .f32) : FVec Ideal S448x1024 .f32 := shapeCast _ (transpose S2x224x1024 [0, 2, 1] a transposes_S2x1024x224_S2x224x1024_0_2_1) shapeCasts_S2x224x1024_S448x1024

/-- The reference's results: the weight's change and the new moments. -/
def ref_d (w g m v : FVec Ideal S2x1024x224 .f32) : FVec Ideal S448x1024 .f32 := fun j => delta (laid w j) (laid g j) (laid m j) (laid v j)
def ref_m (g m : FVec Ideal S2x1024x224 .f32) : FVec Ideal S448x1024 .f32 := fun j => newM (laid g j) (laid m j)
def ref_v (g v : FVec Ideal S2x1024x224 .f32) : FVec Ideal S448x1024 .f32 := fun j => newV (laid g j) (laid v j)

end Cert.RAiIdeal.Terms

namespace Cert.KAiIdeal.Ai

open Cert.KAiIdeal Cert.KAiIdeal.Gen Cert.RAiIdeal.Terms

variable (m : (ℓ : Loc nD τ sig) → Buf (Elt Ideal) ℓ)

/-- Every window's block index at grid point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-! The four arrays at the region's entry. -/

set_option maxHeartbeats 1600000 in
theorem entry0 (c : Dev nD) : (show FVec Ideal S448x1024 .f32 from V m c main_v4) = fun i => laid (m ((c : Thread nD τ).loc main_arg0)) i := by
  unfold V; after_results; rfl

set_option maxHeartbeats 1600000 in
theorem entry1 (c : Dev nD) : (show FVec Ideal S448x1024 .f32 from V m c main_v5) = fun i => laid (m ((c : Thread nD τ).loc main_arg1)) i := by
  unfold V; after_results; rfl

set_option maxHeartbeats 1600000 in
theorem entry2 (c : Dev nD) : (show FVec Ideal S448x1024 .f32 from V m c main_v6) = fun i => laid (m ((c : Thread nD τ).loc main_arg2)) i := by
  unfold V; after_results; rfl

set_option maxHeartbeats 1600000 in
theorem entry3 (c : Dev nD) : (show FVec Ideal S448x1024 .f32 from V m c main_v7) = fun i => laid (m ((c : Thread nD τ).loc main_arg3)) i := by
  unfold V; after_results; rfl

/-! The three stores' values at an entry. -/

theorem pay_m (g x : Vec Ideal S448x1024 .f32) (j : S448x1024.Idx) : k0_pay2 g x j = newM (g j) (x j) := by
  pointwise [k0_pay1, k0_pay2, newM]
theorem pay_v (g x : Vec Ideal S448x1024 .f32) (j : S448x1024.Idx) : k0_pay3 g x j = newV (g j) (x j) := by
  pointwise [k0_pay1, k0_pay3, newV]
theorem pay_d (g x v w : Vec Ideal S448x1024 .f32) (j : S448x1024.Idx) : k0_pay4 g x v w j = delta (w j) (g j) (x j) (v j) := by
  pointwise [k0_pay1, k0_pay2, k0_pay3, k0_pay4, newM, newV, delta]

set_option maxHeartbeats 1600000 in
/-- The weight's change. -/
theorem final_4 (c : Dev nD) : (dats m 0 c).arrAt 4 (cfgs 0).N = ref_d (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  rw [pay_d]; unfold ref_d
  refine delta_congr ?_ ?_ ?_ ?_
  · blk_simp [iblk, idx t]; refine (congrFun (entry0 m c) _).trans ?_; blk_ext [idx t]
  · blk_simp [iblk, idx t]; refine (congrFun (entry1 m c) _).trans ?_; blk_ext [idx t]
  · blk_simp [iblk, idx t]; refine (congrFun (entry2 m c) _).trans ?_; blk_ext [idx t]
  · blk_simp [iblk, idx t]; refine (congrFun (entry3 m c) _).trans ?_; blk_ext [idx t]

set_option maxHeartbeats 1600000 in
/-- The first moment. -/
theorem final_5 (c : Dev nD) : (dats m 0 c).arrAt 5 (cfgs 0).N = ref_m (m ((c : Thread nD τ).loc main_arg1)) (m ((c : Thread nD τ).loc main_arg2)) := by
  refine (dats m 0 c).arrAt_eq_of_covers 5 _ (by decide +kernel) fun t hf y => ?_
  blk_simp; rw [after0_5]; frame_out
  rw [pay_m]; unfold ref_m
  refine congrArg₂ newM ?_ ?_
  · blk_simp [iblk, idx t]; refine (congrFun (entry1 m c) _).trans ?_; blk_ext [idx t]
  · blk_simp [iblk, idx t]; refine (congrFun (entry2 m c) _).trans ?_; blk_ext [idx t]

set_option maxHeartbeats 1600000 in
/-- The second moment. -/
theorem final_6 (c : Dev nD) : (dats m 0 c).arrAt 6 (cfgs 0).N = ref_v (m ((c : Thread nD τ).loc main_arg1)) (m ((c : Thread nD τ).loc main_arg3)) := by
  refine (dats m 0 c).arrAt_eq_of_covers 6 _ (by decide +kernel) fun t hf y => ?_
  blk_simp; rw [after0_6]; frame_out
  rw [pay_v]; unfold ref_v
  refine congrArg₂ newV ?_ ?_
  · blk_simp [iblk, idx t]; refine (congrFun (entry1 m c) _).trans ?_; blk_ext [idx t]
  · blk_simp [iblk, idx t]; refine (congrFun (entry3 m c) _).trans ?_; blk_ext [idx t]

end Cert.KAiIdeal.Ai

end
-- ==== Proof.AiClaims.lean ====
/- The claims about the optimiser's step for `w_in` (`Cert.KAi`, `Cert.KAiIdeal`, `Cert.RAiIdeal`): each program runs and leaves its arguments
   as they were; over the extended reals the call's results are the reference's. -/
module

public import proofs.«01_k».proof.Defs
public import proofs.«01_k».proof.Proof.Gen.KAi.Frame
public import proofs.«01_k».proof.Proof.Gen.KAiIdeal.Value
public import proofs.«01_k».proof.Proof.Gen.RAiIdeal.Run
public import proofs.«01_k».proof.Proof.Ai
public import Idealize.ShloMosaic.Lib.Claim

@[expose] public section

namespace Cert.Proof.Ai

open Idealize.ShloMosaic Idealize.SL.Sem

/-- The kernel as printed: it terminates, and its arguments end unchanged. -/
theorem frame_kernel : Cert.quiescent_KAi := fun m ρ _ => Cert.KAi.Gen.frame m ρ

/-- The kernel over the extended reals: likewise. -/
theorem frame_ideal : Cert.quiescent_KAiIdeal := fun m ρ _ => Cert.KAiIdeal.Gen.frame m ρ

/-- The reference: likewise. -/
theorem frame_reference : Cert.quiescent_RAiIdeal := fun m ρ _ =>
  (θ_run Cert.RAiIdeal.defs _ _).mono (fun r h => ⟨fun c => (h c).2.2.2, sem_eq_zero_of_no_sems (by decide) r.2⟩)
    (Cert.RAiIdeal.Value.run (F := Ideal) m ρ)

set_option maxRecDepth 16384 in
set_option maxHeartbeats 1600000 in
/-- The results agree. -/
theorem algebraic : Cert.algebraic_KAiIdeal_RAiIdeal := by
  pair_intro
  · run_from Cert.KAiIdeal.Value.run_blocks (F := Ideal) m g
  · run_from Cert.RAiIdeal.Value.run (F := Ideal) m' g'
    · exact (Cert.KAiIdeal.Ai.final_4 m c).symm
    · exact (Cert.KAiIdeal.Ai.final_5 m c).symm
    · exact (Cert.KAiIdeal.Ai.final_6 m c).symm

end Cert.Proof.Ai
-- ==== Proof.Ao.lean ====
/- What the optimiser's call leaves for `w_out` (`Cert.KAoIdeal`): the weight's change and the two new moments, entry by entry. -/
module

public import proofs.«01_k».proof.Proof.Gen.KAoIdeal
public import proofs.«01_k».proof.Proof.Gen.KAoIdeal.Skeleton
public import proofs.«01_k».proof.Proof.Gen.KAoIdeal.Launch
public import proofs.«01_k».proof.Proof.Gen.KAoIdeal.Points
public import proofs.«01_k».proof.Proof.Gen.KAoIdeal.Frame
public import proofs.«01_k».proof.Proof.Gen.RAoIdeal
public import proofs.«01_k».proof.Proof.Adam

@[expose] public section

set_option maxRecDepth 16384

noncomputable section

open Idealize.ShloMosaic Idealize.ShloMosaic.TcCoe Idealize.SL.Sem
open Idealize.ShloMosaic.Pipeline (Dat)
open Cert.Adam

namespace Cert.RAoIdeal.Terms

open Cert.RAoIdeal Cert.RAoIdeal.Gen

/-- An array of the reference, flattened to rows. -/
def laid (a : FVec Ideal S2x128x1024 .f32) : FVec Ideal S256x1024 .f32 := shapeCast _ a shapeCasts_S2x128x1024_S256x1024

/-- The reference's results: the weight's change and the new moments. -/
def ref_d (w g m v : FVec Ideal S2x128x1024 .f32) : FVec Ideal S256x1024 .f32 := fun j => delta (laid w j) (laid g j) (laid m j) (laid v j)
def ref_m (g m : FVec Ideal S2x128x1024 .f32) : FVec Ideal S256x1024 .f32 := fun j => newM (laid g j) (laid m j)
def ref_v (g v : FVec Ideal S2x128x1024 .f32) : FVec Ideal S256x1024 .f32 := fun j => newV (laid g j) (laid v j)

end Cert.RAoIdeal.Terms

namespace Cert.KAoIdeal.Ao

open Cert.KAoIdeal Cert.KAoIdeal.Gen Cert.RAoIdeal.Terms

variable (m : (ℓ : Loc nD τ sig) → Buf (Elt Ideal) ℓ)

/-- Every window's block index at grid point `t`. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-! The four arrays at the region's entry. -/

set_option maxHeartbeats 1600000 in
theorem entry0 (c : Dev nD) : (show FVec Ideal S256x1024 .f32 from V m c main_v0) = fun i => laid (m ((c : Thread nD τ).loc main_arg0)) i := by
  unfold V; after_results; rfl

set_option maxHeartbeats 1600000 in
theorem entry1 (c : Dev nD) : (show FVec Ideal S256x1024 .f32 from V m c main_v1) = fun i => laid (m ((c : Thread nD τ).loc main_arg1)) i := by
  unfold V; after_results; rfl

set_option maxHeartbeats 1600000 in
theorem entry2 (c : Dev nD) : (show FVec Ideal S256x1024 .f32 from V m c main_v2) = fun i => laid (m ((c : Thread nD τ).loc main_arg2)) i := by
  unfold V; after_results; rfl

set_option maxHeartbeats 1600000 in
theorem entry3 (c : Dev nD) : (show FVec Ideal S256x1024 .f32 from V m c main_v3) = fun i => laid (m ((c : Thread nD τ).loc main_arg3)) i := by
  unfold V; after_results; rfl

/-! The three stores' values at an entry. -/

theorem pay_m (g x : Vec Ideal S256x1024 .f32) (j : S256x1024.Idx) : k0_pay2 g x j = newM (g j) (x j) := by
  pointwise [k0_pay1, k0_pay2, newM]
theorem pay_v (g x : Vec Ideal S256x1024 .f32) (j : S256x1024.Idx) : k0_pay3 g x j = newV (g j) (x j) := by
  pointwise [k0_pay1, k0_pay3, newV]
theorem pay_d (g x v w : Vec Ideal S256x1024 .f32) (j : S256x1024.Idx) : k0_pay4 g x v w j = delta (w j) (g j) (x j) (v j) := by
  pointwise [k0_pay1, k0_pay2, k0_pay3, k0_pay4, newM, newV, delta]

set_option maxHeartbeats 1600000 in
/-- The weight's change. -/
theorem final_4 (c : Dev nD) : (dats m 0 c).arrAt 4 (cfgs 0).N = ref_d (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  rw [pay_d]; unfold ref_d
  refine delta_congr ?_ ?_ ?_ ?_
  · blk_simp [iblk, idx t]; refine (congrFun (entry0 m c) _).trans ?_; blk_ext [idx t]
  · blk_simp [iblk, idx t]; refine (congrFun (entry1 m c) _).trans ?_; blk_ext [idx t]
  · blk_simp [iblk, idx t]; refine (congrFun (entry2 m c) _).trans ?_; blk_ext [idx t]
  · blk_simp [iblk, idx t]; refine (congrFun (entry3 m c) _).trans ?_; blk_ext [idx t]

set_option maxHeartbeats 1600000 in
/-- The first moment. -/
theorem final_5 (c : Dev nD) : (dats m 0 c).arrAt 5 (cfgs 0).N = ref_m (m ((c : Thread nD τ).loc main_arg1)) (m ((c : Thread nD τ).loc main_arg2)) := by
  refine (dats m 0 c).arrAt_eq_of_covers 5 _ (by decide +kernel) fun t hf y => ?_
  blk_simp; rw [after0_5]; frame_out
  rw [pay_m]; unfold ref_m
  refine congrArg₂ newM ?_ ?_
  · blk_simp [iblk, idx t]; refine (congrFun (entry1 m c) _).trans ?_; blk_ext [idx t]
  · blk_simp [iblk, idx t]; refine (congrFun (entry2 m c) _).trans ?_; blk_ext [idx t]

set_option maxHeartbeats 1600000 in
/-- The second moment. -/
theorem final_6 (c : Dev nD) : (dats m 0 c).arrAt 6 (cfgs 0).N = ref_v (m ((c : Thread nD τ).loc main_arg1)) (m ((c : Thread nD τ).loc main_arg3)) := by
  refine (dats m 0 c).arrAt_eq_of_covers 6 _ (by decide +kernel) fun t hf y => ?_
  blk_simp; rw [after0_6]; frame_out
  rw [pay_v]; unfold ref_v
  refine congrArg₂ newV ?_ ?_
  · blk_simp [iblk, idx t]; refine (congrFun (entry1 m c) _).trans ?_; blk_ext [idx t]
  · blk_simp [iblk, idx t]; refine (congrFun (entry3 m c) _).trans ?_; blk_ext [idx t]

end Cert.KAoIdeal.Ao

end
-- ==== Proof.AoClaims.lean ====
/- The claims about the optimiser's step for `w_out` (`Cert.KAo`, `Cert.KAoIdeal`, `Cert.RAoIdeal`): each program runs and leaves its arguments
   as they were; over the extended reals the call's results are the reference's. -/
module

public import proofs.«01_k».proof.Defs
public import proofs.«01_k».proof.Proof.Gen.KAo.Frame
public import proofs.«01_k».proof.Proof.Gen.KAoIdeal.Value
public import proofs.«01_k».proof.Proof.Gen.RAoIdeal.Run
public import proofs.«01_k».proof.Proof.Ao
public import Idealize.ShloMosaic.Lib.Claim

@[expose] public section

namespace Cert.Proof.Ao

open Idealize.ShloMosaic Idealize.SL.Sem

/-- The kernel as printed: it terminates, and its arguments end unchanged. -/
theorem frame_kernel : Cert.quiescent_KAo := fun m ρ _ => Cert.KAo.Gen.frame m ρ

/-- The kernel over the extended reals: likewise. -/
theorem frame_ideal : Cert.quiescent_KAoIdeal := fun m ρ _ => Cert.KAoIdeal.Gen.frame m ρ

/-- The reference: likewise. -/
theorem frame_reference : Cert.quiescent_RAoIdeal := fun m ρ _ =>
  (θ_run Cert.RAoIdeal.defs _ _).mono (fun r h => ⟨fun c => (h c).2.2.2, sem_eq_zero_of_no_sems (by decide) r.2⟩)
    (Cert.RAoIdeal.Value.run (F := Ideal) m ρ)

set_option maxRecDepth 16384 in
set_option maxHeartbeats 1600000 in
/-- The results agree. -/
theorem algebraic : Cert.algebraic_KAoIdeal_RAoIdeal := by
  pair_intro
  · run_from Cert.KAoIdeal.Value.run_blocks (F := Ideal) m g
  · run_from Cert.RAoIdeal.Value.run (F := Ideal) m' g'
    · exact (Cert.KAoIdeal.Ao.final_4 m c).symm
    · exact (Cert.KAoIdeal.Ao.final_5 m c).symm
    · exact (Cert.KAoIdeal.Ao.final_6 m c).symm

end Cert.Proof.Ao
-- ==== Proof.Mo.lean ====
/- What the mixer's backward product with `w_out` leaves (`Cert.KMoIdeal`): the incoming gradient, and its parts for the heads and for the
   convolution's channels. -/
module

public import proofs.«01_k».proof.Proof.Gen.KMoIdeal
public import proofs.«01_k».proof.Proof.Gen.KMoIdeal.Skeleton
public import proofs.«01_k».proof.Proof.Gen.KMoIdeal.Launch
public import proofs.«01_k».proof.Proof.Gen.KMoIdeal.Points
public import proofs.«01_k».proof.Proof.Gen.KMoIdeal.Frame
public import proofs.«01_k».proof.Proof.Gen.RMoIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.RMoIdeal.Terms

open Cert.RMoIdeal Cert.RMoIdeal.Gen

/-- The reference's first result: the incoming gradient. -/
def ref_v7 (a0 : FVec Ideal S8192x1024 .f32) : FVec Ideal S8192x1024 .bf16 := truncf .bf16 a0 bitsLt_bf16_f32

/-- The gradient in the heads' outputs. -/
def ref_v8 (a0 : FVec Ideal S8192x1024 .f32) (a1 : FVec Ideal S1024x1024 .f32) : FVec Ideal S8192x512 .bf16 :=
  truncf .bf16 (extractStridedSlice S8192x512 ![0, 0] (Host.dotGeneral
    dot_S8192x1024_S1024x1024_S8192x1024_1_1_0_0_n_n none a0 a1) slices_S8192x1024_S8192x512_0_0) bitsLt_bf16_f32

/-- The gradient in the convolution's outputs. -/
def ref_v9 (a0 : FVec Ideal S8192x1024 .f32) (a1 : FVec Ideal S1024x1024 .f32) : FVec Ideal S8192x512 .bf16 :=
  truncf .bf16 (extractStridedSlice S8192x512 ![0, 512] (Host.dotGeneral
    dot_S8192x1024_S1024x1024_S8192x1024_1_1_0_0_n_n none a0 a1) slices_S8192x1024_S8192x512_0_512) bitsLt_bf16_f32

end Cert.RMoIdeal.Terms

namespace Cert.KMoIdeal.Mo

open Cert.KMoIdeal Cert.KMoIdeal.Gen Cert.RMoIdeal.Terms

variable (m : (ℓ : Loc nD τ sig) → Buf (Elt Ideal) ℓ)

/-- Every window's block index at grid point `t`. -/
theorem idx : ∀ t : Fin cfg0.N, win0_0.index t = ![t.val, 0] ∧ win0_1.index t = ![0, 0, 0] ∧ win0_2.index t = ![t.val, 0]
    ∧ win0_3.index t = ![t.val, 0] ∧ win0_4.index t = ![t.val, 0] :=
  (by decide +kernel : ∀ t : Fin grid0.N, _)

/-- The weights' array. -/
theorem weights (c : Dev nD) (a b : Fin 1024) :
    (show FVec Ideal S1x1024x1024 .bf16 from V m c main_v1) (ix3 0 a b) = m ((c : Thread nD τ).loc main_arg1) (ix2 a b) := by
  unfold V; after_results
  pointwise

/-- The weights' block is the whole of `w_out`. -/
theorem iblk1 (c : Dev nD) (t : Fin cfg0.N) (a b : Fin 1024) :
    (show FVec Ideal S1x1024x1024 .bf16 from iblk m c 1 t) (ix3 0 a b) = m ((c : Thread nD τ).loc main_arg1) (ix2 a b) := by
  refine Eq.trans ?_ (weights m c a b)
  blk_point [iblk, idx t]

set_option maxHeartbeats 1600000 in
/-- The incoming gradient. -/
theorem final_2 (c : Dev nD) : (dats m 0 c).arrAt 2 (cfgs 0).N = ref_v7 (m ((c : Thread nD τ).loc main_arg0)) := by
  refine (dats m 0 c).arrAt_eq_of_covers 2 _ (by decide +kernel) fun t hf y => ?_
  blk_simp; rw [after0_2]; unfold Gen.outsAt0; frame_out
  pointwise [k0_pay1, ref_v7]
  blk_point [iblk, V, idx t]

set_option maxHeartbeats 1600000 in
/-- The gradient in the heads' outputs. -/
theorem final_3 (c : Dev nD) : (dats m 0 c).arrAt 3 (cfgs 0).N = ref_v8 (m ((c : Thread nD τ).loc main_arg0)) (m ((c : Thread nD τ).loc main_arg1)) := by
  refine (dats m 0 c).arrAt_eq_of_covers 3 _ (by decide +kernel) fun t hf y => ?_
  blk_simp; rw [after0_3]; unfold Gen.outsAt0; frame_out
  pointwise [k0_pay1, k0_pay2, k0_pay3, ref_v8]
  blk_simp [iblk1]
  blk_point [iblk, V, idx t]

set_option maxHeartbeats 1600000 in
/-- The gradient in the convolution's outputs. -/
theorem final_4 (c : Dev nD) : (dats m 0 c).arrAt 4 (cfgs 0).N = ref_v9 (m ((c : Thread nD τ).loc main_arg0)) (m ((c : Thread nD τ).loc main_arg1)) := by
  refine (dats m 0 c).arrAt_eq_of_covers 4 _ (by decide +kernel) fun t hf y => ?_
  blk_simp; rw [after0_4]; unfold Gen.outsAt0; frame_out
  pointwise [k0_pay1, k0_pay2, k0_pay4, ref_v9]
  blk_simp [iblk1]
  blk_point [iblk, V, idx t]

end Cert.KMoIdeal.Mo

end
-- ==== Proof.MoClaims.lean ====
/- The claims about the mixer's backward product with `w_out` (`Cert.KMo`, `Cert.KMoIdeal`, `Cert.RMoIdeal`): each program runs and leaves its arguments
   as they were; over the extended reals the call's results are the reference's. -/
module

public import proofs.«01_k».proof.Defs
public import proofs.«01_k».proof.Proof.Gen.KMo.Frame
public import proofs.«01_k».proof.Proof.Gen.KMoIdeal.Value
public import proofs.«01_k».proof.Proof.Gen.RMoIdeal.Run
public import proofs.«01_k».proof.Proof.Mo
public import Idealize.ShloMosaic.Lib.Claim

@[expose] public section

namespace Cert.Proof.Mo

open Idealize.ShloMosaic Idealize.SL.Sem

/-- The kernel as printed: it terminates, and its arguments end unchanged. -/
theorem frame_kernel : Cert.quiescent_KMo := fun m ρ _ => Cert.KMo.Gen.frame m ρ

/-- The kernel over the extended reals: likewise. -/
theorem frame_ideal : Cert.quiescent_KMoIdeal := fun m ρ _ => Cert.KMoIdeal.Gen.frame m ρ

/-- The reference: likewise. -/
theorem frame_reference : Cert.quiescent_RMoIdeal := fun m ρ _ =>
  (θ_run Cert.RMoIdeal.defs _ _).mono (fun r h => ⟨fun c => (h c).2.2.2, sem_eq_zero_of_no_sems (by decide) r.2⟩)
    (Cert.RMoIdeal.Value.run (F := Ideal) m ρ)

set_option maxRecDepth 16384 in
set_option maxHeartbeats 1600000 in
/-- The results agree. -/
theorem algebraic : Cert.algebraic_KMoIdeal_RMoIdeal := by
  pair_intro
  · run_from Cert.KMoIdeal.Value.run_blocks (F := Ideal) m g
  · run_from Cert.RMoIdeal.Value.run (F := Ideal) m' g'
    · exact (Cert.KMoIdeal.Mo.final_2 m c).symm
    · exact (Cert.KMoIdeal.Mo.final_3 m c).symm
    · exact (Cert.KMoIdeal.Mo.final_4 m c).symm

end Cert.Proof.Mo
-- ==== Proof.Wa.lean ====
/- What the weight-gradient call leaves for the attention's rows of `w_out` (`Cert.KWaIdeal`): the first 512 rows are the reference's product, the
   others are as they came in. -/
module

public import proofs.«01_k».proof.Proof.Gen.KWaIdeal
public import proofs.«01_k».proof.Proof.Gen.KWaIdeal.Skeleton
public import proofs.«01_k».proof.Proof.Gen.KWaIdeal.Launch
public import proofs.«01_k».proof.Proof.Gen.KWaIdeal.Points
public import proofs.«01_k».proof.Proof.Gen.KWaIdeal.Frame
public import proofs.«01_k».proof.Proof.Gen.RWaIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.RWaIdeal.Terms

open Cert.RWaIdeal Cert.RWaIdeal.Gen

/-- The reference's result: the product in the first 512 rows, the others as they were. -/
def ref_v7 (a0 : FVec Ideal S1x1024x1024 .f32) (a1 : FVec Ideal S8192x512 .f32) (a2 : FVec Ideal S8192x1024 .f32) : FVec Ideal S1x1024x1024 .f32 :=
  broadcastInDim S1x1024x1024 ![1, 2] bcast_S1024x1024_S1x1024x1024_1_2 (concatenate S1024x1024 0
    [⟨S512x1024, transpose S512x1024 [1, 0] (Host.dotGeneral dot_S8192x1024_S8192x512_S1024x512_0_0_1_1_n_n none a2 a1)
      transposes_S1024x512_S512x1024_1_0⟩,
    ⟨S512x1024, shapeCast _ (extractStridedSlice S1x512x1024 ![0, 512, 0] a0
      slices_S1x1024x1024_S1x512x1024_0_512_0) shapeCasts_S1x512x1024_S512x1024⟩] concatenates_S512x1024_S512x1024_S1024x1024_d0)

end Cert.RWaIdeal.Terms

namespace Cert.KWaIdeal.Wa

open Cert.KWaIdeal Cert.KWaIdeal.Gen Cert.RWaIdeal.Terms

variable (m : (ℓ : Loc nD τ sig) → Buf (Elt Ideal) ℓ)

/-- The staged windows' block indices at grid point `t`. -/
theorem idx : ∀ t : Fin cfg0.N, win0_0.index t = ![t.val % 4, 0] ∧ win0_1.index t = ![t.val % 4, 0] ∧ win0_2.index t = ![0, 0, 0] :=
  (by decide +kernel : ∀ t : Fin grid0.N, _)

set_option maxHeartbeats 1600000 in
/-- The left operand's array at the region's entry. -/
theorem entry_a (c : Dev nD) : (show FVec Ideal S8192x512 .bf16 from V m c main_v0) = fun i => (m ((c : Thread nD τ).loc main_arg1) : FVec Ideal S8192x512 .f32) i := by
  unfold V; after_results; rfl

set_option maxHeartbeats 1600000 in
/-- The right operand's array. -/
theorem entry_b (c : Dev nD) : (show FVec Ideal S8192x1024 .bf16 from V m c main_v1) = fun i => (m ((c : Thread nD τ).loc main_arg2) : FVec Ideal S8192x1024 .f32) i := by
  unfold V; after_results; rfl

/-- The result's array at the region's entry: the gradients that came in. -/
theorem entry_buf (c : Dev nD) : (show FVec Ideal S1x1024x1024 .f32 from V m c main_v2) = fun i => m ((c : Thread nD τ).loc main_arg0) i := by
  unfold V; after_results; rfl

/-- The zero fill. -/
theorem hzero (j : S1x512x1024.Idx) : k0_pay1 (F := Ideal) j = 0 := by
  pointwise! [k0_pay1]

/-- The accumulating store: what was there, plus this point's lanes of the product. -/
theorem hpay (v3 : Vec Ideal S2048x512 .bf16) (v5 : Vec Ideal S1x512x1024 .f32) (v7 : Vec Ideal S2048x1024 .bf16) (j : S1x512x1024.Idx) :
    k0_pay2 v3 v5 v7 j = v5 j + k0_pay2 v3 (fun _ => 0) v7 j := by
  pointwise [k0_pay2]

set_option maxHeartbeats 1600000 in
/-- The result: the first 512 rows are the product, the rest as it came in. -/
theorem final (c : Dev nD) : (dats m 0 c).arrAt 2 (cfgs 0).N = ref_v7 (m ((c : Thread nD τ).loc main_arg0)) (m ((c : Thread nD τ).loc main_arg1))
      (m ((c : Thread nD τ).loc main_arg2)) := by
  refine Eq.trans (b := fun i => if (i 1 : ℕ) < 512 then ref_v7 (m ((c : Thread nD τ).loc main_arg0)) (m ((c : Thread nD τ).loc main_arg1))
      (m ((c : Thread nD τ).loc main_arg2)) i else V m c main_v2 i) ?_ ?_
  · refine (dats m 0 c).arrAt_eq_of_coversWhere 2 _ (fun β => β 1 = 0) (by decide +kernel) (fun t hf y => ?_)
      (fun j => by have hj : (j 1 : ℕ) < 1024 := (j 1).isLt; blk_simp [Pipeline.Window.cell_apply]; try omega)
    have hy : (y 1 : ℕ) < 512 := (y 1).isLt
    blk_simp
    rw [after0_2, Pipeline.eq_sum_fin_of_reset_step_apply_of_flush (fun n h => (outsAt0 m c n h)) 4 (fun _ => 0) _
      (fun t h j => by rw [outsAt0_A m c t h]; frame_out; rw [hpay, hzero])
      (fun t h j => by rw [outsAt0_B m c t h]; frame_out; rw [hpay])
      t ((flush0_2 t).mp hf) _, zero_add]
    pointwise [k0_pay2, ref_v7]
    rw [dif_pos (by blk_simp [idx t]; try omega)]
    refine Fin.sum_mul_add_congr fun s k hl => ?_
    rw [mul_comm]
    have e0 := congrFun (entry_a m c)
    have e1 := congrFun (entry_b m c)
    blk_simp [iblk, idx t, idx ⟨_, Pipeline.run_point_lt_of_flush t ((flush0_2 t).mp hf) s⟩]
    refine congrArg₂ (· * ·) ((e1 _).trans ?_) ((e0 _).trans ?_) <;>
      blk_ext [idx t, idx ⟨_, Pipeline.run_point_lt_of_flush t ((flush0_2 t).mp hf) s⟩]
  · funext i
    have e := congrFun (entry_buf m c) i
    have hi := (i 1).isLt
    split_ifs with h
    · rfl
    · refine e.trans ?_
      pointwise [ref_v7]
      split_ifs with h2 h3
      · exact absurd h2 (by omega)
      · refine congrArg _ (funext fun k => Fin.ext ?_)
        have h0 : (i 0 : ℕ) < 1 := (i 0).isLt
        fin_cases k <;> simp <;> omega
      · exact absurd rfl h3

end Cert.KWaIdeal.Wa

end
-- ==== Proof.WaClaims.lean ====
/- The claims about the gradient in the attention's rows of `w_out` (`Cert.KWa`, `Cert.KWaIdeal`, `Cert.RWaIdeal`): each program runs and leaves its arguments
   as they were; over the extended reals the call's results are the reference's. -/
module

public import proofs.«01_k».proof.Defs
public import proofs.«01_k».proof.Proof.Gen.KWa.Frame
public import proofs.«01_k».proof.Proof.Gen.KWaIdeal.Value
public import proofs.«01_k».proof.Proof.Gen.RWaIdeal.Run
public import proofs.«01_k».proof.Proof.Wa
public import Idealize.ShloMosaic.Lib.Claim

@[expose] public section

namespace Cert.Proof.Wa

open Idealize.ShloMosaic Idealize.SL.Sem

/-- The kernel as printed: it terminates, and its arguments end unchanged. -/
theorem frame_kernel : Cert.quiescent_KWa := fun m ρ _ => Cert.KWa.Gen.frame m ρ

/-- The kernel over the extended reals: likewise. -/
theorem frame_ideal : Cert.quiescent_KWaIdeal := fun m ρ _ => Cert.KWaIdeal.Gen.frame m ρ

/-- The reference: likewise. -/
theorem frame_reference : Cert.quiescent_RWaIdeal := fun m ρ _ =>
  (θ_run Cert.RWaIdeal.defs _ _).mono (fun r h => ⟨fun c => (h c).2, sem_eq_zero_of_no_sems (by decide) r.2⟩)
    (Cert.RWaIdeal.Value.run (F := Ideal) m ρ)

set_option maxRecDepth 16384 in
set_option maxHeartbeats 1600000 in
/-- The results agree. -/
theorem algebraic : Cert.algebraic_KWaIdeal_RWaIdeal := by
  pair_intro
  · run_from Cert.KWaIdeal.Value.run_blocks (F := Ideal) m g
  · run_from Cert.RWaIdeal.Value.run (F := Ideal) m' g'
    rw [(hagree c).2.2]
    exact (Cert.KWaIdeal.Wa.final m c).symm

end Cert.Proof.Wa
-- ==== Proof.Wc.lean ====
/- What the weight-gradient call leaves for the convolution's rows of `w_out` (`Cert.KWcIdeal`): the last 512 rows are the reference's product, the
   others are as they came in. -/
module

public import proofs.«01_k».proof.Proof.Gen.KWcIdeal
public import proofs.«01_k».proof.Proof.Gen.KWcIdeal.Skeleton
public import proofs.«01_k».proof.Proof.Gen.KWcIdeal.Launch
public import proofs.«01_k».proof.Proof.Gen.KWcIdeal.Points
public import proofs.«01_k».proof.Proof.Gen.KWcIdeal.Frame
public import proofs.«01_k».proof.Proof.Gen.RWcIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.RWcIdeal.Terms

open Cert.RWcIdeal Cert.RWcIdeal.Gen

/-- The reference's result: the product in the last 512 rows, the others as they were. -/
def ref_v7 (a0 : FVec Ideal S1x1024x1024 .f32) (a1 : FVec Ideal S8192x512 .f32) (a2 : FVec Ideal S8192x1024 .f32) : FVec Ideal S1x1024x1024 .f32 :=
  broadcastInDim S1x1024x1024 ![1, 2] bcast_S1024x1024_S1x1024x1024_1_2 (concatenate S1024x1024 0
    [⟨S512x1024, shapeCast _ (extractStridedSlice S1x512x1024 ![0, 0, 0] a0
      slices_S1x1024x1024_S1x512x1024_0_0_0) shapeCasts_S1x512x1024_S512x1024⟩,
    ⟨S512x1024, transpose S512x1024 [1, 0] (Host.dotGeneral dot_S8192x1024_S8192x512_S1024x512_0_0_1_1_n_n none a2 a1)
      transposes_S1024x512_S512x1024_1_0⟩] concatenates_S512x1024_S512x1024_S1024x1024_d0)

end Cert.RWcIdeal.Terms

namespace Cert.KWcIdeal.Wc

open Cert.KWcIdeal Cert.KWcIdeal.Gen Cert.RWcIdeal.Terms

variable (m : (ℓ : Loc nD τ sig) → Buf (Elt Ideal) ℓ)

/-- The staged windows' block indices at grid point `t`. -/
theorem idx : ∀ t : Fin cfg0.N, win0_0.index t = ![t.val % 4, 0] ∧ win0_1.index t = ![t.val % 4, 0] ∧ win0_2.index t = ![0, 1, 0] :=
  (by decide +kernel : ∀ t : Fin grid0.N, _)

set_option maxHeartbeats 1600000 in
/-- The left operand's array at the region's entry. -/
theorem entry_a (c : Dev nD) : (show FVec Ideal S8192x512 .bf16 from V m c main_v0) = fun i => (m ((c : Thread nD τ).loc main_arg1) : FVec Ideal S8192x512 .f32) i := by
  unfold V; after_results; rfl

set_option maxHeartbeats 1600000 in
/-- The right operand's array. -/
theorem entry_b (c : Dev nD) : (show FVec Ideal S8192x1024 .bf16 from V m c main_v1) = fun i => (m ((c : Thread nD τ).loc main_arg2) : FVec Ideal S8192x1024 .f32) i := by
  unfold V; after_results; rfl

/-- The result's array at the region's entry: the gradients that came in. -/
theorem entry_buf (c : Dev nD) : (show FVec Ideal S1x1024x1024 .f32 from V m c main_v2) = fun i => m ((c : Thread nD τ).loc main_arg0) i := by
  unfold V; after_results; rfl

/-- The zero fill. -/
theorem hzero (j : S1x512x1024.Idx) : k0_pay1 (F := Ideal) j = 0 := by
  pointwise! [k0_pay1]

/-- The accumulating store: what was there, plus this point's lanes of the product. -/
theorem hpay (v3 : Vec Ideal S2048x512 .bf16) (v5 : Vec Ideal S1x512x1024 .f32) (v7 : Vec Ideal S2048x1024 .bf16) (j : S1x512x1024.Idx) :
    k0_pay2 v3 v5 v7 j = v5 j + k0_pay2 v3 (fun _ => 0) v7 j := by
  pointwise [k0_pay2]

set_option maxHeartbeats 1600000 in
/-- The result: the last 512 rows are the product, the rest as it came in. -/
theorem final (c : Dev nD) : (dats m 0 c).arrAt 2 (cfgs 0).N = ref_v7 (m ((c : Thread nD τ).loc main_arg0)) (m ((c : Thread nD τ).loc main_arg1))
      (m ((c : Thread nD τ).loc main_arg2)) := by
  refine Eq.trans (b := fun i => if 512 ≤ (i 1 : ℕ) then ref_v7 (m ((c : Thread nD τ).loc main_arg0)) (m ((c : Thread nD τ).loc main_arg1))
      (m ((c : Thread nD τ).loc main_arg2)) i else V m c main_v2 i) ?_ ?_
  · refine (dats m 0 c).arrAt_eq_of_coversWhere 2 _ (fun β => β 1 = 1) (by decide +kernel) (fun t hf y => ?_)
      (fun j => by have hj : (j 1 : ℕ) < 1024 := (j 1).isLt; blk_simp [Pipeline.Window.cell_apply]; try omega)
    have hy : (y 1 : ℕ) < 512 := (y 1).isLt
    blk_simp
    rw [after0_2, Pipeline.eq_sum_fin_of_reset_step_apply_of_flush (fun n h => (outsAt0 m c n h)) 4 (fun _ => 0) _
      (fun t h j => by rw [outsAt0_A m c t h]; frame_out; rw [hpay, hzero])
      (fun t h j => by rw [outsAt0_B m c t h]; frame_out; rw [hpay])
      t ((flush0_2 t).mp hf) _, zero_add]
    pointwise [k0_pay2, ref_v7]
    rw [dif_neg (by blk_simp [idx t]; try omega)]
    refine Fin.sum_mul_add_congr fun s k hl => ?_
    rw [mul_comm]
    have e0 := congrFun (entry_a m c)
    have e1 := congrFun (entry_b m c)
    blk_simp [iblk, idx t, idx ⟨_, Pipeline.run_point_lt_of_flush t ((flush0_2 t).mp hf) s⟩]
    refine congrArg₂ (· * ·) ((e1 _).trans ?_) ((e0 _).trans ?_) <;>
      blk_ext [idx t, idx ⟨_, Pipeline.run_point_lt_of_flush t ((flush0_2 t).mp hf) s⟩]
  · funext i
    have e := congrFun (entry_buf m c) i
    have hi := (i 1).isLt
    split_ifs with h
    · rfl
    · refine e.trans ?_
      pointwise [ref_v7]
      rw [dif_pos (by omega)]
      · refine congrArg _ (funext fun k => Fin.ext ?_)
        have h0 : (i 0 : ℕ) < 1 := (i 0).isLt
        fin_cases k <;> simp <;> omega

end Cert.KWcIdeal.Wc

end
-- ==== Proof.WcClaims.lean ====
/- The claims about the gradient in the convolution's rows of `w_out` (`Cert.KWc`, `Cert.KWcIdeal`, `Cert.RWcIdeal`): each program runs and leaves its arguments
   as they were; over the extended reals the call's results are the reference's. -/
module

public import proofs.«01_k».proof.Defs
public import proofs.«01_k».proof.Proof.Gen.KWc.Frame
public import proofs.«01_k».proof.Proof.Gen.KWcIdeal.Value
public import proofs.«01_k».proof.Proof.Gen.RWcIdeal.Run
public import proofs.«01_k».proof.Proof.Wc
public import Idealize.ShloMosaic.Lib.Claim

@[expose] public section

namespace Cert.Proof.Wc

open Idealize.ShloMosaic Idealize.SL.Sem

/-- The kernel as printed: it terminates, and its arguments end unchanged. -/
theorem frame_kernel : Cert.quiescent_KWc := fun m ρ _ => Cert.KWc.Gen.frame m ρ

/-- The kernel over the extended reals: likewise. -/
theorem frame_ideal : Cert.quiescent_KWcIdeal := fun m ρ _ => Cert.KWcIdeal.Gen.frame m ρ

/-- The reference: likewise. -/
theorem frame_reference : Cert.quiescent_RWcIdeal := fun m ρ _ =>
  (θ_run Cert.RWcIdeal.defs _ _).mono (fun r h => ⟨fun c => (h c).2, sem_eq_zero_of_no_sems (by decide) r.2⟩)
    (Cert.RWcIdeal.Value.run (F := Ideal) m ρ)

set_option maxRecDepth 16384 in
set_option maxHeartbeats 1600000 in
/-- The results agree. -/
theorem algebraic : Cert.algebraic_KWcIdeal_RWcIdeal := by
  pair_intro
  · run_from Cert.KWcIdeal.Value.run_blocks (F := Ideal) m g
  · run_from Cert.RWcIdeal.Value.run (F := Ideal) m' g'
    rw [(hagree c).2.2]
    exact (Cert.KWcIdeal.Wc.final m c).symm

end Cert.Proof.Wc
-- ==== Proof.Wi.lean ====
/- What the weight-gradient call leaves for `w_in` (`Cert.KWiIdeal`): the reference's product, transposed as the version keeps it. -/
module

public import proofs.«01_k».proof.Proof.Gen.KWiIdeal
public import proofs.«01_k».proof.Proof.Gen.KWiIdeal.Skeleton
public import proofs.«01_k».proof.Proof.Gen.KWiIdeal.Launch
public import proofs.«01_k».proof.Proof.Gen.KWiIdeal.Points
public import proofs.«01_k».proof.Proof.Gen.KWiIdeal.Frame
public import proofs.«01_k».proof.Proof.Gen.RWiIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.RWiIdeal.Terms

open Cert.RWiIdeal Cert.RWiIdeal.Gen

/-- The reference's result. -/
def ref_v5 (a1 : FVec Ideal S8192x1792 .f32) (a2 : FVec Ideal S8192x1024 .f32) : FVec Ideal S1x1792x1024 .f32 :=
  broadcastInDim S1x1792x1024 ![1, 2] bcast_S1792x1024_S1x1792x1024_1_2 (transpose S1792x1024 [1, 0] (transpose
    S1024x1792 [1, 0] (Host.dotGeneral dot_S8192x1792_S8192x1024_S1792x1024_0_0_1_1_n_n none a1 a2)
    transposes_S1792x1024_S1024x1792_1_0) transposes_S1024x1792_S1792x1024_1_0)

end Cert.RWiIdeal.Terms

namespace Cert.KWiIdeal.Wi

open Cert.KWiIdeal Cert.KWiIdeal.Gen Cert.RWiIdeal.Terms

variable (m : (ℓ : Loc nD τ sig) → Buf (Elt Ideal) ℓ)

/-- The staged windows' block indices at grid point `t`. -/
theorem idx : ∀ t : Fin cfg0.N, win0_0.index t = ![t.val % 4, t.val / 4] ∧ win0_1.index t = ![t.val % 4, 0]
    ∧ win0_2.index t = ![0, t.val / 4, 0] :=
  (by decide +kernel : ∀ t : Fin grid0.N, _)

set_option maxHeartbeats 1600000 in
/-- The left operand's array at the region's entry. -/
theorem entry_a (c : Dev nD) : (show FVec Ideal S8192x1792 .bf16 from V m c main_v0) = fun i => (m ((c : Thread nD τ).loc main_arg1) : FVec Ideal S8192x1792 .f32) i := by
  unfold V; after_results; rfl

set_option maxHeartbeats 1600000 in
/-- The right operand's array. -/
theorem entry_b (c : Dev nD) : (show FVec Ideal S8192x1024 .bf16 from V m c main_v1) = fun i => (m ((c : Thread nD τ).loc main_arg2) : FVec Ideal S8192x1024 .f32) i := by
  unfold V; after_results; rfl

/-- The zero fill. -/
theorem hzero (j : S1x896x1024.Idx) : k0_pay1 (F := Ideal) j = 0 := by
  pointwise! [k0_pay1]

/-- The accumulating store: what was there, plus this point's lanes of the product. -/
theorem hpay (v3 : Vec Ideal S2048x896 .bf16) (v5 : Vec Ideal S1x896x1024 .f32) (v7 : Vec Ideal S2048x1024 .bf16) (j : S1x896x1024.Idx) :
    k0_pay2 v3 v5 v7 j = v5 j + k0_pay2 v3 (fun _ => 0) v7 j := by
  pointwise [k0_pay2]

set_option maxHeartbeats 1600000 in
/-- The result. -/
theorem final (c : Dev nD) : (dats m 0 c).arrAt 2 (cfgs 0).N = ref_v5 (m ((c : Thread nD τ).loc main_arg1)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => (outsAt0 m c n h)) 4 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, ref_v5]
  refine Fin.sum_mul_add_congr fun s k hl => ?_
  have e0 := congrFun (entry_a m c)
  have e1 := congrFun (entry_b m c)
  blk_simp [iblk, idx t, idx ⟨_, Pipeline.run_point_lt_of_flush t ((flush0_2 t).mp hf) s⟩]
  refine congrArg₂ (· * ·) ((e0 _).trans ?_) ((e1 _).trans ?_) <;>
    blk_ext [idx t, idx ⟨_, Pipeline.run_point_lt_of_flush t ((flush0_2 t).mp hf) s⟩]

end Cert.KWiIdeal.Wi

end
-- ==== Proof.WiClaims.lean ====
/- The claims about the gradient in `w_in` (`Cert.KWi`, `Cert.KWiIdeal`, `Cert.RWiIdeal`): each program runs and leaves its arguments
   as they were; over the extended reals the call's results are the reference's. -/
module

public import proofs.«01_k».proof.Defs
public import proofs.«01_k».proof.Proof.Gen.KWi.Frame
public import proofs.«01_k».proof.Proof.Gen.KWiIdeal.Value
public import proofs.«01_k».proof.Proof.Gen.RWiIdeal.Run
public import proofs.«01_k».proof.Proof.Wi
public import Idealize.ShloMosaic.Lib.Claim

@[expose] public section

namespace Cert.Proof.Wi

open Idealize.ShloMosaic Idealize.SL.Sem

/-- The kernel as printed: it terminates, and its arguments end unchanged. -/
theorem frame_kernel : Cert.quiescent_KWi := fun m ρ _ => Cert.KWi.Gen.frame m ρ

/-- The kernel over the extended reals: likewise. -/
theorem frame_ideal : Cert.quiescent_KWiIdeal := fun m ρ _ => Cert.KWiIdeal.Gen.frame m ρ

/-- The reference: likewise. -/
theorem frame_reference : Cert.quiescent_RWiIdeal := fun m ρ _ =>
  (θ_run Cert.RWiIdeal.defs _ _).mono (fun r h => ⟨fun c => (h c).2, sem_eq_zero_of_no_sems (by decide) r.2⟩)
    (Cert.RWiIdeal.Value.run (F := Ideal) m ρ)

set_option maxRecDepth 16384 in
set_option maxHeartbeats 1600000 in
/-- The results agree. -/
theorem algebraic : Cert.algebraic_KWiIdeal_RWiIdeal := by
  pair_intro
  · run_from Cert.KWiIdeal.Value.run_blocks (F := Ideal) m g
  · run_from Cert.RWiIdeal.Value.run (F := Ideal) m' g'
    exact (Cert.KWiIdeal.Wi.final m c).symm

end Cert.Proof.Wi
-- ==== Proof.Mx.lean ====
/- What the mixer's projection out leaves (`Cert.KMxIdeal`): the input plus the heads and the convolution's channels against `w_out`. -/
module

public import proofs.«01_k».proof.Proof.Gen.KMxIdeal
public import proofs.«01_k».proof.Proof.Gen.KMxIdeal.Skeleton
public import proofs.«01_k».proof.Proof.Gen.KMxIdeal.Launch
public import proofs.«01_k».proof.Proof.Gen.KMxIdeal.Points
public import proofs.«01_k».proof.Proof.Gen.KMxIdeal.Frame
public import proofs.«01_k».proof.Proof.Gen.RMxIdeal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.RMxIdeal.Terms

open Cert.RMxIdeal Cert.RMxIdeal.Gen

/-- The reference's result. -/
def ref_v2 (a0 : FVec Ideal S8192x512 .f32) (a1 : FVec Ideal S8192x512 .f32) (a2 : FVec Ideal S8192x1024 .f32) (a3 : FVec Ideal S1024x1024 .f32) : FVec Ideal S8192x1024 .f32 :=
  addf a2 (Host.dotGeneral dot_S8192x1024_S1024x1024_S8192x1024_1_0_0_1_n_n none (concatenate S8192x1024 1
    [⟨S8192x512, a0⟩, ⟨S8192x512, a1⟩] concatenates_S8192x512_S8192x512_S8192x1024_d1) a3)

end Cert.RMxIdeal.Terms

namespace Cert.KMxIdeal.Mx

open Cert.KMxIdeal Cert.KMxIdeal.Gen Cert.RMxIdeal.Terms

variable (m : (ℓ : Loc nD τ sig) → Buf (Elt Ideal) ℓ)

/-- Every window's block index at grid point `t`. -/
theorem idx : ∀ t : Fin cfg0.N, win0_0.index t = ![t.val, 0] ∧ win0_1.index t = ![t.val, 0] ∧ win0_2.index t = ![t.val, 0]
    ∧ win0_3.index t = ![0, 0, 0] ∧ win0_4.index t = ![t.val, 0] :=
  (by decide +kernel : ∀ t : Fin grid0.N, _)

set_option maxHeartbeats 1600000 in
/-- The attention's rows at the region's entry. -/
theorem entry_a (c : Dev nD) : (show FVec Ideal S8192x512 .bf16 from V m c main_v0) = fun i => (m ((c : Thread nD τ).loc main_arg0) : FVec Ideal S8192x512 .f32) i := by
  unfold V; after_results; rfl

set_option maxHeartbeats 1600000 in
/-- The convolution's rows. -/
theorem entry_c (c : Dev nD) : (show FVec Ideal S8192x512 .bf16 from V m c main_v1) = fun i => (m ((c : Thread nD τ).loc main_arg1) : FVec Ideal S8192x512 .f32) i := by
  unfold V; after_results; rfl

/-- The weights' array. -/
theorem weights (c : Dev nD) (a b : Fin 1024) :
    (show FVec Ideal S1x1024x1024 .bf16 from V m c main_v3) (ix3 0 a b) = m ((c : Thread nD τ).loc main_arg3) (ix2 a b) := by
  unfold V; after_results
  pointwise

/-- The weights' block is the whole of `w_out`. -/
theorem iblk3 (c : Dev nD) (t : Fin cfg0.N) (a b : Fin 1024) :
    (show FVec Ideal S1x1024x1024 .bf16 from iblk m c 3 t) (ix3 0 a b) = m ((c : Thread nD τ).loc main_arg3) (ix2 a b) := by
  refine Eq.trans ?_ (weights m c a b)
  blk_point [iblk, idx t]

set_option maxHeartbeats 1600000 in
/-- The result. -/
theorem final (c : Dev nD) : (dats m 0 c).arrAt 4 (cfgs 0).N = ref_v2 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  have e0 := congrFun (entry_a m c)
  have e1 := congrFun (entry_c m c)
  have e3 := iblk3 m c t
  pointwise [k0_pay1, ref_v2]
  refine congrArg₂ (· + ·) ?_ (congrArg₂ (· + ·) (Finset.sum_congr rfl fun k _ => congrArg₂ (· * ·) ?_ ?_)
    (Finset.sum_congr rfl fun k _ => congrArg₂ (· * ·) ?_ ?_))
  · blk_point [iblk, V, idx t]
  · blk_simp [iblk, idx t]
    refine (e0 _).trans ?_
    blk_ext [idx t]
  · refine (e3 _ _).trans ?_
    blk_ext [idx t]
  · blk_simp [iblk, idx t]
    refine (e1 _).trans ?_
    blk_ext [idx t]
  · refine (e3 _ _).trans ?_
    blk_ext [idx t]

end Cert.KMxIdeal.Mx

end
-- ==== Proof.MxClaims.lean ====
/- The claims about the mixer's projection out (`Cert.KMx`, `Cert.KMxIdeal`, `Cert.RMxIdeal`): each program runs and leaves its arguments
   as they were; over the extended reals the call's results are the reference's. -/
module

public import proofs.«01_k».proof.Defs
public import proofs.«01_k».proof.Proof.Gen.KMx.Frame
public import proofs.«01_k».proof.Proof.Gen.KMxIdeal.Value
public import proofs.«01_k».proof.Proof.Gen.RMxIdeal.Run
public import proofs.«01_k».proof.Proof.Mx
public import Idealize.ShloMosaic.Lib.Claim

@[expose] public section

namespace Cert.Proof.Mx

open Idealize.ShloMosaic Idealize.SL.Sem

/-- The kernel as printed: it terminates, and its arguments end unchanged. -/
theorem frame_kernel : Cert.quiescent_KMx := fun m ρ _ => Cert.KMx.Gen.frame m ρ

/-- The kernel over the extended reals: likewise. -/
theorem frame_ideal : Cert.quiescent_KMxIdeal := fun m ρ _ => Cert.KMxIdeal.Gen.frame m ρ

/-- The reference: likewise. -/
theorem frame_reference : Cert.quiescent_RMxIdeal := fun m ρ _ =>
  (θ_run Cert.RMxIdeal.defs _ _).mono (fun r h => ⟨fun c => (h c).2, sem_eq_zero_of_no_sems (by decide) r.2⟩)
    (Cert.RMxIdeal.Value.run (F := Ideal) m ρ)

set_option maxRecDepth 16384 in
set_option maxHeartbeats 1600000 in
/-- The results agree. -/
theorem algebraic : Cert.algebraic_KMxIdeal_RMxIdeal := by
  pair_intro
  · run_from Cert.KMxIdeal.Value.run_blocks (F := Ideal) m g
  · run_from Cert.RMxIdeal.Value.run (F := Ideal) m' g'
    exact (Cert.KMxIdeal.Mx.final m c).symm

end Cert.Proof.Mx
-- ==== Proof.Pack.lean ====
/- Arrays laid one after another: a function of the entries may be taken before or after they are laid, and a row filled at its end is the
   row followed by the filling. -/
module

public import Idealize.ShloMosaic.Lib.Pipeline.ValueKit
public import Idealize.ShloMosaic.Lib.StableHlo.Run

@[expose] public section

noncomputable section

open Idealize.ShloMosaic

namespace Cert.Pack

variable {α β : Type}

/-- The pieces with a function taken of each entry. -/
abbrev over (φ : α → β) (xs : List ((s : Shape) × (s.Idx → α))) : List ((s : Shape) × (s.Idx → β)) :=
  xs.map fun p => ⟨p.1, fun i => φ (p.2 i)⟩

theorem concatenateAt_map (φ : α → β) (t : Shape) (a : Fin t.rank) (j : t.Idx) : ∀ (xs : List ((s : Shape) × (s.Idx → α)))
    (hs : ∀ s ∈ xs.map (·.1), s.FitsOff t a) (hs' : ∀ s ∈ (over φ xs).map (·.1), s.FitsOff t a) (c : Nat)
    (hc : c < (axisSizes t a xs).sum) (hc' : c < (axisSizes t a (over φ xs)).sum),
    concatenateAt t a j (over φ xs) hs' c hc' = φ (concatenateAt t a j xs hs c hc)
  | [], _, _, _, hc, _ => absurd hc (Nat.not_lt_zero _)
  | [p], hs, hs', c, hc, hc' => by
    obtain ⟨s, x⟩ := p
    rw [concatenateAt_singleton]
    exact concatenateAt_singleton a j (fun i => φ (x i)) hs' c hc'
  | p :: q :: xs, hs, hs', c, hc, hc' => by
    obtain ⟨s, x⟩ := p
    rw [concatenateAt_cons]
    refine (concatenateAt_cons a j (fun i => φ (x i)) ⟨q.1, fun i => φ (q.2 i)⟩ (over φ xs) hs' c hc').trans ?_
    split_ifs with h
    · rfl
    · exact concatenateAt_map φ t a j (q :: xs) _ _ _ _ _

/-- A function of the entries, taken before or after the pieces are laid. -/
theorem concatenate_map (φ : α → β) (t : Shape) (a : Fin t.rank) (xs : List ((s : Shape) × (s.Idx → α)))
    (h : Shape.Concatenates (xs.map (·.1)) t a) (h' : Shape.Concatenates ((over φ xs).map (·.1)) t a) :
    concatenate t a (over φ xs) h' = fun j => φ (concatenate t a xs h j) := by
  funext j
  rw [concatenate_apply, concatenate_apply]
  exact concatenateAt_map φ t a j xs _ _ _ _ _

/-- A row that is filled at its end by nothing is the row. -/
theorem pad_none {n : Nat} (x : (⟨1, ![n]⟩ : Shape).Idx → α) {u : Shape} (v : u.Idx → α)
    (h : (⟨1, ![n]⟩ : Shape).Pads (![0] : Fin 1 → Nat) ![0] ![0] ⟨1, ![n]⟩) (hu : 0 < u.numel) :
    pad ⟨1, ![n]⟩ ![0] ![0] ![0] x v h hu = x := by
  funext j
  have hj : (j 0 : ℕ) < n := (j 0).isLt
  rw [pad_apply, dif_pos]
  · refine congrArg x (funext fun a => Fin.ext ?_)
    fin_cases a
    simp [Shape.Idx.norm]
  · intro a
    fin_cases a
    simpa [Nat.mod_one] using hj

/-- A row that is filled at its end is the row followed by the filling. -/
theorem pad_tail {n k N : Nat} (x : (⟨1, ![n]⟩ : Shape).Idx → α) {u : Shape} (v : u.Idx → α)
    (h : (⟨1, ![n]⟩ : Shape).Pads (![0] : Fin 1 → Nat) ![k] ![0] ⟨1, ![N]⟩) (hu : 0 < u.numel)
    (hc : Shape.Concatenates [⟨1, ![n]⟩, ⟨1, ![k]⟩] ⟨1, ![N]⟩ 0) :
    pad ⟨1, ![N]⟩ ![0] ![k] ![0] x v h hu
      = concatenate ⟨1, ![N]⟩ 0 [⟨⟨1, ![n]⟩, x⟩, ⟨⟨1, ![k]⟩, fun _ => v (Shape.Idx.first hu)⟩] hc := by
  funext j
  rw [pad_apply, concatenate_pair_apply]
  by_cases hj : (j 0 : ℕ) < n
  · rw [dif_pos, dif_pos (by simpa using hj)]
    · refine congrArg x (funext fun a => Fin.ext ?_)
      fin_cases a
      simp [Shape.Idx.norm]
    · intro a
      fin_cases a
      simpa [Nat.mod_one] using hj
  · rw [dif_neg, dif_neg (by simpa using hj)]
    intro hh
    exact hj (by simpa using (hh 0).2.2)

end Cert.Pack

end
-- ==== Proof.As.lean ====
/- What the optimiser's call leaves for the small weights (`Cert.KAsIdeal`), which lie one after another in one array: every array is
   laid, filled and split in the same way, so the step may be taken of the weights' entries and its results be laid. -/
module

public import proofs.«01_k».proof.Proof.Gen.KAsIdeal
public import proofs.«01_k».proof.Proof.Gen.KAsIdeal.Skeleton
public import proofs.«01_k».proof.Proof.Gen.KAsIdeal.Launch
public import proofs.«01_k».proof.Proof.Gen.KAsIdeal.Points
public import proofs.«01_k».proof.Proof.Gen.KAsIdeal.Frame
public import proofs.«01_k».proof.Proof.Gen.RAsIdeal
public import proofs.«01_k».proof.Proof.Adam
public import proofs.«01_k».proof.Proof.Pack

@[expose] public section

set_option maxRecDepth 16384

noncomputable section

open Idealize.ShloMosaic Idealize.ShloMosaic.TcCoe Idealize.SL.Sem
open Idealize.ShloMosaic.Pipeline (Dat)
open Cert.Adam Cert.Pack

namespace Cert.RAsIdeal.Terms

open Cert.RAsIdeal Cert.RAsIdeal.Gen

/-- An array for each of the small weights. -/
structure Arrays (α : Type) where
  ffn1 : S2x1024.Idx → α
  mix : S2x1024.Idx → α
  conv : S2x31x64.Idx → α
  bias : S2x512.Idx → α
  lnG : S2x512.Idx → α
  lnB : S2x512.Idx → α
  sinks : S2x8.Idx → α
  ffn2 : S2x1024.Idx → α
  last : S1024.Idx → α

variable {α β : Type}

/-- A function of every entry. -/
def Arrays.map (φ : α → β) (a : Arrays α) : Arrays β :=
  ⟨fun i => φ (a.ffn1 i), fun i => φ (a.mix i), fun i => φ (a.conv i), fun i => φ (a.bias i), fun i => φ (a.lnG i), fun i => φ (a.lnB i),
    fun i => φ (a.sinks i), fun i => φ (a.ffn2 i), fun i => φ (a.last i)⟩

/-- The entries of four arrays side by side. -/
def Arrays.four (w g m v : Arrays α) : Arrays (α × α × α × α) :=
  ⟨fun i => (w.ffn1 i, g.ffn1 i, m.ffn1 i, v.ffn1 i), fun i => (w.mix i, g.mix i, m.mix i, v.mix i),
    fun i => (w.conv i, g.conv i, m.conv i, v.conv i), fun i => (w.bias i, g.bias i, m.bias i, v.bias i),
    fun i => (w.lnG i, g.lnG i, m.lnG i, v.lnG i), fun i => (w.lnB i, g.lnB i, m.lnB i, v.lnB i),
    fun i => (w.sinks i, g.sinks i, m.sinks i, v.sinks i), fun i => (w.ffn2 i, g.ffn2 i, m.ffn2 i, v.ffn2 i),
    fun i => (w.last i, g.last i, m.last i, v.last i)⟩

/-- The convolution's weights as a row, filled up with `z`. -/
abbrev convRow (z : α) (a : S2x31x64.Idx → α) : S4096.Idx → α :=
  concatenate S4096 0 [⟨S3968, shapeCast S3968 a shapeCasts_S2x31x64_S3968⟩, ⟨S128, fun _ => z⟩] concatenates_S3968_S128_S4096_d0

/-- The attention's sinks as a row, filled up with `z`. -/
abbrev sinkRow (z : α) (a : S2x8.Idx → α) : S1024.Idx → α :=
  concatenate S1024 0 [⟨S16, shapeCast S16 a shapeCasts_S2x8_S16⟩, ⟨S1008, fun _ => z⟩] concatenates_S16_S1008_S1024_d0

/-- The rows, in the order they are laid. -/
abbrev pieces (z : α) (a : Arrays α) : List ((s : Shape) × (s.Idx → α)) :=
  [⟨S2048, shapeCast S2048 a.ffn1 shapeCasts_S2x1024_S2048⟩, ⟨S2048, shapeCast S2048 a.mix shapeCasts_S2x1024_S2048⟩,
    ⟨S4096, convRow z a.conv⟩, ⟨S1024, shapeCast S1024 a.bias shapeCasts_S2x512_S1024⟩,
    ⟨S1024, shapeCast S1024 a.lnG shapeCasts_S2x512_S1024⟩, ⟨S1024, shapeCast S1024 a.lnB shapeCasts_S2x512_S1024⟩,
    ⟨S1024, sinkRow z a.sinks⟩, ⟨S2048, shapeCast S2048 a.ffn2 shapeCasts_S2x1024_S2048⟩, ⟨S1024, a.last⟩]

/-- The rows laid one after another, as an array of `120 x 128`. -/
def laid (z : α) (a : Arrays α) : S120x128.Idx → α :=
  shapeCast S120x128 (concatenate S15360 0 (pieces z a) concatenates_S2048_S2048_S4096_S1024_S1024_S1024_S1024_S2048_S1024_S15360_d0)
    shapeCasts_S15360_S120x128

/-- The filling. -/
abbrev zero : EReal := Ideal.ofBits .f32 0x00000000#32

/-- The reference's results: the weights' changes and the new moments. -/
def ref_d (w g m v : Arrays EReal) : FVec Ideal S120x128 .f32 := laid zero ((Arrays.four w g m v).map fun p => delta p.1 p.2.1 p.2.2.1 p.2.2.2)
def ref_m (w g m v : Arrays EReal) : FVec Ideal S120x128 .f32 := laid zero ((Arrays.four w g m v).map fun p => newM p.2.1 p.2.2.1)
def ref_v (w g m v : Arrays EReal) : FVec Ideal S120x128 .f32 := laid zero ((Arrays.four w g m v).map fun p => newV p.2.1 p.2.2.2)

theorem pieces_map (φ : α → β) (z : α) (a : Arrays α) : pieces (φ z) (a.map φ) = over φ (pieces z a) := by
  have e1 : convRow (φ z) (a.map φ).conv = fun j => φ (convRow z a.conv j) :=
    concatenate_map φ S4096 0 [⟨S3968, shapeCast S3968 a.conv shapeCasts_S2x31x64_S3968⟩, ⟨S128, fun _ => z⟩]
      concatenates_S3968_S128_S4096_d0 concatenates_S3968_S128_S4096_d0
  have e2 : sinkRow (φ z) (a.map φ).sinks = fun j => φ (sinkRow z a.sinks j) :=
    concatenate_map φ S1024 0 [⟨S16, shapeCast S16 a.sinks shapeCasts_S2x8_S16⟩, ⟨S1008, fun _ => z⟩]
      concatenates_S16_S1008_S1024_d0 concatenates_S16_S1008_S1024_d0
  unfold pieces
  rw [e1, e2]
  rfl

/-- Laying the arrays commutes with a function of every entry. -/
theorem laid_map (φ : α → β) (z : α) (a : Arrays α) : laid (φ z) (a.map φ) = fun j => φ (laid z a j) := by
  have h : ∀ (l : List ((s : Shape) × (s.Idx → β))) (_ : l = over φ (pieces z a)) (hl : Shape.Concatenates (l.map (·.1)) S15360 0),
      concatenate S15360 0 l hl = fun j => φ (concatenate S15360 0 (pieces z a)
        concatenates_S2048_S2048_S4096_S1024_S1024_S1024_S1024_S2048_S1024_S15360_d0 j) := by
    rintro _ rfl hl
    exact concatenate_map φ S15360 0 (pieces z a) _ hl
  unfold laid
  rw [h _ (pieces_map φ z a)]
  rfl

theorem zero_eq : zero = 0 := by simp [zero, Ideal.ofBits, Ideal.ieee]

theorem newM_zero : newM zero zero = zero := by unfold newM; rw [zero_eq]; simp
theorem newV_zero : newV zero zero = zero := by unfold newV; rw [zero_eq]; simp
theorem delta_zero : delta zero zero zero zero = zero := by
  have hs : Ideal.sqrt 0 = 0 := by
    show (if (0 : ℝ) < 0 then (⊥ : EReal) else ((Real.sqrt 0 : ℝ) : EReal)) = 0
    simp
  have h1 : Ideal.ofBits .f32 0x3F26BD02#32 ≠ 0 := by simp [Ideal.ofBits, Ideal.ieee, -EReal.coe_mul]
  have h2 : Ideal.ofBits .f32 0x3C231ACC#32 ≠ 0 := by simp [Ideal.ofBits, Ideal.ieee, -EReal.coe_mul]
  have h3 : Ideal.ofBits .f32 0x322BCC77#32 ≠ 0 := by simp [Ideal.ofBits, Ideal.ieee, -EReal.coe_mul]
  unfold delta
  rw [newM_zero, newV_zero, zero_eq, Ideal.zero_div h1, Ideal.zero_div h2, hs, zero_add, Ideal.zero_div h3]
  simp

/-! The results, at an entry of the laid arrays. -/

theorem ref_m_apply (w g m v : Arrays EReal) (j : S120x128.Idx) : ref_m w g m v j = newM (laid zero g j) (laid zero m j) := by
  have e := laid_map (fun p : EReal × EReal × EReal × EReal => newM p.2.1 p.2.2.1) (zero, zero, zero, zero) (Arrays.four w g m v)
  rw [newM_zero] at e
  have eg := laid_map (fun p : EReal × EReal × EReal × EReal => p.2.1) (zero, zero, zero, zero) (Arrays.four w g m v)
  have em := laid_map (fun p : EReal × EReal × EReal × EReal => p.2.2.1) (zero, zero, zero, zero) (Arrays.four w g m v)
  exact (congrFun e j).trans (congrArg₂ newM (congrFun eg j).symm (congrFun em j).symm)

theorem ref_v_apply (w g m v : Arrays EReal) (j : S120x128.Idx) : ref_v w g m v j = newV (laid zero g j) (laid zero v j) := by
  have e := laid_map (fun p : EReal × EReal × EReal × EReal => newV p.2.1 p.2.2.2) (zero, zero, zero, zero) (Arrays.four w g m v)
  rw [newV_zero] at e
  have eg := laid_map (fun p : EReal × EReal × EReal × EReal => p.2.1) (zero, zero, zero, zero) (Arrays.four w g m v)
  have ev := laid_map (fun p : EReal × EReal × EReal × EReal => p.2.2.2) (zero, zero, zero, zero) (Arrays.four w g m v)
  exact (congrFun e j).trans (congrArg₂ newV (congrFun eg j).symm (congrFun ev j).symm)

theorem ref_d_apply (w g m v : Arrays EReal) (j : S120x128.Idx) :
    ref_d w g m v j = delta (laid zero w j) (laid zero g j) (laid zero m j) (laid zero v j) := by
  have e := laid_map (fun p : EReal × EReal × EReal × EReal => delta p.1 p.2.1 p.2.2.1 p.2.2.2) (zero, zero, zero, zero) (Arrays.four w g m v)
  rw [delta_zero] at e
  have ew := laid_map (fun p : EReal × EReal × EReal × EReal => p.1) (zero, zero, zero, zero) (Arrays.four w g m v)
  have eg := laid_map (fun p : EReal × EReal × EReal × EReal => p.2.1) (zero, zero, zero, zero) (Arrays.four w g m v)
  have em := laid_map (fun p : EReal × EReal × EReal × EReal => p.2.2.1) (zero, zero, zero, zero) (Arrays.four w g m v)
  have ev := laid_map (fun p : EReal × EReal × EReal × EReal => p.2.2.2) (zero, zero, zero, zero) (Arrays.four w g m v)
  exact (congrFun e j).trans (delta_congr (congrFun ew j).symm (congrFun eg j).symm (congrFun em j).symm (congrFun ev j).symm)

end Cert.RAsIdeal.Terms

namespace Cert.KAsIdeal.As

open Cert.KAsIdeal Cert.KAsIdeal.Gen Cert.RAsIdeal.Terms

variable (m : (ℓ : Loc nD τ sig) → Buf (Elt Ideal) ℓ)

/-- The four groups of arguments. -/
abbrev ws (c : Dev nD) : Arrays EReal :=
  ⟨m ((c : Thread nD τ).loc main_arg0), m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6), m ((c : Thread nD τ).loc main_arg7),
    m ((c : Thread nD τ).loc main_arg8)⟩
abbrev gs (c : Dev nD) : Arrays EReal :=
  ⟨m ((c : Thread nD τ).loc main_arg9), m ((c : Thread nD τ).loc main_arg10), m ((c : Thread nD τ).loc main_arg11), m ((c : Thread nD τ).loc main_arg12),
    m ((c : Thread nD τ).loc main_arg13), m ((c : Thread nD τ).loc main_arg14), m ((c : Thread nD τ).loc main_arg15), m ((c : Thread nD τ).loc main_arg16),
    m ((c : Thread nD τ).loc main_arg17)⟩
abbrev ms (c : Dev nD) : Arrays EReal :=
  ⟨m ((c : Thread nD τ).loc main_arg18), m ((c : Thread nD τ).loc main_arg19), m ((c : Thread nD τ).loc main_arg20), m ((c : Thread nD τ).loc main_arg21),
    m ((c : Thread nD τ).loc main_arg22), m ((c : Thread nD τ).loc main_arg23), m ((c : Thread nD τ).loc main_arg24), m ((c : Thread nD τ).loc main_arg25),
    m ((c : Thread nD τ).loc main_arg26)⟩
abbrev vs (c : Dev nD) : Arrays EReal :=
  ⟨m ((c : Thread nD τ).loc main_arg27), m ((c : Thread nD τ).loc main_arg28), m ((c : Thread nD τ).loc main_arg29), m ((c : Thread nD τ).loc main_arg30),
    m ((c : Thread nD τ).loc main_arg31), m ((c : Thread nD τ).loc main_arg32), m ((c : Thread nD τ).loc main_arg33), m ((c : Thread nD τ).loc main_arg34),
    m ((c : Thread nD τ).loc main_arg35)⟩

/-- The version's filling: the integer zero, converted. -/
abbrev fill : FVec Ideal S_ .f32 := sitofp .f32 (constantI S_ 32 0#32)

/-- The rows as the version fills them, in the order they are laid. -/
abbrev filled (a : Arrays EReal) : List ((s : Shape) × (s.Idx → EReal)) :=
  [⟨S2048, pad S2048 ![0] ![0] ![0] (shapeCast S2048 a.ffn1 shapeCasts_S2x1024_S2048) fill pads_S2048_S2048_000 h_S_⟩,
    ⟨S2048, pad S2048 ![0] ![0] ![0] (shapeCast S2048 a.mix shapeCasts_S2x1024_S2048) fill pads_S2048_S2048_000 h_S_⟩,
    ⟨S4096, pad S4096 ![0] ![128] ![0] (shapeCast S3968 a.conv shapeCasts_S2x31x64_S3968) fill pads_S3968_S4096_01280 h_S_⟩,
    ⟨S1024, pad S1024 ![0] ![0] ![0] (shapeCast S1024 a.bias shapeCasts_S2x512_S1024) fill pads_S1024_S1024_000 h_S_⟩,
    ⟨S1024, pad S1024 ![0] ![0] ![0] (shapeCast S1024 a.lnG shapeCasts_S2x512_S1024) fill pads_S1024_S1024_000 h_S_⟩,
    ⟨S1024, pad S1024 ![0] ![0] ![0] (shapeCast S1024 a.lnB shapeCasts_S2x512_S1024) fill pads_S1024_S1024_000 h_S_⟩,
    ⟨S1024, pad S1024 ![0] ![1008] ![0] (shapeCast S16 a.sinks shapeCasts_S2x8_S16) fill pads_S16_S1024_010080 h_S_⟩,
    ⟨S2048, pad S2048 ![0] ![0] ![0] (shapeCast S2048 a.ffn2 shapeCasts_S2x1024_S2048) fill pads_S2048_S2048_000 h_S_⟩,
    ⟨S1024, pad S1024 ![0] ![0] ![0] a.last fill pads_S1024_S1024_000 h_S_⟩]

/-- The version's array of the rows. -/
abbrev kept (a : Arrays EReal) : FVec Ideal S120x128 .f32 :=
  shapeCast S120x128 (concatenate S15360 0 (filled a) concatenates_S2048_S2048_S4096_S1024_S1024_S1024_S1024_S2048_S1024_S15360_d0)
    shapeCasts_S15360_S120x128

theorem fill_eq (i : S_.Idx) : fill i = zero := by
  rw [zero_eq]
  show ((((0 : BitVec 32).toInt : ℤ) : ℝ) : EReal) = 0
  simp

theorem filled_eq (a : Arrays EReal) : filled a = pieces zero a := by
  unfold filled pieces
  rw [pad_none, pad_none, pad_none, pad_none, pad_none, pad_none, pad_none,
    pad_tail _ _ pads_S3968_S4096_01280 h_S_ Cert.RAsIdeal.Gen.concatenates_S3968_S128_S4096_d0,
    pad_tail _ _ pads_S16_S1024_010080 h_S_ Cert.RAsIdeal.Gen.concatenates_S16_S1008_S1024_d0, fill_eq]

/-- The version's array is the reference's. -/
theorem kept_eq (a : Arrays EReal) : kept a = laid zero a := by
  have h : ∀ (l : List ((s : Shape) × (s.Idx → EReal))) (_ : l = pieces zero a) (hl : Shape.Concatenates (l.map (·.1)) S15360 0),
      shapeCast S120x128 (concatenate S15360 0 l hl) shapeCasts_S15360_S120x128 = laid zero a := by
    rintro _ rfl hl
    rfl
  exact h _ (filled_eq a) _

/-- Every window's block index at grid point `t`. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-! The four arrays at the region's entry. -/

set_option maxHeartbeats 8000000 in
theorem entry0 (c : Dev nD) : (show FVec Ideal S120x128 .f32 from V m c main_v18) = fun i => kept (ws m c) i := by
  unfold V; after_results; rfl

set_option maxHeartbeats 8000000 in
theorem entry1 (c : Dev nD) : (show FVec Ideal S120x128 .f32 from V m c main_v37) = fun i => kept (gs m c) i := by
  unfold V; after_results; rfl

set_option maxHeartbeats 8000000 in
theorem entry2 (c : Dev nD) : (show FVec Ideal S120x128 .f32 from V m c main_v56) = fun i => kept (ms m c) i := by
  unfold V; after_results; rfl

set_option maxHeartbeats 8000000 in
theorem entry3 (c : Dev nD) : (show FVec Ideal S120x128 .f32 from V m c main_v75) = fun i => kept (vs m c) i := by
  unfold V; after_results; rfl

/-! The three stores' values at an entry. -/

theorem pay_m (g x : Vec Ideal S120x128 .f32) (j : S120x128.Idx) : k0_pay2 g x j = newM (g j) (x j) := by
  pointwise [k0_pay1, k0_pay2, newM]
theorem pay_v (g x : Vec Ideal S120x128 .f32) (j : S120x128.Idx) : k0_pay3 g x j = newV (g j) (x j) := by
  pointwise [k0_pay1, k0_pay3, newV]
theorem pay_d (g x v w : Vec Ideal S120x128 .f32) (j : S120x128.Idx) : k0_pay4 g x v w j = delta (w j) (g j) (x j) (v j) := by
  pointwise [k0_pay1, k0_pay2, k0_pay3, k0_pay4, newM, newV, delta]

/-! The blocks, which are the arrays. -/

theorem blk0 (c : Dev nD) (t : Fin cfg0.N) (y : S120x128.Idx) : (show FVec Ideal S120x128 .f32 from iblk m c 0 t) y = laid zero (ws m c) y := by
  blk_simp [iblk, idx t]; refine (congrFun (entry0 m c) _).trans ?_; rw [kept_eq]; blk_ext [idx t]
theorem blk1 (c : Dev nD) (t : Fin cfg0.N) (y : S120x128.Idx) : (show FVec Ideal S120x128 .f32 from iblk m c 1 t) y = laid zero (gs m c) y := by
  blk_simp [iblk, idx t]; refine (congrFun (entry1 m c) _).trans ?_; rw [kept_eq]; blk_ext [idx t]
theorem blk2 (c : Dev nD) (t : Fin cfg0.N) (y : S120x128.Idx) : (show FVec Ideal S120x128 .f32 from iblk m c 2 t) y = laid zero (ms m c) y := by
  blk_simp [iblk, idx t]; refine (congrFun (entry2 m c) _).trans ?_; rw [kept_eq]; blk_ext [idx t]
theorem blk3 (c : Dev nD) (t : Fin cfg0.N) (y : S120x128.Idx) : (show FVec Ideal S120x128 .f32 from iblk m c 3 t) y = laid zero (vs m c) y := by
  blk_simp [iblk, idx t]; refine (congrFun (entry3 m c) _).trans ?_; rw [kept_eq]; blk_ext [idx t]

set_option maxHeartbeats 1600000 in
/-- The weights' changes. -/
theorem final_4 (c : Dev nD) : (dats m 0 c).arrAt 4 (cfgs 0).N = ref_d (ws m c) (gs m c) (ms m c) (vs m c) := by
  refine (dats m 0 c).arrAt_eq_of_covers 4 _ (by decide +kernel) fun t hf y => ?_
  blk_simp; rw [after0_4]; frame_out
  rw [pay_d, ref_d_apply]
  refine delta_congr ?_ ?_ ?_ ?_
  · refine (blk0 m c t _).trans ?_; blk_ext [idx t]
  · refine (blk1 m c t _).trans ?_; blk_ext [idx t]
  · refine (blk2 m c t _).trans ?_; blk_ext [idx t]
  · refine (blk3 m c t _).trans ?_; blk_ext [idx t]

set_option maxHeartbeats 1600000 in
/-- The first moments. -/
theorem final_5 (c : Dev nD) : (dats m 0 c).arrAt 5 (cfgs 0).N = ref_m (ws m c) (gs m c) (ms m c) (vs m c) := by
  refine (dats m 0 c).arrAt_eq_of_covers 5 _ (by decide +kernel) fun t hf y => ?_
  blk_simp; rw [after0_5]; frame_out
  rw [pay_m, ref_m_apply]
  refine congrArg₂ newM ?_ ?_
  · refine (blk1 m c t _).trans ?_; blk_ext [idx t]
  · refine (blk2 m c t _).trans ?_; blk_ext [idx t]

set_option maxHeartbeats 1600000 in
/-- The second moments. -/
theorem final_6 (c : Dev nD) : (dats m 0 c).arrAt 6 (cfgs 0).N = ref_v (ws m c) (gs m c) (ms m c) (vs m c) := by
  refine (dats m 0 c).arrAt_eq_of_covers 6 _ (by decide +kernel) fun t hf y => ?_
  blk_simp; rw [after0_6]; frame_out
  rw [pay_v, ref_v_apply]
  refine congrArg₂ newV ?_ ?_
  · refine (blk1 m c t _).trans ?_; blk_ext [idx t]
  · refine (blk3 m c t _).trans ?_; blk_ext [idx t]

end Cert.KAsIdeal.As

end
-- ==== Proof.AsRef.lean ====
/- The reference's three results of the small weights' step (`Cert.RAsIdeal`), as the terms of `Cert.RAsIdeal.Terms`. -/
module

public import proofs.«01_k».proof.Proof.Gen.RAsIdeal.Run
public import proofs.«01_k».proof.Proof.As

@[expose] public section

set_option maxRecDepth 16384

noncomputable section

open Idealize.ShloMosaic Idealize.ShloMosaic.TcCoe Idealize.ShloMosaic.StableHlo Idealize.SL.Sem

namespace Cert.RAsIdeal.Terms

open Cert.RAsIdeal Cert.RAsIdeal.Gen Cert.RAsIdeal.Value

variable (m : (ℓ : Loc nD τ sig) → Buf (Elt Ideal) ℓ)

/-- The four groups of the reference's arguments. -/
abbrev ws (c : Dev nD) : Arrays EReal :=
  ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4), m ((c.tc : Thread nD τ).loc main_arg5),
    m ((c.tc : Thread nD τ).loc main_arg6), m ((c.tc : Thread nD τ).loc main_arg7), m ((c.tc : Thread nD τ).loc main_arg8)⟩
abbrev gs (c : Dev nD) : Arrays EReal :=
  ⟨m ((c.tc : Thread nD τ).loc main_arg9), m ((c.tc : Thread nD τ).loc main_arg10), m ((c.tc : Thread nD τ).loc main_arg11),
    m ((c.tc : Thread nD τ).loc main_arg12), m ((c.tc : Thread nD τ).loc main_arg13), m ((c.tc : Thread nD τ).loc main_arg14),
    m ((c.tc : Thread nD τ).loc main_arg15), m ((c.tc : Thread nD τ).loc main_arg16), m ((c.tc : Thread nD τ).loc main_arg17)⟩
abbrev ms (c : Dev nD) : Arrays EReal :=
  ⟨m ((c.tc : Thread nD τ).loc main_arg18), m ((c.tc : Thread nD τ).loc main_arg19), m ((c.tc : Thread nD τ).loc main_arg20),
    m ((c.tc : Thread nD τ).loc main_arg21), m ((c.tc : Thread nD τ).loc main_arg22), m ((c.tc : Thread nD τ).loc main_arg23),
    m ((c.tc : Thread nD τ).loc main_arg24), m ((c.tc : Thread nD τ).loc main_arg25), m ((c.tc : Thread nD τ).loc main_arg26)⟩
abbrev vs (c : Dev nD) : Arrays EReal :=
  ⟨m ((c.tc : Thread nD τ).loc main_arg27), m ((c.tc : Thread nD τ).loc main_arg28), m ((c.tc : Thread nD τ).loc main_arg29),
    m ((c.tc : Thread nD τ).loc main_arg30), m ((c.tc : Thread nD τ).loc main_arg31), m ((c.tc : Thread nD τ).loc main_arg32),
    m ((c.tc : Thread nD τ).loc main_arg33), m ((c.tc : Thread nD τ).loc main_arg34), m ((c.tc : Thread nD τ).loc main_arg35)⟩

set_option maxHeartbeats 8000000 in
/-- The weights' changes. -/
theorem d_eq (c : Dev nD) : shapeCast _ (show FVec Ideal S15360 .f32 from res_main_v228 (F := Ideal) (launchContents m c)) shapeCasts_S15360_S120x128 = ref_d (ws m c) (gs m c) (ms m c) (vs m c) := by
  unfold res_main_v228 res_main_v4 res_main_v28 res_main_v52 res_main_v76 res_main_v100 res_main_v124 res_main_v148 res_main_v172 res_main_v196
    res_main_v10 res_main_v34 res_main_v58 res_main_v82 res_main_v106 res_main_v130 res_main_v154 res_main_v178 res_main_v202
  rfl

/-- The new first moments of the small weights, as the reference's terms. -/
abbrev newMs (V0 : Valuation τ sig (Elt Ideal)) : Arrays EReal :=
  ⟨res_main_v4 V0, res_main_v28 V0, res_main_v52 V0, res_main_v76 V0, res_main_v100 V0, res_main_v124 V0, res_main_v148 V0, res_main_v172 V0, res_main_v196 V0⟩

/-- The new second moments. -/
abbrev newVs (V0 : Valuation τ sig (Elt Ideal)) : Arrays EReal :=
  ⟨res_main_v10 V0, res_main_v34 V0, res_main_v58 V0, res_main_v82 V0, res_main_v106 V0, res_main_v130 V0, res_main_v154 V0, res_main_v178 V0, res_main_v202 V0⟩

set_option maxHeartbeats 8000000 in
theorem m_eq (c : Dev nD) : laid zero (newMs (launchContents m c)) = ref_m (ws m c) (gs m c) (ms m c) (vs m c) := by
  unfold newMs res_main_v4 res_main_v28 res_main_v52 res_main_v76 res_main_v100 res_main_v124 res_main_v148 res_main_v172 res_main_v196
  rfl

set_option maxHeartbeats 8000000 in
theorem v_eq (c : Dev nD) : laid zero (newVs (launchContents m c)) = ref_v (ws m c) (gs m c) (ms m c) (vs m c) := by
  unfold newVs res_main_v10 res_main_v34 res_main_v58 res_main_v82 res_main_v106 res_main_v130 res_main_v154 res_main_v178 res_main_v202
  rfl

end Cert.RAsIdeal.Terms

end
-- ==== Proof.AsClaims.lean ====
/- The claims about the optimiser's step for the small weights (`Cert.KAs`, `Cert.KAsIdeal`, `Cert.RAsIdeal`): each program runs and leaves
   its arguments as they were; over the extended reals the call's results are the reference's. -/
module

public import proofs.«01_k».proof.Defs
public import proofs.«01_k».proof.Proof.Gen.KAs.Frame
public import proofs.«01_k».proof.Proof.Gen.KAsIdeal.Value
public import proofs.«01_k».proof.Proof.Gen.RAsIdeal.Run
public import proofs.«01_k».proof.Proof.As
public import proofs.«01_k».proof.Proof.AsRef
public import Idealize.ShloMosaic.Lib.Claim

@[expose] public section

namespace Cert.Proof.As

open Idealize.ShloMosaic Idealize.SL.Sem

/-- The kernel as printed: it terminates, and its arguments end unchanged. -/
theorem frame_kernel : Cert.quiescent_KAs := fun m ρ _ => Cert.KAs.Gen.frame m ρ

/-- The kernel over the extended reals: likewise. -/
theorem frame_ideal : Cert.quiescent_KAsIdeal := fun m ρ _ => Cert.KAsIdeal.Gen.frame m ρ

/-- The reference: likewise. -/
theorem frame_reference : Cert.quiescent_RAsIdeal := fun m ρ _ =>
  (θ_run Cert.RAsIdeal.defs _ _).mono (fun r h => ⟨fun c => (h c).2.2.2, sem_eq_zero_of_no_sems (by decide) r.2⟩)
    (Cert.RAsIdeal.Value.run (F := Ideal) m ρ)

set_option maxRecDepth 16384 in
set_option maxHeartbeats 8000000 in
/-- The results agree. -/
theorem algebraic : Cert.algebraic_KAsIdeal_RAsIdeal := by
  pair_intro
  · run_from Cert.KAsIdeal.Value.run_blocks (F := Ideal) m g
  · have hw : ∀ c, RAsIdeal.Terms.ws m' c = KAsIdeal.As.ws m c := by
      intro c
      unfold RAsIdeal.Terms.ws KAsIdeal.As.ws
      obtain ⟨h0, h1, h2, h3, h4, h5, h6, h7, h8, h⟩ := hagree c
      rw [h0, h1, h2, h3, h4, h5, h6, h7, h8]
    have hg : ∀ c, RAsIdeal.Terms.gs m' c = KAsIdeal.As.gs m c := by
      intro c
      unfold RAsIdeal.Terms.gs KAsIdeal.As.gs
      obtain ⟨-, -, -, -, -, -, -, -, -, h0, h1, h2, h3, h4, h5, h6, h7, h8, h⟩ := hagree c
      rw [h0, h1, h2, h3, h4, h5, h6, h7, h8]
    have hm : ∀ c, RAsIdeal.Terms.ms m' c = KAsIdeal.As.ms m c := by
      intro c
      unfold RAsIdeal.Terms.ms KAsIdeal.As.ms
      obtain ⟨-, -, -, -, -, -, -, -, -, -, -, -, -, -, -, -, -, -, h0, h1, h2, h3, h4, h5, h6, h7, h8, h⟩ := hagree c
      rw [h0, h1, h2, h3, h4, h5, h6, h7, h8]
    have hv : ∀ c, RAsIdeal.Terms.vs m' c = KAsIdeal.As.vs m c := by
      intro c
      unfold RAsIdeal.Terms.vs KAsIdeal.As.vs
      obtain ⟨-, -, -, -, -, -, -, -, -, -, -, -, -, -, -, -, -, -, -, -, -, -, -, -, -, -, -, h0, h1, h2, h3, h4, h5, h6, h7, h8⟩ := hagree c
      rw [h0, h1, h2, h3, h4, h5, h6, h7, h8]
    run_from Cert.RAsIdeal.Value.run (F := Ideal) m' g'
    · refine (RAsIdeal.Terms.d_eq m' c).trans ?_
      rw [hw, hg, hm, hv]
      exact (KAsIdeal.As.final_4 m c).symm
    · refine (RAsIdeal.Terms.m_eq m' c).trans ?_
      rw [hw, hg, hm, hv]
      exact (KAsIdeal.As.final_5 m c).symm
    · refine (RAsIdeal.Terms.v_eq m' c).trans ?_
      rw [hw, hg, hm, hv]
      exact (KAsIdeal.As.final_6 m c).symm

end Cert.Proof.As
-- ==== Proof.Mi.lean ====
/- What the mixer's projection in leaves (`Cert.KMiIdeal`): the normalised input, the turned queries and keys with the values, and the
   gated branch's input. -/
module

public import proofs.«01_k».proof.Proof.Gen.KMiIdeal
public import proofs.«01_k».proof.Proof.Gen.KMiIdeal.Skeleton
public import proofs.«01_k».proof.Proof.Gen.KMiIdeal.Launch
public import proofs.«01_k».proof.Proof.Gen.KMiIdeal.Points
public import proofs.«01_k».proof.Proof.Gen.KMiIdeal.Frame
public import proofs.«01_k».proof.Proof.Gen.RMiIdeal
public import proofs.«01_k».proof.Proof.Gen.RMiIdeal.Run
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.RMiIdeal.Terms

open Cert.RMiIdeal Cert.RMiIdeal.Gen

/-- The normalised input. -/
def hn (a0 : FVec Ideal S8192x1024 .f32) (a1 : FVec Ideal S2x1024 .f32) : FVec Ideal S8192x1024 .f32 :=
  mulf (mulf a0 (broadcastInDim S8192x1024 ![0, 1] bcast_S8192x1_S8192x1024_0_1 (Host.rsqrt (addf
    (Host.divf (broadcastInDim S8192x1 ![0] bcast_S8192_S8192x1_0 (Host.reduceAdd (mulf a0 a0) (constant S_ .f32
    0x00000000#32) reducesTo_S8192x1024_S8192_d1 h_S_)) (broadcastInDim S8192x1 ![] bcast_S_S8192x1 (constant S_ .f32
    0x44800000#32))) (broadcastInDim S8192x1 ![] bcast_S_S8192x1 (constant S_ .f32 0x3727C5AC#32)))))) (broadcastInDim
    S8192x1024 ![0, 1] bcast_S1x1024_S8192x1024_0_1 (broadcastInDim S1x1024 ![1] bcast_S1024_S1x1024_1 (shapeCast _
    (extractStridedSlice S1x1024 ![0, 0] a1 slices_S2x1024_S1x1024_0_0) shapeCasts_S1x1024_S1024)))

/-- The product with `w_in`. -/
def prod (h : FVec Ideal S8192x1024 .f32) (w : FVec Ideal S1024x1792 .f32) : FVec Ideal S8192x1792 .f32 :=
  Host.dotGeneral dot_S8192x1024_S1024x1792_S8192x1792_1_0_0_1_n_n none h w

/-- The convolution's input: the projection's last columns. -/
def ref_u (p : FVec Ideal S8192x1792 .f32) : FVec Ideal S8192x1024 .bf16 :=
  truncf .bf16 (extractStridedSlice S8192x1024 ![0, 768] p slices_S8192x1792_S8192x1024_0_768) bitsLt_bf16_f32

/-- The rotary embedding of the eight query heads. -/
def rope8 (t : FVec Ideal S8192x8x64 .f32) (c s : FVec Ideal S8192x32 .f32) : FVec Ideal S8192x8x64 .f32 :=
  concatenate S8192x8x64 2 [⟨S8192x8x32, (subf (mulf (extractStridedSlice S8192x8x32 ![0, 0, 0] t slices_S8192x8x64_S8192x8x32_0_0_0) (broadcastInDim S8192x8x32 ![0, 1, 2] bcast_S8192x1x32_S8192x8x32_0_1_2 (broadcastInDim S8192x1x32 ![0, 2] bcast_S8192x32_S8192x1x32_0_2 c)))
      (mulf (extractStridedSlice S8192x8x32 ![0, 0, 32] t slices_S8192x8x64_S8192x8x32_0_0_32) (broadcastInDim S8192x8x32 ![0, 1, 2] bcast_S8192x1x32_S8192x8x32_0_1_2 (broadcastInDim S8192x1x32 ![0, 2] bcast_S8192x32_S8192x1x32_0_2 s))))⟩,
    ⟨S8192x8x32, (addf (mulf (extractStridedSlice S8192x8x32 ![0, 0, 32] t slices_S8192x8x64_S8192x8x32_0_0_32) (broadcastInDim S8192x8x32 ![0, 1, 2] bcast_S8192x1x32_S8192x8x32_0_1_2 (broadcastInDim S8192x1x32 ![0, 2] bcast_S8192x32_S8192x1x32_0_2 c)))
      (mulf (extractStridedSlice S8192x8x32 ![0, 0, 0] t slices_S8192x8x64_S8192x8x32_0_0_0) (broadcastInDim S8192x8x32 ![0, 1, 2] bcast_S8192x1x32_S8192x8x32_0_1_2 (broadcastInDim S8192x1x32 ![0, 2] bcast_S8192x32_S8192x1x32_0_2 s))))⟩] concatenates_S8192x8x32_S8192x8x32_S8192x8x64_d2

/-- The rotary embedding of the two key heads. -/
def rope2 (t : FVec Ideal S8192x2x64 .f32) (c s : FVec Ideal S8192x32 .f32) : FVec Ideal S8192x2x64 .f32 :=
  concatenate S8192x2x64 2 [⟨S8192x2x32, (subf (mulf (extractStridedSlice S8192x2x32 ![0, 0, 0] t slices_S8192x2x64_S8192x2x32_0_0_0) (broadcastInDim S8192x2x32 ![0, 1, 2] bcast_S8192x1x32_S8192x2x32_0_1_2 (broadcastInDim S8192x1x32 ![0, 2] bcast_S8192x32_S8192x1x32_0_2 c)))
      (mulf (extractStridedSlice S8192x2x32 ![0, 0, 32] t slices_S8192x2x64_S8192x2x32_0_0_32) (broadcastInDim S8192x2x32 ![0, 1, 2] bcast_S8192x1x32_S8192x2x32_0_1_2 (broadcastInDim S8192x1x32 ![0, 2] bcast_S8192x32_S8192x1x32_0_2 s))))⟩,
    ⟨S8192x2x32, (addf (mulf (extractStridedSlice S8192x2x32 ![0, 0, 32] t slices_S8192x2x64_S8192x2x32_0_0_32) (broadcastInDim S8192x2x32 ![0, 1, 2] bcast_S8192x1x32_S8192x2x32_0_1_2 (broadcastInDim S8192x1x32 ![0, 2] bcast_S8192x32_S8192x1x32_0_2 c)))
      (mulf (extractStridedSlice S8192x2x32 ![0, 0, 0] t slices_S8192x2x64_S8192x2x32_0_0_0) (broadcastInDim S8192x2x32 ![0, 1, 2] bcast_S8192x1x32_S8192x2x32_0_1_2 (broadcastInDim S8192x1x32 ![0, 2] bcast_S8192x32_S8192x1x32_0_2 s))))⟩] concatenates_S8192x2x32_S8192x2x32_S8192x2x64_d2

/-- The queries, the keys and the values, of the projection's columns `p`. -/
def qkv (p : FVec Ideal S8192x1792 .f32) (c s : FVec Ideal S8192x32 .f32) : FVec Ideal S8192x768 .bf16 :=
  truncf .bf16 (concatenate S8192x768 1 [⟨S8192x512, shapeCast S8192x512 (mulf (rope8 (shapeCast S8192x8x64 (extractStridedSlice S8192x512 ![0, 0] p slices_S8192x1792_S8192x512_0_0) shapeCasts_S8192x512_S8192x8x64) c s)
        (broadcastInDim S8192x8x64 ![] bcast_S_S8192x8x64 (constant S_ .f32 0x3E000000#32))) shapeCasts_S8192x8x64_S8192x512⟩,
    ⟨S8192x128, shapeCast S8192x128 (rope2 (shapeCast S8192x2x64 (extractStridedSlice S8192x128 ![0, 512] p slices_S8192x1792_S8192x128_0_512) shapeCasts_S8192x128_S8192x2x64) c s) shapeCasts_S8192x2x64_S8192x128⟩,
    ⟨S8192x128, extractStridedSlice S8192x128 ![0, 640] p slices_S8192x1792_S8192x128_0_640⟩] concatenates_S8192x512_S8192x128_S8192x128_S8192x768_d1) bitsLt_bf16_f32

/-- Column `j` of row `r`, turned: the first half of a head's columns takes the second half's, and the second the first's. -/
def turned (p : FVec Ideal S8192x1792 .f32) (c s : FVec Ideal S8192x32 .f32) (r : Fin 8192) (j : Fin 640) : EReal :=
  if h : (j : ℕ) % 64 < 32 then
    p (ix2 r ⟨j, by omega⟩) * c (ix2 r ⟨(j : ℕ) % 32, by omega⟩) - p (ix2 r ⟨j + 32, by omega⟩) * s (ix2 r ⟨(j : ℕ) % 32, by omega⟩)
  else p (ix2 r ⟨j, by omega⟩) * c (ix2 r ⟨(j : ℕ) % 32, by omega⟩) + p (ix2 r ⟨j - 32, by omega⟩) * s (ix2 r ⟨(j : ℕ) % 32, by omega⟩)

theorem col {n : ℕ} (p : (⟨2, ![8192, n]⟩ : Shape).Idx → EReal) (r : Fin 8192) {a b : Fin n} (h : (a : ℕ) = b) : p (ix2 r a) = p (ix2 r b) := by
  rw [Fin.ext h]

theorem rope8_apply (t : FVec Ideal S8192x8x64 .f32) (c s : FVec Ideal S8192x32 .f32) (r : Fin 8192) (h : Fin 8) (l : Fin 64) :
    rope8 t c s (ix3 r h l) = if hl : (l : ℕ) < 32 then t (ix3 r h l) * c (ix2 r ⟨l, hl⟩) - t (ix3 r h ⟨l + 32, by omega⟩) * s (ix2 r ⟨l, hl⟩)
      else t (ix3 r h l) * c (ix2 r ⟨l - 32, by omega⟩) + t (ix3 r h ⟨l - 32, by omega⟩) * s (ix2 r ⟨l - 32, by omega⟩) := by
  pointwise [rope8]
  by_cases h1 : (l : ℕ) < 32
  · rw [dif_pos h1, dif_pos h1]
    simp only [Nat.add_comm 32]
  · rw [dif_neg h1, dif_neg h1]
    simp only [show 32 + ((l : ℕ) - 32) = l by omega]

theorem rope2_apply (t : FVec Ideal S8192x2x64 .f32) (c s : FVec Ideal S8192x32 .f32) (r : Fin 8192) (h : Fin 2) (l : Fin 64) :
    rope2 t c s (ix3 r h l) = if hl : (l : ℕ) < 32 then t (ix3 r h l) * c (ix2 r ⟨l, hl⟩) - t (ix3 r h ⟨l + 32, by omega⟩) * s (ix2 r ⟨l, hl⟩)
      else t (ix3 r h l) * c (ix2 r ⟨l - 32, by omega⟩) + t (ix3 r h ⟨l - 32, by omega⟩) * s (ix2 r ⟨l - 32, by omega⟩) := by
  pointwise [rope2]
  by_cases h1 : (l : ℕ) < 32
  · rw [dif_pos h1, dif_pos h1]
    simp only [Nat.add_comm 32]
  · rw [dif_neg h1, dif_neg h1]
    simp only [show 32 + ((l : ℕ) - 32) = l by omega]

theorem qkv_low (p : FVec Ideal S8192x1792 .f32) (c s : FVec Ideal S8192x32 .f32) (r : Fin 8192) (j : Fin 768) (hj : (j : ℕ) < 512) :
    qkv p c s (ix2 r j) = turned p c s r ⟨j, by omega⟩ * Ideal.ofBits .f32 0x3E000000#32 := by
  pointwise [qkv]
  rw [dif_pos hj, rope8_apply]
  refine congrArg (· * _) ?_
  pointwise [turned]
  by_cases h1 : (j : ℕ) % 64 < 32
  · rw [dif_pos h1, dif_pos h1]
    exact congrArg₂ (· - ·) (congrArg₂ (· * ·) (col p r (by simp only; omega)) (col c r (by simp only; omega)))
      (congrArg₂ (· * ·) (col p r (by simp only; omega)) (col s r (by simp only; omega)))
  · rw [dif_neg h1, dif_neg h1]
    exact congrArg₂ (· + ·) (congrArg₂ (· * ·) (col p r (by simp only; omega)) (col c r (by simp only; omega)))
      (congrArg₂ (· * ·) (col p r (by simp only; omega)) (col s r (by simp only; omega)))

theorem qkv_mid (p : FVec Ideal S8192x1792 .f32) (c s : FVec Ideal S8192x32 .f32) (r : Fin 8192) (j : Fin 768) (hj : 512 ≤ (j : ℕ)) (hj' : (j : ℕ) < 640) :
    qkv p c s (ix2 r j) = turned p c s r ⟨j, by omega⟩ := by
  pointwise [qkv]
  rw [dif_neg (by omega), dif_pos (by omega), rope2_apply]
  pointwise [turned]
  by_cases h1 : (j : ℕ) % 64 < 32
  · rw [dif_pos h1, dif_pos (by omega)]
    exact congrArg₂ (· - ·) (congrArg₂ (· * ·) (col p r (by simp only; omega)) (col c r (by simp only; omega)))
      (congrArg₂ (· * ·) (col p r (by simp only; omega)) (col s r (by simp only; omega)))
  · rw [dif_neg h1, dif_neg (by omega)]
    exact congrArg₂ (· + ·) (congrArg₂ (· * ·) (col p r (by simp only; omega)) (col c r (by simp only; omega)))
      (congrArg₂ (· * ·) (col p r (by simp only; omega)) (col s r (by simp only; omega)))

theorem qkv_high (p : FVec Ideal S8192x1792 .f32) (c s : FVec Ideal S8192x32 .f32) (r : Fin 8192) (j : Fin 768) (hj : 640 ≤ (j : ℕ)) :
    qkv p c s (ix2 r j) = p (ix2 r ⟨j, by omega⟩) := by
  pointwise [qkv]
  rw [dif_neg (by omega), dif_neg (by omega)]
  blk_ext

/-- The reference's projected queries, keys and values, as its run states them. -/
theorem v58_eq (m : (ℓ : Loc nD τ sig) → Buf (Elt Ideal) ℓ) (c : Dev nD) :
    Cert.RMiIdeal.Value.res_main_v58 m c = qkv (prod (hn (m ((c : Thread nD τ).loc main_arg0)) (m ((c : Thread nD τ).loc main_arg1)))
      (m ((c : Thread nD τ).loc main_arg2))) (m ((c : Thread nD τ).loc main_arg3)) (m ((c : Thread nD τ).loc main_arg4)) := by
  unfold Cert.RMiIdeal.Value.res_main_v58
  rfl

end Cert.RMiIdeal.Terms

namespace Cert.KMiIdeal.Mi

open Cert.KMiIdeal Cert.KMiIdeal.Gen Cert.RMiIdeal.Terms

theorem pay11 (p : FVec Ideal S1024x640 .f32) (c s : FVec Ideal S1024x128 .f32) (r : Fin 1024) (j : Fin 640) :
    k0_pay11 p c s 64#32 k0_pay8 k0_pay9 k0_pay10 0#1 (ix2 r j)
      = p (ix2 r j) * c (ix2 r ⟨(j : ℕ) % 128, by omega⟩)
        + (if h : (j : ℕ) % 64 < 32 then p (ix2 r ⟨j + 32, by omega⟩) else p (ix2 r ⟨j - 32, by omega⟩)) * s (ix2 r ⟨(j : ℕ) % 128, by omega⟩) := by
  pointwise [k0_pay11, k0_pay8, k0_pay9, k0_pay10]
  have hm : ∀ i : Fin 640, IntOp.cmpi .slt (Scalar.select (IntOp.andi (IntOp.xori (IntOp.cmpi .slt
      (IntOp.remsi .vector (BitVec.ofNat 32 i) (Scalar.select (Scalar.cmpi .eq 64#32 0#32) 1#32 64#32)) 0#32) 0#1)
      (IntOp.cmpi .ne (IntOp.remsi .vector (BitVec.ofNat 32 i) (Scalar.select (Scalar.cmpi .eq 64#32 0#32) 1#32 64#32)) 0#32))
      (IntOp.addi (IntOp.remsi .vector (BitVec.ofNat 32 i) (Scalar.select (Scalar.cmpi .eq 64#32 0#32) 1#32 64#32)) 64#32)
      (IntOp.remsi .vector (BitVec.ofNat 32 i) (Scalar.select (Scalar.cmpi .eq 64#32 0#32) 1#32 64#32))) 32#32
      = if (i : ℕ) % 64 < 32 then 1#1 else 0#1 := by decide +kernel
  rw [hm j]
  have hj := j.isLt
  refine congrArg₂ (· + ·) (congrArg₂ (· * ·) rfl ?_) (congrArg₂ (· * ·) ?_ ?_)
  · split_ifs <;> exact congrArg c (congrArg (ix2 r) (Fin.ext (by simp only; omega)))
  · split_ifs with h
    · exact congrArg p (congrArg (ix2 r) (Fin.ext (by simp only; omega)))
    · exact congrArg p (congrArg (ix2 r) (Fin.ext (by simp only; omega)))
  · split_ifs <;> exact congrArg s (congrArg (ix2 r) (Fin.ext (by simp only; omega)))

variable (m : (ℓ : Loc nD τ sig) → Buf (Elt Ideal) ℓ)

/-- Every window's block index at grid point `t`. -/
theorem idx : ∀ t : Fin cfg0.N, win0_0.index t = ![t.val, 0] ∧ win0_1.index t = ![0, 0, 0] ∧ win0_2.index t = ![0, 0, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The projected input's columns. -/
abbrev P (c : Dev nD) : FVec Ideal RMiIdeal.S8192x1792 .f32 :=
  prod (hn (m ((c : Thread nD τ).loc main_arg0)) (m ((c : Thread nD τ).loc main_arg1))) (m ((c : Thread nD τ).loc main_arg2))

/-- The gains' array at the region's entry. -/
theorem entry_norm (c : Dev nD) : (show FVec Ideal S2x1x1024 .f32 from V m c main_v4) = fun i =>
    shapeCast S2x1x1024 (show FVec Ideal S2x1024 .f32 from m ((c : Thread nD τ).loc main_arg1)) shapeCasts_S2x1024_S2x1x1024 i := by
  unfold V; after_results; rfl

/-- The weights' array at the region's entry. -/
theorem entry_w (c : Dev nD) : (show FVec Ideal S1x1792x1024 .bf16 from V m c main_v7) = fun i =>
    broadcastInDim S1x1792x1024 ![1, 2] bcast_S1792x1024_S1x1792x1024_1_2 (transpose S1792x1024 [1, 0]
      (show FVec Ideal S1024x1792 .f32 from m ((c : Thread nD τ).loc main_arg2)) transposes_S1024x1792_S1792x1024_1_0) i := by
  unfold V; after_results; rfl

/-- The cosines' table at the region's entry. -/
theorem entry_cos (c : Dev nD) (r : Fin 8192) (l : Fin 128) : (show FVec Ideal S8192x128 .f32 from V m c main_v0) (ix2 r l)
    = m ((c : Thread nD τ).loc main_arg3) (ix2 r ⟨(l : ℕ) % 32, by omega⟩) := by
  unfold V; after_results
  pointwise
  have hl := l.isLt
  split_ifs <;> exact congrArg (m ((c : Thread nD τ).loc main_arg3)) (congrArg (ix2 r) (Fin.ext (by simp only; omega)))

/-- The sines' table at the region's entry, as the host builds it. -/
theorem entry_sines (c : Dev nD) : (show FVec Ideal S8192x128 .f32 from V m c main_v3) = fun i =>
    concatenate S8192x128 1 [⟨S8192x32, Host.negf (show FVec Ideal S8192x32 .f32 from m ((c : Thread nD τ).loc main_arg4))⟩,
      ⟨S8192x32, (show FVec Ideal S8192x32 .f32 from m ((c : Thread nD τ).loc main_arg4))⟩,
      ⟨S8192x32, Host.negf (show FVec Ideal S8192x32 .f32 from m ((c : Thread nD τ).loc main_arg4))⟩,
      ⟨S8192x32, (show FVec Ideal S8192x32 .f32 from m ((c : Thread nD τ).loc main_arg4))⟩]
      concatenates_S8192x32_S8192x32_S8192x32_S8192x32_S8192x128_d1 i := by
  unfold V; after_results; rfl

/-- Four copies of 32 columns, the first and the third negated. -/
theorem four_cols (f : Fin 32 → EReal) (l : Fin 128) :
    (if h : (l : ℕ) < 32 then -f ⟨l, h⟩ else if h : (l : ℕ) - 32 < 32 then f ⟨(l : ℕ) - 32, h⟩
      else if h : (l : ℕ) - 32 - 32 < 32 then -f ⟨(l : ℕ) - 32 - 32, h⟩ else f ⟨(l : ℕ) - 32 - 32 - 32, by omega⟩)
      = if (l : ℕ) % 64 < 32 then -f ⟨(l : ℕ) % 32, by omega⟩ else f ⟨(l : ℕ) % 32, by omega⟩ := by
  have hl := l.isLt
  have hc : ∀ {a b : Fin 32}, (a : ℕ) = b → f a = f b := fun h => by rw [Fin.ext h]
  by_cases h1 : (l : ℕ) < 32
  · rw [dif_pos h1, if_pos (by omega)]; exact congrArg _ (hc (by simp only; omega))
  rw [dif_neg h1]
  by_cases h2 : (l : ℕ) - 32 < 32
  · rw [dif_pos h2, if_neg (by omega)]; exact hc (by simp only; omega)
  rw [dif_neg h2]
  by_cases h3 : (l : ℕ) - 32 - 32 < 32
  · rw [dif_pos h3, if_pos (by omega)]; exact congrArg _ (hc (by simp only; omega))
  · rw [dif_neg h3, if_neg (by omega)]; exact hc (by simp only; omega)

/-- The first half of a head's columns has the sines negated. -/
theorem entry_sin (c : Dev nD) (r : Fin 8192) (l : Fin 128) : (show FVec Ideal S8192x128 .f32 from V m c main_v3) (ix2 r l)
    = if (l : ℕ) % 64 < 32 then -(show EReal from m ((c : Thread nD τ).loc main_arg4) (ix2 r ⟨(l : ℕ) % 32, by omega⟩))
      else m ((c : Thread nD τ).loc main_arg4) (ix2 r ⟨(l : ℕ) % 32, by omega⟩) := by
  rw [entry_sines]
  pointwise
  exact four_cols (fun a => m ((c : Thread nD τ).loc main_arg4) (ix2 r a)) l

/-- The gain's block is the gains' row 0. -/
theorem iblk1 (c : Dev nD) (t : Fin cfg0.N) (b : Fin 1024) :
    (show FVec Ideal S1x1x1024 .f32 from iblk m c 1 t) (ix3 0 0 b) = m ((c : Thread nD τ).loc main_arg1) (ix2 0 b) := by
  refine Eq.trans ?_ ((congrFun (entry_norm m c) (ix3 0 0 b)).trans ?_)
  · blk_point [iblk, idx t]
  · pointwise

/-- The weights' block. -/
theorem iblk2 (c : Dev nD) (t : Fin cfg0.N) (a : Fin 1792) (b : Fin 1024) :
    (show FVec Ideal S1x1792x1024 .bf16 from iblk m c 2 t) (ix3 0 a b) = m ((c : Thread nD τ).loc main_arg2) (ix2 b a) := by
  refine Eq.trans ?_ ((congrFun (entry_w m c) (ix3 0 a b)).trans ?_)
  · blk_point [iblk, idx t]
  · pointwise

/-- Row `r` of block `t`, as the array's row. -/
def row (t : Fin cfg0.N) (r : Fin 1024) : Fin 8192 :=
  ⟨1024 * t.val + r, by have h : t.val < 8 := lt_of_lt_of_eq t.isLt (by decide +kernel); omega⟩

theorem iblk3 (c : Dev nD) (t : Fin cfg0.N) (r : Fin 1024) (l : Fin 128) :
    (show FVec Ideal S1024x128 .f32 from iblk m c 3 t) (ix2 r l) = m ((c : Thread nD τ).loc main_arg3) (ix2 (row t r) ⟨(l : ℕ) % 32, by omega⟩) := by
  refine Eq.trans ?_ (entry_cos m c (row t r) l)
  blk_point [iblk, idx t, row]

theorem iblk4 (c : Dev nD) (t : Fin cfg0.N) (r : Fin 1024) (l : Fin 128) :
    (show FVec Ideal S1024x128 .f32 from iblk m c 4 t) (ix2 r l)
    = if (l : ℕ) % 64 < 32 then -(show EReal from m ((c : Thread nD τ).loc main_arg4) (ix2 (row t r) ⟨(l : ℕ) % 32, by omega⟩))
      else m ((c : Thread nD τ).loc main_arg4) (ix2 (row t r) ⟨(l : ℕ) % 32, by omega⟩) := by
  refine Eq.trans ?_ (entry_sin m c (row t r) l)
  blk_point [iblk, idx t, row]

/-- A row of the block that the body normalises is the row of the normalised input. -/
theorem norm_row (c : Dev nD) (t : Fin cfg0.N) (r : Fin 1024) (k : Fin 1024) :
    (show EReal from k0_pay4 (iblk m c 0 t) (iblk m c 1 t) (ix2 r k)) = hn (m ((c : Thread nD τ).loc main_arg0)) (m ((c : Thread nD τ).loc main_arg1)) (ix2 (row t r) k) := by
  pointwise [k0_pay4, hn]
  refine congrArg₂ (· * ·) ?_ ((iblk1 m c t _).trans ?_)
  · blk_point [iblk, V, idx t, row]
  · blk_ext [idx t]

/-- A column of the projected input, at a row of a block. -/
def proj (c : Dev nD) (t : Fin cfg0.N) (r : Fin 1024) (j : Fin 1792) : EReal :=
  ∑ k : Fin 1024, k0_pay4 (iblk m c 0 t) (iblk m c 1 t) (ix2 r k) * iblk m c 2 t (ix3 0 j k)

theorem proj_eq (c : Dev nD) (t : Fin cfg0.N) (r : Fin 1024) (j : Fin 1792) : proj m c t r j = P m c (ix2 (row t r) j) := by
  refine Eq.trans (Finset.sum_congr rfl fun k _ => congrArg₂ (· * ·) (norm_row m c t r k) (iblk2 m c t j k)) ?_
  pointwise [prod]

set_option maxHeartbeats 1600000 in
/-- The normalised input. -/
theorem final_5 (c : Dev nD) : (dats m 0 c).arrAt 5 (cfgs 0).N = hn (m ((c : Thread nD τ).loc main_arg0)) (m ((c : Thread nD τ).loc main_arg1)) := by
  refine (dats m 0 c).arrAt_eq_of_covers 5 _ (by decide +kernel) fun t hf y => ?_
  blk_simp; rw [after0_5]; unfold Gen.outsAt0; frame_out
  have hi : (win0_5.blk t).view.emb y = ix2 (row t (y 0)) (y 1) := by unfold row; blk_ext [idx t]
  rw [hi]
  refine Eq.trans ?_ (norm_row m c t (y 0) (y 1))
  blk_ext

set_option maxHeartbeats 3200000 in
/-- The block of the gated branch's inputs, chunk by chunk. -/
theorem out_7 (c : Dev nD) (t : Fin cfg0.N) (y : S1024x1024.Idx) : (outsAt0 m c t).2.2 y = proj m c t (y 0) ⟨768 + (y 1).val, by have h : (y 1).val < 1024 := (y 1).isLt; omega⟩ := by
  unfold Gen.outsAt0 proj; frame_out
  canon_tiles x h
  all_goals (simp only [k0_pay1, k0_pay2, k0_pay3, k0_pay15]; pointwise; rw [(Fin.ext h0 : y 0 = x 0)]; refine Finset.sum_congr rfl fun k _ => congrArg₂ (· * ·) rfl ?_; exact congrArg (fun j => iblk m c 2 t (ix3 0 j k)) (Fin.ext (by simp only; omega)))

set_option maxHeartbeats 1600000 in
theorem final_7 (c : Dev nD) : (dats m 0 c).arrAt 7 (cfgs 0).N = ref_u (P m c) := by
  refine (dats m 0 c).arrAt_eq_of_covers 7 _ (by decide +kernel) fun t hf y => ?_
  blk_simp; rw [after0_7]
  refine (out_7 m c t y).trans ?_
  have hi : (win0_7.blk t).view.emb y = ix2 (row t (y 0)) (y 1) := by unfold row; blk_ext [idx t]
  rw [hi]
  refine (proj_eq m c t (y 0) _).trans ?_
  generalize P m c = p
  unfold ref_u; pointwise

/-- The projected columns that the body turns. -/
theorem pay5_eq (c : Dev nD) (t : Fin cfg0.N) (r : Fin 1024) (j : Fin 640) :
    (show EReal from k0_pay5 (iblk m c 0 t) (iblk m c 1 t)
      (View.ld (iblk m c 2 t) (Rect.unit ![0, 0, 0] ![1, 640, 1024] inb_S1x1792x1024_S1x640x1024_0_0_0)) (ix2 r j))
      = P m c (ix2 (row t r) ⟨j, by omega⟩) := by
  refine Eq.trans ?_ (proj_eq m c t r ⟨j, by omega⟩)
  unfold proj
  pointwise [k0_pay5]

/-- Column `j` of the block, turned. -/
theorem pay11_eq (c : Dev nD) (t : Fin cfg0.N) (r : Fin 1024) (j : Fin 640) :
    (show EReal from k0_pay11 (k0_pay5 (iblk m c 0 t) (iblk m c 1 t)
      (View.ld (iblk m c 2 t) (Rect.unit ![0, 0, 0] ![1, 640, 1024] inb_S1x1792x1024_S1x640x1024_0_0_0)))
      (k0_pay6 (iblk m c 3 t)) (k0_pay7 (iblk m c 4 t)) 64#32 k0_pay8 k0_pay9 k0_pay10 0#1 (ix2 r j))
      = turned (P m c) (m ((c : Thread nD τ).loc main_arg3)) (m ((c : Thread nD τ).loc main_arg4)) (row t r) j := by
  refine (pay11 _ _ _ r j).trans ?_
  have hj := j.isLt
  have h6 : (show EReal from k0_pay6 (iblk m c 3 t) (ix2 r ⟨(j : ℕ) % 128, by omega⟩))
      = m ((c : Thread nD τ).loc main_arg3) (ix2 (row t r) ⟨(j : ℕ) % 32, by omega⟩) := by
    refine Eq.trans ?_ ((iblk3 m c t r ⟨(j : ℕ) % 128, by omega⟩).trans ?_)
    · pointwise [k0_pay6]
    · exact congrArg (m ((c : Thread nD τ).loc main_arg3)) (congrArg (ix2 _) (Fin.ext (by simp only; omega)))
  have h7 : (show EReal from k0_pay7 (iblk m c 4 t) (ix2 r ⟨(j : ℕ) % 128, by omega⟩))
      = if (j : ℕ) % 64 < 32 then -(show EReal from m ((c : Thread nD τ).loc main_arg4) (ix2 (row t r) ⟨(j : ℕ) % 32, by omega⟩))
        else m ((c : Thread nD τ).loc main_arg4) (ix2 (row t r) ⟨(j : ℕ) % 32, by omega⟩) := by
    refine Eq.trans ?_ ((iblk4 m c t r ⟨(j : ℕ) % 128, by omega⟩).trans ?_)
    · pointwise [k0_pay7]
    · simp only [show (j : ℕ) % 128 % 64 = (j : ℕ) % 64 by omega, show (j : ℕ) % 128 % 32 = (j : ℕ) % 32 by omega]
  refine (congrArg₂ (· + ·) (congrArg₂ (· * ·) (pay5_eq m c t r j) h6) (congrArg₂ (· * ·) rfl h7)).trans ?_
  unfold turned
  by_cases h1 : (j : ℕ) % 64 < 32
  · rw [dif_pos h1, if_pos h1, dif_pos h1]
    refine (congrArg₂ (· + ·) rfl (congrArg₂ (· * ·) (pay5_eq m c t r ⟨j + 32, by omega⟩) rfl)).trans ?_
    rw [sub_eq_add_neg]
    exact congrArg₂ (· + ·) rfl (mul_neg _ _)
  · rw [dif_neg h1, if_neg h1, dif_neg h1]
    exact congrArg₂ (· + ·) rfl (congrArg₂ (· * ·) (pay5_eq m c t r ⟨j - 32, by omega⟩) rfl)

set_option maxHeartbeats 3200000 in
theorem out_6 (c : Dev nD) (t : Fin cfg0.N) (y : S1024x768.Idx) : (outsAt0 m c t).2.1 y
    = qkv (P m c) (m ((c : Thread nD τ).loc main_arg3)) (m ((c : Thread nD τ).loc main_arg4)) (ix2 (row t (y 0)) (y 1)) := by
  unfold Gen.outsAt0; frame_out
  canon_tiles x h using (View.cover_of_tiledBy _ ![1024, 128] (by sl_kernel_rfl) _)
  · have hy : 640 ≤ (y 1 : ℕ) := by omega
    refine Eq.trans ?_ (qkv_high _ _ _ _ _ hy).symm
    refine Eq.trans ?_ (proj_eq m c t (y 0) ⟨(y 1 : ℕ), by omega⟩)
    unfold proj
    pointwise [k0_pay14]
    rw [(Fin.ext h0 : y 0 = x 0)]
    exact Finset.sum_congr rfl fun k _ => congrArg₂ (· * ·) rfl (congrArg (fun j => iblk m c 2 t (ix3 0 j k)) (Fin.ext h1.symm))
  · refine Eq.trans ?_ (qkv_mid _ _ _ _ _ (by omega) (by omega)).symm
    refine Eq.trans ?_ (pay11_eq m c t (y 0) ⟨(y 1 : ℕ), by omega⟩)
    pointwise [k0_pay13]
    rw [(Fin.ext h0 : y 0 = x 0)]
    exact congrArg (k0_pay11 _ _ _ _ _ _ _ _) (congrArg (ix2 _) (Fin.ext h1.symm))
  · refine Eq.trans ?_ (qkv_low _ _ _ _ _ (by omega)).symm
    refine Eq.trans ?_ (congrArg (· * _) (pay11_eq m c t (y 0) ⟨(y 1 : ℕ), by omega⟩))
    pointwise [k0_pay12]
    rw [(Fin.ext h0 : y 0 = x 0)]
    exact congrArg (· * _) (congrArg (k0_pay11 _ _ _ _ _ _ _ _) (congrArg (ix2 _) (Fin.ext h1.symm)))

set_option maxHeartbeats 1600000 in
theorem final_6 (c : Dev nD) : (dats m 0 c).arrAt 6 (cfgs 0).N = qkv (P m c) (m ((c : Thread nD τ).loc main_arg3)) (m ((c : Thread nD τ).loc main_arg4)) := by
  refine (dats m 0 c).arrAt_eq_of_covers 6 _ (by decide +kernel) fun t hf y => ?_
  blk_simp; rw [after0_6]
  refine (out_6 m c t y).trans ?_
  have hi : (win0_6.blk t).view.emb y = ix2 (row t (y 0)) (y 1) := by unfold row; blk_ext [idx t]
  exact congrArg _ hi.symm

end Cert.KMiIdeal.Mi

end
-- ==== Proof.MiClaims.lean ====
/- The claims about the mixer's projection in (`Cert.KMi`, `Cert.KMiIdeal`, `Cert.RMiIdeal`): each program runs and leaves its arguments
   as they were; over the extended reals the call's results are the reference's. -/
module

public import proofs.«01_k».proof.Defs
public import proofs.«01_k».proof.Proof.Gen.KMi.Frame
public import proofs.«01_k».proof.Proof.Gen.KMiIdeal.Value
public import proofs.«01_k».proof.Proof.Gen.RMiIdeal.Run
public import proofs.«01_k».proof.Proof.Mi
public import Idealize.ShloMosaic.Lib.Claim

@[expose] public section

namespace Cert.Proof.Mi

open Idealize.ShloMosaic Idealize.SL.Sem

/-- The kernel as printed: it terminates, and its arguments end unchanged. -/
theorem frame_kernel : Cert.quiescent_KMi := fun m ρ _ => Cert.KMi.Gen.frame m ρ

/-- The kernel over the extended reals: likewise. -/
theorem frame_ideal : Cert.quiescent_KMiIdeal := fun m ρ _ => Cert.KMiIdeal.Gen.frame m ρ

/-- The reference: likewise. -/
theorem frame_reference : Cert.quiescent_RMiIdeal := fun m ρ _ =>
  (θ_run Cert.RMiIdeal.defs _ _).mono (fun r h => ⟨fun c => (h c).2.2.2, sem_eq_zero_of_no_sems (by decide) r.2⟩)
    (Cert.RMiIdeal.Value.run (F := Ideal) m ρ)

set_option maxRecDepth 16384 in
set_option maxHeartbeats 1600000 in
/-- The results agree. -/
theorem algebraic : Cert.algebraic_KMiIdeal_RMiIdeal := by
  pair_intro
  · run_from Cert.KMiIdeal.Value.run_blocks (F := Ideal) m g
  · run_from Cert.RMiIdeal.Value.run (F := Ideal) m' g'
    · exact (Cert.KMiIdeal.Mi.final_5 m c).symm
    · refine (Cert.RMiIdeal.Terms.v58_eq m' c).trans ?_
      rw [(hagree c).1, (hagree c).2.1, (hagree c).2.2.1, (hagree c).2.2.2.1, (hagree c).2.2.2.2.1]
      exact (Cert.KMiIdeal.Mi.final_6 m c).symm
    · exact (Cert.KMiIdeal.Mi.final_7 m c).symm

end Cert.Proof.Mi
-- ==== Proof.IbRef.lean ====
/- The reference's gradients through the mixer's projection in (`Cert.RIbIdeal`): the gradient of the projected columns, through the
   rotary embedding, and what it gives the norm's input and gains. -/
module

public import proofs.«01_k».proof.Proof.Gen.RIbIdeal
public import proofs.«01_k».proof.Proof.Reals
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open scoped BigOperators

namespace Cert.RIbIdeal.Terms

open Cert.RIbIdeal Cert.RIbIdeal.Gen

/-- The rotary embedding's pullback, for the eight query heads. -/
def unrope8 (t : FVec Ideal S8192x8x64 .f32) (c s : FVec Ideal S8192x32 .f32) : FVec Ideal S8192x8x64 .f32 :=
  concatenate S8192x8x64 2 [⟨S8192x8x32, addf (mulf (extractStridedSlice S8192x8x32 ![0, 0, 32] t slices_S8192x8x64_S8192x8x32_0_0_32)
      (broadcastInDim S8192x8x32 ![0, 1, 2] bcast_S8192x1x32_S8192x8x32_0_1_2 (broadcastInDim S8192x1x32 ![0, 2] bcast_S8192x32_S8192x1x32_0_2 s)))
      (mulf (extractStridedSlice S8192x8x32 ![0, 0, 0] t slices_S8192x8x64_S8192x8x32_0_0_0)
      (broadcastInDim S8192x8x32 ![0, 1, 2] bcast_S8192x1x32_S8192x8x32_0_1_2 (broadcastInDim S8192x1x32 ![0, 2] bcast_S8192x32_S8192x1x32_0_2 c)))⟩,
    ⟨S8192x8x32, addf (mulf (extractStridedSlice S8192x8x32 ![0, 0, 32] t slices_S8192x8x64_S8192x8x32_0_0_32)
      (broadcastInDim S8192x8x32 ![0, 1, 2] bcast_S8192x1x32_S8192x8x32_0_1_2 (broadcastInDim S8192x1x32 ![0, 2] bcast_S8192x32_S8192x1x32_0_2 c)))
      (mulf (Host.negf (extractStridedSlice S8192x8x32 ![0, 0, 0] t slices_S8192x8x64_S8192x8x32_0_0_0))
      (broadcastInDim S8192x8x32 ![0, 1, 2] bcast_S8192x1x32_S8192x8x32_0_1_2 (broadcastInDim S8192x1x32 ![0, 2] bcast_S8192x32_S8192x1x32_0_2 s)))⟩]
    concatenates_S8192x8x32_S8192x8x32_S8192x8x64_d2

/-- The same, for the two key heads. -/
def unrope2 (t : FVec Ideal S8192x2x64 .f32) (c s : FVec Ideal S8192x32 .f32) : FVec Ideal S8192x2x64 .f32 :=
  concatenate S8192x2x64 2 [⟨S8192x2x32, addf (mulf (extractStridedSlice S8192x2x32 ![0, 0, 32] t slices_S8192x2x64_S8192x2x32_0_0_32)
      (broadcastInDim S8192x2x32 ![0, 1, 2] bcast_S8192x1x32_S8192x2x32_0_1_2 (broadcastInDim S8192x1x32 ![0, 2] bcast_S8192x32_S8192x1x32_0_2 s)))
      (mulf (extractStridedSlice S8192x2x32 ![0, 0, 0] t slices_S8192x2x64_S8192x2x32_0_0_0)
      (broadcastInDim S8192x2x32 ![0, 1, 2] bcast_S8192x1x32_S8192x2x32_0_1_2 (broadcastInDim S8192x1x32 ![0, 2] bcast_S8192x32_S8192x1x32_0_2 c)))⟩,
    ⟨S8192x2x32, addf (mulf (extractStridedSlice S8192x2x32 ![0, 0, 32] t slices_S8192x2x64_S8192x2x32_0_0_32)
      (broadcastInDim S8192x2x32 ![0, 1, 2] bcast_S8192x1x32_S8192x2x32_0_1_2 (broadcastInDim S8192x1x32 ![0, 2] bcast_S8192x32_S8192x1x32_0_2 c)))
      (mulf (Host.negf (extractStridedSlice S8192x2x32 ![0, 0, 0] t slices_S8192x2x64_S8192x2x32_0_0_0))
      (broadcastInDim S8192x2x32 ![0, 1, 2] bcast_S8192x1x32_S8192x2x32_0_1_2 (broadcastInDim S8192x1x32 ![0, 2] bcast_S8192x32_S8192x1x32_0_2 s)))⟩]
    concatenates_S8192x2x32_S8192x2x32_S8192x2x64_d2

/-- Zero, as the host's constant. -/
def zero : FVec Ideal S_ .f32 := constant S_ .f32 0x00000000#32

/-- The keys' gradient, and the scaled queries', as columns. -/
def kcols (dk : FVec Ideal S8192x128 .f32) (c s : FVec Ideal S8192x32 .f32) : FVec Ideal S8192x128 .f32 :=
  shapeCast _ (unrope2 (shapeCast _ dk shapeCasts_S8192x128_S8192x2x64) c s) shapeCasts_S8192x2x64_S8192x128
def qcols (dq : FVec Ideal S8192x512 .f32) (c s : FVec Ideal S8192x32 .f32) : FVec Ideal S8192x512 .f32 :=
  shapeCast _ (unrope8 (mulf (shapeCast _ dq shapeCasts_S8192x512_S8192x8x64) (broadcastInDim S8192x8x64 ![] bcast_S_S8192x8x64
    (constant S_ .f32 0x3E000000#32))) c s) shapeCasts_S8192x8x64_S8192x512

/-- The gradient of the projected columns. -/
def dproj (dq : FVec Ideal S8192x512 .f32) (dk dv : FVec Ideal S8192x128 .f32) (du : FVec Ideal S8192x1024 .f32)
    (c s : FVec Ideal S8192x32 .f32) : FVec Ideal S8192x1792 .f32 :=
  addf (addf (addf (pad S8192x1792 ![0, 768] ![0, 0] ![0, 0] du zero pads_S8192x1024_S8192x1792_000_76800 h_S_)
    (pad S8192x1792 ![0, 640] ![0, 1024] ![0, 0] dv zero pads_S8192x128_S8192x1792_000_64010240 h_S_))
    (pad S8192x1792 ![0, 512] ![0, 1152] ![0, 0] (kcols dk c s) zero pads_S8192x128_S8192x1792_000_51211520 h_S_))
    (pad S8192x1792 ![0, 0] ![0, 1280] ![0, 0] (qcols dq c s) zero pads_S8192x512_S8192x1792_000_012800 h_S_)

theorem zero_eq (i : S_.Idx) : zero i = 0 := by
  pointwise! [zero]

theorem dproj_apply (dq : FVec Ideal S8192x512 .f32) (dk dv : FVec Ideal S8192x128 .f32) (du : FVec Ideal S8192x1024 .f32)
    (c s : FVec Ideal S8192x32 .f32) (r : Fin 8192) (j : Fin 1792) : dproj dq dk dv du c s (ix2 r j)
    = if h : (j : ℕ) < 512 then qcols dq c s (ix2 r ⟨j, h⟩) else if h : (j : ℕ) < 640 then kcols dk c s (ix2 r ⟨(j : ℕ) - 512, by omega⟩)
      else if h : (j : ℕ) < 768 then dv (ix2 r ⟨(j : ℕ) - 640, by omega⟩) else du (ix2 r ⟨(j : ℕ) - 768, by omega⟩) := by
  pointwise [dproj]
  have hj := j.isLt
  rw [zero_eq]
  by_cases h1 : (j : ℕ) < 512
  · rw [dif_neg (by omega), dif_neg (by omega), dif_neg (by omega), dif_pos h1, dif_pos h1, zero_add, zero_add, zero_add]
  by_cases h2 : (j : ℕ) < 640
  · rw [dif_neg (by omega), dif_neg (by omega), dif_pos (by omega), dif_neg h1, dif_neg h1, dif_pos h2, zero_add, zero_add, add_zero]
  by_cases h3 : (j : ℕ) < 768
  · rw [dif_neg (by omega), dif_pos (by omega), dif_neg (by omega), dif_neg h1, dif_neg h1, dif_neg h2, dif_pos h3, zero_add, add_zero, add_zero]
  · rw [dif_pos (by omega), dif_neg (by omega), dif_neg (by omega), dif_neg h1, dif_neg h1, dif_neg h2, dif_neg h3, add_zero, add_zero, add_zero]

/-- Columns turned back: the first half of a head's columns takes the second half's, and the second the first's. -/
def turned {n : ℕ} (p : Fin n → EReal) (c s : FVec Ideal S8192x32 .f32) (r : Fin 8192) (j : Fin n) : EReal :=
  p j * c (ix2 r ⟨(j : ℕ) % 32, by omega⟩) + (if (j : ℕ) % 64 < 32 then (if h : (j : ℕ) + 32 < n then p ⟨j + 32, h⟩ else 0) * s (ix2 r ⟨(j : ℕ) % 32, by omega⟩)
    else p ⟨j - 32, by omega⟩ * -s (ix2 r ⟨(j : ℕ) % 32, by omega⟩))

theorem col {n : ℕ} (p : (⟨2, ![8192, n]⟩ : Shape).Idx → EReal) (r : Fin 8192) {a b : Fin n} (h : (a : ℕ) = b) : p (ix2 r a) = p (ix2 r b) := by
  rw [Fin.ext h]

theorem qcols_apply (dq : FVec Ideal S8192x512 .f32) (c s : FVec Ideal S8192x32 .f32) (r : Fin 8192) (j : Fin 512) :
    qcols dq c s (ix2 r j) = turned (fun l => dq (ix2 r l) * Ideal.ofBits .f32 0x3E000000#32) c s r j := by
  pointwise [qcols, unrope8]
  unfold turned
  have hj := j.isLt
  by_cases h1 : (j : ℕ) % 64 < 32
  · rw [dif_pos h1, if_pos h1, dif_pos (by omega)]
    refine (add_comm _ _).trans ?_
    exact congrArg₂ (· + ·) (congrArg₂ (· * ·) rfl (col c r (by simp only; omega)))
      (congrArg₂ (· * ·) (congrArg (· * _) (col dq r (by simp only; omega))) (col s r (by simp only; omega)))
  · rw [dif_neg h1, if_neg h1]
    refine Eq.trans ?_ (congrArg₂ (· + ·) rfl ((neg_mul _ _).trans (mul_neg _ _).symm))
    exact congrArg₂ (· + ·) (congrArg₂ (· * ·) (congrArg (· * _) (col dq r (by simp only; omega))) (col c r (by simp only; omega)))
      (congrArg₂ (· * ·) (congrArg (fun z => -(z * _)) (col dq r (by simp only; omega))) (col s r (by simp only; omega)))

theorem kcols_apply (dk : FVec Ideal S8192x128 .f32) (c s : FVec Ideal S8192x32 .f32) (r : Fin 8192) (j : Fin 128) :
    kcols dk c s (ix2 r j) = turned (fun l => dk (ix2 r l)) c s r j := by
  pointwise [kcols, unrope2]
  unfold turned
  have hj := j.isLt
  by_cases h1 : (j : ℕ) % 64 < 32
  · rw [dif_pos h1, if_pos h1, dif_pos (by omega)]
    refine (add_comm _ _).trans ?_
    exact congrArg₂ (· + ·) (congrArg₂ (· * ·) rfl (col c r (by simp only; omega)))
      (congrArg₂ (· * ·) (col dk r (by simp only; omega)) (col s r (by simp only; omega)))
  · rw [dif_neg h1, if_neg h1]
    refine Eq.trans ?_ (congrArg₂ (· + ·) rfl ((neg_mul _ _).trans (mul_neg _ _).symm))
    exact congrArg₂ (· + ·) (congrArg₂ (· * ·) (col dk r (by simp only; omega)) (col c r (by simp only; omega)))
      (congrArg₂ (· * ·) (congrArg (fun z => -z) (col dk r (by simp only; omega))) (col s r (by simp only; omega)))

/-- The queries' and the keys' columns, side by side. -/
def joined (dq : FVec Ideal S8192x512 .f32) (dk : FVec Ideal S8192x128 .f32) (r : Fin 8192) (j : Fin 640) : EReal :=
  if h : (j : ℕ) < 512 then dq (ix2 r ⟨j, h⟩) * Ideal.ofBits .f32 0x3E000000#32 else dk (ix2 r ⟨(j : ℕ) - 512, by omega⟩)

/-- No head lies across the two, so that they can be turned back together. -/
theorem dproj_turned (dq : FVec Ideal S8192x512 .f32) (dk dv : FVec Ideal S8192x128 .f32) (du : FVec Ideal S8192x1024 .f32)
    (c s : FVec Ideal S8192x32 .f32) (r : Fin 8192) (j : Fin 1792) (hj : (j : ℕ) < 640) :
    dproj dq dk dv du c s (ix2 r j) = turned (joined dq dk r) c s r ⟨j, hj⟩ := by
  rw [dproj_apply]
  by_cases h1 : (j : ℕ) < 512
  · rw [dif_pos h1, qcols_apply]
    unfold turned joined
    by_cases h2 : (j : ℕ) % 64 < 32
    · simp only [if_pos h2, h1, (by omega : (j : ℕ) + 32 < 512), (by omega : (j : ℕ) + 32 < 640), dif_pos]
    · simp only [if_neg h2, h1, (by omega : (j : ℕ) - 32 < 512), dif_pos]
  · rw [dif_neg h1, dif_pos hj, kcols_apply]
    unfold turned joined
    simp only [show ((j : ℕ) - 512) % 64 = (j : ℕ) % 64 by omega, show ((j : ℕ) - 512) % 32 = (j : ℕ) % 32 by omega]
    by_cases h2 : (j : ℕ) % 64 < 32
    · simp only [if_pos h2, h1, (by omega : ¬ (j : ℕ) + 32 < 512), (by omega : (j : ℕ) + 32 < 640), (by omega : (j : ℕ) - 512 + 32 < 128), dif_pos, dif_neg,
        not_false_eq_true, show (j : ℕ) + 32 - 512 = (j : ℕ) - 512 + 32 by omega]
      rw [dif_neg (by omega)]
    · simp only [if_neg h2, h1, (by omega : ¬ (j : ℕ) - 32 < 512), dif_neg, not_false_eq_true, show (j : ℕ) - 32 - 512 = (j : ℕ) - 512 - 32 by omega]
      rw [dif_neg (by omega)]

theorem scale_real : Reals.IsReal (Ideal.ofBits .f32 0x3E000000#32) :=
  ⟨1 / 8, by simp [Ideal.ofBits, Ideal.ieee, -EReal.coe_mul]; norm_num⟩

theorem neg_real {x : EReal} (h : Reals.IsReal x) : Reals.IsReal (-x) := by
  obtain ⟨a, rfl⟩ := h; exact ⟨-a, by push_cast; rfl⟩

theorem turned_real {n : ℕ} (p : Fin n → EReal) (c s : FVec Ideal S8192x32 .f32) (hp : ∀ j, Reals.IsReal (p j)) (hc : ∀ i, Reals.IsReal (c i))
    (hs : ∀ i, Reals.IsReal (s i)) (r : Fin 8192) (j : Fin n) : Reals.IsReal (turned p c s r j) := by
  unfold turned
  refine ((hp _).mul (hc _)).add ?_
  by_cases h1 : (j : ℕ) % 64 < 32
  · rw [if_pos h1]
    by_cases h2 : (j : ℕ) + 32 < n
    · rw [dif_pos h2]; exact (hp _).mul (hs _)
    · rw [dif_neg h2, zero_mul]; exact Reals.IsReal.coe 0
  · rw [if_neg h1]; exact (hp _).mul (neg_real (hs _))

/-- The gradient of the projected columns is finite where the arguments are. -/
theorem dproj_real (dq : FVec Ideal S8192x512 .f32) (dk dv : FVec Ideal S8192x128 .f32) (du : FVec Ideal S8192x1024 .f32)
    (c s : FVec Ideal S8192x32 .f32) (h0 : ∀ i, Reals.IsReal (dq i)) (h1 : ∀ i, Reals.IsReal (dk i)) (h2 : ∀ i, Reals.IsReal (dv i))
    (h3 : ∀ i, Reals.IsReal (du i)) (h4 : ∀ i, Reals.IsReal (c i)) (h5 : ∀ i, Reals.IsReal (s i)) (r : Fin 8192) (j : Fin 1792) :
    Reals.IsReal (dproj dq dk dv du c s (ix2 r j)) := by
  rw [dproj_apply]
  by_cases e1 : (j : ℕ) < 512
  · rw [dif_pos e1, qcols_apply]; exact turned_real _ _ _ (fun _ => (h0 _).mul scale_real) h4 h5 _ _
  rw [dif_neg e1]
  by_cases e2 : (j : ℕ) < 640
  · rw [dif_pos e2, kcols_apply]; exact turned_real _ _ _ (fun _ => h1 _) h4 h5 _ _
  rw [dif_neg e2]
  by_cases e3 : (j : ℕ) < 768
  · rw [dif_pos e3]; exact h2 _
  · rw [dif_neg e3]; exact h3 _

/-- The gradient of the normalised input. -/
def dh (p : FVec Ideal S8192x1792 .f32) (w : FVec Ideal S1024x1792 .f32) : FVec Ideal S8192x1024 .f32 :=
  Host.dotGeneral dot_S8192x1792_S1024x1792_S8192x1024_1_1_0_0_n_n none p w

theorem dh_row (p : FVec Ideal S8192x1792 .f32) (w : FVec Ideal S1024x1792 .f32) (r : Fin 8192) (k : Fin 1024) :
    dh p w (ix2 r k) = ∑ j : Fin 1792, p (ix2 r j) * w (ix2 k j) := by
  pointwise [dh]

theorem dh_real (p : FVec Ideal S8192x1792 .f32) (w : FVec Ideal S1024x1792 .f32) (hp : ∀ r j, Reals.IsReal (p (ix2 r j))) (hw : ∀ i, Reals.IsReal (w i))
    (r : Fin 8192) (k : Fin 1024) : Reals.IsReal (dh p w (ix2 r k)) := by
  rw [dh_row]
  exact Reals.IsReal.sum _ fun j => (hp _ _).mul (hw _)

/-- A row's mean square, plus the small constant. -/
def ms (a0 : FVec Ideal S8192x1024 .f32) : FVec Ideal S8192x1 .f32 :=
  addf (Host.divf (broadcastInDim S8192x1 ![0] bcast_S8192_S8192x1_0 (Host.reduceAdd (mulf a0 a0) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x3727C5AC#32))

/-- The input over its rows' root mean square. -/
def xh (a0 : FVec Ideal S8192x1024 .f32) : FVec Ideal S8192x1024 .f32 :=
  mulf a0 (broadcastInDim S8192x1024 ![0, 1] bcast_S8192x1_S8192x1024_0_1 (Host.rsqrt (ms a0)))

/-- The gains, in every row. -/
def gains (a1 : FVec Ideal S2x1024 .f32) : FVec Ideal S8192x1024 .f32 :=
  broadcastInDim S8192x1024 ![0, 1] bcast_S1x1024_S8192x1024_0_1 (broadcastInDim S1x1024 ![1] bcast_S1024_S1x1024_1 (shapeCast _
    (extractStridedSlice S1x1024 ![0, 0] a1 slices_S2x1024_S1x1024_0_0) shapeCasts_S1x1024_S1024))

/-- What a row's mean square's gradient is, from the gradient `y` of the normalised input. -/
def dms (a0 y : FVec Ideal S8192x1024 .f32) : FVec Ideal S8192x1024 .f32 :=
  broadcastInDim S8192x1024 ![0] bcast_S8192_S8192x1024_0 (Host.reduceAdd (Host.divf (mulf (shapeCast _ (Host.reduceAdd (mulf a0 y)
    (constant S_ .f32 0x00000000#32) reducesTo_S8192x1024_S8192_d1 h_S_) shapeCasts_S8192_S8192x1) (mulf (broadcastInDim S8192x1 ![] bcast_S_S8192x1
    (constant S_ .f32 0xBF000000#32)) (Host.divf (Host.rsqrt (ms a0)) (ms a0)))) (broadcastInDim S8192x1 ![] bcast_S_S8192x1
    (constant S_ .f32 0x44800000#32))) (constant S_ .f32 0x00000000#32) reducesTo_S8192x1_S8192_d1 h_S_)

/-- The gradient of the norm's input, from the gradient `y` of the normalised input, added to `a6`. -/
def back (a0 y a6 : FVec Ideal S8192x1024 .f32) : FVec Ideal S8192x1024 .f32 :=
  addf a6 (addf (addf (mulf y (broadcastInDim S8192x1024 ![0, 1] bcast_S8192x1_S8192x1024_0_1 (Host.rsqrt (ms a0)))) (mulf a0 (dms a0 y)))
    (mulf (dms a0 y) a0))

/-- The gradient of the norm's gains. -/
def gback (a0 d : FVec Ideal S8192x1024 .f32) : FVec Ideal S1x1024 .f32 :=
  shapeCast _ (Host.reduceAdd (shapeCast _ (Host.reduceAdd (mulf (xh a0) d) (constant S_ .f32 0x00000000#32) reducesTo_S8192x1024_S1024_d0 h_S_)
    shapeCasts_S1024_S1x1024) (constant S_ .f32 0x00000000#32) reducesTo_S1x1024_S1024_d0 h_S_) shapeCasts_S1024_S1x1024

theorem gains_real (a1 : FVec Ideal S2x1024 .f32) (h1 : ∀ i, Reals.IsReal (a1 i)) (i) : Reals.IsReal (gains a1 i) := by
  pointwise [gains]
  exact h1 _

end Cert.RIbIdeal.Terms

end
-- ==== Proof.Ib.lean ====
/- What the mixer's backward call through its projection in leaves (`Cert.KIbIdeal`): the gradient of the projected columns, and at finite
   arguments the gradient of the input, added to the one that came in; the gradient of the norm's gains. -/
module

public import proofs.«01_k».proof.Proof.Gen.KIbIdeal
public import proofs.«01_k».proof.Proof.Gen.KIbIdeal.Skeleton
public import proofs.«01_k».proof.Proof.Gen.KIbIdeal.Launch
public import proofs.«01_k».proof.Proof.Gen.KIbIdeal.Points
public import proofs.«01_k».proof.Proof.Gen.KIbIdeal.Frame
public import proofs.«01_k».proof.Proof.Gen.RIbIdeal
public import proofs.«01_k».proof.Proof.Gen.RIbIdeal.Run
public import proofs.«01_k».proof.Defs
public import proofs.«01_k».proof.Proof.Gen.Pre_finite_ib
public import proofs.«01_k».proof.Proof.IbRef
public import proofs.«01_k».proof.Proof.Mi
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.RIbIdeal.Terms

open Cert.RIbIdeal Cert.RIbIdeal.Gen

variable (m : (ℓ : Loc nD τ sig) → Buf (Elt Ideal) ℓ) (c : Dev nD)

/-- The reference's results, in these terms. -/
theorem v122_eq : Cert.RIbIdeal.Value.res_main_v122 m c = dproj (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) := by
  unfold Cert.RIbIdeal.Value.res_main_v122 dproj kcols qcols unrope2 unrope8 zero
  rfl

set_option maxHeartbeats 3200000 in
theorem v123_eq : Cert.RIbIdeal.Value.res_main_v123 m c = back (m ((c.tc : Thread nD τ).loc main_arg6)) (mulf (dh (dproj (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)))
    (m ((c.tc : Thread nD τ).loc main_arg9))) (gains (m ((c.tc : Thread nD τ).loc main_arg8)))) (m ((c.tc : Thread nD τ).loc main_arg7)) := by
  unfold Cert.RIbIdeal.Value.res_main_v123 back dms dh dproj kcols qcols unrope2 unrope8 zero gains ms
  rfl

set_option maxHeartbeats 3200000 in
theorem v124_eq : Cert.RIbIdeal.Value.res_main_v124 m c = gback (m ((c.tc : Thread nD τ).loc main_arg6)) (dh (dproj (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)))
    (m ((c.tc : Thread nD τ).loc main_arg9))) := by
  unfold Cert.RIbIdeal.Value.res_main_v124 gback dh dproj kcols qcols unrope2 unrope8 zero xh ms
  rfl

end Cert.RIbIdeal.Terms

namespace Cert.KIbIdeal.Ib

open Cert.KIbIdeal Cert.KIbIdeal.Gen Cert.RIbIdeal.Terms

/-- The block's columns before they are turned. -/
theorem pay3 (a : FVec Ideal S1024x512 .bf16) (b : FVec Ideal S1024x128 .f32) (r : Fin 1024) (j : Fin 640) : (show EReal from k0_pay3 (F := Ideal) a b (ix2 r j))
    = if h : (j : ℕ) < 512 then (show EReal from a (ix2 r ⟨j, h⟩)) * Ideal.ofBits .f32 0x3E000000#32 else b (ix2 r ⟨(j : ℕ) - 512, by omega⟩) := by
  pointwise [k0_pay3]

theorem remainder : ∀ i : Fin 640, IntOp.cmpi .slt (Scalar.select (IntOp.andi (IntOp.xori (IntOp.cmpi .slt
      (IntOp.remsi .vector (BitVec.ofNat 32 i) (Scalar.select (Scalar.cmpi .eq 64#32 0#32) 1#32 64#32)) 0#32)
      (Scalar.cmpi .slt (Scalar.select (Scalar.cmpi .eq 64#32 0#32) 1#32 64#32) 0#32))
      (IntOp.cmpi .ne (IntOp.remsi .vector (BitVec.ofNat 32 i) (Scalar.select (Scalar.cmpi .eq 64#32 0#32) 1#32 64#32)) 0#32))
      (IntOp.addi (IntOp.remsi .vector (BitVec.ofNat 32 i) (Scalar.select (Scalar.cmpi .eq 64#32 0#32) 1#32 64#32)) (Scalar.select (Scalar.cmpi .eq 64#32 0#32) 1#32 64#32))
      (IntOp.remsi .vector (BitVec.ofNat 32 i) (Scalar.select (Scalar.cmpi .eq 64#32 0#32) 1#32 64#32))) 32#32
      = if (i : ℕ) % 64 < 32 then 1#1 else 0#1 := by decide +kernel

/-- Five copies of 128 columns. -/
theorem five_cols (f : Fin 128 → EReal) (j : ℕ) (hj : j < 640) :
    (if h : j < 128 then f ⟨j, h⟩ else if h : j - 128 < 128 then f ⟨j - 128, h⟩ else if h : j - 128 - 128 < 128 then f ⟨j - 128 - 128, h⟩
      else if h : j - 128 - 128 - 128 < 128 then f ⟨j - 128 - 128 - 128, h⟩ else f ⟨j - 128 - 128 - 128 - 128, by omega⟩)
      = f ⟨j % 128, by omega⟩ := by
  have hc : ∀ {a b : Fin 128}, (a : ℕ) = b → f a = f b := fun h => by rw [Fin.ext h]
  by_cases h1 : j < 128
  · rw [dif_pos h1]; exact hc (by simp only; omega)
  rw [dif_neg h1]
  by_cases h2 : j - 128 < 128
  · rw [dif_pos h2]; exact hc (by simp only; omega)
  rw [dif_neg h2]
  by_cases h3 : j - 128 - 128 < 128
  · rw [dif_pos h3]; exact hc (by simp only; omega)
  rw [dif_neg h3]
  by_cases h4 : j - 128 - 128 - 128 < 128
  · rw [dif_pos h4]; exact hc (by simp only; omega)
  · rw [dif_neg h4]; exact hc (by simp only; omega)

/-- A turned column of the block, and one that is only copied. -/
theorem pay9_low (a : FVec Ideal S1024x512 .bf16) (b : FVec Ideal S1024x128 .f32) (cs sn v : FVec Ideal S1024x128 .f32) (u : FVec Ideal S1024x1024 .bf16)
    (r : Fin 1024) (j : Fin 1792) (hj : (j : ℕ) < 640) :
    (show EReal from k0_pay9 (k0_pay3 (F := Ideal) a b) cs sn k0_pay6 (k0_pay7 a b) (k0_pay8 a b) v u (ix2 r j))
      = k0_pay3 (F := Ideal) a b (ix2 r ⟨j, hj⟩) * cs (ix2 r ⟨(j : ℕ) % 128, by omega⟩)
        + (if h : (j : ℕ) % 64 < 32 then k0_pay3 (F := Ideal) a b (ix2 r ⟨j + 32, by omega⟩) else k0_pay3 (F := Ideal) a b (ix2 r ⟨j - 32, by omega⟩)) * sn (ix2 r ⟨(j : ℕ) % 128, by omega⟩) := by
  pointwise [k0_pay9, k0_pay7, k0_pay8, k0_pay6]
  rw [dif_pos hj, remainder ⟨j, hj⟩]
  refine congrArg₂ (· + ·) (congrArg₂ (· * ·) rfl (five_cols (fun l => cs (ix2 r l)) _ hj)) (congrArg₂ (· * ·) ?_ (five_cols (fun l => sn (ix2 r l)) _ hj))
  by_cases h : (j : ℕ) % 64 < 32
  · simp only [if_pos h]; rw [dif_pos h]
    exact congrArg (k0_pay3 (F := Ideal) a b) (congrArg (ix2 r) (Fin.ext (by simp only; omega)))
  · simp only [if_neg h]; rw [dif_neg h]
    exact congrArg (k0_pay3 (F := Ideal) a b) (congrArg (ix2 r) (Fin.ext (by simp only; omega)))

theorem pay9_v (a : FVec Ideal S1024x512 .bf16) (b : FVec Ideal S1024x128 .f32) (cs sn v : FVec Ideal S1024x128 .f32) (u : FVec Ideal S1024x1024 .bf16)
    (r : Fin 1024) (j : Fin 1792) (hj : 640 ≤ (j : ℕ)) (hj' : (j : ℕ) < 768) :
    (show EReal from k0_pay9 (k0_pay3 (F := Ideal) a b) cs sn k0_pay6 (k0_pay7 a b) (k0_pay8 a b) v u (ix2 r j)) = v (ix2 r ⟨(j : ℕ) - 640, by omega⟩) := by
  pointwise [k0_pay9]
  rw [dif_neg (by omega), dif_pos (by omega)]

theorem pay9_u (a : FVec Ideal S1024x512 .bf16) (b : FVec Ideal S1024x128 .f32) (cs sn v : FVec Ideal S1024x128 .f32) (u : FVec Ideal S1024x1024 .bf16)
    (r : Fin 1024) (j : Fin 1792) (hj : 768 ≤ (j : ℕ)) :
    (show EReal from k0_pay9 (k0_pay3 (F := Ideal) a b) cs sn k0_pay6 (k0_pay7 a b) (k0_pay8 a b) v u (ix2 r j)) = u (ix2 r ⟨(j : ℕ) - 768, by omega⟩) := by
  pointwise [k0_pay9]
  rw [dif_neg (by omega), dif_neg (by omega)]
  exact congrArg u (congrArg (ix2 r) (Fin.ext (by simp only; omega)))

variable (m : (ℓ : Loc nD τ sig) → Buf (Elt Ideal) ℓ)

/-- Every window's block index at grid point `t`. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0, 0] ∧ win0_9.index t = ![0, 0, 0] ∧ win0_10.index t = ![t.val, 0]
    ∧ win0_11.index t = ![t.val, 0] ∧ win0_12.index t = ![0, 0] :=
  (by decide +kernel : ∀ t : Fin grid0.N, _)

/-- The arrays at the region's entry. -/
theorem entry_q (c : Dev nD) : (show FVec Ideal S8192x512 .bf16 from V m c main_v4) = fun i => m ((c : Thread nD τ).loc main_arg0) i := by
  unfold V; after_results; rfl
theorem entry_u (c : Dev nD) : (show FVec Ideal S8192x1024 .bf16 from V m c main_v5) = fun i => m ((c : Thread nD τ).loc main_arg3) i := by
  unfold V; after_results; rfl
theorem entry_norm (c : Dev nD) : (show FVec Ideal S2x1x1024 .f32 from V m c main_v6) = fun i =>
    shapeCast S2x1x1024 (show FVec Ideal S2x1024 .f32 from m ((c : Thread nD τ).loc main_arg8)) shapeCasts_S2x1024_S2x1x1024 i := by
  unfold V; after_results; rfl
theorem entry_w (c : Dev nD) : (show FVec Ideal S1x1792x1024 .bf16 from V m c main_v9) = fun i =>
    broadcastInDim S1x1792x1024 ![1, 2] bcast_S1792x1024_S1x1792x1024_1_2 (transpose S1792x1024 [1, 0]
      (show FVec Ideal S1024x1792 .f32 from m ((c : Thread nD τ).loc main_arg9)) transposes_S1024x1792_S1792x1024_1_0) i := by
  unfold V; after_results; rfl

/-- The cosines' table at the region's entry. -/
theorem entry_cos (c : Dev nD) (r : Fin 8192) (l : Fin 128) : (show FVec Ideal S8192x128 .f32 from V m c main_v0) (ix2 r l)
    = m ((c : Thread nD τ).loc main_arg4) (ix2 r ⟨(l : ℕ) % 32, by omega⟩) := by
  unfold V; after_results
  pointwise
  have hl := l.isLt
  split_ifs <;> exact congrArg (m ((c : Thread nD τ).loc main_arg4)) (congrArg (ix2 r) (Fin.ext (by simp only; omega)))

/-- The sines' table at the region's entry, as the host builds it. -/
theorem entry_sines (c : Dev nD) : (show FVec Ideal S8192x128 .f32 from V m c main_v3) = fun i =>
    concatenate S8192x128 1 [⟨S8192x32, Host.negf (show FVec Ideal S8192x32 .f32 from m ((c : Thread nD τ).loc main_arg5))⟩,
      ⟨S8192x32, (show FVec Ideal S8192x32 .f32 from m ((c : Thread nD τ).loc main_arg5))⟩,
      ⟨S8192x32, Host.negf (show FVec Ideal S8192x32 .f32 from m ((c : Thread nD τ).loc main_arg5))⟩,
      ⟨S8192x32, (show FVec Ideal S8192x32 .f32 from m ((c : Thread nD τ).loc main_arg5))⟩]
      concatenates_S8192x32_S8192x32_S8192x32_S8192x32_S8192x128_d1 i := by
  unfold V; after_results; rfl

theorem entry_sin (c : Dev nD) (r : Fin 8192) (l : Fin 128) : (show FVec Ideal S8192x128 .f32 from V m c main_v3) (ix2 r l)
    = if (l : ℕ) % 64 < 32 then -(show EReal from m ((c : Thread nD τ).loc main_arg5) (ix2 r ⟨(l : ℕ) % 32, by omega⟩))
      else m ((c : Thread nD τ).loc main_arg5) (ix2 r ⟨(l : ℕ) % 32, by omega⟩) := by
  rw [entry_sines]
  pointwise
  exact Cert.KMiIdeal.Mi.four_cols (fun a => m ((c : Thread nD τ).loc main_arg5) (ix2 r a)) l

/-- Row `r` of block `t`, as the array's row. -/
def row (t : Fin cfg0.N) (r : Fin 1024) : Fin 8192 :=
  ⟨1024 * t.val + r, by have h : t.val < 8 := lt_of_lt_of_eq t.isLt (show cfg0.N = 8 from N_0); omega⟩

/-- The blocks at grid point `t`. -/
theorem iblk0 (c : Dev nD) (t : Fin cfg0.N) (r : Fin 1024) (j : Fin 512) :
    (show FVec Ideal S1024x512 .bf16 from iblk m c 0 t) (ix2 r j) = m ((c : Thread nD τ).loc main_arg0) (ix2 (row t r) j) := by
  refine Eq.trans ?_ (congrFun (entry_q m c) (ix2 (row t r) j))
  unfold row; blk_point [iblk, idx t]
theorem iblk1 (c : Dev nD) (t : Fin cfg0.N) (r : Fin 1024) (j : Fin 128) :
    (show FVec Ideal S1024x128 .f32 from iblk m c 1 t) (ix2 r j) = m ((c : Thread nD τ).loc main_arg1) (ix2 (row t r) j) := by
  unfold row; blk_point [iblk, V, idx t]
theorem iblk2 (c : Dev nD) (t : Fin cfg0.N) (r : Fin 1024) (j : Fin 128) :
    (show FVec Ideal S1024x128 .f32 from iblk m c 2 t) (ix2 r j) = m ((c : Thread nD τ).loc main_arg2) (ix2 (row t r) j) := by
  unfold row; blk_point [iblk, V, idx t]
theorem iblk3 (c : Dev nD) (t : Fin cfg0.N) (r : Fin 1024) (j : Fin 1024) :
    (show FVec Ideal S1024x1024 .bf16 from iblk m c 3 t) (ix2 r j) = m ((c : Thread nD τ).loc main_arg3) (ix2 (row t r) j) := by
  refine Eq.trans ?_ (congrFun (entry_u m c) (ix2 (row t r) j))
  unfold row; blk_point [iblk, idx t]
theorem iblk4 (c : Dev nD) (t : Fin cfg0.N) (r : Fin 1024) (l : Fin 128) :
    (show FVec Ideal S1024x128 .f32 from iblk m c 4 t) (ix2 r l) = m ((c : Thread nD τ).loc main_arg4) (ix2 (row t r) ⟨(l : ℕ) % 32, by omega⟩) := by
  refine Eq.trans ?_ (entry_cos m c (row t r) l)
  unfold row; blk_point [iblk, idx t]
theorem iblk5 (c : Dev nD) (t : Fin cfg0.N) (r : Fin 1024) (l : Fin 128) :
    (show FVec Ideal S1024x128 .f32 from iblk m c 5 t) (ix2 r l)
    = if (l : ℕ) % 64 < 32 then -(show EReal from m ((c : Thread nD τ).loc main_arg5) (ix2 (row t r) ⟨(l : ℕ) % 32, by omega⟩))
      else m ((c : Thread nD τ).loc main_arg5) (ix2 (row t r) ⟨(l : ℕ) % 32, by omega⟩) := by
  refine Eq.trans ?_ (entry_sin m c (row t r) l)
  unfold row; blk_point [iblk, idx t]
theorem iblk6 (c : Dev nD) (t : Fin cfg0.N) (r : Fin 1024) (k : Fin 1024) :
    (show FVec Ideal S1024x1024 .f32 from iblk m c 6 t) (ix2 r k) = m ((c : Thread nD τ).loc main_arg6) (ix2 (row t r) k) := by
  unfold row; blk_point [iblk, V, idx t]
theorem iblk7 (c : Dev nD) (t : Fin cfg0.N) (r : Fin 1024) (k : Fin 1024) :
    (show FVec Ideal S1024x1024 .f32 from iblk m c 7 t) (ix2 r k) = m ((c : Thread nD τ).loc main_arg7) (ix2 (row t r) k) := by
  unfold row; blk_point [iblk, V, idx t]
theorem iblk8 (c : Dev nD) (t : Fin cfg0.N) (b : Fin 1024) :
    (show FVec Ideal S1x1x1024 .f32 from iblk m c 8 t) (ix3 0 0 b) = m ((c : Thread nD τ).loc main_arg8) (ix2 0 b) := by
  refine Eq.trans ?_ ((congrFun (entry_norm m c) (ix3 0 0 b)).trans ?_)
  · blk_point [iblk, idx t]
  · pointwise
theorem iblk9 (c : Dev nD) (t : Fin cfg0.N) (a : Fin 1792) (b : Fin 1024) :
    (show FVec Ideal S1x1792x1024 .bf16 from iblk m c 9 t) (ix3 0 a b) = m ((c : Thread nD τ).loc main_arg9) (ix2 b a) := by
  refine Eq.trans ?_ ((congrFun (entry_w m c) (ix3 0 a b)).trans ?_)
  · blk_point [iblk, idx t]
  · pointwise

/-- The gradient of the projected columns, and of the normalised input. -/
abbrev DP (c : Dev nD) : FVec Ideal RIbIdeal.S8192x1792 .f32 :=
  dproj (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
abbrev DH (c : Dev nD) : FVec Ideal RIbIdeal.S8192x1024 .f32 := dh (DP m c) (m ((c : Thread nD τ).loc main_arg9))

/-- The same, as the body computes them at point `t`. -/
abbrev kp (c : Dev nD) (t : Fin cfg0.N) : FVec Ideal S1024x1792 .bf16 :=
  k0_pay9 (k0_pay3 (iblk m c 0 t) (iblk m c 1 t)) (k0_pay4 (iblk m c 4 t)) (k0_pay5 (iblk m c 5 t)) k0_pay6
    (k0_pay7 (iblk m c 0 t) (iblk m c 1 t)) (k0_pay8 (iblk m c 0 t) (iblk m c 1 t)) (iblk m c 2 t) (iblk m c 3 t)
abbrev kd (c : Dev nD) (t : Fin cfg0.N) : FVec Ideal S1024x1024 .f32 :=
  k0_pay10 (k0_pay3 (iblk m c 0 t) (iblk m c 1 t)) (k0_pay4 (iblk m c 4 t)) (k0_pay5 (iblk m c 5 t)) k0_pay6
    (k0_pay7 (iblk m c 0 t) (iblk m c 1 t)) (k0_pay8 (iblk m c 0 t) (iblk m c 1 t)) (iblk m c 2 t) (iblk m c 3 t) (iblk m c 9 t)

theorem joined_eq (c : Dev nD) (t : Fin cfg0.N) (r : Fin 1024) (j : Fin 640) : (show EReal from k0_pay3 (F := Ideal) (iblk m c 0 t) (iblk m c 1 t) (ix2 r j))
    = joined (m ((c : Thread nD τ).loc main_arg0)) (m ((c : Thread nD τ).loc main_arg1)) (row t r) j := by
  refine (pay3 (iblk m c 0 t) (iblk m c 1 t) r j).trans ?_
  unfold joined
  by_cases h : (j : ℕ) < 512
  · rw [dif_pos h, dif_pos h]; exact congrArg (· * _) (iblk0 m c t r ⟨j, h⟩)
  · rw [dif_neg h, dif_neg h]; exact iblk1 m c t r _

theorem kp_eq (c : Dev nD) (t : Fin cfg0.N) (r : Fin 1024) (j : Fin 1792) : (show EReal from kp m c t (ix2 r j)) = DP m c (ix2 (row t r) j) := by
  have hj := j.isLt
  by_cases h1 : (j : ℕ) < 640
  · refine (pay9_low _ _ _ _ _ _ r j h1).trans ((Eq.trans ?_ (dproj_turned _ _ _ _ _ _ (row t r) j h1).symm))
    unfold turned
    have e4 : (show EReal from k0_pay4 (F := Ideal) (iblk m c 4 t) (ix2 r ⟨(j : ℕ) % 128, by omega⟩))
        = m ((c : Thread nD τ).loc main_arg4) (ix2 (row t r) ⟨(j : ℕ) % 32, by omega⟩) := by
      refine Eq.trans ?_ ((iblk4 m c t r ⟨(j : ℕ) % 128, by omega⟩).trans ?_)
      · pointwise [k0_pay4]
      · exact congrArg (m ((c : Thread nD τ).loc main_arg4)) (congrArg (ix2 _) (Fin.ext (by simp only; omega)))
    have e5 : (show EReal from k0_pay5 (F := Ideal) (iblk m c 5 t) (ix2 r ⟨(j : ℕ) % 128, by omega⟩))
        = 0 - (if (j : ℕ) % 64 < 32 then -(show EReal from m ((c : Thread nD τ).loc main_arg5) (ix2 (row t r) ⟨(j : ℕ) % 32, by omega⟩))
          else m ((c : Thread nD τ).loc main_arg5) (ix2 (row t r) ⟨(j : ℕ) % 32, by omega⟩)) := by
      refine Eq.trans (b := 0 - (show EReal from (show FVec Ideal S1024x128 .f32 from iblk m c 5 t) (ix2 r ⟨(j : ℕ) % 128, by omega⟩))) ?_
        (congrArg (0 - ·) ((iblk5 m c t r ⟨(j : ℕ) % 128, by omega⟩).trans ?_))
      · pointwise! [k0_pay5]
      · simp only [show (j : ℕ) % 128 % 64 = (j : ℕ) % 64 by omega, show (j : ℕ) % 128 % 32 = (j : ℕ) % 32 by omega]
    refine congrArg₂ (· + ·) (congrArg₂ (· * ·) (joined_eq m c t r ⟨j, h1⟩) e4) ?_
    refine (congrArg₂ (· * ·) rfl e5).trans ?_
    by_cases h2 : (j : ℕ) % 64 < 32
    · rw [dif_pos h2, if_pos h2, if_pos h2, dif_pos (by simp only; omega), zero_sub, neg_neg]
      exact congrArg (· * _) (joined_eq m c t r ⟨j + 32, by omega⟩)
    · rw [dif_neg h2, if_neg h2, if_neg h2, zero_sub]
      exact congrArg (· * _) (joined_eq m c t r ⟨j - 32, by omega⟩)
  · by_cases h2 : (j : ℕ) < 768
    · refine (pay9_v _ _ _ _ _ _ r j (by omega) h2).trans ?_
      refine Eq.trans ?_ (dproj_apply _ _ _ _ _ _ _ _).symm
      rw [dif_neg (by omega), dif_neg h1, dif_pos h2]
      exact iblk2 m c t r _
    · refine (pay9_u _ _ _ _ _ _ r j (by omega)).trans ?_
      refine Eq.trans ?_ (dproj_apply _ _ _ _ _ _ _ _).symm
      rw [dif_neg (by omega), dif_neg h1, dif_neg h2]
      exact iblk3 m c t r _

theorem kd_eq (c : Dev nD) (t : Fin cfg0.N) (r : Fin 1024) (k : Fin 1024) : (show EReal from kd m c t (ix2 r k)) = DH m c (ix2 (row t r) k) := by
  refine Eq.trans ?_ (dh_row _ _ (row t r) k).symm
  refine Eq.trans ?_ (Finset.sum_congr rfl fun j _ => congrArg₂ (· * ·) (kp_eq m c t r j) (iblk9 m c t j k))
  pointwise [k0_pay10]

/-- What a point writes back of the two gradients that are not accumulated. -/
theorem out_10 (c : Dev nD) (t : Fin cfg0.N) : (outsAt0 m c t.val t.isLt).1 = kp m c t := by
  by_cases h : t.val % 8 = 0
  · rw [outsAt0_A m c t h]; frame_out
  · rw [outsAt0_B m c t h]; frame_out
theorem out_11 (c : Dev nD) (t : Fin cfg0.N) : (outsAt0 m c t.val t.isLt).2.1
    = k0_pay1 (kd m c t) (k0_pay11 (iblk m c 8 t)) (k0_pay12 (iblk m c 6 t)) (k0_pay13 (iblk m c 6 t)) (iblk m c 7 t) := by
  by_cases h : t.val % 8 = 0
  · rw [outsAt0_A m c t h]; frame_out
  · rw [outsAt0_B m c t h]; frame_out

set_option maxHeartbeats 1600000 in
/-- The gradient of the projected columns. -/
theorem final_10 (c : Dev nD) : (dats m 0 c).arrAt 10 (cfgs 0).N = DP m c := by
  refine (dats m 0 c).arrAt_eq_of_covers 10 _ (by decide +kernel) fun t hf y => ?_
  blk_simp; rw [after0_10, out_10]
  have hi : (win0_10.blk t).view.emb y = ix2 (row t (y 0)) (y 1) := by unfold row; blk_ext [idx t]
  rw [hi]
  refine (congrArg _ (eq_ix2 y)).trans (kp_eq m c t (y 0) (y 1))

set_option maxHeartbeats 1600000 in
/-- An element of the input's gradient is the reference's. -/
theorem out_row (c : Dev nD) (h6 : ∀ i, Reals.IsReal (m ((c : Thread nD τ).loc main_arg6) i)) (h8 : ∀ i, Reals.IsReal (m ((c : Thread nD τ).loc main_arg8) i))
    (hp : ∀ r j, Reals.IsReal (DP m c (ix2 r j))) (h9 : ∀ i, Reals.IsReal (m ((c : Thread nD τ).loc main_arg9) i)) (t : Fin cfg0.N) (r : Fin 1024) (k : Fin 1024) :
    (show EReal from k0_pay1 (kd m c t) (k0_pay11 (iblk m c 8 t)) (k0_pay12 (iblk m c 6 t)) (k0_pay13 (iblk m c 6 t)) (iblk m c 7 t) (ix2 r k))
      = back (m ((c : Thread nD τ).loc main_arg6)) (mulf (DH m c) (gains (m ((c : Thread nD τ).loc main_arg8)))) (m ((c : Thread nD τ).loc main_arg7)) (ix2 (row t r) k) := by
  have hgain : ∀ j : Fin 1024, gains (m ((c : Thread nD τ).loc main_arg8)) (ix2 (row t r) j) = m ((c : Thread nD τ).loc main_arg8) (ix2 0 j) := fun j => by pointwise [gains]
  pointwise [k0_pay1, k0_pay11, k0_pay12, k0_pay13, back, dms, ms]
  exact Reals.norm_back (x := fun j => m ((c : Thread nD τ).loc main_arg6) (ix2 (row t r) j)) (d := fun j => DH m c (ix2 (row t r) j) * gains (m ((c : Thread nD τ).loc main_arg8)) (ix2 (row t r) j))
    (x' := fun j => iblk m c 6 t (ix2 r j)) (d' := fun j => kd m c t (ix2 r j)) (g' := fun j => iblk m c 8 t (ix3 0 0 j))
    (fun j => h6 _) (fun j => (dh_real _ _ hp h9 _ _).mul (gains_real _ h8 _)) (iblk7 m c t r k) (fun j => iblk6 m c t r j)
    (fun j => congrArg₂ (· * ·) (kd_eq m c t r j) ((iblk8 m c t j).trans (hgain j).symm)) k

set_option maxHeartbeats 1600000 in
/-- The input's gradient, at finite arguments. -/
theorem final_11 (c : Dev nD) (h6 : ∀ i, Reals.IsReal (m ((c : Thread nD τ).loc main_arg6) i)) (h8 : ∀ i, Reals.IsReal (m ((c : Thread nD τ).loc main_arg8) i))
    (hp : ∀ r j, Reals.IsReal (DP m c (ix2 r j))) (h9 : ∀ i, Reals.IsReal (m ((c : Thread nD τ).loc main_arg9) i)) :
    (dats m 0 c).arrAt 11 (cfgs 0).N = back (m ((c : Thread nD τ).loc main_arg6)) (mulf (DH m c) (gains (m ((c : Thread nD τ).loc main_arg8)))) (m ((c : Thread nD τ).loc main_arg7)) := by
  refine (dats m 0 c).arrAt_eq_of_covers 11 _ (by decide +kernel) fun t hf y => ?_
  blk_simp; rw [after0_11, out_11]
  have hi : (win0_11.blk t).view.emb y = ix2 (row t (y 0)) (y 1) := by unfold row; blk_ext [idx t]
  rw [hi]
  refine (congrArg _ (eq_ix2 y)).trans (out_row m c h6 h8 hp h9 t (y 0) (y 1))

/-- The zero fill. -/
theorem hzero (j : S1x1024.Idx) : k0_pay2 (F := Ideal) j = 0 := by
  pointwise! [k0_pay2]

/-- A point's rows' sum of the gains' gradient, over what was there. -/
def acc (d x : FVec Ideal S1024x1024 .f32) (v : FVec Ideal S1x1024 .f32) (j : S1x1024.Idx) : EReal :=
  v j + ∑ r : Fin 1024, d (ix2 r (j 1)) * k0_pay13 x (ix2 r (j 1))

theorem hpay (c : Dev nD) (t : Fin cfg0.N) (v : FVec Ideal S1x1024 .f32) (j : S1x1024.Idx) :
    (show EReal from k0_pay14 (k0_pay3 (iblk m c 0 t) (iblk m c 1 t)) (k0_pay4 (iblk m c 4 t)) (k0_pay5 (iblk m c 5 t)) k0_pay6
    (k0_pay7 (iblk m c 0 t) (iblk m c 1 t)) (k0_pay8 (iblk m c 0 t) (iblk m c 1 t)) (iblk m c 2 t) (iblk m c 3 t) (iblk m c 9 t) (iblk m c 6 t) v j)
      = v j + acc (kd m c t) (iblk m c 6 t) (fun _ => 0) j := by
  unfold acc
  pointwise [k0_pay14]

set_option maxHeartbeats 1600000 in
/-- The gradient of the norm's gains. -/
theorem final_12 (c : Dev nD) : (dats m 0 c).arrAt 12 (cfgs 0).N = gback (m ((c : Thread nD τ).loc main_arg6)) (DH m c) := by
  refine (dats m 0 c).arrAt_eq_of_covers 12 _ (by decide +kernel) fun t hf y => ?_
  blk_simp
  rw [after0_12, Pipeline.eq_sum_fin_of_reset_step_apply_of_flush (fun n h => (outsAt0 m c n h).2.2) 8 (fun _ => 0)
      (fun s => acc (kd m c s) (iblk m c 6 s) (fun _ => 0))
      (fun t h j => by rw [outsAt0_A m c t h]; frame_out; refine (hpay m c t _ j).trans ?_; rw [hzero])
      (fun t h j => by rw [outsAt0_B m c t h]; frame_out; exact hpay m c t _ j)
      t ((flush0_12 t).mp hf) _, zero_add]
  have hy : ((win0_12.blk t).view.emb y) = ix2 0 (y 1) := by blk_ext [idx t]
  rw [hy]
  pointwise [acc, k0_pay13, k0_pay12, gback, xh, ms]
  rw [Fin.sum_univ_one]
  refine Fin.sum_mul_add_congr fun s k hl => ?_
  have hb := Pipeline.run_point_lt_of_flush t ((flush0_12 t).mp hf) s
  have hrow : row ⟨8 * (t.val / 8) + s.val, hb⟩ k = ⟨s.val * 1024 + k.val, hl⟩ := by
    have h : t.val < 8 := lt_of_lt_of_eq t.isLt (show cfg0.N = 8 from N_0)
    exact Fin.ext (by simp only [row]; omega)
  rw [← hrow]
  refine (@mul_comm EReal _ _ _).trans (congrArg₂ (· * ·) ?_ (kd_eq m c ⟨8 * (t.val / 8) + s.val, hb⟩ k (y 1)))
  exact Reals.rms_congr (x := fun j => m ((c : Thread nD τ).loc main_arg6) (ix2 (row ⟨8 * (t.val / 8) + s.val, hb⟩ k) j))
    (x' := fun j => iblk m c 6 ⟨8 * (t.val / 8) + s.val, hb⟩ (ix2 k j)) (fun j => iblk6 m c _ k j) (y 1)

theorem reals_of_pre (hp : Pre_KIbIdeal_finite_ib m) (c : Dev nD) : (∀ i, Reals.IsReal (m ((c : Thread nD τ).loc main_arg6) i))
    ∧ (∀ i, Reals.IsReal (m ((c : Thread nD τ).loc main_arg8) i)) ∧ (∀ r j, Reals.IsReal (DP m c (ix2 r j)))
    ∧ (∀ i, Reals.IsReal (m ((c : Thread nD τ).loc main_arg9) i)) := by
  have h := congrFun (hp c) (fun a => Fin.elim0 a)
  obtain ⟨h, h9⟩ := Reals.andi_one h
  obtain ⟨h, h8⟩ := Reals.andi_one h
  obtain ⟨h, h6⟩ := Reals.andi_one h
  obtain ⟨h, h5⟩ := Reals.andi_one h
  obtain ⟨h, h4⟩ := Reals.andi_one h
  obtain ⟨h, h3⟩ := Reals.andi_one h
  obtain ⟨h, h2⟩ := Reals.andi_one h
  obtain ⟨h0, h1⟩ := Reals.andi_one h
  exact ⟨fun i => Reals.isReal_of_all _ _ (fun _ => Reals.inf_f32) _ _ _ _ h6 i, fun i => Reals.isReal_of_all _ _ (fun _ => Reals.inf_f32) _ _ _ _ h8 i,
    fun r j => dproj_real _ _ _ _ _ _ (fun i => Reals.isReal_of_all _ _ (fun _ => Reals.inf_f32) _ _ _ _ h0 i)
      (fun i => Reals.isReal_of_all _ _ (fun _ => Reals.inf_f32) _ _ _ _ h1 i) (fun i => Reals.isReal_of_all _ _ (fun _ => Reals.inf_f32) _ _ _ _ h2 i)
      (fun i => Reals.isReal_of_all _ _ (fun _ => Reals.inf_f32) _ _ _ _ h3 i) (fun i => Reals.isReal_of_all _ _ (fun _ => Reals.inf_f32) _ _ _ _ h4 i)
      (fun i => Reals.isReal_of_all _ _ (fun _ => Reals.inf_f32) _ _ _ _ h5 i) r j,
    fun i => Reals.isReal_of_all _ _ (fun _ => Reals.inf_f32) _ _ _ _ h9 i⟩

/-- The input's gradient under the precondition. -/
theorem final_11_pre (hp : Pre_KIbIdeal_finite_ib m) (c : Dev nD) :
    (dats m 0 c).arrAt 11 (cfgs 0).N = back (m ((c : Thread nD τ).loc main_arg6)) (mulf (DH m c) (gains (m ((c : Thread nD τ).loc main_arg8)))) (m ((c : Thread nD τ).loc main_arg7)) := by
  obtain ⟨h6, h8, hd, h9⟩ := reals_of_pre m hp c
  exact final_11 m c h6 h8 hd h9

end Cert.KIbIdeal.Ib

end
-- ==== Proof.IbClaims.lean ====
/- The claims about the gradients through the mixer's projection in (`Cert.KIb`, `Cert.KIbIdeal`, `Cert.RIbIdeal`): each program runs and leaves its arguments
   as they were; over the extended reals the call's results are the reference's. -/
module

public import proofs.«01_k».proof.Defs
public import proofs.«01_k».proof.Proof.Gen.KIb.Frame
public import proofs.«01_k».proof.Proof.Gen.KIbIdeal.Value
public import proofs.«01_k».proof.Proof.Gen.RIbIdeal.Run
public import proofs.«01_k».proof.Proof.Gen.Pre_finite_ib
public import proofs.«01_k».proof.Proof.Ib
public import Idealize.ShloMosaic.Lib.Claim

@[expose] public section

namespace Cert.Proof.Ib

open Idealize.ShloMosaic Idealize.SL.Sem

/-- The kernel as printed: it terminates, and its arguments end unchanged. -/
theorem frame_kernel : Cert.quiescent_KIb := fun m ρ _ => Cert.KIb.Gen.frame m ρ

/-- The kernel over the extended reals: likewise. -/
theorem frame_ideal : Cert.quiescent_KIbIdeal := fun m ρ _ => Cert.KIbIdeal.Gen.frame m ρ

/-- The same, where the precondition is stated too. -/
theorem frame_ideal_pre : Cert.quiescent_KIbIdeal_pre_finite_ib := fun m ρ _ => Cert.KIbIdeal.Gen.frame m ρ

/-- The reference: likewise. -/
theorem frame_reference : Cert.quiescent_RIbIdeal := fun m ρ _ =>
  (θ_run Cert.RIbIdeal.defs _ _).mono (fun r h => ⟨fun c => (h c).2.2.2, sem_eq_zero_of_no_sems (by decide) r.2⟩)
    (Cert.RIbIdeal.Value.run (F := Ideal) m ρ)

/-- The same, where the precondition is stated too. -/
theorem frame_reference_pre : Cert.quiescent_RIbIdeal_pre_finite_ib := fun m ρ _ => frame_reference m ρ trivial

set_option maxRecDepth 16384 in
set_option maxHeartbeats 1600000 in
/-- The results agree. -/
theorem algebraic : Cert.algebraic_KIbIdeal_RIbIdeal_pre_finite_ib := by
  pair_intro
  · run_from Cert.KIbIdeal.Value.run_blocks (F := Ideal) m g
  · run_from Cert.RIbIdeal.Value.run (F := Ideal) m' g'
    · refine (Cert.RIbIdeal.Terms.v122_eq m' c).trans ?_
      rw [(hagree c).1, (hagree c).2.1, (hagree c).2.2.1, (hagree c).2.2.2.1, (hagree c).2.2.2.2.1, (hagree c).2.2.2.2.2.1]
      exact (Cert.KIbIdeal.Ib.final_10 m c).symm
    · refine (Cert.RIbIdeal.Terms.v123_eq m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact (Cert.KIbIdeal.Ib.final_11_pre m hpre c).symm
    · refine (Cert.RIbIdeal.Terms.v124_eq m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2.2.2]
      exact (Cert.KIbIdeal.Ib.final_12 m c).symm

end Cert.Proof.Ib
-- ==== Proof.Rows.lean ====
/- What the sums over the devices have in common, for any number of slabs, rows and columns: the bounds that a precondition states of two
   words, where the blocks that the words name lie, the reference, and that the sum of five blocks is the reference. -/
module

public import Idealize.ShloMosaic.Lib.Pipeline.ValueKit

@[expose] public section

noncomputable section

open Idealize.ShloMosaic
open scoped BigOperators

namespace Cert.Rows

/-- The two words as the precondition compares them: the device's place among the eight, and its chip's among the four. -/
theorem within (a b : BitVec 32) (h : IntOp.andi (IntOp.andi (IntOp.andi (IntOp.cmpi .sge a 0#32) (IntOp.cmpi .slt a 8#32)) (IntOp.cmpi .sge b 0#32))
    (IntOp.cmpi .slt b 4#32) = 1#1) : a.toNat < 8 ∧ b.toNat < 4 := by
  have both (a b : BitVec 1) : IntOp.andi a b = 1#1 ↔ a = 1#1 ∧ b = 1#1 := by revert a b; decide
  have one (p : Bool) : (BitVec.ofBool p = 1#1) ↔ p = true := by cases p <;> decide
  simp only [both, IntOp.cmpi, one, BitVec.sle, BitVec.slt, decide_eq_true_eq, BitVec.toInt, BitVec.toNat_ofNat] at h
  omega

/-- The one true term of a masked sum. -/
theorem sum_mask {n : ℕ} (hn : n ≤ 2 ^ 32) (w : BitVec 32) (k : Fin n) (hk : k.val = w.toNat) (f : Fin n → EReal) :
    ∑ x : Fin n, Scalar.select (IntOp.cmpi CmpIPredicate.eq (BitVec.ofNat 32 x.val) w) (f x) 0 = f k := by
  rw [Finset.sum_eq_single k]
  · have e : BitVec.ofNat 32 k.val = w := by rw [hk]; exact BitVec.ofNat_toNat 32 w |>.trans (BitVec.setWidth_eq w)
    simp [IntOp.cmpi, Scalar.select, e]
  · intro x _ hx
    have e : BitVec.ofNat 32 x.val ≠ w := fun e => hx (Fin.ext (by
      rw [hk, ← e, BitVec.toNat_ofNat]; exact (Nat.mod_eq_of_lt (lt_of_lt_of_le x.isLt hn)).symm))
    have e' : (BitVec.ofNat 32 x.val == w) = false := beq_false_of_ne e
    simp [IntOp.cmpi, Scalar.select, e']
  · intro h; exact absurd (Finset.mem_univ _) h

/-- A block of `R` rows that the words name is inside its array: of three axes, -/
theorem inside3 {n N R C : ℕ} (k : ℕ) (w : BitVec 32) (hk : k < n) (hw : (w.toNat + 1) * R ≤ N) (a : Fin 3) :
    ((![(BitVec.ofNat 32 k).toNat, w.toNat, 0] : Fin 3 → ℕ) a + 1) * (![1, R, C] : Fin 3 → ℕ) a ≤ (![n, N, C] : Fin 3 → ℕ) a := by
  have h : (BitVec.ofNat 32 k).toNat ≤ k := (BitVec.toNat_ofNat k 32).trans_le (Nat.mod_le _ _)
  fin_cases a
  · exact (Nat.mul_one _).trans_le (Nat.succ_le_of_lt (h.trans_lt hk))
  · exact hw
  · exact (Nat.one_mul C).le

/-- and of four. -/
theorem inside4 {p n R C : ℕ} (w : BitVec 32) (k : ℕ) (hw : w.toNat < p) (hk : k < n) (a : Fin 4) :
    ((![w.toNat, (BitVec.ofNat 32 k).toNat, 0, 0] : Fin 4 → ℕ) a + 1) * (![1, 1, R, C] : Fin 4 → ℕ) a ≤ (![p, n, R, C] : Fin 4 → ℕ) a := by
  have h : (BitVec.ofNat 32 k).toNat ≤ k := (BitVec.toNat_ofNat k 32).trans_le (Nat.mod_le _ _)
  fin_cases a
  · exact (Nat.mul_one _).trans_le (Nat.succ_le_of_lt hw)
  · exact (Nat.mul_one _).trans_le (Nat.succ_le_of_lt (h.trans_lt hk))
  · exact (Nat.one_mul R).le
  · exact (Nat.one_mul C).le

/-- Where an element of such a block lies: of three axes, -/
theorem slot3 {n N R C k w : ℕ} (e : (⟨3, ![n, N, C]⟩ : Shape).Idx) (a : Fin R) (b : Fin C) (s : Fin n) (r : Fin N) (hs : s.val = k) (hr : r.val = w * R + a.val)
    (he : ∀ x : Fin 3, (e x).val = (![k, w, 0] : Fin 3 → ℕ) x * (![1, R, C] : Fin 3 → ℕ) x + ((ix3 (0 : Fin 1) a b) x).val) : e = ix3 s r b := by
  refine funext fun x => Fin.ext ((he x).trans ?_)
  fin_cases x
  · exact (congrArg (· + 0) (Nat.mul_one _)).trans hs.symm
  · exact hr.symm
  · exact (congrArg (· + b.val) (Nat.zero_mul _)).trans (Nat.zero_add _)

/-- and of four. -/
theorem slot4 {p n R C w k : ℕ} (e : (⟨4, ![p, n, R, C]⟩ : Shape).Idx) (a : Fin R) (b : Fin C) (q : Fin p) (s : Fin n) (hq : q.val = w) (hs : s.val = k)
    (he : ∀ x : Fin 4, (e x).val = (![w, k, 0, 0] : Fin 4 → ℕ) x * (![1, 1, R, C] : Fin 4 → ℕ) x + ((ix4 (0 : Fin 1) (0 : Fin 1) a b) x).val) : e = ix4 q s a b := by
  refine funext fun x => Fin.ext ((he x).trans ?_)
  fin_cases x
  · exact (congrArg (· + 0) (Nat.mul_one _)).trans hq.symm
  · exact (congrArg (· + 0) (Nat.mul_one _)).trans hs.symm
  · exact (congrArg (· + a.val) (Nat.zero_mul _)).trans (Nat.zero_add _)
  · exact (congrArg (· + b.val) (Nat.zero_mul _)).trans (Nat.zero_add _)

/-- The blocks of an array of slabs are its slabs. -/
theorem slab_index {n R C : ℕ} (hR : 0 < R) (hC : 0 < C)
    (β : (a : Fin 3) → Fin (((![n, R, C] : Fin 3 → ℕ) a + (![1, R, C] : Fin 3 → ℕ) a - 1) / (![1, R, C] : Fin 3 → ℕ) a)) :
    ∃ k : Fin n, ∀ a, (![k.val, 0, 0] : Fin 3 → ℕ) a = (β a).val := by
  have one {x : ℕ} (hx : 0 < x) : (x + x - 1) / x = 1 := by
    rw [show x + x - 1 = x - 1 + x by omega, Nat.add_div_right _ hx, Nat.div_eq_of_lt (by omega)]
  have h0 : (β 0).val < n := (β 0).isLt.trans_eq (show (n + 1 - 1) / 1 = n by rw [Nat.div_one, Nat.add_sub_cancel])
  have h1 : (β 1).val < 1 := (β 1).isLt.trans_eq (one hR)
  have h2 : (β 2).val < 1 := (β 2).isLt.trans_eq (one hC)
  refine ⟨⟨_, h0⟩, fun a => ?_⟩
  fin_cases a
  · rfl
  · exact (Nat.lt_one_iff.mp h1).symm
  · exact (Nat.lt_one_iff.mp h2).symm

/-- The blocks of an array of such arrays likewise. -/
theorem part_index {p n R C : ℕ} (hR : 0 < R) (hC : 0 < C)
    (β : (a : Fin 4) → Fin (((![p, n, R, C] : Fin 4 → ℕ) a + (![1, 1, R, C] : Fin 4 → ℕ) a - 1) / (![1, 1, R, C] : Fin 4 → ℕ) a)) :
    ∃ (q : Fin p) (k : Fin n), ∀ a, (![q.val, k.val, 0, 0] : Fin 4 → ℕ) a = (β a).val := by
  have one {x : ℕ} (hx : 0 < x) : (x + x - 1) / x = 1 := by
    rw [show x + x - 1 = x - 1 + x by omega, Nat.add_div_right _ hx, Nat.div_eq_of_lt (by omega)]
  have h0 : (β 0).val < p := (β 0).isLt.trans_eq (show (p + 1 - 1) / 1 = p by rw [Nat.div_one, Nat.add_sub_cancel])
  have h1 : (β 1).val < n := (β 1).isLt.trans_eq (show (n + 1 - 1) / 1 = n by rw [Nat.div_one, Nat.add_sub_cancel])
  have h2 : (β 2).val < 1 := (β 2).isLt.trans_eq (one hR)
  have h3 : (β 3).val < 1 := (β 3).isLt.trans_eq (one hC)
  refine ⟨⟨_, h0⟩, ⟨_, h1⟩, fun a => ?_⟩
  fin_cases a
  · rfl
  · rfl
  · exact (Nat.lt_one_iff.mp h2).symm
  · exact (Nat.lt_one_iff.mp h3).symm

/-- An element of a slab. -/
theorem slab_elem {R C : ℕ} (y : (⟨3, ![1, R, C]⟩ : Shape).Idx) : ∃ (a : Fin R) (b : Fin C), y = ix3 0 a b :=
  ⟨y 1, y 2, funext fun x => by fin_cases x; exacts [Subsingleton.elim (α := Fin 1) _ _, rfl, rfl]⟩

/-- An element of such a block of four axes. -/
theorem part_elem {R C : ℕ} (y : (⟨4, ![1, 1, R, C]⟩ : Shape).Idx) : ∃ (a : Fin R) (b : Fin C), y = ix4 0 0 a b :=
  ⟨y 2, y 3, funext fun x => by fin_cases x; exacts [Subsingleton.elim (α := Fin 1) _ _, Subsingleton.elim (α := Fin 1) _ _, rfl, rfl]⟩

/-- The one index of a single word. -/
theorem one_index (i : (⟨1, ![1]⟩ : Shape).Idx) : i = ix1 0 := by
  funext a; fin_cases a; exact Subsingleton.elim (α := Fin 1) _ _

/-- What the reference's operations ask of the sizes: `n` slabs of `N` rows of `C` columns, of which a device keeps `R`. -/
structure Shapes (n N R C : ℕ) : Prop where
  word : (⟨1, ![1]⟩ : Shape).ShapeCasts ⟨0, ![]⟩
  rows : (⟨3, ![n, N, C]⟩ : Shape).ShapeCasts ⟨4, ![n, 8, R, C]⟩
  one : 0 < (⟨0, ![]⟩ : Shape).numel
  devs : (⟨1, ![8]⟩ : Shape).BroadcastsInDim ⟨4, ![1, 8, 1, 1]⟩ (![1] : Fin 1 → Fin 4)
  dev : (⟨0, ![]⟩ : Shape).BroadcastsInDim ⟨4, ![1, 8, 1, 1]⟩ (![] : Fin 0 → Fin 4)
  devMask : (⟨4, ![1, 8, 1, 1]⟩ : Shape).BroadcastsInDim ⟨4, ![n, 8, R, C]⟩ (![0, 1, 2, 3] : Fin 4 → Fin 4)
  devZero : (⟨0, ![]⟩ : Shape).BroadcastsInDim ⟨4, ![n, 8, R, C]⟩ (![] : Fin 0 → Fin 4)
  devSum : (⟨4, ![n, 8, R, C]⟩ : Shape).ReducesTo [1] ⟨3, ![n, R, C]⟩
  chips : (⟨1, ![4]⟩ : Shape).BroadcastsInDim ⟨4, ![4, 1, 1, 1]⟩ (![0] : Fin 1 → Fin 4)
  chip : (⟨0, ![]⟩ : Shape).BroadcastsInDim ⟨4, ![4, 1, 1, 1]⟩ (![] : Fin 0 → Fin 4)
  chipMask : (⟨4, ![4, 1, 1, 1]⟩ : Shape).BroadcastsInDim ⟨4, ![4, n, R, C]⟩ (![0, 1, 2, 3] : Fin 4 → Fin 4)
  chipZero : (⟨0, ![]⟩ : Shape).BroadcastsInDim ⟨4, ![4, n, R, C]⟩ (![] : Fin 0 → Fin 4)
  chipSum : (⟨4, ![4, n, R, C]⟩ : Shape).ReducesTo [0] ⟨3, ![n, R, C]⟩
  partSum : (⟨4, ![3, n, R, C]⟩ : Shape).ReducesTo [0] ⟨3, ![n, R, C]⟩

/-- The sum of two devices' parts: the rows that device `dev` keeps of this one's own gradient (`g`), and the other device's part for the chip
    `chip` (`got`). -/
def pairSum {n N R C : ℕ} (h : Shapes n N R C) (dev chip : IVec ⟨0, ![]⟩ 32) (g : FVec Ideal ⟨3, ![n, N, C]⟩ .f32)
    (got : FVec Ideal ⟨4, ![4, n, R, C]⟩ .f32) : FVec Ideal ⟨3, ![n, R, C]⟩ .f32 :=
  addf (Host.reduceAdd (select (broadcastInDim ⟨4, ![n, 8, R, C]⟩ ![0, 1, 2, 3] h.devMask
      (cmpi .eq (broadcastInDim ⟨4, ![1, 8, 1, 1]⟩ ![1] h.devs (iotaInDim ⟨1, ![8]⟩ 32 0)) (broadcastInDim ⟨4, ![1, 8, 1, 1]⟩ ![] h.dev dev)))
      (shapeCast _ g h.rows) (broadcastInDim ⟨4, ![n, 8, R, C]⟩ ![] h.devZero (constant ⟨0, ![]⟩ .f32 0x00000000#32))) (constant ⟨0, ![]⟩ .f32 0x00000000#32) h.devSum h.one)
    (Host.reduceAdd (select (broadcastInDim ⟨4, ![4, n, R, C]⟩ ![0, 1, 2, 3] h.chipMask
      (cmpi .eq (broadcastInDim ⟨4, ![4, 1, 1, 1]⟩ ![0] h.chips (iotaInDim ⟨1, ![4]⟩ 32 0)) (broadcastInDim ⟨4, ![4, 1, 1, 1]⟩ ![] h.chip chip)))
      got (broadcastInDim ⟨4, ![4, n, R, C]⟩ ![] h.chipZero (constant ⟨0, ![]⟩ .f32 0x00000000#32))) (constant ⟨0, ![]⟩ .f32 0x00000000#32) h.chipSum h.one)

/-- The reference of the last step: the sum of the two parts for the device's own place, and that of the three sums received. -/
def ownSum {n N R C : ℕ} (h : Shapes n N R C) (dev chip : IVec ⟨1, ![1]⟩ 32) (g : FVec Ideal ⟨3, ![n, N, C]⟩ .f32)
    (got : FVec Ideal ⟨4, ![4, n, R, C]⟩ .f32) (parts : FVec Ideal ⟨4, ![3, n, R, C]⟩ .f32) : FVec Ideal ⟨3, ![n, R, C]⟩ .f32 :=
  addf (pairSum h (shapeCast ⟨0, ![]⟩ dev h.word) (shapeCast ⟨0, ![]⟩ chip h.word) g got)
    (Host.reduceAdd parts (constant ⟨0, ![]⟩ .f32 0x00000000#32) h.partSum h.one)

/-- The rows of a device, in the cut by devices and in the whole. -/
theorem rows_apply {n N R C : ℕ} (h : Shapes n N R C) (hN : N = 8 * R) (g : FVec Ideal ⟨3, ![n, N, C]⟩ .f32) (s : Fin n) (d : Fin 8) (a : Fin R) (b : Fin C)
    (r : Fin N) (hr : r.val = d.val * R + a.val) : shapeCast ⟨4, ![n, 8, R, C]⟩ g h.rows (ix4 s d a b) = g (ix3 s r b) := by
  refine shapeCast_apply g h.rows _ _ ?_
  rw [Shape.rowMajor_val_three, Shape.rowMajor_val_four]
  show (s.val * N + r.val) * C + b.val = ((s.val * 8 + d.val) * R + a.val) * C + b.val
  rw [hr, hN]; ring

/-- The sum of the two parts at an element. -/
theorem pairSum_apply {n N R C : ℕ} (h : Shapes n N R C) (hN : N = 8 * R) (dev chip : IVec ⟨0, ![]⟩ 32) (g : FVec Ideal ⟨3, ![n, N, C]⟩ .f32)
    (got : FVec Ideal ⟨4, ![4, n, R, C]⟩ .f32) (d : Fin 8) (hd : d.val = (dev ix0).toNat) (p : Fin 4) (hp : p.val = (chip ix0).toNat)
    (s : Fin n) (a : Fin R) (b : Fin C) (r : Fin N) (hr : r.val = d.val * R + a.val) :
    pairSum h dev chip g got (ix3 s a b) = (g (ix3 s r b) : EReal) + got (ix4 p s a b) := by
  rw [← rows_apply h hN g s d a b r hr]
  unfold pairSum
  generalize shapeCast ⟨4, ![n, 8, R, C]⟩ g h.rows = g'
  pointwise
  refine congrArg₂ (· + ·) ?_ ?_
  · exact sum_mask (by norm_num) _ d hd _
  · exact sum_mask (by norm_num) _ p hp _

/-- The reference of the last step at an element. -/
theorem ownSum_apply {n N R C : ℕ} (h : Shapes n N R C) (hN : N = 8 * R) (dev chip : IVec ⟨1, ![1]⟩ 32) (g : FVec Ideal ⟨3, ![n, N, C]⟩ .f32)
    (got : FVec Ideal ⟨4, ![4, n, R, C]⟩ .f32) (parts : FVec Ideal ⟨4, ![3, n, R, C]⟩ .f32)
    (d : Fin 8) (hd : d.val = (dev (ix1 0)).toNat) (p : Fin 4) (hp : p.val = (chip (ix1 0)).toNat) (s : Fin n) (a : Fin R) (b : Fin C)
    (r : Fin N) (hr : r.val = d.val * R + a.val) :
    ownSum h dev chip g got parts (ix3 s a b)
      = (g (ix3 s r b) : EReal) + got (ix4 p s a b) + (parts (ix4 0 s a b) + parts (ix4 1 s a b) + parts (ix4 2 s a b)) := by
  have word (v : IVec ⟨1, ![1]⟩ 32) : shapeCast ⟨0, ![]⟩ v h.word ix0 = v (ix1 0) := by pointwise
  rw [← pairSum_apply h hN (shapeCast ⟨0, ![]⟩ dev h.word) (shapeCast ⟨0, ![]⟩ chip h.word) g got d (hd.trans (congrArg BitVec.toNat (word dev).symm)) p
    (hp.trans (congrArg BitVec.toNat (word chip).symm)) s a b r hr]
  unfold ownSum
  generalize pairSum h _ _ g got = q
  pointwise
  rw [Fin.sum_univ_three]

/-- The kernel's sum of five, each read where its block lies, is the reference. -/
theorem five_eq {n N R C : ℕ} (h : Shapes n N R C) (hN : N = 8 * R) (dev chip : IVec ⟨1, ![1]⟩ 32) (g : FVec Ideal ⟨3, ![n, N, C]⟩ .f32)
    (got : FVec Ideal ⟨4, ![4, n, R, C]⟩ .f32) (parts : FVec Ideal ⟨4, ![3, n, R, C]⟩ .f32)
    (hd : (dev (ix1 0)).toNat < 8) (hp : (chip (ix1 0)).toNat < 4) (s : Fin n) (a : Fin R) (b : Fin C) {x0 x1 x2 x3 x4 : EReal}
    (e0 : ∀ r : Fin N, r.val = (dev (ix1 0)).toNat * R + a.val → x0 = g (ix3 s r b))
    (e1 : ∀ p : Fin 4, p.val = (chip (ix1 0)).toNat → x1 = got (ix4 p s a b))
    (e2 : x2 = parts (ix4 0 s a b)) (e3 : x3 = parts (ix4 1 s a b)) (e4 : x4 = parts (ix4 2 s a b)) :
    x0 + x1 + x2 + x3 + x4 = ownSum h dev chip g got parts (ix3 s a b) := by
  have hr : (dev (ix1 0)).toNat * R + a.val < N := by have := Nat.mul_le_mul_right R (Nat.succ_le_of_lt hd); have := a.isLt; rw [Nat.succ_mul] at *; omega
  rw [ownSum_apply h hN dev chip g got parts ⟨_, hd⟩ rfl ⟨_, hp⟩ rfl s a b ⟨_, hr⟩ rfl, e0 ⟨_, hr⟩ rfl, e1 ⟨_, hp⟩ rfl, e2, e3, e4]
  simp only [add_assoc]

end Cert.Rows

end
-- ==== Proof.Su.lean ====
/- What the last step of the exchange leaves of one feed-forward gradient (`Cert.KSuIdeal`): the rows that a device keeps of a gradient, summed over the devices. -/
module

public import proofs.«01_k».proof.Proof.Gen.KSu
public import proofs.«01_k».proof.Proof.Gen.KSu.Frame
public import proofs.«01_k».proof.Proof.Gen.KSuIdeal
public import proofs.«01_k».proof.Proof.Gen.KSuIdeal.Skeleton
public import proofs.«01_k».proof.Proof.Gen.KSuIdeal.Launch
public import proofs.«01_k».proof.Proof.Gen.KSuIdeal.Frame
public import proofs.«01_k».proof.Proof.Gen.Pre_inside_su
public import proofs.«01_k».proof.Proof.Gen.RSuIdeal
public import Idealize.ShloMosaic.Lib.Pipeline.ValueKit
public import Idealize.ShloMosaic.Lib.Pipeline.Covers
public import Idealize.ShloMosaic.Lib.StableHlo.Run
public import proofs.«01_k».proof.Defs
public import proofs.«01_k».proof.Proof.Rows

@[expose] public section

set_option maxRecDepth 16384

noncomputable section

open Idealize.ShloMosaic Idealize.ShloMosaic.TcCoe Idealize.SL.Sem
open Idealize.ShloMosaic.Pipeline (Dat)
open scoped BigOperators

namespace Cert.Pre_inside_su

open Cert.Pre_inside_su.Gen

/-- The precondition's words: the device's place among the eight, and its chip's among the four. -/
theorem bounds {F : FTy → Type} [FloatOps F] (a0 a1 : IVec S1 32) (a2 : FVec F S3x2816x1024 .f32) (a3 : FVec F S4x3x352x1024 .f32)
    (a4 : FVec F S3x3x352x1024 .f32) (h : fn a0 a1 a2 a3 a4 = fun _ => 1#1) (i : S1.Idx) : (a0 i).toNat < 8 ∧ (a1 i).toNat < 4 :=
  Cert.Rows.within _ _ (congrFun h i)

end Cert.Pre_inside_su

namespace Cert.KSu.Gen

/-- The blocks that the device's two words name are inside their arrays: the kernel as printed. -/
theorem ok_of_pre (m : (ℓ : Loc nD τ sig) → Buf (Elt Bits) ℓ) (h : Cert.Pre_KSu m) : Ok m := by
  have e0 : tbl m 0 = m ((0 : Dev nD).tc.loc main_arg0) := V_main_arg0 m 0
  have e1 : tbl m 1 = m ((0 : Dev nD).tc.loc main_arg1) := V_main_arg1 m 0
  have b (i) : (tbl m 0 i).toNat < 8 ∧ (tbl m 1 i).toNat < 4 := by rw [e0, e1]; exact Cert.Pre_inside_su.bounds _ _ _ _ _ (h 0) i
  exact ⟨fun i => ⟨Cert.Rows.inside3 _ _ (i 0).isLt (Nat.mul_le_mul_right 352 (b _).1), .inl rfl⟩,
    fun i => ⟨Cert.Rows.inside4 _ _ (b _).2 (i 0).isLt, .inl rfl⟩⟩

end Cert.KSu.Gen

namespace Cert.KSuIdeal.Gen

/-- The blocks that the device's two words name are inside their arrays: the kernel over the extended reals. -/
theorem ok_of_pre (m : (ℓ : Loc nD τ sig) → Buf (Elt Ideal) ℓ) (h : Cert.Pre_KSuIdeal m) : Ok m := by
  have e0 : tbl m 0 = m ((0 : Dev nD).tc.loc main_arg0) := V_main_arg0 m 0
  have e1 : tbl m 1 = m ((0 : Dev nD).tc.loc main_arg1) := V_main_arg1 m 0
  have b (i) : (tbl m 0 i).toNat < 8 ∧ (tbl m 1 i).toNat < 4 := by rw [e0, e1]; exact Cert.Pre_inside_su.bounds _ _ _ _ _ (h 0) i
  exact ⟨fun i => ⟨Cert.Rows.inside3 _ _ (i 0).isLt (Nat.mul_le_mul_right 352 (b _).1), .inl rfl⟩,
    fun i => ⟨Cert.Rows.inside4 _ _ (b _).2 (i 0).isLt, .inl rfl⟩⟩

end Cert.KSuIdeal.Gen

namespace Cert.RSuIdeal.Terms

open Cert.RSuIdeal Cert.RSuIdeal.Gen

/-- The sizes. -/
theorem shapes : Cert.Rows.Shapes 3 2816 352 1024 :=
  ⟨shapeCasts_S1_S_, shapeCasts_S3x2816x1024_S3x8x352x1024, h_S_, bcast_S8_S1x8x1x1_1, bcast_S_S1x8x1x1, bcast_S1x8x1x1_S3x8x352x1024_0_1_2_3, bcast_S_S3x8x352x1024,
    reducesTo_S3x8x352x1024_S3x352x1024_d1, bcast_S4_S4x1x1x1_0, bcast_S_S4x1x1x1, bcast_S4x1x1x1_S4x3x352x1024_0_1_2_3, bcast_S_S4x3x352x1024,
    reducesTo_S4x3x352x1024_S3x352x1024_d0, reducesTo_S3x3x352x1024_S3x352x1024_d0⟩

end Cert.RSuIdeal.Terms

namespace Cert.KSuIdeal.Su

open Cert.KSuIdeal Cert.KSuIdeal.Gen Cert.RSuIdeal.Terms

variable (m : (ℓ : Loc nD τ sig) → Buf (Elt Ideal) ℓ)

/-- Every window's block index at grid point `t`. -/
theorem idx (hO : Ok m) (t : Fin (cfgM m hO).N) : ((cfgM m hO).win 0).index t = ![t.val, ((tbl m 0 : IVec S1 32) (ix1 0)).toNat, 0]
    ∧ ((cfgM m hO).win 1).index t = ![((tbl m 1 : IVec S1 32) (ix1 0)).toNat, t.val, 0, 0]
    ∧ ((cfgM m hO).win 2).index t = ![0, t.val, 0, 0] ∧ ((cfgM m hO).win 3).index t = ![1, t.val, 0, 0]
    ∧ ((cfgM m hO).win 4).index t = ![2, t.val, 0, 0] ∧ ((cfgM m hO).win 5).index t = ![t.val, 0, 0] := by
  have h2 : ∀ u : Fin grid0.N, cc0_transform_2 (grid0.coords u) = ![0, u.val, 0, 0] ∧ cc0_transform_3 (grid0.coords u) = ![1, u.val, 0, 0]
      ∧ cc0_transform_4 (grid0.coords u) = ![2, u.val, 0, 0] ∧ cc0_transform_5 (grid0.coords u) = ![u.val, 0, 0]
      ∧ (BitVec.ofNat 32 (grid0.coords u 0).val).toNat = u.val := by decide +kernel
  obtain ⟨e2, e3, e4, e5, e⟩ := h2 t
  refine ⟨?_, ?_, e2, e3, e4, e5⟩
  · refine (show _ = ![(BitVec.ofNat 32 (grid0.coords t 0).val).toNat, ((tbl m 0 : IVec S1 32) _).toNat, 0] from rfl).trans ?_
    exact congrArg₂ (fun p q : ℕ => ![p, q, 0]) e (congrArg (fun i => ((tbl m 0 : IVec S1 32) i).toNat) (Cert.Rows.one_index _))
  · refine (show _ = ![((tbl m 1 : IVec S1 32) _).toNat, (BitVec.ofNat 32 (grid0.coords t 0).val).toNat, 0, 0] from rfl).trans ?_
    exact congrArg₂ (fun p q : ℕ => ![p, q, 0, 0]) (congrArg (fun i => ((tbl m 1 : IVec S1 32) i).toNat) (Cert.Rows.one_index _)) e

set_option maxHeartbeats 1600000 in
/-- The received sums at the region's entry. -/
theorem entry (c : Dev nD) : (show FVec Ideal S3x3x352x1024 .bf16 from V m c main_v0) = fun i => (m ((c : Thread nD τ).loc main_arg4) : FVec Ideal S3x3x352x1024 .f32) i := by
  unfold V; after_results; rfl

/-- What the body leaves of the blocks that it finds. -/
theorem body (c : Dev nD) (i : grid0.Coords) (M0 : Memref sig .tc .vmem S1x352x1024 .f32) (h0 : M0.IsWhole) (M1 : Memref sig .tc .vmem S1x1x352x1024 .f32) (h1 : M1.IsWhole)
    (M2 : Memref sig .tc .vmem S1x1x352x1024 .bf16) (h2 : M2.IsWhole) (M3 : Memref sig .tc .vmem S1x1x352x1024 .bf16) (h3 : M3.IsWhole)
    (M4 : Memref sig .tc .vmem S1x1x352x1024 .bf16) (h4 : M4.IsWhole) (M5 : Memref sig .tc .vmem S1x352x1024 .f32) (h5 : M5.IsWhole)
    (x0 : Vec Ideal S1x352x1024 .f32) (x1 : Vec Ideal S1x1x352x1024 .f32) (x2 x3 x4 : Vec Ideal S1x1x352x1024 .bf16) (y0 : TbBuf0 (F := Ideal) c tbM0_0) (y1 : TbBuf0 (F := Ideal) c tbM0_1) :
    out0_A_5 c i M0 h0 M1 h1 M2 h2 M3 h3 M4 h4 M5 h5 x0 x1 x2 x3 x4 y0 y1 = k0_pay1 x0 x1 x2 x3 x4 := by
  frame_out
  try simp only [Memref.IsWhole.read_unread]

/-- It is the sum of the five. -/
theorem pay (x0 : Vec Ideal S1x352x1024 .f32) (x1 : Vec Ideal S1x1x352x1024 .f32) (x2 x3 x4 : Vec Ideal S1x1x352x1024 .bf16) (a : Fin 352) (b : Fin 1024) :
    (k0_pay1 x0 x1 x2 x3 x4 : FVec Ideal S1x352x1024 .f32) (ix3 0 a b)
      = (x0 (ix3 0 a b) : EReal) + x1 (ix4 0 0 a b) + x2 (ix4 0 0 a b) + x3 (ix4 0 0 a b) + x4 (ix4 0 0 a b) := by
  pointwise [k0_pay1]

/-- The reference of the kernel's arguments. -/
abbrev result (c : Dev nD) : FVec Ideal S3x352x1024 .f32 :=
  Cert.Rows.ownSum shapes (m ((c : Thread nD τ).loc main_arg0)) (m ((c : Thread nD τ).loc main_arg1)) (m ((c : Thread nD τ).loc main_arg2)) (m ((c : Thread nD τ).loc main_arg3)) (m ((c : Thread nD τ).loc main_arg4))

/-- What the body leaves at an element. -/
theorem out_at (hp : Cert.Pre_KSuIdeal m) (hO : Ok m) (t : Fin (cfgM m hO).N) (s : Fin 3) (hs : s.val = t.val) (a : Fin 352) (b : Fin 1024) :
    (outsAt0 m hO 0 t : FVec Ideal S1x352x1024 .f32) (ix3 0 a b) = result m 0 (ix3 s a b) := by
  obtain ⟨i0, i1, i2, i3, i4, -⟩ := idx m hO t
  rw [show tbl m 0 = m ((0 : Dev nD).tc.loc main_arg0) from V_main_arg0 m 0] at i0
  rw [show tbl m 1 = m ((0 : Dev nD).tc.loc main_arg1) from V_main_arg1 m 0] at i1
  obtain ⟨h0, h1⟩ := Cert.Pre_inside_su.bounds _ _ _ _ _ (hp 0) (ix1 0)
  unfold outsAt0
  refine (congrFun (body 0 _ _ _ _ _ _ _ _ _ _ _ _ _ _ _ _ _ _ _ _) (ix3 0 a b)).trans ((pay _ _ _ _ _ a b).trans ?_)
  refine Cert.Rows.five_eq shapes rfl _ _ _ _ _ h0 h1 s a b (fun r hr => ?_) (fun p hp => ?_) ?_ ?_ ?_
  · exact (congrArg (V m 0 main_arg2) (Cert.Rows.slot3 _ a b s r hs hr fun x =>
      (Pipeline.Window.rect_emb_val ((cfgM m hO).win 0) t _ x).trans (by rw [i0]; rfl))).trans (congrFun (V_main_arg2 m 0) _)
  · exact (congrArg (V m 0 main_arg3) (Cert.Rows.slot4 _ a b p s hp hs fun x =>
      (Pipeline.Window.rect_emb_val ((cfgM m hO).win 1) t _ x).trans (by rw [i1]; rfl))).trans (congrFun (V_main_arg3 m 0) _)
  · exact (congrArg (V m 0 main_v0) (Cert.Rows.slot4 (w := 0) _ a b (0 : Fin 3) s rfl hs fun x =>
      (Pipeline.Window.rect_emb_val ((cfgM m hO).win 2) t _ x).trans (by rw [i2]; rfl))).trans (congrFun (entry m 0) _)
  · exact (congrArg (V m 0 main_v0) (Cert.Rows.slot4 (w := 1) _ a b (1 : Fin 3) s rfl hs fun x =>
      (Pipeline.Window.rect_emb_val ((cfgM m hO).win 3) t _ x).trans (by rw [i3]; rfl))).trans (congrFun (entry m 0) _)
  · exact (congrArg (V m 0 main_v0) (Cert.Rows.slot4 (w := 2) _ a b (2 : Fin 3) s rfl hs fun x =>
      (Pipeline.Window.rect_emb_val ((cfgM m hO).win 4) t _ x).trans (by rw [i4]; rfl))).trans (congrFun (entry m 0) _)

/-- It is the reference where the block lies. -/
theorem block_out (hp : Cert.Pre_KSuIdeal m) (hO : Ok m) (t : Fin (cfgM m hO).N) (y : S1x352x1024.Idx) :
    (outsAt0 m hO 0 t : FVec Ideal S1x352x1024 .f32) y = result m 0 ((((cfgM m hO).win 5).blk t).view.emb y) := by
  obtain ⟨a, b, rfl⟩ := Cert.Rows.slab_elem y
  refine (out_at m hp hO t ⟨t.val, t.isLt⟩ rfl a b).trans (congrArg (result m 0) ?_).symm
  exact Cert.Rows.slot3 (w := 0) _ a b _ a rfl (by rw [Nat.zero_mul, Nat.zero_add]) fun x =>
    (Pipeline.Window.rect_emb_val ((cfgM m hO).win 5) t _ x).trans (by rw [(idx m hO t).2.2.2.2.2]; rfl)

/-- The output's blocks are its slabs. -/
theorem covers (hO : Ok m) : ((cfgM m hO).win 5).Covers := by
  refine Pipeline.Window.covers_of_index_surj _ rfl (by decide : ∀ a, 0 < S1x352x1024.size a) fun β => ?_
  obtain ⟨k, hk⟩ := Cert.Rows.slab_index (n := 3) (R := 352) (C := 1024) (by decide) (by decide) β
  exact ⟨⟨k.val, k.isLt⟩, fun a => by rw [(idx m hO _).2.2.2.2.2]; exact hk a⟩

/-- The result. -/
theorem final (hp : Cert.Pre_KSuIdeal m) (hO : Ok m) (c : Dev nD) : (dats m hO 0 c).arrAt 5 (cfgM m hO).N = result m c := by
  obtain rfl : c = 0 := Subsingleton.elim _ _
  refine (dats m hO 0 0).arrAt_eq_of_covers 5 _ (covers m hO) fun t hf y => ?_
  blk_simp; rw [after0_5]
  exact block_out m hp hO t y

end Cert.KSuIdeal.Su

end
-- ==== Proof.SuClaims.lean ====
/- The claims about the last step of the exchange for `ffn_w2` (`Cert.KSu`, `Cert.KSuIdeal`, `Cert.RSuIdeal`): where the device's words name blocks that
   there are, each program runs and leaves its arguments as they were; over the extended reals the call's result is the reference's. -/
module

public import proofs.«01_k».proof.Defs
public import proofs.«01_k».proof.Proof.Gen.KSu.Frame
public import proofs.«01_k».proof.Proof.Gen.KSuIdeal.Frame
public import proofs.«01_k».proof.Proof.Gen.RSuIdeal.Run
public import proofs.«01_k».proof.Proof.Su
public import Idealize.ShloMosaic.Lib.Claim

@[expose] public section

namespace Cert.Proof.Su

open Idealize.ShloMosaic Idealize.ShloMosaic.TcCoe Idealize.SL.Sem

/-- The kernel as printed: it terminates, and its arguments end unchanged. -/
theorem frame_kernel : Cert.quiescent_KSu := fun m ρ h => Cert.KSu.Gen.frame m ρ (Cert.KSu.Gen.ok_of_pre m h)

/-- The kernel over the extended reals: likewise. -/
theorem frame_ideal : Cert.quiescent_KSuIdeal := fun m ρ h => Cert.KSuIdeal.Gen.frame m ρ (Cert.KSuIdeal.Gen.ok_of_pre m h)

/-- The reference: likewise, -/
theorem frame_reference : Cert.quiescent_RSuIdeal := fun m ρ _ =>
  (θ_run Cert.RSuIdeal.defs _ _).mono (fun r h => ⟨fun c => (h c).2, sem_eq_zero_of_no_sems (by decide) r.2⟩)
    (Cert.RSuIdeal.Value.run (F := Ideal) m ρ)

/-- and so under the precondition. -/
theorem frame_reference_pre : Cert.quiescent_RSuIdeal_pre_inside_su := fun m ρ _ => frame_reference m ρ trivial

/-- The results agree. -/
theorem algebraic : Cert.algebraic_KSuIdeal_RSuIdeal := by
  intro m g m' g' hpre hagree
  have hO := Cert.KSuIdeal.Gen.ok_of_pre m hpre
  refine ⟨fun c => Cert.KSuIdeal.Su.result m c, ?_, ?_⟩
  · exact (θ_run Cert.KSuIdeal.defs _ _).mono (fun r h c => ⟨((h.1 c).1 5).trans (Cert.KSuIdeal.Su.final m hpre hO c), h.2 c⟩)
      (θ_run_and (Cert.KSuIdeal.Gen.run_main m g hO) (Cert.KSuIdeal.Gen.unchanged m g hO))
  · refine (θ_run Cert.RSuIdeal.defs _ _).mono (fun r h c => ⟨(h c).1.trans ?_, (h c).2⟩) (Cert.RSuIdeal.Value.run (F := Ideal) m' g')
    obtain ⟨e0, e1, e2, e3, e4⟩ := hagree c
    exact (show _ = Cert.Rows.ownSum Cert.RSuIdeal.Terms.shapes (m' ((c.tc : Thread Cert.RSuIdeal.nD Cert.RSuIdeal.τ).loc Cert.RSuIdeal.main_arg0)) (m' ((c.tc : Thread Cert.RSuIdeal.nD Cert.RSuIdeal.τ).loc Cert.RSuIdeal.main_arg1)) (m' ((c.tc : Thread Cert.RSuIdeal.nD Cert.RSuIdeal.τ).loc Cert.RSuIdeal.main_arg2)) (m' ((c.tc : Thread Cert.RSuIdeal.nD Cert.RSuIdeal.τ).loc Cert.RSuIdeal.main_arg3)) (m' ((c.tc : Thread Cert.RSuIdeal.nD Cert.RSuIdeal.τ).loc Cert.RSuIdeal.main_arg4)) from rfl).trans (by rw [e0, e1, e2, e3, e4])

end Cert.Proof.Su
-- ==== Proof.Si.lean ====
/- What the last step of the exchange leaves of the gradient in `w_in` (`Cert.KSiIdeal`): the rows that a device keeps of a gradient, summed over the devices. -/
module

public import proofs.«01_k».proof.Proof.Gen.KSi
public import proofs.«01_k».proof.Proof.Gen.KSi.Frame
public import proofs.«01_k».proof.Proof.Gen.KSiIdeal
public import proofs.«01_k».proof.Proof.Gen.KSiIdeal.Skeleton
public import proofs.«01_k».proof.Proof.Gen.KSiIdeal.Launch
public import proofs.«01_k».proof.Proof.Gen.KSiIdeal.Frame
public import proofs.«01_k».proof.Proof.Gen.Pre_inside_si
public import proofs.«01_k».proof.Proof.Gen.RSiIdeal
public import Idealize.ShloMosaic.Lib.Pipeline.ValueKit
public import Idealize.ShloMosaic.Lib.Pipeline.Covers
public import Idealize.ShloMosaic.Lib.StableHlo.Run
public import proofs.«01_k».proof.Defs
public import proofs.«01_k».proof.Proof.Rows

@[expose] public section

set_option maxRecDepth 16384

noncomputable section

open Idealize.ShloMosaic Idealize.ShloMosaic.TcCoe Idealize.SL.Sem
open Idealize.ShloMosaic.Pipeline (Dat)
open scoped BigOperators

namespace Cert.Pre_inside_si

open Cert.Pre_inside_si.Gen

/-- The precondition's words: the device's place among the eight, and its chip's among the four. -/
theorem bounds {F : FTy → Type} [FloatOps F] (a0 a1 : IVec S1 32) (a2 : FVec F S1x1792x1024 .f32) (a3 : FVec F S4x1x224x1024 .f32)
    (a4 : FVec F S3x1x224x1024 .f32) (h : fn a0 a1 a2 a3 a4 = fun _ => 1#1) (i : S1.Idx) : (a0 i).toNat < 8 ∧ (a1 i).toNat < 4 :=
  Cert.Rows.within _ _ (congrFun h i)

end Cert.Pre_inside_si

namespace Cert.KSi.Gen

/-- The blocks that the device's two words name are inside their arrays: the kernel as printed. -/
theorem ok_of_pre (m : (ℓ : Loc nD τ sig) → Buf (Elt Bits) ℓ) (h : Cert.Pre_KSi m) : Ok m := by
  have e0 : tbl m 0 = m ((0 : Dev nD).tc.loc main_arg0) := V_main_arg0 m 0
  have e1 : tbl m 1 = m ((0 : Dev nD).tc.loc main_arg1) := V_main_arg1 m 0
  have b (i) : (tbl m 0 i).toNat < 8 ∧ (tbl m 1 i).toNat < 4 := by rw [e0, e1]; exact Cert.Pre_inside_si.bounds _ _ _ _ _ (h 0) i
  exact ⟨fun i => ⟨Cert.Rows.inside3 _ _ (i 0).isLt (Nat.mul_le_mul_right 224 (b _).1), .inl rfl⟩,
    fun i => ⟨Cert.Rows.inside4 _ _ (b _).2 (i 0).isLt, .inl rfl⟩⟩

end Cert.KSi.Gen

namespace Cert.KSiIdeal.Gen

/-- The blocks that the device's two words name are inside their arrays: the kernel over the extended reals. -/
theorem ok_of_pre (m : (ℓ : Loc nD τ sig) → Buf (Elt Ideal) ℓ) (h : Cert.Pre_KSiIdeal m) : Ok m := by
  have e0 : tbl m 0 = m ((0 : Dev nD).tc.loc main_arg0) := V_main_arg0 m 0
  have e1 : tbl m 1 = m ((0 : Dev nD).tc.loc main_arg1) := V_main_arg1 m 0
  have b (i) : (tbl m 0 i).toNat < 8 ∧ (tbl m 1 i).toNat < 4 := by rw [e0, e1]; exact Cert.Pre_inside_si.bounds _ _ _ _ _ (h 0) i
  exact ⟨fun i => ⟨Cert.Rows.inside3 _ _ (i 0).isLt (Nat.mul_le_mul_right 224 (b _).1), .inl rfl⟩,
    fun i => ⟨Cert.Rows.inside4 _ _ (b _).2 (i 0).isLt, .inl rfl⟩⟩

end Cert.KSiIdeal.Gen

namespace Cert.RSiIdeal.Terms

open Cert.RSiIdeal Cert.RSiIdeal.Gen

/-- The sizes. -/
theorem shapes : Cert.Rows.Shapes 1 1792 224 1024 :=
  ⟨shapeCasts_S1_S_, shapeCasts_S1x1792x1024_S1x8x224x1024, h_S_, bcast_S8_S1x8x1x1_1, bcast_S_S1x8x1x1, bcast_S1x8x1x1_S1x8x224x1024_0_1_2_3, bcast_S_S1x8x224x1024,
    reducesTo_S1x8x224x1024_S1x224x1024_d1, bcast_S4_S4x1x1x1_0, bcast_S_S4x1x1x1, bcast_S4x1x1x1_S4x1x224x1024_0_1_2_3, bcast_S_S4x1x224x1024,
    reducesTo_S4x1x224x1024_S1x224x1024_d0, reducesTo_S3x1x224x1024_S1x224x1024_d0⟩

end Cert.RSiIdeal.Terms

namespace Cert.KSiIdeal.Si

open Cert.KSiIdeal Cert.KSiIdeal.Gen Cert.RSiIdeal.Terms

variable (m : (ℓ : Loc nD τ sig) → Buf (Elt Ideal) ℓ)

/-- Every window's block index at grid point `t`. -/
theorem idx (hO : Ok m) (t : Fin (cfgM m hO).N) : ((cfgM m hO).win 0).index t = ![t.val, ((tbl m 0 : IVec S1 32) (ix1 0)).toNat, 0]
    ∧ ((cfgM m hO).win 1).index t = ![((tbl m 1 : IVec S1 32) (ix1 0)).toNat, t.val, 0, 0]
    ∧ ((cfgM m hO).win 2).index t = ![0, t.val, 0, 0] ∧ ((cfgM m hO).win 3).index t = ![1, t.val, 0, 0]
    ∧ ((cfgM m hO).win 4).index t = ![2, t.val, 0, 0] ∧ ((cfgM m hO).win 5).index t = ![t.val, 0, 0] := by
  have h2 : ∀ u : Fin grid0.N, cc0_transform_2 (grid0.coords u) = ![0, u.val, 0, 0] ∧ cc0_transform_3 (grid0.coords u) = ![1, u.val, 0, 0]
      ∧ cc0_transform_4 (grid0.coords u) = ![2, u.val, 0, 0] ∧ cc0_transform_5 (grid0.coords u) = ![u.val, 0, 0]
      ∧ (BitVec.ofNat 32 (grid0.coords u 0).val).toNat = u.val := by decide +kernel
  obtain ⟨e2, e3, e4, e5, e⟩ := h2 t
  refine ⟨?_, ?_, e2, e3, e4, e5⟩
  · refine (show _ = ![(BitVec.ofNat 32 (grid0.coords t 0).val).toNat, ((tbl m 0 : IVec S1 32) _).toNat, 0] from rfl).trans ?_
    exact congrArg₂ (fun p q : ℕ => ![p, q, 0]) e (congrArg (fun i => ((tbl m 0 : IVec S1 32) i).toNat) (Cert.Rows.one_index _))
  · refine (show _ = ![((tbl m 1 : IVec S1 32) _).toNat, (BitVec.ofNat 32 (grid0.coords t 0).val).toNat, 0, 0] from rfl).trans ?_
    exact congrArg₂ (fun p q : ℕ => ![p, q, 0, 0]) (congrArg (fun i => ((tbl m 1 : IVec S1 32) i).toNat) (Cert.Rows.one_index _)) e

set_option maxHeartbeats 1600000 in
/-- The received sums at the region's entry. -/
theorem entry (c : Dev nD) : (show FVec Ideal S3x1x224x1024 .bf16 from V m c main_v0) = fun i => (m ((c : Thread nD τ).loc main_arg4) : FVec Ideal S3x1x224x1024 .f32) i := by
  unfold V; after_results; rfl

/-- What the body leaves of the blocks that it finds. -/
theorem body (c : Dev nD) (i : grid0.Coords) (M0 : Memref sig .tc .vmem S1x224x1024 .f32) (h0 : M0.IsWhole) (M1 : Memref sig .tc .vmem S1x1x224x1024 .f32) (h1 : M1.IsWhole)
    (M2 : Memref sig .tc .vmem S1x1x224x1024 .bf16) (h2 : M2.IsWhole) (M3 : Memref sig .tc .vmem S1x1x224x1024 .bf16) (h3 : M3.IsWhole)
    (M4 : Memref sig .tc .vmem S1x1x224x1024 .bf16) (h4 : M4.IsWhole) (M5 : Memref sig .tc .vmem S1x224x1024 .f32) (h5 : M5.IsWhole)
    (x0 : Vec Ideal S1x224x1024 .f32) (x1 : Vec Ideal S1x1x224x1024 .f32) (x2 x3 x4 : Vec Ideal S1x1x224x1024 .bf16) (y0 : TbBuf0 (F := Ideal) c tbM0_0) (y1 : TbBuf0 (F := Ideal) c tbM0_1) :
    out0_A_5 c i M0 h0 M1 h1 M2 h2 M3 h3 M4 h4 M5 h5 x0 x1 x2 x3 x4 y0 y1 = k0_pay1 x0 x1 x2 x3 x4 := by
  frame_out
  try simp only [Memref.IsWhole.read_unread]

/-- It is the sum of the five. -/
theorem pay (x0 : Vec Ideal S1x224x1024 .f32) (x1 : Vec Ideal S1x1x224x1024 .f32) (x2 x3 x4 : Vec Ideal S1x1x224x1024 .bf16) (a : Fin 224) (b : Fin 1024) :
    (k0_pay1 x0 x1 x2 x3 x4 : FVec Ideal S1x224x1024 .f32) (ix3 0 a b)
      = (x0 (ix3 0 a b) : EReal) + x1 (ix4 0 0 a b) + x2 (ix4 0 0 a b) + x3 (ix4 0 0 a b) + x4 (ix4 0 0 a b) := by
  pointwise [k0_pay1]

/-- The reference of the kernel's arguments. -/
abbrev result (c : Dev nD) : FVec Ideal S1x224x1024 .f32 :=
  Cert.Rows.ownSum shapes (m ((c : Thread nD τ).loc main_arg0)) (m ((c : Thread nD τ).loc main_arg1)) (m ((c : Thread nD τ).loc main_arg2)) (m ((c : Thread nD τ).loc main_arg3)) (m ((c : Thread nD τ).loc main_arg4))

/-- What the body leaves at an element. -/
theorem out_at (hp : Cert.Pre_KSiIdeal m) (hO : Ok m) (t : Fin (cfgM m hO).N) (s : Fin 1) (hs : s.val = t.val) (a : Fin 224) (b : Fin 1024) :
    (outsAt0 m hO 0 t : FVec Ideal S1x224x1024 .f32) (ix3 0 a b) = result m 0 (ix3 s a b) := by
  obtain ⟨i0, i1, i2, i3, i4, -⟩ := idx m hO t
  rw [show tbl m 0 = m ((0 : Dev nD).tc.loc main_arg0) from V_main_arg0 m 0] at i0
  rw [show tbl m 1 = m ((0 : Dev nD).tc.loc main_arg1) from V_main_arg1 m 0] at i1
  obtain ⟨h0, h1⟩ := Cert.Pre_inside_si.bounds _ _ _ _ _ (hp 0) (ix1 0)
  unfold outsAt0
  refine (congrFun (body 0 _ _ _ _ _ _ _ _ _ _ _ _ _ _ _ _ _ _ _ _) (ix3 0 a b)).trans ((pay _ _ _ _ _ a b).trans ?_)
  refine Cert.Rows.five_eq shapes rfl _ _ _ _ _ h0 h1 s a b (fun r hr => ?_) (fun p hp => ?_) ?_ ?_ ?_
  · exact (congrArg (V m 0 main_arg2) (Cert.Rows.slot3 _ a b s r hs hr fun x =>
      (Pipeline.Window.rect_emb_val ((cfgM m hO).win 0) t _ x).trans (by rw [i0]; rfl))).trans (congrFun (V_main_arg2 m 0) _)
  · exact (congrArg (V m 0 main_arg3) (Cert.Rows.slot4 _ a b p s hp hs fun x =>
      (Pipeline.Window.rect_emb_val ((cfgM m hO).win 1) t _ x).trans (by rw [i1]; rfl))).trans (congrFun (V_main_arg3 m 0) _)
  · exact (congrArg (V m 0 main_v0) (Cert.Rows.slot4 (w := 0) _ a b (0 : Fin 3) s rfl hs fun x =>
      (Pipeline.Window.rect_emb_val ((cfgM m hO).win 2) t _ x).trans (by rw [i2]; rfl))).trans (congrFun (entry m 0) _)
  · exact (congrArg (V m 0 main_v0) (Cert.Rows.slot4 (w := 1) _ a b (1 : Fin 3) s rfl hs fun x =>
      (Pipeline.Window.rect_emb_val ((cfgM m hO).win 3) t _ x).trans (by rw [i3]; rfl))).trans (congrFun (entry m 0) _)
  · exact (congrArg (V m 0 main_v0) (Cert.Rows.slot4 (w := 2) _ a b (2 : Fin 3) s rfl hs fun x =>
      (Pipeline.Window.rect_emb_val ((cfgM m hO).win 4) t _ x).trans (by rw [i4]; rfl))).trans (congrFun (entry m 0) _)

/-- It is the reference where the block lies. -/
theorem block_out (hp : Cert.Pre_KSiIdeal m) (hO : Ok m) (t : Fin (cfgM m hO).N) (y : S1x224x1024.Idx) :
    (outsAt0 m hO 0 t : FVec Ideal S1x224x1024 .f32) y = result m 0 ((((cfgM m hO).win 5).blk t).view.emb y) := by
  obtain ⟨a, b, rfl⟩ := Cert.Rows.slab_elem y
  refine (out_at m hp hO t ⟨t.val, t.isLt⟩ rfl a b).trans (congrArg (result m 0) ?_).symm
  exact Cert.Rows.slot3 (w := 0) _ a b _ a rfl (by rw [Nat.zero_mul, Nat.zero_add]) fun x =>
    (Pipeline.Window.rect_emb_val ((cfgM m hO).win 5) t _ x).trans (by rw [(idx m hO t).2.2.2.2.2]; rfl)

/-- The output's blocks are its slabs. -/
theorem covers (hO : Ok m) : ((cfgM m hO).win 5).Covers := by
  refine Pipeline.Window.covers_of_index_surj _ rfl (by decide : ∀ a, 0 < S1x224x1024.size a) fun β => ?_
  obtain ⟨k, hk⟩ := Cert.Rows.slab_index (n := 1) (R := 224) (C := 1024) (by decide) (by decide) β
  exact ⟨⟨k.val, k.isLt⟩, fun a => by rw [(idx m hO _).2.2.2.2.2]; exact hk a⟩

/-- The result. -/
theorem final (hp : Cert.Pre_KSiIdeal m) (hO : Ok m) (c : Dev nD) : (dats m hO 0 c).arrAt 5 (cfgM m hO).N = result m c := by
  obtain rfl : c = 0 := Subsingleton.elim _ _
  refine (dats m hO 0 0).arrAt_eq_of_covers 5 _ (covers m hO) fun t hf y => ?_
  blk_simp; rw [after0_5]
  exact block_out m hp hO t y

end Cert.KSiIdeal.Si

end
-- ==== Proof.SiClaims.lean ====
/- The claims about the last step of the exchange for `w_in` (`Cert.KSi`, `Cert.KSiIdeal`, `Cert.RSiIdeal`): where the device's words name blocks that
   there are, each program runs and leaves its arguments as they were; over the extended reals the call's result is the reference's. -/
module

public import proofs.«01_k».proof.Defs
public import proofs.«01_k».proof.Proof.Gen.KSi.Frame
public import proofs.«01_k».proof.Proof.Gen.KSiIdeal.Frame
public import proofs.«01_k».proof.Proof.Gen.RSiIdeal.Run
public import proofs.«01_k».proof.Proof.Si
public import Idealize.ShloMosaic.Lib.Claim

@[expose] public section

namespace Cert.Proof.Si

open Idealize.ShloMosaic Idealize.ShloMosaic.TcCoe Idealize.SL.Sem

/-- The kernel as printed: it terminates, and its arguments end unchanged. -/
theorem frame_kernel : Cert.quiescent_KSi := fun m ρ h => Cert.KSi.Gen.frame m ρ (Cert.KSi.Gen.ok_of_pre m h)

/-- The kernel over the extended reals: likewise. -/
theorem frame_ideal : Cert.quiescent_KSiIdeal := fun m ρ h => Cert.KSiIdeal.Gen.frame m ρ (Cert.KSiIdeal.Gen.ok_of_pre m h)

/-- The reference: likewise, -/
theorem frame_reference : Cert.quiescent_RSiIdeal := fun m ρ _ =>
  (θ_run Cert.RSiIdeal.defs _ _).mono (fun r h => ⟨fun c => (h c).2, sem_eq_zero_of_no_sems (by decide) r.2⟩)
    (Cert.RSiIdeal.Value.run (F := Ideal) m ρ)

/-- and so under the precondition. -/
theorem frame_reference_pre : Cert.quiescent_RSiIdeal_pre_inside_si := fun m ρ _ => frame_reference m ρ trivial

/-- The results agree. -/
theorem algebraic : Cert.algebraic_KSiIdeal_RSiIdeal := by
  intro m g m' g' hpre hagree
  have hO := Cert.KSiIdeal.Gen.ok_of_pre m hpre
  refine ⟨fun c => Cert.KSiIdeal.Si.result m c, ?_, ?_⟩
  · exact (θ_run Cert.KSiIdeal.defs _ _).mono (fun r h c => ⟨((h.1 c).1 5).trans (Cert.KSiIdeal.Si.final m hpre hO c), h.2 c⟩)
      (θ_run_and (Cert.KSiIdeal.Gen.run_main m g hO) (Cert.KSiIdeal.Gen.unchanged m g hO))
  · refine (θ_run Cert.RSiIdeal.defs _ _).mono (fun r h c => ⟨(h c).1.trans ?_, (h c).2⟩) (Cert.RSiIdeal.Value.run (F := Ideal) m' g')
    obtain ⟨e0, e1, e2, e3, e4⟩ := hagree c
    exact (show _ = Cert.Rows.ownSum Cert.RSiIdeal.Terms.shapes (m' ((c.tc : Thread Cert.RSiIdeal.nD Cert.RSiIdeal.τ).loc Cert.RSiIdeal.main_arg0)) (m' ((c.tc : Thread Cert.RSiIdeal.nD Cert.RSiIdeal.τ).loc Cert.RSiIdeal.main_arg1)) (m' ((c.tc : Thread Cert.RSiIdeal.nD Cert.RSiIdeal.τ).loc Cert.RSiIdeal.main_arg2)) (m' ((c.tc : Thread Cert.RSiIdeal.nD Cert.RSiIdeal.τ).loc Cert.RSiIdeal.main_arg3)) (m' ((c.tc : Thread Cert.RSiIdeal.nD Cert.RSiIdeal.τ).loc Cert.RSiIdeal.main_arg4)) from rfl).trans (by rw [e0, e1, e2, e3, e4])

end Cert.Proof.Si
-- ==== Proof.So.lean ====
/- What the last step of the exchange leaves of the gradient in `w_out` (`Cert.KSoIdeal`): the rows that a device keeps of a gradient, summed over the devices. -/
module

public import proofs.«01_k».proof.Proof.Gen.KSo
public import proofs.«01_k».proof.Proof.Gen.KSo.Frame
public import proofs.«01_k».proof.Proof.Gen.KSoIdeal
public import proofs.«01_k».proof.Proof.Gen.KSoIdeal.Skeleton
public import proofs.«01_k».proof.Proof.Gen.KSoIdeal.Launch
public import proofs.«01_k».proof.Proof.Gen.KSoIdeal.Frame
public import proofs.«01_k».proof.Proof.Gen.Pre_inside_so
public import proofs.«01_k».proof.Proof.Gen.RSoIdeal
public import Idealize.ShloMosaic.Lib.Pipeline.ValueKit
public import Idealize.ShloMosaic.Lib.Pipeline.Covers
public import Idealize.ShloMosaic.Lib.StableHlo.Run
public import proofs.«01_k».proof.Defs
public import proofs.«01_k».proof.Proof.Rows

@[expose] public section

set_option maxRecDepth 16384

noncomputable section

open Idealize.ShloMosaic Idealize.ShloMosaic.TcCoe Idealize.SL.Sem
open Idealize.ShloMosaic.Pipeline (Dat)
open scoped BigOperators

namespace Cert.Pre_inside_so

open Cert.Pre_inside_so.Gen

/-- The precondition's words: the device's place among the eight, and its chip's among the four. -/
theorem bounds {F : FTy → Type} [FloatOps F] (a0 a1 : IVec S1 32) (a2 : FVec F S1x1024x1024 .f32) (a3 : FVec F S4x1x128x1024 .f32)
    (a4 : FVec F S3x1x128x1024 .f32) (h : fn a0 a1 a2 a3 a4 = fun _ => 1#1) (i : S1.Idx) : (a0 i).toNat < 8 ∧ (a1 i).toNat < 4 :=
  Cert.Rows.within _ _ (congrFun h i)

end Cert.Pre_inside_so

namespace Cert.KSo.Gen

/-- The blocks that the device's two words name are inside their arrays: the kernel as printed. -/
theorem ok_of_pre (m : (ℓ : Loc nD τ sig) → Buf (Elt Bits) ℓ) (h : Cert.Pre_KSo m) : Ok m := by
  have e0 : tbl m 0 = m ((0 : Dev nD).tc.loc main_arg0) := V_main_arg0 m 0
  have e1 : tbl m 1 = m ((0 : Dev nD).tc.loc main_arg1) := V_main_arg1 m 0
  have b (i) : (tbl m 0 i).toNat < 8 ∧ (tbl m 1 i).toNat < 4 := by rw [e0, e1]; exact Cert.Pre_inside_so.bounds _ _ _ _ _ (h 0) i
  exact ⟨fun i => ⟨Cert.Rows.inside3 _ _ (i 0).isLt (Nat.mul_le_mul_right 128 (b _).1), .inl rfl⟩,
    fun i => ⟨Cert.Rows.inside4 _ _ (b _).2 (i 0).isLt, .inl rfl⟩⟩

end Cert.KSo.Gen

namespace Cert.KSoIdeal.Gen

/-- The blocks that the device's two words name are inside their arrays: the kernel over the extended reals. -/
theorem ok_of_pre (m : (ℓ : Loc nD τ sig) → Buf (Elt Ideal) ℓ) (h : Cert.Pre_KSoIdeal m) : Ok m := by
  have e0 : tbl m 0 = m ((0 : Dev nD).tc.loc main_arg0) := V_main_arg0 m 0
  have e1 : tbl m 1 = m ((0 : Dev nD).tc.loc main_arg1) := V_main_arg1 m 0
  have b (i) : (tbl m 0 i).toNat < 8 ∧ (tbl m 1 i).toNat < 4 := by rw [e0, e1]; exact Cert.Pre_inside_so.bounds _ _ _ _ _ (h 0) i
  exact ⟨fun i => ⟨Cert.Rows.inside3 _ _ (i 0).isLt (Nat.mul_le_mul_right 128 (b _).1), .inl rfl⟩,
    fun i => ⟨Cert.Rows.inside4 _ _ (b _).2 (i 0).isLt, .inl rfl⟩⟩

end Cert.KSoIdeal.Gen

namespace Cert.RSoIdeal.Terms

open Cert.RSoIdeal Cert.RSoIdeal.Gen

/-- The sizes. -/
theorem shapes : Cert.Rows.Shapes 1 1024 128 1024 :=
  ⟨shapeCasts_S1_S_, shapeCasts_S1x1024x1024_S1x8x128x1024, h_S_, bcast_S8_S1x8x1x1_1, bcast_S_S1x8x1x1, bcast_S1x8x1x1_S1x8x128x1024_0_1_2_3, bcast_S_S1x8x128x1024,
    reducesTo_S1x8x128x1024_S1x128x1024_d1, bcast_S4_S4x1x1x1_0, bcast_S_S4x1x1x1, bcast_S4x1x1x1_S4x1x128x1024_0_1_2_3, bcast_S_S4x1x128x1024,
    reducesTo_S4x1x128x1024_S1x128x1024_d0, reducesTo_S3x1x128x1024_S1x128x1024_d0⟩

end Cert.RSoIdeal.Terms

namespace Cert.KSoIdeal.So

open Cert.KSoIdeal Cert.KSoIdeal.Gen Cert.RSoIdeal.Terms

variable (m : (ℓ : Loc nD τ sig) → Buf (Elt Ideal) ℓ)

/-- Every window's block index at grid point `t`. -/
theorem idx (hO : Ok m) (t : Fin (cfgM m hO).N) : ((cfgM m hO).win 0).index t = ![t.val, ((tbl m 0 : IVec S1 32) (ix1 0)).toNat, 0]
    ∧ ((cfgM m hO).win 1).index t = ![((tbl m 1 : IVec S1 32) (ix1 0)).toNat, t.val, 0, 0]
    ∧ ((cfgM m hO).win 2).index t = ![0, t.val, 0, 0] ∧ ((cfgM m hO).win 3).index t = ![1, t.val, 0, 0]
    ∧ ((cfgM m hO).win 4).index t = ![2, t.val, 0, 0] ∧ ((cfgM m hO).win 5).index t = ![t.val, 0, 0] := by
  have h2 : ∀ u : Fin grid0.N, cc0_transform_2 (grid0.coords u) = ![0, u.val, 0, 0] ∧ cc0_transform_3 (grid0.coords u) = ![1, u.val, 0, 0]
      ∧ cc0_transform_4 (grid0.coords u) = ![2, u.val, 0, 0] ∧ cc0_transform_5 (grid0.coords u) = ![u.val, 0, 0]
      ∧ (BitVec.ofNat 32 (grid0.coords u 0).val).toNat = u.val := by decide +kernel
  obtain ⟨e2, e3, e4, e5, e⟩ := h2 t
  refine ⟨?_, ?_, e2, e3, e4, e5⟩
  · refine (show _ = ![(BitVec.ofNat 32 (grid0.coords t 0).val).toNat, ((tbl m 0 : IVec S1 32) _).toNat, 0] from rfl).trans ?_
    exact congrArg₂ (fun p q : ℕ => ![p, q, 0]) e (congrArg (fun i => ((tbl m 0 : IVec S1 32) i).toNat) (Cert.Rows.one_index _))
  · refine (show _ = ![((tbl m 1 : IVec S1 32) _).toNat, (BitVec.ofNat 32 (grid0.coords t 0).val).toNat, 0, 0] from rfl).trans ?_
    exact congrArg₂ (fun p q : ℕ => ![p, q, 0, 0]) (congrArg (fun i => ((tbl m 1 : IVec S1 32) i).toNat) (Cert.Rows.one_index _)) e

set_option maxHeartbeats 1600000 in
/-- The received sums at the region's entry. -/
theorem entry (c : Dev nD) : (show FVec Ideal S3x1x128x1024 .bf16 from V m c main_v0) = fun i => (m ((c : Thread nD τ).loc main_arg4) : FVec Ideal S3x1x128x1024 .f32) i := by
  unfold V; after_results; rfl

/-- What the body leaves of the blocks that it finds. -/
theorem body (c : Dev nD) (i : grid0.Coords) (M0 : Memref sig .tc .vmem S1x128x1024 .f32) (h0 : M0.IsWhole) (M1 : Memref sig .tc .vmem S1x1x128x1024 .f32) (h1 : M1.IsWhole)
    (M2 : Memref sig .tc .vmem S1x1x128x1024 .bf16) (h2 : M2.IsWhole) (M3 : Memref sig .tc .vmem S1x1x128x1024 .bf16) (h3 : M3.IsWhole)
    (M4 : Memref sig .tc .vmem S1x1x128x1024 .bf16) (h4 : M4.IsWhole) (M5 : Memref sig .tc .vmem S1x128x1024 .f32) (h5 : M5.IsWhole)
    (x0 : Vec Ideal S1x128x1024 .f32) (x1 : Vec Ideal S1x1x128x1024 .f32) (x2 x3 x4 : Vec Ideal S1x1x128x1024 .bf16) (y0 : TbBuf0 (F := Ideal) c tbM0_0) (y1 : TbBuf0 (F := Ideal) c tbM0_1) :
    out0_A_5 c i M0 h0 M1 h1 M2 h2 M3 h3 M4 h4 M5 h5 x0 x1 x2 x3 x4 y0 y1 = k0_pay1 x0 x1 x2 x3 x4 := by
  frame_out
  try simp only [Memref.IsWhole.read_unread]

/-- It is the sum of the five. -/
theorem pay (x0 : Vec Ideal S1x128x1024 .f32) (x1 : Vec Ideal S1x1x128x1024 .f32) (x2 x3 x4 : Vec Ideal S1x1x128x1024 .bf16) (a : Fin 128) (b : Fin 1024) :
    (k0_pay1 x0 x1 x2 x3 x4 : FVec Ideal S1x128x1024 .f32) (ix3 0 a b)
      = (x0 (ix3 0 a b) : EReal) + x1 (ix4 0 0 a b) + x2 (ix4 0 0 a b) + x3 (ix4 0 0 a b) + x4 (ix4 0 0 a b) := by
  pointwise [k0_pay1]

/-- The reference of the kernel's arguments. -/
abbrev result (c : Dev nD) : FVec Ideal S1x128x1024 .f32 :=
  Cert.Rows.ownSum shapes (m ((c : Thread nD τ).loc main_arg0)) (m ((c : Thread nD τ).loc main_arg1)) (m ((c : Thread nD τ).loc main_arg2)) (m ((c : Thread nD τ).loc main_arg3)) (m ((c : Thread nD τ).loc main_arg4))

/-- What the body leaves at an element. -/
theorem out_at (hp : Cert.Pre_KSoIdeal m) (hO : Ok m) (t : Fin (cfgM m hO).N) (s : Fin 1) (hs : s.val = t.val) (a : Fin 128) (b : Fin 1024) :
    (outsAt0 m hO 0 t : FVec Ideal S1x128x1024 .f32) (ix3 0 a b) = result m 0 (ix3 s a b) := by
  obtain ⟨i0, i1, i2, i3, i4, -⟩ := idx m hO t
  rw [show tbl m 0 = m ((0 : Dev nD).tc.loc main_arg0) from V_main_arg0 m 0] at i0
  rw [show tbl m 1 = m ((0 : Dev nD).tc.loc main_arg1) from V_main_arg1 m 0] at i1
  obtain ⟨h0, h1⟩ := Cert.Pre_inside_so.bounds _ _ _ _ _ (hp 0) (ix1 0)
  unfold outsAt0
  refine (congrFun (body 0 _ _ _ _ _ _ _ _ _ _ _ _ _ _ _ _ _ _ _ _) (ix3 0 a b)).trans ((pay _ _ _ _ _ a b).trans ?_)
  refine Cert.Rows.five_eq shapes rfl _ _ _ _ _ h0 h1 s a b (fun r hr => ?_) (fun p hp => ?_) ?_ ?_ ?_
  · exact (congrArg (V m 0 main_arg2) (Cert.Rows.slot3 _ a b s r hs hr fun x =>
      (Pipeline.Window.rect_emb_val ((cfgM m hO).win 0) t _ x).trans (by rw [i0]; rfl))).trans (congrFun (V_main_arg2 m 0) _)
  · exact (congrArg (V m 0 main_arg3) (Cert.Rows.slot4 _ a b p s hp hs fun x =>
      (Pipeline.Window.rect_emb_val ((cfgM m hO).win 1) t _ x).trans (by rw [i1]; rfl))).trans (congrFun (V_main_arg3 m 0) _)
  · exact (congrArg (V m 0 main_v0) (Cert.Rows.slot4 (w := 0) _ a b (0 : Fin 3) s rfl hs fun x =>
      (Pipeline.Window.rect_emb_val ((cfgM m hO).win 2) t _ x).trans (by rw [i2]; rfl))).trans (congrFun (entry m 0) _)
  · exact (congrArg (V m 0 main_v0) (Cert.Rows.slot4 (w := 1) _ a b (1 : Fin 3) s rfl hs fun x =>
      (Pipeline.Window.rect_emb_val ((cfgM m hO).win 3) t _ x).trans (by rw [i3]; rfl))).trans (congrFun (entry m 0) _)
  · exact (congrArg (V m 0 main_v0) (Cert.Rows.slot4 (w := 2) _ a b (2 : Fin 3) s rfl hs fun x =>
      (Pipeline.Window.rect_emb_val ((cfgM m hO).win 4) t _ x).trans (by rw [i4]; rfl))).trans (congrFun (entry m 0) _)

/-- It is the reference where the block lies. -/
theorem block_out (hp : Cert.Pre_KSoIdeal m) (hO : Ok m) (t : Fin (cfgM m hO).N) (y : S1x128x1024.Idx) :
    (outsAt0 m hO 0 t : FVec Ideal S1x128x1024 .f32) y = result m 0 ((((cfgM m hO).win 5).blk t).view.emb y) := by
  obtain ⟨a, b, rfl⟩ := Cert.Rows.slab_elem y
  refine (out_at m hp hO t ⟨t.val, t.isLt⟩ rfl a b).trans (congrArg (result m 0) ?_).symm
  exact Cert.Rows.slot3 (w := 0) _ a b _ a rfl (by rw [Nat.zero_mul, Nat.zero_add]) fun x =>
    (Pipeline.Window.rect_emb_val ((cfgM m hO).win 5) t _ x).trans (by rw [(idx m hO t).2.2.2.2.2]; rfl)

/-- The output's blocks are its slabs. -/
theorem covers (hO : Ok m) : ((cfgM m hO).win 5).Covers := by
  refine Pipeline.Window.covers_of_index_surj _ rfl (by decide : ∀ a, 0 < S1x128x1024.size a) fun β => ?_
  obtain ⟨k, hk⟩ := Cert.Rows.slab_index (n := 1) (R := 128) (C := 1024) (by decide) (by decide) β
  exact ⟨⟨k.val, k.isLt⟩, fun a => by rw [(idx m hO _).2.2.2.2.2]; exact hk a⟩

/-- The result. -/
theorem final (hp : Cert.Pre_KSoIdeal m) (hO : Ok m) (c : Dev nD) : (dats m hO 0 c).arrAt 5 (cfgM m hO).N = result m c := by
  obtain rfl : c = 0 := Subsingleton.elim _ _
  refine (dats m hO 0 0).arrAt_eq_of_covers 5 _ (covers m hO) fun t hf y => ?_
  blk_simp; rw [after0_5]
  exact block_out m hp hO t y

end Cert.KSoIdeal.So

end
-- ==== Proof.SoClaims.lean ====
/- The claims about the last step of the exchange for `w_out` (`Cert.KSo`, `Cert.KSoIdeal`, `Cert.RSoIdeal`): where the device's words name blocks that
   there are, each program runs and leaves its arguments as they were; over the extended reals the call's result is the reference's. -/
module

public import proofs.«01_k».proof.Defs
public import proofs.«01_k».proof.Proof.Gen.KSo.Frame
public import proofs.«01_k».proof.Proof.Gen.KSoIdeal.Frame
public import proofs.«01_k».proof.Proof.Gen.RSoIdeal.Run
public import proofs.«01_k».proof.Proof.So
public import Idealize.ShloMosaic.Lib.Claim

@[expose] public section

namespace Cert.Proof.So

open Idealize.ShloMosaic Idealize.ShloMosaic.TcCoe Idealize.SL.Sem

/-- The kernel as printed: it terminates, and its arguments end unchanged. -/
theorem frame_kernel : Cert.quiescent_KSo := fun m ρ h => Cert.KSo.Gen.frame m ρ (Cert.KSo.Gen.ok_of_pre m h)

/-- The kernel over the extended reals: likewise. -/
theorem frame_ideal : Cert.quiescent_KSoIdeal := fun m ρ h => Cert.KSoIdeal.Gen.frame m ρ (Cert.KSoIdeal.Gen.ok_of_pre m h)

/-- The reference: likewise, -/
theorem frame_reference : Cert.quiescent_RSoIdeal := fun m ρ _ =>
  (θ_run Cert.RSoIdeal.defs _ _).mono (fun r h => ⟨fun c => (h c).2, sem_eq_zero_of_no_sems (by decide) r.2⟩)
    (Cert.RSoIdeal.Value.run (F := Ideal) m ρ)

/-- and so under the precondition. -/
theorem frame_reference_pre : Cert.quiescent_RSoIdeal_pre_inside_so := fun m ρ _ => frame_reference m ρ trivial

/-- The results agree. -/
theorem algebraic : Cert.algebraic_KSoIdeal_RSoIdeal := by
  intro m g m' g' hpre hagree
  have hO := Cert.KSoIdeal.Gen.ok_of_pre m hpre
  refine ⟨fun c => Cert.KSoIdeal.So.result m c, ?_, ?_⟩
  · exact (θ_run Cert.KSoIdeal.defs _ _).mono (fun r h c => ⟨((h.1 c).1 5).trans (Cert.KSoIdeal.So.final m hpre hO c), h.2 c⟩)
      (θ_run_and (Cert.KSoIdeal.Gen.run_main m g hO) (Cert.KSoIdeal.Gen.unchanged m g hO))
  · refine (θ_run Cert.RSoIdeal.defs _ _).mono (fun r h c => ⟨(h c).1.trans ?_, (h c).2⟩) (Cert.RSoIdeal.Value.run (F := Ideal) m' g')
    obtain ⟨e0, e1, e2, e3, e4⟩ := hagree c
    exact (show _ = Cert.Rows.ownSum Cert.RSoIdeal.Terms.shapes (m' ((c.tc : Thread Cert.RSoIdeal.nD Cert.RSoIdeal.τ).loc Cert.RSoIdeal.main_arg0)) (m' ((c.tc : Thread Cert.RSoIdeal.nD Cert.RSoIdeal.τ).loc Cert.RSoIdeal.main_arg1)) (m' ((c.tc : Thread Cert.RSoIdeal.nD Cert.RSoIdeal.τ).loc Cert.RSoIdeal.main_arg2)) (m' ((c.tc : Thread Cert.RSoIdeal.nD Cert.RSoIdeal.τ).loc Cert.RSoIdeal.main_arg3)) (m' ((c.tc : Thread Cert.RSoIdeal.nD Cert.RSoIdeal.τ).loc Cert.RSoIdeal.main_arg4)) from rfl).trans (by rw [e0, e1, e2, e3, e4])

end Cert.Proof.So
-- ==== Proof.Lo.lean ====
/- What the last half step's call leaves (`Cert.KLoIdeal`): at finite arguments the loss behind the final norm, and its gradients in the
   norm's input and gains. -/
module

public import proofs.«01_k».proof.Proof.Gen.KLoIdeal
public import proofs.«01_k».proof.Proof.Gen.KLoIdeal.Skeleton
public import proofs.«01_k».proof.Proof.Gen.KLoIdeal.Launch
public import proofs.«01_k».proof.Proof.Gen.KLoIdeal.Points
public import proofs.«01_k».proof.Proof.Gen.KLoIdeal.Frame
public import proofs.«01_k».proof.Proof.Gen.RLoIdeal
public import proofs.«01_k».proof.Proof.Gen.RLoIdeal.Run
public import proofs.«01_k».proof.Defs
public import proofs.«01_k».proof.Proof.Gen.Pre_finite_lo
public import proofs.«01_k».proof.Proof.Reals
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.RLoIdeal.Terms

open Cert.RLoIdeal Cert.RLoIdeal.Gen

/-- The final norm's input: `x + a · w_down / 2`. -/
def out (a0 : FVec Ideal S8192x2816 .f32) (a1 : FVec Ideal S8192x1024 .f32) (a4 : FVec Ideal S2816x1024 .f32) : FVec Ideal S8192x1024 .f32 :=
  addf a1 (mulf (broadcastInDim S8192x1024 ![] bcast_S_S8192x1024 (constant S_ .f32 0x3F000000#32)) (Host.dotGeneral
    dot_S8192x2816_S2816x1024_S8192x1024_1_0_0_1_n_n none a0 a4))

/-- A row's mean square, plus the small constant. -/
def ms (x : FVec Ideal S8192x1024 .f32) : FVec Ideal S8192x1 .f32 :=
  addf (Host.divf (broadcastInDim S8192x1 ![0] bcast_S8192_S8192x1_0 (Host.reduceAdd (mulf x x) (constant S_ .f32 0x00000000#32)
    reducesTo_S8192x1024_S8192_d1 h_S_)) (broadcastInDim S8192x1 ![] bcast_S_S8192x1 (constant S_ .f32 0x44800000#32)))
    (broadcastInDim S8192x1 ![] bcast_S_S8192x1 (constant S_ .f32 0x3727C5AC#32))

/-- The input over its rows' root mean square. -/
def xh (x : FVec Ideal S8192x1024 .f32) : FVec Ideal S8192x1024 .f32 :=
  mulf x (broadcastInDim S8192x1024 ![0, 1] bcast_S8192x1_S8192x1024_0_1 (Host.rsqrt (ms x)))

/-- The gains, in every row. -/
def gains (a5 : FVec Ideal S1024 .f32) : FVec Ideal S8192x1024 .f32 :=
  broadcastInDim S8192x1024 ![0, 1] bcast_S1x1024_S8192x1024_0_1 (broadcastInDim S1x1024 ![1] bcast_S1024_S1x1024_1 a5)

/-- The normalised output less its target. -/
def err (x : FVec Ideal S8192x1024 .f32) (a5 : FVec Ideal S1024 .f32) (a6 : FVec Ideal S8192x1024 .f32) : FVec Ideal S8192x1024 .f32 :=
  subf (mulf (xh x) (gains a5)) a6

/-- The loss of an error: half of the rows' mean squares, added up. -/
def loss (e : FVec Ideal S8192x1024 .f32) : FVec Ideal S1x128 .f32 :=
  broadcastInDim S1x128 ![] bcast_S_S1x128 (mulf (constant S_ .f32 0x3F000000#32) (Host.reduceAdd (Host.divf (Host.reduceAdd (mulf e e)
    (constant S_ .f32 0x00000000#32) reducesTo_S8192x1024_S8192_d1 h_S_) (broadcastInDim S8192 ![] bcast_S_S8192 (constant S_ .f32 0x44800000#32)))
    (constant S_ .f32 0x00000000#32) reducesTo_S8192_S_d0 h_S_))

/-- The loss's gradient in the error. -/
def dy (e : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32)
    (constant S_ .f32 0x3F800000#32))) (broadcastInDim S8192 ![] bcast_S_S8192 (constant S_ .f32 0x44800000#32))))
    (mulf (broadcastInDim S8192x1024 ![] bcast_S_S8192x1024 (constant S_ .f32 0x40000000#32)) e)

/-- What a row's mean square's gradient is, from the gradient `y` of the normalised input. -/
def dms (x y : FVec Ideal S8192x1024 .f32) : FVec Ideal S8192x1024 .f32 :=
  broadcastInDim S8192x1024 ![0] bcast_S8192_S8192x1024_0 (Host.reduceAdd (Host.divf (mulf (shapeCast _ (Host.reduceAdd (mulf x y)
    (constant S_ .f32 0x00000000#32) reducesTo_S8192x1024_S8192_d1 h_S_) shapeCasts_S8192_S8192x1) (mulf (broadcastInDim S8192x1 ![] bcast_S_S8192x1
    (constant S_ .f32 0xBF000000#32)) (Host.divf (Host.rsqrt (ms x)) (ms x)))) (broadcastInDim S8192x1 ![] bcast_S_S8192x1
    (constant S_ .f32 0x44800000#32))) (constant S_ .f32 0x00000000#32) reducesTo_S8192x1_S8192_d1 h_S_)

/-- The gradient of the norm's input, from the gradient `y` of the normalised input. -/
def back (x y : FVec Ideal S8192x1024 .f32) : FVec Ideal S8192x1024 .f32 :=
  addf (addf (mulf y (broadcastInDim S8192x1024 ![0, 1] bcast_S8192x1_S8192x1024_0_1 (Host.rsqrt (ms x)))) (mulf x (dms x y)))
    (mulf (dms x y) x)

/-- The gradient of the norm's gains. -/
def gback (x d : FVec Ideal S8192x1024 .f32) : FVec Ideal S1x1024 .f32 :=
  shapeCast _ (Host.reduceAdd (shapeCast _ (Host.reduceAdd (mulf (xh x) d) (constant S_ .f32 0x00000000#32) reducesTo_S8192x1024_S1024_d0 h_S_)
    shapeCasts_S1024_S1x1024) (constant S_ .f32 0x00000000#32) reducesTo_S1x1024_S1024_d0 h_S_) shapeCasts_S1024_S1x1024

theorem half_f32 : Ideal.ofBits .f32 0x3F000000#32 = ((1 / 2 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num
theorem inv1024_f32 : Ideal.ofBits .f32 0x3A800000#32 = ((1 / 1024 : ℝ) : EReal) := by
  simp [Ideal.ofBits, Ideal.ieee, -EReal.coe_mul]; norm_num
theorem inv2048_f32 : Ideal.ofBits .f32 0x3A000000#32 = ((1 / 2048 : ℝ) : EReal) := by
  simp [Ideal.ofBits, Ideal.ieee, -EReal.coe_mul]; norm_num

theorem out_real (a0 : FVec Ideal S8192x2816 .f32) (a1 : FVec Ideal S8192x1024 .f32) (a4 : FVec Ideal S2816x1024 .f32) (h0 : ∀ i, Reals.IsReal (a0 i))
    (h1 : ∀ i, Reals.IsReal (a1 i)) (h4 : ∀ i, Reals.IsReal (a4 i)) (i) : Reals.IsReal (out a0 a1 a4 i) := by
  pointwise [out]
  exact (h1 _).add (((half_f32 ▸ Reals.IsReal.coe _ : Reals.IsReal (Ideal.ofBits .f32 0x3F000000#32))).mul (Reals.IsReal.sum _ fun k => (h0 _).mul (h4 _)))

theorem gains_real (a5 : FVec Ideal S1024 .f32) (h : ∀ i, Reals.IsReal (a5 i)) (i) : Reals.IsReal (gains a5 i) := by
  pointwise [gains]
  exact h _

/-- The error is finite where the norm's input, the gains and the target are. -/
theorem err_real (x : FVec Ideal S8192x1024 .f32) (a5 : FVec Ideal S1024 .f32) (a6 : FVec Ideal S8192x1024 .f32) (hx : ∀ i, Reals.IsReal (x i))
    (h5 : ∀ i, Reals.IsReal (a5 i)) (h6 : ∀ i, Reals.IsReal (a6 i)) (i) : Reals.IsReal (err x a5 a6 i) := by
  pointwise [err, xh, gains, ms]
  exact (((hx _).mul (Reals.rms_real _ fun _ => hx _)).mul (h5 _)).sub (h6 _)

/-- At a finite error the loss's gradient is the error over the row's length. -/
theorem dy_eq (e : FVec Ideal S8192x1024 .f32) (h : ∀ i, Reals.IsReal (e i)) (i) : dy e i = e i * Ideal.ofBits .f32 0x3A800000#32 := by
  pointwise [dy]
  obtain ⟨r, hr⟩ := h i
  rw [hr, half_f32, two_f32, Reals.k1024_f32, inv1024_f32, Reals.div_coe' _ (by norm_num)]
  norm_cast
  ring

theorem dy_real (e : FVec Ideal S8192x1024 .f32) (h : ∀ i, Reals.IsReal (e i)) (i) : Reals.IsReal (dy e i) := by
  rw [dy_eq e h, inv1024_f32]
  exact (h i).mul (Reals.IsReal.coe _)

/-- The loss, block by block: its factor goes into the blocks' sums. -/
theorem loss_blocks {n r l : ℕ} (e : Fin n → Fin r → Fin l → EReal) (h : ∀ s k j, Reals.IsReal (e s k j)) :
    ∑ s, Ideal.ofBits .f32 0x3A000000#32 * ∑ k, ∑ j, e s k j * e s k j
      = Ideal.ofBits .f32 0x3F000000#32 * ∑ s, ∑ k, Ideal.div (∑ j, e s k j * e s k j) (Ideal.ofBits .f32 0x44800000#32) := by
  choose y hy using h
  have h1 : ∀ s k, ∑ j, e s k j * e s k j = ((∑ j, y s k j * y s k j : ℝ) : EReal) := fun s k => by
    rw [Reals.coe_sum]; exact Finset.sum_congr rfl fun j _ => by rw [hy, EReal.coe_mul]
  simp only [h1, half_f32, inv2048_f32, Reals.k1024_f32, Reals.div_coe' _ (show (1024 : ℝ) ≠ 0 by norm_num), ← Reals.coe_sum, ← EReal.coe_mul]
  congr 1
  rw [Finset.mul_sum]
  refine Finset.sum_congr rfl fun s _ => ?_
  rw [Finset.mul_sum, Finset.mul_sum]
  exact Finset.sum_congr rfl fun k _ => by ring

section
variable (m : (ℓ : Loc nD τ sig) → Buf (Elt Ideal) ℓ) (c : Dev nD)

/-- The reference's norm input and error, of its arguments. -/
abbrev refX : FVec Ideal S8192x1024 .f32 :=
  out (m ((c.tc : Thread nD τ).loc main_arg0)) (m ((c.tc : Thread nD τ).loc main_arg1)) (m ((c.tc : Thread nD τ).loc main_arg4))
abbrev refE : FVec Ideal S8192x1024 .f32 :=
  err (refX m c) (m ((c.tc : Thread nD τ).loc main_arg5)) (m ((c.tc : Thread nD τ).loc main_arg6))

set_option maxHeartbeats 1600000 in
/-- The reference's first result, in these terms. -/
theorem out0_eq : Cert.RLoIdeal.Value.res_out0 m c = back (refX m c) (mulf (dy (refE m c)) (gains (m ((c.tc : Thread nD τ).loc main_arg5)))) := by
  unfold Cert.RLoIdeal.Value.res_out0 Cert.RLoIdeal.Value.res_main_v54 back dms dy refE err xh gains ms refX out
  rfl

set_option maxHeartbeats 1600000 in
/-- The reference's run, its results in these terms. -/
theorem run (ρ : Dev nD → PrngReg) : θ_run defs (onTc (τ := τ) (main (F := Ideal))) ⟨m, fun _ => 0, ρ⟩ fun r => ∀ c : Dev nD,
    (r.2.mem ((c.tc : Thread nD τ).loc main_v54) = back (refX m c) (mulf (dy (refE m c)) (gains (m ((c.tc : Thread nD τ).loc main_arg5))))
      ∧ r.2.mem ((c.tc : Thread nD τ).loc main_v55) = loss (refE m c)
      ∧ r.2.mem ((c.tc : Thread nD τ).loc main_v56) = gback (refX m c) (dy (refE m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.RLoIdeal.Value.run (F := Ideal) m ρ)
  obtain ⟨h0, h1, h2, h⟩ := h c
  refine ⟨⟨h0.trans (out0_eq m c), h1.trans ?_, h2.trans ?_⟩, h⟩
  · unfold loss refE err xh gains ms refX out
    rfl
  · unfold gback dy refE err xh gains ms refX out
    rfl
end

end Cert.RLoIdeal.Terms

namespace Cert.KLoIdeal.Lo

open Cert.KLoIdeal Cert.KLoIdeal.Gen Cert.RLoIdeal.Terms

variable (m : (ℓ : Loc nD τ sig) → Buf (Elt Ideal) ℓ)

/-- Every window's block index at grid point `t`. -/
theorem idx : ∀ t : Fin cfg0.N, win0_0.index t = ![t.val, 0] ∧ win0_1.index t = ![t.val, 0] ∧ win0_2.index t = ![2, 0, 0]
    ∧ win0_3.index t = ![0, 0] ∧ win0_4.index t = ![t.val, 0] ∧ win0_5.index t = ![t.val, 0] ∧ win0_6.index t = ![0, 0]
    ∧ win0_7.index t = ![0, 0] :=
  (by decide +kernel : ∀ t : Fin grid0.N, _)

/-- The three weights in one array, a slab each. -/
def stack (a2 a3 : FVec Ideal S1024x2816 .f32) (a4 : FVec Ideal S2816x1024 .f32) : FVec Ideal S3x2816x1024 .f32 :=
  concatenate S3x2816x1024 0 [⟨S1x2816x1024, broadcastInDim S1x2816x1024 ![1, 2] bcast_S2816x1024_S1x2816x1024_1_2 (transpose S2816x1024 [1, 0] a2 transposes_S1024x2816_S2816x1024_1_0)⟩,
    ⟨S1x2816x1024, broadcastInDim S1x2816x1024 ![1, 2] bcast_S2816x1024_S1x2816x1024_1_2 (transpose S2816x1024 [1, 0] a3 transposes_S1024x2816_S2816x1024_1_0)⟩,
    ⟨S1x2816x1024, broadcastInDim S1x2816x1024 ![1, 2] bcast_S2816x1024_S1x2816x1024_1_2 a4⟩] concatenates_S1x2816x1024_S1x2816x1024_S1x2816x1024_S3x2816x1024_d0

/-- The arrays at the region's entry. -/
theorem entry_a (c : Dev nD) : (show FVec Ideal S8192x2816 .bf16 from V m c main_v0) = fun i => m ((c : Thread nD τ).loc main_arg0) i := by
  unfold V; after_results; rfl
theorem entry_w (c : Dev nD) : (show FVec Ideal S3x2816x1024 .bf16 from V m c main_v7) = fun i =>
    stack (m ((c : Thread nD τ).loc main_arg2)) (m ((c : Thread nD τ).loc main_arg3)) (m ((c : Thread nD τ).loc main_arg4)) i := by
  unfold V; after_results; rfl
theorem entry_norm (c : Dev nD) : (show FVec Ideal S1x1024 .f32 from V m c main_v8) = fun i =>
    shapeCast S1x1024 (show FVec Ideal S1024 .f32 from m ((c : Thread nD τ).loc main_arg5)) shapeCasts_S1024_S1x1024 i := by
  unfold V; after_results; rfl

/-- Slab 2 of the stacked weights is `w_down`. -/
theorem weights (c : Dev nD) (a : Fin 2816) (b : Fin 1024) :
    (show FVec Ideal S3x2816x1024 .bf16 from V m c main_v7) (ix3 2 a b) = m ((c : Thread nD τ).loc main_arg4) (ix2 a b) := by
  rw [entry_w]
  pointwise [stack]

/-- The row of the whole array that row `r` of point `t`'s block is. -/
def row (t : Fin cfg0.N) (r : Fin 1024) : Fin 8192 :=
  ⟨1024 * t.val + r, by have h : t.val < 8 := lt_of_lt_of_eq t.isLt (show cfg0.N = 8 from N_0); omega⟩

/-- The rows of a run's points are the array's, in order. -/
theorem row_point (t : Fin cfg0.N) (h7 : t.val % 8 = 7) (s : Fin 8) (k : Fin 1024) (hl : s.val * 1024 + k.val < 8192) :
    row ⟨8 * (t.val / 8) + s.val, Pipeline.run_point_lt_of_flush t h7 s⟩ k = ⟨s.val * 1024 + k.val, hl⟩ := by
  have h : t.val < 8 := lt_of_lt_of_eq t.isLt (show cfg0.N = 8 from N_0)
  exact Fin.ext (by simp only [row]; omega)

theorem iblk0 (c : Dev nD) (t : Fin cfg0.N) (r : Fin 1024) (j : Fin 2816) :
    (show FVec Ideal S1024x2816 .bf16 from iblk m c 0 t) (ix2 r j) = m ((c : Thread nD τ).loc main_arg0) (ix2 (row t r) j) := by
  refine Eq.trans ?_ (congrFun (entry_a m c) (ix2 (row t r) j))
  unfold row; blk_point [iblk, idx t]
theorem iblk1 (c : Dev nD) (t : Fin cfg0.N) (r : Fin 1024) (k : Fin 1024) :
    (show FVec Ideal S1024x1024 .f32 from iblk m c 1 t) (ix2 r k) = m ((c : Thread nD τ).loc main_arg1) (ix2 (row t r) k) := by
  unfold row; blk_point [iblk, V, idx t]
theorem iblk2 (c : Dev nD) (t : Fin cfg0.N) (a : Fin 2816) (b : Fin 1024) :
    (show FVec Ideal S1x2816x1024 .bf16 from iblk m c 2 t) (ix3 0 a b) = m ((c : Thread nD τ).loc main_arg4) (ix2 a b) := by
  refine Eq.trans ?_ (weights m c a b)
  blk_point [iblk, idx t]
theorem iblk3 (c : Dev nD) (t : Fin cfg0.N) (b : Fin 1024) :
    (show FVec Ideal S1x1024 .f32 from iblk m c 3 t) (ix2 0 b) = m ((c : Thread nD τ).loc main_arg5) (ix1 b) := by
  refine Eq.trans ?_ ((congrFun (entry_norm m c) (ix2 0 b)).trans ?_)
  · blk_point [iblk, idx t]
  · pointwise
theorem iblk4 (c : Dev nD) (t : Fin cfg0.N) (r : Fin 1024) (k : Fin 1024) :
    (show FVec Ideal S1024x1024 .f32 from iblk m c 4 t) (ix2 r k) = m ((c : Thread nD τ).loc main_arg6) (ix2 (row t r) k) := by
  unfold row; blk_point [iblk, V, idx t]

/-- The norm's input and the error, of the arguments. -/
abbrev X (c : Dev nD) : FVec Ideal RLoIdeal.S8192x1024 .f32 :=
  out (m ((c : Thread nD τ).loc main_arg0)) (m ((c : Thread nD τ).loc main_arg1)) (m ((c : Thread nD τ).loc main_arg4))
abbrev E (c : Dev nD) : FVec Ideal RLoIdeal.S8192x1024 .f32 :=
  err (X m c) (m ((c : Thread nD τ).loc main_arg5)) (m ((c : Thread nD τ).loc main_arg6))

/-- The same at point `t`, as the body has them. -/
abbrev kx (c : Dev nD) (t : Fin cfg0.N) : FVec Ideal S1024x1024 .f32 := k0_pay8 (iblk m c 1 t) (iblk m c 0 t) (iblk m c 2 t)
abbrev ke (c : Dev nD) (t : Fin cfg0.N) : FVec Ideal S1024x1024 .f32 :=
  k0_pay11 (iblk m c 3 t) (iblk m c 1 t) (iblk m c 0 t) (iblk m c 2 t) (iblk m c 4 t)

theorem kx_eq (c : Dev nD) (t : Fin cfg0.N) (r k : Fin 1024) : (show EReal from kx m c t (ix2 r k)) = X m c (ix2 (row t r) k) := by
  pointwise [k0_pay8, out]
  exact congrArg₂ (· + ·) (iblk1 m c t r k) (congrArg₂ (· * ·) rfl (Finset.sum_congr rfl fun j _ => congrArg₂ (· * ·) (iblk0 m c t r j) (iblk2 m c t j k)))

theorem kxh_eq (c : Dev nD) (t : Fin cfg0.N) (r k : Fin 1024) :
    (show EReal from k0_pay10 (F := Ideal) (iblk m c 1 t) (iblk m c 0 t) (iblk m c 2 t) (ix2 r k)) = xh (X m c) (ix2 (row t r) k) := by
  pointwise [k0_pay10, k0_pay9, xh, ms]
  exact Reals.rms_congr (x := fun j => X m c (ix2 (row t r) j)) (x' := fun j => kx m c t (ix2 r j)) (fun j => kx_eq m c t r j) k

theorem gain_eq (c : Dev nD) (t : Fin cfg0.N) (r k : Fin 1024) :
    (show FVec Ideal S1x1024 .f32 from iblk m c 3 t) (ix2 0 k) = gains (m ((c : Thread nD τ).loc main_arg5)) (ix2 (row t r) k) := by
  refine (iblk3 m c t k).trans ?_
  pointwise [gains]

theorem ke_eq (c : Dev nD) (t : Fin cfg0.N) (r k : Fin 1024) : (show EReal from ke m c t (ix2 r k)) = E m c (ix2 (row t r) k) := by
  have e1 := kxh_eq m c t r k
  have e2 := gain_eq m c t r k
  have e3 := iblk4 m c t r k
  refine Eq.trans ?_ (congrArg₂ (· - ·) (congrArg₂ (· * ·) e1 e2) e3)
  pointwise [k0_pay11, k0_pay7]

/-- What a point writes back of the input's gradient. -/
theorem out_5 (c : Dev nD) (t : Fin cfg0.N) : (outsAt0 m c t.val t.isLt).1
    = k0_pay4 (k0_pay7 (iblk m c 3 t)) (k0_pay9 (iblk m c 1 t) (iblk m c 0 t) (iblk m c 2 t)) (k0_pay10 (iblk m c 1 t) (iblk m c 0 t) (iblk m c 2 t)) (ke m c t) := by
  by_cases h : t.val % 8 = 0
  · rw [outsAt0_A m c t h]; frame_out
  · rw [outsAt0_B m c t h]; frame_out

/-- The body's gradient of the normalised input is the reference's, where the error is finite. -/
theorem kd_eq (c : Dev nD) (he : ∀ i, Reals.IsReal (E m c i)) (t : Fin cfg0.N) (r k : Fin 1024) :
    (show EReal from k0_pay2 (ke m c t) (ix2 r k)) = dy (E m c) (ix2 (row t r) k) := by
  rw [dy_eq _ he, ← ke_eq]
  pointwise [k0_pay2]

set_option maxHeartbeats 1600000 in
/-- An element of that is the reference's. -/
theorem out_row (c : Dev nD) (hx : ∀ i, Reals.IsReal (X m c i)) (h5 : ∀ i, Reals.IsReal (m ((c : Thread nD τ).loc main_arg5) i))
    (he : ∀ i, Reals.IsReal (E m c i)) (t : Fin cfg0.N) (r k : Fin 1024) :
    (show EReal from k0_pay4 (k0_pay7 (iblk m c 3 t)) (k0_pay9 (iblk m c 1 t) (iblk m c 0 t) (iblk m c 2 t))
        (k0_pay10 (iblk m c 1 t) (iblk m c 0 t) (iblk m c 2 t)) (ke m c t) (ix2 r k))
      = back (X m c) (mulf (dy (E m c)) (gains (m ((c : Thread nD τ).loc main_arg5)))) (ix2 (row t r) k) := by
  pointwise [k0_pay4, k0_pay7, k0_pay9, k0_pay10, back, dms, ms]
  have h := Reals.norm_back (a := 0) (a' := 0) (x := fun j => X m c (ix2 (row t r) j)) (d := fun j => dy (E m c) (ix2 (row t r) j) * gains (m ((c : Thread nD τ).loc main_arg5)) (ix2 (row t r) j))
    (x' := fun j => kx m c t (ix2 r j)) (d' := fun j => k0_pay2 (ke m c t) (ix2 r j)) (g' := fun j => (show FVec Ideal S1x1024 .f32 from iblk m c 3 t) (ix2 0 j))
    (fun j => hx _) (fun j => (dy_real _ he _).mul (gains_real _ h5 _)) rfl (fun j => kx_eq m c t r j)
    (fun j => congrArg₂ (· * ·) (kd_eq m c he t r j) (gain_eq m c t r j)) k
  rw [zero_add, zero_add] at h
  exact h

set_option maxHeartbeats 1600000 in
/-- The input's gradient. -/
theorem final_5 (c : Dev nD) (hx : ∀ i, Reals.IsReal (X m c i)) (h5 : ∀ i, Reals.IsReal (m ((c : Thread nD τ).loc main_arg5) i))
    (he : ∀ i, Reals.IsReal (E m c i)) :
    (dats m 0 c).arrAt 5 (cfgs 0).N = back (X m c) (mulf (dy (E m c)) (gains (m ((c : Thread nD τ).loc main_arg5)))) := by
  refine (dats m 0 c).arrAt_eq_of_covers 5 _ (by decide +kernel) fun t hf y => ?_
  blk_simp; rw [after0_5, out_5]
  have hi : (win0_5.blk t).view.emb y = ix2 (row t (y 0)) (y 1) := by unfold row; blk_ext [idx t]
  rw [hi]
  refine (congrArg _ (eq_ix2 y)).trans (out_row m c hx h5 he t (y 0) (y 1))

/-- The zero fills. -/
theorem hzero6 (j : S1x128.Idx) : k0_pay5 (F := Ideal) j = 0 := by
  pointwise! [k0_pay5]
theorem hzero7 (j : S1x1024.Idx) : k0_pay6 (F := Ideal) j = 0 := by
  pointwise! [k0_pay6]

/-- The accumulating stores: what was there, plus this point's part. -/
theorem hpay6 (v : Vec Ideal S1x128 .f32) (w : EReal) (j : S1x128.Idx) : k0_pay1 (F := Ideal) (k0_pay12 v) w j = v j + w := by
  pointwise [k0_pay1, k0_pay12]
theorem hpay7 (v23 v27 : FVec Ideal S1024x1024 .f32) (v : Vec Ideal S1x1024 .f32) (j : S1x1024.Idx) :
    k0_pay3 v23 v27 v j = v j + k0_pay3 v23 v27 (fun _ => 0) j := by
  pointwise [k0_pay3]

/-- A point's part of the loss. -/
theorem part_eq (c : Dev nD) (t : Fin cfg0.N) :
    (show EReal from k0_pay13 (F := Ideal) (iblk m c 3 t) (iblk m c 1 t) (iblk m c 0 t) (iblk m c 2 t) (iblk m c 4 t))
      = Ideal.ofBits .f32 0x3A000000#32 * ∑ k : Fin 1024, ∑ j : Fin 1024, E m c (ix2 (row t k) j) * E m c (ix2 (row t k) j) := by
  simp only [← ke_eq]
  pointwise [k0_pay13]

set_option maxHeartbeats 1600000 in
/-- The loss. -/
theorem final_6 (c : Dev nD) (he : ∀ i, Reals.IsReal (E m c i)) : (dats m 0 c).arrAt 6 (cfgs 0).N = loss (E m c) := by
  refine (dats m 0 c).arrAt_eq_of_covers 6 _ (by decide +kernel) fun t hf y => ?_
  blk_simp
  rw [after0_6, Pipeline.eq_sum_fin_of_reset_step_apply_of_flush (fun n h => (outsAt0 m c n h).2.1) 8 (fun _ => 0)
      (fun s => fun _ => k0_pay13 (F := Ideal) (iblk m c 3 s) (iblk m c 1 s) (iblk m c 0 s) (iblk m c 2 s) (iblk m c 4 s))
      (fun t h j => by rw [outsAt0_A m c t h]; frame_out; rw [hpay6, hzero6])
      (fun t h j => by rw [outsAt0_B m c t h]; frame_out; rw [hpay6])
      t ((flush0_6 t).mp hf) _, zero_add]
  simp only [part_eq]
  refine (loss_blocks _ fun s k j => he _).trans ?_
  pointwise [loss]
  refine congrArg₂ (· * ·) rfl (Fin.sum_mul_add_congr fun s k hl => ?_)
  rw [row_point t ((flush0_6 t).mp hf) s k hl]

set_option maxHeartbeats 1600000 in
/-- The gradient of the norm's gains. -/
theorem final_7 (c : Dev nD) (he : ∀ i, Reals.IsReal (E m c i)) :
    (dats m 0 c).arrAt 7 (cfgs 0).N = gback (X m c) (dy (E m c)) := by
  refine (dats m 0 c).arrAt_eq_of_covers 7 _ (by decide +kernel) fun t hf y => ?_
  blk_simp
  rw [after0_7, Pipeline.eq_sum_fin_of_reset_step_apply_of_flush (fun n h => (outsAt0 m c n h).2.2) 8 (fun _ => 0)
      (fun s => k0_pay3 (k0_pay10 (iblk m c 1 s) (iblk m c 0 s) (iblk m c 2 s)) (ke m c s) (fun _ => 0))
      (fun t h j => by rw [outsAt0_A m c t h]; frame_out; rw [hpay7, hzero7])
      (fun t h j => by rw [outsAt0_B m c t h]; frame_out; rw [hpay7])
      t ((flush0_7 t).mp hf) _, zero_add]
  have hy : ((win0_7.blk t).view.emb y) = ix2 0 (y 1) := by blk_ext [idx t]
  rw [hy]
  pointwise [k0_pay3, gback]
  rw [Fin.sum_univ_one]
  refine Fin.sum_mul_add_congr fun s k hl => ?_
  rw [← row_point t ((flush0_7 t).mp hf) s k hl]
  exact (@mul_comm EReal _ _ _).trans (congrArg₂ (· * ·) (kxh_eq m c _ k (y 1)) (kd_eq m c he _ k (y 1)))

/-- What the precondition says. -/
theorem reals_of_pre (hp : Pre_KLoIdeal_finite_lo m) (c : Dev nD) : (∀ i, Reals.IsReal (X m c i))
    ∧ (∀ i, Reals.IsReal (m ((c : Thread nD τ).loc main_arg5) i)) ∧ (∀ i, Reals.IsReal (E m c i)) := by
  have h := congrFun (hp c) (fun a => Fin.elim0 a)
  obtain ⟨h, h6⟩ := Reals.andi_one h
  obtain ⟨h, h5⟩ := Reals.andi_one h
  obtain ⟨h, h4⟩ := Reals.andi_one h
  obtain ⟨h0, h1⟩ := Reals.andi_one h
  have hx : ∀ i, Reals.IsReal (X m c i) := out_real _ _ _ (fun i => Reals.isReal_of_all _ _ (fun _ => Reals.inf_f32) _ _ _ _ h0 i)
    (fun i => Reals.isReal_of_all _ _ (fun _ => Reals.inf_f32) _ _ _ _ h1 i) (fun i => Reals.isReal_of_all _ _ (fun _ => Reals.inf_f32) _ _ _ _ h4 i)
  have h5' := fun i => Reals.isReal_of_all _ _ (fun _ => Reals.inf_f32) _ _ _ _ h5 i
  exact ⟨hx, h5', err_real _ _ _ hx h5' fun i => Reals.isReal_of_all _ _ (fun _ => Reals.inf_f32) _ _ _ _ h6 i⟩

end Cert.KLoIdeal.Lo

end
-- ==== Proof.LoClaims.lean ====
/- The claims about the loss behind the final norm and its gradients (`Cert.KLo`, `Cert.KLoIdeal`, `Cert.RLoIdeal`): each program runs and leaves its arguments
   as they were; over the extended reals the call's results are the reference's. -/
module

public import proofs.«01_k».proof.Defs
public import proofs.«01_k».proof.Proof.Gen.KLo.Frame
public import proofs.«01_k».proof.Proof.Gen.KLoIdeal.Value
public import proofs.«01_k».proof.Proof.Gen.RLoIdeal.Run
public import proofs.«01_k».proof.Proof.Gen.Pre_finite_lo
public import proofs.«01_k».proof.Proof.Lo
public import Idealize.ShloMosaic.Lib.Claim

@[expose] public section

namespace Cert.Proof.Lo

open Idealize.ShloMosaic Idealize.SL.Sem

/-- The kernel as printed: it terminates, and its arguments end unchanged. -/
theorem frame_kernel : Cert.quiescent_KLo := fun m ρ _ => Cert.KLo.Gen.frame m ρ

/-- The kernel over the extended reals: likewise. -/
theorem frame_ideal : Cert.quiescent_KLoIdeal := fun m ρ _ => Cert.KLoIdeal.Gen.frame m ρ

/-- The same, where the precondition is stated too. -/
theorem frame_ideal_pre : Cert.quiescent_KLoIdeal_pre_finite_lo := fun m ρ _ => Cert.KLoIdeal.Gen.frame m ρ

/-- The reference: likewise. -/
theorem frame_reference : Cert.quiescent_RLoIdeal := fun m ρ _ =>
  (θ_run Cert.RLoIdeal.defs _ _).mono (fun r h => ⟨fun c => (h c).2.2.2, sem_eq_zero_of_no_sems (by decide) r.2⟩)
    (Cert.RLoIdeal.Value.run (F := Ideal) m ρ)

/-- The same, where the precondition is stated too. -/
theorem frame_reference_pre : Cert.quiescent_RLoIdeal_pre_finite_lo := fun m ρ _ => frame_reference m ρ trivial

set_option maxRecDepth 16384 in
set_option maxHeartbeats 800000 in
/-- The results agree. -/
theorem algebraic : Cert.algebraic_KLoIdeal_RLoIdeal_pre_finite_lo := by
  intro m g m' g' hpre hagree
  refine ⟨_, _, _, Cert.KLoIdeal.Value.run_blocks (F := Ideal) m g, ?_⟩
  refine (θ_run Cert.RLoIdeal.defs _ _).mono (fun r h c => ?_) (Cert.RLoIdeal.Terms.run m' g')
  obtain ⟨hx, h5, he⟩ := Cert.KLoIdeal.Lo.reals_of_pre m hpre c
  obtain ⟨e0, e1, -, -, e4, e5, e6⟩ := hagree c
  have ex : Cert.RLoIdeal.Terms.refX m' c = Cert.KLoIdeal.Lo.X m c := by
    unfold Cert.RLoIdeal.Terms.refX; rw [e0, e1, e4]
  have ee : Cert.RLoIdeal.Terms.refE m' c = Cert.KLoIdeal.Lo.E m c := by
    unfold Cert.RLoIdeal.Terms.refE; rw [ex, e5, e6]
  obtain ⟨⟨h0, h1, h2⟩, h⟩ := h c
  rw [ex, ee, e5] at h0
  rw [ee] at h1
  rw [ex, ee] at h2
  exact ⟨h0.trans (Cert.KLoIdeal.Lo.final_5 m c hx h5 he).symm, h1.trans (Cert.KLoIdeal.Lo.final_6 m c he).symm,
    h2.trans (Cert.KLoIdeal.Lo.final_7 m c he).symm, h⟩

end Cert.Proof.Lo
-- ==== Proof.Ps.lean ====
/- What a device hands on of the gradients in the feed-forward's weights before the last step of the exchange (`Cert.KPsIdeal`): for each of the three
   other chips, the sum of its own part and the other device's. -/
module

public import proofs.«01_k».proof.Proof.Gen.KPs
public import proofs.«01_k».proof.Proof.Gen.KPs.Frame
public import proofs.«01_k».proof.Proof.Gen.KPsIdeal
public import proofs.«01_k».proof.Proof.Gen.KPsIdeal.Skeleton
public import proofs.«01_k».proof.Proof.Gen.KPsIdeal.Launch
public import proofs.«01_k».proof.Proof.Gen.KPsIdeal.Frame
public import proofs.«01_k».proof.Proof.Gen.Pre_inside_ps
public import proofs.«01_k».proof.Proof.Gen.RPsIdeal
public import Idealize.ShloMosaic.Lib.Pipeline.ValueKit
public import Idealize.ShloMosaic.Lib.Pipeline.Covers
public import Idealize.ShloMosaic.Lib.StableHlo.Run
public import Idealize.ShloMosaic.Lib.ReduceAll
public import proofs.«01_k».proof.Defs
public import proofs.«01_k».proof.Proof.Rows

@[expose] public section

set_option maxRecDepth 16384

noncomputable section

open Idealize.ShloMosaic Idealize.ShloMosaic.TcCoe Idealize.SL.Sem
open Idealize.ShloMosaic.Pipeline (Dat)
open scoped BigOperators

namespace Cert.Pre_inside_ps

open Cert.Pre_inside_ps.Gen

/-- The precondition's words: devices among the eight, and chips among the four. -/
theorem bounds {F : FTy → Type} [FloatOps F] (a0 a1 : IVec S3 32) (a2 : FVec F S3x2816x1024 .f32) (a3 : FVec F S4x3x352x1024 .f32)
    (h : fn a0 a1 a2 a3 = fun _ => 1#1) (i : S3.Idx) : (a0 i).toNat < 8 ∧ (a1 i).toNat < 4 := by
  haveI : Subsingleton S_.Idx := ⟨fun _ _ => funext fun a => a.elim0⟩
  exact Cert.Rows.within _ _ (Host.reduce_andi_all _ _ reducesTo_S3_S_d0 h_S_ ix0 (congrFun h ix0) i)

end Cert.Pre_inside_ps

namespace Cert.KPs.Gen

/-- The blocks that the words name are inside their arrays: the kernel as printed. -/
theorem ok_of_pre (m : (ℓ : Loc nD τ sig) → Buf (Elt Bits) ℓ) (h : Cert.Pre_KPs m) : Ok m := by
  have e0 : tbl m 0 = m ((0 : Dev nD).tc.loc main_arg0) := V_main_arg0 m 0
  have e1 : tbl m 1 = m ((0 : Dev nD).tc.loc main_arg1) := V_main_arg1 m 0
  have b (i) : (tbl m 0 i).toNat < 8 ∧ (tbl m 1 i).toNat < 4 := by rw [e0, e1]; exact Cert.Pre_inside_ps.bounds _ _ _ _ (h 0) i
  exact ⟨fun i => ⟨Cert.Rows.inside3 _ _ (i 1).isLt (Nat.mul_le_mul_right 352 (b _).1), .inl rfl⟩,
    fun i => ⟨Cert.Rows.inside4 _ _ (b _).2 (i 1).isLt, .inl rfl⟩⟩

end Cert.KPs.Gen

namespace Cert.KPsIdeal.Gen

/-- The blocks that the words name are inside their arrays: the kernel over the extended reals. -/
theorem ok_of_pre (m : (ℓ : Loc nD τ sig) → Buf (Elt Ideal) ℓ) (h : Cert.Pre_KPsIdeal m) : Ok m := by
  have e0 : tbl m 0 = m ((0 : Dev nD).tc.loc main_arg0) := V_main_arg0 m 0
  have e1 : tbl m 1 = m ((0 : Dev nD).tc.loc main_arg1) := V_main_arg1 m 0
  have b (i) : (tbl m 0 i).toNat < 8 ∧ (tbl m 1 i).toNat < 4 := by rw [e0, e1]; exact Cert.Pre_inside_ps.bounds _ _ _ _ (h 0) i
  exact ⟨fun i => ⟨Cert.Rows.inside3 _ _ (i 1).isLt (Nat.mul_le_mul_right 352 (b _).1), .inl rfl⟩,
    fun i => ⟨Cert.Rows.inside4 _ _ (b _).2 (i 1).isLt, .inl rfl⟩⟩

end Cert.KPsIdeal.Gen

namespace Cert.RPsIdeal.Terms

open Cert.RPsIdeal Cert.RPsIdeal.Gen

/-- The sizes. -/
theorem shapes : Cert.Rows.Shapes 3 2816 352 1024 :=
  ⟨shapeCasts_S1_S_, shapeCasts_S3x2816x1024_S3x8x352x1024, h_S_, bcast_S8_S1x8x1x1_1, bcast_S_S1x8x1x1, bcast_S1x8x1x1_S3x8x352x1024_0_1_2_3, bcast_S_S3x8x352x1024,
    reducesTo_S3x8x352x1024_S3x352x1024_d1, bcast_S4_S4x1x1x1_0, bcast_S_S4x1x1x1, bcast_S4x1x1x1_S4x3x352x1024_0_1_2_3, bcast_S_S4x3x352x1024,
    reducesTo_S4x3x352x1024_S3x352x1024_d0, by decide⟩

/-- A vector's word at `j`. -/
def word (v : IVec S3 32) (j : Fin 3) (h : S3.Slices ![j.val] S1) : IVec S_ 32 := shapeCast S_ (extractStridedSlice S1 ![j.val] v h) shapeCasts_S1_S_

/-- It is that word. -/
theorem word_apply (v : IVec S3 32) (j : Fin 3) (h : S3.Slices ![j.val] S1) : word v j h ix0 = v (ix1 j) := by
  unfold word
  pointwise

variable (devs chips : IVec S3 32) (g : FVec Ideal S3x2816x1024 .f32) (got : FVec Ideal S4x3x352x1024 .f32)

/-- A chip's sum. -/
def part (j : Fin 3) (h : S3.Slices ![j.val] S1) : FVec Ideal S1x3x352x1024 .f32 :=
  broadcastInDim S1x3x352x1024 ![1, 2, 3] bcast_S3x352x1024_S1x3x352x1024_1_2_3 (Cert.Rows.pairSum shapes (word devs j h) (word chips j h) g got)

/-- The reference: the three sums. -/
def sums : FVec Ideal S3x3x352x1024 .bf16 :=
  truncf .bf16 (concatenate S3x3x352x1024 0 [⟨S1x3x352x1024, part devs chips g got 0 slices_S3_S1_0⟩, ⟨S1x3x352x1024, part devs chips g got 1 slices_S3_S1_1⟩,
    ⟨S1x3x352x1024, part devs chips g got 2 slices_S3_S1_2⟩] concatenates_S1x3x352x1024_S1x3x352x1024_S1x3x352x1024_S3x3x352x1024_d0) bitsLt_bf16_f32

/-- A chip's sum at an element. -/
theorem part_apply (j : Fin 3) (h : S3.Slices ![j.val] S1) (d : Fin 8) (hd : d.val = (devs (ix1 j)).toNat) (p : Fin 4) (hp : p.val = (chips (ix1 j)).toNat)
    (s : Fin 3) (a : Fin 352) (b : Fin 1024) (r : Fin 2816) (hr : r.val = d.val * 352 + a.val) :
    part devs chips g got j h (ix4 0 s a b) = (g (ix3 s r b) : EReal) + got (ix4 p s a b) := by
  rw [← Cert.Rows.pairSum_apply shapes rfl (word devs j h) (word chips j h) g got d (by rw [word_apply, hd]) p (by rw [word_apply, hp]) s a b r hr]
  unfold part
  pointwise

/-- The reference at an element. -/
theorem sums_apply (j : Fin 3) (d : Fin 8) (hd : d.val = (devs (ix1 j)).toNat) (p : Fin 4) (hp : p.val = (chips (ix1 j)).toNat)
    (s : Fin 3) (a : Fin 352) (b : Fin 1024) (r : Fin 2816) (hr : r.val = d.val * 352 + a.val) :
    sums devs chips g got (ix4 j s a b) = (g (ix3 s r b) : EReal) + got (ix4 p s a b) := by
  have h : S3.Slices ![j.val] S1 := (by decide : ∀ j : Fin 3, S3.Slices ![j.val] S1) j
  rw [← part_apply devs chips g got j h d hd p hp s a b r hr]
  unfold sums
  fin_cases j <;> pointwise

end Cert.RPsIdeal.Terms

namespace Cert.KPsIdeal.Ps

open Cert.KPsIdeal Cert.KPsIdeal.Gen Cert.RPsIdeal.Terms

variable (m : (ℓ : Loc nD τ sig) → Buf (Elt Ideal) ℓ)

/-- The chip's place among the three at grid point `t`, and the array. -/
abbrev chip (t : Fin grid0.N) : Fin 3 := grid0.coords t 0
abbrev slab (t : Fin grid0.N) : Fin 3 := grid0.coords t 1

/-- Every window's block index at grid point `t`. -/
theorem idx (hO : Ok m) (t : Fin (cfgM m hO).N) : ((cfgM m hO).win 0).index t = ![(slab t).val, ((tbl m 0 : IVec S3 32) (ix1 (chip t))).toNat, 0]
    ∧ ((cfgM m hO).win 1).index t = ![((tbl m 1 : IVec S3 32) (ix1 (chip t))).toNat, (slab t).val, 0, 0]
    ∧ ((cfgM m hO).win 2).index t = ![(chip t).val, (slab t).val, 0, 0] := by
  have h2 : ∀ u : Fin grid0.N, cc0_transform_2 (grid0.coords u) = ![(chip u).val, (slab u).val, 0, 0]
      ∧ (BitVec.ofNat 32 (grid0.coords u 1).val).toNat = (slab u).val ∧ k0_off1 (grid0.coords u) 0 = (chip u).val := by decide +kernel
  obtain ⟨e2, e, o⟩ := h2 t
  have at_ (k : (Rect.unit (s := S3) (k0_off1 (grid0.coords t)) S1.size (k0_off1_inb _)).shape.Idx) :
      (Rect.unit (s := S3) (k0_off1 (grid0.coords t)) S1.size (k0_off1_inb _)).emb k = ix1 (chip t) := by
    funext a; fin_cases a
    refine Fin.ext ((ValueKit.rect_emb_unit_val _ _ _ k 0).trans ?_)
    rw [o, show (k 0).val = 0 from Nat.lt_one_iff.mp (k 0).isLt]; rfl
  refine ⟨?_, ?_, e2⟩
  · refine (show _ = ![(BitVec.ofNat 32 (grid0.coords t 1).val).toNat, ((tbl m 0 : IVec S3 32) _).toNat, 0] from rfl).trans ?_
    exact congrArg₂ (fun p q : ℕ => ![p, q, 0]) e (congrArg (fun i => ((tbl m 0 : IVec S3 32) i).toNat) (at_ _))
  · refine (show _ = ![((tbl m 1 : IVec S3 32) _).toNat, (BitVec.ofNat 32 (grid0.coords t 1).val).toNat, 0, 0] from rfl).trans ?_
    exact congrArg₂ (fun p q : ℕ => ![p, q, 0, 0]) (congrArg (fun i => ((tbl m 1 : IVec S3 32) i).toNat) (at_ _)) e

/-- What the body leaves of the blocks that it finds. -/
theorem body (c : Dev nD) (i : grid0.Coords) (M0 : Memref sig .tc .vmem S1x352x1024 .f32) (h0 : M0.IsWhole) (M1 : Memref sig .tc .vmem S1x1x352x1024 .f32) (h1 : M1.IsWhole)
    (M2 : Memref sig .tc .vmem S1x1x352x1024 .bf16) (h2 : M2.IsWhole) (x0 : Vec Ideal S1x352x1024 .f32) (x1 : Vec Ideal S1x1x352x1024 .f32)
    (y0 : TbBuf0 (F := Ideal) c tbM0_0) (y1 : TbBuf0 (F := Ideal) c tbM0_1) : out0_A_2 c i M0 h0 M1 h1 M2 h2 x0 x1 y0 y1 = k0_pay1 x0 x1 := by
  frame_out
  try simp only [Memref.IsWhole.read_unread]

/-- It is the sum of the two. -/
theorem pay (x0 : Vec Ideal S1x352x1024 .f32) (x1 : Vec Ideal S1x1x352x1024 .f32) (a : Fin 352) (b : Fin 1024) :
    (k0_pay1 x0 x1 : FVec Ideal S1x1x352x1024 .bf16) (ix4 0 0 a b) = (x0 (ix3 0 a b) : EReal) + x1 (ix4 0 0 a b) := by
  pointwise [k0_pay1]

/-- The reference of the kernel's arguments. -/
abbrev result (c : Dev nD) : FVec Ideal S3x3x352x1024 .bf16 :=
  sums (m ((c : Thread nD τ).loc main_arg0)) (m ((c : Thread nD τ).loc main_arg1)) (m ((c : Thread nD τ).loc main_arg2)) (m ((c : Thread nD τ).loc main_arg3))

/-- What the body leaves at an element. -/
theorem out_at (hp : Cert.Pre_KPsIdeal m) (hO : Ok m) (t : Fin (cfgM m hO).N) (a : Fin 352) (b : Fin 1024) :
    (outsAt0 m hO 0 t : FVec Ideal S1x1x352x1024 .bf16) (ix4 0 0 a b) = result m 0 (ix4 (chip t) (slab t) a b) := by
  obtain ⟨i0, i1, -⟩ := idx m hO t
  rw [show tbl m 0 = m ((0 : Dev nD).tc.loc main_arg0) from V_main_arg0 m 0] at i0
  rw [show tbl m 1 = m ((0 : Dev nD).tc.loc main_arg1) from V_main_arg1 m 0] at i1
  obtain ⟨h0, h1⟩ := Cert.Pre_inside_ps.bounds _ _ _ _ (hp 0) (ix1 (chip t))
  have hr : (Fin.mk _ h0).val * 352 + a.val < 2816 := by have := a.isLt; show _ * 352 + _ < _; omega
  unfold outsAt0
  refine (congrFun (body 0 _ _ _ _ _ _ _ _ _ _ _) (ix4 0 0 a b)).trans ((pay _ _ a b).trans ?_)
  refine (congrArg₂ (· + ·) ?_ ?_).trans (sums_apply _ _ _ _ (chip t) ⟨_, h0⟩ rfl ⟨_, h1⟩ rfl (slab t) a b ⟨_, hr⟩ rfl).symm
  · exact (congrArg (V m 0 main_arg2) (Cert.Rows.slot3 _ a b (slab t) ⟨_, hr⟩ rfl rfl fun x =>
      (Pipeline.Window.rect_emb_val ((cfgM m hO).win 0) t _ x).trans (by rw [i0]; rfl))).trans (congrFun (V_main_arg2 m 0) _)
  · exact (congrArg (V m 0 main_arg3) (Cert.Rows.slot4 _ a b ⟨_, h1⟩ (slab t) rfl rfl fun x =>
      (Pipeline.Window.rect_emb_val ((cfgM m hO).win 1) t _ x).trans (by rw [i1]; rfl))).trans (congrFun (V_main_arg3 m 0) _)

/-- It is the reference where the block lies. -/
theorem block_out (hp : Cert.Pre_KPsIdeal m) (hO : Ok m) (t : Fin (cfgM m hO).N) (y : S1x1x352x1024.Idx) :
    (outsAt0 m hO 0 t : FVec Ideal S1x1x352x1024 .bf16) y = result m 0 ((((cfgM m hO).win 2).blk t).view.emb y) := by
  obtain ⟨a, b, rfl⟩ := Cert.Rows.part_elem y
  refine (out_at m hp hO t a b).trans (congrArg (result m 0) ?_).symm
  exact Cert.Rows.slot4 _ a b (chip t) (slab t) rfl rfl fun x =>
    (Pipeline.Window.rect_emb_val ((cfgM m hO).win 2) t _ x).trans (by rw [(idx m hO t).2.2]; rfl)

/-- The output's blocks are its slabs. -/
theorem covers (hO : Ok m) : ((cfgM m hO).win 2).Covers := by
  refine Pipeline.Window.covers_of_index_surj _ rfl (by decide : ∀ a, 0 < S1x1x352x1024.size a) fun β => ?_
  obtain ⟨q, k, hk⟩ := Cert.Rows.part_index (p := 3) (n := 3) (R := 352) (C := 1024) (by decide) (by decide) β
  obtain ⟨t, hq, hs⟩ := (show ∀ q k : Fin 3, ∃ t : Fin grid0.N, chip t = q ∧ slab t = k by decide +kernel) q k
  exact ⟨t, fun a => by rw [(idx m hO t).2.2, hq, hs]; exact hk a⟩

/-- The result. -/
theorem final (hp : Cert.Pre_KPsIdeal m) (hO : Ok m) (c : Dev nD) : (dats m hO 0 c).arrAt 2 (cfgM m hO).N = result m c := by
  obtain rfl : c = 0 := Subsingleton.elim _ _
  refine (dats m hO 0 0).arrAt_eq_of_covers 2 _ (covers m hO) fun t hf y => ?_
  blk_simp; rw [after0_2]
  exact block_out m hp hO t y

end Cert.KPsIdeal.Ps

end
-- ==== Proof.PsClaims.lean ====
/- The claims about the sum of two devices' parts (`Cert.KPs`, `Cert.KPsIdeal`, `Cert.RPsIdeal`): where the words name blocks that there are, each program
   runs and leaves its arguments as they were; over the extended reals the call's result is the reference's. -/
module

public import proofs.«01_k».proof.Defs
public import proofs.«01_k».proof.Proof.Gen.KPs.Frame
public import proofs.«01_k».proof.Proof.Gen.KPsIdeal.Frame
public import proofs.«01_k».proof.Proof.Gen.RPsIdeal.Run
public import proofs.«01_k».proof.Proof.Ps
public import Idealize.ShloMosaic.Lib.Claim

@[expose] public section

namespace Cert.Proof.Ps

open Idealize.ShloMosaic Idealize.ShloMosaic.TcCoe Idealize.SL.Sem

/-- The kernel as printed: it terminates, and its arguments end unchanged. -/
theorem frame_kernel : Cert.quiescent_KPs := fun m ρ h => Cert.KPs.Gen.frame m ρ (Cert.KPs.Gen.ok_of_pre m h)

/-- The kernel over the extended reals: likewise. -/
theorem frame_ideal : Cert.quiescent_KPsIdeal := fun m ρ h => Cert.KPsIdeal.Gen.frame m ρ (Cert.KPsIdeal.Gen.ok_of_pre m h)

/-- The reference: likewise, -/
theorem frame_reference : Cert.quiescent_RPsIdeal := fun m ρ _ =>
  (θ_run Cert.RPsIdeal.defs _ _).mono (fun r h => ⟨fun c => (h c).2, sem_eq_zero_of_no_sems (by decide) r.2⟩)
    (Cert.RPsIdeal.Value.run (F := Ideal) m ρ)

/-- and so under the precondition. -/
theorem frame_reference_pre : Cert.quiescent_RPsIdeal_pre_inside_ps := fun m ρ _ => frame_reference m ρ trivial

/-- The results agree. -/
theorem algebraic : Cert.algebraic_KPsIdeal_RPsIdeal := by
  intro m g m' g' hpre hagree
  have hO := Cert.KPsIdeal.Gen.ok_of_pre m hpre
  refine ⟨fun c => Cert.KPsIdeal.Ps.result m c, ?_, ?_⟩
  · exact (θ_run Cert.KPsIdeal.defs _ _).mono (fun r h c => ⟨((h.1 c).1 2).trans (Cert.KPsIdeal.Ps.final m hpre hO c), h.2 c⟩)
      (θ_run_and (Cert.KPsIdeal.Gen.run_main m g hO) (Cert.KPsIdeal.Gen.unchanged m g hO))
  · refine (θ_run Cert.RPsIdeal.defs _ _).mono (fun r h c => ⟨(h c).1.trans ?_, (h c).2⟩) (Cert.RPsIdeal.Value.run (F := Ideal) m' g')
    obtain ⟨e0, e1, e2, e3⟩ := hagree c
    exact (show _ = Cert.RPsIdeal.Terms.sums (m' ((c.tc : Thread Cert.RPsIdeal.nD Cert.RPsIdeal.τ).loc Cert.RPsIdeal.main_arg0)) (m' ((c.tc : Thread Cert.RPsIdeal.nD Cert.RPsIdeal.τ).loc Cert.RPsIdeal.main_arg1)) (m' ((c.tc : Thread Cert.RPsIdeal.nD Cert.RPsIdeal.τ).loc Cert.RPsIdeal.main_arg2)) (m' ((c.tc : Thread Cert.RPsIdeal.nD Cert.RPsIdeal.τ).loc Cert.RPsIdeal.main_arg3)) from rfl).trans (by rw [e0, e1, e2, e3])

end Cert.Proof.Ps
-- ==== Proof.lean ====
module

public import proofs.«01_k».proof.Defs
public import proofs.«01_k».proof.Proof.Gen.KActIdeal.Value
public import proofs.«01_k».proof.Proof.Gen.RActIdeal.Run
public import proofs.«01_k».proof.Proof.ActClaims
public import proofs.«01_k».proof.Proof.Gen.KWdIdeal.Value
public import proofs.«01_k».proof.Proof.Gen.RWdIdeal.Run
public import proofs.«01_k».proof.Proof.WdClaims
public import proofs.«01_k».proof.Proof.Gen.KWuIdeal.Value
public import proofs.«01_k».proof.Proof.Gen.RWuIdeal.Run
public import proofs.«01_k».proof.Proof.WuClaims
public import proofs.«01_k».proof.Proof.Gen.KWgIdeal.Value
public import proofs.«01_k».proof.Proof.Gen.RWgIdeal.Run
public import proofs.«01_k».proof.Proof.WgClaims
public import proofs.«01_k».proof.Proof.Gen.KInIdeal.Value
public import proofs.«01_k».proof.Proof.Gen.RInIdeal.Run
public import proofs.«01_k».proof.Proof.InClaims
public import proofs.«01_k».proof.Proof.Gen.KUpIdeal.Value
public import proofs.«01_k».proof.Proof.Gen.RUpIdeal.Run
public import proofs.«01_k».proof.Proof.UpClaims
public import proofs.«01_k».proof.Proof.Gen.KDnIdeal.Value
public import proofs.«01_k».proof.Proof.Gen.RDnIdeal.Run
public import proofs.«01_k».proof.Proof.DnClaims
public import proofs.«01_k».proof.Proof.Gen.KAdIdeal.Value
public import proofs.«01_k».proof.Proof.Gen.RAdIdeal.Run
public import proofs.«01_k».proof.Proof.AdClaims
public import proofs.«01_k».proof.Proof.Gen.KAuIdeal.Value
public import proofs.«01_k».proof.Proof.Gen.RAuIdeal.Run
public import proofs.«01_k».proof.Proof.AuClaims
public import proofs.«01_k».proof.Proof.Gen.KAiIdeal.Value
public import proofs.«01_k».proof.Proof.Gen.RAiIdeal.Run
public import proofs.«01_k».proof.Proof.AiClaims
public import proofs.«01_k».proof.Proof.Gen.KAoIdeal.Value
public import proofs.«01_k».proof.Proof.Gen.RAoIdeal.Run
public import proofs.«01_k».proof.Proof.AoClaims
public import proofs.«01_k».proof.Proof.Gen.KMoIdeal.Value
public import proofs.«01_k».proof.Proof.Gen.RMoIdeal.Run
public import proofs.«01_k».proof.Proof.MoClaims
public import proofs.«01_k».proof.Proof.Gen.KWaIdeal.Value
public import proofs.«01_k».proof.Proof.Gen.RWaIdeal.Run
public import proofs.«01_k».proof.Proof.WaClaims
public import proofs.«01_k».proof.Proof.Gen.KWcIdeal.Value
public import proofs.«01_k».proof.Proof.Gen.RWcIdeal.Run
public import proofs.«01_k».proof.Proof.WcClaims
public import proofs.«01_k».proof.Proof.Gen.KWiIdeal.Value
public import proofs.«01_k».proof.Proof.Gen.RWiIdeal.Run
public import proofs.«01_k».proof.Proof.WiClaims
public import proofs.«01_k».proof.Proof.Gen.KMxIdeal.Value
public import proofs.«01_k».proof.Proof.Gen.RMxIdeal.Run
public import proofs.«01_k».proof.Proof.MxClaims
public import proofs.«01_k».proof.Proof.Gen.KAsIdeal.Value
public import proofs.«01_k».proof.Proof.Gen.RAsIdeal.Run
public import proofs.«01_k».proof.Proof.AsClaims
public import proofs.«01_k».proof.Proof.Gen.KMiIdeal.Value
public import proofs.«01_k».proof.Proof.Gen.RMiIdeal.Run
public import proofs.«01_k».proof.Proof.MiClaims
public import proofs.«01_k».proof.Proof.Gen.KIbIdeal.Value
public import proofs.«01_k».proof.Proof.Gen.RIbIdeal.Run
public import proofs.«01_k».proof.Proof.IbClaims
public import proofs.«01_k».proof.Proof.Gen.RSuIdeal.Run
public import proofs.«01_k».proof.Proof.SuClaims
public import proofs.«01_k».proof.Proof.Gen.RSiIdeal.Run
public import proofs.«01_k».proof.Proof.SiClaims
public import proofs.«01_k».proof.Proof.Gen.RSoIdeal.Run
public import proofs.«01_k».proof.Proof.SoClaims
public import proofs.«01_k».proof.Proof.Gen.KLoIdeal.Value
public import proofs.«01_k».proof.Proof.LoClaims
public import proofs.«01_k».proof.Proof.Gen.RPsIdeal.Run
public import proofs.«01_k».proof.Proof.PsClaims

@[expose] public section

namespace Cert.Proof

theorem claim : Cert.Claim :=
  ⟨Cert.KAct.Gen.facts, Cert.KActIdeal.Gen.facts, Cert.RActIdeal.Gen.facts, Cert.KWd.Gen.facts, Cert.KWdIdeal.Gen.facts,
    Cert.RWdIdeal.Gen.facts, Cert.KWu.Gen.facts, Cert.KWuIdeal.Gen.facts, Cert.RWuIdeal.Gen.facts, Cert.KWg.Gen.facts,
    Cert.KWgIdeal.Gen.facts, Cert.RWgIdeal.Gen.facts, Cert.KIn.Gen.facts, Cert.KInIdeal.Gen.facts, Cert.RInIdeal.Gen.facts,
    Cert.KUp.Gen.facts, Cert.KUpIdeal.Gen.facts, Cert.RUpIdeal.Gen.facts, Cert.KDn.Gen.facts, Cert.KDnIdeal.Gen.facts,
    Cert.RDnIdeal.Gen.facts, Cert.KAd.Gen.facts, Cert.KAdIdeal.Gen.facts, Cert.RAdIdeal.Gen.facts, Cert.KAu.Gen.facts,
    Cert.KAuIdeal.Gen.facts, Cert.RAuIdeal.Gen.facts, Cert.KAi.Gen.facts, Cert.KAiIdeal.Gen.facts, Cert.RAiIdeal.Gen.facts,
    Cert.KAo.Gen.facts, Cert.KAoIdeal.Gen.facts, Cert.RAoIdeal.Gen.facts, Cert.KMo.Gen.facts, Cert.KMoIdeal.Gen.facts,
    Cert.RMoIdeal.Gen.facts, Cert.KWa.Gen.facts, Cert.KWaIdeal.Gen.facts, Cert.RWaIdeal.Gen.facts, Cert.KWc.Gen.facts,
    Cert.KWcIdeal.Gen.facts, Cert.RWcIdeal.Gen.facts, Cert.KWi.Gen.facts, Cert.KWiIdeal.Gen.facts, Cert.RWiIdeal.Gen.facts,
    Cert.KMx.Gen.facts, Cert.KMxIdeal.Gen.facts, Cert.RMxIdeal.Gen.facts, Cert.KAs.Gen.facts, Cert.KAsIdeal.Gen.facts,
    Cert.RAsIdeal.Gen.facts, Cert.KMi.Gen.facts, Cert.KMiIdeal.Gen.facts, Cert.RMiIdeal.Gen.facts, Cert.KIb.Gen.facts,
    Cert.KIbIdeal.Gen.facts, Cert.RIbIdeal.Gen.facts, Cert.KSu.Gen.facts, Cert.KSuIdeal.Gen.facts, Cert.RSuIdeal.Gen.facts,
    Cert.KSi.Gen.facts, Cert.KSiIdeal.Gen.facts, Cert.RSiIdeal.Gen.facts, Cert.KSo.Gen.facts, Cert.KSoIdeal.Gen.facts,
    Cert.RSoIdeal.Gen.facts, Cert.KLo.Gen.facts, Cert.KLoIdeal.Gen.facts, Cert.RLoIdeal.Gen.facts,
    Cert.KPs.Gen.facts, Cert.KPsIdeal.Gen.facts, Cert.RPsIdeal.Gen.facts,
    Cert.Pre_finite_wg.Gen.facts, Cert.Pre_finite_in.Gen.facts,
    Cert.Pre_finite_up.Gen.facts, Cert.Pre_finite_ib.Gen.facts, Cert.Pre_inside_su.Gen.facts,
    Cert.Pre_inside_si.Gen.facts, Cert.Pre_inside_so.Gen.facts, Cert.Pre_finite_lo.Gen.facts, Cert.Pre_inside_ps.Gen.facts,
    Act.frame_kernel, Act.frame_ideal, Act.frame_reference, Wd.frame_kernel, Wd.frame_ideal, Wd.frame_reference,
    Wu.frame_kernel, Wu.frame_ideal, Wu.frame_reference, Wg.frame_kernel, Wg.frame_ideal, Wg.frame_ideal_pre,
    Wg.frame_reference, Wg.frame_reference_pre, In.frame_kernel, In.frame_ideal, In.frame_ideal_pre, In.frame_reference,
    In.frame_reference_pre, Up.frame_kernel, Up.frame_ideal, Up.frame_ideal_pre, Up.frame_reference, Up.frame_reference_pre,
    Dn.frame_kernel, Dn.frame_ideal, Dn.frame_reference, Ad.frame_kernel, Ad.frame_ideal, Ad.frame_reference,
    Au.frame_kernel, Au.frame_ideal, Au.frame_reference, Ai.frame_kernel, Ai.frame_ideal, Ai.frame_reference,
    Ao.frame_kernel, Ao.frame_ideal, Ao.frame_reference, Mo.frame_kernel, Mo.frame_ideal, Mo.frame_reference,
    Wa.frame_kernel, Wa.frame_ideal, Wa.frame_reference, Wc.frame_kernel, Wc.frame_ideal, Wc.frame_reference,
    Wi.frame_kernel, Wi.frame_ideal, Wi.frame_reference, Mx.frame_kernel, Mx.frame_ideal, Mx.frame_reference,
    As.frame_kernel, As.frame_ideal, As.frame_reference, Mi.frame_kernel, Mi.frame_ideal, Mi.frame_reference,
    Ib.frame_kernel, Ib.frame_ideal, Ib.frame_ideal_pre, Ib.frame_reference, Ib.frame_reference_pre,
    Su.frame_kernel, Su.frame_ideal, Su.frame_reference, Su.frame_reference_pre,
    Si.frame_kernel, Si.frame_ideal, Si.frame_reference, Si.frame_reference_pre,
    So.frame_kernel, So.frame_ideal, So.frame_reference, So.frame_reference_pre,
    Lo.frame_kernel, Lo.frame_ideal, Lo.frame_ideal_pre, Lo.frame_reference, Lo.frame_reference_pre,
    Ps.frame_kernel, Ps.frame_ideal, Ps.frame_reference, Ps.frame_reference_pre,
    trivial, Act.algebraic, trivial, Wd.algebraic, trivial, Wu.algebraic, trivial, Wg.algebraic, trivial, In.algebraic,
    trivial, Up.algebraic, trivial, Dn.algebraic, trivial, Ad.algebraic, trivial, Au.algebraic, trivial, Ai.algebraic,
    trivial, Ao.algebraic, trivial, Mo.algebraic, trivial, Wa.algebraic, trivial, Wc.algebraic, trivial, Wi.algebraic,
    trivial, Mx.algebraic, trivial, As.algebraic, trivial, Mi.algebraic, trivial, Ib.algebraic,
    trivial, Su.algebraic, trivial, Si.algebraic, trivial, So.algebraic, trivial, Lo.algebraic, trivial, Ps.algebraic⟩

end Cert.Proof
